-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_gate [hPre_finite_gate : Cert.Pre_finite_gate.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_gate.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3))).1 = (fun _ => 1#1)
    ∧ (Cert.Pre_finite_gate.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3))).2.1 = (fun _ => 1#1)
    ∧ (Cert.Pre_finite_gate.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3))).2.2.1 = (fun _ => 1#1)
    ∧ (Cert.Pre_finite_gate.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3))).2.2.2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_gate [hPre_finite_gate : Cert.Pre_finite_gate.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_gate.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3))).1 = (fun _ => 1#1)
    ∧ (Cert.Pre_finite_gate.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3))).2.1 = (fun _ => 1#1)
    ∧ (Cert.Pre_finite_gate.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3))).2.2.1 = (fun _ => 1#1)
    ∧ (Cert.Pre_finite_gate.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3))).2.2.2 = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Kernel40Ideal_finite_norm [hPre_finite_norm : Cert.Pre_finite_norm.Facts] (m : (ℓ : Loc Cert.Kernel40Ideal.nD Cert.Kernel40Ideal.τ Cert.Kernel40Ideal.sig) → Buf (Elt Ideal) ℓ) : Prop :=
  ∀ c : Dev Cert.Kernel40Ideal.nD,
    (Cert.Pre_finite_norm.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3))).1 = (fun _ => 1#1)
    ∧ (Cert.Pre_finite_norm.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3))).2.1 = (fun _ => 1#1)
    ∧ (Cert.Pre_finite_norm.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3))).2.2.1 = (fun _ => 1#1)
    ∧ (Cert.Pre_finite_norm.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3))).2.2.2 = (fun _ => 1#1)

def Pre_Reference40Ideal (m : (ℓ : Loc Cert.Reference40Ideal.nD Cert.Reference40Ideal.τ Cert.Reference40Ideal.sig) → Buf (Elt Ideal) ℓ) : Prop :=
  True

def Pre_Reference40Ideal_finite_norm [hPre_finite_norm : Cert.Pre_finite_norm.Facts] (m : (ℓ : Loc Cert.Reference40Ideal.nD Cert.Reference40Ideal.τ Cert.Reference40Ideal.sig) → Buf (Elt Ideal) ℓ) : Prop :=
  ∀ c : Dev Cert.Reference40Ideal.nD,
    (Cert.Pre_finite_norm.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2)) (m ((c.tc : Thread Cert.Reference40Ideal.nD Cert.Reference40Ideal.τ).loc Cert.Reference40Ideal.main_arg3))).1 = (fun _ => 1#1)
    ∧ (Cert.Pre_finite_norm.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2)) (m ((c.tc : Thread Cert.Reference40Ideal.nD Cert.Reference40Ideal.τ).loc Cert.Reference40Ideal.main_arg3))).2.1 = (fun _ => 1#1)
    ∧ (Cert.Pre_finite_norm.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2)) (m ((c.tc : Thread Cert.Reference40Ideal.nD Cert.Reference40Ideal.τ).loc Cert.Reference40Ideal.main_arg3))).2.2.1 = (fun _ => 1#1)
    ∧ (Cert.Pre_finite_norm.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2)) (m ((c.tc : Thread Cert.Reference40Ideal.nD Cert.Reference40Ideal.τ).loc Cert.Reference40Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Kernel23Ideal_pre_finite_gate [hKernel23Ideal : Cert.Kernel23Ideal.Facts] [hPre_finite_gate : Cert.Pre_finite_gate.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_gate m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Reference23Ideal_pre_finite_gate [hReference23Ideal : Cert.Reference23Ideal.Facts] [hPre_finite_gate : Cert.Pre_finite_gate.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_gate m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Kernel40Ideal_pre_finite_norm [hKernel40Ideal : Cert.Kernel40Ideal.Facts] [hPre_finite_norm : Cert.Pre_finite_norm.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal_finite_norm m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Reference40Ideal_pre_finite_norm [hReference40Ideal : Cert.Reference40Ideal.Facts] [hPre_finite_norm : Cert.Pre_finite_norm.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal_finite_norm m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_v147) = v3 c
          ∧ r.2.mem ((c.tc : Thread Cert.ReferenceIdeal.nD Cert.ReferenceIdeal.τ).loc Cert.ReferenceIdeal.main_v178) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_v14) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal_pre_finite_gate [hKernel23Ideal : Cert.Kernel23Ideal.Facts] [hReference23Ideal : Cert.Reference23Ideal.Facts] [hPre_finite_gate : Cert.Pre_finite_gate.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_gate m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)) (v3 : (c : Dev Cert.Kernel23Ideal.nD) → Buf (Elt Ideal) ((c.tc : Thread Cert.Kernel23Ideal.nD Cert.Kernel23Ideal.τ).loc Cert.Kernel23Ideal.main_v1_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_v1_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v75) = v0 c
          ∧ r.2.mem ((c.tc : Thread Cert.Reference23Ideal.nD Cert.Reference23Ideal.τ).loc Cert.Reference23Ideal.main_v76) = v1 c
          ∧ r.2.mem ((c.tc : Thread Cert.Reference23Ideal.nD Cert.Reference23Ideal.τ).loc Cert.Reference23Ideal.main_v77) = v2 c
          ∧ r.2.mem ((c.tc : Thread Cert.Reference23Ideal.nD Cert.Reference23Ideal.τ).loc Cert.Reference23Ideal.main_v78) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v31) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v4_0)) (v1 : (c : Dev Cert.Kernel33Ideal.nD) → Buf (Elt Ideal) ((c.tc : Thread Cert.Kernel33Ideal.nD Cert.Kernel33Ideal.τ).loc Cert.Kernel33Ideal.main_v4_1)) (v2 : (c : Dev Cert.Kernel33Ideal.nD) → Buf (Elt Ideal) ((c.tc : Thread Cert.Kernel33Ideal.nD Cert.Kernel33Ideal.τ).loc Cert.Kernel33Ideal.main_v4_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v4_0) = v0 c
          ∧ r.2.mem ((c.tc : Thread Cert.Kernel33Ideal.nD Cert.Kernel33Ideal.τ).loc Cert.Kernel33Ideal.main_v4_1) = v1 c
          ∧ r.2.mem ((c.tc : Thread Cert.Kernel33Ideal.nD Cert.Kernel33Ideal.τ).loc Cert.Kernel33Ideal.main_v4_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v24) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v26) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v4_0)) (v1 : (c : Dev Cert.Kernel34Ideal.nD) → Buf (Elt Ideal) ((c.tc : Thread Cert.Kernel34Ideal.nD Cert.Kernel34Ideal.τ).loc Cert.Kernel34Ideal.main_v4_1)) (v2 : (c : Dev Cert.Kernel34Ideal.nD) → Buf (Elt Ideal) ((c.tc : Thread Cert.Kernel34Ideal.nD Cert.Kernel34Ideal.τ).loc Cert.Kernel34Ideal.main_v4_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v4_0) = v0 c
          ∧ r.2.mem ((c.tc : Thread Cert.Kernel34Ideal.nD Cert.Kernel34Ideal.τ).loc Cert.Kernel34Ideal.main_v4_1) = v1 c
          ∧ r.2.mem ((c.tc : Thread Cert.Kernel34Ideal.nD Cert.Kernel34Ideal.τ).loc Cert.Kernel34Ideal.main_v4_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v24) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v26) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v4_0)) (v1 : (c : Dev Cert.Kernel35Ideal.nD) → Buf (Elt Ideal) ((c.tc : Thread Cert.Kernel35Ideal.nD Cert.Kernel35Ideal.τ).loc Cert.Kernel35Ideal.main_v4_1)) (v2 : (c : Dev Cert.Kernel35Ideal.nD) → Buf (Elt Ideal) ((c.tc : Thread Cert.Kernel35Ideal.nD Cert.Kernel35Ideal.τ).loc Cert.Kernel35Ideal.main_v4_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v4_0) = v0 c
          ∧ r.2.mem ((c.tc : Thread Cert.Kernel35Ideal.nD Cert.Kernel35Ideal.τ).loc Cert.Kernel35Ideal.main_v4_1) = v1 c
          ∧ r.2.mem ((c.tc : Thread Cert.Kernel35Ideal.nD Cert.Kernel35Ideal.τ).loc Cert.Kernel35Ideal.main_v4_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v24) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v26) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v4_0)) (v1 : (c : Dev Cert.Kernel36Ideal.nD) → Buf (Elt Ideal) ((c.tc : Thread Cert.Kernel36Ideal.nD Cert.Kernel36Ideal.τ).loc Cert.Kernel36Ideal.main_v4_1)) (v2 : (c : Dev Cert.Kernel36Ideal.nD) → Buf (Elt Ideal) ((c.tc : Thread Cert.Kernel36Ideal.nD Cert.Kernel36Ideal.τ).loc Cert.Kernel36Ideal.main_v4_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v4_0) = v0 c
          ∧ r.2.mem ((c.tc : Thread Cert.Kernel36Ideal.nD Cert.Kernel36Ideal.τ).loc Cert.Kernel36Ideal.main_v4_1) = v1 c
          ∧ r.2.mem ((c.tc : Thread Cert.Kernel36Ideal.nD Cert.Kernel36Ideal.τ).loc Cert.Kernel36Ideal.main_v4_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v24) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v26) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v4_0)) (v1 : (c : Dev Cert.Kernel37Ideal.nD) → Buf (Elt Ideal) ((c.tc : Thread Cert.Kernel37Ideal.nD Cert.Kernel37Ideal.τ).loc Cert.Kernel37Ideal.main_v4_1)) (v2 : (c : Dev Cert.Kernel37Ideal.nD) → Buf (Elt Ideal) ((c.tc : Thread Cert.Kernel37Ideal.nD Cert.Kernel37Ideal.τ).loc Cert.Kernel37Ideal.main_v4_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v4_0) = v0 c
          ∧ r.2.mem ((c.tc : Thread Cert.Kernel37Ideal.nD Cert.Kernel37Ideal.τ).loc Cert.Kernel37Ideal.main_v4_1) = v1 c
          ∧ r.2.mem ((c.tc : Thread Cert.Kernel37Ideal.nD Cert.Kernel37Ideal.τ).loc Cert.Kernel37Ideal.main_v4_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v24) = v0 c
          ∧ r.2.mem ((c.tc : Thread Cert.Reference37Ideal.nD Cert.Reference37Ideal.τ).loc Cert.Reference37Ideal.main_v25) = v1 c
          ∧ r.2.mem ((c.tc : Thread Cert.Reference37Ideal.nD Cert.Reference37Ideal.τ).loc Cert.Reference37Ideal.main_v26) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v4_0)) (v1 : (c : Dev Cert.Kernel38Ideal.nD) → Buf (Elt Ideal) ((c.tc : Thread Cert.Kernel38Ideal.nD Cert.Kernel38Ideal.τ).loc Cert.Kernel38Ideal.main_v4_1)) (v2 : (c : Dev Cert.Kernel38Ideal.nD) → Buf (Elt Ideal) ((c.tc : Thread Cert.Kernel38Ideal.nD Cert.Kernel38Ideal.τ).loc Cert.Kernel38Ideal.main_v4_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4_0) = v0 c
          ∧ r.2.mem ((c.tc : Thread Cert.Kernel38Ideal.nD Cert.Kernel38Ideal.τ).loc Cert.Kernel38Ideal.main_v4_1) = v1 c
          ∧ r.2.mem ((c.tc : Thread Cert.Kernel38Ideal.nD Cert.Kernel38Ideal.τ).loc Cert.Kernel38Ideal.main_v4_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v24) = v0 c
          ∧ r.2.mem ((c.tc : Thread Cert.Reference38Ideal.nD Cert.Reference38Ideal.τ).loc Cert.Reference38Ideal.main_v25) = v1 c
          ∧ r.2.mem ((c.tc : Thread Cert.Reference38Ideal.nD Cert.Reference38Ideal.τ).loc Cert.Reference38Ideal.main_v26) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v4_0)) (v1 : (c : Dev Cert.Kernel39Ideal.nD) → Buf (Elt Ideal) ((c.tc : Thread Cert.Kernel39Ideal.nD Cert.Kernel39Ideal.τ).loc Cert.Kernel39Ideal.main_v4_1)) (v2 : (c : Dev Cert.Kernel39Ideal.nD) → Buf (Elt Ideal) ((c.tc : Thread Cert.Kernel39Ideal.nD Cert.Kernel39Ideal.τ).loc Cert.Kernel39Ideal.main_v4_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v4_0) = v0 c
          ∧ r.2.mem ((c.tc : Thread Cert.Kernel39Ideal.nD Cert.Kernel39Ideal.τ).loc Cert.Kernel39Ideal.main_v4_1) = v1 c
          ∧ r.2.mem ((c.tc : Thread Cert.Kernel39Ideal.nD Cert.Kernel39Ideal.τ).loc Cert.Kernel39Ideal.main_v4_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v24) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_v26) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal_pre_finite_norm [hKernel40Ideal : Cert.Kernel40Ideal.Facts] [hReference40Ideal : Cert.Reference40Ideal.Facts] [hPre_finite_norm : Cert.Pre_finite_norm.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal_finite_norm m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v4_0)) (v1 : (c : Dev Cert.Kernel40Ideal.nD) → Buf (Elt Ideal) ((c.tc : Thread Cert.Kernel40Ideal.nD Cert.Kernel40Ideal.τ).loc Cert.Kernel40Ideal.main_v4_1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v4_0) = v0 c
          ∧ r.2.mem ((c.tc : Thread Cert.Kernel40Ideal.nD Cert.Kernel40Ideal.τ).loc Cert.Kernel40Ideal.main_v4_1) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v37) = v0 c
          ∧ r.2.mem ((c.tc : Thread Cert.Reference40Ideal.nD Cert.Reference40Ideal.τ).loc Cert.Reference40Ideal.main_v38) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_finite_arguments : Cert.Pre_finite_arguments.Facts) (hPre_finite_gate : Cert.Pre_finite_gate.Facts) (hPre_finite_norm : Cert.Pre_finite_norm.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_gate (hKernel23Ideal := hKernel23Ideal) (hPre_finite_gate := hPre_finite_gate)
    ∧ quiescent_Reference23Ideal (hReference23Ideal := hReference23Ideal)
    ∧ quiescent_Reference23Ideal_pre_finite_gate (hReference23Ideal := hReference23Ideal) (hPre_finite_gate := hPre_finite_gate)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Kernel40Ideal_pre_finite_norm (hKernel40Ideal := hKernel40Ideal) (hPre_finite_norm := hPre_finite_norm)
    ∧ quiescent_Reference40Ideal (hReference40Ideal := hReference40Ideal)
    ∧ quiescent_Reference40Ideal_pre_finite_norm (hReference40Ideal := hReference40Ideal) (hPre_finite_norm := hPre_finite_norm)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_gate (hKernel23Ideal := hKernel23Ideal) (hReference23Ideal := hReference23Ideal) (hPre_finite_gate := hPre_finite_gate)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal_pre_finite_norm (hKernel40Ideal := hKernel40Ideal) (hReference40Ideal := hReference40Ideal) (hPre_finite_norm := hPre_finite_norm)
-- ==== Pre_finite_arguments.lean ====
abbrev S2x2048x16x64 : Shape := ⟨4, ![2, 2048, 16, 64]⟩
abbrev S2x2048x4x64 : Shape := ⟨4, ![2, 2048, 4, 64]⟩
abbrev S16 : Shape := ⟨1, ![16]⟩
abbrev S4x4x128x256 : Shape := ⟨4, ![4, 4, 128, 256]⟩
abbrev S_ : Shape := ⟨0, ![]⟩

class Facts : Prop where
  bcast_S_S2x2048x16x64 : S_.BroadcastsInDim S2x2048x16x64 (![] : Fin 0 → Fin S2x2048x16x64.rank)
  bcast_S_S2x2048x4x64 : S_.BroadcastsInDim S2x2048x4x64 (![] : Fin 0 → Fin S2x2048x4x64.rank)
  bcast_S_S16 : S_.BroadcastsInDim S16 (![] : Fin 0 → Fin S16.rank)
  bcast_S_S4x4x128x256 : S_.BroadcastsInDim S4x4x128x256 (![] : Fin 0 → Fin S4x4x128x256.rank)

variable [Facts]

def fn {F : FTy → Type} [FloatOps F] (main_arg0 : FVec F S2x2048x16x64 .f32) (main_arg1 : FVec F S2x2048x4x64 .f32) (main_arg2 : FVec F S2x2048x4x64 .f32) (main_arg3 : FVec F S16 .f32) (main_arg4 : FVec F S4x4x128x256 .f32) (main_arg5 : FVec F S2x2048x16x64 .f32) : IVec S2x2048x16x64 1 × IVec S2x2048x4x64 1 × IVec S2x2048x4x64 1 × IVec S16 1 × IVec S4x4x128x256 1 × IVec S2x2048x16x64 1 :=
  let main_v0 : FVec F S2x2048x16x64 .f32 := Host.absf main_arg0
  let main_cst : FVec F S_ .f32 := constant S_ .f32 0x7F800000#32
  let main_v1 : FVec F S2x2048x16x64 .f32 := broadcastInDim S2x2048x16x64 ![] bcast_S_S2x2048x16x64 main_cst
  let main_v2 : IVec S2x2048x16x64 1 := cmpf .olt main_v0 main_v1
  let main_v3 : FVec F S2x2048x4x64 .f32 := Host.absf main_arg1
  let main_cst_0 : FVec F S_ .f32 := constant S_ .f32 0x7F800000#32
  let main_v4 : FVec F S2x2048x4x64 .f32 := broadcastInDim S2x2048x4x64 ![] bcast_S_S2x2048x4x64 main_cst_0
  let main_v5 : IVec S2x2048x4x64 1 := cmpf .olt main_v3 main_v4
  let main_v6 : FVec F S2x2048x4x64 .f32 := Host.absf main_arg2
  let main_cst_1 : FVec F S_ .f32 := constant S_ .f32 0x7F800000#32
  let main_v7 : FVec F S2x2048x4x64 .f32 := broadcastInDim S2x2048x4x64 ![] bcast_S_S2x2048x4x64 main_cst_1
  let main_v8 : IVec S2x2048x4x64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S4x4x128x256 .f32 := Host.absf main_arg4
  let main_cst_3 : FVec F S_ .f32 := constant S_ .f32 0x7F800000#32
  let main_v13 : FVec F S4x4x128x256 .f32 := broadcastInDim S4x4x128x256 ![] bcast_S_S4x4x128x256 main_cst_3
  let main_v14 : IVec S4x4x128x256 1 := cmpf .olt main_v12 main_v13
  let main_v15 : FVec F S2x2048x16x64 .f32 := Host.absf main_arg5
  let main_cst_4 : FVec F S_ .f32 := constant S_ .f32 0x7F800000#32
  let main_v16 : FVec F S2x2048x16x64 .f32 := broadcastInDim S2x2048x16x64 ![] bcast_S_S2x2048x16x64 main_cst_4
  let main_v17 : IVec S2x2048x16x64 1 := cmpf .olt main_v15 main_v16
  (main_v2, main_v5, main_v8, main_v11, main_v14, main_v17)
-- ==== Pre_finite_gate.lean ====
abbrev S2x2048x5632 : Shape := ⟨3, ![2, 2048, 5632]⟩
abbrev S3x5632 : Shape := ⟨2, ![3, 5632]⟩
abbrev S5632 : Shape := ⟨1, ![5632]⟩
abbrev S2x2048x2816 : Shape := ⟨3, ![2, 2048, 2816]⟩
abbrev S_ : Shape := ⟨0, ![]⟩

class Facts : Prop where
  bcast_S_S2x2048x5632 : S_.BroadcastsInDim S2x2048x5632 (![] : Fin 0 → Fin S2x2048x5632.rank)
  bcast_S_S3x5632 : S_.BroadcastsInDim S3x5632 (![] : Fin 0 → Fin S3x5632.rank)
  bcast_S_S5632 : S_.BroadcastsInDim S5632 (![] : Fin 0 → Fin S5632.rank)
  bcast_S_S2x2048x2816 : S_.BroadcastsInDim S2x2048x2816 (![] : Fin 0 → Fin S2x2048x2816.rank)

variable [Facts]

def fn {F : FTy → Type} [FloatOps F] (main_arg0 : FVec F S2x2048x5632 .f32) (main_arg1 : FVec F S3x5632 .f32) (main_arg2 : FVec F S5632 .f32) (main_arg3 : FVec F S2x2048x2816 .f32) : IVec S2x2048x5632 1 × IVec S3x5632 1 × IVec S5632 1 × IVec S2x2048x2816 1 :=
  let main_v0 : FVec F S2x2048x5632 .f32 := Host.absf main_arg0
  let main_cst : FVec F S_ .f32 := constant S_ .f32 0x7F800000#32
  let main_v1 : FVec F S2x2048x5632 .f32 := broadcastInDim S2x2048x5632 ![] bcast_S_S2x2048x5632 main_cst
  let main_v2 : IVec S2x2048x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S5632 .f32 := Host.absf main_arg2
  let main_cst_1 : FVec F S_ .f32 := constant S_ .f32 0x7F800000#32
  let main_v7 : FVec F S5632 .f32 := broadcastInDim S5632 ![] bcast_S_S5632 main_cst_1
  let main_v8 : IVec S5632 1 := cmpf .olt main_v6 main_v7
  let main_v9 : FVec F S2x2048x2816 .f32 := Host.absf main_arg3
  let main_cst_2 : FVec F S_ .f32 := constant S_ .f32 0x7F800000#32
  let main_v10 : FVec F S2x2048x2816 .f32 := broadcastInDim S2x2048x2816 ![] bcast_S_S2x2048x2816 main_cst_2
  let main_v11 : IVec S2x2048x2816 1 := cmpf .olt main_v9 main_v10
  (main_v2, main_v5, main_v8, main_v11)
-- ==== Pre_finite_norm.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)

variable [Facts]

def fn {F : FTy → Type} [FloatOps F] (main_arg0 : FVec F S2x2048x1024 .f32) (main_arg1 : FVec F S1024 .f32) (main_arg2 : FVec F S2x2048x1024 .f32) (main_arg3 : FVec F S2x2048x1024 .f32) : IVec S2x2048x1024 1 × IVec S1024 1 × IVec S2x2048x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  let main_v9 : FVec F S2x2048x1024 .f32 := Host.absf main_arg3
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  (main_v2, main_v5, main_v8, main_v11)
-- ==== Kernel.lean ====
abbrev S2x2048x16x64 : Shape := ⟨4, ![2, 2048, 16, 64]⟩
abbrev S2x2048x4x64 : Shape := ⟨4, ![2, 2048, 4, 64]⟩
abbrev S16 : Shape := ⟨1, ![16]⟩
abbrev S4x4x128x256 : Shape := ⟨4, ![4, 4, 128, 256]⟩
abbrev S2x16x2048x64 : Shape := ⟨4, ![2, 16, 2048, 64]⟩
abbrev S32x2048x64 : Shape := ⟨3, ![32, 2048, 64]⟩
abbrev S2x4x4x2048x64 : Shape := ⟨5, ![2, 4, 4, 2048, 64]⟩
abbrev S2x4x2048x64 : Shape := ⟨4, ![2, 4, 2048, 64]⟩
abbrev S8x2048x64 : Shape := ⟨3, ![8, 2048, 64]⟩
abbrev S4x4x128 : Shape := ⟨3, ![4, 4, 128]⟩
abbrev S1x1x4x128x64 : Shape := ⟨5, ![1, 1, 4, 128, 64]⟩
abbrev S1x1x128x64 : Shape := ⟨4, ![1, 1, 128, 64]⟩
abbrev S1x4x128x256 : Shape := ⟨4, ![1, 4, 128, 256]⟩
abbrev S1x1x2048x64 : Shape := ⟨4, ![1, 1, 2048, 64]⟩
abbrev S1x4x128 : Shape := ⟨3, ![1, 4, 128]⟩
abbrev S128x256 : Shape := ⟨2, ![128, 256]⟩
abbrev S128x64 : Shape := ⟨2, ![128, 64]⟩
abbrev S256x64 : Shape := ⟨2, ![256, 64]⟩
abbrev S1x1x1x128x64 : Shape := ⟨5, ![1, 1, 1, 128, 64]⟩
abbrev S1x1x128x256 : Shape := ⟨4, ![1, 1, 128, 256]⟩
abbrev S1 : Shape := ⟨1, ![1]⟩
abbrev S128 : Shape := ⟨1, ![128]⟩
abbrev S128x1 : Shape := ⟨2, ![128, 1]⟩
abbrev S1x1x128 : Shape := ⟨3, ![1, 1, 128]⟩
abbrev S1x128 : Shape := ⟨2, ![1, 128]⟩
abbrev S1x1 : Shape := ⟨2, ![1, 1]⟩

abbrev nBuf : Space → Nat
  | .hbm => 23
  | .vmem => 24
  | .smem => 1
  | _ => 0

abbrev bufTy : (tb : Table) → Fin (tcTables nBuf tb) → BufTy
  | .hbm, ⟨0, _⟩ => ⟨S2x2048x16x64, .f32⟩
  | .hbm, ⟨1, _⟩ => ⟨S2x2048x4x64, .f32⟩
  | .hbm, ⟨2, _⟩ => ⟨S2x2048x4x64, .f32⟩
  | .hbm, ⟨3, _⟩ => ⟨S16, .f32⟩
  | .hbm, ⟨4, _⟩ => ⟨S4x4x128x256, .f32⟩
  | .hbm, ⟨5, _⟩ => ⟨S2x2048x16x64, .f32⟩
  | .hbm, ⟨6, _⟩ => ⟨S2x16x2048x64, .f32⟩
  | .hbm, ⟨7, _⟩ => ⟨S32x2048x64, .f32⟩
  | .hbm, ⟨8, _⟩ => ⟨S2x4x4x2048x64, .f32⟩
  | .hbm, ⟨9, _⟩ => ⟨S2x4x2048x64, .f32⟩
  | .hbm, ⟨10, _⟩ => ⟨S8x2048x64, .f32⟩
  | .hbm, ⟨11, _⟩ => ⟨S2x4x2048x64, .f32⟩
  | .hbm, ⟨12, _⟩ => ⟨S2x4x2048x64, .f32⟩
  | .hbm, ⟨13, _⟩ => ⟨S8x2048x64, .f32⟩
  | .hbm, ⟨14, _⟩ => ⟨S2x4x2048x64, .f32⟩
  | .hbm, ⟨15, _⟩ => ⟨S2x16x2048x64, .f32⟩
  | .hbm, ⟨16, _⟩ => ⟨S32x2048x64, .f32⟩
  | .hbm, ⟨17, _⟩ => ⟨S2x4x4x2048x64, .f32⟩
  | .hbm, ⟨18, _⟩ => ⟨S2x4x4x2048x64, .f32⟩
  | .hbm, ⟨19, _⟩ => ⟨S2x4x2048x64, .f32⟩
  | .hbm, ⟨20, _⟩ => ⟨S2x4x2048x64, .f32⟩
  | .hbm, ⟨21, _⟩ => ⟨S4x4x128x256, .f32⟩
  | .hbm, ⟨22, _⟩ => ⟨S4x4x128, .f32⟩
  | .local _ .vmem, ⟨0, _⟩ => ⟨S1x1x4x128x64, .f32⟩
  | .local _ .vmem, ⟨1, _⟩ => ⟨S1x1x4x128x64, .f32⟩
  | .local _ .vmem, ⟨2, _⟩ => ⟨S1x1x128x64, .f32⟩
  | .local _ .vmem, ⟨3, _⟩ => ⟨S1x1x128x64, .f32⟩
  | .local _ .vmem, ⟨4, _⟩ => ⟨S1x1x128x64, .f32⟩
  | .local _ .vmem, ⟨5, _⟩ => ⟨S1x1x128x64, .f32⟩
  | .local _ .vmem, ⟨6, _⟩ => ⟨S1x1x128x64, .f32⟩
  | .local _ .vmem, ⟨7, _⟩ => ⟨S1x1x128x64, .f32⟩
  | .local _ .vmem, ⟨8, _⟩ => ⟨S1x1x128x64, .f32⟩
  | .local _ .vmem, ⟨9, _⟩ => ⟨S1x1x128x64, .f32⟩
  | .local _ .vmem, ⟨10, _⟩ => ⟨S1x4x128x256, .f32⟩
  | .local _ .vmem, ⟨11, _⟩ => ⟨S1x4x128x256, .f32⟩
  | .local _ .vmem, ⟨12, _⟩ => ⟨S1x1x4x128x64, .f32⟩
  | .local _ .vmem, ⟨13, _⟩ => ⟨S1x1x4x128x64, .f32⟩
  | .local _ .vmem, ⟨14, _⟩ => ⟨S1x1x4x128x64, .f32⟩
  | .local _ .vmem, ⟨15, _⟩ => ⟨S1x1x4x128x64, .f32⟩
  | .local _ .vmem, ⟨16, _⟩ => ⟨S1x1x2048x64, .f32⟩
  | .local _ .vmem, ⟨17, _⟩ => ⟨S1x1x2048x64, .f32⟩
  | .local _ .vmem, ⟨18, _⟩ => ⟨S1x1x2048x64, .f32⟩
  | .local _ .vmem, ⟨19, _⟩ => ⟨S1x1x2048x64, .f32⟩
  | .local _ .vmem, ⟨20, _⟩ => ⟨S1x4x128x256, .f32⟩
  | .local _ .vmem, ⟨21, _⟩ => ⟨S1x4x128x256, .f32⟩
  | .local _ .vmem, ⟨22, _⟩ => ⟨S1x4x128, .f32⟩
  | .local _ .vmem, ⟨23, _⟩ => ⟨S1x4x128, .f32⟩
  | .local _ .smem, ⟨0, _⟩ => ⟨S16, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![4, 2, 16], ![false, false, false]⟩

def k0_off1 (i : grid0.Coords) (c0_i32_38 : BitVec 32) : Fin 1 → Nat :=
  let arg0 : BitVec 32 := BitVec.ofNat 32 (i 0).val
  let c4_i32 : BitVec 32 := 4#32
  let v42 : BitVec 32 := Scalar.muli arg0 c4_i32
  let v43 : BitVec 32 := Scalar.addi v42 c0_i32_38
  let v44 : Index := Scalar.indexCast v43
  ![v44.toNat]
def k0_mult1 (i : grid0.Coords) : BitVec 32 :=
  let arg2 : BitVec 32 := BitVec.ofNat 32 (i 2).val
  let c128_i32_213 : BitVec 32 := 128#32
  let v356 : BitVec 32 := Scalar.muli arg2 c128_i32_213
  v356
def k0_off2 (i : grid0.Coords) : Fin 4 → Nat :=
  let c0_214 : Index := 0#32
  let c0_215 : Index := 0#32
  let arg2 : BitVec 32 := BitVec.ofNat 32 (i 2).val
  let c128_i32_213 : BitVec 32 := 128#32
  let v356 : BitVec 32 := Scalar.muli arg2 c128_i32_213
  let v357 : BitVec 32 := v356
  let v358 : Index := Scalar.indexCast v357
  let c0_216 : Index := 0#32
  ![0, 0, v358.toNat, 0]
def k0_cond3 (i : grid0.Coords) : BitVec 1 :=
  let arg2 : BitVec 32 := BitVec.ofNat 32 (i 2).val
  let c0_i32_226 : BitVec 32 := 0#32
  let v376 : BitVec 1 := Scalar.cmpi .sgt arg2 c0_i32_226
  let v377 : BitVec 32 := Scalar.extui v376
  let c0_i32_227 : BitVec 32 := 0#32
  let v378 : BitVec 1 := Scalar.cmpi .ne v377 c0_i32_227
  v378

def k0_mult2 (i : grid0.Coords) : BitVec 32 :=
  let arg2 : BitVec 32 := BitVec.ofNat 32 (i 2).val
  let c1_i32_228 : BitVec 32 := 1#32
  let v379 : BitVec 32 := Scalar.subi arg2 c1_i32_228
  let c128_i32_229 : BitVec 32 := 128#32
  let v380 : BitVec 32 := Scalar.muli v379 c128_i32_229
  v380
def k0_off3 (i : grid0.Coords) : Fin 4 → Nat :=
  let c0_230 : Index := 0#32
  let c0_231 : Index := 0#32
  let arg2 : BitVec 32 := BitVec.ofNat 32 (i 2).val
  let c1_i32_228 : BitVec 32 := 1#32
  let v379 : BitVec 32 := Scalar.subi arg2 c1_i32_228
  let c128_i32_229 : BitVec 32 := 128#32
  let v380 : BitVec 32 := Scalar.muli v379 c128_i32_229
  let v381 : BitVec 32 := v380
  let v382 : Index := Scalar.indexCast v381
  let c0_232 : Index := 0#32
  ![0, 0, v382.toNat, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg1.toNat, arg0.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg1.toNat, arg0.toNat, v1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, arg2.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, arg2.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x4x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x4x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x4x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== ReferenceIdeal.lean ====
abbrev S2x2048x16x64 : Shape := ⟨4, ![2, 2048, 16, 64]⟩
abbrev S2x2048x4x64 : Shape := ⟨4, ![2, 2048, 4, 64]⟩
abbrev S16 : Shape := ⟨1, ![16]⟩
abbrev S4x4x128x256 : Shape := ⟨4, ![4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x128x256 : Shape := ⟨4, ![1, 16, 128, 256]⟩
abbrev S2x16x128x256 : Shape := ⟨4, ![2, 16, 128, 256]⟩
abbrev S32x1x1x128x256 : Shape := ⟨5, ![32, 1, 1, 128, 256]⟩
abbrev S32x128x4x4x64 : Shape := ⟨5, ![32, 128, 4, 4, 64]⟩
abbrev S2x128x4x64 : Shape := ⟨4, ![2, 128, 4, 64]⟩
abbrev S2x2176x4x64 : Shape := ⟨4, ![2, 2176, 4, 64]⟩
abbrev S2x17x128x4x64 : Shape := ⟨5, ![2, 17, 128, 4, 64]⟩
abbrev S2x16x128x4x64 : Shape := ⟨5, ![2, 16, 128, 4, 64]⟩
abbrev S2x16x256x4x64 : Shape := ⟨5, ![2, 16, 256, 4, 64]⟩
abbrev S32x256x4x64 : Shape := ⟨4, ![32, 256, 4, 64]⟩
abbrev S1x4x4x1x1 : Shape := ⟨5, ![1, 4, 4, 1, 1]⟩
abbrev S32x4x256x128x4 : Shape := ⟨5, ![32, 4, 256, 128, 4]⟩
abbrev S32x4x4x128x256 : Shape := ⟨5, ![32, 4, 4, 128, 256]⟩
abbrev S1x4x4x128x256 : Shape := ⟨5, ![1, 4, 4, 128, 256]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S32x4x64x256 : Shape := ⟨4, ![32, 4, 64, 256]⟩
abbrev S4x4x1 : Shape := ⟨3, ![4, 4, 1]⟩
abbrev S32x4x128x4x64 : Shape := ⟨5, ![32, 4, 128, 4, 64]⟩
abbrev S32x4x256x64 : Shape := ⟨4, ![32, 4, 256, 64]⟩
abbrev S2x16x2048x64 : Shape := ⟨4, ![2, 16, 2048, 64]⟩
abbrev S2x4x4x2048x64 : Shape := ⟨5, ![2, 4, 4, 2048, 64]⟩
abbrev S4x4x128 : Shape := ⟨3, ![4, 4, 128]⟩
abbrev S2x4x2048x64 : Shape := ⟨4, ![2, 4, 2048, 64]⟩

abbrev nBuf : Space → Nat
  | .hbm => 224
  | .vmem => 0
  | .smem => 0
  | _ => 0

abbrev hbmTy0_0 (i : Nat) : BufTy := match i % 128 with
  | 0 => ⟨S2x2048x16x64, .f32⟩
  | 1 => ⟨S2x2048x4x64, .f32⟩
  | 2 => ⟨S2x2048x4x64, .f32⟩
  | 3 => ⟨S16, .f32⟩
  | 4 => ⟨S4x4x128x256, .f32⟩
  | 5 => ⟨S2x2048x16x64, .f32⟩
  | 6 => ⟨S128, .i32⟩
  | 7 => ⟨S128x1, .i32⟩
  | 8 => ⟨S256, .i32⟩
  | 9 => ⟨S1x256, .i32⟩
  | 10 => ⟨S_, .i32⟩
  | 11 => ⟨S128x1, .i32⟩
  | 12 => ⟨S128x1, .i32⟩
  | 13 => ⟨S128x256, .i32⟩
  | 14 => ⟨S128x256, .i32⟩
  | 15 => ⟨S128x256, .i32⟩
  | 16 => ⟨S_, .i32⟩
  | 17 => ⟨S128x256, .i32⟩
  | 18 => ⟨S128x256, .i1⟩
  | 19 => ⟨S_, .i32⟩
  | 20 => ⟨S128x256, .i32⟩
  | 21 => ⟨S128x256, .i1⟩
  | 22 => ⟨S128x256, .i1⟩
  | 23 => ⟨S16, .i32⟩
  | 24 => ⟨S16x1, .i32⟩
  | 25 => ⟨S_, .i32⟩
  | 26 => ⟨S16x1, .i32⟩
  | 27 => ⟨S16x1, .i32⟩
  | 28 => ⟨S_, .i32⟩
  | 29 => ⟨S16x1, .i32⟩
  | 30 => ⟨S16x1, .i32⟩
  | 31 => ⟨S256, .i32⟩
  | 32 => ⟨S1x256, .i32⟩
  | 33 => ⟨S16x256, .i32⟩
  | 34 => ⟨S16x256, .i32⟩
  | 35 => ⟨S16x256, .i32⟩
  | 36 => ⟨S1x128x256, .i1⟩
  | 37 => ⟨S_, .i32⟩
  | 38 => ⟨S16x256, .i32⟩
  | 39 => ⟨S16x256, .i1⟩
  | 40 => ⟨S16x1x256, .i1⟩
  | 41 => ⟨S16x128x256, .i1⟩
  | 42 => ⟨S16x128x256, .i1⟩
  | 43 => ⟨S16x128x256, .i1⟩
  | 44 => ⟨S1x16x128x256, .i1⟩
  | 45 => ⟨S2x16x128x256, .i1⟩
  | 46 => ⟨S32x1x1x128x256, .i1⟩
  | 47 => ⟨S32x128x4x4x64, .f32⟩
  | 48 => ⟨S_, .f32⟩
  | 49 => ⟨S2x128x4x64, .f32⟩
  | 50 => ⟨S2x2176x4x64, .f32⟩
  | 51 => ⟨S_, .f32⟩
  | 52 => ⟨S2x128x4x64, .f32⟩
  | 53 => ⟨S2x17x128x4x64, .f32⟩
  | 54 => ⟨S2x16x128x4x64, .f32⟩
  | 55 => ⟨S2x16x128x4x64, .f32⟩
  | 56 => ⟨S2x16x256x4x64, .f32⟩
  | 57 => ⟨S32x256x4x64, .f32⟩
  | 58 => ⟨S_, .f32⟩
  | 59 => ⟨S2x128x4x64, .f32⟩
  | 60 => ⟨S2x2176x4x64, .f32⟩
  | 61 => ⟨S_, .f32⟩
  | 62 => ⟨S2x128x4x64, .f32⟩
  | 63 => ⟨S2x17x128x4x64, .f32⟩
  | 64 => ⟨S2x16x128x4x64, .f32⟩
  | 65 => ⟨S2x16x128x4x64, .f32⟩
  | 66 => ⟨S2x16x256x4x64, .f32⟩
  | 67 => ⟨S32x256x4x64, .f32⟩
  | 68 => ⟨S1x4x4x1x1, .f32⟩
  | 69 => ⟨S32x4x256x128x4, .f32⟩
  | 70 => ⟨S32x4x4x128x256, .f32⟩
  | 71 => ⟨S_, .f32⟩
  | 72 => ⟨S32x4x4x128x256, .f32⟩
  | 73 => ⟨S32x4x4x128x256, .f32⟩
  | 74 => ⟨S1x4x4x128x256, .f32⟩
  | 75 => ⟨S32x4x4x128x256, .f32⟩
  | 76 => ⟨S32x4x4x128x256, .f32⟩
  | 77 => ⟨S32x4x4x128x256, .i1⟩
  | 78 => ⟨S_, .f32⟩
  | 79 => ⟨S32x4x4x128x256, .f32⟩
  | 80 => ⟨S32x4x4x128x256, .f32⟩
  | 81 => ⟨S_, .f32⟩
  | 82 => ⟨S32x4x4x128x256, .f32⟩
  | 83 => ⟨S_, .f32⟩
  | 84 => ⟨S32x4x4x128, .f32⟩
  | 85 => ⟨S32x4x4x128x1, .f32⟩
  | 86 => ⟨S32x4x4x128x256, .f32⟩
  | 87 => ⟨S32x4x4x128x256, .i1⟩
  | 88 => ⟨S32x4x4x128x256, .f32⟩
  | 89 => ⟨S_, .f32⟩
  | 90 => ⟨S32x4x4x128, .f32⟩
  | 91 => ⟨S32x4x4x128x1, .f32⟩
  | 92 => ⟨S32x4x4x128x1, .f32⟩
  | 93 => ⟨S32x4x4x128x1, .f32⟩
  | 94 => ⟨S32x4x4x128x1, .f32⟩
  | 95 => ⟨S32x4x4x128x1, .i1⟩
  | 96 => ⟨S32x4x4x128x1, .f32⟩
  | 97 => ⟨S32x4x4x128x1, .i1⟩
  | 98 => ⟨S_, .f32⟩
  | 99 => ⟨S32x4x4x128x1, .f32⟩
  | 100 => ⟨S_, .f32⟩
  | 101 => ⟨S32x4x4x128x1, .f32⟩
  | 102 => ⟨S_, .f32⟩
  | 103 => ⟨S32x4x4x128x1, .f32⟩
  | 104 => ⟨S32x4x4x128x1, .f32⟩
  | 105 => ⟨S32x4x4x128x1, .f32⟩
  | 106 => ⟨S32x4x4x128x1, .f32⟩
  | 107 => ⟨S32x4x4x128x1, .i1⟩
  | 108 => ⟨S32x4x4x128x1, .f32⟩
  | 109 => ⟨S32x4x4x128x1, .i1⟩
  | 110 => ⟨S_, .f32⟩
  | 111 => ⟨S32x4x4x128x1, .f32⟩
  | 112 => ⟨S_, .f32⟩
  | 113 => ⟨S32x4x4x128x1, .f32⟩
  | 114 => ⟨S_, .f32⟩
  | 115 => ⟨S32x4x4x128x1, .f32⟩
  | 116 => ⟨S32x4x4x128x1, .f32⟩
  | 117 => ⟨S32x4x4x128x1, .f32⟩
  | 118 => ⟨S32x4x4x128x256, .f32⟩
  | 119 => ⟨S32x4x4x128x256, .f32⟩
  | 120 => ⟨S32x4x4x128x256, .f32⟩
  | 121 => ⟨S_, .f32⟩
  | 122 => ⟨S32x4x4x128, .f32⟩
  | 123 => ⟨S32x4x4x128x1, .f32⟩
  | 124 => ⟨S32x4x4x128x1, .f32⟩
  | 125 => ⟨S32x4x4x128x1, .f32⟩
  | 126 => ⟨S32x4x4x128x1, .f32⟩
  | 127 => ⟨S32x4x4x128x1, .f32⟩
  | _ => ⟨S2x2048x16x64, .f32⟩

abbrev hbmTy0_1 (i : Nat) : BufTy := match i % 128 with
  | 0 => ⟨S32x4x4x128x256, .f32⟩
  | 1 => ⟨S32x4x4x128x256, .f32⟩
  | 2 => ⟨S32x4x4x128x1, .f32⟩
  | 3 => ⟨S_, .f32⟩
  | 4 => ⟨S32x4x4x128x1, .f32⟩
  | 5 => ⟨S32x4x4x128x1, .f32⟩
  | 6 => ⟨S32x4x64x4x128, .f32⟩
  | 7 => ⟨S32x128x4x4x64, .f32⟩
  | 8 => ⟨S2x2048x16x64, .f32⟩
  | 9 => ⟨S32x128x4x4x64, .f32⟩
  | 10 => ⟨S32x4x64x4x128, .f32⟩
  | 11 => ⟨S32x4x4x128x256, .f32⟩
  | 12 => ⟨S32x4x64x256, .f32⟩
  | 13 => ⟨S32x256x4x64, .f32⟩
  | 14 => ⟨S32x4x4x128x256, .f32⟩
  | 15 => ⟨S32x4x4x128x256, .f32⟩
  | 16 => ⟨S32x4x4x128x256, .f32⟩
  | 17 => ⟨S_, .f32⟩
  | 18 => ⟨S32x4x4x128, .f32⟩
  | 19 => ⟨S32x4x4x128x1, .f32⟩
  | 20 => ⟨S32x4x4x128x1, .f32⟩
  | 21 => ⟨S32x4x4x128x256, .f32⟩
  | 22 => ⟨S32x4x4x128x256, .f32⟩
  | 23 => ⟨S32x4x4x128x1, .f32⟩
  | 24 => ⟨S_, .f32⟩
  | 25 => ⟨S4x4x1, .f32⟩
  | 26 => ⟨S1x4x4x1x1, .f32⟩
  | 27 => ⟨S32x4x4x128x1, .f32⟩
  | 28 => ⟨S_, .f32⟩
  | 29 => ⟨S32x4x4x128, .f32⟩
  | 30 => ⟨S32x4x4x128x256, .f32⟩
  | 31 => ⟨S32x4x4x128x256, .f32⟩
  | 32 => ⟨S32x4x4x128x256, .f32⟩
  | 33 => ⟨S32x4x4x128x256, .f32⟩
  | 34 => ⟨S_, .f32⟩
  | 35 => ⟨S32x4x4x128, .f32⟩
  | 36 => ⟨S32x4x4x128x1, .f32⟩
  | 37 => ⟨S32x4x4x128x1, .f32⟩
  | 38 => ⟨S32x4x4x128x1, .f32⟩
  | 39 => ⟨S_, .f32⟩
  | 40 => ⟨S4x4x1, .f32⟩
  | 41 => ⟨S1x4x4x1x1, .f32⟩
  | 42 => ⟨S1x4x4x1x1, .f32⟩
  | 43 => ⟨S32x4x4x128x1, .f32⟩
  | 44 => ⟨S_, .f32⟩
  | 45 => ⟨S32x4x4x128, .f32⟩
  | 46 => ⟨S32x4x4x128, .f32⟩
  | 47 => ⟨S32x4x4x128x256, .f32⟩
  | 48 => ⟨S32x4x4x128x256, .f32⟩
  | 49 => ⟨S32x4x4x128x256, .f32⟩
  | 50 => ⟨S_, .f32⟩
  | 51 => ⟨S32x4x4x128x256, .f32⟩
  | 52 => ⟨S32x4x4x128x256, .f32⟩
  | 53 => ⟨S_, .f32⟩
  | 54 => ⟨S4x4x128x256, .f32⟩
  | 55 => ⟨S1x4x4x128x256, .f32⟩
  | 56 => ⟨S_, .f32⟩
  | 57 => ⟨S4x4x128x256, .f32⟩
  | 58 => ⟨S_, .f32⟩
  | 59 => ⟨S32x4x4x128x256, .f32⟩
  | 60 => ⟨S32x4x4x128x256, .f32⟩
  | 61 => ⟨S32x4x256x128x4, .f32⟩
  | 62 => ⟨S32x4x128x4x64, .f32⟩
  | 63 => ⟨S32x128x4x4x64, .f32⟩
  | 64 => ⟨S32x4x256x64, .f32⟩
  | 65 => ⟨S32x256x4x64, .f32⟩
  | 66 => ⟨S16, .f32⟩
  | 67 => ⟨S2x16x256x4x64, .f32⟩
  | 68 => ⟨S2x16x128x4x64, .f32⟩
  | 69 => ⟨S2x16x128x4x64, .f32⟩
  | 70 => ⟨S_, .f32⟩
  | 71 => ⟨S2x17x128x4x64, .f32⟩
  | 72 => ⟨S_, .f32⟩
  | 73 => ⟨S2x17x128x4x64, .f32⟩
  | 74 => ⟨S2x17x128x4x64, .f32⟩
  | 75 => ⟨S2x2176x4x64, .f32⟩
  | 76 => ⟨S2x128x4x64, .f32⟩
  | 77 => ⟨S2x2048x4x64, .f32⟩
  | 78 => ⟨S2x16x256x4x64, .f32⟩
  | 79 => ⟨S2x16x128x4x64, .f32⟩
  | 80 => ⟨S2x16x128x4x64, .f32⟩
  | 81 => ⟨S_, .f32⟩
  | 82 => ⟨S2x17x128x4x64, .f32⟩
  | 83 => ⟨S_, .f32⟩
  | 84 => ⟨S2x17x128x4x64, .f32⟩
  | 85 => ⟨S2x17x128x4x64, .f32⟩
  | 86 => ⟨S2x2176x4x64, .f32⟩
  | 87 => ⟨S2x128x4x64, .f32⟩
  | 88 => ⟨S2x2048x4x64, .f32⟩
  | 89 => ⟨S2x2048x16x64, .f32⟩
  | 90 => ⟨S2x16x2048x64, .f32⟩
  | 91 => ⟨S2x4x4x2048x64, .f32⟩
  | 92 => ⟨S4x4x1, .f32⟩
  | 93 => ⟨S4x4x128, .f32⟩
  | 94 => ⟨S2x4x2048x64, .f32⟩
  | 95 => ⟨S2x4x2048x64, .f32⟩
  | _ => ⟨S2x2048x16x64, .f32⟩

abbrev hbmTy (i : Nat) : BufTy := match i / 128 with
  | 0 => hbmTy0_0 i
  | 1 => hbmTy0_1 i
  | _ => ⟨S2x2048x16x64, .f32⟩

abbrev bufTy : (tb : Table) → Fin (tcTables nBuf tb) → BufTy
  | .hbm, ⟨i, _⟩ => hbmTy i
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_cst_14 : Ref sig .tc := ⟨.hbm, 100, rfl⟩
abbrev main_v78 : Ref sig .tc := ⟨.hbm, 101, rfl⟩
abbrev main_cst_15 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_16 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_cst_18 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_19 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_20 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_21 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_22 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_23 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_24 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_25 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_26 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_27 : Ref sig .tc := ⟨.hbm, 178, rfl⟩
abbrev main_v143 : Ref sig .tc := ⟨.hbm, 179, rfl⟩
abbrev main_v144 : Ref sig .tc := ⟨.hbm, 180, rfl⟩
abbrev main_cst_28 : Ref sig .tc := ⟨.hbm, 181, rfl⟩
abbrev main_v145 : Ref sig .tc := ⟨.hbm, 182, rfl⟩
abbrev main_v146 : Ref sig .tc := ⟨.hbm, 183, rfl⟩
abbrev main_cst_29 : Ref sig .tc := ⟨.hbm, 184, rfl⟩
abbrev main_v147 : Ref sig .tc := ⟨.hbm, 185, rfl⟩
abbrev main_cst_30 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_cst_31 : Ref sig .tc := ⟨.hbm, 198, rfl⟩
abbrev main_v159 : Ref sig .tc := ⟨.hbm, 199, rfl⟩
abbrev main_cst_32 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_33 : Ref sig .tc := ⟨.hbm, 209, rfl⟩
abbrev main_v168 : Ref sig .tc := ⟨.hbm, 210, rfl⟩
abbrev main_cst_34 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩

abbrev nD : Nat := 1
abbrev τ : Topo := Topo.v7x

variable {F : FTy → Type} [FloatOps F]
-- ==== Kernel2.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1x2816x1024 : Shape := ⟨3, ![1, 2816, 1024]⟩
abbrev S4096x1024 : Shape := ⟨2, ![4096, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S1x2816x1024, .f32⟩
  | .hbm, ⟨4, _⟩ => ⟨S1x2816x1024, .bf16⟩
  | .hbm, ⟨5, _⟩ => ⟨S4096x1024, .f32⟩
  | .hbm, ⟨6, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S2x2048x1024, .f32⟩
  | .hbm, ⟨4, _⟩ => ⟨S2x2048x2816, .f32⟩
  | .hbm, ⟨5, _⟩ => ⟨S4096x2816, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S2x2048x1024 : Shape := ⟨3, ![2, 2048, 1024]⟩
abbrev S1024x5632 : Shape := ⟨2, ![1024, 5632]⟩
abbrev S2x2048x2816 : Shape := ⟨3, ![2, 2048, 2816]⟩
abbrev S1x1024x5632 : Shape := ⟨3, ![1, 1024, 5632]⟩
abbrev S1x5632x1024 : Shape := ⟨3, ![1, 5632, 1024]⟩
abbrev S4096x2816 : Shape := ⟨2, ![4096, 2816]⟩
abbrev S4096x1024 : Shape := ⟨2, ![4096, 1024]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x2816, .f32⟩
  | .hbm, ⟨3, _⟩ => ⟨S1x1024x5632, .f32⟩
  | .hbm, ⟨4, _⟩ => ⟨S1x5632x1024, .f32⟩
  | .hbm, ⟨5, _⟩ => ⟨S1x5632x1024, .bf16⟩
  | .hbm, ⟨6, _⟩ => ⟨S4096x2816, .f32⟩
  | .hbm, ⟨7, _⟩ => ⟨S4096x1024, .f32⟩
  | .local _ .vmem, ⟨0, _⟩ => ⟨S1024x1408, .f32⟩
  | .local _ .vmem, ⟨1, _⟩ => ⟨S1024x1408, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v14 : BitVec 1 := Scalar.cmpi .eq arg2 c1_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x1024 : Shape := ⟨3, ![2, 2048, 1024]⟩
abbrev S1024x5632 : Shape := ⟨2, ![1024, 5632]⟩
abbrev S2x2048x2816 : Shape := ⟨3, ![2, 2048, 2816]⟩
abbrev S1024x2816 : Shape := ⟨2, ![1024, 2816]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x2816, .f32⟩
  | .hbm, ⟨3, _⟩ => ⟨S1024x2816, .f32⟩
  | .hbm, ⟨4, _⟩ => ⟨S2x2048x2816, .f32⟩
  | .hbm, ⟨5, _⟩ => ⟨S2x2048x1024, .f32⟩
  | .hbm, ⟨6, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2x2048x1024 : Shape := ⟨3, ![2, 2048, 1024]⟩
abbrev S1024x5632 : Shape := ⟨2, ![1024, 5632]⟩
abbrev S2x2048x2816 : Shape := ⟨3, ![2, 2048, 2816]⟩
abbrev S4096x1024 : Shape := ⟨2, ![4096, 1024]⟩
abbrev S1x1024x5632 : Shape := ⟨3, ![1, 1024, 5632]⟩
abbrev S1x5632x1024 : Shape := ⟨3, ![1, 5632, 1024]⟩
abbrev S4096x2816 : Shape := ⟨2, ![4096, 2816]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x2816, .f32⟩
  | .hbm, ⟨3, _⟩ => ⟨S4096x1024, .f32⟩
  | .hbm, ⟨4, _⟩ => ⟨S1x1024x5632, .f32⟩
  | .hbm, ⟨5, _⟩ => ⟨S1x5632x1024, .f32⟩
  | .hbm, ⟨6, _⟩ => ⟨S1x5632x1024, .bf16⟩
  | .hbm, ⟨7, _⟩ => ⟨S4096x2816, .f32⟩
  | .hbm, ⟨8, _⟩ => ⟨S4096x1024, .f32⟩
  | .local _ .vmem, ⟨0, _⟩ => ⟨S1024x1408, .f32⟩
  | .local _ .vmem, ⟨1, _⟩ => ⟨S1024x1408, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v14 : BitVec 1 := Scalar.cmpi .eq arg2 c1_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2x2048x1024 : Shape := ⟨3, ![2, 2048, 1024]⟩
abbrev S1024x5632 : Shape := ⟨2, ![1024, 5632]⟩
abbrev S2x2048x2816 : Shape := ⟨3, ![2, 2048, 2816]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x2816, .f32⟩
  | .hbm, ⟨3, _⟩ => ⟨S4096x1024, .f32⟩
  | .hbm, ⟨4, _⟩ => ⟨S1024x2816, .f32⟩
  | .hbm, ⟨5, _⟩ => ⟨S2x2048x2816, .f32⟩
  | .hbm, ⟨6, _⟩ => ⟨S2x2048x1024, .f32⟩
  | .hbm, ⟨7, _⟩ => ⟨S4096x1024, .f32⟩
  | .hbm, ⟨8, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S2x2048x1024 : Shape := ⟨3, ![2, 2048, 1024]⟩
abbrev S1024x5632 : Shape := ⟨2, ![1024, 5632]⟩
abbrev S1x1024x5632 : Shape := ⟨3, ![1, 1024, 5632]⟩
abbrev S1x5632x1024 : Shape := ⟨3, ![1, 5632, 1024]⟩
abbrev S4096x1024 : Shape := ⟨2, ![4096, 1024]⟩
abbrev S4096x5632 : Shape := ⟨2, ![4096, 5632]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S1x1024x5632, .f32⟩
  | .hbm, ⟨3, _⟩ => ⟨S1x5632x1024, .f32⟩
  | .hbm, ⟨4, _⟩ => ⟨S1x5632x1024, .bf16⟩
  | .hbm, ⟨5, _⟩ => ⟨S4096x1024, .f32⟩
  | .hbm, ⟨6, _⟩ => ⟨S4096x1024, .bf16⟩
  | .hbm, ⟨7, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x2048x1024 : Shape := ⟨3, ![2, 2048, 1024]⟩
abbrev S1024x5632 : Shape := ⟨2, ![1024, 5632]⟩
abbrev S2x2048x5632 : Shape := ⟨3, ![2, 2048, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x5632, .f32⟩
  | .hbm, ⟨3, _⟩ => ⟨S4096x5632, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S2x2048x1024 : Shape := ⟨3, ![2, 2048, 1024]⟩
abbrev S2x2048x2816 : Shape := ⟨3, ![2, 2048, 2816]⟩
abbrev S2816x1024 : Shape := ⟨2, ![2816, 1024]⟩
abbrev S1x2816x1024 : Shape := ⟨3, ![1, 2816, 1024]⟩
abbrev S4096x2816 : Shape := ⟨2, ![4096, 2816]⟩
abbrev S4096x1024 : Shape := ⟨2, ![4096, 1024]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2816x1024, .f32⟩
  | .hbm, ⟨3, _⟩ => ⟨S1x2816x1024, .f32⟩
  | .hbm, ⟨4, _⟩ => ⟨S1x2816x1024, .bf16⟩
  | .hbm, ⟨5, _⟩ => ⟨S4096x2816, .f32⟩
  | .hbm, ⟨6, _⟩ => ⟨S4096x2816, .bf16⟩
  | .hbm, ⟨7, _⟩ => ⟨S4096x1024, .f32⟩
  | .hbm, ⟨8, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v13 : BitVec 1 := Scalar.cmpi .eq arg2 c1_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2x2048x1024 : Shape := ⟨3, ![2, 2048, 1024]⟩
abbrev S2x2048x2816 : Shape := ⟨3, ![2, 2048, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2816x1024, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S2x2048x1024 : Shape := ⟨3, ![2, 2048, 1024]⟩
abbrev S2x2048x3584 : Shape := ⟨3, ![2, 2048, 3584]⟩
abbrev S1024x3584 : Shape := ⟨2, ![1024, 3584]⟩
abbrev S1x1024x3584 : Shape := ⟨3, ![1, 1024, 3584]⟩
abbrev S1x3584x1024 : Shape := ⟨3, ![1, 3584, 1024]⟩
abbrev S4096x3584 : Shape := ⟨2, ![4096, 3584]⟩
abbrev S4096x1024 : Shape := ⟨2, ![4096, 1024]⟩
abbrev S1024x1792 : Shape := ⟨2, ![1024, 1792]⟩
abbrev S1x1792x1024 : Shape := ⟨3, ![1, 1792, 1024]⟩
abbrev S1024x1024 : Shape := ⟨2, ![1024, 1024]⟩
abbrev S1792x1024 : Shape := ⟨2, ![1792, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3584, .f32⟩
  | .hbm, ⟨2, _⟩ => ⟨S1024x3584, .f32⟩
  | .hbm, ⟨3, _⟩ => ⟨S1x1024x3584, .f32⟩
  | .hbm, ⟨4, _⟩ => ⟨S1x3584x1024, .f32⟩
  | .hbm, ⟨5, _⟩ => ⟨S1x3584x1024, .bf16⟩
  | .hbm, ⟨6, _⟩ => ⟨S4096x3584, .f32⟩
  | .hbm, ⟨7, _⟩ => ⟨S4096x1024, .f32⟩
  | .local _ .vmem, ⟨0, _⟩ => ⟨S1024x1792, .f32⟩
  | .local _ .vmem, ⟨1, _⟩ => ⟨S1024x1792, .f32⟩
  | .local _ .vmem, ⟨2, _⟩ => ⟨S1x1792x1024, .bf16⟩
  | .local _ .vmem, ⟨3, _⟩ => ⟨S1x1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v14 : BitVec 1 := Scalar.cmpi .eq arg2 c1_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2x2048x1024 : Shape := ⟨3, ![2, 2048, 1024]⟩
abbrev S2x2048x3584 : Shape := ⟨3, ![2, 2048, 3584]⟩
abbrev S1024x3584 : Shape := ⟨2, ![1024, 3584]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3584, .f32⟩
  | .hbm, ⟨2, _⟩ => ⟨S1024x3584, .f32⟩
  | .hbm, ⟨3, _⟩ => ⟨S2x2048x3584, .f32⟩
  | .hbm, ⟨4, _⟩ => ⟨S2x2048x1024, .f32⟩
  | .hbm, ⟨5, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S2x2048x1024 : Shape := ⟨3, ![2, 2048, 1024]⟩
abbrev S1024x3584 : Shape := ⟨2, ![1024, 3584]⟩
abbrev S1x1024x3584 : Shape := ⟨3, ![1, 1024, 3584]⟩
abbrev S1x3584x1024 : Shape := ⟨3, ![1, 3584, 1024]⟩
abbrev S4096x1024 : Shape := ⟨2, ![4096, 1024]⟩
abbrev S4096x3584 : Shape := ⟨2, ![4096, 3584]⟩
abbrev S1024x1024 : Shape := ⟨2, ![1024, 1024]⟩
abbrev S1x1792x1024 : Shape := ⟨3, ![1, 1792, 1024]⟩
abbrev S1024x1792 : Shape := ⟨2, ![1024, 1792]⟩
abbrev S1792x1024 : Shape := ⟨2, ![1792, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x3584, .f32⟩
  | .hbm, ⟨2, _⟩ => ⟨S1x1024x3584, .f32⟩
  | .hbm, ⟨3, _⟩ => ⟨S1x3584x1024, .f32⟩
  | .hbm, ⟨4, _⟩ => ⟨S1x3584x1024, .bf16⟩
  | .hbm, ⟨5, _⟩ => ⟨S4096x1024, .f32⟩
  | .hbm, ⟨6, _⟩ => ⟨S4096x1024, .bf16⟩
  | .hbm, ⟨7, _⟩ => ⟨S4096x3584, .f32⟩
  | .local _ .vmem, ⟨0, _⟩ => ⟨S1024x1024, .bf16⟩
  | .local _ .vmem, ⟨1, _⟩ => ⟨S1024x1024, .bf16⟩
  | .local _ .vmem, ⟨2, _⟩ => ⟨S1x1792x1024, .bf16⟩
  | .local _ .vmem, ⟨3, _⟩ => ⟨S1x1792x1024, .bf16⟩
  | .local _ .vmem, ⟨4, _⟩ => ⟨S1024x1792, .f32⟩
  | .local _ .vmem, ⟨5, _⟩ => ⟨S1024x1792, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2x2048x1024 : Shape := ⟨3, ![2, 2048, 1024]⟩
abbrev S1024x3584 : Shape := ⟨2, ![1024, 3584]⟩
abbrev S2x2048x3584 : Shape := ⟨3, ![2, 2048, 3584]⟩
abbrev S4096x3584 : Shape := ⟨2, ![4096, 3584]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3584, .f32⟩
  | .hbm, ⟨2, _⟩ => ⟨S2x2048x3584, .f32⟩
  | .hbm, ⟨3, _⟩ => ⟨S4096x3584, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S2x2048x1024 : Shape := ⟨3, ![2, 2048, 1024]⟩
abbrev S1024x1024 : Shape := ⟨2, ![1024, 1024]⟩
abbrev S1x1024x1024 : Shape := ⟨3, ![1, 1024, 1024]⟩
abbrev S4096x1024 : Shape := ⟨2, ![4096, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1x1024x1024, .f32⟩
  | .hbm, ⟨4, _⟩ => ⟨S1x1024x1024, .bf16⟩
  | .hbm, ⟨5, _⟩ => ⟨S4096x1024, .f32⟩
  | .hbm, ⟨6, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S2x2048x1024 : Shape := ⟨3, ![2, 2048, 1024]⟩
abbrev S1024x1024 : Shape := ⟨2, ![1024, 1024]⟩
abbrev S1x1024x1024 : Shape := ⟨3, ![1, 1024, 1024]⟩
abbrev S4096x1024 : Shape := ⟨2, ![4096, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1x1024x1024, .f32⟩
  | .hbm, ⟨4, _⟩ => ⟨S1x1024x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1x2816x1024 : Shape := ⟨3, ![1, 2816, 1024]⟩
abbrev S4096x2816 : Shape := ⟨2, ![4096, 2816]⟩
abbrev S4096x1024 : Shape := ⟨2, ![4096, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S1x2816x1024, .f32⟩
  | .hbm, ⟨4, _⟩ => ⟨S4096x2816, .f32⟩
  | .hbm, ⟨5, _⟩ => ⟨S4096x2816, .bf16⟩
  | .hbm, ⟨6, _⟩ => ⟨S4096x1024, .f32⟩
  | .hbm, ⟨7, _⟩ => ⟨S1x2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v14 : BitVec 1 := Scalar.cmpi .eq arg2 c3_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S1x2816x1024 : Shape := ⟨3, ![1, 2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S1x2816x1024, .f32⟩
  | .hbm, ⟨4, _⟩ => ⟨S2x2048x1024, .f32⟩
  | .hbm, ⟨5, _⟩ => ⟨S1024x2816, .f32⟩
  | .hbm, ⟨6, _⟩ => ⟨S2816x1024, .f32⟩
  | .hbm, ⟨7, _⟩ => ⟨S1x2816x1024, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel12.lean ====
abbrev S2x2048x1024 : Shape := ⟨3, ![2, 2048, 1024]⟩
abbrev S1024x5632 : Shape := ⟨2, ![1024, 5632]⟩
abbrev S2x2048x2816 : Shape := ⟨3, ![2, 2048, 2816]⟩
abbrev S1x5632x1024 : Shape := ⟨3, ![1, 5632, 1024]⟩
abbrev S4096x2816 : Shape := ⟨2, ![4096, 2816]⟩
abbrev S4096x1024 : Shape := ⟨2, ![4096, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x2816, .f32⟩
  | .hbm, ⟨3, _⟩ => ⟨S1x5632x1024, .f32⟩
  | .hbm, ⟨4, _⟩ => ⟨S4096x2816, .f32⟩
  | .hbm, ⟨5, _⟩ => ⟨S4096x1024, .f32⟩
  | .hbm, ⟨6, _⟩ => ⟨S4096x1024, .bf16⟩
  | .hbm, ⟨7, _⟩ => ⟨S1x5632x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v14 : BitVec 1 := Scalar.cmpi .eq arg2 c3_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2x2048x1024 : Shape := ⟨3, ![2, 2048, 1024]⟩
abbrev S1024x5632 : Shape := ⟨2, ![1024, 5632]⟩
abbrev S2x2048x2816 : Shape := ⟨3, ![2, 2048, 2816]⟩
abbrev S1x5632x1024 : Shape := ⟨3, ![1, 5632, 1024]⟩
abbrev S1024x2816 : Shape := ⟨2, ![1024, 2816]⟩
abbrev S2816x1024 : Shape := ⟨2, ![2816, 1024]⟩
abbrev S1x2816x1024 : Shape := ⟨3, ![1, 2816, 1024]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x2816, .f32⟩
  | .hbm, ⟨3, _⟩ => ⟨S1x5632x1024, .f32⟩
  | .hbm, ⟨4, _⟩ => ⟨S1024x2816, .f32⟩
  | .hbm, ⟨5, _⟩ => ⟨S2x2048x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | .hbm, ⟨10, _⟩ => ⟨S2816x1024, .f32⟩
  | .hbm, ⟨11, _⟩ => ⟨S5632x1024, .f32⟩
  | .hbm, ⟨12, _⟩ => ⟨S1x5632x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel13.lean ====
abbrev S2x2048x1024 : Shape := ⟨3, ![2, 2048, 1024]⟩
abbrev S1024x5632 : Shape := ⟨2, ![1024, 5632]⟩
abbrev S2x2048x2816 : Shape := ⟨3, ![2, 2048, 2816]⟩
abbrev S1x5632x1024 : Shape := ⟨3, ![1, 5632, 1024]⟩
abbrev S4096x2816 : Shape := ⟨2, ![4096, 2816]⟩
abbrev S4096x1024 : Shape := ⟨2, ![4096, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x2816, .f32⟩
  | .hbm, ⟨3, _⟩ => ⟨S1x5632x1024, .f32⟩
  | .hbm, ⟨4, _⟩ => ⟨S4096x2816, .f32⟩
  | .hbm, ⟨5, _⟩ => ⟨S4096x1024, .f32⟩
  | .hbm, ⟨6, _⟩ => ⟨S4096x1024, .bf16⟩
  | .hbm, ⟨7, _⟩ => ⟨S1x5632x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v14 : BitVec 1 := Scalar.cmpi .eq arg2 c3_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![c0_i32.toNat, v0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2x2048x1024 : Shape := ⟨3, ![2, 2048, 1024]⟩
abbrev S1024x5632 : Shape := ⟨2, ![1024, 5632]⟩
abbrev S2x2048x2816 : Shape := ⟨3, ![2, 2048, 2816]⟩
abbrev S1x5632x1024 : Shape := ⟨3, ![1, 5632, 1024]⟩
abbrev S1024x2816 : Shape := ⟨2, ![1024, 2816]⟩
abbrev S2816x1024 : Shape := ⟨2, ![2816, 1024]⟩
abbrev S1x2816x1024 : Shape := ⟨3, ![1, 2816, 1024]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x2816, .f32⟩
  | .hbm, ⟨3, _⟩ => ⟨S1x5632x1024, .f32⟩
  | .hbm, ⟨4, _⟩ => ⟨S1024x2816, .f32⟩
  | .hbm, ⟨5, _⟩ => ⟨S2x2048x2816, .f32⟩
  | .hbm, ⟨6, _⟩ => ⟨S2816x1024, .f32⟩
  | .hbm, ⟨7, _⟩ => ⟨S1024x2816, .f32⟩
  | .hbm, ⟨8, _⟩ => ⟨S1x2816x1024, .f32⟩
  | .hbm, ⟨9, _⟩ => ⟨S2816x1024, .f32⟩
  | .hbm, ⟨10, _⟩ => ⟨S2816x1024, .f32⟩
  | .hbm, ⟨11, _⟩ => ⟨S5632x1024, .f32⟩
  | .hbm, ⟨12, _⟩ => ⟨S1x5632x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel14.lean ====
abbrev S2x2048x1024 : Shape := ⟨3, ![2, 2048, 1024]⟩
abbrev S1024x3584 : Shape := ⟨2, ![1024, 3584]⟩
abbrev S2x2048x3584 : Shape := ⟨3, ![2, 2048, 3584]⟩
abbrev S1x3584x1024 : Shape := ⟨3, ![1, 3584, 1024]⟩
abbrev S4096x3584 : Shape := ⟨2, ![4096, 3584]⟩
abbrev S4096x1024 : Shape := ⟨2, ![4096, 1024]⟩
abbrev S1024x896 : Shape := ⟨2, ![1024, 896]⟩
abbrev S1024x1024 : Shape := ⟨2, ![1024, 1024]⟩
abbrev S1x896x1024 : Shape := ⟨3, ![1, 896, 1024]⟩
abbrev S896x1024 : Shape := ⟨2, ![896, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x3584, .f32⟩
  | .hbm, ⟨2, _⟩ => ⟨S2x2048x3584, .f32⟩
  | .hbm, ⟨3, _⟩ => ⟨S1x3584x1024, .f32⟩
  | .hbm, ⟨4, _⟩ => ⟨S4096x3584, .f32⟩
  | .hbm, ⟨5, _⟩ => ⟨S4096x1024, .f32⟩
  | .hbm, ⟨6, _⟩ => ⟨S4096x1024, .bf16⟩
  | .hbm, ⟨7, _⟩ => ⟨S1x3584x1024, .f32⟩
  | .local _ .vmem, ⟨0, _⟩ => ⟨S1024x896, .f32⟩
  | .local _ .vmem, ⟨1, _⟩ => ⟨S1024x896, .f32⟩
  | .local _ .vmem, ⟨2, _⟩ => ⟨S1024x1024, .bf16⟩
  | .local _ .vmem, ⟨3, _⟩ => ⟨S1024x1024, .bf16⟩
  | .local _ .vmem, ⟨4, _⟩ => ⟨S1x896x1024, .f32⟩
  | .local _ .vmem, ⟨5, _⟩ => ⟨S1x896x1024, .f32⟩
  | .local _ .vmem, ⟨6, _⟩ => ⟨S896x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v14 : BitVec 1 := Scalar.cmpi .eq arg2 c3_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat, arg1.toNat]

abbrev stage0_0 : Fin 2 → Memref sig .tc .vmem S1024x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2x2048x1024 : Shape := ⟨3, ![2, 2048, 1024]⟩
abbrev S1024x3584 : Shape := ⟨2, ![1024, 3584]⟩
abbrev S2x2048x3584 : Shape := ⟨3, ![2, 2048, 3584]⟩
abbrev S1x3584x1024 : Shape := ⟨3, ![1, 3584, 1024]⟩
abbrev S3584x1024 : Shape := ⟨2, ![3584, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3584, .f32⟩
  | .hbm, ⟨2, _⟩ => ⟨S2x2048x3584, .f32⟩
  | .hbm, ⟨3, _⟩ => ⟨S1x3584x1024, .f32⟩
  | .hbm, ⟨4, _⟩ => ⟨S2x2048x3584, .f32⟩
  | .hbm, ⟨5, _⟩ => ⟨S3584x1024, .f32⟩
  | .hbm, ⟨6, _⟩ => ⟨S1024x3584, .f32⟩
  | .hbm, ⟨7, _⟩ => ⟨S3584x1024, .f32⟩
  | .hbm, ⟨8, _⟩ => ⟨S1x3584x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel15.lean ====
abbrev S2x2048x1024 : Shape := ⟨3, ![2, 2048, 1024]⟩
abbrev S1024x1024 : Shape := ⟨2, ![1024, 1024]⟩
abbrev S1x1024x1024 : Shape := ⟨3, ![1, 1024, 1024]⟩
abbrev S4096x1024 : Shape := ⟨2, ![4096, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1x1024x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v14 : BitVec 1 := Scalar.cmpi .eq arg2 c3_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S2x2048x1024 : Shape := ⟨3, ![2, 2048, 1024]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1x1024x1024, .f32⟩
  | .hbm, ⟨4, _⟩ => ⟨S2x2048x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel16.lean ====
abbrev S2x2048x1024 : Shape := ⟨3, ![2, 2048, 1024]⟩
abbrev S1024x1536 : Shape := ⟨2, ![1024, 1536]⟩
abbrev S1x1024x1536 : Shape := ⟨3, ![1, 1024, 1536]⟩
abbrev S1x1536x1024 : Shape := ⟨3, ![1, 1536, 1024]⟩
abbrev S4096x1024 : Shape := ⟨2, ![4096, 1024]⟩
abbrev S4096x1536 : Shape := ⟨2, ![4096, 1536]⟩
abbrev S1024x1024 : Shape := ⟨2, ![1024, 1024]⟩
abbrev S1536x1024 : Shape := ⟨2, ![1536, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1536, .f32⟩
  | .hbm, ⟨2, _⟩ => ⟨S1x1024x1536, .f32⟩
  | .hbm, ⟨3, _⟩ => ⟨S1x1536x1024, .f32⟩
  | .hbm, ⟨4, _⟩ => ⟨S1x1536x1024, .bf16⟩
  | .hbm, ⟨5, _⟩ => ⟨S4096x1024, .f32⟩
  | .hbm, ⟨6, _⟩ => ⟨S4096x1024, .bf16⟩
  | .hbm, ⟨7, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1x1536x1024, .bf16⟩
  | .local _ .vmem, ⟨3, _⟩ => ⟨S1024x1536, .f32⟩
  | .local _ .vmem, ⟨4, _⟩ => ⟨S1024x1536, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2x2048x1024 : Shape := ⟨3, ![2, 2048, 1024]⟩
abbrev S1024x1536 : Shape := ⟨2, ![1024, 1536]⟩
abbrev S2x2048x1536 : Shape := ⟨3, ![2, 2048, 1536]⟩
abbrev S4096x1536 : Shape := ⟨2, ![4096, 1536]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1536, .f32⟩
  | .hbm, ⟨2, _⟩ => ⟨S2x2048x1536, .f32⟩
  | .hbm, ⟨3, _⟩ => ⟨S4096x1536, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S2x2048x1024 : Shape := ⟨3, ![2, 2048, 1024]⟩
abbrev S2x2048x1536 : Shape := ⟨3, ![2, 2048, 1536]⟩
abbrev S1024x1536 : Shape := ⟨2, ![1024, 1536]⟩
abbrev S1x1024x1536 : Shape := ⟨3, ![1, 1024, 1536]⟩
abbrev S1x1536x1024 : Shape := ⟨3, ![1, 1536, 1024]⟩
abbrev S4096x1536 : Shape := ⟨2, ![4096, 1536]⟩
abbrev S4096x1024 : Shape := ⟨2, ![4096, 1024]⟩
abbrev S1024x1024 : Shape := ⟨2, ![1024, 1024]⟩
abbrev S1536x1024 : Shape := ⟨2, ![1536, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1536, .f32⟩
  | .hbm, ⟨2, _⟩ => ⟨S1024x1536, .f32⟩
  | .hbm, ⟨3, _⟩ => ⟨S1x1024x1536, .f32⟩
  | .hbm, ⟨4, _⟩ => ⟨S1x1536x1024, .f32⟩
  | .hbm, ⟨5, _⟩ => ⟨S1x1536x1024, .bf16⟩
  | .hbm, ⟨6, _⟩ => ⟨S4096x1536, .f32⟩
  | .hbm, ⟨7, _⟩ => ⟨S4096x1024, .f32⟩
  | .local _ .vmem, ⟨0, _⟩ => ⟨S1024x1536, .f32⟩
  | .local _ .vmem, ⟨1, _⟩ => ⟨S1024x1536, .f32⟩
  | .local _ .vmem, ⟨2, _⟩ => ⟨S1x1536x1024, .bf16⟩
  | .local _ .vmem, ⟨3, _⟩ => ⟨S1024x1024, .f32⟩
  | .local _ .vmem, ⟨4, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2x2048x1024 : Shape := ⟨3, ![2, 2048, 1024]⟩
abbrev S2x2048x1536 : Shape := ⟨3, ![2, 2048, 1536]⟩
abbrev S1024x1536 : Shape := ⟨2, ![1024, 1536]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1536, .f32⟩
  | .hbm, ⟨2, _⟩ => ⟨S1024x1536, .f32⟩
  | .hbm, ⟨3, _⟩ => ⟨S2x2048x1536, .f32⟩
  | .hbm, ⟨4, _⟩ => ⟨S2x2048x1024, .f32⟩
  | .hbm, ⟨5, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S2x2048x1024 : Shape := ⟨3, ![2, 2048, 1024]⟩
abbrev S1024x1536 : Shape := ⟨2, ![1024, 1536]⟩
abbrev S2x2048x1536 : Shape := ⟨3, ![2, 2048, 1536]⟩
abbrev S1x1536x1024 : Shape := ⟨3, ![1, 1536, 1024]⟩
abbrev S4096x1536 : Shape := ⟨2, ![4096, 1536]⟩
abbrev S4096x1024 : Shape := ⟨2, ![4096, 1024]⟩
abbrev S1024x768 : Shape := ⟨2, ![1024, 768]⟩
abbrev S1024x1024 : Shape := ⟨2, ![1024, 1024]⟩
abbrev S1x768x1024 : Shape := ⟨3, ![1, 768, 1024]⟩
abbrev S768x1024 : Shape := ⟨2, ![768, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x1536, .f32⟩
  | .hbm, ⟨2, _⟩ => ⟨S2x2048x1536, .f32⟩
  | .hbm, ⟨3, _⟩ => ⟨S1x1536x1024, .f32⟩
  | .hbm, ⟨4, _⟩ => ⟨S4096x1536, .f32⟩
  | .hbm, ⟨5, _⟩ => ⟨S4096x1024, .f32⟩
  | .hbm, ⟨6, _⟩ => ⟨S4096x1024, .bf16⟩
  | .hbm, ⟨7, _⟩ => ⟨S1x1536x1024, .f32⟩
  | .local _ .vmem, ⟨0, _⟩ => ⟨S1024x768, .f32⟩
  | .local _ .vmem, ⟨1, _⟩ => ⟨S1024x768, .f32⟩
  | .local _ .vmem, ⟨2, _⟩ => ⟨S1024x1024, .bf16⟩
  | .local _ .vmem, ⟨3, _⟩ => ⟨S1024x1024, .bf16⟩
  | .local _ .vmem, ⟨4, _⟩ => ⟨S1x768x1024, .f32⟩
  | .local _ .vmem, ⟨5, _⟩ => ⟨S1x768x1024, .f32⟩
  | .local _ .vmem, ⟨6, _⟩ => ⟨S768x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v14 : BitVec 1 := Scalar.cmpi .eq arg2 c3_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2x2048x1024 : Shape := ⟨3, ![2, 2048, 1024]⟩
abbrev S1024x1536 : Shape := ⟨2, ![1024, 1536]⟩
abbrev S2x2048x1536 : Shape := ⟨3, ![2, 2048, 1536]⟩
abbrev S1x1536x1024 : Shape := ⟨3, ![1, 1536, 1024]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1536, .f32⟩
  | .hbm, ⟨2, _⟩ => ⟨S2x2048x1536, .f32⟩
  | .hbm, ⟨3, _⟩ => ⟨S1x1536x1024, .f32⟩
  | .hbm, ⟨4, _⟩ => ⟨S2x2048x1536, .f32⟩
  | .hbm, ⟨5, _⟩ => ⟨S1536x1024, .f32⟩
  | .hbm, ⟨6, _⟩ => ⟨S1024x1536, .f32⟩
  | .hbm, ⟨7, _⟩ => ⟨S1536x1024, .f32⟩
  | .hbm, ⟨8, _⟩ => ⟨S1x1536x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel19.lean ====
abbrev S2x2048x1024 : Shape := ⟨3, ![2, 2048, 1024]⟩
abbrev S1024x1024 : Shape := ⟨2, ![1024, 1024]⟩
abbrev S1x1024x1024 : Shape := ⟨3, ![1, 1024, 1024]⟩
abbrev S4096x1024 : Shape := ⟨2, ![4096, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1x1024x1024, .f32⟩
  | .hbm, ⟨3, _⟩ => ⟨S1x1024x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S2x2048x256 : Shape := ⟨3, ![2, 2048, 256]⟩
abbrev S256x1024 : Shape := ⟨2, ![256, 1024]⟩
abbrev S1x256x1024 : Shape := ⟨3, ![1, 256, 1024]⟩
abbrev S1x1024x256 : Shape := ⟨3, ![1, 1024, 256]⟩
abbrev S4096x256 : Shape := ⟨2, ![4096, 256]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x256, .f32⟩
  | .hbm, ⟨1, _⟩ => ⟨S256x1024, .f32⟩
  | .hbm, ⟨2, _⟩ => ⟨S1x256x1024, .f32⟩
  | .hbm, ⟨3, _⟩ => ⟨S1x1024x256, .f32⟩
  | .hbm, ⟨4, _⟩ => ⟨S1x1024x256, .bf16⟩
  | .hbm, ⟨5, _⟩ => ⟨S4096x256, .f32⟩
  | .hbm, ⟨6, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S1x1024x256, .bf16⟩
  | .local _ .vmem, ⟨3, _⟩ => ⟨S1024x1024, .f32⟩
  | .local _ .vmem, ⟨4, _⟩ => ⟨S1024x1024, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2x2048x256 : Shape := ⟨3, ![2, 2048, 256]⟩
abbrev S256x1024 : Shape := ⟨2, ![256, 1024]⟩
abbrev S2x2048x1024 : Shape := ⟨3, ![2, 2048, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S256x1024, .f32⟩
  | .hbm, ⟨2, _⟩ => ⟨S2x2048x1024, .f32⟩
  | .hbm, ⟨3, _⟩ => ⟨S4096x1024, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S2x2048x256 : Shape := ⟨3, ![2, 2048, 256]⟩
abbrev S256x1024 : Shape := ⟨2, ![256, 1024]⟩
abbrev S2x2048x1024 : Shape := ⟨3, ![2, 2048, 1024]⟩
abbrev S1x1024x256 : Shape := ⟨3, ![1, 1024, 256]⟩
abbrev S4096x1024 : Shape := ⟨2, ![4096, 1024]⟩
abbrev S4096x256 : Shape := ⟨2, ![4096, 256]⟩
abbrev S1024x1024 : Shape := ⟨2, ![1024, 1024]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x256, .f32⟩
  | .hbm, ⟨1, _⟩ => ⟨S256x1024, .f32⟩
  | .hbm, ⟨2, _⟩ => ⟨S2x2048x1024, .f32⟩
  | .hbm, ⟨3, _⟩ => ⟨S1x1024x256, .f32⟩
  | .hbm, ⟨4, _⟩ => ⟨S4096x1024, .f32⟩
  | .hbm, ⟨5, _⟩ => ⟨S4096x256, .f32⟩
  | .hbm, ⟨6, _⟩ => ⟨S1x1024x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024x256, .f32⟩
  | .local _ .vmem, ⟨5, _⟩ => ⟨S1024x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v15 : BitVec 1 := Scalar.cmpi .eq arg2 c3_i32_6
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S2x2048x256 : Shape := ⟨3, ![2, 2048, 256]⟩
abbrev S256x1024 : Shape := ⟨2, ![256, 1024]⟩
abbrev S2x2048x1024 : Shape := ⟨3, ![2, 2048, 1024]⟩
abbrev S1x1024x256 : Shape := ⟨3, ![1, 1024, 256]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S256x1024, .f32⟩
  | .hbm, ⟨2, _⟩ => ⟨S2x2048x1024, .f32⟩
  | .hbm, ⟨3, _⟩ => ⟨S1x1024x256, .f32⟩
  | .hbm, ⟨4, _⟩ => ⟨S2x2048x1024, .f32⟩
  | .hbm, ⟨5, _⟩ => ⟨S1024x256, .f32⟩
  | .hbm, ⟨6, _⟩ => ⟨S256x1024, .f32⟩
  | .hbm, ⟨7, _⟩ => ⟨S1024x256, .f32⟩
  | .hbm, ⟨8, _⟩ => ⟨S1x1024x256, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel22.lean ====
abbrev S2x2048x1024 : Shape := ⟨3, ![2, 2048, 1024]⟩
abbrev S4096x1024 : Shape := ⟨2, ![4096, 1024]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S2x2048x1024 : Shape := ⟨3, ![2, 2048, 1024]⟩
abbrev S_ : Shape := ⟨0, ![]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S_, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S4096x1024, .f32⟩
  | .hbm, ⟨20, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel23.lean ====
abbrev S2x2048x5632 : Shape := ⟨3, ![2, 2048, 5632]⟩
abbrev S3x5632 : Shape := ⟨2, ![3, 5632]⟩
abbrev S5632 : Shape := ⟨1, ![5632]⟩
abbrev S2x2048x2816 : Shape := ⟨3, ![2, 2048, 2816]⟩
abbrev S1x5632 : Shape := ⟨2, ![1, 5632]⟩
abbrev S8x2816 : Shape := ⟨2, ![8, 2816]⟩
abbrev S1x2048x128 : Shape := ⟨3, ![1, 2048, 128]⟩
abbrev S3x128 : Shape := ⟨2, ![3, 128]⟩
abbrev S1x128 : Shape := ⟨2, ![1, 128]⟩
abbrev S8x128 : Shape := ⟨2, ![8, 128]⟩
abbrev S2048x128 : Shape := ⟨2, ![2048, 128]⟩
abbrev S128 : Shape := ⟨1, ![128]⟩
abbrev S4x128 : Shape := ⟨2, ![4, 128]⟩

abbrev nBuf : Space → Nat
  | .hbm => 9
  | .vmem => 22
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S5632, .f32⟩
  | .hbm, ⟨3, _⟩ => ⟨S2x2048x2816, .f32⟩
  | .hbm, ⟨4, _⟩ => ⟨S1x5632, .f32⟩
  | .hbm, ⟨5, _⟩ => ⟨S2x2048x2816, .f32⟩
  | .hbm, ⟨6, _⟩ => ⟨S2x2048x2816, .f32⟩
  | .hbm, ⟨7, _⟩ => ⟨S8x2816, .f32⟩
  | .hbm, ⟨8, _⟩ => ⟨S8x2816, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![22, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  let c0_i32_0 : BitVec 32 := 0#32
  ![arg1.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference23Ideal.lean ====
abbrev S2x2048x5632 : Shape := ⟨3, ![2, 2048, 5632]⟩
abbrev S3x5632 : Shape := ⟨2, ![3, 5632]⟩
abbrev S5632 : Shape := ⟨1, ![5632]⟩
abbrev S2x2048x2816 : Shape := ⟨3, ![2, 2048, 2816]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S4x5632 : Shape := ⟨2, ![4, 5632]⟩
abbrev S8x5632 : Shape := ⟨2, ![8, 5632]⟩
abbrev S8x2816 : Shape := ⟨2, ![8, 2816]⟩

abbrev nBuf : Space → Nat
  | .hbm => 116
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S5632, .f32⟩
  | .hbm, ⟨3, _⟩ => ⟨S2x2048x2816, .f32⟩
  | .hbm, ⟨4, _⟩ => ⟨S_, .f32⟩
  | .hbm, ⟨5, _⟩ => ⟨S2x2x5632, .f32⟩
  | .hbm, ⟨6, _⟩ => ⟨S2x2050x5632, .f32⟩
  | .hbm, ⟨7, _⟩ => ⟨S_, .f32⟩
  | .hbm, ⟨8, _⟩ => ⟨S2x2x5632, .f32⟩
  | .hbm, ⟨9, _⟩ => ⟨S1x5632, .f32⟩
  | .hbm, ⟨10, _⟩ => ⟨S5632, .f32⟩
  | .hbm, ⟨11, _⟩ => ⟨S2x2048x5632, .f32⟩
  | .hbm, ⟨12, _⟩ => ⟨S1x1x5632, .f32⟩
  | .hbm, ⟨13, _⟩ => ⟨S2x2048x5632, .f32⟩
  | .hbm, ⟨14, _⟩ => ⟨S2x2048x5632, .f32⟩
  | .hbm, ⟨15, _⟩ => ⟨S_, .f32⟩
  | .hbm, ⟨16, _⟩ => ⟨S2x2048x5632, .f32⟩
  | .hbm, ⟨17, _⟩ => ⟨S2x2048x5632, .f32⟩
  | .hbm, ⟨18, _⟩ => ⟨S1x5632, .f32⟩
  | .hbm, ⟨19, _⟩ => ⟨S5632, .f32⟩
  | .hbm, ⟨20, _⟩ => ⟨S2x2048x5632, .f32⟩
  | .hbm, ⟨21, _⟩ => ⟨S1x1x5632, .f32⟩
  | .hbm, ⟨22, _⟩ => ⟨S2x2048x5632, .f32⟩
  | .hbm, ⟨23, _⟩ => ⟨S2x2048x5632, .f32⟩
  | .hbm, ⟨24, _⟩ => ⟨S2x2048x5632, .f32⟩
  | .hbm, ⟨25, _⟩ => ⟨S1x5632, .f32⟩
  | .hbm, ⟨26, _⟩ => ⟨S5632, .f32⟩
  | .hbm, ⟨27, _⟩ => ⟨S2x2048x5632, .f32⟩
  | .hbm, ⟨28, _⟩ => ⟨S1x1x5632, .f32⟩
  | .hbm, ⟨29, _⟩ => ⟨S2x2048x5632, .f32⟩
  | .hbm, ⟨30, _⟩ => ⟨S2x2048x5632, .f32⟩
  | .hbm, ⟨31, _⟩ => ⟨S2x2048x5632, .f32⟩
  | .hbm, ⟨32, _⟩ => ⟨S1x1x5632, .f32⟩
  | .hbm, ⟨33, _⟩ => ⟨S2x2048x5632, .f32⟩
  | .hbm, ⟨34, _⟩ => ⟨S2x2048x5632, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S_, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x5632, .f32⟩
  | .hbm, ⟨58, _⟩ => ⟨S_, .f32⟩
  | .hbm, ⟨59, _⟩ => ⟨S5632, .f32⟩
  | .hbm, ⟨60, _⟩ => ⟨S1x1x5632, .f32⟩
  | .hbm, ⟨61, _⟩ => ⟨S_, .f32⟩
  | .hbm, ⟨62, _⟩ => ⟨S5632, .f32⟩
  | .hbm, ⟨63, _⟩ => ⟨S2x2048x5632, .f32⟩
  | .hbm, ⟨64, _⟩ => ⟨S2x2048x5632, .f32⟩
  | .hbm, ⟨65, _⟩ => ⟨S2x2048x5632, .f32⟩
  | .hbm, ⟨66, _⟩ => ⟨S_, .f32⟩
  | .hbm, ⟨67, _⟩ => ⟨S5632, .f32⟩
  | .hbm, ⟨68, _⟩ => ⟨S1x1x5632, .f32⟩
  | .hbm, ⟨69, _⟩ => ⟨S_, .f32⟩
  | .hbm, ⟨70, _⟩ => ⟨S5632, .f32⟩
  | .hbm, ⟨71, _⟩ => ⟨S_, .f32⟩
  | .hbm, ⟨72, _⟩ => ⟨S2x2050x5632, .f32⟩
  | .hbm, ⟨73, _⟩ => ⟨S1x5632, .f32⟩
  | .hbm, ⟨74, _⟩ => ⟨S_, .f32⟩
  | .hbm, ⟨75, _⟩ => ⟨S3x5632, .f32⟩
  | .hbm, ⟨76, _⟩ => ⟨S2x2048x5632, .f32⟩
  | .hbm, ⟨77, _⟩ => ⟨S2x2048x5632, .f32⟩
  | .hbm, ⟨78, _⟩ => ⟨S2x2048x5632, .f32⟩
  | .hbm, ⟨79, _⟩ => ⟨S_, .f32⟩
  | .hbm, ⟨80, _⟩ => ⟨S5632, .f32⟩
  | .hbm, ⟨81, _⟩ => ⟨S1x1x5632, .f32⟩
  | .hbm, ⟨82, _⟩ => ⟨S_, .f32⟩
  | .hbm, ⟨83, _⟩ => ⟨S5632, .f32⟩
  | .hbm, ⟨84, _⟩ => ⟨S_, .f32⟩
  | .hbm, ⟨85, _⟩ => ⟨S2x2050x5632, .f32⟩
  | .hbm, ⟨86, _⟩ => ⟨S2x2050x5632, .f32⟩
  | .hbm, ⟨87, _⟩ => ⟨S1x5632, .f32⟩
  | .hbm, ⟨88, _⟩ => ⟨S_, .f32⟩
  | .hbm, ⟨89, _⟩ => ⟨S3x5632, .f32⟩
  | .hbm, ⟨90, _⟩ => ⟨S3x5632, .f32⟩
  | .hbm, ⟨91, _⟩ => ⟨S2x2048x5632, .f32⟩
  | .hbm, ⟨92, _⟩ => ⟨S2x2048x5632, .f32⟩
  | .hbm, ⟨93, _⟩ => ⟨S2x2048x5632, .f32⟩
  | .hbm, ⟨94, _⟩ => ⟨S_, .f32⟩
  | .hbm, ⟨95, _⟩ => ⟨S5632, .f32⟩
  | .hbm, ⟨96, _⟩ => ⟨S1x1x5632, .f32⟩
  | .hbm, ⟨97, _⟩ => ⟨S_, .f32⟩
  | .hbm, ⟨98, _⟩ => ⟨S5632, .f32⟩
  | .hbm, ⟨99, _⟩ => ⟨S_, .f32⟩
  | .hbm, ⟨100, _⟩ => ⟨S2x2050x5632, .f32⟩
  | .hbm, ⟨101, _⟩ => ⟨S2x2050x5632, .f32⟩
  | .hbm, ⟨102, _⟩ => ⟨S1x5632, .f32⟩
  | .hbm, ⟨103, _⟩ => ⟨S_, .f32⟩
  | .hbm, ⟨104, _⟩ => ⟨S3x5632, .f32⟩
  | .hbm, ⟨105, _⟩ => ⟨S3x5632, .f32⟩
  | .hbm, ⟨106, _⟩ => ⟨S2x2x5632, .f32⟩
  | .hbm, ⟨107, _⟩ => ⟨S2x2048x5632, .f32⟩
  | .hbm, ⟨108, _⟩ => ⟨S1x5632, .f32⟩
  | .hbm, ⟨109, _⟩ => ⟨S_, .f32⟩
  | .hbm, ⟨110, _⟩ => ⟨S4x5632, .f32⟩
  | .hbm, ⟨111, _⟩ => ⟨S8x5632, .f32⟩
  | .hbm, ⟨112, _⟩ => ⟨S2x2048x2816, .f32⟩
  | .hbm, ⟨113, _⟩ => ⟨S2x2048x2816, .f32⟩
  | .hbm, ⟨114, _⟩ => ⟨S8x2816, .f32⟩
  | .hbm, ⟨115, _⟩ => ⟨S8x2816, .f32⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== Kernel24.lean ====
abbrev S2x2048x5632 : Shape := ⟨3, ![2, 2048, 5632]⟩
abbrev S3x5632 : Shape := ⟨2, ![3, 5632]⟩
abbrev S5632 : Shape := ⟨1, ![5632]⟩
abbrev S1x5632 : Shape := ⟨2, ![1, 5632]⟩
abbrev S2x2048x2816 : Shape := ⟨3, ![2, 2048, 2816]⟩
abbrev S1x2048x256 : Shape := ⟨3, ![1, 2048, 256]⟩
abbrev S3x256 : Shape := ⟨2, ![3, 256]⟩
abbrev S1x256 : Shape := ⟨2, ![1, 256]⟩
abbrev S2048x256 : Shape := ⟨2, ![2048, 256]⟩

abbrev nBuf : Space → Nat
  | .hbm => 5
  | .vmem => 14
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S2x2048x2816, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x2048x256, .bf16⟩
  | .local _ .vmem, ⟨13, _⟩ => ⟨S1x2048x256, .bf16⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![arg1.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S2x2048x5632 : Shape := ⟨3, ![2, 2048, 5632]⟩
abbrev S3x5632 : Shape := ⟨2, ![3, 5632]⟩
abbrev S5632 : Shape := ⟨1, ![5632]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S2x2x5632, .f32⟩
  | .hbm, ⟨5, _⟩ => ⟨S2x2050x5632, .f32⟩
  | .hbm, ⟨6, _⟩ => ⟨S1x5632, .f32⟩
  | .hbm, ⟨7, _⟩ => ⟨S5632, .f32⟩
  | .hbm, ⟨8, _⟩ => ⟨S2x2048x5632, .f32⟩
  | .hbm, ⟨9, _⟩ => ⟨S1x1x5632, .f32⟩
  | .hbm, ⟨10, _⟩ => ⟨S2x2048x5632, .f32⟩
  | .hbm, ⟨11, _⟩ => ⟨S2x2048x5632, .f32⟩
  | .hbm, ⟨12, _⟩ => ⟨S_, .f32⟩
  | .hbm, ⟨13, _⟩ => ⟨S2x2048x5632, .f32⟩
  | .hbm, ⟨14, _⟩ => ⟨S2x2048x5632, .f32⟩
  | .hbm, ⟨15, _⟩ => ⟨S1x5632, .f32⟩
  | .hbm, ⟨16, _⟩ => ⟨S5632, .f32⟩
  | .hbm, ⟨17, _⟩ => ⟨S2x2048x5632, .f32⟩
  | .hbm, ⟨18, _⟩ => ⟨S1x1x5632, .f32⟩
  | .hbm, ⟨19, _⟩ => ⟨S2x2048x5632, .f32⟩
  | .hbm, ⟨20, _⟩ => ⟨S2x2048x5632, .f32⟩
  | .hbm, ⟨21, _⟩ => ⟨S2x2048x5632, .f32⟩
  | .hbm, ⟨22, _⟩ => ⟨S1x5632, .f32⟩
  | .hbm, ⟨23, _⟩ => ⟨S5632, .f32⟩
  | .hbm, ⟨24, _⟩ => ⟨S2x2048x5632, .f32⟩
  | .hbm, ⟨25, _⟩ => ⟨S1x1x5632, .f32⟩
  | .hbm, ⟨26, _⟩ => ⟨S2x2048x5632, .f32⟩
  | .hbm, ⟨27, _⟩ => ⟨S2x2048x5632, .f32⟩
  | .hbm, ⟨28, _⟩ => ⟨S2x2048x5632, .f32⟩
  | .hbm, ⟨29, _⟩ => ⟨S1x1x5632, .f32⟩
  | .hbm, ⟨30, _⟩ => ⟨S2x2048x5632, .f32⟩
  | .hbm, ⟨31, _⟩ => ⟨S2x2048x5632, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .bf16⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel25.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S4x352x1024 : Shape := ⟨3, ![4, 352, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S32x16 : Shape := ⟨2, ![32, 16]⟩

abbrev nBuf : Space → Nat
  | .hbm => 7
  | .vmem => 7
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S32x16, .f32⟩
  | .hbm, ⟨5, _⟩ => ⟨S32x16, .f32⟩
  | .hbm, ⟨6, _⟩ => ⟨S32x16, .f32⟩
  | .local _ .vmem, ⟨0, _⟩ => ⟨S32x16, .f32⟩
  | .local _ .vmem, ⟨1, _⟩ => ⟨S32x16, .f32⟩
  | .local _ .vmem, ⟨2, _⟩ => ⟨S32x16, .f32⟩
  | .local _ .vmem, ⟨3, _⟩ => ⟨S32x16, .f32⟩
  | .local _ .vmem, ⟨4, _⟩ => ⟨S32x16, .f32⟩
  | .local _ .vmem, ⟨5, _⟩ => ⟨S32x16, .f32⟩
  | .local _ .vmem, ⟨6, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S32x16 : Shape := ⟨2, ![32, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S_, .f32⟩
  | .hbm, ⟨5, _⟩ => ⟨S32x16, .f32⟩
  | .hbm, ⟨6, _⟩ => ⟨S32x16, .f32⟩
  | .hbm, ⟨7, _⟩ => ⟨S_, .f32⟩
  | .hbm, ⟨8, _⟩ => ⟨S32x16, .f32⟩
  | .hbm, ⟨9, _⟩ => ⟨S32x16, .f32⟩
  | .hbm, ⟨10, _⟩ => ⟨S32x16, .f32⟩
  | .hbm, ⟨11, _⟩ => ⟨S_, .f32⟩
  | .hbm, ⟨12, _⟩ => ⟨S32x16, .f32⟩
  | .hbm, ⟨13, _⟩ => ⟨S32x16, .f32⟩
  | .hbm, ⟨14, _⟩ => ⟨S32x16, .f32⟩
  | .hbm, ⟨15, _⟩ => ⟨S_, .f32⟩
  | .hbm, ⟨16, _⟩ => ⟨S32x16, .f32⟩
  | .hbm, ⟨17, _⟩ => ⟨S32x16, .f32⟩
  | .hbm, ⟨18, _⟩ => ⟨S32x16, .f32⟩
  | .hbm, ⟨19, _⟩ => ⟨S_, .f32⟩
  | .hbm, ⟨20, _⟩ => ⟨S32x16, .f32⟩
  | .hbm, ⟨21, _⟩ => ⟨S32x16, .f32⟩
  | .hbm, ⟨22, _⟩ => ⟨S_, .f32⟩
  | .hbm, ⟨23, _⟩ => ⟨S32x16, .f32⟩
  | .hbm, ⟨24, _⟩ => ⟨S32x16, .f32⟩
  | .hbm, ⟨25, _⟩ => ⟨S32x16, .f32⟩
  | .hbm, ⟨26, _⟩ => ⟨S_, .f32⟩
  | .hbm, ⟨27, _⟩ => ⟨S32x16, .f32⟩
  | .hbm, ⟨28, _⟩ => ⟨S32x16, .f32⟩
  | .hbm, ⟨29, _⟩ => ⟨S32x16, .f32⟩
  | .hbm, ⟨30, _⟩ => ⟨S_, .f32⟩
  | .hbm, ⟨31, _⟩ => ⟨S32x16, .f32⟩
  | .hbm, ⟨32, _⟩ => ⟨S32x16, .f32⟩
  | .hbm, ⟨33, _⟩ => ⟨S32x16, .f32⟩
  | .hbm, ⟨34, _⟩ => ⟨S_, .f32⟩
  | .hbm, ⟨35, _⟩ => ⟨S32x16, .f32⟩
  | .hbm, ⟨36, _⟩ => ⟨S32x16, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S2x1024x448 : Shape := ⟨3, ![2, 1024, 448]⟩
abbrev S2048x448 : Shape := ⟨2, ![2048, 448]⟩
abbrev S1024x448 : Shape := ⟨2, ![1024, 448]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x448, .f32⟩
  | .hbm, ⟨1, _⟩ => ⟨S2x1024x448, .f32⟩
  | .hbm, ⟨2, _⟩ => ⟨S2x1024x448, .f32⟩
  | .hbm, ⟨3, _⟩ => ⟨S2x1024x448, .f32⟩
  | .hbm, ⟨4, _⟩ => ⟨S2048x448, .f32⟩
  | .hbm, ⟨5, _⟩ => ⟨S2048x448, .f32⟩
  | .hbm, ⟨6, _⟩ => ⟨S2048x448, .f32⟩
  | .hbm, ⟨7, _⟩ => ⟨S2048x448, .f32⟩
  | .hbm, ⟨8, _⟩ => ⟨S2048x448, .f32⟩
  | .hbm, ⟨9, _⟩ => ⟨S2048x448, .f32⟩
  | .hbm, ⟨10, _⟩ => ⟨S2048x448, .f32⟩
  | .local _ .vmem, ⟨0, _⟩ => ⟨S1024x448, .f32⟩
  | .local _ .vmem, ⟨1, _⟩ => ⟨S1024x448, .f32⟩
  | .local _ .vmem, ⟨2, _⟩ => ⟨S1024x448, .f32⟩
  | .local _ .vmem, ⟨3, _⟩ => ⟨S1024x448, .f32⟩
  | .local _ .vmem, ⟨4, _⟩ => ⟨S1024x448, .f32⟩
  | .local _ .vmem, ⟨5, _⟩ => ⟨S1024x448, .f32⟩
  | .local _ .vmem, ⟨6, _⟩ => ⟨S1024x448, .f32⟩
  | .local _ .vmem, ⟨7, _⟩ => ⟨S1024x448, .f32⟩
  | .local _ .vmem, ⟨8, _⟩ => ⟨S1024x448, .f32⟩
  | .local _ .vmem, ⟨9, _⟩ => ⟨S1024x448, .f32⟩
  | .local _ .vmem, ⟨10, _⟩ => ⟨S1024x448, .f32⟩
  | .local _ .vmem, ⟨11, _⟩ => ⟨S1024x448, .f32⟩
  | .local _ .vmem, ⟨12, _⟩ => ⟨S1024x448, .f32⟩
  | .local _ .vmem, ⟨13, _⟩ => ⟨S1024x448, .f32⟩
  | _, _ => ⟨S2x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S2x1024x448 : Shape := ⟨3, ![2, 1024, 448]⟩
abbrev S_ : Shape := ⟨0, ![]⟩
abbrev S2048x448 : Shape := ⟨2, ![2048, 448]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x448, .f32⟩
  | .hbm, ⟨1, _⟩ => ⟨S2x1024x448, .f32⟩
  | .hbm, ⟨2, _⟩ => ⟨S2x1024x448, .f32⟩
  | .hbm, ⟨3, _⟩ => ⟨S2x1024x448, .f32⟩
  | .hbm, ⟨4, _⟩ => ⟨S_, .f32⟩
  | .hbm, ⟨5, _⟩ => ⟨S2x1024x448, .f32⟩
  | .hbm, ⟨6, _⟩ => ⟨S2x1024x448, .f32⟩
  | .hbm, ⟨7, _⟩ => ⟨S_, .f32⟩
  | .hbm, ⟨8, _⟩ => ⟨S2x1024x448, .f32⟩
  | .hbm, ⟨9, _⟩ => ⟨S2x1024x448, .f32⟩
  | .hbm, ⟨10, _⟩ => ⟨S2x1024x448, .f32⟩
  | .hbm, ⟨11, _⟩ => ⟨S_, .f32⟩
  | .hbm, ⟨12, _⟩ => ⟨S2x1024x448, .f32⟩
  | .hbm, ⟨13, _⟩ => ⟨S2x1024x448, .f32⟩
  | .hbm, ⟨14, _⟩ => ⟨S2x1024x448, .f32⟩
  | .hbm, ⟨15, _⟩ => ⟨S_, .f32⟩
  | .hbm, ⟨16, _⟩ => ⟨S2x1024x448, .f32⟩
  | .hbm, ⟨17, _⟩ => ⟨S2x1024x448, .f32⟩
  | .hbm, ⟨18, _⟩ => ⟨S2x1024x448, .f32⟩
  | .hbm, ⟨19, _⟩ => ⟨S_, .f32⟩
  | .hbm, ⟨20, _⟩ => ⟨S2x1024x448, .f32⟩
  | .hbm, ⟨21, _⟩ => ⟨S2x1024x448, .f32⟩
  | .hbm, ⟨22, _⟩ => ⟨S_, .f32⟩
  | .hbm, ⟨23, _⟩ => ⟨S2x1024x448, .f32⟩
  | .hbm, ⟨24, _⟩ => ⟨S2x1024x448, .f32⟩
  | .hbm, ⟨25, _⟩ => ⟨S2x1024x448, .f32⟩
  | .hbm, ⟨26, _⟩ => ⟨S_, .f32⟩
  | .hbm, ⟨27, _⟩ => ⟨S2x1024x448, .f32⟩
  | .hbm, ⟨28, _⟩ => ⟨S2x1024x448, .f32⟩
  | .hbm, ⟨29, _⟩ => ⟨S2x1024x448, .f32⟩
  | .hbm, ⟨30, _⟩ => ⟨S_, .f32⟩
  | .hbm, ⟨31, _⟩ => ⟨S2x1024x448, .f32⟩
  | .hbm, ⟨32, _⟩ => ⟨S2x1024x448, .f32⟩
  | .hbm, ⟨33, _⟩ => ⟨S2x1024x448, .f32⟩
  | .hbm, ⟨34, _⟩ => ⟨S_, .f32⟩
  | .hbm, ⟨35, _⟩ => ⟨S2x1024x448, .f32⟩
  | .hbm, ⟨36, _⟩ => ⟨S2x1024x448, .f32⟩
  | .hbm, ⟨37, _⟩ => ⟨S2048x448, .f32⟩
  | .hbm, ⟨38, _⟩ => ⟨S2048x448, .f32⟩
  | .hbm, ⟨39, _⟩ => ⟨S2048x448, .f32⟩
  | _, _ => ⟨S2x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel34.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel35.lean ====
abbrev S2x1024x192 : Shape := ⟨3, ![2, 1024, 192]⟩
abbrev S2048x192 : Shape := ⟨2, ![2048, 192]⟩

abbrev nBuf : Space → Nat
  | .hbm => 11
  | .vmem => 7
  | .smem => 0
  | _ => 0

abbrev bufTy : (tb : Table) → Fin (tcTables nBuf tb) → BufTy
  | .hbm, ⟨0, _⟩ => ⟨S2x1024x192, .f32⟩
  | .hbm, ⟨1, _⟩ => ⟨S2x1024x192, .f32⟩
  | .hbm, ⟨2, _⟩ => ⟨S2x1024x192, .f32⟩
  | .hbm, ⟨3, _⟩ => ⟨S2x1024x192, .f32⟩
  | .hbm, ⟨4, _⟩ => ⟨S2048x192, .f32⟩
  | .hbm, ⟨5, _⟩ => ⟨S2048x192, .f32⟩
  | .hbm, ⟨6, _⟩ => ⟨S2048x192, .f32⟩
  | .hbm, ⟨7, _⟩ => ⟨S2048x192, .f32⟩
  | .hbm, ⟨8, _⟩ => ⟨S2048x192, .f32⟩
  | .hbm, ⟨9, _⟩ => ⟨S2048x192, .f32⟩
  | .hbm, ⟨10, _⟩ => ⟨S2048x192, .f32⟩
  | .local _ .vmem, ⟨0, _⟩ => ⟨S2048x192, .f32⟩
  | .local _ .vmem, ⟨1, _⟩ => ⟨S2048x192, .f32⟩
  | .local _ .vmem, ⟨2, _⟩ => ⟨S2048x192, .f32⟩
  | .local _ .vmem, ⟨3, _⟩ => ⟨S2048x192, .f32⟩
  | .local _ .vmem, ⟨4, _⟩ => ⟨S2048x192, .f32⟩
  | .local _ .vmem, ⟨5, _⟩ => ⟨S2048x192, .f32⟩
  | .local _ .vmem, ⟨6, _⟩ => ⟨S2048x192, .f32⟩
  | _, _ => ⟨S2x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S2x1024x192 : Shape := ⟨3, ![2, 1024, 192]⟩
abbrev S_ : Shape := ⟨0, ![]⟩
abbrev S2048x192 : Shape := ⟨2, ![2048, 192]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x192, .f32⟩
  | .hbm, ⟨1, _⟩ => ⟨S2x1024x192, .f32⟩
  | .hbm, ⟨2, _⟩ => ⟨S2x1024x192, .f32⟩
  | .hbm, ⟨3, _⟩ => ⟨S2x1024x192, .f32⟩
  | .hbm, ⟨4, _⟩ => ⟨S_, .f32⟩
  | .hbm, ⟨5, _⟩ => ⟨S2x1024x192, .f32⟩
  | .hbm, ⟨6, _⟩ => ⟨S2x1024x192, .f32⟩
  | .hbm, ⟨7, _⟩ => ⟨S_, .f32⟩
  | .hbm, ⟨8, _⟩ => ⟨S2x1024x192, .f32⟩
  | .hbm, ⟨9, _⟩ => ⟨S2x1024x192, .f32⟩
  | .hbm, ⟨10, _⟩ => ⟨S2x1024x192, .f32⟩
  | .hbm, ⟨11, _⟩ => ⟨S_, .f32⟩
  | .hbm, ⟨12, _⟩ => ⟨S2x1024x192, .f32⟩
  | .hbm, ⟨13, _⟩ => ⟨S2x1024x192, .f32⟩
  | .hbm, ⟨14, _⟩ => ⟨S2x1024x192, .f32⟩
  | .hbm, ⟨15, _⟩ => ⟨S_, .f32⟩
  | .hbm, ⟨16, _⟩ => ⟨S2x1024x192, .f32⟩
  | .hbm, ⟨17, _⟩ => ⟨S2x1024x192, .f32⟩
  | .hbm, ⟨18, _⟩ => ⟨S2x1024x192, .f32⟩
  | .hbm, ⟨19, _⟩ => ⟨S_, .f32⟩
  | .hbm, ⟨20, _⟩ => ⟨S2x1024x192, .f32⟩
  | .hbm, ⟨21, _⟩ => ⟨S2x1024x192, .f32⟩
  | .hbm, ⟨22, _⟩ => ⟨S_, .f32⟩
  | .hbm, ⟨23, _⟩ => ⟨S2x1024x192, .f32⟩
  | .hbm, ⟨24, _⟩ => ⟨S2x1024x192, .f32⟩
  | .hbm, ⟨25, _⟩ => ⟨S2x1024x192, .f32⟩
  | .hbm, ⟨26, _⟩ => ⟨S_, .f32⟩
  | .hbm, ⟨27, _⟩ => ⟨S2x1024x192, .f32⟩
  | .hbm, ⟨28, _⟩ => ⟨S2x1024x192, .f32⟩
  | .hbm, ⟨29, _⟩ => ⟨S2x1024x192, .f32⟩
  | .hbm, ⟨30, _⟩ => ⟨S_, .f32⟩
  | .hbm, ⟨31, _⟩ => ⟨S2x1024x192, .f32⟩
  | .hbm, ⟨32, _⟩ => ⟨S2x1024x192, .f32⟩
  | .hbm, ⟨33, _⟩ => ⟨S2x1024x192, .f32⟩
  | .hbm, ⟨34, _⟩ => ⟨S_, .f32⟩
  | .hbm, ⟨35, _⟩ => ⟨S2x1024x192, .f32⟩
  | .hbm, ⟨36, _⟩ => ⟨S2x1024x192, .f32⟩
  | .hbm, ⟨37, _⟩ => ⟨S2048x192, .f32⟩
  | .hbm, ⟨38, _⟩ => ⟨S2048x192, .f32⟩
  | .hbm, ⟨39, _⟩ => ⟨S2048x192, .f32⟩
  | _, _ => ⟨S2x1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel36.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference36Ideal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel37.lean ====
abbrev S4x3x704 : Shape := ⟨3, ![4, 3, 704]⟩
abbrev S12x704 : Shape := ⟨2, ![12, 704]⟩

abbrev nBuf : Space → Nat
  | .hbm => 11
  | .vmem => 7
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S12x704, .f32⟩
  | .hbm, ⟨5, _⟩ => ⟨S12x704, .f32⟩
  | .hbm, ⟨6, _⟩ => ⟨S12x704, .f32⟩
  | .hbm, ⟨7, _⟩ => ⟨S12x704, .f32⟩
  | .hbm, ⟨8, _⟩ => ⟨S12x704, .f32⟩
  | .hbm, ⟨9, _⟩ => ⟨S12x704, .f32⟩
  | .hbm, ⟨10, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S4x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference37Ideal.lean ====
abbrev S4x3x704 : Shape := ⟨3, ![4, 3, 704]⟩
abbrev S_ : Shape := ⟨0, ![]⟩
abbrev S12x704 : Shape := ⟨2, ![12, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S_, .f32⟩
  | .hbm, ⟨5, _⟩ => ⟨S4x3x704, .f32⟩
  | .hbm, ⟨6, _⟩ => ⟨S4x3x704, .f32⟩
  | .hbm, ⟨7, _⟩ => ⟨S_, .f32⟩
  | .hbm, ⟨8, _⟩ => ⟨S4x3x704, .f32⟩
  | .hbm, ⟨9, _⟩ => ⟨S4x3x704, .f32⟩
  | .hbm, ⟨10, _⟩ => ⟨S4x3x704, .f32⟩
  | .hbm, ⟨11, _⟩ => ⟨S_, .f32⟩
  | .hbm, ⟨12, _⟩ => ⟨S4x3x704, .f32⟩
  | .hbm, ⟨13, _⟩ => ⟨S4x3x704, .f32⟩
  | .hbm, ⟨14, _⟩ => ⟨S4x3x704, .f32⟩
  | .hbm, ⟨15, _⟩ => ⟨S_, .f32⟩
  | .hbm, ⟨16, _⟩ => ⟨S4x3x704, .f32⟩
  | .hbm, ⟨17, _⟩ => ⟨S4x3x704, .f32⟩
  | .hbm, ⟨18, _⟩ => ⟨S4x3x704, .f32⟩
  | .hbm, ⟨19, _⟩ => ⟨S_, .f32⟩
  | .hbm, ⟨20, _⟩ => ⟨S4x3x704, .f32⟩
  | .hbm, ⟨21, _⟩ => ⟨S4x3x704, .f32⟩
  | .hbm, ⟨22, _⟩ => ⟨S_, .f32⟩
  | .hbm, ⟨23, _⟩ => ⟨S4x3x704, .f32⟩
  | .hbm, ⟨24, _⟩ => ⟨S4x3x704, .f32⟩
  | .hbm, ⟨25, _⟩ => ⟨S4x3x704, .f32⟩
  | .hbm, ⟨26, _⟩ => ⟨S_, .f32⟩
  | .hbm, ⟨27, _⟩ => ⟨S4x3x704, .f32⟩
  | .hbm, ⟨28, _⟩ => ⟨S4x3x704, .f32⟩
  | .hbm, ⟨29, _⟩ => ⟨S4x3x704, .f32⟩
  | .hbm, ⟨30, _⟩ => ⟨S_, .f32⟩
  | .hbm, ⟨31, _⟩ => ⟨S4x3x704, .f32⟩
  | .hbm, ⟨32, _⟩ => ⟨S4x3x704, .f32⟩
  | .hbm, ⟨33, _⟩ => ⟨S4x3x704, .f32⟩
  | .hbm, ⟨34, _⟩ => ⟨S_, .f32⟩
  | .hbm, ⟨35, _⟩ => ⟨S4x3x704, .f32⟩
  | .hbm, ⟨36, _⟩ => ⟨S4x3x704, .f32⟩
  | .hbm, ⟨37, _⟩ => ⟨S12x704, .f32⟩
  | .hbm, ⟨38, _⟩ => ⟨S12x704, .f32⟩
  | .hbm, ⟨39, _⟩ => ⟨S12x704, .f32⟩
  | _, _ => ⟨S4x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel38.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference38Ideal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel39.lean ====
abbrev S4x256x128 : Shape := ⟨3, ![4, 256, 128]⟩
abbrev S1024x128 : Shape := ⟨2, ![1024, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x256x128, .f32⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference39Ideal.lean ====
abbrev S4x256x128 : Shape := ⟨3, ![4, 256, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x256x128, .f32⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S_, .f32⟩
  | .hbm, ⟨5, _⟩ => ⟨S4x256x128, .f32⟩
  | .hbm, ⟨6, _⟩ => ⟨S4x256x128, .f32⟩
  | .hbm, ⟨7, _⟩ => ⟨S_, .f32⟩
  | .hbm, ⟨8, _⟩ => ⟨S4x256x128, .f32⟩
  | .hbm, ⟨9, _⟩ => ⟨S4x256x128, .f32⟩
  | .hbm, ⟨10, _⟩ => ⟨S4x256x128, .f32⟩
  | .hbm, ⟨11, _⟩ => ⟨S_, .f32⟩
  | .hbm, ⟨12, _⟩ => ⟨S4x256x128, .f32⟩
  | .hbm, ⟨13, _⟩ => ⟨S4x256x128, .f32⟩
  | .hbm, ⟨14, _⟩ => ⟨S4x256x128, .f32⟩
  | .hbm, ⟨15, _⟩ => ⟨S_, .f32⟩
  | .hbm, ⟨16, _⟩ => ⟨S4x256x128, .f32⟩
  | .hbm, ⟨17, _⟩ => ⟨S4x256x128, .f32⟩
  | .hbm, ⟨18, _⟩ => ⟨S4x256x128, .f32⟩
  | .hbm, ⟨19, _⟩ => ⟨S_, .f32⟩
  | .hbm, ⟨20, _⟩ => ⟨S4x256x128, .f32⟩
  | .hbm, ⟨21, _⟩ => ⟨S4x256x128, .f32⟩
  | .hbm, ⟨22, _⟩ => ⟨S_, .f32⟩
  | .hbm, ⟨23, _⟩ => ⟨S4x256x128, .f32⟩
  | .hbm, ⟨24, _⟩ => ⟨S4x256x128, .f32⟩
  | .hbm, ⟨25, _⟩ => ⟨S4x256x128, .f32⟩
  | .hbm, ⟨26, _⟩ => ⟨S_, .f32⟩
  | .hbm, ⟨27, _⟩ => ⟨S4x256x128, .f32⟩
  | .hbm, ⟨28, _⟩ => ⟨S4x256x128, .f32⟩
  | .hbm, ⟨29, _⟩ => ⟨S4x256x128, .f32⟩
  | .hbm, ⟨30, _⟩ => ⟨S_, .f32⟩
  | .hbm, ⟨31, _⟩ => ⟨S4x256x128, .f32⟩
  | .hbm, ⟨32, _⟩ => ⟨S4x256x128, .f32⟩
  | .hbm, ⟨33, _⟩ => ⟨S4x256x128, .f32⟩
  | .hbm, ⟨34, _⟩ => ⟨S_, .f32⟩
  | .hbm, ⟨35, _⟩ => ⟨S4x256x128, .f32⟩
  | .hbm, ⟨36, _⟩ => ⟨S4x256x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel40.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference40Ideal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S2x2048x1024, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1, .f32⟩
  | .hbm, ⟨40, _⟩ => ⟨S_, .f32⟩
  | .hbm, ⟨41, _⟩ => ⟨S2x2048x1, .f32⟩
  | .hbm, ⟨42, _⟩ => ⟨S2x2048x1, .f32⟩
  | .hbm, ⟨43, _⟩ => ⟨S_, .f32⟩
  | .hbm, ⟨44, _⟩ => ⟨S2x2048, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S4096x1024, .f32⟩
  | .hbm, ⟨51, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.SwaPoints.lean ====
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.WordCmp
public import Idealize.ShloMosaic.Lib.Tactic

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The grid: point `32 h + 16 b + n` works on key head `h`, sequence `b` and block `n` of 128 rows. -/

/-- Block `n` is the first of its sequence, as the body tests it. -/
abbrev cond1 (i : grid0.Coords) : Prop :=
  (Scalar.cmpi .ne (Scalar.extui (Scalar.cmpi .eq (BitVec.ofNat 32 (i 2).val) 0#32)) 0#32) = 1#1
/-- Block `n` is the first of the first sequence, as the body tests it. -/
abbrev cond2 (i : grid0.Coords) : Prop :=
  (Scalar.cmpi .ne (Scalar.extui (Scalar.andi (Scalar.cmpi .eq (BitVec.ofNat 32 (i 2).val) 0#32)
    (Scalar.cmpi .eq (BitVec.ofNat 32 (i 1).val) 0#32))) 0#32) = 1#1

theorem cond1_iff (i : grid0.Coords) : cond1 i ↔ (i 2).val = 0 := by
  have h : ∀ n : Fin 16, ((Scalar.cmpi .ne (Scalar.extui (Scalar.cmpi .eq (BitVec.ofNat 32 n.val) 0#32)) 0#32) = 1#1) ↔ n.val = 0 := by
    decide
  exact h (i 2)
theorem cond2_iff (i : grid0.Coords) : cond2 i ↔ (i 2).val = 0 ∧ (i 1).val = 0 := by
  have h : ∀ (n : Fin 16) (b : Fin 2), ((Scalar.cmpi .ne (Scalar.extui (Scalar.andi (Scalar.cmpi .eq (BitVec.ofNat 32 n.val) 0#32)
      (Scalar.cmpi .eq (BitVec.ofNat 32 b.val) 0#32))) 0#32) = 1#1) ↔ n.val = 0 ∧ b.val = 0 := by
    decide
  exact h (i 2) (i 1)
theorem cond3_iff (i : grid0.Coords) : k0_cond3 i = 1#1 ↔ 0 < (i 2).val := by
  have h : ∀ n : Fin 16, ((Scalar.cmpi .ne (Scalar.extui (Scalar.cmpi .sgt (BitVec.ofNat 32 n.val) 0#32)) 0#32) = 1#1) ↔ 0 < n.val := by
    decide
  exact h (i 2)

/-- The first row of the block before block `n` (32 bits of a word wrap at the first block, where the rows are not read). -/
theorem off3_eq (i : grid0.Coords) : k0_off3 i = ![0, 0, (128 * ((i 2).val + 33554431)) % 4294967296, 0] := by
  have h : ∀ n : Fin 16, (Scalar.indexCast (Scalar.muli (Scalar.subi (BitVec.ofNat 32 n.val) 1#32) 128#32) : Index).toNat
      = (128 * (n.val + 33554431)) % 4294967296 := by decide
  unfold k0_off3
  simp only [h (i 2)]

instance (i : grid0.Coords) : ClosedOff (k0_off2 i) := ⟨![0, 0, 128 * (i 2).val, 0], k0_off2_eq i⟩
instance (i : grid0.Coords) : ClosedOff (k0_off3 i) := ⟨![0, 0, (128 * ((i 2).val + 33554431)) % 4294967296, 0], off3_eq i⟩

end Cert.KernelIdeal.Swa

end
-- ==== Proof.SwaRunA.lean ====
module

public import proofs.«01_k».proof.Proof.SwaPoints

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first block of the first sequence of a key head: all four accumulators are zeroed. The
    lists are the rectangles it stores in each output's staging buffer, last first, found by running it. -/
noncomputable def runA (c : Dev nD) (i : grid0.Coords) (a0 : Memref sig .tc .vmem S1x1x4x128x64 .f32) (h0 : a0.IsWhole) (a1 : Memref sig .tc .vmem S1x1x128x64 .f32) (h1 : a1.IsWhole) (a2 : Memref sig .tc .vmem S1x1x128x64 .f32) (h2 : a2.IsWhole) (a3 : Memref sig .tc .vmem S1x1x128x64 .f32) (h3 : a3.IsWhole) (a4 : Memref sig .tc .vmem S1x1x128x64 .f32) (h4 : a4.IsWhole) (a5 : Memref sig .tc .vmem S1x4x128x256 .f32) (h5 : a5.IsWhole) (a6 : Memref sig .tc .smem S16 .f32) (h6 : a6.IsWhole) (a7 : Memref sig .tc .vmem S1x1x4x128x64 .f32) (h7 : a7.IsWhole) (a8 : Memref sig .tc .vmem S1x1x4x128x64 .f32) (h8 : a8.IsWhole) (a9 : Memref sig .tc .vmem S1x1x2048x64 .f32) (h9 : a9.IsWhole) (a10 : Memref sig .tc .vmem S1x1x2048x64 .f32) (h10 : a10.IsWhole) (a11 : Memref sig .tc .vmem S1x4x128x256 .f32) (h11 : a11.IsWhole) (a12 : Memref sig .tc .vmem S1x4x128 .f32) (h12 : a12.IsWhole)
    (hc1 : cond1 i) (hc2 : cond2 i) (hc3 : ¬k0_cond3 i = 1#1)
    (x0 : Vec F S1x1x4x128x64 .f32) (x1 : Vec F S1x1x128x64 .f32) (x2 : Vec F S1x1x128x64 .f32) (x3 : Vec F S1x1x128x64 .f32) (x4 : Vec F S1x1x128x64 .f32) (x5 : Vec F S1x4x128x256 .f32) (x6 : Vec F S16 .f32) (x7 : Vec F S1x1x4x128x64 .f32) :
    Σ' (L8 : List (View.Piece (Elt F) S1x1x4x128x64 .f32)), Σ' (L9 : List (View.Piece (Elt F) S1x1x2048x64 .f32)), Σ' (L10 : List (View.Piece (Elt F) S1x1x2048x64 .f32)), Σ' (L11 : List (View.Piece (Elt F) S1x4x128x256 .f32)), { L12 : List (View.Piece (Elt F) S1x4x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12)) -∗ K ⟨⟩))
          ⊢ wp frame (wpE (defs₀ (F := F)) Variants.none c none) E (cc0_swa_b i a0 h0 a1 h1 a2 h2 a3 h3 a4 h4 a5 h5 a6 h6 a7 h7 a8 h8 a9 h9 a10 h10 a11 h11 a12 h12) K } := by
  refine ⟨?_, ?_, ?_, ?_, ?_, fun E K => ?run⟩
  case run =>
    simp only [cc0_swa_b_eq_skeleton]; unfold cc0_swa_b_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | sl_exact hc1 | sl_exact hc2 | sl_exact hc3)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexists _; iexact H11
    iexists _; iexact H12

end Cert.KernelIdeal.Swa

end
-- ==== Proof.SwaRunB.lean ====
module

public import proofs.«01_k».proof.Proof.SwaRunA

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first block of a later sequence: the gradients of keys and values are zeroed, the head's two others go on. The
    lists are the rectangles it stores in each output's staging buffer, last first, found by running it. -/
noncomputable def runB (c : Dev nD) (i : grid0.Coords) (a0 : Memref sig .tc .vmem S1x1x4x128x64 .f32) (h0 : a0.IsWhole) (a1 : Memref sig .tc .vmem S1x1x128x64 .f32) (h1 : a1.IsWhole) (a2 : Memref sig .tc .vmem S1x1x128x64 .f32) (h2 : a2.IsWhole) (a3 : Memref sig .tc .vmem S1x1x128x64 .f32) (h3 : a3.IsWhole) (a4 : Memref sig .tc .vmem S1x1x128x64 .f32) (h4 : a4.IsWhole) (a5 : Memref sig .tc .vmem S1x4x128x256 .f32) (h5 : a5.IsWhole) (a6 : Memref sig .tc .smem S16 .f32) (h6 : a6.IsWhole) (a7 : Memref sig .tc .vmem S1x1x4x128x64 .f32) (h7 : a7.IsWhole) (a8 : Memref sig .tc .vmem S1x1x4x128x64 .f32) (h8 : a8.IsWhole) (a9 : Memref sig .tc .vmem S1x1x2048x64 .f32) (h9 : a9.IsWhole) (a10 : Memref sig .tc .vmem S1x1x2048x64 .f32) (h10 : a10.IsWhole) (a11 : Memref sig .tc .vmem S1x4x128x256 .f32) (h11 : a11.IsWhole) (a12 : Memref sig .tc .vmem S1x4x128 .f32) (h12 : a12.IsWhole)
    (hc1 : cond1 i) (hc2 : ¬cond2 i) (hc3 : ¬k0_cond3 i = 1#1)
    (x0 : Vec F S1x1x4x128x64 .f32) (x1 : Vec F S1x1x128x64 .f32) (x2 : Vec F S1x1x128x64 .f32) (x3 : Vec F S1x1x128x64 .f32) (x4 : Vec F S1x1x128x64 .f32) (x5 : Vec F S1x4x128x256 .f32) (x6 : Vec F S16 .f32) (x7 : Vec F S1x1x4x128x64 .f32) (x11 : Vec F S1x4x128x256 .f32) (x12 : Vec F S1x4x128 .f32) :
    Σ' (L8 : List (View.Piece (Elt F) S1x1x4x128x64 .f32)), Σ' (L9 : List (View.Piece (Elt F) S1x1x2048x64 .f32)), Σ' (L10 : List (View.Piece (Elt F) S1x1x2048x64 .f32)), Σ' (L11 : List (View.Piece (Elt F) S1x4x128x256 .f32)), { L12 : List (View.Piece (Elt F) S1x4x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ owns (c : Thread nD τ) a11 fullShare x11 ∗ owns (c : Thread nD τ) a12 fullShare x12
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (a11.view.loc (c : Thread nD τ) ↦[a11.view.set]{fullShare} a11.view.writes (Elt F) (h11.unread x11) L11) ∗ (a12.view.loc (c : Thread nD τ) ↦[a12.view.set]{fullShare} a12.view.writes (Elt F) (h12.unread x12) L12)) -∗ K ⟨⟩))
          ⊢ wp frame (wpE (defs₀ (F := F)) Variants.none c none) E (cc0_swa_b i a0 h0 a1 h1 a2 h2 a3 h3 a4 h4 a5 h5 a6 h6 a7 h7 a8 h8 a9 h9 a10 h10 a11 h11 a12 h12) K } := by
  refine ⟨?_, ?_, ?_, ?_, ?_, fun E K => ?run⟩
  case run =>
    simp only [cc0_swa_b_eq_skeleton]; unfold cc0_swa_b_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h11.eq_unread hf11; obtain rfl := h12.eq_unread hf12
    sl_exec (disch := first | sl_exact hc1 | sl_exact hc2 | sl_exact hc3)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    isplitl [H11]; · iexact H11
    iexact H12

end Cert.KernelIdeal.Swa

end
-- ==== Proof.SwaRunC.lean ====
module

public import proofs.«01_k».proof.Proof.SwaRunB

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the a later block of a sequence: every accumulator goes on. The
    lists are the rectangles it stores in each output's staging buffer, last first, found by running it. -/
noncomputable def runC (c : Dev nD) (i : grid0.Coords) (a0 : Memref sig .tc .vmem S1x1x4x128x64 .f32) (h0 : a0.IsWhole) (a1 : Memref sig .tc .vmem S1x1x128x64 .f32) (h1 : a1.IsWhole) (a2 : Memref sig .tc .vmem S1x1x128x64 .f32) (h2 : a2.IsWhole) (a3 : Memref sig .tc .vmem S1x1x128x64 .f32) (h3 : a3.IsWhole) (a4 : Memref sig .tc .vmem S1x1x128x64 .f32) (h4 : a4.IsWhole) (a5 : Memref sig .tc .vmem S1x4x128x256 .f32) (h5 : a5.IsWhole) (a6 : Memref sig .tc .smem S16 .f32) (h6 : a6.IsWhole) (a7 : Memref sig .tc .vmem S1x1x4x128x64 .f32) (h7 : a7.IsWhole) (a8 : Memref sig .tc .vmem S1x1x4x128x64 .f32) (h8 : a8.IsWhole) (a9 : Memref sig .tc .vmem S1x1x2048x64 .f32) (h9 : a9.IsWhole) (a10 : Memref sig .tc .vmem S1x1x2048x64 .f32) (h10 : a10.IsWhole) (a11 : Memref sig .tc .vmem S1x4x128x256 .f32) (h11 : a11.IsWhole) (a12 : Memref sig .tc .vmem S1x4x128 .f32) (h12 : a12.IsWhole)
    (hc1 : ¬cond1 i) (hc2 : ¬cond2 i) (hc3 : k0_cond3 i = 1#1)
    (x0 : Vec F S1x1x4x128x64 .f32) (x1 : Vec F S1x1x128x64 .f32) (x2 : Vec F S1x1x128x64 .f32) (x3 : Vec F S1x1x128x64 .f32) (x4 : Vec F S1x1x128x64 .f32) (x5 : Vec F S1x4x128x256 .f32) (x6 : Vec F S16 .f32) (x7 : Vec F S1x1x4x128x64 .f32) (x9 : Vec F S1x1x2048x64 .f32) (x10 : Vec F S1x1x2048x64 .f32) (x11 : Vec F S1x4x128x256 .f32) (x12 : Vec F S1x4x128 .f32) :
    Σ' (L8 : List (View.Piece (Elt F) S1x1x4x128x64 .f32)), Σ' (L9 : List (View.Piece (Elt F) S1x1x2048x64 .f32)), Σ' (L10 : List (View.Piece (Elt F) S1x1x2048x64 .f32)), Σ' (L11 : List (View.Piece (Elt F) S1x4x128x256 .f32)), { L12 : List (View.Piece (Elt F) S1x4x128 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare x9 ∗ owns (c : Thread nD τ) a10 fullShare x10 ∗ owns (c : Thread nD τ) a11 fullShare x11 ∗ owns (c : Thread nD τ) a12 fullShare x12
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (a9.view.loc (c : Thread nD τ) ↦[a9.view.set]{fullShare} a9.view.writes (Elt F) (h9.unread x9) L9) ∗ (a10.view.loc (c : Thread nD τ) ↦[a10.view.set]{fullShare} a10.view.writes (Elt F) (h10.unread x10) L10) ∗ (a11.view.loc (c : Thread nD τ) ↦[a11.view.set]{fullShare} a11.view.writes (Elt F) (h11.unread x11) L11) ∗ (a12.view.loc (c : Thread nD τ) ↦[a12.view.set]{fullShare} a12.view.writes (Elt F) (h12.unread x12) L12)) -∗ K ⟨⟩))
          ⊢ wp frame (wpE (defs₀ (F := F)) Variants.none c none) E (cc0_swa_b i a0 h0 a1 h1 a2 h2 a3 h3 a4 h4 a5 h5 a6 h6 a7 h7 a8 h8 a9 h9 a10 h10 a11 h11 a12 h12) K } := by
  refine ⟨?_, ?_, ?_, ?_, ?_, fun E K => ?run⟩
  case run =>
    simp only [cc0_swa_b_eq_skeleton]; unfold cc0_swa_b_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h9.eq_unread hf9; obtain rfl := h10.eq_unread hf10; obtain rfl := h11.eq_unread hf11; obtain rfl := h12.eq_unread hf12
    sl_exec (disch := first | sl_exact hc1 | sl_exact hc2 | sl_exact hc3)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexact H9
    isplitl [H10]; · iexact H10
    isplitl [H11]; · iexact H11
    iexact H12

end Cert.KernelIdeal.Swa

end
-- ==== Proof.SwaHead.lean ====
module

public import proofs.«01_k».proof.Proof.SwaPoints
public import Idealize.ShloMosaic.Lib.VecWindow
public import Idealize.ShloMosaic.Lib.WholeRead
public import Idealize.ShloMosaic.Lib.WritesUnit
public import Idealize.ShloMosaic.Lib.ValueIdxCore

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic

variable {F : FTy → Type} [FloatOps F]

/-! # What one grid point computes, as functions of the blocks it reads -/

/-- The blocks that the body reads at a point: queries of a key head's four heads, the keys and the values of the block
    before and of the block, the heads' bias table, all sinks, and the gradient of the output. -/
structure Blk (F : FTy → Type) where
  q : Vec F S1x1x4x128x64 .f32
  kp : Vec F S1x1x128x64 .f32
  kc : Vec F S1x1x128x64 .f32
  vp : Vec F S1x1x128x64 .f32
  vc : Vec F S1x1x128x64 .f32
  bias : Vec F S1x4x128x256 .f32
  sinks : Vec F S16 .f32
  dout : Vec F S1x1x4x128x64 .f32

theorem inb_row5 (r : Fin 4) : ∀ a, (![0, 0, r.val, 0, 0] : Fin 5 → ℕ) a + S1x1x1x128x64.size a ≤ S1x1x4x128x64.size a := by
  revert r; decide
theorem inb_row4 (r : Fin 4) : ∀ a, (![0, r.val, 0, 0] : Fin 4 → ℕ) a + S1x1x128x256.size a ≤ S1x4x128x256.size a := by
  revert r; decide
theorem inb_row3 (r : Fin 4) : ∀ a, (![0, r.val, 0] : Fin 3 → ℕ) a + S1x1x128.size a ≤ S1x4x128.size a := by
  revert r; decide

/-- Head `r` of a block of four heads of rows. -/
def row5 (x : Vec F S1x1x4x128x64 .f32) (r : Fin 4) : Vec F S1x1x1x128x64 .f32 :=
  fun y => x ((Rect.unit (s := S1x1x4x128x64) ![0, 0, r.val, 0, 0] S1x1x1x128x64.size (inb_row5 r)).toLoadRect.idx y)
/-- Head `r` of a block of four tables. -/
def row4 (x : Vec F S1x4x128x256 .f32) (r : Fin 4) : Vec F S1x1x128x256 .f32 :=
  fun y => x ((Rect.unit (s := S1x4x128x256) ![0, r.val, 0, 0] S1x1x128x256.size (inb_row4 r)).toLoadRect.idx y)
/-- Head `r` of a block of four rows of lanes. -/
def row3 (x : Vec F S1x4x128 .f32) (r : Fin 4) : Vec F S1x1x128 .f32 :=
  fun y => x ((Rect.unit (s := S1x4x128) ![0, r.val, 0] S1x1x128.size (inb_row3 r)).toLoadRect.idx y)
/-- The sink of the key head's head `r`. -/
def sink (i : grid0.Coords) (x : Vec F S16 .f32) (r : Fin 4) : Elt F .f32 :=
  x ((Rect.unit (s := S16) (k0_off1 i (BitVec.ofNat 32 r.val)) S1.size (k0_off1_inb i r)).toLoadRect.idx (Shape.Idx.first (numel1_S1.symm ▸ Nat.one_pos)))

namespace Blk

variable (X : Blk F) (i : grid0.Coords) (r : Fin 4)

/-- The keys of two blocks. -/
def keys : FVec F S256x64 .f32 := k0_pay6 X.kp X.kc
/-- The values of two blocks. -/
def vals : FVec F S256x64 .f32 := k0_pay7 X.vp X.vc
/-- The gradient of a head's output. -/
def doh : FVec F S128x64 .f32 := k0_pay15 (row5 X.dout r)
/-- A head's queries. -/
def qh : FVec F S128x64 .f32 := k0_pay14 (row5 X.q r)
/-- The exponentials of a head's logits less their maximum. -/
def e : FVec F S128x256 .f32 := k0_pay18 (k0_pay5 i) X.keys (row5 X.q r) (row4 X.bias r) (sink i X.sinks r)
/-- The exponential of the sink less that maximum. -/
def es : FVec F S128x1 .f32 := k0_pay19 (k0_pay5 i) X.keys (row5 X.q r) (row4 X.bias r) (sink i X.sinks r)
/-- The sum of the exponentials. -/
def sum : FVec F S128x1 .f32 := k0_pay20 (k0_pay5 i) X.keys (row5 X.q r) (row4 X.bias r) (sink i X.sinks r)
/-- The probability of the sink. -/
def ps : FVec F S128x1 .f32 := k0_pay23 (X.es i r) (X.sum i r)
/-- The sum over the keys of probability times its gradient. -/
def delta : FVec F S128x1 .f32 := k0_pay25 X.vals (X.doh r) (X.e i r) (X.es i r) (X.sum i r)
/-- The gradient of a head's queries. -/
def dq : FVec F S1x1x1x128x64 .f32 := k0_pay27 X.keys X.vals (X.doh r) (X.e i r) (X.es i r) (X.sum i r)
/-- The gradient of the keys of two blocks, `acc` and a head's part. -/
def dkAdd (acc : FVec F S256x64 .f32) : FVec F S256x64 .f32 :=
  k0_pay28 X.vals acc (X.qh r) (X.doh r) (X.e i r) (X.es i r) (X.sum i r)
/-- The gradient of the values of two blocks, `acc` and a head's part. -/
def dvAdd (acc : FVec F S256x64 .f32) : FVec F S256x64 .f32 :=
  k0_pay29 acc (X.doh r) (X.e i r) (X.es i r) (X.sum i r)
/-- The gradient of the keys of two blocks over the four heads. -/
def dkb : FVec F S256x64 .f32 := X.dkAdd i 3 (X.dkAdd i 2 (X.dkAdd i 1 (X.dkAdd i 0 k0_pay12)))
/-- The gradient of the values of two blocks over the four heads. -/
def dvb : FVec F S256x64 .f32 := X.dvAdd i 3 (X.dvAdd i 2 (X.dvAdd i 1 (X.dvAdd i 0 k0_pay13)))
/-- The gradient of a head's bias table, `old` and the point's part. -/
def dbiasAdd (old : Vec F S1x1x128x256 .f32) : FVec F S1x1x128x256 .f32 :=
  k0_pay30 X.vals (X.doh r) (X.e i r) (X.es i r) (X.sum i r) old
/-- The gradient of a head's sink, `old` and the point's part, in every lane. -/
def dsinkAdd (old : Vec F S1x1x128 .f32) : FVec F S1x1x128 .f32 := k0_pay31 (X.ps i r) (X.delta i r) old

/-! ## What the body leaves in the outputs' buffers -/

/-- The gradient of the queries: head `r` of the block is `dq`'s head `r`. -/
def outDq : Vec F S1x1x4x128x64 .f32 := fun y => X.dq i (y 2) (ValueIdx.ix5 0 0 0 (y 3) (y 4))

/-- Rows `o ≤ · < o + 128` of a buffer of 2048 rows. -/
def rows (a : Vec F S1x1x2048x64 .f32) (o : ℕ) (h : o + 128 ≤ 2048) : Vec F S1x1x128x64 .f32 :=
  fun y => a (ValueIdx.ix4 0 0 ⟨o + (y 2).val, by have : (y 2).val < 128 := (y 2).isLt; omega⟩ (y 3))

theorem lt16 : (i 2).val < 16 := (i 2).isLt

/-- A buffer of 2048 rows after a point: the block's rows are `f1` of what they were, those of the block before, if there is
    one, are `f3` of what they were, and the others stay. -/
def stepRows (f1 f3 : Vec F S1x1x128x64 .f32 → FVec F S1x1x128x64 .f32) (a : Vec F S1x1x2048x64 .f32) : Vec F S1x1x2048x64 .f32 :=
  fun y =>
    if h : 128 * (i 2).val ≤ (y 2).val ∧ (y 2).val < 128 * (i 2).val + 128 then
      f1 (rows a (128 * (i 2).val) (by have := lt16 i; omega)) (ValueIdx.ix4 0 0 ⟨(y 2).val - 128 * (i 2).val, by omega⟩ (y 3))
    else if h : 128 * (i 2).val ≤ (y 2).val + 128 ∧ (y 2).val < 128 * (i 2).val then
      f3 (rows a (128 * ((i 2).val - 1)) (by have := lt16 i; omega)) (ValueIdx.ix4 0 0 ⟨(y 2).val - 128 * ((i 2).val - 1), by omega⟩ (y 3))
    else a y

/-- The gradient of the keys after a point: zeroed first at a sequence's first block. -/
def outDk (a : Vec F S1x1x2048x64 .f32) : Vec F S1x1x2048x64 .f32 :=
  stepRows i (k0_pay1 (X.dkb i)) (k0_pay3 (X.dkb i)) (if (i 2).val = 0 then k0_pay8 else a)
/-- The gradient of the values after a point. -/
def outDv (a : Vec F S1x1x2048x64 .f32) : Vec F S1x1x2048x64 .f32 :=
  stepRows i (k0_pay2 (X.dvb i)) (k0_pay4 (X.dvb i)) (if (i 2).val = 0 then k0_pay9 else a)
/-- The gradient of the bias tables after a point: zeroed first at the key head's first point. -/
def outDbias (a : Vec F S1x4x128x256 .f32) : Vec F S1x4x128x256 .f32 :=
  fun y => X.dbiasAdd i (y 1) (row4 (if (i 2).val = 0 ∧ (i 1).val = 0 then k0_pay10 else a) (y 1)) (ValueIdx.ix4 0 0 (y 2) (y 3))
/-- The gradient of the sinks after a point. -/
def outDsink (a : Vec F S1x4x128 .f32) : Vec F S1x4x128 .f32 :=
  fun y => X.dsinkAdd i (y 1) (row3 (if (i 2).val = 0 ∧ (i 1).val = 0 then k0_pay11 else a) (y 1)) (ValueIdx.ix3 0 0 (y 2))

end Blk

/-! ## Loads of buffers held at known contents -/

/-- A load of a whole buffer that holds `X` reads `X`'s entries. -/
theorem load_unread {κ : Kind} {sp : Space} {s : Shape} {e : EltTy} {m : Memref sig κ sp s e} (h : m.IsWhole) (X : s.Idx → Elt F e) (B : LoadRect s) :
    View.readAt (Elt F) m.view B (h.unread X) = fun y => X (B.idx y) := funext fun y => h.readAt_unread X B y
/-- A load of all of a whole buffer of one block of rows that holds `X` reads `X`. -/
theorem load_block {κ : Kind} {sp : Space} {m : Memref sig κ sp S1x1x128x64 .f32} (h : m.IsWhole) (X : Vec F S1x1x128x64 .f32) (inb) :
    View.readAt (Elt F) m.view (Rect.unit (s := S1x1x128x64) ![0, 0, 0, 0] ![1, 1, 128, 64] inb).toLoadRect (h.unread X) = X :=
  (View.readAt_full m.view _ inb).trans (h.read_unread X)

end Cert.KernelIdeal.Swa

end
-- ==== Proof.SwaStep.lean ====
module

public import proofs.«01_k».proof.Proof.SwaHead

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic

variable {F : FTy → Type} [FloatOps F]

/-! # Reading back a grid point's stores -/

/-- The stores of four heads of rows, head 3 last. -/
def pieces5 (w : Fin 4 → Vec F S1x1x1x128x64 .f32) : List (View.Piece (Elt F) S1x1x4x128x64 .f32) :=
  [⟨Rect.unit ![0, 0, 3, 0, 0] S1x1x1x128x64.size (inb_row5 3), w 3⟩, ⟨Rect.unit ![0, 0, 2, 0, 0] S1x1x1x128x64.size (inb_row5 2), w 2⟩,
   ⟨Rect.unit ![0, 0, 1, 0, 0] S1x1x1x128x64.size (inb_row5 1), w 1⟩, ⟨Rect.unit ![0, 0, 0, 0, 0] S1x1x1x128x64.size (inb_row5 0), w 0⟩]
/-- The stores of four tables, head 3 last, after the stores `L`. -/
def pieces4 (w : Fin 4 → Vec F S1x1x128x256 .f32) (L : List (View.Piece (Elt F) S1x4x128x256 .f32)) : List (View.Piece (Elt F) S1x4x128x256 .f32) :=
  ⟨Rect.unit ![0, 3, 0, 0] S1x1x128x256.size (inb_row4 3), w 3⟩ :: ⟨Rect.unit ![0, 2, 0, 0] S1x1x128x256.size (inb_row4 2), w 2⟩ ::
   ⟨Rect.unit ![0, 1, 0, 0] S1x1x128x256.size (inb_row4 1), w 1⟩ :: ⟨Rect.unit ![0, 0, 0, 0] S1x1x128x256.size (inb_row4 0), w 0⟩ :: L
/-- The stores of four rows of lanes, head 3 last, after the stores `L`. -/
def pieces3 (w : Fin 4 → Vec F S1x1x128 .f32) (L : List (View.Piece (Elt F) S1x4x128 .f32)) : List (View.Piece (Elt F) S1x4x128 .f32) :=
  ⟨Rect.unit ![0, 3, 0] S1x1x128.size (inb_row3 3), w 3⟩ :: ⟨Rect.unit ![0, 2, 0] S1x1x128.size (inb_row3 2), w 2⟩ ::
   ⟨Rect.unit ![0, 1, 0] S1x1x128.size (inb_row3 1), w 1⟩ :: ⟨Rect.unit ![0, 0, 0] S1x1x128.size (inb_row3 0), w 0⟩ :: L

section
variable {sp : Space}

theorem read_pieces5 (v : View sig .tc sp S1x1x4x128x64 .f32) (f : v.ty.Contents (Elt F)) (w : Fin 4 → Vec F S1x1x1x128x64 .f32) :
    v.read (Elt F) (v.writes (Elt F) f (pieces5 w)) = fun y => w (y 2) (ValueIdx.ix5 0 0 0 (y 3) (y 4)) := by
  funext y
  obtain ⟨a, b, r, p, d, rfl⟩ : ∃ a b r p d, y = ValueIdx.ix5 a b r p d := ⟨_, _, _, _, _, ValueIdx.eq_ix5 y⟩
  have hd : (d : Fin 64).val < 64 := d.isLt
  have hp : (p : Fin 128).val < 128 := p.isLt
  obtain rfl : a = 0 := Subsingleton.elim (α := Fin 1) a 0
  obtain rfl : b = 0 := Subsingleton.elim (α := Fin 1) b 0
  have go : ∀ r : Fin 4, v.read (Elt F) (v.writes (Elt F) f (pieces5 w)) (ValueIdx.ix5 0 0 r p d) = w r (ValueIdx.ix5 0 0 0 p d) := by
    intro r
    unfold pieces5
    match r with
    | 3 => exact View.read_writes_cons_unit_of_mem v f _ _ _ _ (ValueIdx.ix5 0 0 0 p d) rfl (fun a => by fin_cases a <;> simp [ValueIdx.ix5])
    | 2 =>
      rw [View.read_writes_cons_unit_of_not_mem v f _ _ _ _ rfl (2 : Fin 5) (by simp [ValueIdx.ix5])]
      exact View.read_writes_cons_unit_of_mem v f _ _ _ _ (ValueIdx.ix5 0 0 0 p d) rfl (fun a => by fin_cases a <;> simp [ValueIdx.ix5])
    | 1 =>
      rw [View.read_writes_cons_unit_of_not_mem v f _ _ _ _ rfl (2 : Fin 5) (by simp [ValueIdx.ix5]),
        View.read_writes_cons_unit_of_not_mem v f _ _ _ _ rfl (2 : Fin 5) (by simp [ValueIdx.ix5])]
      exact View.read_writes_cons_unit_of_mem v f _ _ _ _ (ValueIdx.ix5 0 0 0 p d) rfl (fun a => by fin_cases a <;> simp [ValueIdx.ix5])
    | 0 =>
      rw [View.read_writes_cons_unit_of_not_mem v f _ _ _ _ rfl (2 : Fin 5) (by simp [ValueIdx.ix5]),
        View.read_writes_cons_unit_of_not_mem v f _ _ _ _ rfl (2 : Fin 5) (by simp [ValueIdx.ix5]),
        View.read_writes_cons_unit_of_not_mem v f _ _ _ _ rfl (2 : Fin 5) (by simp [ValueIdx.ix5])]
      exact View.read_writes_cons_unit_of_mem v f _ _ _ _ (ValueIdx.ix5 0 0 0 p d) rfl (fun a => by fin_cases a <;> simp [ValueIdx.ix5])
  exact go r

theorem read_pieces4 (v : View sig .tc sp S1x4x128x256 .f32) (f : v.ty.Contents (Elt F)) (w : Fin 4 → Vec F S1x1x128x256 .f32)
    (L : List (View.Piece (Elt F) S1x4x128x256 .f32)) :
    v.read (Elt F) (v.writes (Elt F) f (pieces4 w L)) = fun y => w (y 1) (ValueIdx.ix4 0 0 (y 2) (y 3)) := by
  funext y
  obtain ⟨a, r, p, d, rfl⟩ : ∃ a r p d, y = ValueIdx.ix4 a r p d := ⟨_, _, _, _, ValueIdx.eq_ix4 y⟩
  have hd : (d : Fin 256).val < 256 := d.isLt
  have hp : (p : Fin 128).val < 128 := p.isLt
  obtain rfl : a = 0 := Subsingleton.elim (α := Fin 1) a 0
  have go : ∀ r : Fin 4, v.read (Elt F) (v.writes (Elt F) f (pieces4 w L)) (ValueIdx.ix4 0 r p d) = w r (ValueIdx.ix4 0 0 p d) := by
    intro r
    unfold pieces4
    match r with
    | 3 => exact View.read_writes_cons_unit_of_mem v f _ _ _ _ (ValueIdx.ix4 0 0 p d) rfl (fun a => by fin_cases a <;> simp [ValueIdx.ix4])
    | 2 =>
      rw [View.read_writes_cons_unit_of_not_mem v f _ _ _ _ rfl (1 : Fin 4) (by simp [ValueIdx.ix4])]
      exact View.read_writes_cons_unit_of_mem v f _ _ _ _ (ValueIdx.ix4 0 0 p d) rfl (fun a => by fin_cases a <;> simp [ValueIdx.ix4])
    | 1 =>
      rw [View.read_writes_cons_unit_of_not_mem v f _ _ _ _ rfl (1 : Fin 4) (by simp [ValueIdx.ix4]),
        View.read_writes_cons_unit_of_not_mem v f _ _ _ _ rfl (1 : Fin 4) (by simp [ValueIdx.ix4])]
      exact View.read_writes_cons_unit_of_mem v f _ _ _ _ (ValueIdx.ix4 0 0 p d) rfl (fun a => by fin_cases a <;> simp [ValueIdx.ix4])
    | 0 =>
      rw [View.read_writes_cons_unit_of_not_mem v f _ _ _ _ rfl (1 : Fin 4) (by simp [ValueIdx.ix4]),
        View.read_writes_cons_unit_of_not_mem v f _ _ _ _ rfl (1 : Fin 4) (by simp [ValueIdx.ix4]),
        View.read_writes_cons_unit_of_not_mem v f _ _ _ _ rfl (1 : Fin 4) (by simp [ValueIdx.ix4])]
      exact View.read_writes_cons_unit_of_mem v f _ _ _ _ (ValueIdx.ix4 0 0 p d) rfl (fun a => by fin_cases a <;> simp [ValueIdx.ix4])
  exact go r

theorem read_pieces3 (v : View sig .tc sp S1x4x128 .f32) (f : v.ty.Contents (Elt F)) (w : Fin 4 → Vec F S1x1x128 .f32)
    (L : List (View.Piece (Elt F) S1x4x128 .f32)) :
    v.read (Elt F) (v.writes (Elt F) f (pieces3 w L)) = fun y => w (y 1) (ValueIdx.ix3 0 0 (y 2)) := by
  funext y
  obtain ⟨a, r, p, rfl⟩ : ∃ a r p, y = ValueIdx.ix3 a r p := ⟨_, _, _, ValueIdx.eq_ix3 y⟩
  have hp : (p : Fin 128).val < 128 := p.isLt
  obtain rfl : a = 0 := Subsingleton.elim (α := Fin 1) a 0
  have go : ∀ r : Fin 4, v.read (Elt F) (v.writes (Elt F) f (pieces3 w L)) (ValueIdx.ix3 0 r p) = w r (ValueIdx.ix3 0 0 p) := by
    intro r
    unfold pieces3
    match r with
    | 3 => exact View.read_writes_cons_unit_of_mem v f _ _ _ _ (ValueIdx.ix3 0 0 p) rfl (fun a => by fin_cases a <;> simp [ValueIdx.ix3])
    | 2 =>
      rw [View.read_writes_cons_unit_of_not_mem v f _ _ _ _ rfl (1 : Fin 3) (by simp [ValueIdx.ix3])]
      exact View.read_writes_cons_unit_of_mem v f _ _ _ _ (ValueIdx.ix3 0 0 p) rfl (fun a => by fin_cases a <;> simp [ValueIdx.ix3])
    | 1 =>
      rw [View.read_writes_cons_unit_of_not_mem v f _ _ _ _ rfl (1 : Fin 3) (by simp [ValueIdx.ix3]),
        View.read_writes_cons_unit_of_not_mem v f _ _ _ _ rfl (1 : Fin 3) (by simp [ValueIdx.ix3])]
      exact View.read_writes_cons_unit_of_mem v f _ _ _ _ (ValueIdx.ix3 0 0 p) rfl (fun a => by fin_cases a <;> simp [ValueIdx.ix3])
    | 0 =>
      rw [View.read_writes_cons_unit_of_not_mem v f _ _ _ _ rfl (1 : Fin 3) (by simp [ValueIdx.ix3]),
        View.read_writes_cons_unit_of_not_mem v f _ _ _ _ rfl (1 : Fin 3) (by simp [ValueIdx.ix3]),
        View.read_writes_cons_unit_of_not_mem v f _ _ _ _ rfl (1 : Fin 3) (by simp [ValueIdx.ix3])]
      exact View.read_writes_cons_unit_of_mem v f _ _ _ _ (ValueIdx.ix3 0 0 p) rfl (fun a => by fin_cases a <;> simp [ValueIdx.ix3])
  exact go r

/-! ## A head's load after stores to other heads and a store of everything -/

theorem skip4 (v : View sig .tc sp S1x4x128x256 .f32) (r r' : ℕ) (hr : r ≠ r') (inb inb') (w) (L : List (View.Piece (Elt F) S1x4x128x256 .f32)) :
    v.readCov (⟨Rect.unit ![0, r', 0, 0] ![1, 1, 128, 256] inb', w⟩ :: L) (Rect.unit (s := S1x4x128x256) ![0, r, 0, 0] ![1, 1, 128, 256] inb).toLoadRect
      = v.readCov L (Rect.unit (s := S1x4x128x256) ![0, r, 0, 0] ![1, 1, 128, 256] inb).toLoadRect := by
  funext y
  have hy : (y (1 : Fin 4)).val < 1 := (y (1 : Fin 4)).isLt
  refine View.read_writes_cons_unit_of_not_mem v _ inb' w L _ rfl (1 : Fin 4) ?_
  show r + 1 * (y (1 : Fin 4)).val < r' ∨ r' + 1 ≤ r + 1 * (y (1 : Fin 4)).val
  omega
theorem base4 (v : View sig .tc sp S1x4x128x256 .f32) (r : ℕ) (inb inb') (w : Vec F S1x4x128x256 .f32) :
    v.readCov [⟨Rect.unit ![0, 0, 0, 0] ![1, 4, 128, 256] inb', w⟩] (Rect.unit (s := S1x4x128x256) ![0, r, 0, 0] ![1, 1, 128, 256] inb).toLoadRect
      = fun y => w ((Rect.unit (s := S1x4x128x256) ![0, r, 0, 0] ![1, 1, 128, 256] inb).toLoadRect.idx y) := by
  funext y
  exact congrFun (View.read_writes_full v _ inb' w []) _
theorem skip3 (v : View sig .tc sp S1x4x128 .f32) (r r' : ℕ) (hr : r ≠ r') (inb inb') (w) (L : List (View.Piece (Elt F) S1x4x128 .f32)) :
    v.readCov (⟨Rect.unit ![0, r', 0] ![1, 1, 128] inb', w⟩ :: L) (Rect.unit (s := S1x4x128) ![0, r, 0] ![1, 1, 128] inb).toLoadRect
      = v.readCov L (Rect.unit (s := S1x4x128) ![0, r, 0] ![1, 1, 128] inb).toLoadRect := by
  funext y
  have hy : (y (1 : Fin 3)).val < 1 := (y (1 : Fin 3)).isLt
  refine View.read_writes_cons_unit_of_not_mem v _ inb' w L _ rfl (1 : Fin 3) ?_
  show r + 1 * (y (1 : Fin 3)).val < r' ∨ r' + 1 ≤ r + 1 * (y (1 : Fin 3)).val
  omega
theorem base3 (v : View sig .tc sp S1x4x128 .f32) (r : ℕ) (inb inb') (w : Vec F S1x4x128 .f32) :
    v.readCov [⟨Rect.unit ![0, 0, 0] ![1, 4, 128] inb', w⟩] (Rect.unit (s := S1x4x128) ![0, r, 0] ![1, 1, 128] inb).toLoadRect
      = fun y => w ((Rect.unit (s := S1x4x128) ![0, r, 0] ![1, 1, 128] inb).toLoadRect.idx y) := by
  funext y
  exact congrFun (View.read_writes_full v _ inb' w []) _

/-! ## The rows of a block, and of the block before -/

/-- The first row of the block before, when there is one. -/
theorem off3_pos (i : grid0.Coords) (h : 0 < (i 2).val) : k0_off3 i = ![0, 0, 128 * ((i 2).val - 1), 0] := by
  rw [off3_eq]
  have := Blk.lt16 i
  have e : (128 * ((i 2).val + 33554431)) % 4294967296 = 128 * ((i 2).val - 1) := by omega
  rw [e]

/-- A load of a block's rows of contents that read `a`. -/
theorem load_rows (v : View sig .tc sp S1x1x2048x64 .f32) (g : v.ty.Contents (Elt F)) (a : Vec F S1x1x2048x64 .f32) (ha : v.read (Elt F) g = a)
    (off : Fin 4 → ℕ) (o : ℕ) (ho : o + 128 ≤ 2048) (heq : off = ![0, 0, o, 0]) (inb) :
    View.readAt (Elt F) v (Rect.unit (s := S1x1x2048x64) off ![1, 1, 128, 64] inb).toLoadRect g = Blk.rows a o ho := by
  subst heq; subst ha
  funext y
  refine congrArg (v.read (Elt F) g) (funext fun k => Fin.ext ?_)
  have h0 : (y (0 : Fin 4)).val < 1 := (y (0 : Fin 4)).isLt
  have h1 : (y (1 : Fin 4)).val < 1 := (y (1 : Fin 4)).isLt
  match k with
  | (0 : Fin 4) => show 0 + 1 * (y (0 : Fin 4)).val = 0; omega
  | (1 : Fin 4) => show 0 + 1 * (y (1 : Fin 4)).val = 0; omega
  | (2 : Fin 4) => show o + 1 * (y (2 : Fin 4)).val = o + (y (2 : Fin 4)).val; omega
  | (3 : Fin 4) => show 0 + 1 * (y (3 : Fin 4)).val = (y (3 : Fin 4)).val; omega

/-- Contents that read `a`, after a store of one block's rows. -/
theorem read_rows (v : View sig .tc sp S1x1x2048x64 .f32) (g : v.ty.Contents (Elt F)) (a : Vec F S1x1x2048x64 .f32)
    (L : List (View.Piece (Elt F) S1x1x2048x64 .f32)) (ha : v.read (Elt F) (v.writes (Elt F) g L) = a)
    (off : Fin 4 → ℕ) (o : ℕ) (heq : off = ![0, 0, o, 0]) (inb) (w : Vec F S1x1x128x64 .f32) (y : S1x1x2048x64.Idx) :
    v.read (Elt F) (v.writes (Elt F) g (⟨Rect.unit (s := S1x1x2048x64) off ![1, 1, 128, 64] inb, w⟩ :: L)) y
      = if h : o ≤ (y 2).val ∧ (y 2).val < o + 128 then w (ValueIdx.ix4 0 0 ⟨(y 2).val - o, by omega⟩ (y 3)) else a y := by
  subst heq; subst ha
  have h0 : (y (0 : Fin 4)).val < 1 := (y (0 : Fin 4)).isLt
  have h1 : (y (1 : Fin 4)).val < 1 := (y (1 : Fin 4)).isLt
  have h3 : (y (3 : Fin 4)).val < 64 := (y (3 : Fin 4)).isLt
  by_cases h : o ≤ (y 2).val ∧ (y 2).val < o + 128
  · rw [dif_pos h]
    refine View.read_writes_cons_unit_of_mem v g inb w L y _ rfl fun k => ?_
    match k with
    | (0 : Fin 4) => show (y (0 : Fin 4)).val = 0 + 0; omega
    | (1 : Fin 4) => show (y (1 : Fin 4)).val = 0 + 0; omega
    | (2 : Fin 4) => show (y (2 : Fin 4)).val = o + ((y 2).val - o); omega
    | (3 : Fin 4) => show (y (3 : Fin 4)).val = 0 + (y (3 : Fin 4)).val; omega
  · rw [dif_neg h]
    refine View.read_writes_cons_unit_of_not_mem v g inb w L y rfl (2 : Fin 4) ?_
    show (y (2 : Fin 4)).val < o ∨ o + 128 ≤ (y (2 : Fin 4)).val
    omega

/-- The stores of a sequence's first block, over contents that read `a`. -/
theorem read_first (v : View sig .tc sp S1x1x2048x64 .f32) (g g' : v.ty.Contents (Elt F)) (a : Vec F S1x1x2048x64 .f32)
    (L : List (View.Piece (Elt F) S1x1x2048x64 .f32)) (ha : v.read (Elt F) (v.writes (Elt F) g L) = a) (ha' : v.read (Elt F) g' = a)
    (i : grid0.Coords) (h0 : (i 2).val = 0) (inb inb') (f1 f3 : Vec F S1x1x128x64 .f32 → FVec F S1x1x128x64 .f32) :
    v.read (Elt F) (v.writes (Elt F) g (⟨Rect.unit (s := S1x1x2048x64) (k0_off2 i) ![1, 1, 128, 64] inb,
        f1 (View.readAt (Elt F) v (Rect.unit (s := S1x1x2048x64) (k0_off2 i) ![1, 1, 128, 64] inb').toLoadRect g')⟩ :: L))
      = Blk.stepRows i f1 f3 a := by
  funext y
  rw [read_rows v g a L ha _ _ (k0_off2_eq i), load_rows v g' a ha' _ _ (by have := Blk.lt16 i; omega) (k0_off2_eq i)]
  unfold Blk.stepRows
  by_cases h : 128 * (i 2).val ≤ (y 2).val ∧ (y 2).val < 128 * (i 2).val + 128
  · rw [dif_pos h, dif_pos h]
  · rw [dif_neg h, dif_neg h, dif_neg (by omega)]

/-- The stores of a later block, over contents that read `a`. -/
theorem read_later (v : View sig .tc sp S1x1x2048x64 .f32) (g : v.ty.Contents (Elt F)) (a : Vec F S1x1x2048x64 .f32)
    (ha : v.read (Elt F) g = a) (i : grid0.Coords) (h0 : 0 < (i 2).val) (inb inb2 inb3 inb' inb3')
    (f1 f3 : Vec F S1x1x128x64 .f32 → FVec F S1x1x128x64 .f32) :
    v.read (Elt F) (v.writes (Elt F) g [⟨Rect.unit (s := S1x1x2048x64) (k0_off3 i) ![1, 1, 128, 64] inb3,
        f3 (View.readAt (Elt F) v (Rect.unit (s := S1x1x2048x64) (k0_off3 i) ![1, 1, 128, 64] inb3').toLoadRect
          (v.writes (Elt F) g [⟨Rect.unit (s := S1x1x2048x64) (k0_off2 i) ![1, 1, 128, 64] inb,
            f1 (View.readAt (Elt F) v (Rect.unit (s := S1x1x2048x64) (k0_off2 i) ![1, 1, 128, 64] inb').toLoadRect g)⟩]))⟩,
        ⟨Rect.unit (s := S1x1x2048x64) (k0_off2 i) ![1, 1, 128, 64] inb2,
          f1 (View.readAt (Elt F) v (Rect.unit (s := S1x1x2048x64) (k0_off2 i) ![1, 1, 128, 64] inb').toLoadRect g)⟩])
      = Blk.stepRows i f1 f3 a := by
  have hn := Blk.lt16 i
  rw [load_rows v g a ha _ _ (by omega) (k0_off2_eq i)]
  have hin : v.read (Elt F) (v.writes (Elt F) g [⟨Rect.unit (s := S1x1x2048x64) (k0_off2 i) ![1, 1, 128, 64] inb,
      f1 (Blk.rows a (128 * (i 2).val) (by omega))⟩]) = fun y => if h : 128 * (i 2).val ≤ (y 2).val ∧ (y 2).val < 128 * (i 2).val + 128
        then f1 (Blk.rows a (128 * (i 2).val) (by omega)) (ValueIdx.ix4 0 0 ⟨(y 2).val - 128 * (i 2).val, by omega⟩ (y 3)) else a y :=
    funext fun y => read_rows v g a [] ha _ _ (k0_off2_eq i) inb _ y
  rw [load_rows v _ _ hin _ (128 * ((i 2).val - 1)) (by omega) (off3_pos i h0)]
  have hrow : Blk.rows (fun y => if h : 128 * (i 2).val ≤ (y 2).val ∧ (y 2).val < 128 * (i 2).val + 128
        then f1 (Blk.rows a (128 * (i 2).val) (by omega)) (ValueIdx.ix4 0 0 ⟨(y 2).val - 128 * (i 2).val, by omega⟩ (y 3)) else a y)
      (128 * ((i 2).val - 1)) (by omega) = Blk.rows a (128 * ((i 2).val - 1)) (by omega) := by
    funext y
    have hy : (y (2 : Fin 4)).val < 128 := (y (2 : Fin 4)).isLt
    refine dif_neg ?_
    show ¬(128 * (i 2).val ≤ 128 * ((i 2).val - 1) + (y (2 : Fin 4)).val ∧ 128 * ((i 2).val - 1) + (y (2 : Fin 4)).val < 128 * (i 2).val + 128)
    omega
  rw [hrow]
  funext y
  rw [read_rows v g _ _ hin _ _ (off3_pos i h0)]
  unfold Blk.stepRows
  by_cases h : 128 * (i 2).val ≤ (y 2).val ∧ (y 2).val < 128 * (i 2).val + 128
  · rw [dif_neg (by omega), dif_pos h]
    rw [dif_pos h]
  · by_cases h' : 128 * (i 2).val ≤ (y 2).val + 128 ∧ (y 2).val < 128 * (i 2).val
    · rw [dif_pos (by omega), dif_neg h, dif_pos h']
    · rw [dif_neg (by omega), dif_neg h, dif_neg h']
      rw [dif_neg h]

end

end Cert.KernelIdeal.Swa

end
-- ==== Proof.SwaReadA.lean ====
module

public import proofs.«01_k».proof.Proof.SwaRunA
public import proofs.«01_k».proof.Proof.SwaStep

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic

variable {F : FTy → Type} [FloatOps F]

open runA.sl

/-! # What the run at the first block of the first sequence leaves in each output's buffer -/

variable (c : Dev nD) (i : grid0.Coords) (a0 : Memref sig .tc .vmem S1x1x4x128x64 .f32) (h0 : a0.IsWhole) (a1 : Memref sig .tc .vmem S1x1x128x64 .f32) (h1 : a1.IsWhole) (a2 : Memref sig .tc .vmem S1x1x128x64 .f32) (h2 : a2.IsWhole) (a3 : Memref sig .tc .vmem S1x1x128x64 .f32) (h3 : a3.IsWhole) (a4 : Memref sig .tc .vmem S1x1x128x64 .f32) (h4 : a4.IsWhole) (a5 : Memref sig .tc .vmem S1x4x128x256 .f32) (h5 : a5.IsWhole) (a6 : Memref sig .tc .smem S16 .f32) (h6 : a6.IsWhole) (a7 : Memref sig .tc .vmem S1x1x4x128x64 .f32) (h7 : a7.IsWhole) (a8 : Memref sig .tc .vmem S1x1x4x128x64 .f32) (h8 : a8.IsWhole) (a9 : Memref sig .tc .vmem S1x1x2048x64 .f32) (h9 : a9.IsWhole) (a10 : Memref sig .tc .vmem S1x1x2048x64 .f32) (h10 : a10.IsWhole) (a11 : Memref sig .tc .vmem S1x4x128x256 .f32) (h11 : a11.IsWhole) (a12 : Memref sig .tc .vmem S1x4x128 .f32) (h12 : a12.IsWhole)
    (hc1 : cond1 i) (hc2 : cond2 i) (hc3 : ¬k0_cond3 i = 1#1)
    (x0 : Vec F S1x1x4x128x64 .f32) (x1 : Vec F S1x1x128x64 .f32) (x2 : Vec F S1x1x128x64 .f32) (x3 : Vec F S1x1x128x64 .f32) (x4 : Vec F S1x1x128x64 .f32) (x5 : Vec F S1x4x128x256 .f32) (x6 : Vec F S16 .f32) (x7 : Vec F S1x1x4x128x64 .f32)

/-- The gradient of the queries. -/
theorem runA_dq (f : a8.view.ty.Contents (Elt F)) :
    a8.view.read (Elt F) (a8.view.writes (Elt F) f (runA c i a0 h0 a1 h1 a2 h2 a3 h3 a4 h4 a5 h5 a6 h6 a7 h7 a8 h8 a9 h9 a10 h10 a11 h11 a12 h12 hc1 hc2 hc3 x0 x1 x2 x3 x4 x5 x6 x7).1) = Blk.outDq (⟨x0, x1, x2, x3, x4, x5, x6, x7⟩ : Blk F) i := by
  have e : (runA c i a0 h0 a1 h1 a2 h2 a3 h3 a4 h4 a5 h5 a6 h6 a7 h7 a8 h8 a9 h9 a10 h10 a11 h11 a12 h12 hc1 hc2 hc3 x0 x1 x2 x3 x4 x5 x6 x7).1 = pieces5 (Blk.dq (⟨x0, x1, x2, x3, x4, x5, x6, x7⟩ : Blk F) i) := by
    dsimp only [runA, H10_1, H11_1, H11_2, H11_3, H11_4, H12_1, H12_2, H12_3, H12_4, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v103, v177, v183, v257, v26, v263, v27, v28, v30, v31, v32, v33, v337, v343, v356, v359, v368, v97]
    simp only [load_block]
    simp only [load_unread]
    rfl
  rw [e]
  exact read_pieces5 _ _ _

/-- The gradient of the keys. -/
theorem runA_dk (f : a9.view.ty.Contents (Elt F)) (a : Vec F S1x1x2048x64 .f32) :
    a9.view.read (Elt F) (a9.view.writes (Elt F) f (runA c i a0 h0 a1 h1 a2 h2 a3 h3 a4 h4 a5 h5 a6 h6 a7 h7 a8 h8 a9 h9 a10 h10 a11 h11 a12 h12 hc1 hc2 hc3 x0 x1 x2 x3 x4 x5 x6 x7).2.1) = Blk.outDk (⟨x0, x1, x2, x3, x4, x5, x6, x7⟩ : Blk F) i a := by
  have hn : (i 2).val = 0 := (cond1_iff i).mp hc1
  have e : (runA c i a0 h0 a1 h1 a2 h2 a3 h3 a4 h4 a5 h5 a6 h6 a7 h7 a8 h8 a9 h9 a10 h10 a11 h11 a12 h12 hc1 hc2 hc3 x0 x1 x2 x3 x4 x5 x6 x7).2.1 = ⟨Rect.unit (k0_off2 i) ![1, 1, 128, 64] (k0_off2_inb i), k0_pay1 (Blk.dkb (⟨x0, x1, x2, x3, x4, x5, x6, x7⟩ : Blk F) i) (View.readAt (Elt F) a9.view (Rect.unit (s := S1x1x2048x64) (k0_off2 i) ![1, 1, 128, 64] (k0_off2_inb i)).toLoadRect (a9.view.writes (Elt F) a9.view.junk [⟨Rect.unit ![0, 0, 0, 0] ![1, 1, 2048, 64] inb_S1x1x2048x64_S1x1x2048x64_0_0_0_0, k0_pay8⟩]))⟩ :: [⟨Rect.unit ![0, 0, 0, 0] ![1, 1, 2048, 64] inb_S1x1x2048x64_S1x1x2048x64_0_0_0_0, k0_pay8⟩] := by
    dsimp only [runA, H10_1, H11_1, H11_2, H11_3, H11_4, H12_1, H12_2, H12_3, H12_4, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v103, v177, v183, v257, v26, v263, v27, v28, v30, v31, v32, v33, v337, v343, v356, v359, v368, v97]
    simp only [load_block]
    simp only [load_unread]
    rfl
  rw [e]
  unfold Blk.outDk
  rw [if_pos hn]
  exact read_first a9.view f _ k0_pay8 _ (View.read_writes_full _ _ _ _ _) (View.read_writes_full _ _ _ _ _) i hn _ _ (k0_pay1 (Blk.dkb (⟨x0, x1, x2, x3, x4, x5, x6, x7⟩ : Blk F) i)) _

/-- The gradient of the values. -/
theorem runA_dv (f : a10.view.ty.Contents (Elt F)) (a : Vec F S1x1x2048x64 .f32) :
    a10.view.read (Elt F) (a10.view.writes (Elt F) f (runA c i a0 h0 a1 h1 a2 h2 a3 h3 a4 h4 a5 h5 a6 h6 a7 h7 a8 h8 a9 h9 a10 h10 a11 h11 a12 h12 hc1 hc2 hc3 x0 x1 x2 x3 x4 x5 x6 x7).2.2.1) = Blk.outDv (⟨x0, x1, x2, x3, x4, x5, x6, x7⟩ : Blk F) i a := by
  have hn : (i 2).val = 0 := (cond1_iff i).mp hc1
  have e : (runA c i a0 h0 a1 h1 a2 h2 a3 h3 a4 h4 a5 h5 a6 h6 a7 h7 a8 h8 a9 h9 a10 h10 a11 h11 a12 h12 hc1 hc2 hc3 x0 x1 x2 x3 x4 x5 x6 x7).2.2.1 = ⟨Rect.unit (k0_off2 i) ![1, 1, 128, 64] (k0_off2_inb i), k0_pay2 (Blk.dvb (⟨x0, x1, x2, x3, x4, x5, x6, x7⟩ : Blk F) i) (View.readAt (Elt F) a10.view (Rect.unit (s := S1x1x2048x64) (k0_off2 i) ![1, 1, 128, 64] (k0_off2_inb i)).toLoadRect (a10.view.writes (Elt F) a10.view.junk [⟨Rect.unit ![0, 0, 0, 0] ![1, 1, 2048, 64] inb_S1x1x2048x64_S1x1x2048x64_0_0_0_0, k0_pay9⟩]))⟩ :: [⟨Rect.unit ![0, 0, 0, 0] ![1, 1, 2048, 64] inb_S1x1x2048x64_S1x1x2048x64_0_0_0_0, k0_pay9⟩] := by
    dsimp only [runA, H10_1, H11_1, H11_2, H11_3, H11_4, H12_1, H12_2, H12_3, H12_4, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v103, v177, v183, v257, v26, v263, v27, v28, v30, v31, v32, v33, v337, v343, v356, v359, v368, v97]
    simp only [load_block]
    simp only [load_unread]
    rfl
  rw [e]
  unfold Blk.outDv
  rw [if_pos hn]
  exact read_first a10.view f _ k0_pay9 _ (View.read_writes_full _ _ _ _ _) (View.read_writes_full _ _ _ _ _) i hn _ _ (k0_pay2 (Blk.dvb (⟨x0, x1, x2, x3, x4, x5, x6, x7⟩ : Blk F) i)) _

/-- The gradient of the bias tables. -/
theorem runA_dbias (f : a11.view.ty.Contents (Elt F)) (a : Vec F S1x4x128x256 .f32) :
    a11.view.read (Elt F) (a11.view.writes (Elt F) f (runA c i a0 h0 a1 h1 a2 h2 a3 h3 a4 h4 a5 h5 a6 h6 a7 h7 a8 h8 a9 h9 a10 h10 a11 h11 a12 h12 hc1 hc2 hc3 x0 x1 x2 x3 x4 x5 x6 x7).2.2.2.1) = Blk.outDbias (⟨x0, x1, x2, x3, x4, x5, x6, x7⟩ : Blk F) i a := by
  have hn : (i 2).val = 0 ∧ (i 1).val = 0 := (cond2_iff i).mp hc2
  have e : (runA c i a0 h0 a1 h1 a2 h2 a3 h3 a4 h4 a5 h5 a6 h6 a7 h7 a8 h8 a9 h9 a10 h10 a11 h11 a12 h12 hc1 hc2 hc3 x0 x1 x2 x3 x4 x5 x6 x7).2.2.2.1 = pieces4 (fun r => Blk.dbiasAdd (⟨x0, x1, x2, x3, x4, x5, x6, x7⟩ : Blk F) i r (row4 k0_pay10 r)) [⟨Rect.unit ![0, 0, 0, 0] ![1, 4, 128, 256] inb_S1x4x128x256_S1x4x128x256_0_0_0_0, k0_pay10⟩] := by
    dsimp only [runA, H10_1, H11_1, H11_2, H11_3, H11_4, H12_1, H12_2, H12_3, H12_4, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v103, v177, v183, v257, v26, v263, v27, v28, v30, v31, v32, v33, v337, v343, v356, v359, v368, v97]
    simp only [load_block]
    simp only [load_unread]
    simp (disch := decide) only [skip4, base4]
    rfl
  rw [e, read_pieces4]
  unfold Blk.outDbias
  rw [if_pos hn]

/-- The gradient of the sinks. -/
theorem runA_dsink (f : a12.view.ty.Contents (Elt F)) (a : Vec F S1x4x128 .f32) :
    a12.view.read (Elt F) (a12.view.writes (Elt F) f (runA c i a0 h0 a1 h1 a2 h2 a3 h3 a4 h4 a5 h5 a6 h6 a7 h7 a8 h8 a9 h9 a10 h10 a11 h11 a12 h12 hc1 hc2 hc3 x0 x1 x2 x3 x4 x5 x6 x7).2.2.2.2.val) = Blk.outDsink (⟨x0, x1, x2, x3, x4, x5, x6, x7⟩ : Blk F) i a := by
  have hn : (i 2).val = 0 ∧ (i 1).val = 0 := (cond2_iff i).mp hc2
  have e : (runA c i a0 h0 a1 h1 a2 h2 a3 h3 a4 h4 a5 h5 a6 h6 a7 h7 a8 h8 a9 h9 a10 h10 a11 h11 a12 h12 hc1 hc2 hc3 x0 x1 x2 x3 x4 x5 x6 x7).2.2.2.2.val = pieces3 (fun r => Blk.dsinkAdd (⟨x0, x1, x2, x3, x4, x5, x6, x7⟩ : Blk F) i r (row3 k0_pay11 r)) [⟨Rect.unit ![0, 0, 0] ![1, 4, 128] inb_S1x4x128_S1x4x128_0_0_0, k0_pay11⟩] := by
    dsimp only [runA, H10_1, H11_1, H11_2, H11_3, H11_4, H12_1, H12_2, H12_3, H12_4, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v103, v177, v183, v257, v26, v263, v27, v28, v30, v31, v32, v33, v337, v343, v356, v359, v368, v97]
    simp only [load_block]
    simp only [load_unread]
    simp (disch := decide) only [skip3, base3]
    rfl
  rw [e, read_pieces3]
  unfold Blk.outDsink
  rw [if_pos hn]

end Cert.KernelIdeal.Swa

end
-- ==== Proof.SwaReadB.lean ====
module

public import proofs.«01_k».proof.Proof.SwaRunB
public import proofs.«01_k».proof.Proof.SwaReadA

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic

variable {F : FTy → Type} [FloatOps F]

open runB.sl

/-! # What the run at the first block of a later sequence leaves in each output's buffer -/

variable (c : Dev nD) (i : grid0.Coords) (a0 : Memref sig .tc .vmem S1x1x4x128x64 .f32) (h0 : a0.IsWhole) (a1 : Memref sig .tc .vmem S1x1x128x64 .f32) (h1 : a1.IsWhole) (a2 : Memref sig .tc .vmem S1x1x128x64 .f32) (h2 : a2.IsWhole) (a3 : Memref sig .tc .vmem S1x1x128x64 .f32) (h3 : a3.IsWhole) (a4 : Memref sig .tc .vmem S1x1x128x64 .f32) (h4 : a4.IsWhole) (a5 : Memref sig .tc .vmem S1x4x128x256 .f32) (h5 : a5.IsWhole) (a6 : Memref sig .tc .smem S16 .f32) (h6 : a6.IsWhole) (a7 : Memref sig .tc .vmem S1x1x4x128x64 .f32) (h7 : a7.IsWhole) (a8 : Memref sig .tc .vmem S1x1x4x128x64 .f32) (h8 : a8.IsWhole) (a9 : Memref sig .tc .vmem S1x1x2048x64 .f32) (h9 : a9.IsWhole) (a10 : Memref sig .tc .vmem S1x1x2048x64 .f32) (h10 : a10.IsWhole) (a11 : Memref sig .tc .vmem S1x4x128x256 .f32) (h11 : a11.IsWhole) (a12 : Memref sig .tc .vmem S1x4x128 .f32) (h12 : a12.IsWhole)
    (hc1 : cond1 i) (hc2 : ¬cond2 i) (hc3 : ¬k0_cond3 i = 1#1)
    (x0 : Vec F S1x1x4x128x64 .f32) (x1 : Vec F S1x1x128x64 .f32) (x2 : Vec F S1x1x128x64 .f32) (x3 : Vec F S1x1x128x64 .f32) (x4 : Vec F S1x1x128x64 .f32) (x5 : Vec F S1x4x128x256 .f32) (x6 : Vec F S16 .f32) (x7 : Vec F S1x1x4x128x64 .f32) (x11 : Vec F S1x4x128x256 .f32) (x12 : Vec F S1x4x128 .f32)

/-- The gradient of the queries. -/
theorem runB_dq (f : a8.view.ty.Contents (Elt F)) :
    a8.view.read (Elt F) (a8.view.writes (Elt F) f (runB c i a0 h0 a1 h1 a2 h2 a3 h3 a4 h4 a5 h5 a6 h6 a7 h7 a8 h8 a9 h9 a10 h10 a11 h11 a12 h12 hc1 hc2 hc3 x0 x1 x2 x3 x4 x5 x6 x7 x11 x12).1) = Blk.outDq (⟨x0, x1, x2, x3, x4, x5, x6, x7⟩ : Blk F) i := by
  have e : (runB c i a0 h0 a1 h1 a2 h2 a3 h3 a4 h4 a5 h5 a6 h6 a7 h7 a8 h8 a9 h9 a10 h10 a11 h11 a12 h12 hc1 hc2 hc3 x0 x1 x2 x3 x4 x5 x6 x7 x11 x12).1 = pieces5 (Blk.dq (⟨x0, x1, x2, x3, x4, x5, x6, x7⟩ : Blk F) i) := by
    dsimp only [runB, H10_1, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v177, v183, v257, v26, v263, v27, v28, v30, v31, v32, v33, v337, v343, v356, v359, v368]
    simp only [load_block]
    simp only [load_unread]
    rfl
  rw [e]
  exact read_pieces5 _ _ _

/-- The gradient of the keys. -/
theorem runB_dk (f : a9.view.ty.Contents (Elt F)) (a : Vec F S1x1x2048x64 .f32) :
    a9.view.read (Elt F) (a9.view.writes (Elt F) f (runB c i a0 h0 a1 h1 a2 h2 a3 h3 a4 h4 a5 h5 a6 h6 a7 h7 a8 h8 a9 h9 a10 h10 a11 h11 a12 h12 hc1 hc2 hc3 x0 x1 x2 x3 x4 x5 x6 x7 x11 x12).2.1) = Blk.outDk (⟨x0, x1, x2, x3, x4, x5, x6, x7⟩ : Blk F) i a := by
  have hn : (i 2).val = 0 := (cond1_iff i).mp hc1
  have e : (runB c i a0 h0 a1 h1 a2 h2 a3 h3 a4 h4 a5 h5 a6 h6 a7 h7 a8 h8 a9 h9 a10 h10 a11 h11 a12 h12 hc1 hc2 hc3 x0 x1 x2 x3 x4 x5 x6 x7 x11 x12).2.1 = ⟨Rect.unit (k0_off2 i) ![1, 1, 128, 64] (k0_off2_inb i), k0_pay1 (Blk.dkb (⟨x0, x1, x2, x3, x4, x5, x6, x7⟩ : Blk F) i) (View.readAt (Elt F) a9.view (Rect.unit (s := S1x1x2048x64) (k0_off2 i) ![1, 1, 128, 64] (k0_off2_inb i)).toLoadRect (a9.view.writes (Elt F) a9.view.junk [⟨Rect.unit ![0, 0, 0, 0] ![1, 1, 2048, 64] inb_S1x1x2048x64_S1x1x2048x64_0_0_0_0, k0_pay8⟩]))⟩ :: [⟨Rect.unit ![0, 0, 0, 0] ![1, 1, 2048, 64] inb_S1x1x2048x64_S1x1x2048x64_0_0_0_0, k0_pay8⟩] := by
    dsimp only [runB, H10_1, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v177, v183, v257, v26, v263, v27, v28, v30, v31, v32, v33, v337, v343, v356, v359, v368]
    simp only [load_block]
    simp only [load_unread]
    rfl
  rw [e]
  unfold Blk.outDk
  rw [if_pos hn]
  exact read_first a9.view f _ k0_pay8 _ (View.read_writes_full _ _ _ _ _) (View.read_writes_full _ _ _ _ _) i hn _ _ (k0_pay1 (Blk.dkb (⟨x0, x1, x2, x3, x4, x5, x6, x7⟩ : Blk F) i)) _

/-- The gradient of the values. -/
theorem runB_dv (f : a10.view.ty.Contents (Elt F)) (a : Vec F S1x1x2048x64 .f32) :
    a10.view.read (Elt F) (a10.view.writes (Elt F) f (runB c i a0 h0 a1 h1 a2 h2 a3 h3 a4 h4 a5 h5 a6 h6 a7 h7 a8 h8 a9 h9 a10 h10 a11 h11 a12 h12 hc1 hc2 hc3 x0 x1 x2 x3 x4 x5 x6 x7 x11 x12).2.2.1) = Blk.outDv (⟨x0, x1, x2, x3, x4, x5, x6, x7⟩ : Blk F) i a := by
  have hn : (i 2).val = 0 := (cond1_iff i).mp hc1
  have e : (runB c i a0 h0 a1 h1 a2 h2 a3 h3 a4 h4 a5 h5 a6 h6 a7 h7 a8 h8 a9 h9 a10 h10 a11 h11 a12 h12 hc1 hc2 hc3 x0 x1 x2 x3 x4 x5 x6 x7 x11 x12).2.2.1 = ⟨Rect.unit (k0_off2 i) ![1, 1, 128, 64] (k0_off2_inb i), k0_pay2 (Blk.dvb (⟨x0, x1, x2, x3, x4, x5, x6, x7⟩ : Blk F) i) (View.readAt (Elt F) a10.view (Rect.unit (s := S1x1x2048x64) (k0_off2 i) ![1, 1, 128, 64] (k0_off2_inb i)).toLoadRect (a10.view.writes (Elt F) a10.view.junk [⟨Rect.unit ![0, 0, 0, 0] ![1, 1, 2048, 64] inb_S1x1x2048x64_S1x1x2048x64_0_0_0_0, k0_pay9⟩]))⟩ :: [⟨Rect.unit ![0, 0, 0, 0] ![1, 1, 2048, 64] inb_S1x1x2048x64_S1x1x2048x64_0_0_0_0, k0_pay9⟩] := by
    dsimp only [runB, H10_1, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v177, v183, v257, v26, v263, v27, v28, v30, v31, v32, v33, v337, v343, v356, v359, v368]
    simp only [load_block]
    simp only [load_unread]
    rfl
  rw [e]
  unfold Blk.outDv
  rw [if_pos hn]
  exact read_first a10.view f _ k0_pay9 _ (View.read_writes_full _ _ _ _ _) (View.read_writes_full _ _ _ _ _) i hn _ _ (k0_pay2 (Blk.dvb (⟨x0, x1, x2, x3, x4, x5, x6, x7⟩ : Blk F) i)) _

/-- The gradient of the bias tables. -/
theorem runB_dbias :
    a11.view.read (Elt F) (a11.view.writes (Elt F) (h11.unread x11) (runB c i a0 h0 a1 h1 a2 h2 a3 h3 a4 h4 a5 h5 a6 h6 a7 h7 a8 h8 a9 h9 a10 h10 a11 h11 a12 h12 hc1 hc2 hc3 x0 x1 x2 x3 x4 x5 x6 x7 x11 x12).2.2.2.1) = Blk.outDbias (⟨x0, x1, x2, x3, x4, x5, x6, x7⟩ : Blk F) i x11 := by
  have e : (runB c i a0 h0 a1 h1 a2 h2 a3 h3 a4 h4 a5 h5 a6 h6 a7 h7 a8 h8 a9 h9 a10 h10 a11 h11 a12 h12 hc1 hc2 hc3 x0 x1 x2 x3 x4 x5 x6 x7 x11 x12).2.2.2.1 = pieces4 (fun r => Blk.dbiasAdd (⟨x0, x1, x2, x3, x4, x5, x6, x7⟩ : Blk F) i r (row4 x11 r)) [] := by
    dsimp only [runB, H10_1, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v177, v183, v257, v26, v263, v27, v28, v30, v31, v32, v33, v337, v343, v356, v359, v368]
    simp only [load_block]
    simp only [load_unread]
    rfl
  rw [e, read_pieces4]
  unfold Blk.outDbias
  rw [if_neg (fun h => hc2 ((cond2_iff i).mpr h))]

/-- The gradient of the sinks. -/
theorem runB_dsink :
    a12.view.read (Elt F) (a12.view.writes (Elt F) (h12.unread x12) (runB c i a0 h0 a1 h1 a2 h2 a3 h3 a4 h4 a5 h5 a6 h6 a7 h7 a8 h8 a9 h9 a10 h10 a11 h11 a12 h12 hc1 hc2 hc3 x0 x1 x2 x3 x4 x5 x6 x7 x11 x12).2.2.2.2.val) = Blk.outDsink (⟨x0, x1, x2, x3, x4, x5, x6, x7⟩ : Blk F) i x12 := by
  have e : (runB c i a0 h0 a1 h1 a2 h2 a3 h3 a4 h4 a5 h5 a6 h6 a7 h7 a8 h8 a9 h9 a10 h10 a11 h11 a12 h12 hc1 hc2 hc3 x0 x1 x2 x3 x4 x5 x6 x7 x11 x12).2.2.2.2.val = pieces3 (fun r => Blk.dsinkAdd (⟨x0, x1, x2, x3, x4, x5, x6, x7⟩ : Blk F) i r (row3 x12 r)) [] := by
    dsimp only [runB, H10_1, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v177, v183, v257, v26, v263, v27, v28, v30, v31, v32, v33, v337, v343, v356, v359, v368]
    simp only [load_block]
    simp only [load_unread]
    rfl
  rw [e, read_pieces3]
  unfold Blk.outDsink
  rw [if_neg (fun h => hc2 ((cond2_iff i).mpr h))]

end Cert.KernelIdeal.Swa

end
-- ==== Proof.SwaReadC.lean ====
module

public import proofs.«01_k».proof.Proof.SwaRunC
public import proofs.«01_k».proof.Proof.SwaReadB

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic

variable {F : FTy → Type} [FloatOps F]

open runC.sl

/-! # What the run at a later block leaves in each output's buffer -/

variable (c : Dev nD) (i : grid0.Coords) (a0 : Memref sig .tc .vmem S1x1x4x128x64 .f32) (h0 : a0.IsWhole) (a1 : Memref sig .tc .vmem S1x1x128x64 .f32) (h1 : a1.IsWhole) (a2 : Memref sig .tc .vmem S1x1x128x64 .f32) (h2 : a2.IsWhole) (a3 : Memref sig .tc .vmem S1x1x128x64 .f32) (h3 : a3.IsWhole) (a4 : Memref sig .tc .vmem S1x1x128x64 .f32) (h4 : a4.IsWhole) (a5 : Memref sig .tc .vmem S1x4x128x256 .f32) (h5 : a5.IsWhole) (a6 : Memref sig .tc .smem S16 .f32) (h6 : a6.IsWhole) (a7 : Memref sig .tc .vmem S1x1x4x128x64 .f32) (h7 : a7.IsWhole) (a8 : Memref sig .tc .vmem S1x1x4x128x64 .f32) (h8 : a8.IsWhole) (a9 : Memref sig .tc .vmem S1x1x2048x64 .f32) (h9 : a9.IsWhole) (a10 : Memref sig .tc .vmem S1x1x2048x64 .f32) (h10 : a10.IsWhole) (a11 : Memref sig .tc .vmem S1x4x128x256 .f32) (h11 : a11.IsWhole) (a12 : Memref sig .tc .vmem S1x4x128 .f32) (h12 : a12.IsWhole)
    (hc1 : ¬cond1 i) (hc2 : ¬cond2 i) (hc3 : k0_cond3 i = 1#1)
    (x0 : Vec F S1x1x4x128x64 .f32) (x1 : Vec F S1x1x128x64 .f32) (x2 : Vec F S1x1x128x64 .f32) (x3 : Vec F S1x1x128x64 .f32) (x4 : Vec F S1x1x128x64 .f32) (x5 : Vec F S1x4x128x256 .f32) (x6 : Vec F S16 .f32) (x7 : Vec F S1x1x4x128x64 .f32) (x9 : Vec F S1x1x2048x64 .f32) (x10 : Vec F S1x1x2048x64 .f32) (x11 : Vec F S1x4x128x256 .f32) (x12 : Vec F S1x4x128 .f32)

/-- The gradient of the queries. -/
theorem runC_dq (f : a8.view.ty.Contents (Elt F)) :
    a8.view.read (Elt F) (a8.view.writes (Elt F) f (runC c i a0 h0 a1 h1 a2 h2 a3 h3 a4 h4 a5 h5 a6 h6 a7 h7 a8 h8 a9 h9 a10 h10 a11 h11 a12 h12 hc1 hc2 hc3 x0 x1 x2 x3 x4 x5 x6 x7 x9 x10 x11 x12).1) = Blk.outDq (⟨x0, x1, x2, x3, x4, x5, x6, x7⟩ : Blk F) i := by
  have e : (runC c i a0 h0 a1 h1 a2 h2 a3 h3 a4 h4 a5 h5 a6 h6 a7 h7 a8 h8 a9 h9 a10 h10 a11 h11 a12 h12 hc1 hc2 hc3 x0 x1 x2 x3 x4 x5 x6 x7 x9 x10 x11 x12).1 = pieces5 (Blk.dq (⟨x0, x1, x2, x3, x4, x5, x6, x7⟩ : Blk F) i) := by
    dsimp only [runC, H10_1, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v177, v183, v257, v26, v263, v27, v28, v30, v31, v32, v33, v337, v343, v356, v383, v392]
    simp only [load_block]
    simp only [load_unread]
    rfl
  rw [e]
  exact read_pieces5 _ _ _

/-- The gradient of the keys. -/
theorem runC_dk :
    a9.view.read (Elt F) (a9.view.writes (Elt F) (h9.unread x9) (runC c i a0 h0 a1 h1 a2 h2 a3 h3 a4 h4 a5 h5 a6 h6 a7 h7 a8 h8 a9 h9 a10 h10 a11 h11 a12 h12 hc1 hc2 hc3 x0 x1 x2 x3 x4 x5 x6 x7 x9 x10 x11 x12).2.1) = Blk.outDk (⟨x0, x1, x2, x3, x4, x5, x6, x7⟩ : Blk F) i x9 := by
  have hn : 0 < (i 2).val := (cond3_iff i).mp hc3
  have e : (runC c i a0 h0 a1 h1 a2 h2 a3 h3 a4 h4 a5 h5 a6 h6 a7 h7 a8 h8 a9 h9 a10 h10 a11 h11 a12 h12 hc1 hc2 hc3 x0 x1 x2 x3 x4 x5 x6 x7 x9 x10 x11 x12).2.1 = ⟨Rect.unit (k0_off3 i) ![1, 1, 128, 64] (k0_off3_inb i hc3), k0_pay3 (Blk.dkb (⟨x0, x1, x2, x3, x4, x5, x6, x7⟩ : Blk F) i) (View.readAt (Elt F) a9.view (Rect.unit (s := S1x1x2048x64) (k0_off3 i) ![1, 1, 128, 64] (k0_off3_inb i hc3)).toLoadRect (a9.view.writes (Elt F) (h9.unread x9) [⟨Rect.unit (k0_off2 i) ![1, 1, 128, 64] (k0_off2_inb i), k0_pay1 (Blk.dkb (⟨x0, x1, x2, x3, x4, x5, x6, x7⟩ : Blk F) i) (View.readAt (Elt F) a9.view (Rect.unit (s := S1x1x2048x64) (k0_off2 i) ![1, 1, 128, 64] (k0_off2_inb i)).toLoadRect (h9.unread x9))⟩]))⟩ :: [⟨Rect.unit (k0_off2 i) ![1, 1, 128, 64] (k0_off2_inb i), k0_pay1 (Blk.dkb (⟨x0, x1, x2, x3, x4, x5, x6, x7⟩ : Blk F) i) (View.readAt (Elt F) a9.view (Rect.unit (s := S1x1x2048x64) (k0_off2 i) ![1, 1, 128, 64] (k0_off2_inb i)).toLoadRect (h9.unread x9))⟩] := by
    dsimp only [runC, H10_1, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v177, v183, v257, v26, v263, v27, v28, v30, v31, v32, v33, v337, v343, v356, v383, v392]
    simp only [load_block]
    simp only [load_unread]
    rfl
  rw [e]
  unfold Blk.outDk
  rw [if_neg (by omega)]
  exact read_later a9.view _ x9 (h9.read_unread _) i hn _ _ _ _ _ (k0_pay1 (Blk.dkb (⟨x0, x1, x2, x3, x4, x5, x6, x7⟩ : Blk F) i)) _

/-- The gradient of the values. -/
theorem runC_dv :
    a10.view.read (Elt F) (a10.view.writes (Elt F) (h10.unread x10) (runC c i a0 h0 a1 h1 a2 h2 a3 h3 a4 h4 a5 h5 a6 h6 a7 h7 a8 h8 a9 h9 a10 h10 a11 h11 a12 h12 hc1 hc2 hc3 x0 x1 x2 x3 x4 x5 x6 x7 x9 x10 x11 x12).2.2.1) = Blk.outDv (⟨x0, x1, x2, x3, x4, x5, x6, x7⟩ : Blk F) i x10 := by
  have hn : 0 < (i 2).val := (cond3_iff i).mp hc3
  have e : (runC c i a0 h0 a1 h1 a2 h2 a3 h3 a4 h4 a5 h5 a6 h6 a7 h7 a8 h8 a9 h9 a10 h10 a11 h11 a12 h12 hc1 hc2 hc3 x0 x1 x2 x3 x4 x5 x6 x7 x9 x10 x11 x12).2.2.1 = ⟨Rect.unit (k0_off3 i) ![1, 1, 128, 64] (k0_off3_inb i hc3), k0_pay4 (Blk.dvb (⟨x0, x1, x2, x3, x4, x5, x6, x7⟩ : Blk F) i) (View.readAt (Elt F) a10.view (Rect.unit (s := S1x1x2048x64) (k0_off3 i) ![1, 1, 128, 64] (k0_off3_inb i hc3)).toLoadRect (a10.view.writes (Elt F) (h10.unread x10) [⟨Rect.unit (k0_off2 i) ![1, 1, 128, 64] (k0_off2_inb i), k0_pay2 (Blk.dvb (⟨x0, x1, x2, x3, x4, x5, x6, x7⟩ : Blk F) i) (View.readAt (Elt F) a10.view (Rect.unit (s := S1x1x2048x64) (k0_off2 i) ![1, 1, 128, 64] (k0_off2_inb i)).toLoadRect (h10.unread x10))⟩]))⟩ :: [⟨Rect.unit (k0_off2 i) ![1, 1, 128, 64] (k0_off2_inb i), k0_pay2 (Blk.dvb (⟨x0, x1, x2, x3, x4, x5, x6, x7⟩ : Blk F) i) (View.readAt (Elt F) a10.view (Rect.unit (s := S1x1x2048x64) (k0_off2 i) ![1, 1, 128, 64] (k0_off2_inb i)).toLoadRect (h10.unread x10))⟩] := by
    dsimp only [runC, H10_1, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v177, v183, v257, v26, v263, v27, v28, v30, v31, v32, v33, v337, v343, v356, v383, v392]
    simp only [load_block]
    simp only [load_unread]
    rfl
  rw [e]
  unfold Blk.outDv
  rw [if_neg (by omega)]
  exact read_later a10.view _ x10 (h10.read_unread _) i hn _ _ _ _ _ (k0_pay2 (Blk.dvb (⟨x0, x1, x2, x3, x4, x5, x6, x7⟩ : Blk F) i)) _

/-- The gradient of the bias tables. -/
theorem runC_dbias :
    a11.view.read (Elt F) (a11.view.writes (Elt F) (h11.unread x11) (runC c i a0 h0 a1 h1 a2 h2 a3 h3 a4 h4 a5 h5 a6 h6 a7 h7 a8 h8 a9 h9 a10 h10 a11 h11 a12 h12 hc1 hc2 hc3 x0 x1 x2 x3 x4 x5 x6 x7 x9 x10 x11 x12).2.2.2.1) = Blk.outDbias (⟨x0, x1, x2, x3, x4, x5, x6, x7⟩ : Blk F) i x11 := by
  have e : (runC c i a0 h0 a1 h1 a2 h2 a3 h3 a4 h4 a5 h5 a6 h6 a7 h7 a8 h8 a9 h9 a10 h10 a11 h11 a12 h12 hc1 hc2 hc3 x0 x1 x2 x3 x4 x5 x6 x7 x9 x10 x11 x12).2.2.2.1 = pieces4 (fun r => Blk.dbiasAdd (⟨x0, x1, x2, x3, x4, x5, x6, x7⟩ : Blk F) i r (row4 x11 r)) [] := by
    dsimp only [runC, H10_1, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v177, v183, v257, v26, v263, v27, v28, v30, v31, v32, v33, v337, v343, v356, v383, v392]
    simp only [load_block]
    simp only [load_unread]
    rfl
  rw [e, read_pieces4]
  unfold Blk.outDbias
  rw [if_neg (fun h => hc2 ((cond2_iff i).mpr h))]

/-- The gradient of the sinks. -/
theorem runC_dsink :
    a12.view.read (Elt F) (a12.view.writes (Elt F) (h12.unread x12) (runC c i a0 h0 a1 h1 a2 h2 a3 h3 a4 h4 a5 h5 a6 h6 a7 h7 a8 h8 a9 h9 a10 h10 a11 h11 a12 h12 hc1 hc2 hc3 x0 x1 x2 x3 x4 x5 x6 x7 x9 x10 x11 x12).2.2.2.2.val) = Blk.outDsink (⟨x0, x1, x2, x3, x4, x5, x6, x7⟩ : Blk F) i x12 := by
  have e : (runC c i a0 h0 a1 h1 a2 h2 a3 h3 a4 h4 a5 h5 a6 h6 a7 h7 a8 h8 a9 h9 a10 h10 a11 h11 a12 h12 hc1 hc2 hc3 x0 x1 x2 x3 x4 x5 x6 x7 x9 x10 x11 x12).2.2.2.2.val = pieces3 (fun r => Blk.dsinkAdd (⟨x0, x1, x2, x3, x4, x5, x6, x7⟩ : Blk F) i r (row3 x12 r)) [] := by
    dsimp only [runC, H10_1, H9_1, cst_148, r, r_1, r_10, r_11, r_12, r_13, r_14, r_15, r_16, r_17, r_18, r_19, r_2, r_20, r_21, r_22, r_23, r_24, r_25, r_26, r_27, r_28, r_29, r_3, r_30, r_31, r_32, r_33, r_34, r_35, r_36, r_37, r_38, r_39, r_4, r_40, r_41, r_42, r_43, r_5, r_6, r_7, r_8, r_9, v177, v183, v257, v26, v263, v27, v28, v30, v31, v32, v33, v337, v343, v356, v383, v392]
    simp only [load_block]
    simp only [load_unread]
    rfl
  rw [e, read_pieces3]
  unfold Blk.outDsink
  rw [if_neg (fun h => hc2 ((cond2_iff i).mpr h))]

end Cert.KernelIdeal.Swa

end
-- ==== Proof.SwaSpec.lean ====
module

public import proofs.«01_k».proof.Proof.SwaReadC

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body does at any grid point: it leaves its inputs' buffers, and in each output's buffer the output's step of what
    the buffer held. -/
theorem body_spec (c : Dev nD) (i : grid0.Coords) (a0 : Memref sig .tc .vmem S1x1x4x128x64 .f32) (h0 : a0.IsWhole) (a1 : Memref sig .tc .vmem S1x1x128x64 .f32) (h1 : a1.IsWhole) (a2 : Memref sig .tc .vmem S1x1x128x64 .f32) (h2 : a2.IsWhole) (a3 : Memref sig .tc .vmem S1x1x128x64 .f32) (h3 : a3.IsWhole) (a4 : Memref sig .tc .vmem S1x1x128x64 .f32) (h4 : a4.IsWhole) (a5 : Memref sig .tc .vmem S1x4x128x256 .f32) (h5 : a5.IsWhole) (a6 : Memref sig .tc .smem S16 .f32) (h6 : a6.IsWhole) (a7 : Memref sig .tc .vmem S1x1x4x128x64 .f32) (h7 : a7.IsWhole) (a8 : Memref sig .tc .vmem S1x1x4x128x64 .f32) (h8 : a8.IsWhole) (a9 : Memref sig .tc .vmem S1x1x2048x64 .f32) (h9 : a9.IsWhole) (a10 : Memref sig .tc .vmem S1x1x2048x64 .f32) (h10 : a10.IsWhole) (a11 : Memref sig .tc .vmem S1x4x128x256 .f32) (h11 : a11.IsWhole) (a12 : Memref sig .tc .vmem S1x4x128 .f32) (h12 : a12.IsWhole)
    (X : Blk F) (x9 x10 : Vec F S1x1x2048x64 .f32) (x11 : Vec F S1x4x128x256 .f32) (x12 : Vec F S1x4x128 .f32) (E : Set ℕ) (K : PUnit → sProp 𝕄) :
    iprop(owns (c : Thread nD τ) a0 fullShare X.q ∗ owns (c : Thread nD τ) a1 fullShare X.kp ∗ owns (c : Thread nD τ) a2 fullShare X.kc ∗ owns (c : Thread nD τ) a3 fullShare X.vp ∗ owns (c : Thread nD τ) a4 fullShare X.vc ∗ owns (c : Thread nD τ) a5 fullShare X.bias ∗ owns (c : Thread nD τ) a6 fullShare X.sinks ∗ owns (c : Thread nD τ) a7 fullShare X.dout ∗ (∃ d, owns (c : Thread nD τ) a8 fullShare d) ∗ owns (c : Thread nD τ) a9 fullShare x9 ∗ owns (c : Thread nD τ) a10 fullShare x10 ∗ owns (c : Thread nD τ) a11 fullShare x11 ∗ owns (c : Thread nD τ) a12 fullShare x12
        ∗ (iprop(owns (c : Thread nD τ) a0 fullShare X.q ∗ owns (c : Thread nD τ) a1 fullShare X.kp ∗ owns (c : Thread nD τ) a2 fullShare X.kc ∗ owns (c : Thread nD τ) a3 fullShare X.vp ∗ owns (c : Thread nD τ) a4 fullShare X.vc ∗ owns (c : Thread nD τ) a5 fullShare X.bias ∗ owns (c : Thread nD τ) a6 fullShare X.sinks ∗ owns (c : Thread nD τ) a7 fullShare X.dout ∗ owns (c : Thread nD τ) a8 fullShare (X.outDq i) ∗ owns (c : Thread nD τ) a9 fullShare (X.outDk i x9) ∗ owns (c : Thread nD τ) a10 fullShare (X.outDv i x10) ∗ owns (c : Thread nD τ) a11 fullShare (X.outDbias i x11) ∗ owns (c : Thread nD τ) a12 fullShare (X.outDsink i x12)) -∗ K ⟨⟩))
      ⊢ wp frame (wpE (defs₀ (F := F)) Variants.none c none) E (cc0_swa_b i a0 h0 a1 h1 a2 h2 a3 h3 a4 h4 a5 h5 a6 h6 a7 h7 a8 h8 a9 h9 a10 h10 a11 h11 a12 h12) K := by
  by_cases hc1 : cond1 i
  · have hc3 : ¬k0_cond3 i = 1#1 := fun h => by have h1 := (cond1_iff i).mp hc1; have h3 := (cond3_iff i).mp h; omega
    by_cases hc2 : cond2 i
    · iintro ⟨H0, H1, H2, H3, H4, H5, H6, H7, H8, H9, H10, H11, H12, Hk⟩
      iapply (runA c i a0 h0 a1 h1 a2 h2 a3 h3 a4 h4 a5 h5 a6 h6 a7 h7 a8 h8 a9 h9 a10 h10 a11 h11 a12 h12 hc1 hc2 hc3 X.q X.kp X.kc X.vp X.vc X.bias X.sinks X.dout).2.2.2.2.property
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      iintro ⟨H0, H1, H2, H3, H4, H5, H6, H7, ⟨%f8, H8⟩, ⟨%f9, H9⟩, ⟨%f10, H10⟩, ⟨%f11, H11⟩, ⟨%f12, H12⟩⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr; · ipureintro; exact runA_dq c i a0 h0 a1 h1 a2 h2 a3 h3 a4 h4 a5 h5 a6 h6 a7 h7 a8 h8 a9 h9 a10 h10 a11 h11 a12 h12 hc1 hc2 hc3 X.q X.kp X.kc X.vp X.vc X.bias X.sinks X.dout f8
        iexact H8
      isplitl [H9]
      · unfold owns; iexists _; isplitr; · ipureintro; exact runA_dk c i a0 h0 a1 h1 a2 h2 a3 h3 a4 h4 a5 h5 a6 h6 a7 h7 a8 h8 a9 h9 a10 h10 a11 h11 a12 h12 hc1 hc2 hc3 X.q X.kp X.kc X.vp X.vc X.bias X.sinks X.dout f9 x9
        iexact H9
      isplitl [H10]
      · unfold owns; iexists _; isplitr; · ipureintro; exact runA_dv c i a0 h0 a1 h1 a2 h2 a3 h3 a4 h4 a5 h5 a6 h6 a7 h7 a8 h8 a9 h9 a10 h10 a11 h11 a12 h12 hc1 hc2 hc3 X.q X.kp X.kc X.vp X.vc X.bias X.sinks X.dout f10 x10
        iexact H10
      isplitl [H11]
      · unfold owns; iexists _; isplitr; · ipureintro; exact runA_dbias c i a0 h0 a1 h1 a2 h2 a3 h3 a4 h4 a5 h5 a6 h6 a7 h7 a8 h8 a9 h9 a10 h10 a11 h11 a12 h12 hc1 hc2 hc3 X.q X.kp X.kc X.vp X.vc X.bias X.sinks X.dout f11 x11
        iexact H11
      unfold owns; iexists _; isplitr; · ipureintro; exact runA_dsink c i a0 h0 a1 h1 a2 h2 a3 h3 a4 h4 a5 h5 a6 h6 a7 h7 a8 h8 a9 h9 a10 h10 a11 h11 a12 h12 hc1 hc2 hc3 X.q X.kp X.kc X.vp X.vc X.bias X.sinks X.dout f12 x12
      iexact H12
    · iintro ⟨H0, H1, H2, H3, H4, H5, H6, H7, H8, H9, H10, H11, H12, Hk⟩
      iapply (runB c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x11 x12).2.2.2.2.property
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      iintro ⟨H0, H1, H2, H3, H4, H5, H6, H7, ⟨%f8, H8⟩, ⟨%f9, H9⟩, ⟨%f10, H10⟩, H11, H12⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr; · ipureintro; exact runB_dq c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x11 x12 f8
        iexact H8
      isplitl [H9]
      · unfold owns; iexists _; isplitr; · ipureintro; exact runB_dk c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x11 x12 f9 x9
        iexact H9
      isplitl [H10]
      · unfold owns; iexists _; isplitr; · ipureintro; exact runB_dv c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x11 x12 f10 x10
        iexact H10
      isplitl [H11]
      · unfold owns; iexists _; isplitr; · ipureintro; exact runB_dbias c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x11 x12
        iexact H11
      unfold owns; iexists _; isplitr; · ipureintro; exact runB_dsink c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x11 x12
      iexact H12
  · have hc2 : ¬cond2 i := fun h => hc1 ((cond1_iff i).mpr ((cond2_iff i).mp h).1)
    have hc3 : k0_cond3 i = 1#1 := (cond3_iff i).mpr (Nat.pos_of_ne_zero fun h => hc1 ((cond1_iff i).mpr h))
    iintro ⟨H0, H1, H2, H3, H4, H5, H6, H7, H8, H9, H10, H11, H12, Hk⟩
    iapply (runC c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x9 x10 x11 x12).2.2.2.2.property
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H0, H1, H2, H3, H4, H5, H6, H7, ⟨%f8, H8⟩, H9, H10, H11, H12⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr; · ipureintro; exact runC_dq c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x9 x10 x11 x12 f8
      iexact H8
    isplitl [H9]
    · unfold owns; iexists _; isplitr; · ipureintro; exact runC_dk c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x9 x10 x11 x12
      iexact H9
    isplitl [H10]
    · unfold owns; iexists _; isplitr; · ipureintro; exact runC_dv c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x9 x10 x11 x12
      iexact H10
    isplitl [H11]
    · unfold owns; iexists _; isplitr; · ipureintro; exact runC_dbias c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x9 x10 x11 x12
      iexact H11
    unfold owns; iexists _; isplitr; · ipureintro; exact runC_dsink c i a0 h0 a1 h1 a2 h2 a3 h3 a4 h4 a5 h5 a6 h6 a7 h7 a8 h8 a9 h9 a10 h10 a11 h11 a12 h12 hc1 hc2 hc3 X.q X.kp X.kc X.vp X.vc X.bias X.sinks X.dout x9 x10 x11 x12
    iexact H12

end Cert.KernelIdeal.Swa

end
-- ==== Proof.SwaFrame.lean ====
module

public import proofs.«01_k».proof.Proof.SwaSpec
public import proofs.«01_k».proof.Proof.Gen.KernelIdeal.Frame
public import Idealize.ShloMosaic.Lib.Claim

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program, for any floating-point values -/

/-- The blocks that the body reads at grid point `t`. -/
def blk (c : Dev nD) (t : Fin cfg0.N) : Blk F :=
  ⟨iblk m c 0 t, iblk m c 1 t, iblk m c 2 t, iblk m c 3 t, iblk m c 4 t, iblk m c 5 t, iblk m c 6 t, iblk m c 7 t⟩

/-- The gradient of the keys in its buffer before grid point `n`: the points' steps from the first on. -/
def accDk (c : Dev nD) : ℕ → Vec F S1x1x2048x64 .f32
  | 0 => k0_pay8
  | n + 1 => if h : n < cfg0.N then (blk m c ⟨n, h⟩).outDk (grid0.coords ⟨n, h⟩) (accDk c n) else accDk c n
theorem accDk_succ (c : Dev nD) (t : Fin cfg0.N) : accDk m c (t.val + 1) = (blk m c t).outDk (grid0.coords t) (accDk m c t.val) :=
  dif_pos t.isLt
/-- The gradient of the values in its buffer before grid point `n`: the points' steps from the first on. -/
def accDv (c : Dev nD) : ℕ → Vec F S1x1x2048x64 .f32
  | 0 => k0_pay9
  | n + 1 => if h : n < cfg0.N then (blk m c ⟨n, h⟩).outDv (grid0.coords ⟨n, h⟩) (accDv c n) else accDv c n
theorem accDv_succ (c : Dev nD) (t : Fin cfg0.N) : accDv m c (t.val + 1) = (blk m c t).outDv (grid0.coords t) (accDv m c t.val) :=
  dif_pos t.isLt
/-- The gradient of the bias tables in its buffer before grid point `n`: the points' steps from the first on. -/
def accDbias (c : Dev nD) : ℕ → Vec F S1x4x128x256 .f32
  | 0 => k0_pay10
  | n + 1 => if h : n < cfg0.N then (blk m c ⟨n, h⟩).outDbias (grid0.coords ⟨n, h⟩) (accDbias c n) else accDbias c n
theorem accDbias_succ (c : Dev nD) (t : Fin cfg0.N) : accDbias m c (t.val + 1) = (blk m c t).outDbias (grid0.coords t) (accDbias m c t.val) :=
  dif_pos t.isLt
/-- The gradient of the sinks in its buffer before grid point `n`: the points' steps from the first on. -/
def accDsink (c : Dev nD) : ℕ → Vec F S1x4x128 .f32
  | 0 => k0_pay11
  | n + 1 => if h : n < cfg0.N then (blk m c ⟨n, h⟩).outDsink (grid0.coords ⟨n, h⟩) (accDsink c n) else accDsink c n
theorem accDsink_succ (c : Dev nD) (t : Fin cfg0.N) : accDsink m c (t.val + 1) = (blk m c t).outDsink (grid0.coords t) (accDsink m c t.val) :=
  dif_pos t.isLt

/-- A grid point's batch and block. -/
theorem coord1 (t : Fin cfg0.N) : (grid0.coords t 1).val = t.val / 16 % 2 :=
  Pipeline.Grid.coords_val t 1 (by decide) rfl
theorem coord2 (t : Fin cfg0.N) : (grid0.coords t 2).val = t.val % 16 :=
  (Pipeline.Grid.coords_val t 2 (S := 1) (B := 16) (by decide) rfl).trans (by rw [Nat.div_one])
theorem coord0 (t : Fin cfg0.N) : (grid0.coords t 0).val = t.val / 32 % 4 :=
  Pipeline.Grid.coords_val t 0 (by decide) rfl

/-- The proof data of the one pipeline: each input's buffer holds its block, each output's the steps' result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (blk m c t).outDq (grid0.coords t)
    | ⟨9, _⟩ => accDk m c (t.val + 1)
    | ⟨10, _⟩ => accDv m c (t.val + 1)
    | ⟨11, _⟩ => accDbias m c (t.val + 1)
    | ⟨12, _⟩ => accDsink m c (t.val + 1)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (blk m c t).outDq (grid0.coords t) := by dsimp only [dats]
theorem after0_9 (c : Dev nD) (t : Fin cfg0.N) : (dats m 0 c).after 9 t = accDk m c (t.val + 1) := by dsimp only [dats]
theorem after0_10 (c : Dev nD) (t : Fin cfg0.N) : (dats m 0 c).after 10 t = accDv m c (t.val + 1) := by dsimp only [dats]
theorem after0_11 (c : Dev nD) (t : Fin cfg0.N) : (dats m 0 c).after 11 t = accDbias m c (t.val + 1) := by dsimp only [dats]
theorem after0_12 (c : Dev nD) (t : Fin cfg0.N) : (dats m 0 c).after 12 t = accDsink m c (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The gradient of the keys after a point is the step of what its buffer held before, whatever that is where the step zeroes it. -/
theorem step_9 (c : Dev nD) (t : Fin cfg0.N) (d) :
    (blk m c t).outDk (grid0.coords t) ((dats m 0 c).before 9 t d) = accDk m c (t.val + 1) := by
  have hN : t.val < 128 := lt_of_lt_of_eq t.isLt N_0
  rw [accDk_succ]
  by_cases h : t.val % 16 = 0
  · have hn : (grid0.coords t 2).val = 0 := by rw [coord2]; exact h
    unfold Blk.outDk
    rw [if_pos hn, if_pos hn]
  · rw [Dat.before_out_kept _ 9 rfl t (by omega) (Bool.eq_false_iff.mpr fun h' => by have := (flush0_9 _).mp h'; dsimp only at this; omega)
      (fun _ => rfl) (fun _ _ => rfl), after0_9]
    have e : t.val - 1 + 1 = t.val := by omega
    show (blk m c t).outDk (grid0.coords t) (accDk m c (t.val - 1 + 1)) = _
    rw [e]

/-- The gradient of the values after a point is the step of what its buffer held before, whatever that is where the step zeroes it. -/
theorem step_10 (c : Dev nD) (t : Fin cfg0.N) (d) :
    (blk m c t).outDv (grid0.coords t) ((dats m 0 c).before 10 t d) = accDv m c (t.val + 1) := by
  have hN : t.val < 128 := lt_of_lt_of_eq t.isLt N_0
  rw [accDv_succ]
  by_cases h : t.val % 16 = 0
  · have hn : (grid0.coords t 2).val = 0 := by rw [coord2]; exact h
    unfold Blk.outDv
    rw [if_pos hn, if_pos hn]
  · rw [Dat.before_out_kept _ 10 rfl t (by omega) (Bool.eq_false_iff.mpr fun h' => by have := (flush0_10 _).mp h'; dsimp only at this; omega)
      (fun _ => rfl) (fun _ _ => rfl), after0_10]
    have e : t.val - 1 + 1 = t.val := by omega
    show (blk m c t).outDv (grid0.coords t) (accDv m c (t.val - 1 + 1)) = _
    rw [e]

/-- The gradient of the bias tables after a point is the step of what its buffer held before, whatever that is where the step zeroes it. -/
theorem step_11 (c : Dev nD) (t : Fin cfg0.N) (d) :
    (blk m c t).outDbias (grid0.coords t) ((dats m 0 c).before 11 t d) = accDbias m c (t.val + 1) := by
  have hN : t.val < 128 := lt_of_lt_of_eq t.isLt N_0
  rw [accDbias_succ]
  by_cases h : t.val % 32 = 0
  · have hn : (grid0.coords t 2).val = 0 ∧ (grid0.coords t 1).val = 0 := by rw [coord2, coord1]; omega
    unfold Blk.outDbias
    rw [if_pos hn, if_pos hn]
  · rw [Dat.before_out_kept _ 11 rfl t (by omega) (Bool.eq_false_iff.mpr fun h' => by have := (flush0_11 _).mp h'; dsimp only at this; omega)
      (fun _ => rfl) (fun _ _ => rfl), after0_11]
    have e : t.val - 1 + 1 = t.val := by omega
    show (blk m c t).outDbias (grid0.coords t) (accDbias m c (t.val - 1 + 1)) = _
    rw [e]

/-- The gradient of the sinks after a point is the step of what its buffer held before, whatever that is where the step zeroes it. -/
theorem step_12 (c : Dev nD) (t : Fin cfg0.N) (d) :
    (blk m c t).outDsink (grid0.coords t) ((dats m 0 c).before 12 t d) = accDsink m c (t.val + 1) := by
  have hN : t.val < 128 := lt_of_lt_of_eq t.isLt N_0
  rw [accDsink_succ]
  by_cases h : t.val % 32 = 0
  · have hn : (grid0.coords t 2).val = 0 ∧ (grid0.coords t 1).val = 0 := by rw [coord2, coord1]; omega
    unfold Blk.outDsink
    rw [if_pos hn, if_pos hn]
  · rw [Dat.before_out_kept _ 12 rfl t (by omega) (Bool.eq_false_iff.mpr fun h' => by have := (flush0_12 _).mp h'; dsimp only at this; omega)
      (fun _ => rfl) (fun _ _ => rfl), after0_12]
    have e : t.val - 1 + 1 = t.val := by omega
    show (blk m c t).outDsink (grid0.coords t) (accDsink m c (t.val - 1 + 1)) = _
    rw [e]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1600000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_spec c (grid0.coords t) _ _ _ _ _ _ _ _ _ _ _ _ _ _ _ _ _ _ _ _ _ _ _ _ _ _ (blk m c t) ((dats m 0 c).before 9 t d9) ((dats m 0 c).before 10 t d10) ((dats m 0 c).before 11 t d11) ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  rw [step_9, step_10, step_11, step_12, after0_9, after0_10, after0_11, after0_12]
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch rule's implicit arguments are found by unfolding plain definitions in a metavariable's type
set_option backward.isDefEq.respectTransparency.types false in
/-- Every weakly fair execution ends, with every array of the pipeline at what the steps compute and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every weakly fair execution ends, the arguments unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Swa

end
-- ==== Proof.SwaSame.lean ====
module

public import proofs.«01_k».proof.Defs
public import proofs.«01_k».proof.Proof.Gen.Kernel
public import proofs.«01_k».proof.Proof.SwaFrame

@[expose] public section

noncomputable section

namespace Cert.Swa

open Idealize.ShloMosaic Idealize.SL.Sem

variable {F : FTy → Type} [FloatOps F]

/-! # The two texts of the kernel are one program -/

theorem defs₀_eq : @Cert.Kernel.defs₀ F _ Cert.Kernel.Gen.facts = @Cert.KernelIdeal.defs₀ F _ Cert.KernelIdeal.Gen.facts :=
  congrArg Defs.onTc (funext fun l => funext fun a => by
    match l, a with
    | ⟨0, _⟩, (t, s) => rfl)
theorem defs_eq : @Cert.Kernel.defs F _ Cert.Kernel.Gen.facts = @Cert.KernelIdeal.defs F _ Cert.KernelIdeal.Gen.facts :=
  congrArg (Pipeline.defs Cert.KernelIdeal.pcfgs) defs₀_eq
set_option maxHeartbeats 4000000
theorem main_eq : Cert.Kernel.main (F := F) = Cert.KernelIdeal.main (F := F) := rfl

/-- A run of the one is a run of the other. -/
theorem run_same (m : (ℓ : Loc Cert.KernelIdeal.nD Cert.KernelIdeal.τ Cert.KernelIdeal.sig) → Buf (Elt F) ℓ) (ρ : Dev Cert.KernelIdeal.nD → PrngReg)
    (Q : _ → Prop) (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q :=
  Eq.mpr (congrArg (fun d => θ_run d (onTc (τ := Cert.KernelIdeal.τ) (Cert.KernelIdeal.main (F := F))) ⟨m, fun _ => 0, ρ⟩ Q) defs_eq) h

end Cert.Swa

end
-- ==== Proof.SwaReal.lean ====
module

public import Idealize.ShloMosaic.PureOps.Ideal.Laws

@[expose] public section

noncomputable section

namespace Cert.Swa

open Idealize.ShloMosaic
open scoped BigOperators

/-! # The gradient of sliding-window attention over the reals

One row of the attention is a query with its 256 logits `L`, the keys `V` it may see, the logit `s` of its sink and the
gradient `g` of its probabilities. The definitions are free of the maximum that both programs subtract first. -/

section Row

variable (L : Fin 256 → ℝ) (V : Fin 256 → Prop) [DecidablePred V] (s : ℝ) (g : Fin 256 → ℝ)

/-- The exponential of a logit, none where the key is not seen. -/
def ex (k : Fin 256) : ℝ := if V k then Real.exp (L k) else 0
/-- The softmax's denominator; the sink takes part. -/
def den : ℝ := ∑ k, ex L V k + Real.exp s
/-- A key's probability. -/
def prob (k : Fin 256) : ℝ := ex L V k / den L V s
/-- The sink's probability. -/
def psink : ℝ := Real.exp s / den L V s
/-- The mean of the gradient under the probabilities. -/
def mean : ℝ := ∑ k, prob L V s k * g k
/-- The gradient of a logit. -/
def dlog (k : Fin 256) : ℝ := prob L V s k * (g k - mean L V s g)
/-- The gradient of the sink. -/
def dsk : ℝ := -(psink L V s * mean L V s g)

theorem ex_nonneg (k : Fin 256) : 0 ≤ ex L V k := by unfold ex; split <;> positivity
theorem den_pos : 0 < den L V s := add_pos_of_nonneg_of_pos (Finset.sum_nonneg fun k _ => ex_nonneg L V k) (Real.exp_pos s)

theorem prob_of_not {k : Fin 256} (h : ¬V k) : prob L V s k = 0 := by simp [prob, ex, h]
theorem dlog_of_not {k : Fin 256} (h : ¬V k) : dlog L V s g k = 0 := by simp [dlog, prob_of_not L V s h]

variable {L V s g} in
theorem ex_congr {L' : Fin 256 → ℝ} (h : ∀ k, V k → L k = L' k) : ex L V = ex L' V := by
  funext k; unfold ex; split
  · rw [h k (by assumption)]
  · rfl
variable {L V s g} in
theorem prob_congr {L' : Fin 256 → ℝ} (h : ∀ k, V k → L k = L' k) : prob L V s = prob L' V s := by
  funext k; unfold prob den; rw [ex_congr h]
variable {L V s g} in
theorem mean_congr {L' g' : Fin 256 → ℝ} (h : ∀ k, V k → L k = L' k) (hg : ∀ k, V k → g k = g' k) :
    mean L V s g = mean L' V s g' := by
  unfold mean
  refine Finset.sum_congr rfl fun k _ => ?_
  rw [prob_congr h]
  by_cases hk : V k
  · rw [hg k hk]
  · simp [prob_of_not _ _ _ hk]
variable {L V s g} in
theorem dlog_congr {L' g' : Fin 256 → ℝ} (h : ∀ k, V k → L k = L' k) (hg : ∀ k, V k → g k = g' k) :
    dlog L V s g = dlog L' V s g' := by
  funext k
  by_cases hk : V k
  · unfold dlog; rw [prob_congr h, mean_congr h hg, hg k hk]
  · rw [dlog_of_not _ _ _ _ hk, dlog_of_not _ _ _ _ hk]
variable {L V s g} in
theorem dsk_congr {L' g' : Fin 256 → ℝ} (h : ∀ k, V k → L k = L' k) (hg : ∀ k, V k → g k = g' k) :
    dsk L V s g = dsk L' V s g' := by
  unfold dsk psink den; rw [mean_congr h hg, ex_congr h]

/-! ## The textbook gradient of a quotient of exponentials -/

section Textbook
variable (c : ℝ) (hc : 0 < c)

theorem sum_scaled : ∑ k, c * ex L V k + c * Real.exp s = c * den L V s := by
  rw [den, mul_add, Finset.mul_sum]

/-- The gradient of the denominator. -/
theorem dden_eq (hc : 0 < c) :
    -(∑ k, g k * (1 / ((c * den L V s) * (c * den L V s))) * (c * ex L V k)) = -(mean L V s g / (c * den L V s)) := by
  have hd := den_pos L V s
  rw [mean, Finset.sum_div]
  refine congrArg Neg.neg (Finset.sum_congr rfl fun k _ => ?_)
  unfold prob
  field_simp

theorem dlog_textbook (hc : 0 < c) (k : Fin 256) :
    (g k / (c * den L V s) + -(mean L V s g / (c * den L V s))) * (c * ex L V k) = dlog L V s g k := by
  have hd := den_pos L V s
  unfold dlog prob
  field_simp
  ring

theorem dsk_textbook (hc : 0 < c) : -(mean L V s g / (c * den L V s)) * (c * Real.exp s) = dsk L V s g := by
  have hd := den_pos L V s
  unfold dsk psink
  field_simp

/-- The gradient of the subtracted maximum vanishes. -/
theorem dmax_textbook : -(dsk L V s g) + ∑ k, -(dlog L V s g k) = 0 := by
  have hd := den_pos L V s
  have h1 : psink L V s + ∑ k, prob L V s k = 1 := by
    unfold psink prob
    rw [← Finset.sum_div, ← add_div, add_comm, ← den, div_self hd.ne']
  have h2 : ∑ k, dlog L V s g k = mean L V s g - (∑ k, prob L V s k) * mean L V s g := by
    unfold dlog
    simp_rw [mul_sub]
    rw [Finset.sum_sub_distrib, ← Finset.sum_mul]
    rfl
  rw [Finset.sum_neg_distrib, h2, dsk]
  have h3 : ∑ k, prob L V s k = 1 - psink L V s := by linarith
  rw [h3]; ring

end Textbook

end Row

/-! # Extended reals that are real -/

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of reals is the real sum. -/
theorem sum_eq_coe {ι : Type*} [Fintype ι] {F : ι → EReal} {f : ι → ℝ} (h : ∀ i, F i = (f i : EReal)) : ∑ i, F i = ((∑ i, f i : ℝ) : EReal) := by
  rw [coe_sum]; exact Finset.sum_congr rfl fun i _ => h i

theorem div_real {y : ℝ} (hy : y ≠ 0) (x : ℝ) : Ideal.div (x : EReal) (y : EReal) = ((x / y : ℝ) : EReal) := by
  rw [Ideal.div_coe hy, ← EReal.coe_mul, div_eq_mul_one_div x y]

theorem ofBits_bot : Ideal.ofBits .f32 0xFF800000#32 = ⊥ := by simp [Ideal.ofBits, Ideal.ieee]
theorem ofBits_one : Ideal.ofBits .f32 0x3F800000#32 = ((1 : ℝ) : EReal) := by
  simp [Ideal.ofBits, Ideal.ieee, -EReal.coe_one]; rw [← EReal.coe_mul]; norm_num
theorem ofBits_eighth : Ideal.ofBits .f32 0x3E000000#32 = ((1 / 8 : ℝ) : EReal) := by
  simp [Ideal.ofBits, Ideal.ieee]; rw [← EReal.coe_mul]; norm_num

section Masked
variable (L : Fin 256 → ℝ) (V : Fin 256 → Prop) [DecidablePred V] (s : ℝ)

/-- The logits as the programs mask them. -/
def masked (k : Fin 256) : EReal := if V k then (L k : EReal) else ⊥

theorem masked_ne_top (k : Fin 256) : masked L V k < ⊤ := by
  unfold masked; split
  · exact EReal.coe_lt_top _
  · exact bot_lt_top

/-- The maximum of a row's masked logits and its sink is a real number. -/
theorem max_real (f : Fin 256 → EReal) (hf : f = masked L V) :
    ∃ m : ℝ, max ((Finset.univ : Finset (Fin 256)).fold max ⊥ f) (s : EReal) = (m : EReal) := by
  subst hf
  have h1 : max ((Finset.univ : Finset (Fin 256)).fold max ⊥ (masked L V)) (s : EReal) < ⊤ :=
    max_lt ((Finset.fold_max_lt _).mpr ⟨bot_lt_top, fun k _ => masked_ne_top L V k⟩) (EReal.coe_lt_top s)
  have h2 : ⊥ < max ((Finset.univ : Finset (Fin 256)).fold max ⊥ (masked L V)) (s : EReal) :=
    lt_of_lt_of_le (EReal.bot_lt_coe s) (le_max_right _ _)
  exact ⟨_, (EReal.coe_toReal h1.ne h2.ne').symm⟩

/-- Some lane attains the maximum of a row. -/
theorem max_attained (f : Fin 256 → EReal) : ∃ k, f k = (Finset.univ : Finset (Fin 256)).fold max ⊥ f := by
  obtain ⟨k, -, h⟩ := Finset.exists_mem_eq_sup (Finset.univ : Finset (Fin 256)) ⟨0, Finset.mem_univ _⟩ f
  exact ⟨k, h.symm⟩

theorem exp_masked (m : ℝ) (k : Fin 256) : Ideal.exp (masked L V k - (m : EReal)) = ((Real.exp (-m) * ex L V k : ℝ) : EReal) := by
  unfold masked ex
  split
  · rw [← EReal.coe_sub, Ideal.exp_coe, ← Real.exp_add]; congr 2; ring
  · rw [EReal.bot_sub, Ideal.exp_bot, mul_zero]; rfl

theorem exp_sink (m : ℝ) : Ideal.exp ((s : EReal) - (m : EReal)) = ((Real.exp (-m) * Real.exp s : ℝ) : EReal) := by
  rw [← EReal.coe_sub, Ideal.exp_coe, ← Real.exp_add]; congr 2; ring

end Masked

/-! # The whole gradient -/

/-- The arguments as real numbers, at coordinates that are natural numbers: queries and the gradient of the output
    (batch, position, head, component), keys and values (batch, position, key head, component), a sink per head and the
    bias tables (key head, head, query, key). -/
structure Data where
  q : ℕ → ℕ → ℕ → ℕ → ℝ
  k : ℕ → ℕ → ℕ → ℕ → ℝ
  v : ℕ → ℕ → ℕ → ℕ → ℝ
  sk : ℕ → ℝ
  bias : ℕ → ℕ → ℕ → ℕ → ℝ
  dout : ℕ → ℕ → ℕ → ℕ → ℝ

/-- In block `n`, query `t` sees key `j` of the two blocks: at most 127 positions back, and inside the sequence. -/
def Sees (n t : ℕ) (j : Fin 256) : Prop := j.val ≤ t + 128 ∧ t < j.val ∧ (128 ≤ j.val ∨ 0 < n)

instance (n t : ℕ) : DecidablePred (Sees n t) := fun j => by unfold Sees; infer_instance

namespace Data

variable (D : Data)

/-- The keys of block `n` and of the block before it, none before the first. -/
def key (b h n j d : ℕ) : ℝ := if 128 ≤ 128 * n + j then D.k b (128 * n + j - 128) h d else 0
/-- The values likewise. -/
def val (b h n j d : ℕ) : ℝ := if 128 ≤ 128 * n + j then D.v b (128 * n + j - 128) h d else 0

/-- The logits of query `t` of block `n` in head `g` of key head `h`. -/
def lg (b h g n t : ℕ) (j : Fin 256) : ℝ :=
  (∑ d : Fin 64, D.q b (128 * n + t) (4 * h + g) d.val * D.key b h n j.val d.val) * (1 / 8) + D.bias h g t j.val
/-- The gradient of its probabilities. -/
def dp (b h g n t : ℕ) (j : Fin 256) : ℝ := ∑ d : Fin 64, D.dout b (128 * n + t) (4 * h + g) d.val * D.val b h n j.val d.val
/-- Its probabilities. -/
def p (b h g n t : ℕ) (j : Fin 256) : ℝ := prob (D.lg b h g n t) (Sees n t) (D.sk (4 * h + g)) j
/-- The gradient of its logits. -/
def dl (b h g n t : ℕ) (j : Fin 256) : ℝ := dlog (D.lg b h g n t) (Sees n t) (D.sk (4 * h + g)) (D.dp b h g n t) j
/-- Its part of the gradient of the sink. -/
def ds (b h g n t : ℕ) : ℝ := dsk (D.lg b h g n t) (Sees n t) (D.sk (4 * h + g)) (D.dp b h g n t)

/-- The gradient of the queries. -/
def dq (b h g n t d : ℕ) : ℝ := (∑ j : Fin 256, D.dl b h g n t j * D.key b h n j.val d) * (1 / 8)
/-- What block `n` gives to the gradient of the keys it sees. -/
def dkb (b h n : ℕ) (j : Fin 256) (d : ℕ) : ℝ :=
  ∑ g : Fin 4, (∑ t : Fin 128, D.dl b h g.val n t.val j * D.q b (128 * n + t.val) (4 * h + g.val) d) * (1 / 8)
/-- What block `n` gives to the gradient of the values it sees. -/
def dvb (b h n : ℕ) (j : Fin 256) (d : ℕ) : ℝ :=
  ∑ g : Fin 4, ∑ t : Fin 128, D.p b h g.val n t.val j * D.dout b (128 * n + t.val) (4 * h + g.val) d
end Data

/-- Row `r` of block `n` is seen as a second half by its own block and as a first half by the next, if there is one. -/
def twoBlocks (f : ℕ → Fin 256 → ℝ) (n : ℕ) (r : Fin 128) : ℝ :=
  f n ⟨r.val + 128, by omega⟩ + if n + 1 < 16 then f (n + 1) ⟨r.val, by omega⟩ else 0

namespace Data
variable (D : Data)
/-- The gradient of the keys. -/
def dk (b h n : ℕ) (r : Fin 128) (d : ℕ) : ℝ := twoBlocks (fun n j => D.dkb b h n j d) n r
/-- The gradient of the values. -/
def dv (b h n : ℕ) (r : Fin 128) (d : ℕ) : ℝ := twoBlocks (fun n j => D.dvb b h n j d) n r
/-- The gradient of the bias tables. -/
def dbias (h g t : ℕ) (j : Fin 256) : ℝ := ∑ b : Fin 2, ∑ n : Fin 16, D.dl b.val h g n.val t j
/-- The gradient of the sinks. -/
def dsink (h g : ℕ) : ℝ := ∑ b : Fin 2, ∑ n : Fin 16, ∑ t : Fin 128, D.ds b.val h g n.val t.val

end Data

end Cert.Swa

end
-- ==== Proof.SwaBlockVal.lean ====
module

public import proofs.«01_k».proof.Proof.SwaHead
public import proofs.«01_k».proof.Proof.SwaReal
public import Idealize.ShloMosaic.Lib.Pipeline.Value
public import Idealize.ShloMosaic.Lib.ValueIdx
public import Idealize.ShloMosaic.Lib.MatmulPlain

@[expose] public section

set_option maxRecDepth 16384

noncomputable section

namespace Cert.KernelIdeal.Swa

open Cert.KernelIdeal Cert.KernelIdeal.Gen Cert.Swa
open Idealize.ShloMosaic Idealize.ShloMosaic.TcCoe Idealize.ShloMosaic.ValueIdx
open scoped BigOperators

/-! # What one grid point computes, over the reals -/

theorem cast_rows (x : FVec Ideal S1x1x128x64 .f32) (r : Fin 128) (d : Fin 64) :
    shapeCast S128x64 x shapeCasts_S1x1x128x64_S128x64 (ix2 r d) = x (ix4 0 0 r d) :=
  shapeCast_apply _ _ _ _ (by
    rw [Shape.rowMajor_val_four, Shape.rowMajor_val_two]
    show ((0 * 1 + 0) * 128 + r.val) * 64 + d.val = r.val * 64 + d.val; omega)
theorem cast_head (x : FVec Ideal S1x1x1x128x64 .f32) (r : Fin 128) (d : Fin 64) :
    shapeCast S128x64 x shapeCasts_S1x1x1x128x64_S128x64 (ix2 r d) = x (ix5 0 0 0 r d) :=
  shapeCast_apply _ _ _ _ (by
    rw [Shape.rowMajor_val_five, Shape.rowMajor_val_two]
    show (((0 * 1 + 0) * 1 + 0) * 128 + r.val) * 64 + d.val = r.val * 64 + d.val; omega)
theorem cast_to_head (x : FVec Ideal S128x64 .f32) (r : Fin 128) (d : Fin 64) :
    shapeCast S1x1x1x128x64 x shapeCasts_S128x64_S1x1x1x128x64 (ix5 0 0 0 r d) = x (ix2 r d) :=
  shapeCast_apply _ _ _ _ (by
    rw [Shape.rowMajor_val_five, Shape.rowMajor_val_two]
    show r.val * 64 + d.val = (((0 * 1 + 0) * 1 + 0) * 128 + r.val) * 64 + d.val; omega)
theorem cast_table (x : FVec Ideal S1x1x128x256 .f32) (r : Fin 128) (j : Fin 256) :
    shapeCast S128x256 x shapeCasts_S1x1x128x256_S128x256 (ix2 r j) = x (ix4 0 0 r j) :=
  shapeCast_apply _ _ _ _ (by
    rw [Shape.rowMajor_val_four, Shape.rowMajor_val_two]
    show ((0 * 1 + 0) * 128 + r.val) * 256 + j.val = r.val * 256 + j.val; omega)
theorem cast_to_table (x : FVec Ideal S128x256 .f32) (r : Fin 128) (j : Fin 256) :
    shapeCast S1x1x128x256 x shapeCasts_S128x256_S1x1x128x256 (ix4 0 0 r j) = x (ix2 r j) :=
  shapeCast_apply _ _ _ _ (by
    rw [Shape.rowMajor_val_four, Shape.rowMajor_val_two]
    show r.val * 256 + j.val = ((0 * 1 + 0) * 128 + r.val) * 256 + j.val; omega)
theorem cast_col (x : FVec Ideal S128 .f32) (r : Fin 128) :
    shapeCast S128x1 x shapeCasts_S128_S128x1 (ix2 r 0) = x (ix1 r) :=
  shapeCast_apply _ _ _ _ (by
    rw [Shape.rowMajor_val_one, Shape.rowMajor_val_two]
    show r.val = r.val * 1 + 0; omega)
theorem over_col (x : FVec Ideal S128x1 .f32) (r : Fin 128) (j : Fin 256) :
    broadcastTo S128x256 x broadcasts_S128x1_S128x256 (ix2 r j) = x (ix2 r 0) :=
  broadcastTo_apply _ _ _ _ fun a => match a with
    | ⟨0, _⟩ => by show r.val = if (128 : ℕ) = 1 then 0 else r.val; rw [if_neg (by decide)]
    | ⟨1, _⟩ => by show 0 = if (1 : ℕ) = 1 then 0 else j.val; rw [if_pos rfl]
/-- A sum along the 256 lanes. -/
theorem lanes_sum (x : FVec Ideal S128x256 .f32) (r : Fin 128) (hφ hacc) :
    multiReduction .add [1] S128 x 0x00000000#32 reduces_S128x256_S128 hφ hacc (ix1 r) = ∑ j : Fin 256, x (ix2 r j) := by
  rw [Ideal.multiReduction_add_single]
  refine Finset.sum_congr rfl fun j _ => congrArg x ?_
  funext a; apply Fin.ext
  match a with
  | ⟨0, _⟩ => rfl
  | ⟨1, _⟩ => rfl
/-- A maximum along the 256 lanes. -/
theorem lanes_max (x : FVec Ideal S128x256 .f32) (r : Fin 128) (hφ hacc) :
    multiReduction .maximumf [1] S128 x 0xFF800000#32 reduces_S128x256_S128 hφ hacc (ix1 r)
      = (Finset.univ : Finset (Fin 256)).fold max ⊥ fun j => x (ix2 r j) := by
  rw [Ideal.multiReduction_maximumf_single, Ideal.ofBits_def, ofBits_bot]
  refine congrArg (fun f : Fin 256 → EReal => (Finset.univ : Finset (Fin 256)).fold max ⊥ f) ?_
  funext j
  refine congrArg x ?_
  funext a; apply Fin.ext
  match a with
  | ⟨0, _⟩ => rfl
  | ⟨1, _⟩ => rfl

/-- `[K, M]ᵀ × [K, N]`: both operands contracted over their rows. -/
theorem matmul_tn (x : FVec Ideal S128x256 .bf16) (y : FVec Ideal S128x64 .bf16) (j : Fin 256) (d : Fin 64) :
    FloatOps.matmul dot_S128x256_S128x64_S256x64_0_0_1_1_n_n none x y (constant S256x64 .f32 0x00000000#32) (ix2 j d)
      = ∑ t : Fin 128, x (ix2 t j) * y (ix2 t d) := by
  rw [Ideal.matmul_constant_zero_apply,
    ← Equiv.sum_comp (contrEquiv1 dot_S128x256_S128x64_S256x64_0_0_1_1_n_n 128 rfl rfl).symm]
  refine Finset.sum_congr rfl fun t _ => ?_
  have hk := contrEquiv1_symm_val dot_S128x256_S128x64_S256x64_0_0_1_1_n_n 128 rfl rfl t
  refine congrArg₂ (fun a b : EReal => a * b) (congrArg x ?_) (congrArg y ?_) <;>
  · funext a; apply Fin.ext
    match a with
    | ⟨0, _⟩ => exact hk
    | ⟨1, _⟩ => rfl
theorem matmul_nt (x : FVec Ideal S128x64 .bf16) (y : FVec Ideal S256x64 .bf16) (t : Fin 128) (j : Fin 256) :
    FloatOps.matmul dot_S128x64_S256x64_S128x256_1_1_0_0_n_n none x y (constant S128x256 .f32 0x00000000#32) (ix2 t j)
      = ∑ d : Fin 64, x (ix2 t d) * y (ix2 j d) := by
  refine (Ideal.matmul_transposedRhs_apply (M := 128) (K := 64) (N := 256) none x y _ t j).trans ?_
  rw [constant_apply, Ideal.ofBits_zero_f32, zero_add]
theorem matmul_nn (x : FVec Ideal S128x256 .bf16) (y : FVec Ideal S256x64 .bf16) (t : Fin 128) (d : Fin 64) :
    FloatOps.matmul dot_S128x256_S256x64_S128x64_1_0_0_1_n_n none x y (constant S128x64 .f32 0x00000000#32) (ix2 t d)
      = ∑ j : Fin 256, x (ix2 t j) * y (ix2 j d) := by
  refine (Ideal.matmul_plain_apply (M := 128) (K := 256) (N := 64) none x y _ t d).trans ?_
  rw [constant_apply, Ideal.ofBits_zero_f32, zero_add]

/-! ## Entries of the blocks -/

theorem row5_apply (x : Vec Ideal S1x1x4x128x64 .f32) (r : Fin 4) (t : Fin 128) (d : Fin 64) :
    row5 x r (ix5 0 0 0 t d) = x (ix5 0 0 r t d) := by
  unfold row5
  refine congrArg x ?_
  funext a; apply Fin.ext
  match a with
  | ⟨0, _⟩ => rfl
  | ⟨1, _⟩ => rfl
  | ⟨2, _⟩ => show r.val + 0 * 1 = r.val; omega
  | ⟨3, _⟩ => show 0 + 1 * t.val = t.val; omega
  | ⟨4, _⟩ => show 0 + 1 * d.val = d.val; omega
theorem row4_apply (x : Vec Ideal S1x4x128x256 .f32) (r : Fin 4) (t : Fin 128) (j : Fin 256) :
    row4 x r (ix4 0 0 t j) = x (ix4 0 r t j) := by
  unfold row4
  refine congrArg x ?_
  funext a; apply Fin.ext
  match a with
  | ⟨0, _⟩ => rfl
  | ⟨1, _⟩ => show r.val + 0 * 1 = r.val; omega
  | ⟨2, _⟩ => show 0 + 1 * t.val = t.val; omega
  | ⟨3, _⟩ => show 0 + 1 * j.val = j.val; omega
theorem row3_apply (x : Vec Ideal S1x4x128 .f32) (r : Fin 4) (l : Fin 128) :
    row3 x r (ix3 0 0 l) = x (ix3 0 r l) := by
  unfold row3
  refine congrArg x ?_
  funext a; apply Fin.ext
  match a with
  | ⟨0, _⟩ => rfl
  | ⟨1, _⟩ => show r.val + 0 * 1 = r.val; omega
  | ⟨2, _⟩ => show 0 + 1 * l.val = l.val; omega

theorem off1_eq (i : grid0.Coords) (r : Fin 4) : k0_off1 i (BitVec.ofNat 32 r.val) 0 = 4 * (i 0).val + r.val := by
  have h : ∀ (h : Fin 4) (r : Fin 4), (Scalar.indexCast (Scalar.addi (Scalar.muli (BitVec.ofNat 32 h.val) 4#32) (BitVec.ofNat 32 r.val)) : BitVec 32).toNat = 4 * h.val + r.val := by decide
  exact h (i 0) r

theorem sink_apply (i : grid0.Coords) (x : Vec Ideal S16 .f32) (r : Fin 4) :
    sink i x r = x (ix1 ⟨4 * (i 0).val + r.val, by have : (i 0).val < 4 := (i 0).isLt; omega⟩) := by
  unfold sink
  refine congrArg x ?_
  funext a; apply Fin.ext
  match a with
  | ⟨0, _⟩ => show k0_off1 i (BitVec.ofNat 32 r.val) 0 + 0 * 1 = _; rw [off1_eq]; show _ = 4 * (i 0).val + r.val; omega

/-- The mask of a point is 1 where the query sees the key. -/
theorem mask_apply (i : grid0.Coords) (t : Fin 128) (j : Fin 256) :
    k0_pay5 i (ix2 t j) = if Sees (i 2).val t.val j then 1#1 else 0#1 := by
  have h0 : ∀ u : Fin 384, (IntOp.andi (IntOp.cmpi .sge (BitVec.ofNat 32 u.val - 128#32) 0#32)
      (IntOp.cmpi .slt (BitVec.ofNat 32 u.val - 128#32) 128#32) : BitVec 1) = if 128 ≤ u.val ∧ u.val < 256 then 1#1 else 0#1 := by decide +kernel
  have hw : IntOp.subi (IntOp.addi (BitVec.ofNat 32 t.val) 128#32) (BitVec.ofNat 32 j.val) = BitVec.ofNat 32 (t.val + 256 - j.val) - 128#32 := by
    show BitVec.ofNat 32 t.val + 128#32 - BitVec.ofNat 32 j.val = _
    have ht := t.isLt
    have hj := j.isLt
    apply BitVec.eq_of_toNat_eq
    simp only [BitVec.toNat_sub, BitVec.toNat_add, BitVec.toNat_ofNat]
    omega
  have h1 : (IntOp.andi (IntOp.cmpi .sge (IntOp.subi (IntOp.addi (BitVec.ofNat 32 t.val) 128#32) (BitVec.ofNat 32 j.val)) 0#32)
        (IntOp.cmpi .slt (IntOp.subi (IntOp.addi (BitVec.ofNat 32 t.val) 128#32) (BitVec.ofNat 32 j.val)) 128#32) : BitVec 1)
        = if j.val ≤ t.val + 128 ∧ t.val < j.val then 1#1 else 0#1 := by
    rw [hw, h0 ⟨t.val + 256 - j.val, by omega⟩]
    exact if_congr (by simp only []; omega) rfl rfl
  have h2 : ∀ j : Fin 256, (IntOp.cmpi .sge (BitVec.ofNat 32 j.val) 128#32 : BitVec 1) = (if 128 ≤ j.val then 1#1 else 0#1 : BitVec 1) := by decide +kernel
  have h3 : ∀ n : Fin 16, (Scalar.cmpi .sgt (BitVec.ofNat 32 n.val) 0#32 : BitVec 1) = if 0 < n.val then 1#1 else 0#1 := by decide +kernel
  have i0 : iota .tc S128x256 32 [0] iota_S128x256_d0_w32 (ix2 t j) = BitVec.ofNat 32 t.val := by
    show BitVec.ofNat 32 (0 * 128 + t.val) = _
    rw [Nat.zero_mul, Nat.zero_add]
  have i1 : iota .tc S128x256 32 [1] iota_S128x256_d1_w32 (ix2 t j) = BitVec.ofNat 32 j.val := by
    show BitVec.ofNat 32 (0 * 256 + j.val) = _
    rw [Nat.zero_mul, Nat.zero_add]
  have e : k0_pay5 i (ix2 t j) = IntOp.andi (IntOp.andi (IntOp.cmpi .sge (IntOp.subi (IntOp.addi (iota .tc S128x256 32 [0] iota_S128x256_d0_w32 (ix2 t j)) 128#32) (iota .tc S128x256 32 [1] iota_S128x256_d1_w32 (ix2 t j))) 0#32)
        (IntOp.cmpi .slt (IntOp.subi (IntOp.addi (iota .tc S128x256 32 [0] iota_S128x256_d0_w32 (ix2 t j)) 128#32) (iota .tc S128x256 32 [1] iota_S128x256_d1_w32 (ix2 t j))) 128#32))
        (IntOp.ori (IntOp.cmpi .sge (iota .tc S128x256 32 [1] iota_S128x256_d1_w32 (ix2 t j)) 128#32) (Scalar.cmpi .sgt (BitVec.ofNat 32 (i 2).val) 0#32)) := rfl
  rw [i0, i1] at e
  rw [e, h1, h2, h3 (i 2)]
  unfold Sees
  by_cases ha : j.val ≤ t.val + 128 ∧ t.val < j.val <;> by_cases hb : 128 ≤ j.val <;> by_cases hc : 0 < (i 2).val <;>
    simp [ha, hb, hc, IntOp.andi, IntOp.ori] <;> omega

end Cert.KernelIdeal.Swa

end
-- ==== Proof.SwaBlockReal.lean ====
module

public import proofs.«01_k».proof.Proof.SwaBlockVal

@[expose] public section

set_option maxRecDepth 16384

noncomputable section

namespace Cert.KernelIdeal.Swa

open Cert.KernelIdeal Cert.KernelIdeal.Gen Cert.Swa
open Idealize.ShloMosaic Idealize.ShloMosaic.TcCoe Idealize.ShloMosaic.ValueIdx
open scoped BigOperators

/-! # What one grid point computes, in the words of the gradient over the reals -/

/-- The block's entries are the data's: batch `b`, key head `h`, block `n`. -/
structure Reads (X : Blk Ideal) (D : Data) (b h n : ℕ) : Prop where
  q : ∀ (g : Fin 4) (t : Fin 128) (d : Fin 64), X.q (ix5 0 0 g t d) = (D.q b (128 * n + t.val) (4 * h + g.val) d.val : EReal)
  kp : ∀ (t : Fin 128) (d : Fin 64), X.kp (ix4 0 0 t d) = (D.k b (128 * (n - 1) + t.val) h d.val : EReal)
  kc : ∀ (t : Fin 128) (d : Fin 64), X.kc (ix4 0 0 t d) = (D.k b (128 * n + t.val) h d.val : EReal)
  vp : ∀ (t : Fin 128) (d : Fin 64), X.vp (ix4 0 0 t d) = (D.v b (128 * (n - 1) + t.val) h d.val : EReal)
  vc : ∀ (t : Fin 128) (d : Fin 64), X.vc (ix4 0 0 t d) = (D.v b (128 * n + t.val) h d.val : EReal)
  bias : ∀ (g : Fin 4) (t : Fin 128) (j : Fin 256), X.bias (ix4 0 g t j) = (D.bias h g.val t.val j.val : EReal)
  sinks : ∀ a : Fin 16, X.sinks (ix1 a) = (D.sk a.val : EReal)
  dout : ∀ (g : Fin 4) (t : Fin 128) (d : Fin 64), X.dout (ix5 0 0 g t d) = (D.dout b (128 * n + t.val) (4 * h + g.val) d.val : EReal)

/-- The rows of two blocks as the body joins them: at the first block it reads the first block twice. -/
def two (f : ℕ → ℕ → ℝ) (n j d : ℕ) : ℝ := if j < 128 then f (128 * (n - 1) + j) d else f (128 * n + (j - 128)) d

theorem two_key (D : Data) (b h n t : ℕ) (j : Fin 256) (d : ℕ) (hs : Sees n t j) :
    two (fun s d => D.k b s h d) n j.val d = D.key b h n j.val d := by
  obtain ⟨-, -, h3⟩ := hs
  unfold two Data.key
  by_cases hj : j.val < 128
  · rw [if_pos hj, if_pos (by omega), show 128 * (n - 1) + j.val = 128 * n + j.val - 128 by omega]
  · rw [if_neg hj, if_pos (by omega), show 128 * n + (j.val - 128) = 128 * n + j.val - 128 by omega]
theorem two_val (D : Data) (b h n t : ℕ) (j : Fin 256) (d : ℕ) (hs : Sees n t j) :
    two (fun s d => D.v b s h d) n j.val d = D.val b h n j.val d := by
  obtain ⟨-, -, h3⟩ := hs
  unfold two Data.val
  by_cases hj : j.val < 128
  · rw [if_pos hj, if_pos (by omega), show 128 * (n - 1) + j.val = 128 * n + j.val - 128 by omega]
  · rw [if_neg hj, if_pos (by omega), show 128 * n + (j.val - 128) = 128 * n + j.val - 128 by omega]

theorem join_apply (x y : Vec Ideal S1x1x128x64 .f32) (f : ℕ → ℕ → ℝ) (n : ℕ)
    (hx : ∀ (t : Fin 128) (d : Fin 64), x (ix4 0 0 t d) = (f (128 * (n - 1) + t.val) d.val : EReal))
    (hy : ∀ (t : Fin 128) (d : Fin 64), y (ix4 0 0 t d) = (f (128 * n + t.val) d.val : EReal)) (j : Fin 256) (d : Fin 64) :
    concatenate S256x64 0 [⟨S128x64, shapeCast S128x64 x shapeCasts_S1x1x128x64_S128x64⟩,
      ⟨S128x64, shapeCast S128x64 y shapeCasts_S1x1x128x64_S128x64⟩] concatenates_S128x64_S128x64_S256x64_d0 (ix2 j d)
      = (two f n j.val d.val : EReal) := by
  unfold two
  have hjl := j.isLt
  by_cases hj : j.val < 128
  · rw [if_pos hj]
    refine (concatenate_pair_apply_left 0 _ _ concatenates_S128x64_S128x64_S256x64_d0 (ix2 j d) rfl (ix2 ⟨j.val, hj⟩ d) fun a => ?_).trans
      ((cast_rows x ⟨j.val, hj⟩ d).trans (hx _ _))
    match a with
    | ⟨0, _⟩ => rfl
    | ⟨1, _⟩ => rfl
  · rw [if_neg hj]
    refine (concatenate_pair_apply_right 0 _ _ concatenates_S128x64_S128x64_S256x64_d0 (ix2 j d) rfl rfl
      (ix2 ⟨j.val - 128, by omega⟩ d) (fun a ha => ?_) ?_).trans ((cast_rows y ⟨j.val - 128, by omega⟩ d).trans (hy _ _))
    · match a with
      | ⟨0, _⟩ => exact absurd rfl ha
      | ⟨1, _⟩ => rfl
    · show j.val - 128 + 128 = j.val; omega

section Point

variable {X : Blk Ideal} {D : Data} {b h n : ℕ} (H : Reads X D b h n) (i : grid0.Coords) (hn : (i 2).val = n) (hh : (i 0).val = h) (r : Fin 4)
include H

theorem keys_apply (j : Fin 256) (d : Fin 64) : X.keys (ix2 j d) = (two (fun s d => D.k b s h d) n j.val d.val : EReal) :=
  join_apply X.kp X.kc (fun s d => D.k b s h d) n H.kp H.kc j d
theorem vals_apply (j : Fin 256) (d : Fin 64) : X.vals (ix2 j d) = (two (fun s d => D.v b s h d) n j.val d.val : EReal) :=
  join_apply X.vp X.vc (fun s d => D.v b s h d) n H.vp H.vc j d
theorem qh_apply (t : Fin 128) (d : Fin 64) : X.qh r (ix2 t d) = (D.q b (128 * n + t.val) (4 * h + r.val) d.val : EReal) :=
  (cast_head _ t d).trans ((row5_apply _ _ _ _).trans (H.q r t d))
theorem doh_apply (t : Fin 128) (d : Fin 64) : X.doh r (ix2 t d) = (D.dout b (128 * n + t.val) (4 * h + r.val) d.val : EReal) :=
  (cast_head _ t d).trans ((row5_apply _ _ _ _).trans (H.dout r t d))

/-- The logits as the body computes them, before the mask. -/
def lgk (D : Data) (b h g n t : ℕ) (j : Fin 256) : ℝ :=
  (∑ d : Fin 64, D.q b (128 * n + t) (4 * h + g) d.val * two (fun s d => D.k b s h d) n j.val d.val) * (1 / 8) + D.bias h g t j.val
/-- The gradients of the probabilities as the body computes them. -/
def dpk (D : Data) (b h g n t : ℕ) (j : Fin 256) : ℝ :=
  ∑ d : Fin 64, D.dout b (128 * n + t) (4 * h + g) d.val * two (fun s d => D.v b s h d) n j.val d.val

omit H in
theorem lgk_eq (D : Data) (b h g n t : ℕ) (j : Fin 256) (hs : Sees n t j) : lgk D b h g n t j = D.lg b h g n t j := by
  unfold lgk Data.lg
  rw [Finset.sum_congr rfl fun d _ => by rw [two_key D b h n t j _ hs]]
omit H in
theorem dpk_eq (D : Data) (b h g n t : ℕ) (j : Fin 256) (hs : Sees n t j) : dpk D b h g n t j = D.dp b h g n t j := by
  unfold dpk Data.dp
  rw [Finset.sum_congr rfl fun d _ => by rw [two_val D b h n t j _ hs]]

include hn

theorem logits_apply (t : Fin 128) (j : Fin 256) :
    k0_pay16 (k0_pay5 i) X.keys (row5 X.q r) (row4 X.bias r) (ix2 t j) = masked (lgk D b h r.val n t.val) (Sees n t.val) j := by
  have e : k0_pay16 (k0_pay5 i) X.keys (row5 X.q r) (row4 X.bias r) (ix2 t j)
      = Scalar.select (k0_pay5 i (ix2 t j))
        (FloatOps.matmul dot_S128x64_S256x64_S128x256_1_1_0_0_n_n none (truncf .bf16 (X.qh r) bitsLt_bf16_f32) (truncf .bf16 X.keys bitsLt_bf16_f32)
            (constant S128x256 .f32 0x00000000#32) (ix2 t j) * Ideal.ofBits .f32 0x3E000000#32
          + shapeCast S128x256 (row4 X.bias r) shapeCasts_S1x1x128x256_S128x256 (ix2 t j))
        (Ideal.ofBits .f32 0xFF800000#32) := rfl
  rw [e, mask_apply, cast_table, row4_apply, H.bias, matmul_nt, ofBits_eighth, ofBits_bot, hn]
  rw [sum_eq_coe (f := fun d : Fin 64 => D.q b (128 * n + t.val) (4 * h + r.val) d.val * two (fun s d => D.k b s h d) n j.val d.val) fun d => by
    rw [truncf_apply, truncf_apply, qh_apply H, keys_apply H, EReal.coe_mul]]
  rw [← EReal.coe_mul, ← EReal.coe_add]
  unfold masked
  by_cases hs : Sees n t.val j
  · rw [if_pos hs, if_pos hs]; rfl
  · rw [if_neg hs, if_neg hs]; rfl

include hh

/-- The body subtracts a real number from a row's logits. -/
theorem max_apply (t : Fin 128) :
    ∃ m : ℝ, k0_pay17 (k0_pay5 i) X.keys (row5 X.q r) (row4 X.bias r) (sink i X.sinks r) (ix2 t 0) = (m : EReal) := by
  obtain ⟨m, hm⟩ := max_real (lgk D b h r.val n t.val) (Sees n t.val) (D.sk (4 * h + r.val))
    (fun j => k0_pay16 (k0_pay5 i) X.keys (row5 X.q r) (row4 X.bias r) (ix2 t j)) (funext fun j => logits_apply H i hn r t j)
  refine ⟨m, Eq.trans ?_ hm⟩
  have e : k0_pay17 (k0_pay5 i) X.keys (row5 X.q r) (row4 X.bias r) (sink i X.sinks r) (ix2 t 0)
      = max (shapeCast S128x1 (multiReduction .maximumf [1] S128 (k0_pay16 (k0_pay5 i) X.keys (row5 X.q r) (row4 X.bias r)) 0xFF800000#32
          reduces_S128x256_S128 (.inl rfl) rfl) shapeCasts_S128_S128x1 (ix2 t 0)) (sink i X.sinks r) := rfl
  rw [e, cast_col]
  refine congrArg₂ max (lanes_max _ t _ _) ?_
  rw [sink_apply, H.sinks]
  subst hh
  rfl

/-- A point's row in the words of the gradient over the reals. -/
theorem row (t : Fin 128) : ∃ c : ℝ, 0 < c ∧ (∀ j, X.e i r (ix2 t j) = ((c * ex (lgk D b h r.val n t.val) (Sees n t.val) j : ℝ) : EReal))
    ∧ X.es i r (ix2 t 0) = ((c * Real.exp (D.sk (4 * h + r.val)) : ℝ) : EReal)
    ∧ k0_pay21 (X.es i r) (X.sum i r) (ix2 t 0) = ((c * den (lgk D b h r.val n t.val) (Sees n t.val) (D.sk (4 * h + r.val)) : ℝ) : EReal) := by
  obtain ⟨m, hm⟩ := max_apply H i hn hh r t
  have he : ∀ j, X.e i r (ix2 t j) = ((Real.exp (-m) * ex (lgk D b h r.val n t.val) (Sees n t.val) j : ℝ) : EReal) := fun j => by
    have e : X.e i r (ix2 t j) = Ideal.exp (k0_pay16 (k0_pay5 i) X.keys (row5 X.q r) (row4 X.bias r) (ix2 t j)
        - broadcastTo S128x256 (k0_pay17 (k0_pay5 i) X.keys (row5 X.q r) (row4 X.bias r) (sink i X.sinks r)) broadcasts_S128x1_S128x256 (ix2 t j)) := rfl
    rw [e, over_col, hm, logits_apply H i hn, exp_masked]
  have hes : X.es i r (ix2 t 0) = ((Real.exp (-m) * Real.exp (D.sk (4 * h + r.val)) : ℝ) : EReal) := by
    have e : X.es i r (ix2 t 0) = Ideal.exp (sink i X.sinks r
        - k0_pay17 (k0_pay5 i) X.keys (row5 X.q r) (row4 X.bias r) (sink i X.sinks r) (ix2 t 0)) := rfl
    rw [e, hm, sink_apply, H.sinks, exp_sink]
    subst hh; rfl
  refine ⟨Real.exp (-m), Real.exp_pos _, he, hes, ?_⟩
  have e : k0_pay21 (X.es i r) (X.sum i r) (ix2 t 0)
      = shapeCast S128x1 (multiReduction .add [1] S128 (X.e i r) 0x00000000#32 reduces_S128x256_S128 (.inl rfl) rfl) shapeCasts_S128_S128x1 (ix2 t 0)
        + X.es i r (ix2 t 0) := rfl
  rw [e, cast_col]
  refine (congrArg (fun a : EReal => a + X.es i r (ix2 t 0)) ((lanes_sum _ t _ _).trans (sum_eq_coe he))).trans ?_
  rw [hes, ← EReal.coe_add, sum_scaled]

/-- The probabilities. -/
theorem p_apply (t : Fin 128) (j : Fin 256) :
    k0_pay22 (X.e i r) (X.es i r) (X.sum i r) (ix2 t j) = (D.p b h r.val n t.val j : EReal) := by
  obtain ⟨c, hc, he, -, hd⟩ := row H i hn hh r t
  have e : k0_pay22 (X.e i r) (X.es i r) (X.sum i r) (ix2 t j)
      = Ideal.div (X.e i r (ix2 t j)) (broadcastTo S128x256 (k0_pay21 (X.es i r) (X.sum i r)) broadcasts_S128x1_S128x256 (ix2 t j)) := rfl
  have hp := den_pos (lgk D b h r.val n t.val) (Sees n t.val) (D.sk (4 * h + r.val))
  rw [e, over_col, hd, he, div_real (by positivity), mul_div_mul_left _ _ hc.ne']
  exact congrArg Real.toEReal (congrFun (prob_congr fun j hs => lgk_eq D b h r.val n t.val j hs) j)

/-- The probability of the sink. -/
theorem ps_apply (t : Fin 128) :
    X.ps i r (ix2 t 0) = (psink (lgk D b h r.val n t.val) (Sees n t.val) (D.sk (4 * h + r.val)) : EReal) := by
  obtain ⟨c, hc, -, hes, hd⟩ := row H i hn hh r t
  have e : X.ps i r (ix2 t 0) = Ideal.div (X.es i r (ix2 t 0)) (k0_pay21 (X.es i r) (X.sum i r) (ix2 t 0)) := rfl
  have hp := den_pos (lgk D b h r.val n t.val) (Sees n t.val) (D.sk (4 * h + r.val))
  rw [e, hd, hes, div_real (by positivity), mul_div_mul_left _ _ hc.ne']
  rfl

omit hn hh in
theorem dp_apply (t : Fin 128) (j : Fin 256) : k0_pay24 X.vals (X.doh r) (ix2 t j) = (dpk D b h r.val n t.val j : EReal) := by
  have e : k0_pay24 X.vals (X.doh r) (ix2 t j) = FloatOps.matmul dot_S128x64_S256x64_S128x256_1_1_0_0_n_n none
      (truncf .bf16 (X.doh r) bitsLt_bf16_f32) (truncf .bf16 X.vals bitsLt_bf16_f32) (constant S128x256 .f32 0x00000000#32) (ix2 t j) := rfl
  rw [e, matmul_nt]
  exact sum_eq_coe fun d => by rw [truncf_apply, truncf_apply, doh_apply H, vals_apply H, EReal.coe_mul]

theorem delta_apply (t : Fin 128) : X.delta i r (ix2 t 0)
    = (mean (lgk D b h r.val n t.val) (Sees n t.val) (D.sk (4 * h + r.val)) (dpk D b h r.val n t.val) : EReal) := by
  have e : X.delta i r (ix2 t 0) = shapeCast S128x1 (multiReduction .add [1] S128 (mulf (k0_pay22 (X.e i r) (X.es i r) (X.sum i r)) (k0_pay24 X.vals (X.doh r)))
      0x00000000#32 reduces_S128x256_S128 (.inl rfl) rfl) shapeCasts_S128_S128x1 (ix2 t 0) := rfl
  rw [e, cast_col]
  refine (lanes_sum _ t _ _).trans (sum_eq_coe fun j => ?_)
  rw [mulf_apply, p_apply H i hn hh, dp_apply H, ← EReal.coe_mul, Data.p, prob_congr fun j hs => lgk_eq D b h r.val n t.val j hs]

/-- The gradient of the logits. -/
theorem dl_apply (t : Fin 128) (j : Fin 256) :
    k0_pay26 X.vals (X.doh r) (X.e i r) (X.es i r) (X.sum i r) (ix2 t j) = (D.dl b h r.val n t.val j : EReal) := by
  have e : k0_pay26 X.vals (X.doh r) (X.e i r) (X.es i r) (X.sum i r) (ix2 t j)
      = k0_pay22 (X.e i r) (X.es i r) (X.sum i r) (ix2 t j)
        * (k0_pay24 X.vals (X.doh r) (ix2 t j) - broadcastTo S128x256 (X.delta i r) broadcasts_S128x1_S128x256 (ix2 t j)) := rfl
  rw [e, over_col, delta_apply H i hn hh, p_apply H i hn hh, dp_apply H, ← EReal.coe_sub, ← EReal.coe_mul]
  refine congrArg Real.toEReal ?_
  rw [Data.p, ← prob_congr fun j hs => lgk_eq D b h r.val n t.val j hs]
  exact congrFun (dlog_congr (fun j hs => lgk_eq D b h r.val n t.val j hs) fun j hs => dpk_eq D b h r.val n t.val j hs) j

/-- The gradient of a head's queries. -/
theorem dq_apply (t : Fin 128) (d : Fin 64) : X.dq i r (ix5 0 0 0 t d) = (D.dq b h r.val n t.val d.val : EReal) := by
  have e : X.dq i r = shapeCast S1x1x1x128x64 (mulf (FloatOps.matmul dot_S128x256_S256x64_S128x64_1_0_0_1_n_n none
      (truncf .bf16 (k0_pay26 X.vals (X.doh r) (X.e i r) (X.es i r) (X.sum i r)) bitsLt_bf16_f32) (truncf .bf16 X.keys bitsLt_bf16_f32)
      (constant S128x64 .f32 0x00000000#32)) (broadcast S128x64 (Ideal.ofBits .f32 0x3E000000#32))) shapeCasts_S128x64_S1x1x1x128x64 := rfl
  rw [e, cast_to_head, mulf_apply, broadcast_apply, matmul_nn, ofBits_eighth]
  rw [sum_eq_coe (f := fun j : Fin 256 => D.dl b h r.val n t.val j * D.key b h n j.val d.val) fun j => by
    rw [truncf_apply, truncf_apply, dl_apply H i hn hh, keys_apply H, ← EReal.coe_mul]
    by_cases hs : Sees n t.val j
    · rw [two_key D b h n t.val j _ hs]
    · rw [Data.dl, dlog_of_not _ _ _ _ hs, zero_mul, zero_mul]]
  rw [← EReal.coe_mul]
  rfl

theorem dkAdd_apply (acc : FVec Ideal S256x64 .f32) (j : Fin 256) (d : Fin 64) : X.dkAdd i r acc (ix2 j d) = acc (ix2 j d)
    + (((∑ t : Fin 128, D.dl b h r.val n t.val j * D.q b (128 * n + t.val) (4 * h + r.val) d.val) * (1 / 8) : ℝ) : EReal) := by
  have e : X.dkAdd i r acc (ix2 j d) = acc (ix2 j d) + FloatOps.matmul dot_S128x256_S128x64_S256x64_0_0_1_1_n_n none
      (truncf .bf16 (k0_pay26 X.vals (X.doh r) (X.e i r) (X.es i r) (X.sum i r)) bitsLt_bf16_f32) (truncf .bf16 (X.qh r) bitsLt_bf16_f32)
      (constant S256x64 .f32 0x00000000#32) (ix2 j d) * Ideal.ofBits .f32 0x3E000000#32 := rfl
  rw [e, matmul_tn, ofBits_eighth]
  rw [sum_eq_coe (f := fun t : Fin 128 => D.dl b h r.val n t.val j * D.q b (128 * n + t.val) (4 * h + r.val) d.val) fun t => by
    rw [truncf_apply, truncf_apply, dl_apply H i hn hh, qh_apply H, ← EReal.coe_mul]]
  rw [← EReal.coe_mul]

theorem dvAdd_apply (acc : FVec Ideal S256x64 .f32) (j : Fin 256) (d : Fin 64) : X.dvAdd i r acc (ix2 j d) = acc (ix2 j d)
    + ((∑ t : Fin 128, D.p b h r.val n t.val j * D.dout b (128 * n + t.val) (4 * h + r.val) d.val : ℝ) : EReal) := by
  have e : X.dvAdd i r acc (ix2 j d) = acc (ix2 j d) + FloatOps.matmul dot_S128x256_S128x64_S256x64_0_0_1_1_n_n none
      (truncf .bf16 (k0_pay22 (X.e i r) (X.es i r) (X.sum i r)) bitsLt_bf16_f32) (truncf .bf16 (X.doh r) bitsLt_bf16_f32)
      (constant S256x64 .f32 0x00000000#32) (ix2 j d) := rfl
  rw [e, matmul_tn]
  rw [sum_eq_coe (f := fun t : Fin 128 => D.p b h r.val n t.val j * D.dout b (128 * n + t.val) (4 * h + r.val) d.val) fun t => by
    rw [truncf_apply, truncf_apply, p_apply H i hn hh, doh_apply H, ← EReal.coe_mul]]

/-- What a point gives to the keys it reads. -/
theorem dkb_apply (j : Fin 256) (d : Fin 64) : X.dkb i (ix2 j d) = (D.dkb b h n j d.val : EReal) := by
  have e0 : (k0_pay12 : FVec Ideal S256x64 .f32) (ix2 j d) = 0 := Ideal.ofBits_zero_f32
  unfold Blk.dkb
  rw [dkAdd_apply H i hn hh, dkAdd_apply H i hn hh, dkAdd_apply H i hn hh, dkAdd_apply H i hn hh, e0, zero_add,
    ← EReal.coe_add, ← EReal.coe_add, ← EReal.coe_add, Data.dkb, Fin.sum_univ_four]
/-- What a point gives to the values it reads. -/
theorem dvb_apply (j : Fin 256) (d : Fin 64) : X.dvb i (ix2 j d) = (D.dvb b h n j d.val : EReal) := by
  have e0 : (k0_pay13 : FVec Ideal S256x64 .f32) (ix2 j d) = 0 := Ideal.ofBits_zero_f32
  unfold Blk.dvb
  rw [dvAdd_apply H i hn hh, dvAdd_apply H i hn hh, dvAdd_apply H i hn hh, dvAdd_apply H i hn hh, e0, zero_add,
    ← EReal.coe_add, ← EReal.coe_add, ← EReal.coe_add, Data.dvb, Fin.sum_univ_four]

theorem dbiasAdd_apply (old : Vec Ideal S1x1x128x256 .f32) (t : Fin 128) (j : Fin 256) :
    X.dbiasAdd i r old (ix4 0 0 t j) = old (ix4 0 0 t j) + (D.dl b h r.val n t.val j : EReal) := by
  have e : X.dbiasAdd i r old = shapeCast S1x1x128x256 (addf (shapeCast S128x256 old shapeCasts_S1x1x128x256_S128x256)
      (k0_pay26 X.vals (X.doh r) (X.e i r) (X.es i r) (X.sum i r))) shapeCasts_S128x256_S1x1x128x256 := rfl
  rw [e, cast_to_table, addf_apply, cast_table, dl_apply H i hn hh]

theorem dsinkAdd_apply (old : Vec Ideal S1x1x128 .f32) (l : Fin 128) :
    X.dsinkAdd i r old (ix3 0 0 l) = old (ix3 0 0 l) + ((∑ t : Fin 128, D.ds b h r.val n t.val : ℝ) : EReal) := by
  have e : X.dsinkAdd i r old = shapeCast S1x1x128 (addf (shapeCast S1x128 old shapeCasts_S1x1x128_S1x128)
      (broadcastTo S1x128 (shapeCast S1x1 (shapeCast S1x1 (multiReduction .add [0] S1
        (mulf (subf (broadcast S128x1 (Ideal.ofBits .f32 0x00000000#32)) (X.ps i r)) (X.delta i r)) 0x00000000#32 reduces_S128x1_S1 (.inl rfl) rfl)
        shapeCasts_S1_S1x1) shapeCasts_S1x1_S1x1) broadcasts_S1x1_S1x128)) shapeCasts_S1x128_S1x1x128 := rfl
  rw [e]
  refine (shapeCast_apply _ _ _ (ix2 0 l) (by
    rw [Shape.rowMajor_val_three, Shape.rowMajor_val_two]
    show 0 * 128 + l.val = (0 * 1 + 0) * 128 + l.val; omega)).trans ?_
  rw [addf_apply]
  refine congrArg₂ (fun a b : EReal => a + b) (shapeCast_apply _ _ _ (ix3 0 0 l) (by
    rw [Shape.rowMajor_val_three, Shape.rowMajor_val_two]
    show (0 * 1 + 0) * 128 + l.val = 0 * 128 + l.val; omega)) ?_
  refine (broadcastTo_apply _ _ _ (ix2 0 0) fun a => match a with
    | ⟨0, _⟩ => by show 0 = if (1 : ℕ) = 1 then 0 else _; rw [if_pos rfl]
    | ⟨1, _⟩ => by show 0 = if (1 : ℕ) = 1 then 0 else _; rw [if_pos rfl]).trans ?_
  rw [shapeCast_self]
  refine (shapeCast_apply _ _ _ (ix1 0) (by rw [Shape.rowMajor_val_one, Shape.rowMajor_val_two]; rfl)).trans ?_
  refine (Ideal.multiReduction_add_single _ _ _ _ _ _).trans (sum_eq_coe (f := fun t : Fin 128 => D.ds b h r.val n t.val) fun (t : Fin 128) => ?_)
  have ix : reduces_S128x1_S1.lift (ix1 0) t = ix2 t 0 := by
    funext a; apply Fin.ext
    match a with
    | ⟨0, _⟩ => rfl
    | ⟨1, _⟩ => rfl
  rw [ix]
  show (Ideal.ofBits .f32 0x00000000#32 - X.ps i r (ix2 t 0)) * X.delta i r (ix2 t 0) = _
  rw [Ideal.ofBits_zero_f32, ps_apply H i hn hh, delta_apply H i hn hh, zero_sub,
    ← EReal.coe_neg, ← EReal.coe_mul]
  refine congrArg Real.toEReal ?_
  rw [neg_mul]
  exact dsk_congr (fun j hs => lgk_eq D b h r.val n t.val j hs) fun j hs => dpk_eq D b h r.val n t.val j hs

end Point

end Cert.KernelIdeal.Swa

end
-- ==== Proof.SwaAcc.lean ====
module

public import proofs.«01_k».proof.Proof.SwaFrame
public import proofs.«01_k».proof.Proof.SwaBlockReal

@[expose] public section

set_option maxRecDepth 16384

noncomputable section

namespace Cert.KernelIdeal.Swa

open Cert.KernelIdeal Cert.KernelIdeal.Gen Cert.Swa
open Idealize.ShloMosaic Idealize.ShloMosaic.TcCoe Idealize.ShloMosaic.ValueIdx
open Idealize.SL.Sem
open scoped BigOperators

/-! # What the accumulated outputs hold after each grid point -/

theorem pay1_apply (x : FVec Ideal S256x64 .f32) (a : Vec Ideal S1x1x128x64 .f32) (r : Fin 128) (d : Fin 64) :
    k0_pay1 x a (ix4 0 0 r d) = a (ix4 0 0 r d) + x (ix2 ⟨r.val + 128, by omega⟩ d) := by
  have e : k0_pay1 x a = shapeCast S1x1x128x64 (addf (shapeCast S128x64 a shapeCasts_S1x1x128x64_S128x64)
      (extractStridedSlice S128x64 ![128, 0] x slices_S256x64_o128_0_S128x64)) shapeCasts_S128x64_S1x1x128x64 := rfl
  rw [e]
  refine (shapeCast_apply _ _ _ (ix2 r d) (by
    rw [Shape.rowMajor_val_two, Shape.rowMajor_val_four]
    show r.val * 64 + d.val = ((0 * 1 + 0) * 128 + r.val) * 64 + d.val; omega)).trans ?_
  rw [addf_apply, cast_rows]
  refine congrArg (fun z : EReal => a (ix4 0 0 r d) + z) (extractStridedSlice_apply _ _ _ _ _ fun a => ?_)
  match a with
  | ⟨0, _⟩ => show r.val + 128 = 128 + r.val; omega
  | ⟨1, _⟩ => show d.val = 0 + d.val; omega
theorem pay3_apply (x : FVec Ideal S256x64 .f32) (a : Vec Ideal S1x1x128x64 .f32) (r : Fin 128) (d : Fin 64) :
    k0_pay3 x a (ix4 0 0 r d) = a (ix4 0 0 r d) + x (ix2 ⟨r.val, by omega⟩ d) := by
  have e : k0_pay3 x a = shapeCast S1x1x128x64 (addf (shapeCast S128x64 a shapeCasts_S1x1x128x64_S128x64)
      (extractStridedSlice S128x64 ![0, 0] x slices_S256x64_o0_0_S128x64)) shapeCasts_S128x64_S1x1x128x64 := rfl
  rw [e]
  refine (shapeCast_apply _ _ _ (ix2 r d) (by
    rw [Shape.rowMajor_val_two, Shape.rowMajor_val_four]
    show r.val * 64 + d.val = ((0 * 1 + 0) * 128 + r.val) * 64 + d.val; omega)).trans ?_
  rw [addf_apply, cast_rows]
  refine congrArg (fun z : EReal => a (ix4 0 0 r d) + z) (extractStridedSlice_apply _ _ _ _ _ fun a => ?_)
  match a with
  | ⟨0, _⟩ => show r.val = 0 + r.val; omega
  | ⟨1, _⟩ => show d.val = 0 + d.val; omega
theorem pay2_apply (x : FVec Ideal S256x64 .f32) (a : Vec Ideal S1x1x128x64 .f32) (r : Fin 128) (d : Fin 64) :
    k0_pay2 x a (ix4 0 0 r d) = a (ix4 0 0 r d) + x (ix2 ⟨r.val + 128, by omega⟩ d) := pay1_apply x a r d
theorem pay4_apply (x : FVec Ideal S256x64 .f32) (a : Vec Ideal S1x1x128x64 .f32) (r : Fin 128) (d : Fin 64) :
    k0_pay4 x a (ix4 0 0 r d) = a (ix4 0 0 r d) + x (ix2 ⟨r.val, by omega⟩ d) := pay3_apply x a r d

/-- What the points up to block `n` give to row `r` of block `k`. -/
def part (f : ℕ → Fin 256 → ℝ) (n k : ℕ) (r : Fin 128) : ℝ :=
  (if k ≤ n then f k ⟨r.val + 128, by omega⟩ else 0) + if k + 1 ≤ n then f (k + 1) ⟨r.val, by omega⟩ else 0
/-- What the point of block `n` gives to row `r` of block `k`. -/
def give (f : ℕ → Fin 256 → ℝ) (n k : ℕ) (r : Fin 128) : ℝ :=
  if k = n then f n ⟨r.val + 128, by omega⟩ else if k + 1 = n then f n ⟨r.val, by omega⟩ else 0
theorem part_zero (f : ℕ → Fin 256 → ℝ) (k : ℕ) (r : Fin 128) : give f 0 k r = part f 0 k r := by
  unfold give part
  by_cases h : k = 0
  · subst h; simp
  · rw [if_neg h, if_neg (by omega), if_neg (by omega), if_neg (by omega), add_zero]
theorem part_succ (f : ℕ → Fin 256 → ℝ) (n k : ℕ) (r : Fin 128) : part f n k r + give f (n + 1) k r = part f (n + 1) k r := by
  unfold give part
  rcases Nat.lt_trichotomy k n with h | h | h
  · rw [if_pos (by omega), if_pos (by omega), if_neg (by omega), if_neg (by omega), if_pos (by omega), if_pos (by omega), add_zero]
  · subst h
    rw [if_pos (by omega), if_neg (by omega), if_neg (by omega), if_pos (by omega), if_pos (by omega), if_pos (by omega), add_zero]
  · by_cases h' : k = n + 1
    · subst h'
      rw [if_neg (by omega), if_neg (by omega), if_pos rfl, if_pos (by omega), if_neg (by omega)]; ring
    · rw [if_neg (by omega), if_neg (by omega), if_neg (by omega), if_neg (by omega), if_neg (by omega), if_neg (by omega)]; ring
theorem part_last (f : ℕ → Fin 256 → ℝ) (k : ℕ) (hk : k < 16) (r : Fin 128) : part f 15 k r = twoBlocks f k r := by
  unfold part twoBlocks
  rw [if_pos (by omega)]
  by_cases h : k + 1 < 16
  · rw [if_pos h, if_pos (by omega)]
  · rw [if_neg h, if_neg (by omega)]

/-- A point's step of a buffer of rows adds the point's gift. -/
theorem stepRows_apply (i : grid0.Coords) (n : ℕ) (hn : (i 2).val = n) (f1 f3 : Vec Ideal S1x1x128x64 .f32 → FVec Ideal S1x1x128x64 .f32)
    (f : ℕ → Fin 256 → ℝ) (d : Fin 64)
    (h1 : ∀ a (r : Fin 128), f1 a (ix4 0 0 r d) = a (ix4 0 0 r d) + (f n ⟨r.val + 128, by omega⟩ : EReal))
    (h3 : ∀ a (r : Fin 128), f3 a (ix4 0 0 r d) = a (ix4 0 0 r d) + (f n ⟨r.val, by omega⟩ : EReal))
    (a : Vec Ideal S1x1x2048x64 .f32) (k : ℕ) (hk : k < 16) (r : Fin 128) :
    Blk.stepRows i f1 f3 a (ix4 0 0 ⟨128 * k + r.val, by omega⟩ d) = a (ix4 0 0 ⟨128 * k + r.val, by omega⟩ d) + (give f n k r : EReal) := by
  have hr := r.isLt
  unfold Blk.stepRows
  show (if h : 128 * (i 2).val ≤ 128 * k + r.val ∧ 128 * k + r.val < 128 * (i 2).val + 128 then
      f1 (Blk.rows a (128 * (i 2).val) (by have := Blk.lt16 i; omega)) (ix4 0 0 ⟨128 * k + r.val - 128 * (i 2).val, by omega⟩ d)
    else if h : 128 * (i 2).val ≤ 128 * k + r.val + 128 ∧ 128 * k + r.val < 128 * (i 2).val then
      f3 (Blk.rows a (128 * ((i 2).val - 1)) (by have := Blk.lt16 i; omega)) (ix4 0 0 ⟨128 * k + r.val - 128 * ((i 2).val - 1), by omega⟩ d)
    else a (ix4 0 0 ⟨128 * k + r.val, by omega⟩ d)) = _
  subst hn
  unfold give
  have hrow : ∀ (o : ℕ) (ho : o + 128 ≤ 2048), o = 128 * k → Blk.rows a o ho (ix4 0 0 r d) = a (ix4 0 0 ⟨128 * k + r.val, by omega⟩ d) := by
    intro o ho e; subst e; rfl
  by_cases c1 : k = (i 2).val
  · rw [dif_pos ⟨by omega, by omega⟩, if_pos c1]
    have e : (⟨128 * k + r.val - 128 * (i 2).val, by omega⟩ : Fin 128) = r := Fin.ext (by show 128 * k + r.val - 128 * (i 2).val = r.val; omega)
    rw [e, h1, hrow _ _ (by omega)]
  · rw [dif_neg (by omega), if_neg c1]
    by_cases c2 : k + 1 = (i 2).val
    · rw [dif_pos ⟨by omega, by omega⟩, if_pos c2]
      have e : (⟨128 * k + r.val - 128 * ((i 2).val - 1), by omega⟩ : Fin 128) = r :=
        Fin.ext (by show 128 * k + r.val - 128 * ((i 2).val - 1) = r.val; omega)
      rw [e, h3, hrow _ _ (by omega)]
    · rw [dif_neg (by omega), if_neg c2, EReal.coe_zero, add_zero]

theorem sum_points (F : ℕ → ℕ → ℝ) : ∑ u ∈ Finset.range 32, F (u / 16) (u % 16) = ∑ b : Fin 2, ∑ n : Fin 16, F b.val n.val := by
  rw [show (32 : ℕ) = 16 + 16 from rfl, Finset.sum_range_add, Fin.sum_univ_two, ← Finset.sum_range (fun n => F (0 : Fin 2).val n),
    ← Finset.sum_range (fun n => F (1 : Fin 2).val n)]
  refine congrArg₂ (· + ·) (Finset.sum_congr rfl fun u hu => ?_) (Finset.sum_congr rfl fun u hu => ?_)
  · have := Finset.mem_range.mp hu
    rw [show u / 16 = 0 by omega, show u % 16 = u by omega]; rfl
  · have := Finset.mem_range.mp hu
    rw [show (16 + u) / 16 = 1 by omega, show (16 + u) % 16 = u by omega]; rfl

variable (m : (ℓ : Loc nD τ sig) → Buf (Elt Ideal) ℓ) (c : Dev nD) (D : Data)
  (hR : ∀ t : Fin cfg0.N, Reads (blk m c t) D (t.val / 16 % 2) (t.val / 32 % 4) (t.val % 16))
include hR

/-- The queries' gradient that a point writes. -/
theorem outDq_apply (t : Fin cfg0.N) (g : Fin 4) (s : Fin 128) (d : Fin 64) : (blk m c t).outDq (grid0.coords t) (ix5 0 0 g s d)
    = (D.dq (t.val / 16 % 2) (t.val / 32 % 4) g.val (t.val % 16) s.val d.val : EReal) :=
  dq_apply (hR t) (grid0.coords t) (coord2 t) (coord0 t) g s d

/-- The keys' gradient after each point. -/
theorem accDk_apply (d : Fin 64) (k : ℕ) (hk : k < 16) (r : Fin 128) : ∀ n, (hn : n < cfg0.N) →
    accDk m c (n + 1) (ix4 0 0 ⟨128 * k + r.val, by omega⟩ d)
      = (part (fun x j => D.dkb (n / 16 % 2) (n / 32 % 4) x j d.val) (n % 16) k r : EReal) := by
  have step : ∀ t : Fin cfg0.N, accDk m c (t.val + 1) (ix4 0 0 ⟨128 * k + r.val, by omega⟩ d)
      = (if t.val % 16 = 0 then k0_pay8 else accDk m c t.val) (ix4 0 0 ⟨128 * k + r.val, by omega⟩ d)
        + (give (fun x j => D.dkb (t.val / 16 % 2) (t.val / 32 % 4) x j d.val) (t.val % 16) k r : EReal) := fun t => by
    rw [accDk_succ]
    unfold Blk.outDk
    rw [stepRows_apply (grid0.coords t) (t.val % 16) (coord2 t) _ _ (fun x j => D.dkb (t.val / 16 % 2) (t.val / 32 % 4) x j d.val) d
      (fun a r => by rw [pay1_apply, dkb_apply (hR t) _ (coord2 t) (coord0 t)])
      (fun a r => by rw [pay3_apply, dkb_apply (hR t) _ (coord2 t) (coord0 t)]) _ k hk r, coord2]
  have zero : (k0_pay8 (F := Ideal) : Vec Ideal S1x1x2048x64 .f32) (ix4 0 0 ⟨128 * k + r.val, by omega⟩ d) = 0 := Ideal.ofBits_zero_f32
  intro n
  induction n with
  | zero =>
    intro hn
    refine (step ⟨0, hn⟩).trans ?_
    dsimp only
    rw [if_pos rfl, zero, zero_add, show 0 % 16 = 0 from rfl, part_zero]
  | succ n ih =>
    intro hn
    refine (step ⟨n + 1, hn⟩).trans ?_
    dsimp only
    by_cases h : (n + 1) % 16 = 0
    · rw [if_pos h, zero, zero_add, h, part_zero]
    · rw [if_neg h, ih (by omega), show n / 16 % 2 = (n + 1) / 16 % 2 by omega, show n / 32 % 4 = (n + 1) / 32 % 4 by omega,
        show (n + 1) % 16 = n % 16 + 1 by omega, ← EReal.coe_add, part_succ]

/-- The values' gradient after each point. -/
theorem accDv_apply (d : Fin 64) (k : ℕ) (hk : k < 16) (r : Fin 128) : ∀ n, (hn : n < cfg0.N) →
    accDv m c (n + 1) (ix4 0 0 ⟨128 * k + r.val, by omega⟩ d)
      = (part (fun x j => D.dvb (n / 16 % 2) (n / 32 % 4) x j d.val) (n % 16) k r : EReal) := by
  have step : ∀ t : Fin cfg0.N, accDv m c (t.val + 1) (ix4 0 0 ⟨128 * k + r.val, by omega⟩ d)
      = (if t.val % 16 = 0 then k0_pay9 else accDv m c t.val) (ix4 0 0 ⟨128 * k + r.val, by omega⟩ d)
        + (give (fun x j => D.dvb (t.val / 16 % 2) (t.val / 32 % 4) x j d.val) (t.val % 16) k r : EReal) := fun t => by
    rw [accDv_succ]
    unfold Blk.outDv
    rw [stepRows_apply (grid0.coords t) (t.val % 16) (coord2 t) _ _ (fun x j => D.dvb (t.val / 16 % 2) (t.val / 32 % 4) x j d.val) d
      (fun a r => by rw [pay2_apply, dvb_apply (hR t) _ (coord2 t) (coord0 t)])
      (fun a r => by rw [pay4_apply, dvb_apply (hR t) _ (coord2 t) (coord0 t)]) _ k hk r, coord2]
  have zero : (k0_pay9 (F := Ideal) : Vec Ideal S1x1x2048x64 .f32) (ix4 0 0 ⟨128 * k + r.val, by omega⟩ d) = 0 := Ideal.ofBits_zero_f32
  intro n
  induction n with
  | zero =>
    intro hn
    refine (step ⟨0, hn⟩).trans ?_
    dsimp only
    rw [if_pos rfl, zero, zero_add, show 0 % 16 = 0 from rfl, part_zero]
  | succ n ih =>
    intro hn
    refine (step ⟨n + 1, hn⟩).trans ?_
    dsimp only
    by_cases h : (n + 1) % 16 = 0
    · rw [if_pos h, zero, zero_add, h, part_zero]
    · rw [if_neg h, ih (by omega), show n / 16 % 2 = (n + 1) / 16 % 2 by omega, show n / 32 % 4 = (n + 1) / 32 % 4 by omega,
        show (n + 1) % 16 = n % 16 + 1 by omega, ← EReal.coe_add, part_succ]

/-- The bias tables' gradient after each point. -/
theorem accDbias_apply (g : Fin 4) (s : Fin 128) (j : Fin 256) : ∀ n, (hn : n < cfg0.N) → accDbias m c (n + 1) (ix4 0 g s j)
    = ((∑ u ∈ Finset.range (n % 32 + 1), D.dl (u / 16) (n / 32 % 4) g.val (u % 16) s.val j : ℝ) : EReal) := by
  have step : ∀ t : Fin cfg0.N, accDbias m c (t.val + 1) (ix4 0 g s j)
      = (if t.val % 32 = 0 then k0_pay10 else accDbias m c t.val) (ix4 0 g s j)
        + (D.dl (t.val % 32 / 16) (t.val / 32 % 4) g.val (t.val % 32 % 16) s.val j : EReal) := fun t => by
    rw [accDbias_succ]
    unfold Blk.outDbias
    have hc : ((grid0.coords t 2).val = 0 ∧ (grid0.coords t 1).val = 0) ↔ t.val % 32 = 0 := by rw [coord1, coord2]; omega
    rw [if_congr hc rfl rfl]
    refine (dbiasAdd_apply (hR t) _ (coord2 t) (coord0 t) g _ s j).trans ?_
    rw [row4_apply, show t.val % 32 / 16 = t.val / 16 % 2 by omega, show t.val % 32 % 16 = t.val % 16 by omega]
  have zero : (k0_pay10 (F := Ideal) : Vec Ideal S1x4x128x256 .f32) (ix4 0 g s j) = 0 := Ideal.ofBits_zero_f32
  intro n
  induction n with
  | zero =>
    intro hn
    refine (step ⟨0, hn⟩).trans ?_
    dsimp only
    rw [if_pos rfl, zero, zero_add, Finset.sum_range_one]
  | succ n ih =>
    intro hn
    refine (step ⟨n + 1, hn⟩).trans ?_
    dsimp only
    by_cases h : (n + 1) % 32 = 0
    · rw [if_pos h, zero, zero_add, h, Finset.sum_range_one]
    · rw [if_neg h, ih (by omega), show n / 32 % 4 = (n + 1) / 32 % 4 by omega, show n % 32 + 1 = (n + 1) % 32 by omega, ← EReal.coe_add,
        Finset.sum_range_succ]

/-- The sinks' gradient after each point. -/
theorem accDsink_apply (g : Fin 4) (l : Fin 128) : ∀ n, (hn : n < cfg0.N) → accDsink m c (n + 1) (ix3 0 g l)
    = ((∑ u ∈ Finset.range (n % 32 + 1), ∑ s : Fin 128, D.ds (u / 16) (n / 32 % 4) g.val (u % 16) s.val : ℝ) : EReal) := by
  have step : ∀ t : Fin cfg0.N, accDsink m c (t.val + 1) (ix3 0 g l)
      = (if t.val % 32 = 0 then k0_pay11 else accDsink m c t.val) (ix3 0 g l)
        + ((∑ s : Fin 128, D.ds (t.val % 32 / 16) (t.val / 32 % 4) g.val (t.val % 32 % 16) s.val : ℝ) : EReal) := fun t => by
    rw [accDsink_succ]
    unfold Blk.outDsink
    have hc : ((grid0.coords t 2).val = 0 ∧ (grid0.coords t 1).val = 0) ↔ t.val % 32 = 0 := by rw [coord1, coord2]; omega
    rw [if_congr hc rfl rfl]
    refine (dsinkAdd_apply (hR t) _ (coord2 t) (coord0 t) g _ l).trans ?_
    rw [row3_apply, show t.val % 32 / 16 = t.val / 16 % 2 by omega, show t.val % 32 % 16 = t.val % 16 by omega]
  have zero : (k0_pay11 (F := Ideal) : Vec Ideal S1x4x128 .f32) (ix3 0 g l) = 0 := Ideal.ofBits_zero_f32
  intro n
  induction n with
  | zero =>
    intro hn
    refine (step ⟨0, hn⟩).trans ?_
    dsimp only
    rw [if_pos rfl, zero, zero_add, Finset.sum_range_one]
  | succ n ih =>
    intro hn
    refine (step ⟨n + 1, hn⟩).trans ?_
    dsimp only
    by_cases h : (n + 1) % 32 = 0
    · rw [if_pos h, zero, zero_add, h, Finset.sum_range_one]
    · rw [if_neg h, ih (by omega), show n / 32 % 4 = (n + 1) / 32 % 4 by omega, show n % 32 + 1 = (n + 1) % 32 by omega, ← EReal.coe_add,
        Finset.sum_range_succ]

end Cert.KernelIdeal.Swa

end
-- ==== Proof.SwaData.lean ====
module

public import proofs.«01_k».proof.Proof.SwaReal
public import Idealize.ShloMosaic.Lib.ValueIdx

@[expose] public section

noncomputable section

namespace Cert.Swa

open Idealize.ShloMosaic Idealize.ShloMosaic.ValueIdx

/-! # The data of six arrays of finite entries -/

/-- Every entry is a real number. -/
def Finite {s : Shape} (x : s.Idx → EReal) : Prop := ∀ y, x y ≠ ⊤ ∧ x y ≠ ⊥

/-- An array of rank 4 as a function of naturals, zero outside. -/
def ext4 {a b c d : ℕ} (x : (⟨4, ![a, b, c, d]⟩ : Shape).Idx → EReal) (i j k l : ℕ) : ℝ :=
  if h : (i < a ∧ j < b) ∧ (k < c ∧ l < d) then (x (ix4 ⟨i, h.1.1⟩ ⟨j, h.1.2⟩ ⟨k, h.2.1⟩ ⟨l, h.2.2⟩)).toReal else 0
/-- An array of rank 1 as a function of naturals, zero outside. -/
def ext1 {a : ℕ} (x : (⟨1, ![a]⟩ : Shape).Idx → EReal) (i : ℕ) : ℝ := if h : i < a then (x (ix1 ⟨i, h⟩)).toReal else 0

theorem ext4_eq {a b c d : ℕ} {x : (⟨4, ![a, b, c, d]⟩ : Shape).Idx → EReal} (hx : Finite x) (i : Fin a) (j : Fin b) (k : Fin c) (l : Fin d) :
    x (ix4 i j k l) = (ext4 x i.val j.val k.val l.val : EReal) := by
  unfold ext4
  rw [dif_pos ⟨⟨i.isLt, j.isLt⟩, k.isLt, l.isLt⟩]
  exact (EReal.coe_toReal (hx _).1 (hx _).2).symm
theorem ext1_eq {a : ℕ} {x : (⟨1, ![a]⟩ : Shape).Idx → EReal} (hx : Finite x) (i : Fin a) : x (ix1 i) = (ext1 x i.val : EReal) := by
  unfold ext1
  rw [dif_pos i.isLt]
  exact (EReal.coe_toReal (hx _).1 (hx _).2).symm

/-- The data of the six argument arrays. -/
def dataOf (q dout : (⟨4, ![2, 2048, 16, 64]⟩ : Shape).Idx → EReal) (k v : (⟨4, ![2, 2048, 4, 64]⟩ : Shape).Idx → EReal)
    (sk : (⟨1, ![16]⟩ : Shape).Idx → EReal) (bias : (⟨4, ![4, 4, 128, 256]⟩ : Shape).Idx → EReal) : Data :=
  ⟨ext4 q, ext4 k, ext4 v, ext1 sk, ext4 bias, ext4 dout⟩

/-- The arrays' entries are the data's. -/
structure Args (q dout : (⟨4, ![2, 2048, 16, 64]⟩ : Shape).Idx → EReal) (k v : (⟨4, ![2, 2048, 4, 64]⟩ : Shape).Idx → EReal)
    (sk : (⟨1, ![16]⟩ : Shape).Idx → EReal) (bias : (⟨4, ![4, 4, 128, 256]⟩ : Shape).Idx → EReal) (D : Data) : Prop where
  q : ∀ (b : Fin 2) (s : Fin 2048) (h : Fin 16) (d : Fin 64), q (ix4 b s h d) = (D.q b.val s.val h.val d.val : EReal)
  dout : ∀ (b : Fin 2) (s : Fin 2048) (h : Fin 16) (d : Fin 64), dout (ix4 b s h d) = (D.dout b.val s.val h.val d.val : EReal)
  k : ∀ (b : Fin 2) (s : Fin 2048) (h : Fin 4) (d : Fin 64), k (ix4 b s h d) = (D.k b.val s.val h.val d.val : EReal)
  v : ∀ (b : Fin 2) (s : Fin 2048) (h : Fin 4) (d : Fin 64), v (ix4 b s h d) = (D.v b.val s.val h.val d.val : EReal)
  sk : ∀ a : Fin 16, sk (ix1 a) = (D.sk a.val : EReal)
  bias : ∀ (h g : Fin 4) (t : Fin 128) (j : Fin 256), bias (ix4 h g t j) = (D.bias h.val g.val t.val j.val : EReal)

theorem args_dataOf {q dout : (⟨4, ![2, 2048, 16, 64]⟩ : Shape).Idx → EReal} {k v : (⟨4, ![2, 2048, 4, 64]⟩ : Shape).Idx → EReal}
    {sk : (⟨1, ![16]⟩ : Shape).Idx → EReal} {bias : (⟨4, ![4, 4, 128, 256]⟩ : Shape).Idx → EReal}
    (hq : Finite q) (hdo : Finite dout) (hk : Finite k) (hv : Finite v) (hs : Finite sk) (hb : Finite bias) :
    Args q dout k v sk bias (dataOf q dout k v sk bias) where
  q b s h d := ext4_eq hq b s h d
  dout b s h d := ext4_eq hdo b s h d
  k b s h d := ext4_eq hk b s h d
  v b s h d := ext4_eq hv b s h d
  sk a := ext1_eq hs a
  bias h g t j := ext4_eq hb h g t j

/-- A value below `+∞` in absolute value is a real number. -/
theorem finite_of_olt {s : Shape} (x : FVec Ideal s .f32) (one : s.Idx → Ideal .f32) (h1 : ∀ y, one y = Ideal.ofBits .f32 0x7F800000#32)
    (h : cmpf .olt (Host.absf x) one = fun _ => 1#1) : Finite x := fun y => by
  have htop : Ideal.ofBits .f32 0x7F800000#32 = ⊤ := by simp [Ideal.ofBits, Ideal.ieee]
  have e : Ideal.cmp .olt (max (x y : EReal) (-(x y : EReal))) ⊤ = 1#1 := by
    have := congrFun h y
    rw [← htop, ← h1 y]; exact this
  have hlt : max (x y : EReal) (-(x y : EReal)) < ⊤ := by
    by_contra hn
    unfold Ideal.cmp at e
    simp [hn] at e
  constructor
  · intro h'; rw [h'] at hlt; simp at hlt
  · intro h'; rw [h'] at hlt; simp at hlt

end Cert.Swa

end
-- ==== Proof.SwaHost.lean ====
module

public import proofs.«01_k».proof.Proof.SwaAcc
public import proofs.«01_k».proof.Proof.SwaData

@[expose] public section

set_option maxRecDepth 16384

noncomputable section

namespace Cert.KernelIdeal.Swa

open Cert.KernelIdeal Cert.KernelIdeal.Gen Cert.Swa
open Idealize.ShloMosaic Idealize.ShloMosaic.TcCoe Idealize.ShloMosaic.ValueIdx
open Idealize.SL.Sem
open scoped BigOperators

/-! # What the windows read, and the arrays that the grid leaves -/

theorem index0 : ∀ t : Fin cfg0.N, win0_0.index t 0 = t.val / 16 % 2 ∧ win0_0.index t 1 = t.val / 32 % 4 ∧ win0_0.index t 2 = 0
    ∧ win0_0.index t 3 = t.val % 16 ∧ win0_0.index t 4 = 0 := by decide +kernel
theorem index1 : ∀ t : Fin cfg0.N, win0_1.index t 0 = t.val / 16 % 2 ∧ win0_1.index t 1 = t.val / 32 % 4 ∧ win0_1.index t 2 = t.val % 16 - 1
    ∧ win0_1.index t 3 = 0 := by decide +kernel
theorem index2 : ∀ t : Fin cfg0.N, win0_2.index t 0 = t.val / 16 % 2 ∧ win0_2.index t 1 = t.val / 32 % 4 ∧ win0_2.index t 2 = t.val % 16
    ∧ win0_2.index t 3 = 0 := by decide +kernel
theorem index5 : ∀ t : Fin cfg0.N, win0_5.index t 0 = t.val / 32 % 4 ∧ win0_5.index t 1 = 0 ∧ win0_5.index t 2 = 0
    ∧ win0_5.index t 3 = 0 := by decide +kernel
theorem index9 : ∀ t : Fin cfg0.N, win0_9.index t 0 = t.val / 16 % 2 ∧ win0_9.index t 1 = t.val / 32 % 4 ∧ win0_9.index t 2 = 0
    ∧ win0_9.index t 3 = 0 := by decide +kernel

variable (m : (ℓ : Loc nD τ sig) → Buf (Elt Ideal) ℓ) (c : Dev nD)

/-- The argument arrays, as launched. -/
abbrev arg0 : Vec Ideal S2x2048x16x64 .f32 := m ((c.tc : Thread nD τ).loc main_arg0)
abbrev arg1 : Vec Ideal S2x2048x4x64 .f32 := m ((c.tc : Thread nD τ).loc main_arg1)
abbrev arg2 : Vec Ideal S2x2048x4x64 .f32 := m ((c.tc : Thread nD τ).loc main_arg2)
abbrev arg3 : Vec Ideal S16 .f32 := m ((c.tc : Thread nD τ).loc main_arg3)
abbrev arg4 : Vec Ideal S4x4x128x256 .f32 := m ((c.tc : Thread nD τ).loc main_arg4)
abbrev arg5 : Vec Ideal S2x2048x16x64 .f32 := m ((c.tc : Thread nD τ).loc main_arg5)

/-- The heads of a transposed and regrouped array. -/
theorem heads_apply (x : Vec Ideal S2x2048x16x64 .f32) (b : Fin 2) (h g : Fin 4) (s : Fin 2048) (d : Fin 64) :
    shapeCast S2x4x4x2048x64 (shapeCast S32x2048x64 (transpose S2x16x2048x64 [0, 2, 1, 3] x transposes_S2x2048x16x64_S2x16x2048x64_0_2_1_3)
      shapeCasts_S2x16x2048x64_S32x2048x64) shapeCasts_S32x2048x64_S2x4x4x2048x64 (ix5 b h g s d)
      = x (ix4 b s ⟨4 * h.val + g.val, by omega⟩ d) := by
  refine (shapeCast_apply _ _ _ (ix3 ⟨16 * b.val + (4 * h.val + g.val), by omega⟩ s d) (by
    rw [Shape.rowMajor_val_three, Shape.rowMajor_val_five]
    show ((16 * b.val + (4 * h.val + g.val)) * 2048 + s.val) * 64 + d.val = (((b.val * 4 + h.val) * 4 + g.val) * 2048 + s.val) * 64 + d.val
    omega)).trans ?_
  refine (shapeCast_apply _ _ _ (ix4 b ⟨4 * h.val + g.val, by omega⟩ s d) (by
    rw [Shape.rowMajor_val_three, Shape.rowMajor_val_four]
    show ((b.val * 16 + (4 * h.val + g.val)) * 2048 + s.val) * 64 + d.val = ((16 * b.val + (4 * h.val + g.val)) * 2048 + s.val) * 64 + d.val
    omega)).trans ?_
  exact transpose_apply _ _ _ _ _ fun a => match a with | ⟨0, _⟩ => rfl | ⟨1, _⟩ => rfl | ⟨2, _⟩ => rfl | ⟨3, _⟩ => rfl
theorem keyHeads_apply (x : Vec Ideal S2x2048x4x64 .f32) (b : Fin 2) (h : Fin 4) (s : Fin 2048) (d : Fin 64) :
    shapeCast S2x4x2048x64 (shapeCast S8x2048x64 (transpose S2x4x2048x64 [0, 2, 1, 3] x transposes_S2x2048x4x64_S2x4x2048x64_0_2_1_3)
      shapeCasts_S2x4x2048x64_S8x2048x64) shapeCasts_S8x2048x64_S2x4x2048x64 (ix4 b h s d) = x (ix4 b s h d) := by
  refine (shapeCast_apply _ _ _ (ix3 ⟨4 * b.val + h.val, by omega⟩ s d) (by
    rw [Shape.rowMajor_val_three, Shape.rowMajor_val_four]
    show ((4 * b.val + h.val) * 2048 + s.val) * 64 + d.val = ((b.val * 4 + h.val) * 2048 + s.val) * 64 + d.val
    omega)).trans ?_
  refine (shapeCast_apply _ _ _ (ix4 b h s d) (by
    rw [Shape.rowMajor_val_three, Shape.rowMajor_val_four]
    show ((b.val * 4 + h.val) * 2048 + s.val) * 64 + d.val = ((4 * b.val + h.val) * 2048 + s.val) * 64 + d.val
    omega)).trans ?_
  exact transpose_apply _ _ _ _ _ fun a => match a with | ⟨0, _⟩ => rfl | ⟨1, _⟩ => rfl | ⟨2, _⟩ => rfl | ⟨3, _⟩ => rfl

theorem V_v2 : (V m c main_v2 : Vec Ideal S2x4x4x2048x64 .f32)
    = shapeCast S2x4x4x2048x64 (shapeCast S32x2048x64 (transpose S2x16x2048x64 [0, 2, 1, 3] (arg0 m c) transposes_S2x2048x16x64_S2x16x2048x64_0_2_1_3)
      shapeCasts_S2x16x2048x64_S32x2048x64) shapeCasts_S32x2048x64_S2x4x4x2048x64 := by
  entry_read
  rfl
theorem V_v11 : (V m c main_v11 : Vec Ideal S2x4x4x2048x64 .f32)
    = shapeCast S2x4x4x2048x64 (shapeCast S32x2048x64 (transpose S2x16x2048x64 [0, 2, 1, 3] (arg5 m c) transposes_S2x2048x16x64_S2x16x2048x64_0_2_1_3)
      shapeCasts_S2x16x2048x64_S32x2048x64) shapeCasts_S32x2048x64_S2x4x4x2048x64 := by
  entry_read
  rfl
theorem V_v5 : (V m c main_v5 : Vec Ideal S2x4x2048x64 .f32)
    = shapeCast S2x4x2048x64 (shapeCast S8x2048x64 (transpose S2x4x2048x64 [0, 2, 1, 3] (arg1 m c) transposes_S2x2048x4x64_S2x4x2048x64_0_2_1_3)
      shapeCasts_S2x4x2048x64_S8x2048x64) shapeCasts_S8x2048x64_S2x4x2048x64 := by
  entry_read
  rfl
theorem V_v8 : (V m c main_v8 : Vec Ideal S2x4x2048x64 .f32)
    = shapeCast S2x4x2048x64 (shapeCast S8x2048x64 (transpose S2x4x2048x64 [0, 2, 1, 3] (arg2 m c) transposes_S2x2048x4x64_S2x4x2048x64_0_2_1_3)
      shapeCasts_S2x4x2048x64_S8x2048x64) shapeCasts_S8x2048x64_S2x4x2048x64 := by
  entry_read
  rfl

theorem lt2 (x : ℕ) : x % 2 < 2 := Nat.mod_lt _ (by omega)
theorem lt4 (x : ℕ) : x % 4 < 4 := Nat.mod_lt _ (by omega)

theorem blk_0 (t : Fin cfg0.N) (g : Fin 4) (s : Fin 128) (d : Fin 64) : (iblk m c 0 t : Vec Ideal S1x1x4x128x64 .f32) (ix5 0 0 g s d)
    = (V m c main_v2 : Vec Ideal S2x4x4x2048x64 .f32) (ix5 ⟨t.val / 16 % 2, lt2 _⟩ ⟨t.val / 32 % 4, lt4 _⟩ g ⟨128 * (t.val % 16) + s.val, by omega⟩ d) := by
  unfold iblk
  rw [View.read_apply]
  show V m c main_v2 _ = V m c main_v2 _
  congr 1
  funext a
  apply Fin.ext
  obtain ⟨i0, i1, i2, i3, i4⟩ := index0 t
  match a with
  | ⟨0, _⟩ => show win0_0.index t 0 * 1 + 1 * 0 = t.val / 16 % 2; rw [i0]; omega
  | ⟨1, _⟩ => show win0_0.index t 1 * 1 + 1 * 0 = t.val / 32 % 4; rw [i1]; omega
  | ⟨2, _⟩ => show win0_0.index t 2 * 4 + 1 * g.val = g.val; rw [i2]; omega
  | ⟨3, _⟩ => show win0_0.index t 3 * 128 + 1 * s.val = 128 * (t.val % 16) + s.val; rw [i3]; omega
  | ⟨4, _⟩ => show win0_0.index t 4 * 64 + 1 * d.val = d.val; rw [i4]; omega
theorem blk_1 (t : Fin cfg0.N) (s : Fin 128) (d : Fin 64) : (iblk m c 1 t : Vec Ideal S1x1x128x64 .f32) (ix4 0 0 s d)
    = (V m c main_v5 : Vec Ideal S2x4x2048x64 .f32) (ix4 ⟨t.val / 16 % 2, lt2 _⟩ ⟨t.val / 32 % 4, lt4 _⟩ ⟨128 * (t.val % 16 - 1) + s.val, by omega⟩ d) := by
  unfold iblk
  rw [View.read_apply]
  show V m c main_v5 _ = V m c main_v5 _
  congr 1
  funext a
  apply Fin.ext
  obtain ⟨i0, i1, i2, i3⟩ := index1 t
  match a with
  | ⟨0, _⟩ => show win0_1.index t 0 * 1 + 1 * 0 = t.val / 16 % 2; rw [i0]; omega
  | ⟨1, _⟩ => show win0_1.index t 1 * 1 + 1 * 0 = t.val / 32 % 4; rw [i1]; omega
  | ⟨2, _⟩ => show win0_1.index t 2 * 128 + 1 * s.val = 128 * (t.val % 16 - 1) + s.val; rw [i2]; omega
  | ⟨3, _⟩ => show win0_1.index t 3 * 64 + 1 * d.val = d.val; rw [i3]; omega
theorem blk_2 (t : Fin cfg0.N) (s : Fin 128) (d : Fin 64) : (iblk m c 2 t : Vec Ideal S1x1x128x64 .f32) (ix4 0 0 s d)
    = (V m c main_v5 : Vec Ideal S2x4x2048x64 .f32) (ix4 ⟨t.val / 16 % 2, lt2 _⟩ ⟨t.val / 32 % 4, lt4 _⟩ ⟨128 * (t.val % 16) + s.val, by omega⟩ d) := by
  unfold iblk
  rw [View.read_apply]
  show V m c main_v5 _ = V m c main_v5 _
  congr 1
  funext a
  apply Fin.ext
  obtain ⟨i0, i1, i2, i3⟩ := index2 t
  match a with
  | ⟨0, _⟩ => show win0_2.index t 0 * 1 + 1 * 0 = t.val / 16 % 2; rw [i0]; omega
  | ⟨1, _⟩ => show win0_2.index t 1 * 1 + 1 * 0 = t.val / 32 % 4; rw [i1]; omega
  | ⟨2, _⟩ => show win0_2.index t 2 * 128 + 1 * s.val = 128 * (t.val % 16) + s.val; rw [i2]; omega
  | ⟨3, _⟩ => show win0_2.index t 3 * 64 + 1 * d.val = d.val; rw [i3]; omega
theorem blk_3 (t : Fin cfg0.N) (s : Fin 128) (d : Fin 64) : (iblk m c 3 t : Vec Ideal S1x1x128x64 .f32) (ix4 0 0 s d)
    = (V m c main_v8 : Vec Ideal S2x4x2048x64 .f32) (ix4 ⟨t.val / 16 % 2, lt2 _⟩ ⟨t.val / 32 % 4, lt4 _⟩ ⟨128 * (t.val % 16 - 1) + s.val, by omega⟩ d) := by
  unfold iblk
  rw [View.read_apply]
  show V m c main_v8 _ = V m c main_v8 _
  congr 1
  funext a
  apply Fin.ext
  obtain ⟨i0, i1, i2, i3⟩ := index1 t
  match a with
  | ⟨0, _⟩ => show win0_1.index t 0 * 1 + 1 * 0 = t.val / 16 % 2; rw [i0]; omega
  | ⟨1, _⟩ => show win0_1.index t 1 * 1 + 1 * 0 = t.val / 32 % 4; rw [i1]; omega
  | ⟨2, _⟩ => show win0_1.index t 2 * 128 + 1 * s.val = 128 * (t.val % 16 - 1) + s.val; rw [i2]; omega
  | ⟨3, _⟩ => show win0_1.index t 3 * 64 + 1 * d.val = d.val; rw [i3]; omega
theorem blk_4 (t : Fin cfg0.N) (s : Fin 128) (d : Fin 64) : (iblk m c 4 t : Vec Ideal S1x1x128x64 .f32) (ix4 0 0 s d)
    = (V m c main_v8 : Vec Ideal S2x4x2048x64 .f32) (ix4 ⟨t.val / 16 % 2, lt2 _⟩ ⟨t.val / 32 % 4, lt4 _⟩ ⟨128 * (t.val % 16) + s.val, by omega⟩ d) := by
  unfold iblk
  rw [View.read_apply]
  show V m c main_v8 _ = V m c main_v8 _
  congr 1
  funext a
  apply Fin.ext
  obtain ⟨i0, i1, i2, i3⟩ := index2 t
  match a with
  | ⟨0, _⟩ => show win0_2.index t 0 * 1 + 1 * 0 = t.val / 16 % 2; rw [i0]; omega
  | ⟨1, _⟩ => show win0_2.index t 1 * 1 + 1 * 0 = t.val / 32 % 4; rw [i1]; omega
  | ⟨2, _⟩ => show win0_2.index t 2 * 128 + 1 * s.val = 128 * (t.val % 16) + s.val; rw [i2]; omega
  | ⟨3, _⟩ => show win0_2.index t 3 * 64 + 1 * d.val = d.val; rw [i3]; omega
theorem blk_5 (t : Fin cfg0.N) (g : Fin 4) (s : Fin 128) (j : Fin 256) : (iblk m c 5 t : Vec Ideal S1x4x128x256 .f32) (ix4 0 g s j)
    = arg4 m c (ix4 ⟨t.val / 32 % 4, lt4 _⟩ g s j) := by
  unfold iblk
  rw [View.read_apply]
  show V m c main_arg4 _ = _
  rw [V_main_arg4]
  show arg4 m c _ = arg4 m c _
  congr 1
  funext a
  apply Fin.ext
  obtain ⟨i0, i1, i2, i3⟩ := index5 t
  match a with
  | ⟨0, _⟩ => show win0_5.index t 0 * 1 + 1 * 0 = t.val / 32 % 4; rw [i0]; omega
  | ⟨1, _⟩ => show win0_5.index t 1 * 4 + 1 * g.val = g.val; rw [i1]; omega
  | ⟨2, _⟩ => show win0_5.index t 2 * 128 + 1 * s.val = s.val; rw [i2]; omega
  | ⟨3, _⟩ => show win0_5.index t 3 * 256 + 1 * j.val = j.val; rw [i3]; omega
theorem blk_6 (t : Fin cfg0.N) (a : Fin 16) : (iblk m c 6 t : Vec Ideal S16 .f32) (ix1 a) = arg3 m c (ix1 a) := by
  unfold iblk
  rw [View.read_apply]
  show V m c main_arg3 _ = _
  rw [V_main_arg3]
  show arg3 m c _ = arg3 m c _
  congr 1
  funext a'
  apply Fin.ext
  match a' with
  | ⟨0, _⟩ => show 0 * 16 + 1 * a.val = a.val; omega
theorem blk_7 (t : Fin cfg0.N) (g : Fin 4) (s : Fin 128) (d : Fin 64) : (iblk m c 7 t : Vec Ideal S1x1x4x128x64 .f32) (ix5 0 0 g s d)
    = (V m c main_v11 : Vec Ideal S2x4x4x2048x64 .f32) (ix5 ⟨t.val / 16 % 2, lt2 _⟩ ⟨t.val / 32 % 4, lt4 _⟩ g ⟨128 * (t.val % 16) + s.val, by omega⟩ d) := by
  unfold iblk
  rw [View.read_apply]
  show V m c main_v11 _ = V m c main_v11 _
  congr 1
  funext a
  apply Fin.ext
  obtain ⟨i0, i1, i2, i3, i4⟩ := index0 t
  match a with
  | ⟨0, _⟩ => show win0_0.index t 0 * 1 + 1 * 0 = t.val / 16 % 2; rw [i0]; omega
  | ⟨1, _⟩ => show win0_0.index t 1 * 1 + 1 * 0 = t.val / 32 % 4; rw [i1]; omega
  | ⟨2, _⟩ => show win0_0.index t 2 * 4 + 1 * g.val = g.val; rw [i2]; omega
  | ⟨3, _⟩ => show win0_0.index t 3 * 128 + 1 * s.val = 128 * (t.val % 16) + s.val; rw [i3]; omega
  | ⟨4, _⟩ => show win0_0.index t 4 * 64 + 1 * d.val = d.val; rw [i4]; omega

/-- The blocks that a grid point reads are the data's. -/
theorem reads {D : Data} (A : Args (arg0 m c) (arg5 m c) (arg1 m c) (arg2 m c) (arg3 m c) (arg4 m c) D) (t : Fin cfg0.N) :
    Reads (blk m c t) D (t.val / 16 % 2) (t.val / 32 % 4) (t.val % 16) where
  q g s d := (blk_0 m c t g s d).trans ((congrFun (V_v2 m c) _).trans ((heads_apply (arg0 m c) _ _ _ _ _).trans (A.q _ _ _ _)))
  kp s d := (blk_1 m c t s d).trans ((congrFun (V_v5 m c) _).trans ((keyHeads_apply (arg1 m c) _ _ _ _).trans (A.k _ _ _ _)))
  kc s d := (blk_2 m c t s d).trans ((congrFun (V_v5 m c) _).trans ((keyHeads_apply (arg1 m c) _ _ _ _).trans (A.k _ _ _ _)))
  vp s d := (blk_3 m c t s d).trans ((congrFun (V_v8 m c) _).trans ((keyHeads_apply (arg2 m c) _ _ _ _).trans (A.v _ _ _ _)))
  vc s d := (blk_4 m c t s d).trans ((congrFun (V_v8 m c) _).trans ((keyHeads_apply (arg2 m c) _ _ _ _).trans (A.v _ _ _ _)))
  bias g s j := (blk_5 m c t g s j).trans (A.bias _ _ _ _)
  sinks a := (blk_6 m c t a).trans (A.sk _)
  dout g s d := (blk_7 m c t g s d).trans ((congrFun (V_v11 m c) _).trans ((heads_apply (arg5 m c) _ _ _ _ _).trans (A.dout _ _ _ _)))

end Cert.KernelIdeal.Swa

end
-- ==== Proof.SwaFinal.lean ====
module

public import proofs.«01_k».proof.Proof.SwaHost

@[expose] public section

set_option maxRecDepth 16384

noncomputable section

namespace Cert.KernelIdeal.Swa

open Cert.KernelIdeal Cert.KernelIdeal.Gen Cert.Swa
open Idealize.ShloMosaic Idealize.ShloMosaic.TcCoe Idealize.ShloMosaic.ValueIdx
open Idealize.SL.Sem
open scoped BigOperators

/-! # The five result arrays after the grid -/

theorem index8 : ∀ t : Fin cfg0.N, win0_8.index t 0 = t.val / 16 % 2 ∧ win0_8.index t 1 = t.val / 32 % 4 ∧ win0_8.index t 2 = 0
    ∧ win0_8.index t 3 = t.val % 16 ∧ win0_8.index t 4 = 0 := by decide +kernel
theorem index10 : ∀ t : Fin cfg0.N, win0_10.index t 0 = t.val / 16 % 2 ∧ win0_10.index t 1 = t.val / 32 % 4 ∧ win0_10.index t 2 = 0
    ∧ win0_10.index t 3 = 0 := by decide +kernel
theorem index11 : ∀ t : Fin cfg0.N, win0_11.index t 0 = t.val / 32 % 4 ∧ win0_11.index t 1 = 0 ∧ win0_11.index t 2 = 0
    ∧ win0_11.index t 3 = 0 := by decide +kernel
theorem index12 : ∀ t : Fin cfg0.N, win0_12.index t 0 = t.val / 32 % 4 ∧ win0_12.index t 1 = 0 ∧ win0_12.index t 2 = 0 := by decide +kernel

/-- The gradients as arrays. -/
def arrDq (D : Data) : Vec Ideal S2x4x4x2048x64 .f32 := fun y =>
  (D.dq (y 0).val (y 1).val (y 2).val ((y 3).val / 128) ((y 3).val % 128) (y 4).val : EReal)
def arrDk (D : Data) : Vec Ideal S2x4x2048x64 .f32 := fun y =>
  (D.dk (y 0).val (y 1).val ((y 2).val / 128) ⟨(y 2).val % 128, Nat.mod_lt _ (by omega)⟩ (y 3).val : EReal)
def arrDv (D : Data) : Vec Ideal S2x4x2048x64 .f32 := fun y =>
  (D.dv (y 0).val (y 1).val ((y 2).val / 128) ⟨(y 2).val % 128, Nat.mod_lt _ (by omega)⟩ (y 3).val : EReal)
def arrDbias (D : Data) : Vec Ideal S4x4x128x256 .f32 := fun y => (D.dbias (y 0).val (y 1).val (y 2).val (y 3) : EReal)
def arrDsink (D : Data) : Vec Ideal S4x4x128 .f32 := fun y => (D.dsink (y 0).val (y 1).val : EReal)

variable (m : (ℓ : Loc nD τ sig) → Buf (Elt Ideal) ℓ) (c : Dev nD) (D : Data)
  (hR : ∀ t : Fin cfg0.N, Reads (blk m c t) D (t.val / 16 % 2) (t.val / 32 % 4) (t.val % 16))
include hR

theorem flushed8 (t : Fin cfg0.N) (hf : (cfg0.win 8).flush t = true) :
    (dats m 0 c).flushed 8 t = ((cfg0.win 8).blk t).view.read (Elt Ideal) (arrDq D) := by
  show (cfg0.win 8).cut (grid0.coords t) ((dats m 0 c).after 8 t) = _
  rw [after0_8]
  funext y
  rw [View.read_apply]
  obtain ⟨g, s, d, rfl⟩ : ∃ (g : Fin 4) (s : Fin 128) (d : Fin 64), y = (ix5 0 0 g s d : S1x1x4x128x64.Idx) :=
    ⟨y 2, y 3, y 4, funext fun a => match a with
      | ⟨0, _⟩ => Subsingleton.elim (α := Fin 1) _ _ | ⟨1, _⟩ => Subsingleton.elim (α := Fin 1) _ _ | ⟨2, _⟩ => rfl | ⟨3, _⟩ => rfl | ⟨4, _⟩ => rfl⟩
  refine (outDq_apply m c D hR t g s d).trans ?_
  show _ = arrDq D (((cfg0.win 8).blk t).view.emb (ix5 0 0 g s d : S1x1x4x128x64.Idx))
  have e : ((cfg0.win 8).blk t).view.emb (ix5 0 0 g s d : S1x1x4x128x64.Idx)
      = (ix5 ⟨t.val / 16 % 2, lt2 _⟩ ⟨t.val / 32 % 4, lt4 _⟩ g ⟨128 * (t.val % 16) + s.val, by omega⟩ d : S2x4x4x2048x64.Idx) := by
    funext a
    apply Fin.ext
    obtain ⟨i0, i1, i2, i3, i4⟩ := index8 t
    match a with
    | ⟨0, _⟩ => show win0_8.index t 0 * 1 + 1 * 0 = t.val / 16 % 2; rw [i0]; omega
    | ⟨1, _⟩ => show win0_8.index t 1 * 1 + 1 * 0 = t.val / 32 % 4; rw [i1]; omega
    | ⟨2, _⟩ => show win0_8.index t 2 * 4 + 1 * g.val = g.val; rw [i2]; omega
    | ⟨3, _⟩ => show win0_8.index t 3 * 128 + 1 * s.val = 128 * (t.val % 16) + s.val; rw [i3]; omega
    | ⟨4, _⟩ => show win0_8.index t 4 * 64 + 1 * d.val = d.val; rw [i4]; omega
  rw [e]
  show _ = (D.dq (t.val / 16 % 2) (t.val / 32 % 4) g.val ((128 * (t.val % 16) + s.val) / 128) ((128 * (t.val % 16) + s.val) % 128) d.val : EReal)
  rw [show (128 * (t.val % 16) + s.val) / 128 = t.val % 16 by omega, show (128 * (t.val % 16) + s.val) % 128 = s.val by omega]

theorem final8 : (dats m 0 c).arrAt 8 cfg0.N = arrDq D :=
  (dats m 0 c).arrAt_eq_of_cover 8 (arrDq D) (flushed8 m c D hR) fun i => by
    have h0 : (i 0 : Nat) < 2 := (i 0).isLt
    have h1 : (i 1 : Nat) < 4 := (i 1).isLt
    have h2 : (i 2 : Nat) < 4 := (i 2).isLt
    have h3 : (i 3 : Nat) < 2048 := (i 3).isLt
    have h4 : (i 4 : Nat) < 64 := (i 4).isLt
    refine ⟨⟨32 * (i 1).val + 16 * (i 0).val + (i 3).val / 128, lt_of_lt_of_eq (by omega) N_0.symm⟩, flush0_8 _, ?_⟩
    generalize ht : (⟨32 * (i 1).val + 16 * (i 0).val + (i 3).val / 128, lt_of_lt_of_eq (by omega) N_0.symm⟩ : Fin cfg0.N) = t
    have hv : t.val = 32 * (i 1).val + 16 * (i 0).val + (i 3).val / 128 := by rw [← ht]
    obtain ⟨i0, i1, i2, i3, i4⟩ := index8 t
    show i ∈ ((View.whole main_v12_0).slice (win0_8.rect t)).set
    rw [View.set_slice_whole, Rect.mem_set_unit]
    intro a
    match a with
    | ⟨0, _⟩ => show win0_8.index t 0 * 1 ≤ (i 0).val ∧ (i 0).val < win0_8.index t 0 * 1 + 1; rw [i0]; omega
    | ⟨1, _⟩ => show win0_8.index t 1 * 1 ≤ (i 1).val ∧ (i 1).val < win0_8.index t 1 * 1 + 1; rw [i1]; omega
    | ⟨2, _⟩ => show win0_8.index t 2 * 4 ≤ (i 2).val ∧ (i 2).val < win0_8.index t 2 * 4 + 4; rw [i2]; omega
    | ⟨3, _⟩ => show win0_8.index t 3 * 128 ≤ (i 3).val ∧ (i 3).val < win0_8.index t 3 * 128 + 128; rw [i3]; omega
    | ⟨4, _⟩ => show win0_8.index t 4 * 64 ≤ (i 4).val ∧ (i 4).val < win0_8.index t 4 * 64 + 64; rw [i4]; omega

theorem flushed9 (t : Fin cfg0.N) (hf : (cfg0.win 9).flush t = true) :
    (dats m 0 c).flushed 9 t = ((cfg0.win 9).blk t).view.read (Elt Ideal) (arrDk D) := by
  have h15 : t.val % 16 = 15 := (flush0_9 t).mp hf
  show (cfg0.win 9).cut (grid0.coords t) ((dats m 0 c).after 9 t) = _
  rw [after0_9]
  funext y
  rw [View.read_apply]
  obtain ⟨s, d, rfl⟩ : ∃ (s : Fin 2048) (d : Fin 64), y = (ix4 0 0 s d : S1x1x2048x64.Idx) :=
    ⟨y 2, y 3, funext fun a => match a with
      | ⟨0, _⟩ => Subsingleton.elim (α := Fin 1) _ _ | ⟨1, _⟩ => Subsingleton.elim (α := Fin 1) _ _ | ⟨2, _⟩ => rfl | ⟨3, _⟩ => rfl⟩
  have hs : s = ⟨128 * (s.val / 128) + (⟨s.val % 128, Nat.mod_lt _ (by omega)⟩ : Fin 128).val, by dsimp only; omega⟩ :=
    Fin.ext (by dsimp only; omega)
  have hv : accDk m c (t.val + 1) (ix4 0 0 s d) = (D.dk (t.val / 16 % 2) (t.val / 32 % 4) (s.val / 128) ⟨s.val % 128, Nat.mod_lt _ (by omega)⟩ d.val : EReal) := by
    conv_lhs => rw [hs]
    rw [accDk_apply m c D hR d (s.val / 128) (by omega) ⟨s.val % 128, Nat.mod_lt _ (by omega)⟩ t.val t.isLt, h15, part_last _ _ (by omega)]
    rfl
  refine hv.trans ?_
  show _ = arrDk D (((cfg0.win 9).blk t).view.emb (ix4 0 0 s d : S1x1x2048x64.Idx))
  have e : ((cfg0.win 9).blk t).view.emb (ix4 0 0 s d : S1x1x2048x64.Idx)
      = (ix4 ⟨t.val / 16 % 2, lt2 _⟩ ⟨t.val / 32 % 4, lt4 _⟩ s d : S2x4x2048x64.Idx) := by
    funext a
    apply Fin.ext
    obtain ⟨i0, i1, i2, i3⟩ := index9 t
    match a with
    | ⟨0, _⟩ => show win0_9.index t 0 * 1 + 1 * 0 = t.val / 16 % 2; rw [i0]; omega
    | ⟨1, _⟩ => show win0_9.index t 1 * 1 + 1 * 0 = t.val / 32 % 4; rw [i1]; omega
    | ⟨2, _⟩ => show win0_9.index t 2 * 2048 + 1 * s.val = s.val; rw [i2]; omega
    | ⟨3, _⟩ => show win0_9.index t 3 * 64 + 1 * d.val = d.val; rw [i3]; omega
  rw [e]
  rfl

theorem final9 : (dats m 0 c).arrAt 9 cfg0.N = arrDk D :=
  (dats m 0 c).arrAt_eq_of_cover 9 (arrDk D) (flushed9 m c D hR) fun i => by
    have h0 : (i 0 : Nat) < 2 := (i 0).isLt
    have h1 : (i 1 : Nat) < 4 := (i 1).isLt
    have h2 : (i 2 : Nat) < 2048 := (i 2).isLt
    have h3 : (i 3 : Nat) < 64 := (i 3).isLt
    refine ⟨⟨32 * (i 1).val + 16 * (i 0).val + 15, lt_of_lt_of_eq (by omega) N_0.symm⟩, (flush0_9 _).mpr (by dsimp only; omega), ?_⟩
    generalize ht : (⟨32 * (i 1).val + 16 * (i 0).val + 15, lt_of_lt_of_eq (by omega) N_0.symm⟩ : Fin cfg0.N) = t
    have hv : t.val = 32 * (i 1).val + 16 * (i 0).val + 15 := by rw [← ht]
    obtain ⟨i0, i1, i2, i3⟩ := index9 t
    show i ∈ ((View.whole main_v12_1).slice (win0_9.rect t)).set
    rw [View.set_slice_whole, Rect.mem_set_unit]
    intro a
    match a with
    | ⟨0, _⟩ => show win0_9.index t 0 * 1 ≤ (i 0).val ∧ (i 0).val < win0_9.index t 0 * 1 + 1; rw [i0]; omega
    | ⟨1, _⟩ => show win0_9.index t 1 * 1 ≤ (i 1).val ∧ (i 1).val < win0_9.index t 1 * 1 + 1; rw [i1]; omega
    | ⟨2, _⟩ => show win0_9.index t 2 * 2048 ≤ (i 2).val ∧ (i 2).val < win0_9.index t 2 * 2048 + 2048; rw [i2]; omega
    | ⟨3, _⟩ => show win0_9.index t 3 * 64 ≤ (i 3).val ∧ (i 3).val < win0_9.index t 3 * 64 + 64; rw [i3]; omega

theorem flushed10 (t : Fin cfg0.N) (hf : (cfg0.win 10).flush t = true) :
    (dats m 0 c).flushed 10 t = ((cfg0.win 10).blk t).view.read (Elt Ideal) (arrDv D) := by
  have h15 : t.val % 16 = 15 := (flush0_10 t).mp hf
  show (cfg0.win 10).cut (grid0.coords t) ((dats m 0 c).after 10 t) = _
  rw [after0_10]
  funext y
  rw [View.read_apply]
  obtain ⟨s, d, rfl⟩ : ∃ (s : Fin 2048) (d : Fin 64), y = (ix4 0 0 s d : S1x1x2048x64.Idx) :=
    ⟨y 2, y 3, funext fun a => match a with
      | ⟨0, _⟩ => Subsingleton.elim (α := Fin 1) _ _ | ⟨1, _⟩ => Subsingleton.elim (α := Fin 1) _ _ | ⟨2, _⟩ => rfl | ⟨3, _⟩ => rfl⟩
  have hs : s = ⟨128 * (s.val / 128) + (⟨s.val % 128, Nat.mod_lt _ (by omega)⟩ : Fin 128).val, by dsimp only; omega⟩ :=
    Fin.ext (by dsimp only; omega)
  have hv : accDv m c (t.val + 1) (ix4 0 0 s d) = (D.dv (t.val / 16 % 2) (t.val / 32 % 4) (s.val / 128) ⟨s.val % 128, Nat.mod_lt _ (by omega)⟩ d.val : EReal) := by
    conv_lhs => rw [hs]
    rw [accDv_apply m c D hR d (s.val / 128) (by omega) ⟨s.val % 128, Nat.mod_lt _ (by omega)⟩ t.val t.isLt, h15, part_last _ _ (by omega)]
    rfl
  refine hv.trans ?_
  show _ = arrDv D (((cfg0.win 10).blk t).view.emb (ix4 0 0 s d : S1x1x2048x64.Idx))
  have e : ((cfg0.win 10).blk t).view.emb (ix4 0 0 s d : S1x1x2048x64.Idx)
      = (ix4 ⟨t.val / 16 % 2, lt2 _⟩ ⟨t.val / 32 % 4, lt4 _⟩ s d : S2x4x2048x64.Idx) := by
    funext a
    apply Fin.ext
    obtain ⟨i0, i1, i2, i3⟩ := index10 t
    match a with
    | ⟨0, _⟩ => show win0_10.index t 0 * 1 + 1 * 0 = t.val / 16 % 2; rw [i0]; omega
    | ⟨1, _⟩ => show win0_10.index t 1 * 1 + 1 * 0 = t.val / 32 % 4; rw [i1]; omega
    | ⟨2, _⟩ => show win0_10.index t 2 * 2048 + 1 * s.val = s.val; rw [i2]; omega
    | ⟨3, _⟩ => show win0_10.index t 3 * 64 + 1 * d.val = d.val; rw [i3]; omega
  rw [e]
  rfl

theorem final10 : (dats m 0 c).arrAt 10 cfg0.N = arrDv D :=
  (dats m 0 c).arrAt_eq_of_cover 10 (arrDv D) (flushed10 m c D hR) fun i => by
    have h0 : (i 0 : Nat) < 2 := (i 0).isLt
    have h1 : (i 1 : Nat) < 4 := (i 1).isLt
    have h2 : (i 2 : Nat) < 2048 := (i 2).isLt
    have h3 : (i 3 : Nat) < 64 := (i 3).isLt
    refine ⟨⟨32 * (i 1).val + 16 * (i 0).val + 15, lt_of_lt_of_eq (by omega) N_0.symm⟩, (flush0_10 _).mpr (by dsimp only; omega), ?_⟩
    generalize ht : (⟨32 * (i 1).val + 16 * (i 0).val + 15, lt_of_lt_of_eq (by omega) N_0.symm⟩ : Fin cfg0.N) = t
    have hv : t.val = 32 * (i 1).val + 16 * (i 0).val + 15 := by rw [← ht]
    obtain ⟨i0, i1, i2, i3⟩ := index10 t
    show i ∈ ((View.whole main_v12_2).slice (win0_10.rect t)).set
    rw [View.set_slice_whole, Rect.mem_set_unit]
    intro a
    match a with
    | ⟨0, _⟩ => show win0_10.index t 0 * 1 ≤ (i 0).val ∧ (i 0).val < win0_10.index t 0 * 1 + 1; rw [i0]; omega
    | ⟨1, _⟩ => show win0_10.index t 1 * 1 ≤ (i 1).val ∧ (i 1).val < win0_10.index t 1 * 1 + 1; rw [i1]; omega
    | ⟨2, _⟩ => show win0_10.index t 2 * 2048 ≤ (i 2).val ∧ (i 2).val < win0_10.index t 2 * 2048 + 2048; rw [i2]; omega
    | ⟨3, _⟩ => show win0_10.index t 3 * 64 ≤ (i 3).val ∧ (i 3).val < win0_10.index t 3 * 64 + 64; rw [i3]; omega

theorem flushed11 (t : Fin cfg0.N) (hf : (cfg0.win 11).flush t = true) :
    (dats m 0 c).flushed 11 t = ((cfg0.win 11).blk t).view.read (Elt Ideal) (arrDbias D) := by
  have h31 : t.val % 32 = 31 := (flush0_11 t).mp hf
  show (cfg0.win 11).cut (grid0.coords t) ((dats m 0 c).after 11 t) = _
  rw [after0_11]
  funext y
  rw [View.read_apply]
  obtain ⟨g, s, j, rfl⟩ : ∃ (g : Fin 4) (s : Fin 128) (j : Fin 256), y = (ix4 0 g s j : S1x4x128x256.Idx) :=
    ⟨y 1, y 2, y 3, funext fun a => match a with
      | ⟨0, _⟩ => Subsingleton.elim (α := Fin 1) _ _ | ⟨1, _⟩ => rfl | ⟨2, _⟩ => rfl | ⟨3, _⟩ => rfl⟩
  have hv : accDbias m c (t.val + 1) (ix4 0 g s j) = (D.dbias (t.val / 32 % 4) g.val s.val j : EReal) := by
    rw [accDbias_apply m c D hR g s j t.val t.isLt, h31]
    exact congrArg Real.toEReal (sum_points fun b n => D.dl b (t.val / 32 % 4) g.val n s.val j)
  refine hv.trans ?_
  show _ = arrDbias D (((cfg0.win 11).blk t).view.emb (ix4 0 g s j : S1x4x128x256.Idx))
  have e : ((cfg0.win 11).blk t).view.emb (ix4 0 g s j : S1x4x128x256.Idx) = (ix4 ⟨t.val / 32 % 4, lt4 _⟩ g s j : S4x4x128x256.Idx) := by
    funext a
    apply Fin.ext
    obtain ⟨i0, i1, i2, i3⟩ := index11 t
    match a with
    | ⟨0, _⟩ => show win0_11.index t 0 * 1 + 1 * 0 = t.val / 32 % 4; rw [i0]; omega
    | ⟨1, _⟩ => show win0_11.index t 1 * 4 + 1 * g.val = g.val; rw [i1]; omega
    | ⟨2, _⟩ => show win0_11.index t 2 * 128 + 1 * s.val = s.val; rw [i2]; omega
    | ⟨3, _⟩ => show win0_11.index t 3 * 256 + 1 * j.val = j.val; rw [i3]; omega
  rw [e]
  rfl

theorem final11 : (dats m 0 c).arrAt 11 cfg0.N = arrDbias D :=
  (dats m 0 c).arrAt_eq_of_cover 11 (arrDbias D) (flushed11 m c D hR) fun i => by
    have h0 : (i 0 : Nat) < 4 := (i 0).isLt
    have h1 : (i 1 : Nat) < 4 := (i 1).isLt
    have h2 : (i 2 : Nat) < 128 := (i 2).isLt
    have h3 : (i 3 : Nat) < 256 := (i 3).isLt
    refine ⟨⟨32 * (i 0).val + 31, lt_of_lt_of_eq (by omega) N_0.symm⟩, (flush0_11 _).mpr (by dsimp only; omega), ?_⟩
    generalize ht : (⟨32 * (i 0).val + 31, lt_of_lt_of_eq (by omega) N_0.symm⟩ : Fin cfg0.N) = t
    have hv : t.val = 32 * (i 0).val + 31 := by rw [← ht]
    obtain ⟨i0, i1, i2, i3⟩ := index11 t
    show i ∈ ((View.whole main_v12_3).slice (win0_11.rect t)).set
    rw [View.set_slice_whole, Rect.mem_set_unit]
    intro a
    match a with
    | ⟨0, _⟩ => show win0_11.index t 0 * 1 ≤ (i 0).val ∧ (i 0).val < win0_11.index t 0 * 1 + 1; rw [i0]; omega
    | ⟨1, _⟩ => show win0_11.index t 1 * 4 ≤ (i 1).val ∧ (i 1).val < win0_11.index t 1 * 4 + 4; rw [i1]; omega
    | ⟨2, _⟩ => show win0_11.index t 2 * 128 ≤ (i 2).val ∧ (i 2).val < win0_11.index t 2 * 128 + 128; rw [i2]; omega
    | ⟨3, _⟩ => show win0_11.index t 3 * 256 ≤ (i 3).val ∧ (i 3).val < win0_11.index t 3 * 256 + 256; rw [i3]; omega

theorem flushed12 (t : Fin cfg0.N) (hf : (cfg0.win 12).flush t = true) :
    (dats m 0 c).flushed 12 t = ((cfg0.win 12).blk t).view.read (Elt Ideal) (arrDsink D) := by
  have h31 : t.val % 32 = 31 := (flush0_12 t).mp hf
  show (cfg0.win 12).cut (grid0.coords t) ((dats m 0 c).after 12 t) = _
  rw [after0_12]
  funext y
  rw [View.read_apply]
  obtain ⟨g, l, rfl⟩ : ∃ (g : Fin 4) (l : Fin 128), y = (ix3 0 g l : S1x4x128.Idx) :=
    ⟨y 1, y 2, funext fun a => match a with
      | ⟨0, _⟩ => Subsingleton.elim (α := Fin 1) _ _ | ⟨1, _⟩ => rfl | ⟨2, _⟩ => rfl⟩
  have hv : accDsink m c (t.val + 1) (ix3 0 g l) = (D.dsink (t.val / 32 % 4) g.val : EReal) := by
    rw [accDsink_apply m c D hR g l t.val t.isLt, h31]
    exact congrArg Real.toEReal (sum_points fun b n => ∑ s : Fin 128, D.ds b (t.val / 32 % 4) g.val n s.val)
  refine hv.trans ?_
  show _ = arrDsink D (((cfg0.win 12).blk t).view.emb (ix3 0 g l : S1x4x128.Idx))
  have e : ((cfg0.win 12).blk t).view.emb (ix3 0 g l : S1x4x128.Idx) = (ix3 ⟨t.val / 32 % 4, lt4 _⟩ g l : S4x4x128.Idx) := by
    funext a
    apply Fin.ext
    obtain ⟨i0, i1, i2⟩ := index12 t
    match a with
    | ⟨0, _⟩ => show win0_12.index t 0 * 1 + 1 * 0 = t.val / 32 % 4; rw [i0]; omega
    | ⟨1, _⟩ => show win0_12.index t 1 * 4 + 1 * g.val = g.val; rw [i1]; omega
    | ⟨2, _⟩ => show win0_12.index t 2 * 128 + 1 * l.val = l.val; rw [i2]; omega
  rw [e]
  rfl

theorem final12 : (dats m 0 c).arrAt 12 cfg0.N = arrDsink D :=
  (dats m 0 c).arrAt_eq_of_cover 12 (arrDsink D) (flushed12 m c D hR) fun i => by
    have h0 : (i 0 : Nat) < 4 := (i 0).isLt
    have h1 : (i 1 : Nat) < 4 := (i 1).isLt
    have h2 : (i 2 : Nat) < 128 := (i 2).isLt
    refine ⟨⟨32 * (i 0).val + 31, lt_of_lt_of_eq (by omega) N_0.symm⟩, (flush0_12 _).mpr (by dsimp only; omega), ?_⟩
    generalize ht : (⟨32 * (i 0).val + 31, lt_of_lt_of_eq (by omega) N_0.symm⟩ : Fin cfg0.N) = t
    have hv : t.val = 32 * (i 0).val + 31 := by rw [← ht]
    obtain ⟨i0, i1, i2⟩ := index12 t
    show i ∈ ((View.whole main_v12_4).slice (win0_12.rect t)).set
    rw [View.set_slice_whole, Rect.mem_set_unit]
    intro a
    match a with
    | ⟨0, _⟩ => show win0_12.index t 0 * 1 ≤ (i 0).val ∧ (i 0).val < win0_12.index t 0 * 1 + 1; rw [i0]; omega
    | ⟨1, _⟩ => show win0_12.index t 1 * 4 ≤ (i 1).val ∧ (i 1).val < win0_12.index t 1 * 4 + 4; rw [i1]; omega
    | ⟨2, _⟩ => show win0_12.index t 2 * 128 ≤ (i 2).val ∧ (i 2).val < win0_12.index t 2 * 128 + 128; rw [i2]; omega

end Cert.KernelIdeal.Swa

end
-- ==== Proof.SwaRefA.lean ====
module

public import proofs.«01_k».proof.Proof.Gen.ReferenceIdeal.Read
public import proofs.«01_k».proof.Proof.SwaData

@[expose] public section

set_option maxRecDepth 16384

noncomputable section

namespace Cert.ReferenceIdeal.Swa

open Cert.ReferenceIdeal Cert.ReferenceIdeal.Gen Cert.ReferenceIdeal.Read Cert.Swa
open Idealize.ShloMosaic Idealize.ShloMosaic.TcCoe Idealize.ShloMosaic.ValueIdx
open scoped BigOperators

/-! # The reference's mask and logits

The reference has the blocks of both sequences on one axis: block `n` of 32 is block `n % 16` of sequence `n / 16`. -/

theorem half (n : Fin 32) : n.val / 16 < 2 := by omega
theorem low (n : Fin 32) : n.val % 16 < 16 := by omega

/-- A block index split into its sequence and its place there. -/
theorem mask_split (n : Fin 32) (t : Fin 128) (j : Fin 256) :
    val_main_v34 (F := Ideal) (ix5 n 0 0 t j) = val_main_v33 (F := Ideal) (ix4 ⟨n.val / 16, half n⟩ ⟨n.val % 16, low n⟩ t j) :=
  shapeCast_apply _ _ _ _ (by
    rw [Shape.rowMajor_val_four, Shape.rowMajor_val_five]
    show (((n.val / 16 * 16 + n.val % 16) * 128 + t.val) * 256 + j.val) = ((((n.val * 1 + 0) * 1 + 0) * 128 + t.val) * 256 + j.val)
    omega)

/-- The mask is 1 where the query sees the key. -/
theorem mask_apply (n : Fin 32) (h g : Fin 4) (t : Fin 128) (j : Fin 256) :
    val_main_v60 (F := Ideal) (ix5 n h g t j) = if Sees (n.val % 16) t.val j then 1#1 else 0#1 := by
  have i60 : idx_main_v60 (ix5 n h g t j) = ix5 n 0 0 t j := by
    funext a; apply Fin.ext
    match a with
    | ⟨0, _⟩ => rfl
    | ⟨1, _⟩ => rfl
    | ⟨2, _⟩ => rfl
    | ⟨3, _⟩ => rfl
    | ⟨4, _⟩ => rfl
  rw [val_main_v60_apply, i60, mask_split, val_main_v33_apply, val_main_v32_apply, val_main_v31_apply, val_main_v29_apply, val_main_v30_apply,
    val_main_v25_apply, val_main_v28_apply, val_main_v13_apply, val_main_v27_apply, val_main_v10_apply, val_main_v12_apply, val_main_v8_apply,
    val_main_v9_apply, val_main_v11_apply, val_main_v6_apply, val_main_v7_apply, val_main_v5_apply, val_main_v3_apply, val_main_v1_apply,
    val_main_v4_apply, val_main_v24_apply, val_main_v26_apply, val_main_v22_apply, val_main_v23_apply, val_main_v19_apply, val_main_v21_apply,
    val_main_v17_apply, val_main_v18_apply, val_main_v15_apply, val_main_v16_apply, val_main_c_apply, val_main_c_0_apply, val_main_c_1_apply,
    val_main_c_2_apply, val_main_c_3_apply, val_main_c_4_apply, val_main_v0_apply, val_main_v2_apply, val_main_v14_apply, val_main_v20_apply]
  show (IntOp.andi (IntOp.andi (IntOp.cmpi .sge (IntOp.subi (IntOp.addi (BitVec.ofNat 32 t.val) 128#32) (BitVec.ofNat 32 j.val)) 0#32)
      (IntOp.cmpi .slt (IntOp.subi (IntOp.addi (BitVec.ofNat 32 t.val) 128#32) (BitVec.ofNat 32 j.val)) 128#32))
    (IntOp.cmpi .sge (IntOp.addi (IntOp.subi (IntOp.muli (BitVec.ofNat 32 (n.val % 16)) 128#32) 128#32) (BitVec.ofNat 32 j.val)) 0#32) : BitVec 1) = _
  have h0 : ∀ u : Fin 384, (IntOp.andi (IntOp.cmpi .sge (BitVec.ofNat 32 u.val - 128#32) 0#32)
      (IntOp.cmpi .slt (BitVec.ofNat 32 u.val - 128#32) 128#32) : BitVec 1) = if 128 ≤ u.val ∧ u.val < 256 then 1#1 else 0#1 := by decide +kernel
  have hw : IntOp.subi (IntOp.addi (BitVec.ofNat 32 t.val) 128#32) (BitVec.ofNat 32 j.val) = BitVec.ofNat 32 (t.val + 256 - j.val) - 128#32 := by
    show BitVec.ofNat 32 t.val + 128#32 - BitVec.ofNat 32 j.val = _
    have ht := t.isLt
    have hj := j.isLt
    apply BitVec.eq_of_toNat_eq
    simp only [BitVec.toNat_sub, BitVec.toNat_add, BitVec.toNat_ofNat]
    omega
  have h1 : (IntOp.andi (IntOp.cmpi .sge (IntOp.subi (IntOp.addi (BitVec.ofNat 32 t.val) 128#32) (BitVec.ofNat 32 j.val)) 0#32)
        (IntOp.cmpi .slt (IntOp.subi (IntOp.addi (BitVec.ofNat 32 t.val) 128#32) (BitVec.ofNat 32 j.val)) 128#32) : BitVec 1)
        = if j.val ≤ t.val + 128 ∧ t.val < j.val then 1#1 else 0#1 := by
    rw [hw, h0 ⟨t.val + 256 - j.val, by omega⟩]
    exact if_congr (by simp only []; omega) rfl rfl
  have h2 : ∀ p : Fin 2176, (IntOp.cmpi .sge (BitVec.ofNat 32 p.val - 128#32) 0#32 : BitVec 1) = (if 128 ≤ p.val then 1#1 else 0#1 : BitVec 1) := by
    decide +kernel
  have hp : IntOp.addi (IntOp.subi (IntOp.muli (BitVec.ofNat 32 (n.val % 16)) 128#32) 128#32) (BitVec.ofNat 32 j.val)
      = BitVec.ofNat 32 (128 * (n.val % 16) + j.val) - 128#32 := by
    show BitVec.ofNat 32 (n.val % 16) * 128#32 - 128#32 + BitVec.ofNat 32 j.val = _
    have hj := j.isLt
    apply BitVec.eq_of_toNat_eq
    simp only [BitVec.toNat_sub, BitVec.toNat_add, BitVec.toNat_mul, BitVec.toNat_ofNat]
    omega
  rw [h1, hp, h2 ⟨128 * (n.val % 16) + j.val, by omega⟩]
  unfold Sees
  have e : (128 ≤ 128 * (n.val % 16) + j.val) ↔ (128 ≤ j.val ∨ 0 < n.val % 16) := by omega
  by_cases ha : j.val ≤ t.val + 128 ∧ t.val < j.val <;> by_cases hb : 128 ≤ 128 * (n.val % 16) + j.val <;>
    simp only [ha, hb, IntOp.andi] <;> have hb' := hb <;> rw [e] at hb' <;> simp [ha, hb'] <;> omega

section Inputs

variable {x0 x5 : Vec Ideal S2x2048x16x64 .f32} {x1 x2 : Vec Ideal S2x2048x4x64 .f32} {x3 : Vec Ideal S16 .f32} {x4 : Vec Ideal S4x4x128x256 .f32}
  {D : Data} (A : Args x0 x5 x1 x2 x3 x4 D)

/-- Heads of a block. -/
theorem heads_apply (x : Vec Ideal S2x2048x16x64 .f32) (n : Fin 32) (t : Fin 128) (h g : Fin 4) (d : Fin 64) :
    val_main_v35 (F := Ideal) x (ix5 n t h g d)
      = x (ix4 ⟨n.val / 16, half n⟩ ⟨128 * (n.val % 16) + t.val, by omega⟩ ⟨4 * h.val + g.val, by omega⟩ d) :=
  shapeCast_apply _ _ _ _ (by
    rw [Shape.rowMajor_val_four, Shape.rowMajor_val_five]
    show ((n.val / 16 * 2048 + (128 * (n.val % 16) + t.val)) * 16 + (4 * h.val + g.val)) * 64 + d.val
      = (((n.val * 128 + t.val) * 4 + h.val) * 4 + g.val) * 64 + d.val
    omega)

/-- The rows of a sequence after 128 rows of zeros. -/
theorem padded_apply (x : Vec Ideal S2x2048x4x64 .f32) (f : ℕ → ℕ → ℕ → ℕ → ℝ)
    (hx : ∀ (b : Fin 2) (s : Fin 2048) (h : Fin 4) (d : Fin 64), x (ix4 b s h d) = (f b.val s.val h.val d.val : EReal))
    (b : Fin 2) (m : Fin 17) (r : Fin 128) (h : Fin 4) (d : Fin 64) : val_main_v39 (F := Ideal) x (ix5 b m r h d)
      = ((if 128 ≤ 128 * m.val + r.val then f b.val (128 * m.val + r.val - 128) h.val d.val else 0 : ℝ) : EReal) := by
  refine (shapeCast_apply _ _ _ (ix4 b ⟨128 * m.val + r.val, by omega⟩ h d) (by
    rw [Shape.rowMajor_val_four, Shape.rowMajor_val_five]
    show ((b.val * 2176 + (128 * m.val + r.val)) * 4 + h.val) * 64 + d.val = (((b.val * 17 + m.val) * 128 + r.val) * 4 + h.val) * 64 + d.val
    omega)).trans ?_
  by_cases hm : 128 ≤ 128 * m.val + r.val
  · rw [if_pos hm]
    refine (concatenate_pair_apply_right 1 _ _ concatenates_S2x128x4x64_S2x2048x4x64_S2x2176x4x64_d1 (ix4 b ⟨128 * m.val + r.val, by omega⟩ h d) rfl rfl
      (ix4 b ⟨128 * m.val + r.val - 128, by omega⟩ h d) (fun a ha => ?_) ?_).trans (hx _ _ _ _)
    · match a with
      | ⟨0, _⟩ => rfl
      | ⟨1, _⟩ => exact absurd rfl ha
      | ⟨2, _⟩ => rfl
      | ⟨3, _⟩ => rfl
    · show 128 * m.val + r.val - 128 + 128 = 128 * m.val + r.val; omega
  · rw [if_neg hm]
    refine (concatenate_pair_apply_left 1 _ _ concatenates_S2x128x4x64_S2x2048x4x64_S2x2176x4x64_d1 (ix4 b ⟨128 * m.val + r.val, by omega⟩ h d) rfl
      (ix4 b ⟨128 * m.val + r.val, by omega⟩ h d) fun a => ?_).trans ?_
    · match a with
      | ⟨0, _⟩ => rfl
      | ⟨1, _⟩ => rfl
      | ⟨2, _⟩ => rfl
      | ⟨3, _⟩ => rfl
    · rw [val_main_v36_apply, val_main_cst_apply]
      exact Ideal.ofBits_zero_f32

/-- The keys of a block and of the block before it. -/
theorem band_apply (x : Vec Ideal S2x2048x4x64 .f32) (f : ℕ → ℕ → ℕ → ℕ → ℝ)
    (hx : ∀ (b : Fin 2) (s : Fin 2048) (h : Fin 4) (d : Fin 64), x (ix4 b s h d) = (f b.val s.val h.val d.val : EReal))
    (n : Fin 32) (j : Fin 256) (h : Fin 4) (d : Fin 64) : val_main_v43 (F := Ideal) x (ix4 n j h d)
      = ((if 128 ≤ 128 * (n.val % 16) + j.val then f (n.val / 16) (128 * (n.val % 16) + j.val - 128) h.val d.val else 0 : ℝ) : EReal) := by
  have hj := j.isLt
  refine (shapeCast_apply _ _ _ (ix5 ⟨n.val / 16, half n⟩ ⟨n.val % 16, low n⟩ j h d) (by
    rw [Shape.rowMajor_val_four, Shape.rowMajor_val_five]
    show (((n.val / 16 * 16 + n.val % 16) * 256 + j.val) * 4 + h.val) * 64 + d.val = ((n.val * 256 + j.val) * 4 + h.val) * 64 + d.val
    omega)).trans ?_
  by_cases h1 : j.val < 128
  · refine (concatenate_pair_apply_left 2 _ _ concatenates_S2x16x128x4x64_S2x16x128x4x64_S2x16x256x4x64_d2
      (ix5 ⟨n.val / 16, half n⟩ ⟨n.val % 16, low n⟩ j h d) rfl
      (ix5 ⟨n.val / 16, half n⟩ ⟨n.val % 16, low n⟩ ⟨j.val, h1⟩ h d) fun a => ?_).trans ?_
    · match a with
      | ⟨0, _⟩ => rfl
      | ⟨1, _⟩ => rfl
      | ⟨2, _⟩ => rfl
      | ⟨3, _⟩ => rfl
      | ⟨4, _⟩ => rfl
    · refine (extractStridedSlice_apply _ _ _ _ (ix5 ⟨n.val / 16, half n⟩ ⟨n.val % 16, by omega⟩ ⟨j.val, h1⟩ h d) fun a => ?_).trans
        (padded_apply x f hx _ _ _ _ _)
      match a with
      | ⟨0, _⟩ => show n.val / 16 = 0 + n.val / 16; omega
      | ⟨1, _⟩ => show n.val % 16 = 0 + n.val % 16; omega
      | ⟨2, _⟩ => show j.val = 0 + j.val; omega
      | ⟨3, _⟩ => show h.val = 0 + h.val; omega
      | ⟨4, _⟩ => show d.val = 0 + d.val; omega
  · refine (concatenate_pair_apply_right 2 _ _ concatenates_S2x16x128x4x64_S2x16x128x4x64_S2x16x256x4x64_d2
      (ix5 ⟨n.val / 16, half n⟩ ⟨n.val % 16, low n⟩ j h d) rfl rfl
      (ix5 ⟨n.val / 16, half n⟩ ⟨n.val % 16, low n⟩ ⟨j.val - 128, by omega⟩ h d) (fun a ha => ?_) ?_).trans ?_
    · match a with
      | ⟨0, _⟩ => rfl
      | ⟨1, _⟩ => rfl
      | ⟨2, _⟩ => exact absurd rfl ha
      | ⟨3, _⟩ => rfl
      | ⟨4, _⟩ => rfl
    · show j.val - 128 + 128 = j.val; omega
    · refine (extractStridedSlice_apply _ _ _ _ (ix5 ⟨n.val / 16, half n⟩ ⟨1 + n.val % 16, by omega⟩ ⟨j.val - 128, by omega⟩ h d) fun a => ?_).trans
        ((padded_apply x f hx _ _ _ _ _).trans ?_)
      · match a with
        | ⟨0, _⟩ => show n.val / 16 = 0 + n.val / 16; omega
        | ⟨1, _⟩ => show 1 + n.val % 16 = 1 + n.val % 16; omega
        | ⟨2, _⟩ => show j.val - 128 = 0 + (j.val - 128); omega
        | ⟨3, _⟩ => show h.val = 0 + h.val; omega
        | ⟨4, _⟩ => show d.val = 0 + d.val; omega
      · show ((if 128 ≤ 128 * (1 + n.val % 16) + (j.val - 128) then f (n.val / 16) (128 * (1 + n.val % 16) + (j.val - 128) - 128) h.val d.val else 0 : ℝ) : EReal) = _
        rw [show 128 * (1 + n.val % 16) + (j.val - 128) = 128 * (n.val % 16) + j.val by omega]

include A

theorem keys_apply (n : Fin 32) (j : Fin 256) (h : Fin 4) (d : Fin 64) :
    val_main_v43 (F := Ideal) x1 (ix4 n j h d) = (D.key (n.val / 16) h.val (n.val % 16) j.val d.val : EReal) :=
  band_apply x1 D.k A.k n j h d
theorem vals_apply (n : Fin 32) (j : Fin 256) (h : Fin 4) (d : Fin 64) :
    val_main_v51 (F := Ideal) x2 (ix4 n j h d) = (D.val (n.val / 16) h.val (n.val % 16) j.val d.val : EReal) :=
  band_apply x2 D.v A.v n j h d
theorem q_apply (n : Fin 32) (t : Fin 128) (h g : Fin 4) (d : Fin 64) :
    val_main_v35 (F := Ideal) x0 (ix5 n t h g d) = (D.q (n.val / 16) (128 * (n.val % 16) + t.val) (4 * h.val + g.val) d.val : EReal) :=
  (heads_apply x0 n t h g d).trans (A.q _ _ _ _)
theorem do_apply (n : Fin 32) (t : Fin 128) (h g : Fin 4) (d : Fin 64) :
    val_main_v108 (F := Ideal) x5 (ix5 n t h g d) = (D.dout (n.val / 16) (128 * (n.val % 16) + t.val) (4 * h.val + g.val) d.val : EReal) :=
  (heads_apply x5 n t h g d).trans (A.dout _ _ _ _)
theorem sink_apply (h g : Fin 4) : val_main_v52 (F := Ideal) x3 (ix5 0 h g 0 0) = (D.sk (4 * h.val + g.val) : EReal) :=
  (shapeCast_apply _ _ _ (ix1 ⟨4 * h.val + g.val, by omega⟩) (by
    rw [Shape.rowMajor_val_one, Shape.rowMajor_val_five]
    show 4 * h.val + g.val = (((0 * 4 + h.val) * 4 + g.val) * 1 + 0) * 1 + 0
    omega)).trans (A.sk _)

/-- The logits. -/
theorem logits_apply (n : Fin 32) (h g : Fin 4) (t : Fin 128) (j : Fin 256) : val_main_v62 (F := Ideal) x0 x1 x4 (ix5 n h g t j)
    = masked (D.lg (n.val / 16) h.val g.val (n.val % 16) t.val) (Sees (n.val % 16) t.val) j := by
  have i54 : idx_main_v54 (ix5 n h g t j) = ix5 n h j t g := by
    funext a; apply Fin.ext
    match a with
    | ⟨0, _⟩ => rfl
    | ⟨1, _⟩ => rfl
    | ⟨2, _⟩ => rfl
    | ⟨3, _⟩ => rfl
    | ⟨4, _⟩ => rfl
  have il : ∀ d : Fin 64, lidx_main_v53 (ix5 n h j t g) d = ix4 n j h d := fun d => by
    funext a; apply Fin.ext
    match a with
    | ⟨0, _⟩ => rfl
    | ⟨1, _⟩ => rfl
    | ⟨2, _⟩ => rfl
    | ⟨3, _⟩ => rfl
  have ir : ∀ d : Fin 64, ridx_main_v53 (ix5 n h j t g) d = ix5 n t h g d := fun d => by
    funext a; apply Fin.ext
    match a with
    | ⟨0, _⟩ => rfl
    | ⟨1, _⟩ => rfl
    | ⟨2, _⟩ => rfl
    | ⟨3, _⟩ => rfl
    | ⟨4, _⟩ => rfl
  have ib : idx_main_v57 (idx_main_v58 (ix5 n h g t j)) = ix4 h g t j := by
    funext a; apply Fin.ext
    match a with
    | ⟨0, _⟩ => rfl
    | ⟨1, _⟩ => rfl
    | ⟨2, _⟩ => rfl
    | ⟨3, _⟩ => rfl
  rw [val_main_v62_apply, mask_apply, val_main_v59_apply, val_main_v56_apply, val_main_v58_apply, val_main_v57_apply, ib, A.bias, val_main_v54_apply, i54,
    val_main_v53_apply, val_main_v55_apply, val_main_cst_8_apply, val_main_v61_apply, val_main_cst_9_apply]
  rw [sum_eq_coe (f := fun d : Fin 64 => D.q (n.val / 16) (128 * (n.val % 16) + t.val) (4 * h.val + g.val) d.val
      * D.key (n.val / 16) h.val (n.val % 16) j.val d.val) fun d => by
    rw [il, ir, keys_apply A, q_apply A, ← EReal.coe_mul, mul_comm]]
  have e8 : (FloatOps.ofBits .f32 0x3E000000#32 : Ideal .f32) = ((1 / 8 : ℝ) : EReal) := ofBits_eighth
  have eb : (FloatOps.ofBits .f32 0xFF800000#32 : Ideal .f32) = (⊥ : EReal) := ofBits_bot
  rw [e8, eb]
  show Scalar.select (if Sees (n.val % 16) t.val j then 1#1 else 0#1) ((_ * ((1 / 8 : ℝ) : EReal) : EReal) + (D.bias h.val g.val t.val j.val : EReal) : EReal) (⊥ : EReal) = _
  rw [← EReal.coe_mul, ← EReal.coe_add]
  unfold masked
  by_cases hs : Sees (n.val % 16) t.val j
  · rw [if_pos hs, if_pos hs]; rfl
  · rw [if_neg hs, if_neg hs]; rfl

end Inputs

end Cert.ReferenceIdeal.Swa

end
-- ==== Proof.SwaRefB.lean ====
module

public import proofs.«01_k».proof.Proof.SwaRefA

@[expose] public section

set_option maxRecDepth 16384

noncomputable section

namespace Cert.ReferenceIdeal.Swa

open Cert.ReferenceIdeal Cert.ReferenceIdeal.Gen Cert.ReferenceIdeal.Read Cert.Swa
open Idealize.ShloMosaic Idealize.ShloMosaic.TcCoe Idealize.ShloMosaic.ValueIdx
open scoped BigOperators

/-! # The reference's softmax and its gradient, row by row -/

theorem idx4 {a b c d : ℕ} {x y : (⟨4, ![a, b, c, d]⟩ : Shape).Idx} (h0 : (x 0).val = (y 0).val) (h1 : (x 1).val = (y 1).val)
    (h2 : (x 2).val = (y 2).val) (h3 : (x 3).val = (y 3).val) : x = y := by
  funext i; apply Fin.ext
  match i with
  | ⟨0, _⟩ => exact h0
  | ⟨1, _⟩ => exact h1
  | ⟨2, _⟩ => exact h2
  | ⟨3, _⟩ => exact h3
theorem idx5 {a b c d e : ℕ} {x y : (⟨5, ![a, b, c, d, e]⟩ : Shape).Idx} (h0 : (x 0).val = (y 0).val) (h1 : (x 1).val = (y 1).val)
    (h2 : (x 2).val = (y 2).val) (h3 : (x 3).val = (y 3).val) (h4 : (x 4).val = (y 4).val) : x = y := by
  funext i; apply Fin.ext
  match i with
  | ⟨0, _⟩ => exact h0
  | ⟨1, _⟩ => exact h1
  | ⟨2, _⟩ => exact h2
  | ⟨3, _⟩ => exact h3
  | ⟨4, _⟩ => exact h4

/-- A row's number as a column of one entry. -/
theorem cast_col (x : Vec Ideal S32x4x4x128 .f32) (n : Fin 32) (h g : Fin 4) (t : Fin 128) :
    shapeCast S32x4x4x128x1 x shapeCasts_S32x4x4x128_S32x4x4x128x1 (ix5 n h g t 0) = x (ix4 n h g t) :=
  shapeCast_apply _ _ _ _ (by
    rw [Shape.rowMajor_val_four, Shape.rowMajor_val_five]
    show ((n.val * 4 + h.val) * 4 + g.val) * 128 + t.val = (((n.val * 4 + h.val) * 4 + g.val) * 128 + t.val) * 1 + 0
    omega)

section Row

variable {x0 x5 : Vec Ideal S2x2048x16x64 .f32} {x1 x2 : Vec Ideal S2x2048x4x64 .f32} {x3 : Vec Ideal S16 .f32} {x4 : Vec Ideal S4x4x128x256 .f32}
  {D : Data} (A : Args x0 x5 x1 x2 x3 x4 D) (n : Fin 32) (h g : Fin 4) (t : Fin 128)

/-- The maximum along a row. -/
theorem rowmax_apply : val_main_v64 (F := Ideal) x0 x1 x4 (ix4 n h g t)
    = (Finset.univ : Finset (Fin 256)).fold max ⊥ fun j => val_main_v62 (F := Ideal) x0 x1 x4 (ix5 n h g t j) := by
  unfold val_main_v64
  generalize val_main_v62 (F := Ideal) x0 x1 x4 = y
  refine (Host.reduce_eq_fold_single (α := EReal) max y (val_main_cst_11 (F := Ideal)) reducesTo_S32x4x4x128x256_S32x4x4x128_d4 (by decide) h_S_ (ix4 n h g t)).trans ?_
  have e : val_main_cst_11 (F := Ideal) (Shape.Idx.first h_S_) = (⊥ : EReal) := by rw [val_main_cst_11_apply]; exact ofBits_bot
  rw [e]
  refine congrArg (fun f : Fin 256 → EReal => (Finset.univ : Finset (Fin 256)).fold max ⊥ f) ?_
  funext j
  exact congrArg y (idx5 rfl rfl rfl rfl rfl)

include A

/-- A row's subtracted maximum is a real number. -/
theorem max_apply : ∃ m : ℝ, val_main_v72 (F := Ideal) x0 x1 x3 x4 (ix5 n h g t 0) = (m : EReal) := by
  obtain ⟨m, hm⟩ := max_real (D.lg (n.val / 16) h.val g.val (n.val % 16) t.val) (Sees (n.val % 16) t.val) (D.sk (4 * h.val + g.val))
    (fun j => val_main_v62 (F := Ideal) x0 x1 x4 (ix5 n h g t j)) (funext fun j => logits_apply A n h g t j)
  refine ⟨m, Eq.trans ?_ hm⟩
  have i70 : idx_main_v70 (ix5 n h g t 0) = ix4 n h g t := idx4 rfl rfl rfl rfl
  have i71 : idx_main_v71 (ix5 n h g t 0) = ix5 0 h g 0 0 := idx5 rfl rfl rfl rfl rfl
  rw [val_main_v72_apply, val_main_v70_apply, val_main_v71_apply, i70, i71, rowmax_apply, sink_apply A]
  rfl

/-- A row in the words of the gradient over the reals. -/
theorem row : ∃ c : ℝ, 0 < c
    ∧ (∀ j, val_main_v93 (F := Ideal) x0 x1 x3 x4 (ix5 n h g t j)
        = ((c * ex (D.lg (n.val / 16) h.val g.val (n.val % 16) t.val) (Sees (n.val % 16) t.val) j : ℝ) : EReal))
    ∧ val_main_v98 (F := Ideal) x0 x1 x3 x4 (ix5 n h g t 0) = ((c * Real.exp (D.sk (4 * h.val + g.val)) : ℝ) : EReal)
    ∧ val_main_v99 (F := Ideal) x0 x1 x3 x4 (ix5 n h g t 0)
        = ((c * den (D.lg (n.val / 16) h.val g.val (n.val % 16) t.val) (Sees (n.val % 16) t.val) (D.sk (4 * h.val + g.val)) : ℝ) : EReal) := by
  obtain ⟨m, hm⟩ := max_apply A n h g t
  have he : ∀ j, val_main_v93 (F := Ideal) x0 x1 x3 x4 (ix5 n h g t j)
      = ((Real.exp (-m) * ex (D.lg (n.val / 16) h.val g.val (n.val % 16) t.val) (Sees (n.val % 16) t.val) j : ℝ) : EReal) := fun j => by
    have i91 : idx_main_v91 (ix5 n h g t j) = ix5 n h g t 0 := idx5 rfl rfl rfl rfl rfl
    rw [val_main_v93_apply, val_main_v92_apply, val_main_v91_apply, i91, hm, logits_apply A]
    exact exp_masked _ _ m j
  have hes : val_main_v98 (F := Ideal) x0 x1 x3 x4 (ix5 n h g t 0) = ((Real.exp (-m) * Real.exp (D.sk (4 * h.val + g.val)) : ℝ) : EReal) := by
    have i96 : idx_main_v96 (ix5 n h g t 0) = ix5 0 h g 0 0 := idx5 rfl rfl rfl rfl rfl
    rw [val_main_v98_apply, val_main_v97_apply, val_main_v96_apply, i96, hm, sink_apply A]
    exact exp_sink _ m
  refine ⟨Real.exp (-m), Real.exp_pos _, he, hes, ?_⟩
  have i95 : idx_main_v95 (ix5 n h g t 0) = ix4 n h g t := idx4 rfl rfl rfl rfl
  have i94 : ∀ j, idx_main_v94 (ix4 n h g t) j = ix5 n h g t j := fun j => idx5 rfl rfl rfl rfl rfl
  have e0 : val_main_cst_19 (F := Ideal) (Shape.Idx.first h_S_) = (0 : EReal) := by rw [val_main_cst_19_apply]; exact Ideal.ofBits_zero_f32
  rw [val_main_v99_apply, val_main_v95_apply, i95, val_main_v94_apply, e0, zero_add, sum_eq_coe (fun j => by rw [i94, he j]), hes]
  show ((∑ j, Real.exp (-m) * ex _ _ j : ℝ) : EReal) + ((Real.exp (-m) * Real.exp _ : ℝ) : EReal) = _
  rw [← EReal.coe_add, sum_scaled]

/-- The probabilities. -/
theorem p_apply (j : Fin 256) : val_main_v101 (F := Ideal) x0 x1 x3 x4 (ix5 n h g t j) = (D.p (n.val / 16) h.val g.val (n.val % 16) t.val j : EReal) := by
  obtain ⟨c, hc, he, -, hd⟩ := row A n h g t
  have i100 : idx_main_v100 (ix5 n h g t j) = ix5 n h g t 0 := idx5 rfl rfl rfl rfl rfl
  have hp := den_pos (D.lg (n.val / 16) h.val g.val (n.val % 16) t.val) (Sees (n.val % 16) t.val) (D.sk (4 * h.val + g.val))
  rw [val_main_v101_apply, val_main_v100_apply, i100, hd, he]
  refine (div_real (by positivity) _).trans ?_
  rw [mul_div_mul_left _ _ hc.ne']
  rfl

/-- The gradient of the probabilities. -/
theorem dp_apply (j : Fin 256) : val_main_v110 (F := Ideal) x2 x5 (ix5 n h g t j) = (D.dp (n.val / 16) h.val g.val (n.val % 16) t.val j : EReal) := by
  have il : ∀ d : Fin 64, idx_main_v109 (lidx_main_v110 (ix5 n h g t j) d) = ix5 n t h g d := fun d => idx5 rfl rfl rfl rfl rfl
  have ir : ∀ d : Fin 64, ridx_main_v110 (ix5 n h g t j) d = ix4 n j h d := fun d => idx4 rfl rfl rfl rfl
  rw [val_main_v110_apply]
  exact sum_eq_coe fun d => by
    rw [val_main_v109_apply, il, ir, do_apply A, vals_apply A, EReal.coe_mul]

/-- The gradient of a row's denominator, for the same constant. -/
theorem rowDen : ∃ c : ℝ, 0 < c
    ∧ (∀ j, val_main_v93 (F := Ideal) x0 x1 x3 x4 (ix5 n h g t j)
        = ((c * ex (D.lg (n.val / 16) h.val g.val (n.val % 16) t.val) (Sees (n.val % 16) t.val) j : ℝ) : EReal))
    ∧ val_main_v98 (F := Ideal) x0 x1 x3 x4 (ix5 n h g t 0) = ((c * Real.exp (D.sk (4 * h.val + g.val)) : ℝ) : EReal)
    ∧ val_main_v99 (F := Ideal) x0 x1 x3 x4 (ix5 n h g t 0)
        = ((c * den (D.lg (n.val / 16) h.val g.val (n.val % 16) t.val) (Sees (n.val % 16) t.val) (D.sk (4 * h.val + g.val)) : ℝ) : EReal)
    ∧ val_main_v118 (F := Ideal) x0 x1 x2 x3 x4 x5 (ix5 n h g t 0)
        = ((-(mean (D.lg (n.val / 16) h.val g.val (n.val % 16) t.val) (Sees (n.val % 16) t.val) (D.sk (4 * h.val + g.val)) (D.dp (n.val / 16) h.val g.val (n.val % 16) t.val)
          / (c * den (D.lg (n.val / 16) h.val g.val (n.val % 16) t.val) (Sees (n.val % 16) t.val) (D.sk (4 * h.val + g.val)))) : ℝ) : EReal) := by
  obtain ⟨c, hc, he, hes, hd⟩ := row A n h g t
  refine ⟨c, hc, he, hes, hd, ?_⟩
  have hp := den_pos (D.lg (n.val / 16) h.val g.val (n.val % 16) t.val) (Sees (n.val % 16) t.val) (D.sk (4 * h.val + g.val))
  have h104 : val_main_v104 (F := Ideal) x0 x1 x3 x4 (ix5 n h g t 0)
      = ((1 / ((c * den (D.lg (n.val / 16) h.val g.val (n.val % 16) t.val) (Sees (n.val % 16) t.val) (D.sk (4 * h.val + g.val)))
        * (c * den (D.lg (n.val / 16) h.val g.val (n.val % 16) t.val) (Sees (n.val % 16) t.val) (D.sk (4 * h.val + g.val)))) : ℝ) : EReal) := by
    have e1 : (FloatOps.ofBits .f32 0x3F800000#32 : Ideal .f32) = ((1 : ℝ) : EReal) := ofBits_one
    rw [val_main_v104_apply, val_main_v103_apply, val_main_cst_20_apply, val_main_v102_apply, hd, e1]
    show Ideal.div _ (((c * den _ _ _ : ℝ) : EReal) * ((c * den _ _ _ : ℝ) : EReal)) = _
    rw [← EReal.coe_mul]
    exact div_real (by positivity) 1
  have i116 : ∀ j, idx_main_v116 (ix4 n h g t) j = ix5 n h g t j := fun j => idx5 rfl rfl rfl rfl rfl
  have i113 : ∀ j, idx_main_v113 (ix5 n h g t j) = ix5 n h g t 0 := fun j => idx5 rfl rfl rfl rfl rfl
  have e0 : val_main_cst_21 (F := Ideal) (Shape.Idx.first h_S_) = (0 : EReal) := by rw [val_main_cst_21_apply]; exact Ideal.ofBits_zero_f32
  have h117 : val_main_v117 (F := Ideal) x0 x1 x2 x3 x4 x5 (ix5 n h g t 0)
      = ((∑ j, D.dp (n.val / 16) h.val g.val (n.val % 16) t.val j
        * (1 / ((c * den (D.lg (n.val / 16) h.val g.val (n.val % 16) t.val) (Sees (n.val % 16) t.val) (D.sk (4 * h.val + g.val)))
          * (c * den (D.lg (n.val / 16) h.val g.val (n.val % 16) t.val) (Sees (n.val % 16) t.val) (D.sk (4 * h.val + g.val)))))
        * (c * ex (D.lg (n.val / 16) h.val g.val (n.val % 16) t.val) (Sees (n.val % 16) t.val) j) : ℝ) : EReal) := by
    refine (cast_col _ n h g t).trans ?_
    rw [val_main_v116_apply, e0, zero_add]
    refine sum_eq_coe fun j => ?_
    rw [i116, val_main_v115_apply, val_main_v114_apply, val_main_v113_apply, i113, dp_apply A, h104, he, EReal.coe_mul, EReal.coe_mul]
    rfl
  rw [val_main_v118_apply, h117]
  refine (EReal.coe_neg _).symm.trans (congrArg Real.toEReal ?_)
  exact dden_eq _ _ _ _ c hc

/-- The gradient of the sink. -/
theorem ds_apply : val_main_v121 (F := Ideal) x0 x1 x2 x3 x4 x5 (ix5 n h g t 0) = (D.ds (n.val / 16) h.val g.val (n.val % 16) t.val : EReal) := by
  obtain ⟨c, hc, he, hes, hd, h118⟩ := rowDen A n h g t
  rw [val_main_v121_apply, h118, hes]
  refine (EReal.coe_mul _ _).symm.trans (congrArg Real.toEReal ?_)
  exact dsk_textbook _ _ _ _ c hc

/-- The gradient of the logits through the quotient. -/
theorem dlog_apply (j : Fin 256) : val_main_v128 (F := Ideal) x0 x1 x2 x3 x4 x5 (ix5 n h g t j) = (D.dl (n.val / 16) h.val g.val (n.val % 16) t.val j : EReal) := by
  obtain ⟨c, hc, he, hes, hd, h118⟩ := rowDen A n h g t
  have hp := den_pos (D.lg (n.val / 16) h.val g.val (n.val % 16) t.val) (Sees (n.val % 16) t.val) (D.sk (4 * h.val + g.val))
  have i119 : idx_main_v119 (ix5 n h g t j) = ix5 n h g t 0 := idx5 rfl rfl rfl rfl rfl
  have i126 : idx_main_v126 (ix5 n h g t j) = ix4 n h g t := idx4 rfl rfl rfl rfl
  have i125 : ∀ k, idx_main_v125 (ix4 n h g t) k = ix5 n h g t k := fun k => idx5 rfl rfl rfl rfl rfl
  have e0 : val_main_cst_23 (F := Ideal) (Shape.Idx.first h_S_) = (0 : EReal) := by rw [val_main_cst_23_apply]; exact Ideal.ofBits_zero_f32
  rw [val_main_v128_apply, val_main_v127_apply, val_main_v120_apply, val_main_v119_apply, i119, val_main_v126_apply, i126, val_main_v125_apply, e0, zero_add,
    Fin.sum_univ_one, i125, h118, hd, he, dp_apply A]
  have e120 : (FloatOps.hostDivf (F := Ideal) (φ := .f32) ((D.dp (n.val / 16) h.val g.val (n.val % 16) t.val j : ℝ) : EReal)
      ((c * den (D.lg (n.val / 16) h.val g.val (n.val % 16) t.val) (Sees (n.val % 16) t.val) (D.sk (4 * h.val + g.val)) : ℝ) : EReal) : EReal) = _ :=
    div_real (by positivity) _
  rw [e120]
  refine (congrArg (fun a : EReal => a * _) (EReal.coe_add _ _).symm).trans ((EReal.coe_mul _ _).symm.trans (congrArg Real.toEReal ?_))
  exact dlog_textbook _ _ _ _ c hc j

/-- The gradient of the subtracted maximum vanishes. -/
theorem dmax_apply : val_main_v132 (F := Ideal) x0 x1 x2 x3 x4 x5 (ix5 n h g t 0) = (0 : EReal) := by
  have i130 : ∀ j, idx_main_v130 (ix4 n h g t) j = ix5 n h g t j := fun j => idx5 rfl rfl rfl rfl rfl
  have e0 : val_main_cst_24 (F := Ideal) (Shape.Idx.first h_S_) = (0 : EReal) := by rw [val_main_cst_24_apply]; exact Ideal.ofBits_zero_f32
  have h131 : val_main_v131 (F := Ideal) x0 x1 x2 x3 x4 x5 (ix5 n h g t 0)
      = ((∑ j, -(D.dl (n.val / 16) h.val g.val (n.val % 16) t.val j) : ℝ) : EReal) := by
    refine (cast_col _ n h g t).trans ?_
    rw [val_main_v130_apply, e0, zero_add]
    refine sum_eq_coe fun j => ?_
    rw [i130, val_main_v129_apply, dlog_apply A]
    exact (EReal.coe_neg _).symm
  rw [val_main_v132_apply, val_main_v124_apply, ds_apply A, h131]
  refine (congrArg (fun a : EReal => a + _) (EReal.coe_neg _).symm).trans ((EReal.coe_add _ _).symm.trans ?_)
  exact congrArg Real.toEReal (dmax_textbook _ _ _ _)

omit A in
/-- Some lane of a row holds its maximum, so that the number of those that do is not zero. -/
theorem count_ne_zero : val_main_v69 (F := Ideal) x0 x1 x4 (ix4 n h g t) ≠ (0 : EReal) := by
  have i69 : ∀ j, idx_main_v69 (ix4 n h g t) j = ix5 n h g t j := fun j => idx5 rfl rfl rfl rfl rfl
  have e0 : val_main_cst_12 (F := Ideal) (Shape.Idx.first h_S_) = (0 : EReal) := by rw [val_main_cst_12_apply]; exact Ideal.ofBits_zero_f32
  obtain ⟨k, hk⟩ := max_attained fun j => val_main_v62 (F := Ideal) x0 x1 x4 (ix5 n h g t j)
  have i66 : idx_main_v66 (ix5 n h g t k) = ix5 n h g t 0 := idx5 rfl rfl rfl rfl rfl
  have hmax : val_main_v66 (F := Ideal) x0 x1 x4 (ix5 n h g t k) = val_main_v62 (F := Ideal) x0 x1 x4 (ix5 n h g t k) := by
    rw [val_main_v66_apply, i66]
    exact (cast_col _ n h g t).trans ((rowmax_apply n h g t).trans hk.symm)
  have hnn : ∀ i, (0 : EReal) ≤ val_main_v68 (F := Ideal) x0 x1 x4 i := fun i => by
    rw [val_main_v68_apply]
    show (0 : EReal) ≤ (((val_main_v67 (F := Ideal) x0 x1 x4 i).toNat : ℝ) : EReal)
    exact_mod_cast Nat.cast_nonneg (α := ℝ) _
  have h1 : val_main_v68 (F := Ideal) x0 x1 x4 (ix5 n h g t k) = (1 : EReal) := by
    rw [val_main_v68_apply, val_main_v67_apply, hmax]
    show (((Ideal.cmp .oeq (val_main_v62 (F := Ideal) x0 x1 x4 (ix5 n h g t k) : EReal) (val_main_v62 (F := Ideal) x0 x1 x4 (ix5 n h g t k))).toNat : ℝ) : EReal) = 1
    simp [Ideal.cmp]
  rw [val_main_v69_apply, e0, zero_add]
  refine ne_of_gt (lt_of_lt_of_le zero_lt_one (h1.symm.le.trans ?_))
  have := Finset.single_le_sum (f := fun j : Fin 256 => (val_main_v68 (F := Ideal) x0 x1 x4 (idx_main_v69 (ix4 n h g t) j) : EReal))
    (fun j _ => hnn _) (Finset.mem_univ k)
  rw [i69] at this
  exact this

/-- The gradient of the logits. -/
theorem dl_apply (j : Fin 256) : val_main_v144 (F := Ideal) x0 x1 x2 x3 x4 x5 (ix5 n h g t j) = (D.dl (n.val / 16) h.val g.val (n.val % 16) t.val j : EReal) := by
  have i138 : ∀ k, idx_main_v138 (ix4 n h g t) k = ix5 n h g t k := fun k => idx5 rfl rfl rfl rfl rfl
  have i140 : idx_main_v140 (ix5 n h g t j) = ix4 n h g t := idx4 rfl rfl rfl rfl
  have e0 : val_main_cst_26 (F := Ideal) (Shape.Idx.first h_S_) = (0 : EReal) := by rw [val_main_cst_26_apply]; exact Ideal.ofBits_zero_f32
  have h138 : val_main_v138 (F := Ideal) x0 x1 x2 x3 x4 x5 (ix4 n h g t) = (0 : EReal) := by
    rw [val_main_v138_apply, e0, zero_add, Fin.sum_univ_one, i138, val_main_v137_apply, dmax_apply A]
    exact zero_mul (M₀ := EReal) _
  have h139 : val_main_v139 (F := Ideal) x0 x1 x2 x3 x4 x5 (ix4 n h g t) = (0 : EReal) := by
    rw [val_main_v139_apply, h138]
    show Ideal.div (0 : EReal) _ = 0
    rw [Ideal.div, if_neg (count_ne_zero n h g t), zero_mul]
  have h141 : val_main_v141 (F := Ideal) x0 x1 x2 x3 x4 x5 (ix5 n h g t j) = (0 : EReal) := by
    rw [val_main_v141_apply, val_main_v140_apply, i140, h139]
    exact zero_mul (M₀ := EReal) _
  have h142 : val_main_v142 (F := Ideal) x0 x1 x2 x3 x4 x5 (ix5 n h g t j) = (D.dl (n.val / 16) h.val g.val (n.val % 16) t.val j : EReal) := by
    rw [val_main_v142_apply, h141, dlog_apply A]
    exact add_zero (M := EReal) _
  rw [val_main_v144_apply, mask_apply, h142]
  by_cases hs : Sees (n.val % 16) t.val j
  · rw [if_pos hs]; rfl
  · rw [if_neg hs, val_main_v143_apply, val_main_cst_27_apply, Data.dl, dlog_of_not _ _ _ _ hs]
    exact Ideal.ofBits_zero_f32

end Row

end Cert.ReferenceIdeal.Swa

end
-- ==== Proof.SwaRefC.lean ====
module

public import proofs.«01_k».proof.Proof.SwaRefB
public import Idealize.ShloMosaic.Lib.KernelVsHost
public import Idealize.ShloMosaic.Lib.TwoAxisContraction

@[expose] public section

set_option maxRecDepth 16384

noncomputable section

namespace Cert.ReferenceIdeal.Swa

open Cert.ReferenceIdeal Cert.ReferenceIdeal.Gen Cert.ReferenceIdeal.Read Cert.Swa
open Idealize.ShloMosaic Idealize.ShloMosaic.TcCoe Idealize.ShloMosaic.ValueIdx
open scoped BigOperators

/-! # The reference's five results -/

/-- The 32 blocks are the 16 blocks of two sequences. -/
theorem sum_points (f : ℕ → ℕ → ℝ) : ∑ n : Fin 32, f (n.val / 16) (n.val % 16) = ∑ b : Fin 2, ∑ n : Fin 16, f b.val n.val :=
  (Fintype.sum_equiv (finProdFinEquiv (m := 2) (n := 16)).symm (fun n : Fin 32 => f (n.val / 16) (n.val % 16))
    (fun p : Fin 2 × Fin 16 => f p.1.val p.2.val) fun n => rfl).trans (Fintype.sum_prod_type _)

/-! ## From a block's gradient of the rows it sees to the gradient of the rows -/

/-- The two halves of every block's rows, the second added to the block's own rows and the first to the rows before them. -/
def merge (y : Vec Ideal S32x256x4x64 .f32) : Vec Ideal S2x17x128x4x64 .f32 :=
  addf (F := Ideal) (φ := .f32)
    (pad S2x17x128x4x64 ![0, 1, 0, 0, 0] ![0, 0, 0, 0, 0] ![0, 0, 0, 0, 0]
      (extractStridedSlice S2x16x128x4x64 ![0, 0, 128, 0, 0] (shapeCast S2x16x256x4x64 y shapeCasts_S32x256x4x64_S2x16x256x4x64)
        slices_S2x16x256x4x64_S2x16x128x4x64_0_0_128_0_0)
      (val_main_cst_33 (F := Ideal)) pads_S2x16x128x4x64_S2x17x128x4x64_000_100_000_000_000 h_S_)
    (pad S2x17x128x4x64 ![0, 0, 0, 0, 0] ![0, 1, 0, 0, 0] ![0, 0, 0, 0, 0]
      (extractStridedSlice S2x16x128x4x64 ![0, 0, 0, 0, 0] (shapeCast S2x16x256x4x64 y shapeCasts_S32x256x4x64_S2x16x256x4x64)
        slices_S2x16x256x4x64_S2x16x128x4x64_0_0_0_0_0)
      (val_main_cst_34 (F := Ideal)) pads_S2x16x128x4x64_S2x17x128x4x64_000_010_000_000_000 h_S_)
/-- Its rows after the first 128, heads first. -/
def rows (y : Vec Ideal S32x256x4x64 .f32) : Vec Ideal S2x4x2048x64 .f32 :=
  transpose S2x4x2048x64 [0, 2, 1, 3] (extractStridedSlice S2x2048x4x64 ![0, 128, 0, 0]
    (shapeCast S2x2176x4x64 (merge y) shapeCasts_S2x17x128x4x64_S2x2176x4x64) slices_S2x2176x4x64_S2x2048x4x64_0_128_0_0)
    transposes_S2x2048x4x64_S2x4x2048x64_0_2_1_3

theorem cast_blocks (y : Vec Ideal S32x256x4x64 .f32) (b : Fin 2) (n : Fin 16) (j : Fin 256) (h : Fin 4) (d : Fin 64) :
    shapeCast S2x16x256x4x64 y shapeCasts_S32x256x4x64_S2x16x256x4x64 (ix5 b n j h d) = y (ix4 ⟨16 * b.val + n.val, by omega⟩ j h d) :=
  shapeCast_apply _ _ _ _ (by
    rw [Shape.rowMajor_val_four, Shape.rowMajor_val_five]
    show (((16 * b.val + n.val) * 256 + j.val) * 4 + h.val) * 64 + d.val = (((b.val * 16 + n.val) * 256 + j.val) * 4 + h.val) * 64 + d.val
    omega)

theorem merge_apply (y : Vec Ideal S32x256x4x64 .f32) (f : ℕ → ℕ → ℕ → Fin 256 → ℕ → ℝ)
    (hy : ∀ (n : Fin 32) (j : Fin 256) (h : Fin 4) (d : Fin 64), y (ix4 n j h d) = (f (n.val / 16) h.val (n.val % 16) j d.val : EReal))
    (b : Fin 2) (n : Fin 16) (r : Fin 128) (h : Fin 4) (d : Fin 64) :
    merge y (ix5 b ⟨1 + n.val, by omega⟩ r h d) = (twoBlocks (fun n j => f b.val h.val n j d.val) n.val r : EReal) := by
  have hv : ∀ (n : Fin 16) (j : Fin 256), y (ix4 ⟨16 * b.val + n.val, by omega⟩ j h d) = (f b.val h.val n.val j d.val : EReal) := fun n j => by
    rw [hy]
    dsimp only
    rw [show (16 * b.val + n.val) / 16 = b.val by omega, show (16 * b.val + n.val) % 16 = n.val by omega]
  unfold merge twoBlocks
  rw [addf_apply]
  refine (congrArg₂ (fun u v : EReal => u + v) (x' := (f b.val h.val n.val ⟨r.val + 128, by omega⟩ d.val : EReal))
    (y' := ((if n.val + 1 < 16 then f b.val h.val (n.val + 1) ⟨r.val, by omega⟩ d.val else 0 : ℝ) : EReal)) ?_ ?_).trans (EReal.coe_add _ _).symm
  · refine (pad_apply_of_inside _ _ _ _ _ _ h_S_ _ (ix5 b n r h d) fun a => ?_).trans
      ((extractStridedSlice_apply _ _ _ _ (ix5 b n ⟨r.val + 128, by omega⟩ h d) fun a => ?_).trans ((cast_blocks _ _ _ _ _ _).trans (hv _ _)))
    · match a with
      | ⟨0, _⟩ => show b.val = 0 + b.val * 1; omega
      | ⟨1, _⟩ => show 1 + n.val = 1 + n.val * 1; omega
      | ⟨2, _⟩ => show r.val = 0 + r.val * 1; omega
      | ⟨3, _⟩ => show h.val = 0 + h.val * 1; omega
      | ⟨4, _⟩ => show d.val = 0 + d.val * 1; omega
    · match a with
      | ⟨0, _⟩ => show b.val = 0 + b.val; omega
      | ⟨1, _⟩ => show n.val = 0 + n.val; omega
      | ⟨2, _⟩ => show r.val + 128 = 128 + r.val; omega
      | ⟨3, _⟩ => show h.val = 0 + h.val; omega
      | ⟨4, _⟩ => show d.val = 0 + d.val; omega
  · by_cases hn : n.val + 1 < 16
    · rw [if_pos hn]
      refine (pad_apply_of_inside _ _ _ _ _ _ h_S_ _ (ix5 b ⟨n.val + 1, hn⟩ r h d) fun a => ?_).trans
        ((extractStridedSlice_apply _ _ _ _ (ix5 b ⟨n.val + 1, hn⟩ ⟨r.val, by omega⟩ h d) fun a => ?_).trans ((cast_blocks _ _ _ _ _ _).trans (hv ⟨n.val + 1, hn⟩ _)))
      · match a with
        | ⟨0, _⟩ => show b.val = 0 + b.val * 1; omega
        | ⟨1, _⟩ => show 1 + n.val = 0 + (n.val + 1) * 1; omega
        | ⟨2, _⟩ => show r.val = 0 + r.val * 1; omega
        | ⟨3, _⟩ => show h.val = 0 + h.val * 1; omega
        | ⟨4, _⟩ => show d.val = 0 + d.val * 1; omega
      · match a with
        | ⟨0, _⟩ => show b.val = 0 + b.val; omega
        | ⟨1, _⟩ => show n.val + 1 = 0 + (n.val + 1); omega
        | ⟨2, _⟩ => show r.val = 0 + r.val; omega
        | ⟨3, _⟩ => show h.val = 0 + h.val; omega
        | ⟨4, _⟩ => show d.val = 0 + d.val; omega
    · rw [if_neg hn]
      refine (pad_apply_of_not_inside _ _ _ _ _ _ h_S_ _ (1 : Fin 5) ?_).trans ?_
      · show ¬(0 ≤ 1 + n.val ∧ (1 + n.val - 0) % 1 = 0 ∧ (1 + n.val - 0) / 1 < 16)
        omega
      · rw [val_main_cst_34_apply]
        exact Ideal.ofBits_zero_f32

theorem rows_apply (y : Vec Ideal S32x256x4x64 .f32) (f : ℕ → ℕ → ℕ → Fin 256 → ℕ → ℝ)
    (hy : ∀ (n : Fin 32) (j : Fin 256) (h : Fin 4) (d : Fin 64), y (ix4 n j h d) = (f (n.val / 16) h.val (n.val % 16) j d.val : EReal))
    (b : Fin 2) (h : Fin 4) (s : Fin 2048) (d : Fin 64) :
    rows y (ix4 b h s d) = (twoBlocks (fun n j => f b.val h.val n j d.val) (s.val / 128) ⟨s.val % 128, Nat.mod_lt _ (by omega)⟩ : EReal) := by
  unfold rows
  refine (transpose_apply _ _ _ _ (ix4 b s h d) fun a => ?_).trans ((extractStridedSlice_apply _ _ _ _ (ix4 b ⟨s.val + 128, by omega⟩ h d) fun a => ?_).trans
    ((shapeCast_apply _ _ _ (ix5 b ⟨1 + s.val / 128, by omega⟩ ⟨s.val % 128, Nat.mod_lt _ (by omega)⟩ h d) (by
      rw [Shape.rowMajor_val_four, Shape.rowMajor_val_five]
      show (((b.val * 17 + (1 + s.val / 128)) * 128 + s.val % 128) * 4 + h.val) * 64 + d.val = ((b.val * 2176 + (s.val + 128)) * 4 + h.val) * 64 + d.val
      omega)).trans (merge_apply y f hy b ⟨s.val / 128, by omega⟩ _ h d)))
  · match a with
    | ⟨0, _⟩ => rfl
    | ⟨1, _⟩ => rfl
    | ⟨2, _⟩ => rfl
    | ⟨3, _⟩ => rfl
  · match a with
    | ⟨0, _⟩ => show b.val = 0 + b.val; omega
    | ⟨1, _⟩ => show s.val + 128 = 128 + s.val; omega
    | ⟨2, _⟩ => show h.val = 0 + h.val; omega
    | ⟨3, _⟩ => show d.val = 0 + d.val; omega

/-! ## The sum over blocks and rows -/

theorem sum_rows (x : Vec Ideal S32x4x4x128x1 .f32) (z : Vec Ideal S_ .f32) (hz : z (Shape.Idx.first h_S_) = (0 : EReal)) (h g : Fin 4) :
    Host.reduceAdd (F := Ideal) (φ := .f32) x z reducesTo_S32x4x4x128x1_S4x4x1_d0_3 h_S_ (ix3 h g 0)
      = ∑ n : Fin 32, ∑ t : Fin 128, (x (ix5 n h g t 0) : EReal) := by
  have hd : ∀ i : S32x4x4x128x1.Idx, Shape.ReducesTo.drop reducesTo_S32x4x4x128x1_S4x4x1_d0_3 i = (ix3 h g 0 : S4x4x1.Idx) ↔ i 1 = h ∧ i 2 = g := fun i => by
    have e0 := Shape.ReducesTo.drop_apply_val_of_eq reducesTo_S32x4x4x128x1_S4x4x1_d0_3 i 0 1
    have e1 := Shape.ReducesTo.drop_apply_val_of_eq reducesTo_S32x4x4x128x1_S4x4x1_d0_3 i 1 2
    constructor
    · intro e
      rw [e] at e0 e1
      exact ⟨Fin.ext e0.symm, Fin.ext e1.symm⟩
    · rintro ⟨rfl, rfl⟩
      funext a
      match a with
      | ⟨0, _⟩ => exact Fin.ext e0
      | ⟨1, _⟩ => exact Fin.ext e1
      | ⟨2, _⟩ => exact Subsingleton.elim (α := Fin 1) _ _
  show Ideal.hostReduceAdd reducesTo_S32x4x4x128x1_S4x4x1_d0_3 x (z (Shape.Idx.first h_S_)) (ix3 h g 0) = _
  unfold Ideal.hostReduceAdd
  rw [hz, zero_add, ← Fintype.sum_prod_type' (f := fun (n : Fin 32) (t : Fin 128) => (x (ix5 n h g t 0) : EReal))]
  refine Finset.sum_bij' (fun i _ => ((i 0, i 3) : Fin 32 × Fin 128)) (fun p _ => (ix5 p.1 h g p.2 0 : S32x4x4x128x1.Idx)) (fun _ _ => Finset.mem_univ _)
    (fun p _ => Finset.mem_filter.mpr ⟨Finset.mem_univ _, (hd _).mpr ⟨rfl, rfl⟩⟩) ?_ (fun _ _ => rfl) ?_
  · intro i hi
    obtain ⟨h1, h2⟩ := (hd i).mp (Finset.mem_filter.mp hi).2
    subst h1 h2
    exact idx5 rfl rfl rfl rfl (by have := (i 4).isLt; show (0 : ℕ) = (i 4).val; have : (i 4).val < 1 := (i 4).isLt; omega)
  · intro i hi
    obtain ⟨h1, h2⟩ := (hd i).mp (Finset.mem_filter.mp hi).2
    subst h1 h2
    exact congrArg x (idx5 rfl rfl rfl rfl (by show (i 4).val = (0 : ℕ); have : (i 4).val < 1 := (i 4).isLt; omega))

section Results

variable {x0 x5 : Vec Ideal S2x2048x16x64 .f32} {x1 x2 : Vec Ideal S2x2048x4x64 .f32} {x3 : Vec Ideal S16 .f32} {x4 : Vec Ideal S4x4x128x256 .f32}
  {D : Data} (A : Args x0 x5 x1 x2 x3 x4 D)
include A

/-- The scaled gradient of the logits, keys first. -/
theorem dls_apply (n : Fin 32) (h : Fin 4) (j : Fin 256) (t : Fin 128) (g : Fin 4) : val_main_v150 (F := Ideal) x0 x1 x2 x3 x4 x5 (ix5 n h j t g)
    = (D.dl (n.val / 16) h.val g.val (n.val % 16) t.val j * (1 / 8) : ℝ) := by
  have i150 : idx_main_v150 (ix5 n h j t g) = ix5 n h g t j := idx5 rfl rfl rfl rfl rfl
  rw [val_main_v150_apply, i150, val_main_v149_apply, dl_apply A, val_main_v148_apply, val_main_cst_30_apply]
  have e8 : (FloatOps.ofBits .f32 0x3E000000#32 : Ideal .f32) = ((1 / 8 : ℝ) : EReal) := ofBits_eighth
  rw [e8]
  exact (EReal.coe_mul _ _).symm

/-- The gradient of the queries. -/
theorem dq_apply (b : Fin 2) (h g : Fin 4) (s : Fin 2048) (d : Fin 64) : val_main_v176 (F := Ideal) x0 x1 x2 x3 x4 x5 (ix5 b h g s d)
    = (D.dq b.val h.val g.val (s.val / 128) (s.val % 128) d.val : EReal) := by
  refine (shapeCast_apply _ _ _ (ix4 b ⟨4 * h.val + g.val, by omega⟩ s d) (by
    rw [Shape.rowMajor_val_four, Shape.rowMajor_val_five]
    show ((b.val * 16 + (4 * h.val + g.val)) * 2048 + s.val) * 64 + d.val = (((b.val * 4 + h.val) * 4 + g.val) * 2048 + s.val) * 64 + d.val
    omega)).trans ?_
  have i175 : idx_main_v175 (ix4 b ⟨4 * h.val + g.val, by omega⟩ s d) = ix4 b s ⟨4 * h.val + g.val, by omega⟩ d := idx4 rfl rfl rfl rfl
  rw [val_main_v175_apply, i175]
  refine (shapeCast_apply _ _ _ (ix5 ⟨16 * b.val + s.val / 128, by omega⟩ ⟨s.val % 128, Nat.mod_lt _ (by omega)⟩ h g d) (by
    rw [Shape.rowMajor_val_four, Shape.rowMajor_val_five]
    show ((((16 * b.val + s.val / 128) * 128 + s.val % 128) * 4 + h.val) * 4 + g.val) * 64 + d.val = ((b.val * 2048 + s.val) * 16 + (4 * h.val + g.val)) * 64 + d.val
    omega)).trans ?_
  have hb : (16 * b.val + s.val / 128) / 16 = b.val := by omega
  have hn : (16 * b.val + s.val / 128) % 16 = s.val / 128 := by omega
  rw [val_main_v152_apply, val_main_v151_apply]
  refine (sum_eq_coe (f := fun j : Fin 256 => D.dl b.val h.val g.val (s.val / 128) (s.val % 128) j * (1 / 8)
    * D.key b.val h.val (s.val / 128) j.val d.val) fun j => ?_).trans (congrArg Real.toEReal ?_)
  · have il : lidx_main_v151 (idx_main_v152 (ix5 ⟨16 * b.val + s.val / 128, by omega⟩ ⟨s.val % 128, Nat.mod_lt _ (by omega)⟩ h g d)) j
        = ix5 ⟨16 * b.val + s.val / 128, by omega⟩ h j ⟨s.val % 128, Nat.mod_lt _ (by omega)⟩ g := idx5 rfl rfl rfl rfl rfl
    have ir : ridx_main_v151 (idx_main_v152 (ix5 ⟨16 * b.val + s.val / 128, by omega⟩ ⟨s.val % 128, Nat.mod_lt _ (by omega)⟩ h g d)) j
        = ix4 ⟨16 * b.val + s.val / 128, by omega⟩ j h d := idx4 rfl rfl rfl rfl
    rw [il, ir, dls_apply A, keys_apply A]
    dsimp only
    rw [hb, hn]
    exact (EReal.coe_mul _ _).symm
  · unfold Data.dq
    rw [Finset.sum_mul]
    exact Finset.sum_congr rfl fun j _ => by ring

/-- What a block gives to the gradient of the keys it sees. -/
theorem dkb_apply (n : Fin 32) (j : Fin 256) (h : Fin 4) (d : Fin 64) : val_main_v154 (F := Ideal) x0 x1 x2 x3 x4 x5 (ix4 n j h d)
    = (D.dkb (n.val / 16) h.val (n.val % 16) j d.val : EReal) := by
  have i154 : idx_main_v154 (ix4 n j h d) = ix4 n h j d := idx4 rfl rfl rfl rfl
  rw [val_main_v154_apply, i154]
  have e : val_main_v153 (F := Ideal) x0 x1 x2 x3 x4 x5 (ix4 n h j d) = ∑ t : Fin 128, ∑ g : Fin 4,
      ((val_main_v150 (F := Ideal) x0 x1 x2 x3 x4 x5 (ix5 n h j t g) : EReal) * val_main_v35 (F := Ideal) x0 (ix5 n t h g d)) := by
    unfold val_main_v153
    generalize val_main_v150 (F := Ideal) x0 x1 x2 x3 x4 x5 = y0
    generalize val_main_v35 (F := Ideal) x0 = y1
    simp only [Host.dotGeneral]
    let M := dot_S32x4x256x128x4_S32x128x4x4x64_S32x4x256x64_34_13_2_4_01_02
    have hr : M.contr.rank = 2 := rfl
    have c0 : M.contr.size ⟨0, by rw [hr]; omega⟩ = 128 := rfl
    have c1 : M.contr.size ⟨1, by rw [hr]; omega⟩ = 4 := rfl
    rw [Ideal.dotGeneral_apply, ← Equiv.sum_comp (contrEquiv2 M 128 4 hr c0 c1).symm, Fintype.sum_prod_type]
    refine Finset.sum_congr rfl fun t _ => Finset.sum_congr rfl fun g _ => ?_
    have h0 := contrEquiv2_symm_val0 M 128 4 hr c0 c1 (t, g)
    have h1 := contrEquiv2_symm_val1 M 128 4 hr c0 c1 (t, g)
    have el : M.lhsIdx (ix4 n h j d) ((contrEquiv2 M 128 4 hr c0 c1).symm (t, g)) = ix5 n h j t g := idx5 rfl rfl rfl h0 h1
    have er : M.rhsIdx (ix4 n h j d) ((contrEquiv2 M 128 4 hr c0 c1).symm (t, g)) = ix5 n t h g d := idx5 rfl h0 rfl h1 rfl
    rw [el, er]
  rw [e]
  refine (sum_eq_coe (f := fun t : Fin 128 => ∑ g : Fin 4, D.dl (n.val / 16) h.val g.val (n.val % 16) t.val j * (1 / 8)
    * D.q (n.val / 16) (128 * (n.val % 16) + t.val) (4 * h.val + g.val) d.val) fun t => sum_eq_coe fun g => ?_).trans (congrArg Real.toEReal ?_)
  · rw [dls_apply A, q_apply A]
    exact (EReal.coe_mul _ _).symm
  · unfold Data.dkb
    rw [Finset.sum_comm]
    refine Finset.sum_congr rfl fun g _ => ?_
    rw [Finset.sum_mul]
    exact Finset.sum_congr rfl fun t _ => by ring

/-- What a block gives to the gradient of the values it sees. -/
theorem dvb_apply (n : Fin 32) (j : Fin 256) (h : Fin 4) (d : Fin 64) : val_main_v112 (F := Ideal) x0 x1 x3 x4 x5 (ix4 n j h d)
    = (D.dvb (n.val / 16) h.val (n.val % 16) j d.val : EReal) := by
  have i112 : idx_main_v112 (ix4 n j h d) = ix4 n h d j := idx4 rfl rfl rfl rfl
  rw [val_main_v112_apply, i112]
  have e : val_main_v111 (F := Ideal) x0 x1 x3 x4 x5 (ix4 n h d j) = ∑ g : Fin 4, ∑ t : Fin 128,
      ((val_main_v109 (F := Ideal) x5 (ix5 n h d g t) : EReal) * val_main_v101 (F := Ideal) x0 x1 x3 x4 (ix5 n h g t j)) := by
    unfold val_main_v111
    generalize val_main_v109 (F := Ideal) x5 = y0
    generalize val_main_v101 (F := Ideal) x0 x1 x3 x4 = y1
    simp only [Host.dotGeneral]
    let M := dot_S32x4x64x4x128_S32x4x4x128x256_S32x4x64x256_34_23_2_4_01_01
    have hr : M.contr.rank = 2 := rfl
    have c0 : M.contr.size ⟨0, by rw [hr]; omega⟩ = 4 := rfl
    have c1 : M.contr.size ⟨1, by rw [hr]; omega⟩ = 128 := rfl
    rw [Ideal.dotGeneral_apply, ← Equiv.sum_comp (contrEquiv2 M 4 128 hr c0 c1).symm, Fintype.sum_prod_type]
    refine Finset.sum_congr rfl fun g _ => Finset.sum_congr rfl fun t _ => ?_
    have h0 := contrEquiv2_symm_val0 M 4 128 hr c0 c1 (g, t)
    have h1 := contrEquiv2_symm_val1 M 4 128 hr c0 c1 (g, t)
    have el : M.lhsIdx (ix4 n h d j) ((contrEquiv2 M 4 128 hr c0 c1).symm (g, t)) = ix5 n h d g t := idx5 rfl rfl rfl h0 h1
    have er : M.rhsIdx (ix4 n h d j) ((contrEquiv2 M 4 128 hr c0 c1).symm (g, t)) = ix5 n h g t j := idx5 rfl rfl h0 h1 rfl
    rw [el, er]
  rw [e]
  unfold Data.dvb
  refine sum_eq_coe fun g => sum_eq_coe fun t => ?_
  have i109 : idx_main_v109 (ix5 n h d g t) = ix5 n t h g d := idx5 rfl rfl rfl rfl rfl
  rw [val_main_v109_apply, i109, do_apply A, p_apply A]
  exact (EReal.coe_mul _ _).symm.trans (congrArg Real.toEReal (mul_comm _ _))

/-- The gradient of the keys. -/
theorem dk_apply (b : Fin 2) (h : Fin 4) (s : Fin 2048) (d : Fin 64) : val_main_v179 (F := Ideal) x0 x1 x2 x3 x4 x5 (ix4 b h s d)
    = (D.dk b.val h.val (s.val / 128) ⟨s.val % 128, Nat.mod_lt _ (by omega)⟩ d.val : EReal) := by
  have e : val_main_v179 (F := Ideal) x0 x1 x2 x3 x4 x5 = rows (val_main_v154 (F := Ideal) x0 x1 x2 x3 x4 x5) := rfl
  rw [e]
  exact rows_apply _ D.dkb (dkb_apply A) b h s d
/-- The gradient of the values. -/
theorem dv_apply (b : Fin 2) (h : Fin 4) (s : Fin 2048) (d : Fin 64) : val_main_v180 (F := Ideal) x0 x1 x3 x4 x5 (ix4 b h s d)
    = (D.dv b.val h.val (s.val / 128) ⟨s.val % 128, Nat.mod_lt _ (by omega)⟩ d.val : EReal) := by
  have e : val_main_v180 (F := Ideal) x0 x1 x3 x4 x5 = rows (val_main_v112 (F := Ideal) x0 x1 x3 x4 x5) := rfl
  rw [e]
  exact rows_apply _ D.dvb (dvb_apply A) b h s d

/-- The gradient of the bias tables. -/
theorem dbias_apply (h g : Fin 4) (t : Fin 128) (j : Fin 256) : val_main_v147 (F := Ideal) x0 x1 x2 x3 x4 x5 (ix4 h g t j)
    = (D.dbias h.val g.val t.val j : EReal) := by
  have e28 : val_main_cst_28 (F := Ideal) (Shape.Idx.first h_S_) = (0 : EReal) := by rw [val_main_cst_28_apply]; exact Ideal.ofBits_zero_f32
  have e29 : val_main_cst_29 (F := Ideal) (Shape.Idx.first h_S_) = (0 : EReal) := by rw [val_main_cst_29_apply]; exact Ideal.ofBits_zero_f32
  have i147 : idx_main_v147 (ix4 h g t j) 0 = ix5 0 h g t j := idx5 rfl rfl rfl rfl rfl
  have h146 : val_main_v146 (F := Ideal) x0 x1 x2 x3 x4 x5 (ix5 0 h g t j) = val_main_v145 (F := Ideal) x0 x1 x2 x3 x4 x5 (ix4 h g t j) :=
    shapeCast_apply _ _ _ _ (by
      rw [Shape.rowMajor_val_four, Shape.rowMajor_val_five]
      show ((h.val * 4 + g.val) * 128 + t.val) * 256 + j.val = (((0 * 4 + h.val) * 4 + g.val) * 128 + t.val) * 256 + j.val
      omega)
  rw [val_main_v147_apply, e29, zero_add, Fin.sum_univ_one, i147, h146, val_main_v145_apply, e28, zero_add]
  unfold Data.dbias
  rw [← sum_points fun b n => D.dl b h.val g.val n t.val j]
  refine sum_eq_coe fun n => ?_
  have i145 : idx_main_v145 (ix4 h g t j) n = ix5 n h g t j := idx5 rfl rfl rfl rfl rfl
  rw [i145, dl_apply A]

/-- The gradient of the sinks. -/
theorem dsink_apply (h g : Fin 4) (l : Fin 128) : val_main_v178 (F := Ideal) x0 x1 x2 x3 x4 x5 (ix3 h g l) = (D.dsink h.val g.val : EReal) := by
  have e22 : val_main_cst_22 (F := Ideal) (Shape.Idx.first h_S_) = (0 : EReal) := by rw [val_main_cst_22_apply]; exact Ideal.ofBits_zero_f32
  have e25 : val_main_cst_25 (F := Ideal) (Shape.Idx.first h_S_) = (0 : EReal) := by rw [val_main_cst_25_apply]; exact Ideal.ofBits_zero_f32
  have h178 : val_main_v178 (F := Ideal) x0 x1 x2 x3 x4 x5 (ix3 h g l) = val_main_v177 (F := Ideal) x0 x1 x2 x3 x4 x5 (ix3 h g 0) := by
    rw [val_main_v178_apply]
    exact congrArg _ (funext fun a => match a with
      | ⟨0, _⟩ => rfl
      | ⟨1, _⟩ => rfl
      | ⟨2, _⟩ => Subsingleton.elim (α := Fin 1) _ _)
  have h177 : val_main_v177 (F := Ideal) x0 x1 x2 x3 x4 x5 (ix3 h g 0) = val_main_v155 (F := Ideal) x0 x1 x2 x3 x4 x5 (ix1 ⟨4 * h.val + g.val, by omega⟩) :=
    shapeCast_apply _ _ _ _ (by
      rw [Shape.rowMajor_val_one, Shape.rowMajor_val_three]
      show 4 * h.val + g.val = (h.val * 4 + g.val) * 1 + 0
      omega)
  have h155 : val_main_v155 (F := Ideal) x0 x1 x2 x3 x4 x5 (ix1 ⟨4 * h.val + g.val, by omega⟩) = val_main_v136 (F := Ideal) x0 x1 x2 x3 x4 x5 (ix5 0 h g 0 0) :=
    shapeCast_apply _ _ _ _ (by
      rw [Shape.rowMajor_val_one, Shape.rowMajor_val_five]
      show (((0 * 4 + h.val) * 4 + g.val) * 1 + 0) * 1 + 0 = 4 * h.val + g.val
      omega)
  have cast : ∀ x : Vec Ideal S4x4x1 .f32, shapeCast S1x4x4x1x1 x shapeCasts_S4x4x1_S1x4x4x1x1 (ix5 0 h g 0 0) = x (ix3 h g 0) := fun x =>
    shapeCast_apply _ _ _ _ (by
      rw [Shape.rowMajor_val_three, Shape.rowMajor_val_five]
      show (h.val * 4 + g.val) * 1 + 0 = (((0 * 4 + h.val) * 4 + g.val) * 1 + 0) * 1 + 0
      omega)
  have h123 : val_main_v123 (F := Ideal) x0 x1 x2 x3 x4 x5 (ix5 0 h g 0 0) = (D.dsink h.val g.val : EReal) := by
    refine (cast _).trans ((sum_rows _ _ e22 h g).trans ?_)
    unfold Data.dsink
    rw [← sum_points fun b n => ∑ t : Fin 128, D.ds b h.val g.val n t.val]
    exact sum_eq_coe fun n => sum_eq_coe fun t => ds_apply A n h g t
  have h135 : val_main_v135 (F := Ideal) x0 x1 x2 x3 x4 x5 (ix5 0 h g 0 0) = (0 : EReal) := by
    refine (cast _).trans ((sum_rows _ _ e25 h g).trans ?_)
    refine Finset.sum_eq_zero fun n _ => Finset.sum_eq_zero fun t _ => ?_
    rw [val_main_v133_apply, dmax_apply A]
    exact zero_mul (M₀ := EReal) _
  rw [h178, h177, h155, val_main_v136_apply, h123, h135]
  exact add_zero (M := EReal) _

end Results

end Cert.ReferenceIdeal.Swa

end
-- ==== Proof.SwaClaim.lean ====
module

public import proofs.«01_k».proof.Defs
public import proofs.«01_k».proof.Proof.Gen.ReferenceIdeal.Run
public import proofs.«01_k».proof.Proof.Gen.Pre_finite_arguments
public import proofs.«01_k».proof.Proof.SwaFinal
public import proofs.«01_k».proof.Proof.SwaRefC

@[expose] public section

set_option maxRecDepth 16384

noncomputable section

namespace Cert.Swa

open Idealize.ShloMosaic Idealize.ShloMosaic.TcCoe Idealize.ShloMosaic.ValueIdx Idealize.SL.Sem
open Cert.KernelIdeal (nD τ sig)

/-! # The kernel and the reference end with the same five arrays -/

/-- The precondition says that every entry of the six arguments is a real number. -/
theorem finite_of_pre [Cert.Pre_finite_arguments.Facts] (m : (ℓ : Loc nD τ sig) → Buf (Elt Ideal) ℓ) (h : Cert.Pre_KernelIdeal_finite_arguments m) (c : Dev nD) :
    Finite (KernelIdeal.Swa.arg0 m c) ∧ Finite (KernelIdeal.Swa.arg1 m c) ∧ Finite (KernelIdeal.Swa.arg2 m c)
      ∧ Finite (KernelIdeal.Swa.arg3 m c) ∧ Finite (KernelIdeal.Swa.arg4 m c) ∧ Finite (KernelIdeal.Swa.arg5 m c) := by
  obtain ⟨h0, h1, h2, h3, h4, h5⟩ := h c
  exact ⟨finite_of_olt _ _ (fun _ => rfl) h0, finite_of_olt _ _ (fun _ => rfl) h1, finite_of_olt _ _ (fun _ => rfl) h2,
    finite_of_olt _ _ (fun _ => rfl) h3, finite_of_olt _ _ (fun _ => rfl) h4, finite_of_olt _ _ (fun _ => rfl) h5⟩

section Kernel

open Cert.KernelIdeal Cert.KernelIdeal.Swa Cert.KernelIdeal.Gen

/-- What the kernel leaves, for arguments whose entries are the data `D c`. -/
theorem kernel_values (m : (ℓ : Loc nD τ sig) → Buf (Elt Ideal) ℓ) (g : Dev nD → PrngReg) (D : Dev nD → Data)
    (A : ∀ c, Args (arg0 m c) (arg5 m c) (arg1 m c) (arg2 m c) (arg3 m c) (arg4 m c) (D c)) :
    θ_run (defs (F := Ideal)) (onTc (τ := τ) (main (F := Ideal))) ⟨m, fun _ => 0, g⟩ (fun r => ∀ c : Dev nD,
      r.2.mem ((c.tc : Thread nD τ).loc main_v12_0) = arrDq (D c)
      ∧ r.2.mem ((c.tc : Thread nD τ).loc main_v12_1) = arrDk (D c)
      ∧ r.2.mem ((c.tc : Thread nD τ).loc main_v12_2) = arrDv (D c)
      ∧ r.2.mem ((c.tc : Thread nD τ).loc main_v12_3) = arrDbias (D c)
      ∧ r.2.mem ((c.tc : Thread nD τ).loc main_v12_4) = arrDsink (D c)) :=
  (θ_run defs _ _).mono (fun r h c =>
    ⟨((h c).1 8).trans (final8 m c (D c) (reads m c (A c))), ((h c).1 9).trans (final9 m c (D c) (reads m c (A c))),
      ((h c).1 10).trans (final10 m c (D c) (reads m c (A c))), ((h c).1 11).trans (final11 m c (D c) (reads m c (A c))),
      ((h c).1 12).trans (final12 m c (D c) (reads m c (A c)))⟩) (run_main m g)

end Kernel

section Reference

open Cert.ReferenceIdeal Cert.ReferenceIdeal.Gen Cert.ReferenceIdeal.Read
open Cert.KernelIdeal.Swa (arrDq arrDk arrDv arrDbias arrDsink)

variable {x0 x5 : Vec Ideal S2x2048x16x64 .f32} {x1 x2 : Vec Ideal S2x2048x4x64 .f32} {x3 : Vec Ideal S16 .f32} {x4 : Vec Ideal S4x4x128x256 .f32}
  {D : Data} (A : Args x0 x5 x1 x2 x3 x4 D)
include A

theorem ref_dq : val_main_v176 (F := Ideal) x0 x1 x2 x3 x4 x5 = arrDq D := funext fun y => by
  have e : y = ix5 (y 0) (y 1) (y 2) (y 3) (y 4) := Swa.idx5 rfl rfl rfl rfl rfl
  rw [e]
  exact Swa.dq_apply A _ _ _ _ _
theorem ref_dk : val_main_v179 (F := Ideal) x0 x1 x2 x3 x4 x5 = arrDk D := funext fun y => by
  have e : y = ix4 (y 0) (y 1) (y 2) (y 3) := Swa.idx4 rfl rfl rfl rfl
  rw [e]
  exact Swa.dk_apply A _ _ _ _
theorem ref_dv : val_main_v180 (F := Ideal) x0 x1 x3 x4 x5 = arrDv D := funext fun y => by
  have e : y = ix4 (y 0) (y 1) (y 2) (y 3) := Swa.idx4 rfl rfl rfl rfl
  rw [e]
  exact Swa.dv_apply A _ _ _ _
theorem ref_dbias : val_main_v147 (F := Ideal) x0 x1 x2 x3 x4 x5 = arrDbias D := funext fun y => by
  have e : y = ix4 (y 0) (y 1) (y 2) (y 3) := Swa.idx4 rfl rfl rfl rfl
  rw [e]
  exact Swa.dbias_apply A _ _ _ _
theorem ref_dsink : val_main_v178 (F := Ideal) x0 x1 x2 x3 x4 x5 = arrDsink D := funext fun y => by
  have e : y = ix3 (y 0) (y 1) (y 2) := funext fun a => match a with
    | ⟨0, _⟩ => rfl
    | ⟨1, _⟩ => rfl
    | ⟨2, _⟩ => rfl
  rw [e]
  exact Swa.dsink_apply A _ _ _

end Reference

section Reference

open Cert.ReferenceIdeal Cert.ReferenceIdeal.Gen Cert.ReferenceIdeal.Read
open Cert.KernelIdeal.Swa (arrDq arrDk arrDv arrDbias arrDsink)

/-- What the reference leaves, for arguments whose entries are the data `D c`. -/
theorem reference_values (m : (ℓ : Loc ReferenceIdeal.nD ReferenceIdeal.τ ReferenceIdeal.sig) → Buf (Elt Ideal) ℓ) (g : Dev ReferenceIdeal.nD → PrngReg)
    (D : Dev ReferenceIdeal.nD → Data)
    (A : ∀ c : Dev ReferenceIdeal.nD, Args (m ((c.tc : Thread ReferenceIdeal.nD ReferenceIdeal.τ).loc main_arg0)) (m ((c.tc : Thread ReferenceIdeal.nD ReferenceIdeal.τ).loc main_arg5))
      (m ((c.tc : Thread ReferenceIdeal.nD ReferenceIdeal.τ).loc main_arg1)) (m ((c.tc : Thread ReferenceIdeal.nD ReferenceIdeal.τ).loc main_arg2))
      (m ((c.tc : Thread ReferenceIdeal.nD ReferenceIdeal.τ).loc main_arg3)) (m ((c.tc : Thread ReferenceIdeal.nD ReferenceIdeal.τ).loc main_arg4)) (D c)) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc main_v176) = arrDq (D c)
      ∧ r.2.mem ((c.tc : Thread ReferenceIdeal.nD ReferenceIdeal.τ).loc main_v179) = arrDk (D c)
      ∧ r.2.mem ((c.tc : Thread ReferenceIdeal.nD ReferenceIdeal.τ).loc main_v180) = arrDv (D c)
      ∧ r.2.mem ((c.tc : Thread ReferenceIdeal.nD ReferenceIdeal.τ).loc main_v147) = arrDbias (D c)
      ∧ r.2.mem ((c.tc : Thread ReferenceIdeal.nD ReferenceIdeal.τ).loc main_v178) = arrDsink (D c)
      ∧ r.2.mem ((c.tc : Thread ReferenceIdeal.nD ReferenceIdeal.τ).loc main_arg0) = m ((c.tc : Thread ReferenceIdeal.nD ReferenceIdeal.τ).loc main_arg0)
      ∧ r.2.mem ((c.tc : Thread ReferenceIdeal.nD ReferenceIdeal.τ).loc main_arg1) = m ((c.tc : Thread ReferenceIdeal.nD ReferenceIdeal.τ).loc main_arg1)
      ∧ r.2.mem ((c.tc : Thread ReferenceIdeal.nD ReferenceIdeal.τ).loc main_arg2) = m ((c.tc : Thread ReferenceIdeal.nD ReferenceIdeal.τ).loc main_arg2)
      ∧ r.2.mem ((c.tc : Thread ReferenceIdeal.nD ReferenceIdeal.τ).loc main_arg3) = m ((c.tc : Thread ReferenceIdeal.nD ReferenceIdeal.τ).loc main_arg3)
      ∧ r.2.mem ((c.tc : Thread ReferenceIdeal.nD ReferenceIdeal.τ).loc main_arg4) = m ((c.tc : Thread ReferenceIdeal.nD ReferenceIdeal.τ).loc main_arg4)
      ∧ r.2.mem ((c.tc : Thread ReferenceIdeal.nD ReferenceIdeal.τ).loc main_arg5) = m ((c.tc : Thread ReferenceIdeal.nD ReferenceIdeal.τ).loc main_arg5)) :=
  (θ_run ReferenceIdeal.defs _ _).mono (fun r h c =>
    ⟨(h c).1.trans ((val_main_v176_eq (StableHlo.launchContents m c)).trans (ref_dq (A c))),
      (h c).2.1.trans ((val_main_v179_eq (StableHlo.launchContents m c)).trans (ref_dk (A c))),
      (h c).2.2.1.trans ((val_main_v180_eq (StableHlo.launchContents m c)).trans (ref_dv (A c))),
      (h c).2.2.2.1.trans ((val_main_v147_eq (StableHlo.launchContents m c)).trans (ref_dbias (A c))),
      (h c).2.2.2.2.1.trans ((val_main_v178_eq (StableHlo.launchContents m c)).trans (ref_dsink (A c))), (h c).2.2.2.2.2⟩)
    (Cert.ReferenceIdeal.Value.run (F := Ideal) m g)

end Reference

end Cert.Swa

end
-- ==== Proof.GradSum.lean ====
module

public import Idealize.ShloMosaic.PureOps.Ideal.Laws
public import Idealize.ShloMosaic.Lib.ValueIdxCore
public import Idealize.ShloMosaic.Lib.TwoAxisContraction
public import Idealize.ShloMosaic.Lib.Pipeline.ValueKit

@[expose] public section

namespace Cert.GradSum

open Idealize.ShloMosaic hiding ix2 ix3
open Idealize.ShloMosaic.ValueIdx
open scoped BigOperators

/-! # Sums over the 4096 rows of a weight's gradient

A weight's gradient contracts the rows: row `n = 2048 b + s` of the two arrays. The kernel takes the rows in four
blocks of 1024, the reference over `b` and `s`. -/

/-- The place of row `n = 2048 b + s` in the two sequences of 2048 rows. -/
abbrev rowIx {K : ℕ} (n : Fin 4096) (k : Fin K) : Shape.Idx ⟨3, ![2, 2048, K]⟩ :=
  ix3 ⟨n.val / 2048, by omega⟩ ⟨n.val % 2048, Nat.mod_lt _ (by decide)⟩ k

/-- The sum over the rows in four blocks of 1024, in the order a carried sum adds them. -/
theorem sum_four (f : Fin 4096 → EReal) : ∑ n, f n
    = (((∑ k : Fin 1024, f ⟨1024 * 0 + k.val, by omega⟩) + ∑ k : Fin 1024, f ⟨1024 * 1 + k.val, by omega⟩)
      + ∑ k : Fin 1024, f ⟨1024 * 2 + k.val, by omega⟩) + ∑ k : Fin 1024, f ⟨1024 * 3 + k.val, by omega⟩ := by
  refine (Fin.sum_univ_add (a := 3072) (b := 1024) f).trans ?_
  refine congrArg₂ (· + · : EReal → EReal → EReal) ?_ rfl
  refine (Fin.sum_univ_add (a := 2048) (b := 1024) fun n : Fin 3072 => f ⟨n.val, by omega⟩).trans ?_
  refine congrArg₂ (· + · : EReal → EReal → EReal) ?_ rfl
  refine (Fin.sum_univ_add (a := 1024) (b := 1024) fun n : Fin 2048 => f ⟨n.val, by omega⟩).trans ?_
  refine congrArg₂ (· + · : EReal → EReal → EReal) ?_ rfl
  refine Finset.sum_congr rfl fun k _ => congrArg f (Fin.ext ?_)
  show k.val = 1024 * 0 + k.val
  omega

/-- The sum over the rows, row by row within each of the two sequences. -/
theorem sum_rows (g : Fin 2 → Fin 2048 → EReal) :
    ∑ n : Fin 4096, g ⟨n.val / 2048, by omega⟩ ⟨n.val % 2048, Nat.mod_lt _ (by decide)⟩ = ∑ b : Fin 2, ∑ s : Fin 2048, g b s := by
  refine (Fin.sum_univ_add (a := 2048) (b := 2048)
    fun n : Fin 4096 => g ⟨n.val / 2048, by omega⟩ ⟨n.val % 2048, Nat.mod_lt _ (by decide)⟩).trans ?_
  rw [Fin.sum_univ_two]
  refine congrArg₂ (· + · : EReal → EReal → EReal) ?_ ?_
  · refine Finset.sum_congr rfl fun s _ => congrArg₂ g (Fin.ext ?_) (Fin.ext ?_)
    · show s.val / 2048 = 0; omega
    · show s.val % 2048 = s.val; omega
  · refine Finset.sum_congr rfl fun s _ => congrArg₂ g (Fin.ext ?_) (Fin.ext ?_)
    · show (2048 + s.val) / 2048 = 1; omega
    · show (2048 + s.val) % 2048 = s.val; omega

/-- `[K,M]ᵀ × [K,N]` read at (r, c): the accumulator plus the sum over `k` of `lhs[k,r] · rhs[k,c]`. -/
theorem matmul_transposedLhs_apply {M K N : ℕ} {φ₁ φ₂ : FTy} (prec : Option ContractPrecision)
    (wf : DotDims.WF ⟨2, ![K, M]⟩ ⟨2, ![K, N]⟩ ⟨2, ![M, N]⟩ [0] [0] [1] [1] [] [])
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (⟨[0], [0], [1], [1], [], [], wf⟩ : DotDims ⟨2, ![K, M]⟩ ⟨2, ![K, N]⟩ ⟨2, ![M, N]⟩) prec lhs rhs acc (ix2 r c)
      = acc (ix2 r c) + ∑ k : Fin K, (lhs (ix2 k r) * rhs (ix2 k c) : EReal) := by
  rw [Ideal.matmul_apply, ← Equiv.sum_comp (contrEquiv1 _ K rfl rfl).symm]
  refine congrArg (acc (ix2 r c) + ·) (Finset.sum_congr rfl fun k _ => ?_)
  have hk := contrEquiv1_symm_val (⟨[0], [0], [1], [1], [], [], wf⟩ : DotDims ⟨2, ![K, M]⟩ ⟨2, ![K, N]⟩ ⟨2, ![M, N]⟩) K rfl rfl k
  congr 1
  · refine congrArg lhs (funext fun a => Fin.ext ?_)
    match a with
    | ⟨0, _⟩ => exact hk
    | ⟨1, _⟩ => rfl
  · refine congrArg rhs (funext fun a => Fin.ext ?_)
    match a with
    | ⟨0, _⟩ => exact hk
    | ⟨1, _⟩ => rfl

/-- The two sequences of 2048 rows laid out as one array of 4096, read at row `n` and column `k`. -/
theorem rows_cast {K : ℕ} {α : Type} (x : Shape.Idx ⟨3, ![2, 2048, K]⟩ → α) (h : Shape.ShapeCasts ⟨3, ![2, 2048, K]⟩ ⟨2, ![4096, K]⟩) (n : Fin 4096) (k : Fin K) :
    shapeCast ⟨2, ![4096, K]⟩ x h (ix2 n k) = x (rowIx n k) := by
  refine shapeCast_apply _ _ _ _ ?_
  rw [Shape.rowMajor_val_three, Shape.rowMajor_val_two]
  show (n.val / 2048 * 2048 + n.val % 2048) * K + k.val = n.val * K + k.val
  rw [show n.val / 2048 * 2048 + n.val % 2048 = n.val by omega]

/-- A weight given its one layer, read at an entry. -/
theorem layer_apply {A B : ℕ} {α : Type} (x : Shape.Idx ⟨2, ![A, B]⟩ → α) (h : Shape.BroadcastsInDim ⟨2, ![A, B]⟩ ⟨3, ![1, A, B]⟩ ![1, 2]) (p : Fin A) (q : Fin B) :
    broadcastInDim ⟨3, ![1, A, B]⟩ ![1, 2] h x (ix3 0 p q) = x (ix2 p q) :=
  broadcastInDim_apply _ h x _ _ fun a => match a with
    | ⟨0, _⟩ => by show p.val = if A = 1 then 0 else p.val; split_ifs <;> omega
    | ⟨1, _⟩ => by show q.val = if B = 1 then 0 else q.val; split_ifs <;> omega

/-- A weight given its one layer and transposed, read at an entry. -/
theorem layer_transposed_apply {A B : ℕ} {α : Type} (x : Shape.Idx ⟨2, ![A, B]⟩ → α) (h : Shape.BroadcastsInDim ⟨2, ![A, B]⟩ ⟨3, ![1, A, B]⟩ ![1, 2])
    (h' : Shape.Transposes ⟨3, ![1, A, B]⟩ [0, 2, 1] ⟨3, ![1, B, A]⟩) (p : Fin B) (q : Fin A) :
    transpose ⟨3, ![1, B, A]⟩ [0, 2, 1] (broadcastInDim ⟨3, ![1, A, B]⟩ ![1, 2] h x) h' (ix3 0 p q) = x (ix2 q p) :=
  (transpose_apply [0, 2, 1] _ _ (ix3 0 p q) (ix3 0 q p) fun b => match b with | ⟨0, _⟩ => rfl | ⟨1, _⟩ => rfl | ⟨2, _⟩ => rfl).trans (layer_apply x h q p)

/-- One layer of a stack as a matrix, read at an entry. -/
theorem cast_layer {A B : ℕ} {α : Type} (x : Shape.Idx ⟨3, ![1, A, B]⟩ → α) (h : Shape.ShapeCasts ⟨3, ![1, A, B]⟩ ⟨2, ![A, B]⟩) (p : Fin A) (q : Fin B) :
    shapeCast ⟨2, ![A, B]⟩ x h (ix2 p q) = x (ix3 0 p q) := by
  refine shapeCast_apply _ _ _ _ ?_
  rw [Shape.rowMajor_val_three, Shape.rowMajor_val_two]
  show (0 * A + p.val) * B + q.val = p.val * B + q.val
  rw [Nat.zero_mul, Nat.zero_add]

/-- What row `n = 2048 b + s` of the two arrays adds to entry `(p, q)` of the gradient. -/
noncomputable def termAt {M N : ℕ} (l : Vec Ideal ⟨3, ![2, 2048, M]⟩ .f32) (r : Vec Ideal ⟨3, ![2, 2048, N]⟩ .f32) (n : Fin 4096) (p : Fin M) (q : Fin N) : EReal :=
  l (rowIx n p) * r (rowIx n q)

/-- Entry `(p, q)` of the gradient: the sum over the rows. -/
noncomputable def gradAt {M N : ℕ} (l : Vec Ideal ⟨3, ![2, 2048, M]⟩ .f32) (r : Vec Ideal ⟨3, ![2, 2048, N]⟩ .f32) (p : Fin M) (q : Fin N) : EReal :=
  ∑ n : Fin 4096, termAt l r n p q

/-- What rows `1024 b` to `1024 b + 1023` add. -/
noncomputable def stepAt {M N : ℕ} (l : Vec Ideal ⟨3, ![2, 2048, M]⟩ .f32) (r : Vec Ideal ⟨3, ![2, 2048, N]⟩ .f32) (b : Fin 4) (p : Fin M) (q : Fin N) : EReal :=
  ∑ k : Fin 1024, termAt l r ⟨1024 * b.val + k.val, by omega⟩ p q

/-- The body's product of rows `1024 b` to `1024 b + 1023` of the two arrays, at an entry whose factors are known. -/
theorem mul_step {M N A B : ℕ} {φ₁ φ₂ : FTy} (l : Vec Ideal ⟨3, ![2, 2048, M]⟩ .f32) (r : Vec Ideal ⟨3, ![2, 2048, N]⟩ .f32) (b : Fin 4) (P : Fin M) (Q : Fin N)
    (x0 : FVec Ideal ⟨2, ![1024, A]⟩ φ₁) (x1 : FVec Ideal ⟨2, ![1024, B]⟩ φ₂)
    (wf : DotDims.WF ⟨2, ![1024, A]⟩ ⟨2, ![1024, B]⟩ ⟨2, ![A, B]⟩ [0] [0] [1] [1] [] []) (p : Fin A) (q : Fin B)
    (hf : ∀ (k : Fin 1024) (n : Fin 4096), n.val = 1024 * b.val + k.val → x0 (ix2 k p) = l (rowIx n P))
    (hg : ∀ (k : Fin 1024) (n : Fin 4096), n.val = 1024 * b.val + k.val → x1 (ix2 k q) = r (rowIx n Q)) :
    FloatOps.matmul (⟨[0], [0], [1], [1], [], [], wf⟩ : DotDims ⟨2, ![1024, A]⟩ ⟨2, ![1024, B]⟩ ⟨2, ![A, B]⟩) none
      x0 x1 (constant ⟨2, ![A, B]⟩ .f32 0x00000000#32 : FVec Ideal ⟨2, ![A, B]⟩ .f32) (ix2 p q) = stepAt l r b P Q := by
  refine (matmul_transposedLhs_apply (M := A) (K := 1024) (N := B) none _ _ _ _ p q).trans ?_
  rw [show (constant ⟨2, ![A, B]⟩ .f32 0x00000000#32 : FVec Ideal ⟨2, ![A, B]⟩ .f32) (ix2 p q) = 0 from Ideal.ofBits_zero_f32, zero_add]
  exact Finset.sum_congr rfl fun k _ => congrArg₂ (· * · : EReal → EReal → EReal) (hf k _ rfl) (hg k _ rfl)

theorem gradAt_steps {M N : ℕ} (l : Vec Ideal ⟨3, ![2, 2048, M]⟩ .f32) (r : Vec Ideal ⟨3, ![2, 2048, N]⟩ .f32) (p : Fin M) (q : Fin N) :
    gradAt l r p q = ((stepAt l r 0 p q + stepAt l r 1 p q) + stepAt l r 2 p q) + stepAt l r 3 p q :=
  sum_four fun n => termAt l r n p q

/-- A sum carried over the four steps: the first step stores its product in the scratch, the second and the third add
theirs, the last writes the sum with its own as the one layer of a stack. -/
theorem of_steps {M N A B : ℕ} (l : Vec Ideal ⟨3, ![2, 2048, M]⟩ .f32) (r : Vec Ideal ⟨3, ![2, 2048, N]⟩ .f32) (P : Fin M) (Q : Fin N)
    (x : Fin 4 → FVec Ideal ⟨2, ![A, B]⟩ .f32) {s0 s1 s2 : FVec Ideal ⟨2, ![A, B]⟩ .f32} {y : FVec Ideal ⟨3, ![1, A, B]⟩ .f32}
    (h2 : Shape.ShapeCasts ⟨2, ![A, B]⟩ ⟨2, ![A, B]⟩) (h3 : Shape.ShapeCasts ⟨2, ![A, B]⟩ ⟨3, ![1, A, B]⟩)
    (e0 : s0 = shapeCast ⟨2, ![A, B]⟩ (x 0) h2) (e1 : s1 = shapeCast ⟨2, ![A, B]⟩ (addf s0 (x 1)) h2)
    (e2 : s2 = shapeCast ⟨2, ![A, B]⟩ (addf s1 (x 2)) h2) (e3 : y = shapeCast ⟨3, ![1, A, B]⟩ (addf s2 (x 3)) h3)
    (p : Fin A) (q : Fin B) (hx : ∀ b, x b (ix2 p q) = stepAt l r b P Q) : y (ix3 0 p q) = gradAt l r P Q := by
  have hc : ∀ z : FVec Ideal ⟨2, ![A, B]⟩ .f32, shapeCast ⟨2, ![A, B]⟩ z h2 (ix2 p q) = z (ix2 p q) := fun z => shapeCast_apply z _ _ _ rfl
  rw [e3, gradAt_steps, ← hx, ← hx, ← hx, ← hx]
  refine (shapeCast_apply _ _ _ (ix2 p q) ?_).trans ?_
  · rw [Shape.rowMajor_val_three, Shape.rowMajor_val_two]
    show p.val * B + q.val = (0 * A + p.val) * B + q.val
    rw [Nat.zero_mul, Nat.zero_add]
  refine congrArg₂ (· + · : EReal → EReal → EReal) ?_ rfl
  rw [e2, hc]
  refine congrArg₂ (· + · : EReal → EReal → EReal) ?_ rfl
  rw [e1, hc]
  refine congrArg₂ (· + · : EReal → EReal → EReal) ?_ rfl
  rw [e0, hc]

/-- The host's product that contracts the batch and the position of both operands, read at (r, c). -/
theorem dot_rows_apply {M N : ℕ} {φ₁ φ₂ : FTy} (prec : Option ContractPrecision) (sched : HostSchedule)
    (wf : DotDims.WF ⟨3, ![2, 2048, M]⟩ ⟨3, ![2, 2048, N]⟩ ⟨2, ![M, N]⟩ [0, 1] [0, 1] [2] [2] [] [])
    (lhs : FVec Ideal ⟨3, ![2, 2048, M]⟩ φ₁) (rhs : FVec Ideal ⟨3, ![2, 2048, N]⟩ φ₂) (r : Fin M) (c : Fin N) :
    FloatOps.dotGeneral (⟨[0, 1], [0, 1], [2], [2], [], [], wf⟩ : DotDims ⟨3, ![2, 2048, M]⟩ ⟨3, ![2, 2048, N]⟩ ⟨2, ![M, N]⟩) prec sched lhs rhs (ix2 r c)
      = ∑ b : Fin 2, ∑ s : Fin 2048, (lhs (ix3 b s r) * rhs (ix3 b s c) : EReal) := by
  rw [Ideal.dotGeneral_apply]
  refine (sum_contr2 _ 2 2048 rfl rfl rfl _).trans ?_
  refine Finset.sum_congr rfl fun b _ => Finset.sum_congr rfl fun s _ => ?_
  have h0 := contrEquiv2_symm_val0 (⟨[0, 1], [0, 1], [2], [2], [], [], wf⟩ : DotDims ⟨3, ![2, 2048, M]⟩ ⟨3, ![2, 2048, N]⟩ ⟨2, ![M, N]⟩) 2 2048 rfl rfl rfl (b, s)
  have h1 := contrEquiv2_symm_val1 (⟨[0, 1], [0, 1], [2], [2], [], [], wf⟩ : DotDims ⟨3, ![2, 2048, M]⟩ ⟨3, ![2, 2048, N]⟩ ⟨2, ![M, N]⟩) 2 2048 rfl rfl rfl (b, s)
  congr 1
  · refine congrArg lhs (funext fun a => Fin.ext ?_)
    match a with
    | ⟨0, _⟩ => exact h0
    | ⟨1, _⟩ => exact h1
    | ⟨2, _⟩ => rfl
  · refine congrArg rhs (funext fun a => Fin.ext ?_)
    match a with
    | ⟨0, _⟩ => exact h0
    | ⟨1, _⟩ => exact h1
    | ⟨2, _⟩ => rfl

/-- That product's entry is the gradient's. -/
theorem dot_rows_grad {M N : ℕ} (prec : Option ContractPrecision) (sched : HostSchedule)
    (wf : DotDims.WF ⟨3, ![2, 2048, M]⟩ ⟨3, ![2, 2048, N]⟩ ⟨2, ![M, N]⟩ [0, 1] [0, 1] [2] [2] [] [])
    (lhs : FVec Ideal ⟨3, ![2, 2048, M]⟩ .f32) (rhs : FVec Ideal ⟨3, ![2, 2048, N]⟩ .f32) (r : Fin M) (c : Fin N) :
    FloatOps.dotGeneral (⟨[0, 1], [0, 1], [2], [2], [], [], wf⟩ : DotDims ⟨3, ![2, 2048, M]⟩ ⟨3, ![2, 2048, N]⟩ ⟨2, ![M, N]⟩) prec sched lhs rhs (ix2 r c)
      = gradAt lhs rhs r c :=
  (dot_rows_apply prec sched wf lhs rhs r c).trans (sum_rows fun b s => (lhs (ix3 b s r) * rhs (ix3 b s c) : EReal)).symm

end Cert.GradSum
-- ==== Proof.Product.lean ====
module

public import Idealize.ShloMosaic.PureOps.Ideal.Laws
public import Idealize.ShloMosaic.Lib.ValueIdxCore
public import Idealize.ShloMosaic.Lib.MatmulPlain
public import Idealize.ShloMosaic.Lib.TwoAxisContraction
public import Idealize.ShloMosaic.Lib.Pipeline.ValueKit
public import proofs.«01_k».proof.Proof.GradSum

@[expose] public section

namespace Cert.Product

open Idealize.ShloMosaic hiding ix2 ix3
open Idealize.ShloMosaic.ValueIdx
open Cert.GradSum
open scoped BigOperators

/-! # Products of the 4096 rows with a weight

What the calls that multiply the rows by a weight have in common: the entry of the result, the place of a block's entry
in the whole array, the body's product of two blocks and the host's product. -/

/-- Every place of a matrix is a row and a column. -/
theorem exists_ix2 {A B : ℕ} (y : Shape.Idx ⟨2, ![A, B]⟩) : ∃ (r : Fin A) (j : Fin B), y = ix2 r j :=
  ⟨y 0, y 1, funext fun a => match a with | ⟨0, _⟩ => rfl | ⟨1, _⟩ => rfl⟩

/-- Every place of a stack of one layer is a row and a column of the layer. -/
theorem exists_ix3 {A B : ℕ} (y : Shape.Idx ⟨3, ![1, A, B]⟩) : ∃ (r : Fin A) (j : Fin B), y = ix3 0 r j :=
  ⟨y 1, y 2, funext fun a => match a with | ⟨0, _⟩ => Subsingleton.elim (α := Fin 1) _ _ | ⟨1, _⟩ => rfl | ⟨2, _⟩ => rfl⟩

/-- Entry `(r, k)` of block `(i, j)` in the whole matrix. -/
theorem at2 {A B : ℕ} (a b r k : ℕ) {i j : ℕ} {ix : Fin 2 → ℕ} (e : ix = ![i, j]) {y : Shape.Idx ⟨2, ![A, B]⟩} {p : Fin A} {q : Fin B}
    (h0 : (y 0).val = ix 0 * a + 1 * r) (h1 : (y 1).val = ix 1 * b + 1 * k) (hp : i * a + r = p.val) (hq : j * b + k = q.val) : y = ix2 p q := by
  subst e
  refine funext fun x => Fin.ext ?_
  match x with
  | ⟨0, _⟩ => exact (h0.trans (by rw [Nat.one_mul]; rfl)).trans hp
  | ⟨1, _⟩ => exact (h1.trans (by rw [Nat.one_mul]; rfl)).trans hq

/-- Entry `(r, k)` of block `(i, j)` in the one layer of a stack. -/
theorem at3 {A B : ℕ} (a b r k : ℕ) {i j : ℕ} {ix : Fin 3 → ℕ} (e : ix = ![0, i, j]) {y : Shape.Idx ⟨3, ![1, A, B]⟩} {p : Fin A} {q : Fin B}
    (h0 : (y 1).val = ix 1 * a + 1 * r) (h1 : (y 2).val = ix 2 * b + 1 * k) (hp : i * a + r = p.val) (hq : j * b + k = q.val) : y = ix3 0 p q := by
  subst e
  refine funext fun x => Fin.ext ?_
  match x with
  | ⟨0, _⟩ => exact congrArg Fin.val (Subsingleton.elim (α := Fin 1) _ _)
  | ⟨1, _⟩ => exact (h0.trans (by rw [Nat.one_mul]; rfl)).trans hp
  | ⟨2, _⟩ => exact (h1.trans (by rw [Nat.one_mul]; rfl)).trans hq

/-- The product of row `r` of the two sequences with a column `w` of a weight. -/
noncomputable def prodAt {K : ℕ} (x : Vec Ideal ⟨3, ![2, 2048, K]⟩ .f32) (w : Fin K → EReal) (r : Fin 4096) : EReal :=
  ∑ k : Fin K, x (rowIx r k) * w k

/-- The body's product of a block of rows with a block of a weight, at an entry whose factors are known. -/
theorem mul_of {M K N : ℕ} {φ₁ φ₂ : FTy} (f g : Fin K → EReal) (x0 : FVec Ideal ⟨2, ![M, K]⟩ φ₁) (x1 : FVec Ideal ⟨3, ![1, K, N]⟩ φ₂)
    (h1 : Shape.ShapeCasts ⟨3, ![1, K, N]⟩ ⟨2, ![K, N]⟩)
    (wf : DotDims.WF ⟨2, ![M, K]⟩ ⟨2, ![K, N]⟩ ⟨2, ![M, N]⟩ [1] [0] [0] [1] [] []) (r : Fin M) (j : Fin N)
    (hf : ∀ k, x0 (ix2 r k) = f k) (hg : ∀ k, x1 (ix3 0 k j) = g k) :
    FloatOps.matmul (⟨[1], [0], [0], [1], [], [], wf⟩ : DotDims ⟨2, ![M, K]⟩ ⟨2, ![K, N]⟩ ⟨2, ![M, N]⟩) none
      x0 (shapeCast ⟨2, ![K, N]⟩ x1 h1) (constant ⟨2, ![M, N]⟩ .f32 0x00000000#32 : FVec Ideal ⟨2, ![M, N]⟩ .f32) (ix2 r j)
      = ∑ k : Fin K, (f k * g k : EReal) := by
  refine (Ideal.matmul_plain_apply (M := M) (K := K) (N := N) none _ _ _ r j).trans ?_
  rw [show (constant ⟨2, ![M, N]⟩ .f32 0x00000000#32 : FVec Ideal ⟨2, ![M, N]⟩ .f32) (ix2 r j) = 0 from Ideal.ofBits_zero_f32, zero_add]
  exact Finset.sum_congr rfl fun k _ => congrArg₂ (· * · : EReal → EReal → EReal)
    (hf k) ((cast_layer x1 _ k j).trans (hg k))

/-- The same with the weight's block transposed. -/
theorem mulT_of {M K N : ℕ} {φ₁ φ₂ : FTy} (f g : Fin K → EReal) (x0 : FVec Ideal ⟨2, ![M, K]⟩ φ₁) (x1 : FVec Ideal ⟨3, ![1, N, K]⟩ φ₂)
    (h1 : Shape.ShapeCasts ⟨3, ![1, N, K]⟩ ⟨2, ![N, K]⟩)
    (wf : DotDims.WF ⟨2, ![M, K]⟩ ⟨2, ![N, K]⟩ ⟨2, ![M, N]⟩ [1] [1] [0] [0] [] []) (r : Fin M) (j : Fin N)
    (hf : ∀ k, x0 (ix2 r k) = f k) (hg : ∀ k, x1 (ix3 0 j k) = g k) :
    FloatOps.matmul (⟨[1], [1], [0], [0], [], [], wf⟩ : DotDims ⟨2, ![M, K]⟩ ⟨2, ![N, K]⟩ ⟨2, ![M, N]⟩) none
      x0 (shapeCast ⟨2, ![N, K]⟩ x1 h1) (constant ⟨2, ![M, N]⟩ .f32 0x00000000#32 : FVec Ideal ⟨2, ![M, N]⟩ .f32) (ix2 r j)
      = ∑ k : Fin K, (f k * g k : EReal) := by
  refine (Ideal.matmul_transposedRhs_apply (M := M) (K := K) (N := N) none _ _ _ r j).trans ?_
  rw [show (constant ⟨2, ![M, N]⟩ .f32 0x00000000#32 : FVec Ideal ⟨2, ![M, N]⟩ .f32) (ix2 r j) = 0 from Ideal.ofBits_zero_f32, zero_add]
  exact Finset.sum_congr rfl fun k _ => congrArg₂ (· * · : EReal → EReal → EReal)
    (hf k) ((cast_layer x1 _ j k).trans (hg k))

/-- The body's product where the block holds whole rows: the entry of the whole product. -/
theorem mul_rows {M K N : ℕ} {φ₁ φ₂ : FTy} (x : Vec Ideal ⟨3, ![2, 2048, K]⟩ .f32) (w : Fin K → EReal) (P : Fin 4096)
    (x0 : FVec Ideal ⟨2, ![M, K]⟩ φ₁) (x1 : FVec Ideal ⟨3, ![1, K, N]⟩ φ₂)
    (h1 : Shape.ShapeCasts ⟨3, ![1, K, N]⟩ ⟨2, ![K, N]⟩)
    (wf : DotDims.WF ⟨2, ![M, K]⟩ ⟨2, ![K, N]⟩ ⟨2, ![M, N]⟩ [1] [0] [0] [1] [] []) (r : Fin M) (j : Fin N)
    (hf : ∀ k, x0 (ix2 r k) = x (rowIx P k)) (hg : ∀ k, x1 (ix3 0 k j) = w k) :
    FloatOps.matmul (⟨[1], [0], [0], [1], [], [], wf⟩ : DotDims ⟨2, ![M, K]⟩ ⟨2, ![K, N]⟩ ⟨2, ![M, N]⟩) none
      x0 (shapeCast ⟨2, ![K, N]⟩ x1 h1) (constant ⟨2, ![M, N]⟩ .f32 0x00000000#32 : FVec Ideal ⟨2, ![M, N]⟩ .f32) (ix2 r j)
      = prodAt x w P :=
  mul_of (fun k => x (rowIx P k)) w x0 x1 h1 wf r j hf hg

/-- The same with the weight's block transposed. -/
theorem mulT_rows {M K N : ℕ} {φ₁ φ₂ : FTy} (x : Vec Ideal ⟨3, ![2, 2048, K]⟩ .f32) (w : Fin K → EReal) (P : Fin 4096)
    (x0 : FVec Ideal ⟨2, ![M, K]⟩ φ₁) (x1 : FVec Ideal ⟨3, ![1, N, K]⟩ φ₂)
    (h1 : Shape.ShapeCasts ⟨3, ![1, N, K]⟩ ⟨2, ![N, K]⟩)
    (wf : DotDims.WF ⟨2, ![M, K]⟩ ⟨2, ![N, K]⟩ ⟨2, ![M, N]⟩ [1] [1] [0] [0] [] []) (r : Fin M) (j : Fin N)
    (hf : ∀ k, x0 (ix2 r k) = x (rowIx P k)) (hg : ∀ k, x1 (ix3 0 j k) = w k) :
    FloatOps.matmul (⟨[1], [1], [0], [0], [], [], wf⟩ : DotDims ⟨2, ![M, K]⟩ ⟨2, ![N, K]⟩ ⟨2, ![M, N]⟩) none
      x0 (shapeCast ⟨2, ![N, K]⟩ x1 h1) (constant ⟨2, ![M, N]⟩ .f32 0x00000000#32 : FVec Ideal ⟨2, ![M, N]⟩ .f32) (ix2 r j)
      = prodAt x w P :=
  mulT_of (fun k => x (rowIx P k)) w x0 x1 h1 wf r j hf hg

/-- What half `b` of the contracted dimension adds to an entry of the product. -/
noncomputable def halfAt {K : ℕ} (H : ℕ) (hK : K = H + H) (x : Vec Ideal ⟨3, ![2, 2048, K]⟩ .f32) (w : Fin K → EReal) (b : Fin 2) (P : Fin 4096) : EReal :=
  ∑ k : Fin H, x (rowIx P ⟨H * b.val + k.val, by have := k.isLt; obtain ⟨b, hb⟩ := b; interval_cases b <;> dsimp <;> omega⟩)
    * w ⟨H * b.val + k.val, by have := k.isLt; obtain ⟨b, hb⟩ := b; interval_cases b <;> dsimp <;> omega⟩

theorem prodAt_halves {K H : ℕ} (hK : K = H + H) (x : Vec Ideal ⟨3, ![2, 2048, K]⟩ .f32) (w : Fin K → EReal) (P : Fin 4096) :
    prodAt x w P = halfAt H hK x w 0 P + halfAt H hK x w 1 P := by
  subst hK
  refine (Fin.sum_univ_add (a := H) (b := H) fun k => (x (rowIx P k) * w k : EReal)).trans ?_
  refine congrArg₂ (· + · : EReal → EReal → EReal) ?_ ?_
  · refine Finset.sum_congr rfl fun k _ => ?_
    have e : (Fin.castAdd H k : Fin (H + H)) = ⟨H * 0 + k.val, by omega⟩ := Fin.ext (by show k.val = H * 0 + k.val; omega)
    rw [e]; rfl
  · refine Finset.sum_congr rfl fun k _ => ?_
    have e : (Fin.natAdd H k : Fin (H + H)) = ⟨H * 1 + k.val, by omega⟩ := Fin.ext (by show H + k.val = H * 1 + k.val; omega)
    rw [e]; rfl

/-- A sum carried over the two halves: the first step stores its product in the scratch, the second adds its own. -/
theorem of_halves {K A B H : ℕ} (hK : K = H + H) (x : Vec Ideal ⟨3, ![2, 2048, K]⟩ .f32) (w : Fin K → EReal) (P : Fin 4096)
    (X : Fin 2 → FVec Ideal ⟨2, ![A, B]⟩ .f32) {s y : FVec Ideal ⟨2, ![A, B]⟩ .f32} (h2 : Shape.ShapeCasts ⟨2, ![A, B]⟩ ⟨2, ![A, B]⟩)
    (e0 : s = shapeCast ⟨2, ![A, B]⟩ (X 0) h2) (e1 : y = addf s (X 1)) (r : Fin A) (j : Fin B)
    (hx : ∀ b, X b (ix2 r j) = halfAt H hK x w b P) : y (ix2 r j) = prodAt x w P := by
  rw [e1, prodAt_halves hK, ← hx, ← hx]
  refine congrArg₂ (· + · : EReal → EReal → EReal) ?_ rfl
  rw [e0]
  exact shapeCast_apply _ _ _ _ rfl

/-- The same with a matrix `z` added to the sum at the end. -/
theorem of_halves_add {K A B H : ℕ} (hK : K = H + H) (x : Vec Ideal ⟨3, ![2, 2048, K]⟩ .f32) (w : Fin K → EReal) (P : Fin 4096)
    (X : Fin 2 → FVec Ideal ⟨2, ![A, B]⟩ .f32) (z : FVec Ideal ⟨2, ![A, B]⟩ .f32) {s y : FVec Ideal ⟨2, ![A, B]⟩ .f32}
    (h2 : Shape.ShapeCasts ⟨2, ![A, B]⟩ ⟨2, ![A, B]⟩) (e0 : s = shapeCast ⟨2, ![A, B]⟩ (X 0) h2) (e1 : y = addf (addf s (X 1)) z) (r : Fin A) (j : Fin B)
    (hx : ∀ b, X b (ix2 r j) = halfAt H hK x w b P) : y (ix2 r j) = z (ix2 r j) + prodAt x w P := by
  rw [e1]
  exact (congrArg (· + z (ix2 r j) : EReal → EReal) (of_halves hK x w P X h2 e0 rfl r j hx)).trans (add_comm (G := EReal) _ _)

/-- The body's product of half `b`. -/
theorem mul_half {M K N H : ℕ} {φ₁ φ₂ : FTy} (hK : K = H + H) (x : Vec Ideal ⟨3, ![2, 2048, K]⟩ .f32) (w : Fin K → EReal) (b : Fin 2) (P : Fin 4096)
    (x0 : FVec Ideal ⟨2, ![M, H]⟩ φ₁) (x1 : FVec Ideal ⟨3, ![1, H, N]⟩ φ₂)
    (h1 : Shape.ShapeCasts ⟨3, ![1, H, N]⟩ ⟨2, ![H, N]⟩)
    (wf : DotDims.WF ⟨2, ![M, H]⟩ ⟨2, ![H, N]⟩ ⟨2, ![M, N]⟩ [1] [0] [0] [1] [] []) (r : Fin M) (j : Fin N)
    (hf : ∀ (k : Fin H) (q : Fin K), q.val = H * b.val + k.val → x0 (ix2 r k) = x (rowIx P q))
    (hg : ∀ (k : Fin H) (q : Fin K), q.val = H * b.val + k.val → x1 (ix3 0 k j) = w q) :
    FloatOps.matmul (⟨[1], [0], [0], [1], [], [], wf⟩ : DotDims ⟨2, ![M, H]⟩ ⟨2, ![H, N]⟩ ⟨2, ![M, N]⟩) none
      x0 (shapeCast ⟨2, ![H, N]⟩ x1 h1) (constant ⟨2, ![M, N]⟩ .f32 0x00000000#32 : FVec Ideal ⟨2, ![M, N]⟩ .f32) (ix2 r j)
      = halfAt H hK x w b P :=
  mul_of _ _ x0 x1 h1 wf r j (fun k => hf k _ rfl) fun k => hg k _ rfl

/-- The host's product of the two sequences with a weight, laid out as 4096 rows. -/
theorem host_apply {K N : ℕ} (prec : Option ContractPrecision) (sched : HostSchedule)
    (wf : DotDims.WF ⟨3, ![2, 2048, K]⟩ ⟨2, ![K, N]⟩ ⟨3, ![2, 2048, N]⟩ [2] [0] [0, 1] [1] [] [])
    (x : FVec Ideal ⟨3, ![2, 2048, K]⟩ .f32) (w : FVec Ideal ⟨2, ![K, N]⟩ .f32) (h : Shape.ShapeCasts ⟨3, ![2, 2048, N]⟩ ⟨2, ![4096, N]⟩) (r : Fin 4096) (j : Fin N) :
    shapeCast ⟨2, ![4096, N]⟩ (FloatOps.dotGeneral (⟨[2], [0], [0, 1], [1], [], [], wf⟩ : DotDims ⟨3, ![2, 2048, K]⟩ ⟨2, ![K, N]⟩ ⟨3, ![2, 2048, N]⟩) prec sched x w) h (ix2 r j)
      = prodAt x (fun k => w (ix2 k j)) r := by
  rw [rows_cast, Ideal.dotGeneral_apply, ← Equiv.sum_comp (contrEquiv1 _ K rfl rfl).symm]
  refine Finset.sum_congr rfl fun k _ => ?_
  have hk := contrEquiv1_symm_val (⟨[2], [0], [0, 1], [1], [], [], wf⟩ : DotDims ⟨3, ![2, 2048, K]⟩ ⟨2, ![K, N]⟩ ⟨3, ![2, 2048, N]⟩) K rfl rfl k
  congr 1
  · refine congrArg x (funext fun a => Fin.ext ?_)
    match a with
    | ⟨0, _⟩ => rfl
    | ⟨1, _⟩ => rfl
    | ⟨2, _⟩ => exact hk
  · refine congrArg w (funext fun a => Fin.ext ?_)
    match a with
    | ⟨0, _⟩ => exact hk
    | ⟨1, _⟩ => rfl

/-- The same with the weight's columns contracted. -/
theorem hostT_apply {K N : ℕ} (prec : Option ContractPrecision) (sched : HostSchedule)
    (wf : DotDims.WF ⟨3, ![2, 2048, K]⟩ ⟨2, ![N, K]⟩ ⟨3, ![2, 2048, N]⟩ [2] [1] [0, 1] [0] [] [])
    (x : FVec Ideal ⟨3, ![2, 2048, K]⟩ .f32) (w : FVec Ideal ⟨2, ![N, K]⟩ .f32) (h : Shape.ShapeCasts ⟨3, ![2, 2048, N]⟩ ⟨2, ![4096, N]⟩) (r : Fin 4096) (j : Fin N) :
    shapeCast ⟨2, ![4096, N]⟩ (FloatOps.dotGeneral (⟨[2], [1], [0, 1], [0], [], [], wf⟩ : DotDims ⟨3, ![2, 2048, K]⟩ ⟨2, ![N, K]⟩ ⟨3, ![2, 2048, N]⟩) prec sched x w) h (ix2 r j)
      = prodAt x (fun k => w (ix2 j k)) r := by
  rw [rows_cast, Ideal.dotGeneral_apply, ← Equiv.sum_comp (contrEquiv1 _ K rfl rfl).symm]
  refine Finset.sum_congr rfl fun k _ => ?_
  have hk := contrEquiv1_symm_val (⟨[2], [1], [0, 1], [0], [], [], wf⟩ : DotDims ⟨3, ![2, 2048, K]⟩ ⟨2, ![N, K]⟩ ⟨3, ![2, 2048, N]⟩) K rfl rfl k
  congr 1
  · refine congrArg x (funext fun a => Fin.ext ?_)
    match a with
    | ⟨0, _⟩ => rfl
    | ⟨1, _⟩ => rfl
    | ⟨2, _⟩ => exact hk
  · refine congrArg w (funext fun a => Fin.ext ?_)
    match a with
    | ⟨0, _⟩ => rfl
    | ⟨1, _⟩ => exact hk

end Cert.Product
-- ==== Proof.FfnDownB.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Product
public import Idealize.ShloMosaic.Lib.Quiescent
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic hiding ix2 ix3
open Idealize.ShloMosaic.TcCoe Idealize.ShloMosaic.ValueIdx Idealize.ShloMosaic.Tactic
open Idealize.SL.Sem
open Cert.GradSum Cert.Product

/-! # The activation's gradient: `dy` times the transposed down projection -/

/-- The whole result: row `r = 2048 b + s` of the two sequences times each row of the weight. -/
def dact (dy : Vec Ideal S2x2048x1024 .f32) (w : Vec Ideal S2816x1024 .f32) : Vec Ideal S4096x2816 .f32 := fun i =>
  prodAt dy (fun k => w (ix2 (i 1) k)) (i 0)

variable (m : (ℓ : Loc nD τ sig) → Buf (Elt Ideal) ℓ) (c : Dev nD)

abbrev wDown : Vec Ideal S2816x1024 .f32 := m ((c.tc : Thread nD τ).loc main_arg1)
abbrev dy : Vec Ideal S2x2048x1024 .f32 := m ((c.tc : Thread nD τ).loc main_arg2)

/-- The rows the first window stages. -/
theorem V_rows (r : Fin 4096) (k : Fin 1024) : (V m c main_v2 : Vec Ideal S4096x1024 .f32) (ix2 r k)
    = dy m c (rowIx r k) := by
  have e : (V m c main_v2 : Vec Ideal S4096x1024 .f32) = shapeCast S4096x1024 (dy m c) shapeCasts_S2x2048x1024_S4096x1024 := by
    entry_read
    rfl
  exact (congrFun e _).trans (rows_cast _ _ _ _)

/-- The weight the second window stages, at its one layer. -/
theorem V_weight (f : Fin 2816) (k : Fin 1024) : (V m c main_v1 : Vec Ideal S1x2816x1024 .bf16) (ix3 0 f k) = wDown m c (ix2 f k) := by
  have e : (V m c main_v1 : Vec Ideal S1x2816x1024 .bf16)
      = (broadcastInDim S1x2816x1024 ![1, 2] bcast_S2816x1024_S1x2816x1024_1_2 (wDown m c) : FVec Ideal S1x2816x1024 .f32) := by
    entry_read
    rfl
  exact (congrFun e _).trans (layer_apply _ _ _ _)

theorem index0 : ∀ t : Fin cfg0.N, win0_0.index t = ![t.val / 2, 0] := by decide +kernel
theorem index1 : ∀ t : Fin cfg0.N, win0_1.index t = ![0, t.val % 2, 0] := by decide +kernel
theorem index2 : ∀ t : Fin cfg0.N, win0_2.index t = ![t.val / 2, t.val % 2] := by decide +kernel

theorem final : (dats m 0 c).arrAt 2 cfg0.N = dact (dy m c) (wDown m c) := by
  refine (dats m 0 c).arrAt_eq_of_covers 2 _ (by decide +kernel) fun t hf y => ?_
  blk_simp
  rw [after0_2]
  frame_out
  have ht : t.val < 8 := lt_of_lt_of_eq t.isLt N_0
  obtain ⟨r, f, rfl⟩ := exists_ix2 y
  rw [show ((View.whole main_v3).slice (win0_2.rect t)).emb (ix2 r f : S1024x1408.Idx)
      = (ix2 ⟨t.val / 2 * 1024 + r.val, by omega⟩ ⟨t.val % 2 * 1408 + f.val, by omega⟩ : S4096x2816.Idx) from at2 1024 1408 r.val f.val (index2 t) rfl rfl rfl rfl]
  unfold k0_pay1
  refine mulT_rows (dy m c) _ _ _ _ _ _ r f (fun k => ?_) fun k => ?_
  · refine (shapeCast_apply (iblk m c 0 t : Vec Ideal S1024x1024 .f32) _ (ix2 r k) (ix2 r k) rfl).trans ?_
    exact (congrArg (V m c main_v2 : Vec Ideal S4096x1024 .f32) (at2 1024 1024 r.val k.val (index0 t) rfl rfl rfl (by omega))).trans (V_rows m c _ k)
  · exact (congrArg (V m c main_v1 : Vec Ideal S1x2816x1024 .bf16) (at3 1408 1024 f.val k.val (index1 t) rfl rfl rfl (by omega))).trans (V_weight m c _ k)

end Cert.Kernel2Ideal.Ffn

namespace Cert.FfnDownB

open Cert.Kernel2Ideal.Ffn
open Cert.Reference2Ideal Cert.Reference2Ideal.Read
open Idealize.ShloMosaic hiding ix2 ix3
open Idealize.ShloMosaic.TcCoe Idealize.ShloMosaic.ValueIdx
open Idealize.SL.Sem
open Cert.GradSum Cert.Product

/-! # The reference's product is the same sum, and the claims -/

theorem reference_apply (w : Vec Ideal S2816x1024 .f32) (dy : Vec Ideal S2x2048x1024 .f32) :
    val_main_v2 (F := Ideal) w dy = dact dy w := by
  funext i
  obtain ⟨r, f, rfl⟩ := exists_ix2 i
  exact hostT_apply none _ _ dy w _ r f

theorem quiescent_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨_, Cert.Kernel2Ideal.Value.run_blocks m ρ, ?_⟩
  refine (θ_run Cert.Reference2Ideal.defs _ _).mono (fun _ h c => ⟨?_, (h c).2⟩) (Cert.Reference2Ideal.Value.run (F := Ideal) m' ρ')
  rw [(h c).1]
  simp only [hagree c]
  exact ((val_main_v2_eq _ _).trans (reference_apply _ _)).trans (final m c).symm

end Cert.FfnDownB

end
-- ==== Proof.FfnUpB0.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel3Ideal.Ffn

open Cert.Kernel3Ideal Cert.Kernel3Ideal.Gen
open Idealize.ShloMosaic hiding ix2 ix3
open Idealize.ShloMosaic.TcCoe Idealize.ShloMosaic.ValueIdx Idealize.ShloMosaic.Tactic
open Idealize.SL.Sem
open Cert.GradSum Cert.Product

/-! # The first half of the input's gradient: `dug` times the transposed first half of the up projection -/

/-- The whole result: row `r = 2048 b + s` of the two sequences times each row of the weight. -/
def dhFirst (x : Vec Ideal S2x2048x2816 .f32) (w : Vec Ideal S1024x5632 .f32) : Vec Ideal S4096x1024 .f32 := fun i =>
  prodAt x (fun k => w (ix2 (i 1) ⟨k.val, by omega⟩)) (i 0)

variable (m : (ℓ : Loc nD τ sig) → Buf (Elt Ideal) ℓ) (c : Dev nD)

abbrev xArg : Vec Ideal S2x2048x2816 .f32 := m ((c.tc : Thread nD τ).loc main_arg2)
abbrev wArg : Vec Ideal S1024x5632 .f32 := m ((c.tc : Thread nD τ).loc main_arg1)

/-- The rows the first window stages. -/
theorem V_rows (r : Fin 4096) (k : Fin 2816) : (V m c main_v3 : Vec Ideal S4096x2816 .f32) (ix2 r k)
    = xArg m c (rowIx r k) := by
  have e : (V m c main_v3 : Vec Ideal S4096x2816 .f32) = shapeCast S4096x2816 (xArg m c) shapeCasts_S2x2048x2816_S4096x2816 := by
    entry_read
    rfl
  exact (congrFun e _).trans (rows_cast _ _ _ _)

/-- The weight the second window stages, at its one layer. -/
theorem V_weight (p : Fin 5632) (q : Fin 1024) : (V m c main_v2 : Vec Ideal S1x5632x1024 .bf16) (ix3 0 p q) = wArg m c (ix2 q p) := by
  have e : (V m c main_v2 : Vec Ideal S1x5632x1024 .bf16)
      = (transpose S1x5632x1024 [0, 2, 1] (broadcastInDim S1x1024x5632 ![1, 2] bcast_S1024x5632_S1x1024x5632_1_2 (wArg m c) : FVec Ideal S1x1024x5632 .f32) transposes_S1x1024x5632_S1x5632x1024_0_2_1 : FVec Ideal S1x5632x1024 .f32) := by
    entry_read
    rfl
  exact (congrFun e _).trans (layer_transposed_apply _ _ _ _ _)

theorem index0 : ∀ t : Fin cfg0.N, win0_0.index t = ![t.val / 2, t.val % 2] := by decide +kernel
theorem index1 : ∀ t : Fin cfg0.N, win0_1.index t = ![0, t.val % 2, 0] := by decide +kernel
theorem index2 : ∀ t : Fin cfg0.N, win0_2.index t = ![t.val / 2, 0] := by decide +kernel

/-- One step's product: half `b` of the contracted dimension, at block `i` of the rows. -/
theorem block_apply (t : Fin cfg0.N) (i : Fin 4) (b : Fin 2) (h : t.val = 2 * i.val + b.val) (r : Fin 1024) (j : Fin 1024) :
    k0_pay1 (iblk m c 0 t) (iblk m c 1 t) (ix2 r j)
      = halfAt 1408 rfl (xArg m c) (fun k : Fin 2816 => wArg m c (ix2 j ⟨k.val, by omega⟩)) b ⟨i.val * 1024 + r.val, by omega⟩ := by
  unfold k0_pay1
  refine mul_half (K := 2816) (H := 1408) rfl (xArg m c) _ _ _ _ _ _ _ r j (fun k q hq => ?_) fun k q hq => ?_
  · refine (shapeCast_apply (iblk m c 0 t : Vec Ideal S1024x1408 .f32) _ (ix2 r k) (ix2 r k) rfl).trans ?_
    exact (congrArg (V m c main_v3 : Vec Ideal S4096x2816 .f32) (at2 1024 1408 r.val k.val (index0 t) rfl rfl (by dsimp; omega) (by omega))).trans (V_rows m c _ q)
  · exact (congrArg (V m c main_v2 : Vec Ideal S1x5632x1024 .bf16) (at3 1408 1024 k.val j.val (index1 t) rfl rfl (by dsimp; omega) (by omega))).trans (V_weight m c ⟨q.val, by omega⟩ j)

/-- What an even point leaves in the scratch: its product. -/
theorem scratch_even (t : Fin cfg0.N) (h0 : t.val % 2 = 0) :
    (outsAt0 m c t.val t.isLt).2 = k0_pay2 (iblk m c 0 t) (iblk m c 1 t) := by
  rw [outsAt0_A m c t h0 (by omega)]
  frame_out

/-- What an odd point leaves in the output's staging buffer: the carried sum and its product. -/
theorem output_odd (t : Fin cfg0.N) (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h2]
  frame_out
  try simp only [read_unread_whole]

/-- What the second step of a block of rows writes. -/
theorem last_apply (i : Fin 4) (h : 2 * i.val + 1 < cfg0.N) (r : Fin 1024) (j : Fin 1024) :
    (outsAt0 m c (2 * i.val + 1) h).1 (ix2 r j) = dhFirst (xArg m c) (wArg m c) (ix2 ⟨i.val * 1024 + r.val, by omega⟩ j) := by
  have hb : ∀ b : Fin 2, 2 * i.val + b.val < cfg0.N := fun b => by omega
  have hm : ∀ b : Fin 2, (2 * i.val + b.val) % 2 = b.val := fun b => by omega
  exact of_halves (K := 2816) (H := 1408) rfl (xArg m c) (fun k => wArg m c (ix2 j ⟨k.val, by omega⟩)) _ (fun b => k0_pay1 (iblk m c 0 ⟨_, hb b⟩) (iblk m c 1 ⟨_, hb b⟩)) shapeCasts_S1024x1024_S1024x1024
    (scratch_even m c ⟨_, hb 0⟩ (hm 0)) (output_odd m c ⟨_, hb 1⟩ (hm 1)) r j fun b => block_apply m c ⟨_, hb b⟩ i b rfl r j

theorem final : (dats m 0 c).arrAt 2 cfg0.N = dhFirst (xArg m c) (wArg m c) := by
  refine (dats m 0 c).arrAt_eq_of_covers 2 _ (by decide +kernel) fun t hf y => ?_
  blk_simp
  rw [after0_2]
  have h2 : t.val % 2 = 1 := (flush0_2 t).mp hf
  have ht : t.val < 8 := lt_of_lt_of_eq t.isLt N_0
  obtain ⟨r, j, rfl⟩ := exists_ix2 y
  obtain ⟨i, hi⟩ : ∃ i : Fin 4, t.val = 2 * i.val + 1 := ⟨⟨t.val / 2, by omega⟩, by show t.val = 2 * (t.val / 2) + 1; omega⟩
  rw [show ((View.whole main_v4).slice (win0_2.rect t)).emb (ix2 r j : S1024x1024.Idx)
      = (ix2 ⟨i.val * 1024 + r.val, by omega⟩ j : S4096x1024.Idx) from at2 1024 1024 r.val j.val (index2 t) rfl rfl (by dsimp; omega) (by omega)]
  obtain ⟨n, hn⟩ := t
  obtain rfl : n = 2 * i.val + 1 := hi
  exact last_apply m c i hn r j

end Cert.Kernel3Ideal.Ffn

namespace Cert.FfnUpB0

open Cert.Kernel3Ideal.Ffn
open Cert.Reference3Ideal Cert.Reference3Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (w : Vec Ideal S1024x5632 .f32) (x : Vec Ideal S2x2048x2816 .f32) :
    val_main_v3 (F := Ideal) w x = dhFirst x w := by
  funext i
  obtain ⟨r, j, rfl⟩ := exists_ix2 i
  refine (hostT_apply none _ _ x (val_main_v0 (F := Ideal) w) Cert.Reference3Ideal.Gen.shapeCasts_S2x2048x1024_S4096x1024 r j).trans (congrArg (prodAt x · r) (funext fun k => ?_))
  exact (val_main_v0_apply w _).trans (congrArg w (funext fun a => match a with | ⟨0, _⟩ => rfl | ⟨1, _⟩ => rfl))

theorem quiescent_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨_, Cert.Kernel3Ideal.Value.run_blocks m ρ, ?_⟩
  refine (θ_run Cert.Reference3Ideal.defs _ _).mono (fun _ h c => ⟨?_, (h c).2⟩) (Cert.Reference3Ideal.Value.run (F := Ideal) m' ρ')
  rw [(h c).1]
  simp only [hagree c]
  exact ((val_main_v3_eq _ _).trans (reference_apply _ _)).trans (final m c).symm

end Cert.FfnUpB0

end
-- ==== Proof.FfnUpB1.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel4Ideal.Ffn

open Cert.Kernel4Ideal Cert.Kernel4Ideal.Gen
open Idealize.ShloMosaic hiding ix2 ix3
open Idealize.ShloMosaic.TcCoe Idealize.ShloMosaic.ValueIdx Idealize.ShloMosaic.Tactic
open Idealize.SL.Sem
open Cert.GradSum Cert.Product

/-! # The second half of the input's gradient, added to the first -/

/-- The whole result: row `r = 2048 b + s` of the two sequences times each row of the weight, and what is added. -/
def dhSecond (x : Vec Ideal S2x2048x2816 .f32) (w : Vec Ideal S1024x5632 .f32) (h : Vec Ideal S4096x1024 .f32) : Vec Ideal S4096x1024 .f32 := fun i =>
  h i + prodAt x (fun k => w (ix2 (i 1) ⟨2816 + k.val, by omega⟩)) (i 0)

variable (m : (ℓ : Loc nD τ sig) → Buf (Elt Ideal) ℓ) (c : Dev nD)

abbrev xArg : Vec Ideal S2x2048x2816 .f32 := m ((c.tc : Thread nD τ).loc main_arg2)
abbrev wArg : Vec Ideal S1024x5632 .f32 := m ((c.tc : Thread nD τ).loc main_arg1)
abbrev hArg : Vec Ideal S4096x1024 .f32 := m ((c.tc : Thread nD τ).loc main_arg3)

/-- The rows the first window stages. -/
theorem V_rows (r : Fin 4096) (k : Fin 2816) : (V m c main_v3 : Vec Ideal S4096x2816 .f32) (ix2 r k)
    = xArg m c (rowIx r k) := by
  have e : (V m c main_v3 : Vec Ideal S4096x2816 .f32) = shapeCast S4096x2816 (xArg m c) shapeCasts_S2x2048x2816_S4096x2816 := by
    entry_read
    rfl
  exact (congrFun e _).trans (rows_cast _ _ _ _)

/-- The weight the second window stages, at its one layer. -/
theorem V_weight (p : Fin 5632) (q : Fin 1024) : (V m c main_v2 : Vec Ideal S1x5632x1024 .bf16) (ix3 0 p q) = wArg m c (ix2 q p) := by
  have e : (V m c main_v2 : Vec Ideal S1x5632x1024 .bf16)
      = (transpose S1x5632x1024 [0, 2, 1] (broadcastInDim S1x1024x5632 ![1, 2] bcast_S1024x5632_S1x1024x5632_1_2 (wArg m c) : FVec Ideal S1x1024x5632 .f32) transposes_S1x1024x5632_S1x5632x1024_0_2_1 : FVec Ideal S1x5632x1024 .f32) := by
    entry_read
    rfl
  exact (congrFun e _).trans (layer_transposed_apply _ _ _ _ _)

/-- The rows the third window stages: the argument itself. -/
theorem V_stream (r : Fin 4096) (j : Fin 1024) : (V m c main_arg3 : Vec Ideal S4096x1024 .f32) (ix2 r j) = hArg m c (ix2 r j) := by
  have e : (V m c main_arg3 : Vec Ideal S4096x1024 .f32) = hArg m c := by
    entry_read
    try rfl
  rw [e]

theorem index0 : ∀ t : Fin cfg0.N, win0_0.index t = ![t.val / 2, t.val % 2] := by decide +kernel
theorem index1 : ∀ t : Fin cfg0.N, win0_1.index t = ![0, 2 + t.val % 2, 0] := by decide +kernel
theorem index2 : ∀ t : Fin cfg0.N, win0_2.index t = ![t.val / 2, 0] := by decide +kernel
theorem index3 : ∀ t : Fin cfg0.N, win0_3.index t = ![t.val / 2, 0] := by decide +kernel

/-- One step's product: half `b` of the contracted dimension, at block `i` of the rows. -/
theorem block_apply (t : Fin cfg0.N) (i : Fin 4) (b : Fin 2) (h : t.val = 2 * i.val + b.val) (r : Fin 1024) (j : Fin 1024) :
    k0_pay1 (iblk m c 0 t) (iblk m c 1 t) (ix2 r j)
      = halfAt 1408 rfl (xArg m c) (fun k : Fin 2816 => wArg m c (ix2 j ⟨2816 + k.val, by omega⟩)) b ⟨i.val * 1024 + r.val, by omega⟩ := by
  unfold k0_pay1
  refine mul_half (K := 2816) (H := 1408) rfl (xArg m c) _ _ _ _ _ _ _ r j (fun k q hq => ?_) fun k q hq => ?_
  · refine (shapeCast_apply (iblk m c 0 t : Vec Ideal S1024x1408 .f32) _ (ix2 r k) (ix2 r k) rfl).trans ?_
    exact (congrArg (V m c main_v3 : Vec Ideal S4096x2816 .f32) (at2 1024 1408 r.val k.val (index0 t) rfl rfl (by dsimp; omega) (by omega))).trans (V_rows m c _ q)
  · exact (congrArg (V m c main_v2 : Vec Ideal S1x5632x1024 .bf16) (at3 1408 1024 k.val j.val (index1 t) rfl rfl (by dsimp; omega) (by omega))).trans (V_weight m c ⟨2816 + q.val, by omega⟩ j)

/-- What an even point leaves in the scratch: its product. -/
theorem scratch_even (t : Fin cfg0.N) (h0 : t.val % 2 = 0) :
    (outsAt0 m c t.val t.isLt).2 = k0_pay2 (iblk m c 0 t) (iblk m c 1 t) := by
  rw [outsAt0_A m c t h0 (by omega)]
  frame_out

/-- What an odd point leaves in the output's staging buffer: the carried sum and its product. -/
theorem output_odd (t : Fin cfg0.N) (h2 : t.val % 2 = 1) :
    (outsAt0 m c t.val t.isLt).1 = k0_pay4 (iblk m c 0 t) (iblk m c 1 t) (outsAt0 m c (t.val - 1) (Nat.lt_of_le_of_lt (Nat.sub_le _ _) t.isLt)).2 (iblk m c 2 t) := by
  rw [outsAt0_B m c t (by omega) h2]
  frame_out
  try simp only [read_unread_whole]

/-- What the second step of a block of rows writes. -/
theorem last_apply (i : Fin 4) (h : 2 * i.val + 1 < cfg0.N) (r : Fin 1024) (j : Fin 1024) :
    (outsAt0 m c (2 * i.val + 1) h).1 (ix2 r j) = dhSecond (xArg m c) (wArg m c) (hArg m c) (ix2 ⟨i.val * 1024 + r.val, by omega⟩ j) := by
  have hb : ∀ b : Fin 2, 2 * i.val + b.val < cfg0.N := fun b => by omega
  have hm : ∀ b : Fin 2, (2 * i.val + b.val) % 2 = b.val := fun b => by omega
  refine (of_halves_add (K := 2816) (H := 1408) rfl (xArg m c) (fun k => wArg m c (ix2 j ⟨2816 + k.val, by omega⟩)) ⟨i.val * 1024 + r.val, by omega⟩ (fun b => k0_pay1 (iblk m c 0 ⟨_, hb b⟩) (iblk m c 1 ⟨_, hb b⟩))
    (iblk m c 2 ⟨_, h⟩ : Vec Ideal S1024x1024 .f32) shapeCasts_S1024x1024_S1024x1024
    (scratch_even m c ⟨_, hb 0⟩ (hm 0)) (output_odd m c ⟨_, hb 1⟩ (hm 1)) r j fun b => block_apply m c ⟨_, hb b⟩ i b rfl r j).trans ?_
  refine congrArg₂ (· + · : EReal → EReal → EReal) ?_ rfl
  exact (congrArg (V m c main_arg3 : Vec Ideal S4096x1024 .f32) (at2 1024 1024 r.val j.val (index2 ⟨_, h⟩) rfl rfl (by dsimp; omega) (by omega))).trans (V_stream m c _ j)

theorem final : (dats m 0 c).arrAt 3 cfg0.N = dhSecond (xArg m c) (wArg m c) (hArg m c) := by
  refine (dats m 0 c).arrAt_eq_of_covers 3 _ (by decide +kernel) fun t hf y => ?_
  blk_simp
  rw [after0_3]
  have h2 : t.val % 2 = 1 := (flush0_3 t).mp hf
  have ht : t.val < 8 := lt_of_lt_of_eq t.isLt N_0
  obtain ⟨r, j, rfl⟩ := exists_ix2 y
  obtain ⟨i, hi⟩ : ∃ i : Fin 4, t.val = 2 * i.val + 1 := ⟨⟨t.val / 2, by omega⟩, by show t.val = 2 * (t.val / 2) + 1; omega⟩
  rw [show ((View.whole main_v4).slice (win0_3.rect t)).emb (ix2 r j : S1024x1024.Idx)
      = (ix2 ⟨i.val * 1024 + r.val, by omega⟩ j : S4096x1024.Idx) from at2 1024 1024 r.val j.val (index3 t) rfl rfl (by dsimp; omega) (by omega)]
  obtain ⟨n, hn⟩ := t
  obtain rfl : n = 2 * i.val + 1 := hi
  exact last_apply m c i hn r j

end Cert.Kernel4Ideal.Ffn

namespace Cert.FfnUpB1

open Cert.Kernel4Ideal.Ffn
open Cert.Reference4Ideal Cert.Reference4Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (w : Vec Ideal S1024x5632 .f32) (x : Vec Ideal S2x2048x2816 .f32) (h : Vec Ideal S4096x1024 .f32) :
    val_main_v4 (F := Ideal) w x h = dhSecond x w h := by
  funext i
  obtain ⟨r, j, rfl⟩ := exists_ix2 i
  refine congrArg (h (ix2 r j) + · : EReal → EReal) ?_
  refine (hostT_apply none _ _ x (val_main_v0 (F := Ideal) w) Cert.Reference4Ideal.Gen.shapeCasts_S2x2048x1024_S4096x1024 r j).trans (congrArg (prodAt x · r) (funext fun k => ?_))
  exact (val_main_v0_apply w _).trans (congrArg w (funext fun a => match a with | ⟨0, _⟩ => rfl | ⟨1, _⟩ => rfl))

theorem quiescent_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨_, Cert.Kernel4Ideal.Value.run_blocks m ρ, ?_⟩
  refine (θ_run Cert.Reference4Ideal.defs _ _).mono (fun _ h c => ⟨?_, (h c).2⟩) (Cert.Reference4Ideal.Value.run (F := Ideal) m' ρ')
  rw [(h c).1]
  simp only [hagree c]
  exact ((val_main_v4_eq _ _ _).trans (reference_apply _ _ _)).trans (final m c).symm

end Cert.FfnUpB1

end
-- ==== Proof.FfnUp.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Product
public import Idealize.ShloMosaic.Lib.Quiescent
public import Idealize.ShloMosaic.Lib.Pipeline.ValueKit

@[expose] public section

set_option maxRecDepth 16384

noncomputable section

namespace Cert.Kernel5Ideal.Ffn

open Cert.Kernel5Ideal Cert.Kernel5Ideal.Gen
open Idealize.ShloMosaic hiding ix2 ix3
open Idealize.ShloMosaic.TcCoe Idealize.ShloMosaic.ValueIdx Idealize.ShloMosaic.Tactic
open Idealize.SL.Sem
open Cert.GradSum Cert.Product

/-! # The up projection: the normed rows times both halves of the weight -/

/-- The whole result: row `r = 2048 b + s` of the two sequences times each column of the weight. -/
def up (x : Vec Ideal S2x2048x1024 .f32) (w : Vec Ideal S1024x5632 .f32) : Vec Ideal S4096x5632 .f32 := fun i =>
  prodAt x (fun k => w (ix2 k (i 1))) (i 0)

variable (m : (ℓ : Loc nD τ sig) → Buf (Elt Ideal) ℓ) (c : Dev nD)

abbrev xArg : Vec Ideal S2x2048x1024 .f32 := m ((c.tc : Thread nD τ).loc main_arg0)
abbrev wArg : Vec Ideal S1024x5632 .f32 := m ((c.tc : Thread nD τ).loc main_arg1)

/-- The rows the first window stages. -/
theorem V_rows (r : Fin 4096) (k : Fin 1024) : (V m c main_v4 : Vec Ideal S4096x1024 .bf16) (ix2 r k)
    = xArg m c (rowIx r k) := by
  have e : (V m c main_v4 : Vec Ideal S4096x1024 .bf16) = (shapeCast S4096x1024 (xArg m c) shapeCasts_S2x2048x1024_S4096x1024 : FVec Ideal S4096x1024 .f32) := by
    entry_read
    rfl
  exact (congrFun e _).trans (rows_cast _ _ _ _)

/-- The weight the second window stages, at its one layer. -/
theorem V_weight (p : Fin 5632) (q : Fin 1024) : (V m c main_v2 : Vec Ideal S1x5632x1024 .bf16) (ix3 0 p q) = wArg m c (ix2 q p) := by
  have e : (V m c main_v2 : Vec Ideal S1x5632x1024 .bf16)
      = (transpose S1x5632x1024 [0, 2, 1] (broadcastInDim S1x1024x5632 ![1, 2] bcast_S1024x5632_S1x1024x5632_1_2 (wArg m c) : FVec Ideal S1x1024x5632 .f32) transposes_S1x1024x5632_S1x5632x1024_0_2_1 : FVec Ideal S1x5632x1024 .f32) := by
    entry_read
    rfl
  exact (congrFun e _).trans (layer_transposed_apply _ _ _ _ _)

theorem index0 : ∀ t : Fin cfg0.N, win0_0.index t = ![t.val / 4, 0] := by decide +kernel
theorem index1 : ∀ t : Fin cfg0.N, win0_1.index t = ![0, t.val % 4, 0] := by decide +kernel
theorem index2 : ∀ t : Fin cfg0.N, win0_2.index t = ![t.val / 4, t.val % 4] := by decide +kernel

theorem final : (dats m 0 c).arrAt 2 cfg0.N = up (xArg m c) (wArg m c) := by
  refine (dats m 0 c).arrAt_eq_of_covers 2 _ (by decide +kernel) fun t hf y => ?_
  blk_simp
  rw [after0_2]
  frame_out
  have ht : t.val < 16 := lt_of_lt_of_eq t.isLt N_0
  obtain ⟨r, j, rfl⟩ := exists_ix2 y
  rw [show ((View.whole main_v5).slice (win0_2.rect t)).emb (ix2 r j : S1024x1408.Idx)
      = (ix2 ⟨t.val / 4 * 1024 + r.val, by omega⟩ ⟨t.val % 4 * 1408 + j.val, by omega⟩ : S4096x5632.Idx) from at2 1024 1408 r.val j.val (index2 t) rfl rfl rfl rfl]
  unfold k0_pay1
  refine mulT_rows (xArg m c) _ _ _ _ _ _ r j (fun k => ?_) fun k => ?_
  · refine (shapeCast_apply (iblk m c 0 t : Vec Ideal S1024x1024 .bf16) _ (ix2 r k) (ix2 r k) rfl).trans ?_
    exact (congrArg (V m c main_v4 : Vec Ideal S4096x1024 .bf16) (at2 1024 1024 r.val k.val (index0 t) rfl rfl rfl (by omega))).trans (V_rows m c _ k)
  · exact (congrArg (V m c main_v2 : Vec Ideal S1x5632x1024 .bf16) (at3 1408 1024 j.val k.val (index1 t) rfl rfl rfl (by omega))).trans (V_weight m c _ k)

end Cert.Kernel5Ideal.Ffn

namespace Cert.FfnUp

open Cert.Kernel5Ideal.Ffn
open Cert.Reference5Ideal Cert.Reference5Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (x : Vec Ideal S2x2048x1024 .f32) (w : Vec Ideal S1024x5632 .f32) :
    val_main_v1 (F := Ideal) x w = up x w := by
  funext i
  obtain ⟨r, j, rfl⟩ := exists_ix2 i
  exact host_apply none _ _ x w _ r j

theorem quiescent_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨_, Cert.Kernel5Ideal.Value.run_blocks m ρ, ?_⟩
  refine (θ_run Cert.Reference5Ideal.defs _ _).mono (fun _ h c => ⟨?_, (h c).2⟩) (Cert.Reference5Ideal.Value.run (F := Ideal) m' ρ')
  rw [(h c).1]
  simp only [hagree c]
  exact ((val_main_v1_eq _ _).trans (reference_apply _ _)).trans (final m c).symm

end Cert.FfnUp

end
-- ==== Proof.FfnDown.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel6Ideal.Ffn

open Cert.Kernel6Ideal Cert.Kernel6Ideal.Gen
open Idealize.ShloMosaic hiding ix2 ix3
open Idealize.ShloMosaic.TcCoe Idealize.ShloMosaic.ValueIdx Idealize.ShloMosaic.Tactic
open Idealize.SL.Sem
open Cert.GradSum Cert.Product

/-! # The down projection, added to the stream -/

/-- The whole result: row `r = 2048 b + s` of the two sequences times each column of the weight, and what is added. -/
def down (x : Vec Ideal S2x2048x2816 .f32) (w : Vec Ideal S2816x1024 .f32) (h : Vec Ideal S2x2048x1024 .f32) : Vec Ideal S4096x1024 .f32 := fun i =>
  h (rowIx (i 0) (i 1)) + prodAt x (fun k => w (ix2 k (i 1))) (i 0)

variable (m : (ℓ : Loc nD τ sig) → Buf (Elt Ideal) ℓ) (c : Dev nD)

abbrev xArg : Vec Ideal S2x2048x2816 .f32 := m ((c.tc : Thread nD τ).loc main_arg1)
abbrev wArg : Vec Ideal S2816x1024 .f32 := m ((c.tc : Thread nD τ).loc main_arg2)
abbrev hArg : Vec Ideal S2x2048x1024 .f32 := m ((c.tc : Thread nD τ).loc main_arg0)

/-- The rows the first window stages. -/
theorem V_rows (r : Fin 4096) (k : Fin 2816) : (V m c main_v3 : Vec Ideal S4096x2816 .bf16) (ix2 r k)
    = xArg m c (rowIx r k) := by
  have e : (V m c main_v3 : Vec Ideal S4096x2816 .bf16) = (shapeCast S4096x2816 (xArg m c) shapeCasts_S2x2048x2816_S4096x2816 : FVec Ideal S4096x2816 .f32) := by
    entry_read
    rfl
  exact (congrFun e _).trans (rows_cast _ _ _ _)

/-- The weight the second window stages, at its one layer. -/
theorem V_weight (p : Fin 2816) (q : Fin 1024) : (V m c main_v1 : Vec Ideal S1x2816x1024 .bf16) (ix3 0 p q) = wArg m c (ix2 p q) := by
  have e : (V m c main_v1 : Vec Ideal S1x2816x1024 .bf16)
      = (broadcastInDim S1x2816x1024 ![1, 2] bcast_S2816x1024_S1x2816x1024_1_2 (wArg m c) : FVec Ideal S1x2816x1024 .f32) := by
    entry_read
    rfl
  exact (congrFun e _).trans (layer_apply _ _ _ _)

/-- The rows of the stream the third window stages. -/
theorem V_stream (r : Fin 4096) (j : Fin 1024) : (V m c main_v4 : Vec Ideal S4096x1024 .f32) (ix2 r j)
    = hArg m c (rowIx r j) := by
  have e : (V m c main_v4 : Vec Ideal S4096x1024 .f32) = shapeCast S4096x1024 (hArg m c) shapeCasts_S2x2048x1024_S4096x1024 := by
    entry_read
    rfl
  exact (congrFun e _).trans (rows_cast _ _ _ _)

theorem index0 : ∀ t : Fin cfg0.N, win0_0.index t = ![t.val / 2, t.val % 2] := by decide +kernel
theorem index1 : ∀ t : Fin cfg0.N, win0_1.index t = ![0, t.val % 2, 0] := by decide +kernel
theorem index2 : ∀ t : Fin cfg0.N, win0_2.index t = ![t.val / 2, 0] := by decide +kernel
theorem index3 : ∀ t : Fin cfg0.N, win0_3.index t = ![t.val / 2, 0] := by decide +kernel

/-- One step's product: half `b` of the contracted dimension, at block `i` of the rows. -/
theorem block_apply (t : Fin cfg0.N) (i : Fin 4) (b : Fin 2) (h : t.val = 2 * i.val + b.val) (r : Fin 1024) (j : Fin 1024) :
    k0_pay1 (iblk m c 0 t) (iblk m c 1 t) (ix2 r j)
      = halfAt 1408 rfl (xArg m c) (fun k : Fin 2816 => wArg m c (ix2 k j)) b ⟨i.val * 1024 + r.val, by omega⟩ := by
  unfold k0_pay1
  refine mul_half (K := 2816) (H := 1408) rfl (xArg m c) _ _ _ _ _ _ _ r j (fun k q hq => ?_) fun k q hq => ?_
  · refine (shapeCast_apply (iblk m c 0 t : Vec Ideal S1024x1408 .bf16) _ (ix2 r k) (ix2 r k) rfl).trans ?_
    exact (congrArg (V m c main_v3 : Vec Ideal S4096x2816 .bf16) (at2 1024 1408 r.val k.val (index0 t) rfl rfl (by dsimp; omega) (by omega))).trans (V_rows m c _ q)
  · exact (congrArg (V m c main_v1 : Vec Ideal S1x2816x1024 .bf16) (at3 1408 1024 k.val j.val (index1 t) rfl rfl (by omega) (by omega))).trans (V_weight m c q j)

/-- What an even point leaves in the scratch: its product. -/
theorem scratch_even (t : Fin cfg0.N) (h0 : t.val % 2 = 0) :
    (outsAt0 m c t.val t.isLt).2 = k0_pay2 (iblk m c 0 t) (iblk m c 1 t) := by
  rw [outsAt0_A m c t h0 (by omega)]
  frame_out

/-- What an odd point leaves in the output's staging buffer: the carried sum and its product. -/
theorem output_odd (t : Fin cfg0.N) (h2 : t.val % 2 = 1) :
    (outsAt0 m c t.val t.isLt).1 = k0_pay4 (iblk m c 0 t) (iblk m c 1 t) (outsAt0 m c (t.val - 1) (Nat.lt_of_le_of_lt (Nat.sub_le _ _) t.isLt)).2 (iblk m c 2 t) := by
  rw [outsAt0_B m c t (by omega) h2]
  frame_out
  try simp only [read_unread_whole]

/-- What the second step of a block of rows writes. -/
theorem last_apply (i : Fin 4) (h : 2 * i.val + 1 < cfg0.N) (r : Fin 1024) (j : Fin 1024) :
    (outsAt0 m c (2 * i.val + 1) h).1 (ix2 r j) = down (xArg m c) (wArg m c) (hArg m c) (ix2 ⟨i.val * 1024 + r.val, by omega⟩ j) := by
  have hb : ∀ b : Fin 2, 2 * i.val + b.val < cfg0.N := fun b => by omega
  have hm : ∀ b : Fin 2, (2 * i.val + b.val) % 2 = b.val := fun b => by omega
  refine (of_halves_add (K := 2816) (H := 1408) rfl (xArg m c) (fun k => wArg m c (ix2 k j)) ⟨i.val * 1024 + r.val, by omega⟩ (fun b => k0_pay1 (iblk m c 0 ⟨_, hb b⟩) (iblk m c 1 ⟨_, hb b⟩))
    (shapeCast S1024x1024 (iblk m c 2 ⟨_, h⟩ : Vec Ideal S1024x1024 .f32) shapeCasts_S1024x1024_S1024x1024) shapeCasts_S1024x1024_S1024x1024
    (scratch_even m c ⟨_, hb 0⟩ (hm 0)) (output_odd m c ⟨_, hb 1⟩ (hm 1)) r j fun b => block_apply m c ⟨_, hb b⟩ i b rfl r j).trans ?_
  refine congrArg₂ (· + · : EReal → EReal → EReal) ?_ rfl
  exact (shapeCast_apply (iblk m c 2 ⟨_, h⟩ : Vec Ideal S1024x1024 .f32) _ (ix2 r j) (ix2 r j) rfl).trans <| (congrArg (V m c main_v4 : Vec Ideal S4096x1024 .f32) (at2 1024 1024 r.val j.val (index2 ⟨_, h⟩) rfl rfl (by dsimp; omega) (by omega))).trans (V_stream m c _ j)

theorem final : (dats m 0 c).arrAt 3 cfg0.N = down (xArg m c) (wArg m c) (hArg m c) := by
  refine (dats m 0 c).arrAt_eq_of_covers 3 _ (by decide +kernel) fun t hf y => ?_
  blk_simp
  rw [after0_3]
  have h2 : t.val % 2 = 1 := (flush0_3 t).mp hf
  have ht : t.val < 8 := lt_of_lt_of_eq t.isLt N_0
  obtain ⟨r, j, rfl⟩ := exists_ix2 y
  obtain ⟨i, hi⟩ : ∃ i : Fin 4, t.val = 2 * i.val + 1 := ⟨⟨t.val / 2, by omega⟩, by show t.val = 2 * (t.val / 2) + 1; omega⟩
  rw [show ((View.whole main_v5).slice (win0_3.rect t)).emb (ix2 r j : S1024x1024.Idx)
      = (ix2 ⟨i.val * 1024 + r.val, by omega⟩ j : S4096x1024.Idx) from at2 1024 1024 r.val j.val (index3 t) rfl rfl (by dsimp; omega) (by omega)]
  obtain ⟨n, hn⟩ := t
  obtain rfl : n = 2 * i.val + 1 := hi
  exact last_apply m c i hn r j

end Cert.Kernel6Ideal.Ffn

namespace Cert.FfnDown

open Cert.Kernel6Ideal.Ffn
open Cert.Reference6Ideal Cert.Reference6Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (h : Vec Ideal S2x2048x1024 .f32) (x : Vec Ideal S2x2048x2816 .f32) (w : Vec Ideal S2816x1024 .f32) :
    val_main_v2 (F := Ideal) h x w = down x w h := by
  funext i
  obtain ⟨r, j, rfl⟩ := exists_ix2 i
  refine congrArg₂ (· + · : EReal → EReal → EReal) (rows_cast h Cert.Reference6Ideal.Gen.shapeCasts_S2x2048x1024_S4096x1024 r j) ?_
  exact host_apply none _ _ x w Cert.Reference6Ideal.Gen.shapeCasts_S2x2048x1024_S4096x1024 r j

theorem quiescent_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨_, Cert.Kernel6Ideal.Value.run_blocks m ρ, ?_⟩
  refine (θ_run Cert.Reference6Ideal.defs _ _).mono (fun _ h c => ⟨?_, (h c).2⟩) (Cert.Reference6Ideal.Value.run (F := Ideal) m' ρ')
  rw [(h c).1]
  simp only [hagree c]
  exact ((val_main_v2_eq _ _ _).trans (reference_apply _ _ _)).trans (final m c).symm

end Cert.FfnDown

end
-- ==== Proof.AbInB.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel7Ideal.Proj

open Cert.Kernel7Ideal Cert.Kernel7Ideal.Gen
open Idealize.ShloMosaic hiding ix2 ix3
open Idealize.ShloMosaic.TcCoe Idealize.ShloMosaic.ValueIdx Idealize.ShloMosaic.Tactic
open Idealize.SL.Sem
open Cert.GradSum Cert.Product

/-! # The gradient of the mixer's input: `dproj` times the transposed input projection -/

/-- The whole result: row `r = 2048 b + s` of the two sequences times each row of the weight. -/
def dh (x : Vec Ideal S2x2048x3584 .f32) (w : Vec Ideal S1024x3584 .f32) : Vec Ideal S4096x1024 .f32 := fun i =>
  prodAt x (fun k => w (ix2 (i 1) k)) (i 0)

variable (m : (ℓ : Loc nD τ sig) → Buf (Elt Ideal) ℓ) (c : Dev nD)

abbrev xArg : Vec Ideal S2x2048x3584 .f32 := m ((c.tc : Thread nD τ).loc main_arg1)
abbrev wArg : Vec Ideal S1024x3584 .f32 := m ((c.tc : Thread nD τ).loc main_arg2)

/-- The rows the first window stages. -/
theorem V_rows (r : Fin 4096) (k : Fin 3584) : (V m c main_v3 : Vec Ideal S4096x3584 .f32) (ix2 r k)
    = xArg m c (rowIx r k) := by
  have e : (V m c main_v3 : Vec Ideal S4096x3584 .f32) = shapeCast S4096x3584 (xArg m c) shapeCasts_S2x2048x3584_S4096x3584 := by
    entry_read
    rfl
  exact (congrFun e _).trans (rows_cast _ _ _ _)

/-- The weight the second window stages, at its one layer. -/
theorem V_weight (p : Fin 3584) (q : Fin 1024) : (V m c main_v2 : Vec Ideal S1x3584x1024 .bf16) (ix3 0 p q) = wArg m c (ix2 q p) := by
  have e : (V m c main_v2 : Vec Ideal S1x3584x1024 .bf16)
      = (transpose S1x3584x1024 [0, 2, 1] (broadcastInDim S1x1024x3584 ![1, 2] bcast_S1024x3584_S1x1024x3584_1_2 (wArg m c) : FVec Ideal S1x1024x3584 .f32) transposes_S1x1024x3584_S1x3584x1024_0_2_1 : FVec Ideal S1x3584x1024 .f32) := by
    entry_read
    rfl
  exact (congrFun e _).trans (layer_transposed_apply _ _ _ _ _)

theorem index0 : ∀ t : Fin cfg0.N, win0_0.index t = ![t.val / 2, t.val % 2] := by decide +kernel
theorem index1 : ∀ t : Fin cfg0.N, win0_1.index t = ![0, t.val % 2, 0] := by decide +kernel
theorem index2 : ∀ t : Fin cfg0.N, win0_2.index t = ![t.val / 2, 0] := by decide +kernel

/-- One step's product: half `b` of the contracted dimension, at block `i` of the rows. -/
theorem block_apply (t : Fin cfg0.N) (i : Fin 4) (b : Fin 2) (h : t.val = 2 * i.val + b.val) (r : Fin 1024) (j : Fin 1024) :
    k0_pay1 (iblk m c 0 t) (iblk m c 1 t) (ix2 r j)
      = halfAt 1792 rfl (xArg m c) (fun k : Fin 3584 => wArg m c (ix2 j k)) b ⟨i.val * 1024 + r.val, by omega⟩ := by
  unfold k0_pay1
  refine mul_half (K := 3584) (H := 1792) rfl (xArg m c) _ _ _ _ _ _ _ r j (fun k q hq => ?_) fun k q hq => ?_
  · refine (shapeCast_apply (iblk m c 0 t : Vec Ideal S1024x1792 .f32) _ (ix2 r k) (ix2 r k) rfl).trans ?_
    exact (congrArg (V m c main_v3 : Vec Ideal S4096x3584 .f32) (at2 1024 1792 r.val k.val (index0 t) rfl rfl (by dsimp; omega) (by omega))).trans (V_rows m c _ q)
  · exact (congrArg (V m c main_v2 : Vec Ideal S1x3584x1024 .bf16) (at3 1792 1024 k.val j.val (index1 t) rfl rfl (by omega) (by omega))).trans (V_weight m c q j)

/-- What an even point leaves in the scratch: its product. -/
theorem scratch_even (t : Fin cfg0.N) (h0 : t.val % 2 = 0) :
    (outsAt0 m c t.val t.isLt).2 = k0_pay2 (iblk m c 0 t) (iblk m c 1 t) := by
  rw [outsAt0_A m c t h0 (by omega)]
  frame_out

/-- What an odd point leaves in the output's staging buffer: the carried sum and its product. -/
theorem output_odd (t : Fin cfg0.N) (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h2]
  frame_out
  try simp only [read_unread_whole]

/-- What the second step of a block of rows writes. -/
theorem last_apply (i : Fin 4) (h : 2 * i.val + 1 < cfg0.N) (r : Fin 1024) (j : Fin 1024) :
    (outsAt0 m c (2 * i.val + 1) h).1 (ix2 r j) = dh (xArg m c) (wArg m c) (ix2 ⟨i.val * 1024 + r.val, by omega⟩ j) := by
  have hb : ∀ b : Fin 2, 2 * i.val + b.val < cfg0.N := fun b => by omega
  have hm : ∀ b : Fin 2, (2 * i.val + b.val) % 2 = b.val := fun b => by omega
  exact of_halves (K := 3584) (H := 1792) rfl (xArg m c) (fun k => wArg m c (ix2 j k)) _ (fun b => k0_pay1 (iblk m c 0 ⟨_, hb b⟩) (iblk m c 1 ⟨_, hb b⟩)) shapeCasts_S1024x1024_S1024x1024
    (scratch_even m c ⟨_, hb 0⟩ (hm 0)) (output_odd m c ⟨_, hb 1⟩ (hm 1)) r j fun b => block_apply m c ⟨_, hb b⟩ i b rfl r j

theorem final : (dats m 0 c).arrAt 2 cfg0.N = dh (xArg m c) (wArg m c) := by
  refine (dats m 0 c).arrAt_eq_of_covers 2 _ (by decide +kernel) fun t hf y => ?_
  blk_simp
  rw [after0_2]
  have h2 : t.val % 2 = 1 := (flush0_2 t).mp hf
  have ht : t.val < 8 := lt_of_lt_of_eq t.isLt N_0
  obtain ⟨r, j, rfl⟩ := exists_ix2 y
  obtain ⟨i, hi⟩ : ∃ i : Fin 4, t.val = 2 * i.val + 1 := ⟨⟨t.val / 2, by omega⟩, by show t.val = 2 * (t.val / 2) + 1; omega⟩
  rw [show ((View.whole main_v4).slice (win0_2.rect t)).emb (ix2 r j : S1024x1024.Idx)
      = (ix2 ⟨i.val * 1024 + r.val, by omega⟩ j : S4096x1024.Idx) from at2 1024 1024 r.val j.val (index2 t) rfl rfl (by dsimp; omega) (by omega)]
  obtain ⟨n, hn⟩ := t
  obtain rfl : n = 2 * i.val + 1 := hi
  exact last_apply m c i hn r j

end Cert.Kernel7Ideal.Proj

namespace Cert.AbInB

open Cert.Kernel7Ideal.Proj
open Cert.Reference7Ideal Cert.Reference7Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (x : Vec Ideal S2x2048x3584 .f32) (w : Vec Ideal S1024x3584 .f32) :
    val_main_v2 (F := Ideal) x w = dh x w := by
  funext i
  obtain ⟨r, j, rfl⟩ := exists_ix2 i
  exact hostT_apply none _ _ x w _ r j

theorem quiescent_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨_, Cert.Kernel7Ideal.Value.run_blocks m ρ, ?_⟩
  refine (θ_run Cert.Reference7Ideal.defs _ _).mono (fun _ h c => ⟨?_, (h c).2⟩) (Cert.Reference7Ideal.Value.run (F := Ideal) m' ρ')
  rw [(h c).1]
  simp only [hagree c]
  exact ((val_main_v2_eq _ _).trans (reference_apply _ _)).trans (final m c).symm

end Cert.AbInB

end
-- ==== Proof.AbIn.lean ====
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Product
public import Idealize.ShloMosaic.Lib.Quiescent
public import Idealize.ShloMosaic.Lib.Pipeline.ValueKit

@[expose] public section

set_option maxRecDepth 16384

noncomputable section

namespace Cert.Kernel8Ideal.Proj

open Cert.Kernel8Ideal Cert.Kernel8Ideal.Gen
open Idealize.ShloMosaic hiding ix2 ix3
open Idealize.ShloMosaic.TcCoe Idealize.ShloMosaic.ValueIdx Idealize.ShloMosaic.Tactic
open Idealize.SL.Sem
open Cert.GradSum Cert.Product

/-! # The mixer's input projection -/

/-- The whole result: row `r = 2048 b + s` of the two sequences times each column of the weight. -/
def proj (x : Vec Ideal S2x2048x1024 .f32) (w : Vec Ideal S1024x3584 .f32) : Vec Ideal S4096x3584 .f32 := fun i =>
  prodAt x (fun k => w (ix2 k (i 1))) (i 0)

variable (m : (ℓ : Loc nD τ sig) → Buf (Elt Ideal) ℓ) (c : Dev nD)

abbrev xArg : Vec Ideal S2x2048x1024 .f32 := m ((c.tc : Thread nD τ).loc main_arg0)
abbrev wArg : Vec Ideal S1024x3584 .f32 := m ((c.tc : Thread nD τ).loc main_arg1)

/-- The rows the first window stages. -/
theorem V_rows (r : Fin 4096) (k : Fin 1024) : (V m c main_v4 : Vec Ideal S4096x1024 .bf16) (ix2 r k)
    = xArg m c (rowIx r k) := by
  have e : (V m c main_v4 : Vec Ideal S4096x1024 .bf16) = (shapeCast S4096x1024 (xArg m c) shapeCasts_S2x2048x1024_S4096x1024 : FVec Ideal S4096x1024 .f32) := by
    entry_read
    rfl
  exact (congrFun e _).trans (rows_cast _ _ _ _)

/-- The weight the second window stages, at its one layer. -/
theorem V_weight (p : Fin 3584) (q : Fin 1024) : (V m c main_v2 : Vec Ideal S1x3584x1024 .bf16) (ix3 0 p q) = wArg m c (ix2 q p) := by
  have e : (V m c main_v2 : Vec Ideal S1x3584x1024 .bf16)
      = (transpose S1x3584x1024 [0, 2, 1] (broadcastInDim S1x1024x3584 ![1, 2] bcast_S1024x3584_S1x1024x3584_1_2 (wArg m c) : FVec Ideal S1x1024x3584 .f32) transposes_S1x1024x3584_S1x3584x1024_0_2_1 : FVec Ideal S1x3584x1024 .f32) := by
    entry_read
    rfl
  exact (congrFun e _).trans (layer_transposed_apply _ _ _ _ _)

theorem index0 : ∀ t : Fin cfg0.N, win0_0.index t = ![t.val / 2, 0] := by decide +kernel
theorem index1 : ∀ t : Fin cfg0.N, win0_1.index t = ![0, t.val % 2, 0] := by decide +kernel
theorem index2 : ∀ t : Fin cfg0.N, win0_2.index t = ![t.val / 2, t.val % 2] := by decide +kernel

theorem final : (dats m 0 c).arrAt 2 cfg0.N = proj (xArg m c) (wArg m c) := by
  refine (dats m 0 c).arrAt_eq_of_covers 2 _ (by decide +kernel) fun t hf y => ?_
  blk_simp
  rw [after0_2]
  frame_out
  have ht : t.val < 8 := lt_of_lt_of_eq t.isLt N_0
  obtain ⟨r, j, rfl⟩ := exists_ix2 y
  rw [show ((View.whole main_v5).slice (win0_2.rect t)).emb (ix2 r j : S1024x1792.Idx)
      = (ix2 ⟨t.val / 2 * 1024 + r.val, by omega⟩ ⟨t.val % 2 * 1792 + j.val, by omega⟩ : S4096x3584.Idx) from at2 1024 1792 r.val j.val (index2 t) rfl rfl rfl rfl]
  unfold k0_pay1
  refine mulT_rows (xArg m c) _ _ _ _ _ _ r j (fun k => ?_) fun k => ?_
  · refine (shapeCast_apply (iblk m c 0 t : Vec Ideal S1024x1024 .bf16) _ (ix2 r k) (ix2 r k) rfl).trans ?_
    exact (congrArg (V m c main_v4 : Vec Ideal S4096x1024 .bf16) (at2 1024 1024 r.val k.val (index0 t) rfl rfl rfl (by omega))).trans (V_rows m c _ k)
  · exact (congrArg (V m c main_v2 : Vec Ideal S1x3584x1024 .bf16) (at3 1792 1024 j.val k.val (index1 t) rfl rfl rfl (by omega))).trans (V_weight m c _ k)

end Cert.Kernel8Ideal.Proj

namespace Cert.AbIn

open Cert.Kernel8Ideal.Proj
open Cert.Reference8Ideal Cert.Reference8Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (x : Vec Ideal S2x2048x1024 .f32) (w : Vec Ideal S1024x3584 .f32) :
    val_main_v1 (F := Ideal) x w = proj x w := by
  funext i
  obtain ⟨r, j, rfl⟩ := exists_ix2 i
  exact host_apply none _ _ x w _ r j

theorem quiescent_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨_, Cert.Kernel8Ideal.Value.run_blocks m ρ, ?_⟩
  refine (θ_run Cert.Reference8Ideal.defs _ _).mono (fun _ h c => ⟨?_, (h c).2⟩) (Cert.Reference8Ideal.Value.run (F := Ideal) m' ρ')
  rw [(h c).1]
  simp only [hagree c]
  exact ((val_main_v1_eq _ _).trans (reference_apply _ _)).trans (final m c).symm

end Cert.AbIn

end
-- ==== Proof.OutB.lean ====
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Product
public import Idealize.ShloMosaic.Lib.Quiescent
public import Idealize.ShloMosaic.Lib.Pipeline.ValueKit

@[expose] public section

set_option maxRecDepth 16384

noncomputable section

namespace Cert.Kernel9Ideal.Proj

open Cert.Kernel9Ideal Cert.Kernel9Ideal.Gen
open Idealize.ShloMosaic hiding ix2 ix3
open Idealize.ShloMosaic.TcCoe Idealize.ShloMosaic.ValueIdx Idealize.ShloMosaic.Tactic
open Idealize.SL.Sem
open Cert.GradSum Cert.Product

/-! # The gradient of the heads' outputs: `dy` times the transposed output projection -/

/-- The whole result: row `r = 2048 b + s` of the two sequences times each row of the weight. -/
def dcat (x : Vec Ideal S2x2048x1024 .f32) (w : Vec Ideal S1024x1024 .f32) : Vec Ideal S4096x1024 .f32 := fun i =>
  prodAt x (fun k => w (ix2 (i 1) k)) (i 0)

variable (m : (ℓ : Loc nD τ sig) → Buf (Elt Ideal) ℓ) (c : Dev nD)

abbrev xArg : Vec Ideal S2x2048x1024 .f32 := m ((c.tc : Thread nD τ).loc main_arg1)
abbrev wArg : Vec Ideal S1024x1024 .f32 := m ((c.tc : Thread nD τ).loc main_arg2)

/-- The rows the first window stages. -/
theorem V_rows (r : Fin 4096) (k : Fin 1024) : (V m c main_v2 : Vec Ideal S4096x1024 .f32) (ix2 r k)
    = xArg m c (rowIx r k) := by
  have e : (V m c main_v2 : Vec Ideal S4096x1024 .f32) = shapeCast S4096x1024 (xArg m c) shapeCasts_S2x2048x1024_S4096x1024 := by
    entry_read
    rfl
  exact (congrFun e _).trans (rows_cast _ _ _ _)

/-- The weight the second window stages, at its one layer. -/
theorem V_weight (p : Fin 1024) (q : Fin 1024) : (V m c main_v1 : Vec Ideal S1x1024x1024 .bf16) (ix3 0 p q) = wArg m c (ix2 p q) := by
  have e : (V m c main_v1 : Vec Ideal S1x1024x1024 .bf16)
      = (broadcastInDim S1x1024x1024 ![1, 2] bcast_S1024x1024_S1x1024x1024_1_2 (wArg m c) : FVec Ideal S1x1024x1024 .f32) := by
    entry_read
    rfl
  exact (congrFun e _).trans (layer_apply _ _ _ _)

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![t.val, 0] := by decide +kernel

theorem final : (dats m 0 c).arrAt 2 cfg0.N = dcat (xArg m c) (wArg m c) := by
  refine (dats m 0 c).arrAt_eq_of_covers 2 _ (by decide +kernel) fun t hf y => ?_
  blk_simp
  rw [after0_2]
  frame_out
  have ht : t.val < 4 := lt_of_lt_of_eq t.isLt N_0
  obtain ⟨r, j, rfl⟩ := exists_ix2 y
  rw [show ((View.whole main_v3).slice (win0_2.rect t)).emb (ix2 r j : S1024x1024.Idx)
      = (ix2 ⟨t.val * 1024 + r.val, by omega⟩ j : S4096x1024.Idx) from at2 1024 1024 r.val j.val (index2 t) rfl rfl rfl (by omega)]
  unfold k0_pay1
  refine mulT_rows (xArg m c) _ _ _ _ _ _ r j (fun k => ?_) fun k => ?_
  · refine (shapeCast_apply (iblk m c 0 t : Vec Ideal S1024x1024 .f32) _ (ix2 r k) (ix2 r k) rfl).trans ?_
    exact (congrArg (V m c main_v2 : Vec Ideal S4096x1024 .f32) (at2 1024 1024 r.val k.val (index0 t) rfl rfl rfl (by omega))).trans (V_rows m c _ k)
  · exact (congrArg (V m c main_v1 : Vec Ideal S1x1024x1024 .bf16) (at3 1024 1024 j.val k.val (index1 t) rfl rfl (by omega) (by omega))).trans (V_weight m c j k)

end Cert.Kernel9Ideal.Proj

namespace Cert.OutB

open Cert.Kernel9Ideal.Proj
open Cert.Reference9Ideal Cert.Reference9Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (x : Vec Ideal S2x2048x1024 .f32) (w : Vec Ideal S1024x1024 .f32) :
    val_main_v2 (F := Ideal) x w = dcat x w := by
  funext i
  obtain ⟨r, j, rfl⟩ := exists_ix2 i
  exact hostT_apply none _ _ x w _ r j

theorem quiescent_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨_, Cert.Kernel9Ideal.Value.run_blocks m ρ, ?_⟩
  refine (θ_run Cert.Reference9Ideal.defs _ _).mono (fun _ h c => ⟨?_, (h c).2⟩) (Cert.Reference9Ideal.Value.run (F := Ideal) m' ρ')
  rw [(h c).1]
  simp only [hagree c]
  exact ((val_main_v2_eq _ _).trans (reference_apply _ _)).trans (final m c).symm

end Cert.OutB

end
-- ==== Proof.Out.lean ====
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Product
public import Idealize.ShloMosaic.Lib.Quiescent
public import Idealize.ShloMosaic.Lib.Pipeline.ValueKit

@[expose] public section

set_option maxRecDepth 16384

noncomputable section

namespace Cert.Kernel10Ideal.Proj

open Cert.Kernel10Ideal Cert.Kernel10Ideal.Gen
open Idealize.ShloMosaic hiding ix2 ix3
open Idealize.ShloMosaic.TcCoe Idealize.ShloMosaic.ValueIdx Idealize.ShloMosaic.Tactic
open Idealize.SL.Sem
open Cert.GradSum Cert.Product

/-! # The output projection, added to the stream -/

/-- The whole result: row `r = 2048 b + s` of the two sequences times each column of the weight, and what is added. -/
def out (x : Vec Ideal S2x2048x1024 .f32) (w : Vec Ideal S1024x1024 .f32) (h : Vec Ideal S2x2048x1024 .f32) : Vec Ideal S4096x1024 .f32 := fun i =>
  h (rowIx (i 0) (i 1)) + prodAt x (fun k => w (ix2 k (i 1))) (i 0)

variable (m : (ℓ : Loc nD τ sig) → Buf (Elt Ideal) ℓ) (c : Dev nD)

abbrev xArg : Vec Ideal S2x2048x1024 .f32 := m ((c.tc : Thread nD τ).loc main_arg1)
abbrev wArg : Vec Ideal S1024x1024 .f32 := m ((c.tc : Thread nD τ).loc main_arg2)
abbrev hArg : Vec Ideal S2x2048x1024 .f32 := m ((c.tc : Thread nD τ).loc main_arg0)

/-- The rows the first window stages. -/
theorem V_rows (r : Fin 4096) (k : Fin 1024) : (V m c main_v3 : Vec Ideal S4096x1024 .bf16) (ix2 r k)
    = xArg m c (rowIx r k) := by
  have e : (V m c main_v3 : Vec Ideal S4096x1024 .bf16) = (shapeCast S4096x1024 (xArg m c) shapeCasts_S2x2048x1024_S4096x1024 : FVec Ideal S4096x1024 .f32) := by
    entry_read
    rfl
  exact (congrFun e _).trans (rows_cast _ _ _ _)

/-- The weight the second window stages, at its one layer. -/
theorem V_weight (p : Fin 1024) (q : Fin 1024) : (V m c main_v1 : Vec Ideal S1x1024x1024 .bf16) (ix3 0 p q) = wArg m c (ix2 p q) := by
  have e : (V m c main_v1 : Vec Ideal S1x1024x1024 .bf16)
      = (broadcastInDim S1x1024x1024 ![1, 2] bcast_S1024x1024_S1x1024x1024_1_2 (wArg m c) : FVec Ideal S1x1024x1024 .f32) := by
    entry_read
    rfl
  exact (congrFun e _).trans (layer_apply _ _ _ _)

/-- The rows of the stream the third window stages. -/
theorem V_stream (r : Fin 4096) (j : Fin 1024) : (V m c main_v4 : Vec Ideal S4096x1024 .f32) (ix2 r j)
    = hArg m c (rowIx r j) := by
  have e : (V m c main_v4 : Vec Ideal S4096x1024 .f32) = shapeCast S4096x1024 (hArg m c) shapeCasts_S2x2048x1024_S4096x1024 := by
    entry_read
    rfl
  exact (congrFun e _).trans (rows_cast _ _ _ _)

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![t.val, 0] := by decide +kernel
theorem index3 : ∀ t : Fin cfg0.N, win0_3.index t = ![t.val, 0] := by decide +kernel

theorem final : (dats m 0 c).arrAt 3 cfg0.N = out (xArg m c) (wArg m c) (hArg m c) := by
  refine (dats m 0 c).arrAt_eq_of_covers 3 _ (by decide +kernel) fun t hf y => ?_
  blk_simp
  rw [after0_3]
  frame_out
  have ht : t.val < 4 := lt_of_lt_of_eq t.isLt N_0
  obtain ⟨r, j, rfl⟩ := exists_ix2 y
  rw [show ((View.whole main_v5).slice (win0_3.rect t)).emb (ix2 r j : S1024x1024.Idx)
      = (ix2 ⟨t.val * 1024 + r.val, by omega⟩ j : S4096x1024.Idx) from at2 1024 1024 r.val j.val (index3 t) rfl rfl rfl (by omega)]
  unfold k0_pay1
  refine (add_comm (G := EReal) _ _).trans ?_
  refine congrArg₂ (· + · : EReal → EReal → EReal) ?_ ?_
  · refine (shapeCast_apply (iblk m c 2 t : Vec Ideal S1024x1024 .f32) _ (ix2 r j) (ix2 r j) rfl).trans ?_
    exact (congrArg (V m c main_v4 : Vec Ideal S4096x1024 .f32) (at2 1024 1024 r.val j.val (index2 t) rfl rfl rfl (by omega))).trans (V_stream m c _ j)
  refine mul_rows (xArg m c) _ _ _ _ _ _ r j (fun k => ?_) fun k => ?_
  · refine (shapeCast_apply (iblk m c 0 t : Vec Ideal S1024x1024 .bf16) _ (ix2 r k) (ix2 r k) rfl).trans ?_
    exact (congrArg (V m c main_v3 : Vec Ideal S4096x1024 .bf16) (at2 1024 1024 r.val k.val (index0 t) rfl rfl rfl (by omega))).trans (V_rows m c _ k)
  · exact (congrArg (V m c main_v1 : Vec Ideal S1x1024x1024 .bf16) (at3 1024 1024 k.val j.val (index1 t) rfl rfl (by omega) (by omega))).trans (V_weight m c k j)

end Cert.Kernel10Ideal.Proj

namespace Cert.Out

open Cert.Kernel10Ideal.Proj
open Cert.Reference10Ideal Cert.Reference10Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (h : Vec Ideal S2x2048x1024 .f32) (x : Vec Ideal S2x2048x1024 .f32) (w : Vec Ideal S1024x1024 .f32) :
    val_main_v2 (F := Ideal) h x w = out x w h := by
  funext i
  obtain ⟨r, j, rfl⟩ := exists_ix2 i
  refine congrArg₂ (· + · : EReal → EReal → EReal) (rows_cast h Cert.Reference10Ideal.Gen.shapeCasts_S2x2048x1024_S4096x1024 r j) ?_
  exact host_apply none _ _ x w Cert.Reference10Ideal.Gen.shapeCasts_S2x2048x1024_S4096x1024 r j

theorem quiescent_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m ρ m' ρ' _ hagree
  refine ⟨_, Cert.Kernel10Ideal.Value.run_blocks m ρ, ?_⟩
  refine (θ_run Cert.Reference10Ideal.defs _ _).mono (fun _ h c => ⟨?_, (h c).2⟩) (Cert.Reference10Ideal.Value.run (F := Ideal) m' ρ')
  rw [(h c).1]
  simp only [hagree c]
  exact ((val_main_v2_eq _ _ _).trans (reference_apply _ _ _)).trans (final m c).symm

end Cert.Out

end
-- ==== Proof.FfnDownG.lean ====
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel11Ideal.Grad

open Cert.Kernel11Ideal Cert.Kernel11Ideal.Gen
open Idealize.ShloMosaic hiding ix2 ix3
open Idealize.ShloMosaic.TcCoe Idealize.ShloMosaic.ValueIdx Idealize.ShloMosaic.Tactic
open Idealize.SL.Sem
open Cert.GradSum Cert.Product
open scoped BigOperators

/-! # The gradient of the down projection: the activations' transpose times `dy` -/

/-- The whole gradient, a stack of one layer. -/
def grad (l : Vec Ideal S2x2048x2816 .f32) (r : Vec Ideal S2x2048x1024 .f32) : Vec Ideal S1x2816x1024 .f32 := fun i => gradAt l r (i 1) (i 2)

variable (m : (ℓ : Loc nD τ sig) → Buf (Elt Ideal) ℓ) (c : Dev nD)

abbrev lArg : Vec Ideal S2x2048x2816 .f32 := m ((c.tc : Thread nD τ).loc main_arg0)
abbrev rArg : Vec Ideal S2x2048x1024 .f32 := m ((c.tc : Thread nD τ).loc main_arg2)

/-- The rows the first window stages. -/
theorem V_left (n : Fin 4096) (k : Fin 2816) : (V m c main_v1 : Vec Ideal S4096x2816 .bf16) (ix2 n k)
    = lArg m c (rowIx n k) := by
  have e : (V m c main_v1 : Vec Ideal S4096x2816 .bf16) = (shapeCast S4096x2816 (lArg m c) shapeCasts_S2x2048x2816_S4096x2816 : FVec Ideal S4096x2816 .f32) := by
    entry_read
    rfl
  exact (congrFun e _).trans (rows_cast _ _ _ _)

/-- The rows the second window stages. -/
theorem V_right (n : Fin 4096) (k : Fin 1024) : (V m c main_v2 : Vec Ideal S4096x1024 .f32) (ix2 n k)
    = rArg m c (rowIx n k) := by
  have e : (V m c main_v2 : Vec Ideal S4096x1024 .f32) = shapeCast S4096x1024 (rArg m c) shapeCasts_S2x2048x1024_S4096x1024 := by
    entry_read
    rfl
  exact (congrFun e _).trans (rows_cast _ _ _ _)

theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![0, t.val / 4, 0] := by decide +kernel

/-- One step's product, in the arrays: step `b` of column block `j` takes rows `1024 b` to `1024 b + 1023`. -/
theorem block_apply (t : Fin cfg0.N) (j : Fin 2) (b : Fin 4) (h : t.val = 4 * j.val + b.val) (p : Fin 1408) (q : Fin 1024) :
    k0_pay1 (iblk m c 0 t) (iblk m c 1 t) (ix2 p q) = stepAt (lArg m c) (rArg m c) b ⟨1408 * j.val + p.val, by omega⟩ q := by
  unfold k0_pay1
  refine mul_step (lArg m c) (rArg m c) _ _ _ _ _ _ p q (fun k n hn => ?_) fun k n hn => ?_
  · refine (shapeCast_apply (iblk m c 0 t : Vec Ideal S1024x1408 .bf16) _ (ix2 k p) (ix2 k p) rfl).trans ?_
    exact (congrArg (V m c main_v1 : Vec Ideal S4096x2816 .bf16) (at2 1024 1408 k.val p.val (index0 t) rfl rfl (by omega) (by dsimp; omega))).trans (V_left m c n _)
  · refine (shapeCast_apply (iblk m c 1 t : Vec Ideal S1024x1024 .f32) _ (ix2 k q) (ix2 k q) rfl).trans ?_
    exact (congrArg (V m c main_v2 : Vec Ideal S4096x1024 .f32) (at2 1024 1024 k.val q.val (index1 t) rfl rfl (by omega) (by omega))).trans (V_right m c n q)

/-- What the first step of a block of columns leaves in the scratch: its product. -/
theorem scratch_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- What the second and the third step leave in the scratch: the carried sum and their product. -/
theorem scratch_next (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  frame_out
  try simp only [read_unread_whole]

/-- What the last step leaves in the output's staging buffer: the carried sum and its product. -/
theorem output_last (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  frame_out
  try simp only [read_unread_whole]

/-- What the last step writes is the gradient's block. -/
theorem last_apply (j : Fin 2) (h : 4 * j.val + 3 < cfg0.N) (p : Fin 1408) (q : Fin 1024) :
    (outsAt0 m c (4 * j.val + 3) h).1 (ix3 0 p q) = gradAt (lArg m c) (rArg m c) ⟨1408 * j.val + p.val, by omega⟩ q := by
  have hb : ∀ b : Fin 4, 4 * j.val + b.val < cfg0.N := fun b => by omega
  have hm : ∀ b : Fin 4, (4 * j.val + b.val) % 4 = b.val := fun b => by omega
  exact of_steps _ _ _ _ (fun b => k0_pay1 (iblk m c 0 ⟨_, hb b⟩) (iblk m c 1 ⟨_, hb b⟩)) shapeCasts_S1408x1024_S1408x1024 shapeCasts_S1408x1024_S1x1408x1024
    (scratch_first m c ⟨_, hb 0⟩ (hm 0)) (scratch_next m c ⟨_, hb 1⟩ (by rw [hm]; decide)) (scratch_next m c ⟨_, hb 2⟩ (by rw [hm]; decide))
    (output_last m c ⟨_, hb 3⟩ (hm 3)) p q fun b => block_apply m c ⟨_, hb b⟩ j b rfl p q

theorem final : (dats m 0 c).arrAt 2 cfg0.N = grad (lArg m c) (rArg m c) := by
  refine (dats m 0 c).arrAt_eq_of_covers 2 _ (by decide +kernel) fun t hf y => ?_
  blk_simp
  rw [after0_2]
  have h2 : t.val % 4 = 3 := (flush0_2 t).mp hf
  have ht : t.val < 8 := lt_of_lt_of_eq t.isLt N_0
  obtain ⟨p, q, rfl⟩ := exists_ix3 y
  obtain ⟨j, hj⟩ : ∃ j : Fin 2, t.val = 4 * j.val + 3 := ⟨⟨t.val / 4, by omega⟩, by show t.val = 4 * (t.val / 4) + 3; omega⟩
  rw [show ((View.whole main_v3).slice (win0_2.rect t)).emb (ix3 0 p q : S1x1408x1024.Idx)
      = (ix3 0 ⟨1408 * j.val + p.val, by omega⟩ q : S1x2816x1024.Idx) from at3 1408 1024 p.val q.val (index2 t) rfl rfl (by dsimp; omega) (by omega)]
  obtain ⟨n, hn⟩ := t
  obtain rfl : n = 4 * j.val + 3 := hj
  exact last_apply m c j hn p q

end Cert.Kernel11Ideal.Grad

namespace Cert.FfnDownG

open Cert.Kernel11Ideal.Grad
open Cert.Reference11Ideal Cert.Reference11Ideal.Read
open Idealize.ShloMosaic hiding ix2 ix3
open Idealize.ShloMosaic.TcCoe Idealize.ShloMosaic.ValueIdx
open Idealize.SL.Sem
open Cert.GradSum Cert.Product
open scoped BigOperators

/-! # The reference is the same, and the claims -/

/-- The reference's product over the batch and the positions. -/
theorem reference_dot (x0 : Vec Ideal S2x2048x2816 .f32) (x2 : Vec Ideal S2x2048x1024 .f32) (p : Fin 2816) (q : Fin 1024) :
    val_main_v1 (F := Ideal) x0 x2 (ix2 q p) = gradAt x0 x2 p q := by
  refine (dot_rows_apply (M := 1024) (N := 2816) none _ _ x2 x0 q p).trans ?_
  unfold gradAt termAt
  refine Eq.trans ?_ (sum_rows fun b s => (x0 (ix3 b s p) * x2 (ix3 b s q) : EReal)).symm
  refine Finset.sum_congr rfl fun b _ => Finset.sum_congr rfl fun s _ => mul_comm _ _

theorem reference_apply (x0 : Vec Ideal S2x2048x2816 .f32) (x2 : Vec Ideal S2x2048x1024 .f32) :
    val_main_v3 (F := Ideal) x0 x2 = grad x0 x2 := by
  funext i
  rw [val_main_v3_apply, val_main_v2_apply]
  refine Eq.trans ?_ (reference_dot x0 x2 (i 1) (i 2))
  refine congrArg (val_main_v1 (F := Ideal) x0 x2) (funext fun a => ?_)
  match a with
  | ⟨0, _⟩ => rfl
  | ⟨1, _⟩ => rfl

theorem quiescent_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  intro m ρ m' ρ' _ hagree
  refine ⟨_, Cert.Kernel11Ideal.Value.run_blocks m ρ, ?_⟩
  refine (θ_run Cert.Reference11Ideal.defs _ _).mono (fun _ h c => ⟨?_, (h c).2⟩) (Cert.Reference11Ideal.Value.run (F := Ideal) m' ρ')
  rw [(h c).1]
  simp only [hagree c]
  exact ((val_main_v3_eq _ _).trans (reference_apply _ _)).trans (final m c).symm

end Cert.FfnDownG

end
-- ==== Proof.FfnUpG0.lean ====
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel12Ideal.Grad

open Cert.Kernel12Ideal Cert.Kernel12Ideal.Gen
open Idealize.ShloMosaic hiding ix2 ix3
open Idealize.ShloMosaic.TcCoe Idealize.ShloMosaic.ValueIdx Idealize.ShloMosaic.Tactic
open Idealize.SL.Sem
open Cert.GradSum Cert.Product
open scoped BigOperators

/-! # The gradient of the up projection's first half, into the stack -/

/-- The stack of one layer: the gradient in the first half of its rows, the rest as it was. -/
def grad (l : Vec Ideal S2x2048x2816 .f32) (r : Vec Ideal S2x2048x1024 .f32) (g : Vec Ideal S1x5632x1024 .f32) : Vec Ideal S1x5632x1024 .f32 := fun i =>
  if h : (i 1).val < 2816 then gradAt l r ⟨(i 1).val, h⟩ (i 2) else g i

variable (m : (ℓ : Loc nD τ sig) → Buf (Elt Ideal) ℓ) (c : Dev nD)

abbrev lArg : Vec Ideal S2x2048x2816 .f32 := m ((c.tc : Thread nD τ).loc main_arg2)
abbrev rArg : Vec Ideal S2x2048x1024 .f32 := m ((c.tc : Thread nD τ).loc main_arg0)
abbrev gArg : Vec Ideal S1x5632x1024 .f32 := m ((c.tc : Thread nD τ).loc main_arg3)

/-- The rows the first window stages. -/
theorem V_left (n : Fin 4096) (k : Fin 2816) : (V m c main_v0 : Vec Ideal S4096x2816 .f32) (ix2 n k)
    = lArg m c (rowIx n k) := by
  have e : (V m c main_v0 : Vec Ideal S4096x2816 .f32) = shapeCast S4096x2816 (lArg m c) shapeCasts_S2x2048x2816_S4096x2816 := by
    entry_read
    rfl
  exact (congrFun e _).trans (rows_cast _ _ _ _)

/-- The rows the second window stages. -/
theorem V_right (n : Fin 4096) (k : Fin 1024) : (V m c main_v2 : Vec Ideal S4096x1024 .bf16) (ix2 n k)
    = rArg m c (rowIx n k) := by
  have e : (V m c main_v2 : Vec Ideal S4096x1024 .bf16) = (shapeCast S4096x1024 (rArg m c) shapeCasts_S2x2048x1024_S4096x1024 : FVec Ideal S4096x1024 .f32) := by
    entry_read
    rfl
  exact (congrFun e _).trans (rows_cast _ _ _ _)

/-- The stack the result's array starts as. -/
theorem V_stack : (V m c main_v3 : Vec Ideal S1x5632x1024 .f32) = gArg m c := by
  entry_read
  rfl

theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![0, t.val / 4, 0] := by decide +kernel

/-- One step's product, in the arrays: step `b` of column block `j` takes rows `1024 b` to `1024 b + 1023`. -/
theorem block_apply (t : Fin cfg0.N) (j : Fin 2) (b : Fin 4) (h : t.val = 4 * j.val + b.val) (p : Fin 1408) (q : Fin 1024) :
    k0_pay1 (iblk m c 0 t) (iblk m c 1 t) (ix2 p q) = stepAt (lArg m c) (rArg m c) b ⟨1408 * j.val + p.val, by omega⟩ q := by
  unfold k0_pay1
  refine mul_step (lArg m c) (rArg m c) _ _ _ _ _ _ p q (fun k n hn => ?_) fun k n hn => ?_
  · refine (shapeCast_apply (iblk m c 0 t : Vec Ideal S1024x1408 .f32) _ (ix2 k p) (ix2 k p) rfl).trans ?_
    exact (congrArg (V m c main_v0 : Vec Ideal S4096x2816 .f32) (at2 1024 1408 k.val p.val (index0 t) rfl rfl (by omega) (by dsimp; omega))).trans (V_left m c n _)
  · refine (shapeCast_apply (iblk m c 1 t : Vec Ideal S1024x1024 .bf16) _ (ix2 k q) (ix2 k q) rfl).trans ?_
    exact (congrArg (V m c main_v2 : Vec Ideal S4096x1024 .bf16) (at2 1024 1024 k.val q.val (index1 t) rfl rfl (by omega) (by omega))).trans (V_right m c n q)

/-- What the first step of a block of columns leaves in the scratch: its product. -/
theorem scratch_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- What the second and the third step leave in the scratch: the carried sum and their product. -/
theorem scratch_next (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  frame_out
  try simp only [read_unread_whole]

/-- What the last step leaves in the output's staging buffer: the carried sum and its product. -/
theorem output_last (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  frame_out
  try simp only [read_unread_whole]

/-- What the last step writes is the gradient's block. -/
theorem last_apply (j : Fin 2) (h : 4 * j.val + 3 < cfg0.N) (p : Fin 1408) (q : Fin 1024) :
    (outsAt0 m c (4 * j.val + 3) h).1 (ix3 0 p q) = gradAt (lArg m c) (rArg m c) ⟨1408 * j.val + p.val, by omega⟩ q := by
  have hb : ∀ b : Fin 4, 4 * j.val + b.val < cfg0.N := fun b => by omega
  have hm : ∀ b : Fin 4, (4 * j.val + b.val) % 4 = b.val := fun b => by omega
  exact of_steps _ _ _ _ (fun b => k0_pay1 (iblk m c 0 ⟨_, hb b⟩) (iblk m c 1 ⟨_, hb b⟩)) shapeCasts_S1408x1024_S1408x1024 shapeCasts_S1408x1024_S1x1408x1024
    (scratch_first m c ⟨_, hb 0⟩ (hm 0)) (scratch_next m c ⟨_, hb 1⟩ (by rw [hm]; decide)) (scratch_next m c ⟨_, hb 2⟩ (by rw [hm]; decide))
    (output_last m c ⟨_, hb 3⟩ (hm 3)) p q fun b => block_apply m c ⟨_, hb b⟩ j b rfl p q

/-- What the run writes is the stack's at the rows it writes. -/
theorem written (t : Fin cfg0.N) (hf : (cfg0.win 2).flush t = true) (y : ((cfg0.win 2).xblock (cfg0.grid.coords t)).Idx) :
    _root_.cast (congrArg (Elt Ideal) ((cfg0.win 2).blk t).view.elt_eq.symm) ((dats m 0 c).after 2 t ((cfg0.win 2).xinj (cfg0.grid.coords t) y))
      = (grad (lArg m c) (rArg m c) (gArg m c) : Buf (Elt Ideal) ((cfg0.win 2).arr.view.loc (c.tc : Thread nD τ))) (((cfg0.win 2).blk t).view.emb y) := by
  blk_simp
  rw [after0_2]
  have h2 : t.val % 4 = 3 := (flush0_2 t).mp hf
  have ht : t.val < 8 := lt_of_lt_of_eq t.isLt N_0
  obtain ⟨p, q, rfl⟩ := exists_ix3 y
  obtain ⟨j, hj⟩ : ∃ j : Fin 2, t.val = 4 * j.val + 3 := ⟨⟨t.val / 4, by omega⟩, by show t.val = 4 * (t.val / 4) + 3; omega⟩
  rw [show ((View.whole main_v3).slice (win0_2.rect t)).emb (ix3 0 p q : S1x1408x1024.Idx)
      = (ix3 0 ⟨1408 * j.val + p.val, by omega⟩ q : S1x5632x1024.Idx) from at3 1408 1024 p.val q.val (index2 t) rfl rfl (by dsimp; omega) (by omega)]
  obtain ⟨n, hn⟩ := t
  obtain rfl : n = 4 * j.val + 3 := hj
  refine (last_apply m c j hn p q).trans (Eq.symm ?_)
  exact dif_pos (show 1408 * j.val + p.val < 2816 by omega)

theorem final : (dats m 0 c).arrAt 2 cfg0.N = grad (lArg m c) (rArg m c) (gArg m c) := by
  refine ((dats m 0 c).arrAt_eq_of_coversWhere 2 _ (fun β => β (1 : Fin _) < 2) (by decide +kernel)
    (P := fun i : S1x5632x1024.Idx => (i 1).val / 1408 < 2) (written m c) (fun j => Iff.rfl)).trans ?_
  funext i
  have h1 : (i 1).val < 5632 := (i 1).isLt
  by_cases hi : (i 1).val / 1408 < 2
  · exact if_pos hi
  · refine (if_neg hi).trans ?_
    refine (congrFun (V_stack m c) i).trans (Eq.symm ?_)
    exact dif_neg (show ¬(i 1).val < 2816 by omega)

end Cert.Kernel12Ideal.Grad

namespace Cert.FfnUpG0

open Cert.Kernel12Ideal.Grad
open Cert.Reference12Ideal Cert.Reference12Ideal.Read
open Idealize.ShloMosaic hiding ix2 ix3
open Idealize.ShloMosaic.TcCoe Idealize.ShloMosaic.ValueIdx
open Idealize.SL.Sem
open Cert.GradSum Cert.Product
open scoped BigOperators

/-! # The reference is the same, and the claims -/

/-- The reference's product over the batch and the positions. -/
theorem reference_dot (x0 : Vec Ideal S2x2048x1024 .f32) (x2 : Vec Ideal S2x2048x2816 .f32) (p : Fin 2816) (q : Fin 1024) :
    val_main_v2 (F := Ideal) x0 x2 (ix2 p q) = gradAt x2 x0 p q := by
  exact dot_rows_grad (M := 2816) (N := 1024) none _ _ x2 x0 p q

/-- The gradient, transposed back. -/
theorem reference_grad (x0 : Vec Ideal S2x2048x1024 .f32) (x2 : Vec Ideal S2x2048x2816 .f32) (p : Fin 2816) (q : Fin 1024) :
    val_main_v4 (F := Ideal) x0 x2 (ix2 p q) = gradAt x2 x0 p q := by
  rw [val_main_v4_apply, val_main_v3_apply]
  refine Eq.trans ?_ (reference_dot x0 x2 p q)
  refine congrArg (val_main_v2 (F := Ideal) x0 x2) (funext fun a => ?_)
  match a with
  | ⟨0, _⟩ => rfl
  | ⟨1, _⟩ => rfl

/-- The half of the stack's rows that stays. -/
theorem reference_kept (x3 : Vec Ideal S1x5632x1024 .f32) (p : Fin 2816) (q : Fin 1024) :
    val_main_v6 (F := Ideal) x3 (ix2 p q) = x3 (ix3 0 ⟨2816 + p.val, by omega⟩ q) := by
  rw [val_main_v6_apply, val_main_v5_apply]
  refine congrArg x3 (funext fun a => Fin.ext ?_)
  match a with
  | ⟨0, _⟩ => rfl
  | ⟨1, _⟩ => show 2816 + (p.val * 1024 + q.val) / 1024 % 2816 = 2816 + p.val; omega
  | ⟨2, _⟩ => show (p.val * 1024 + q.val) % 1024 = q.val; omega

theorem reference_apply (x0 : Vec Ideal S2x2048x1024 .f32) (x2 : Vec Ideal S2x2048x2816 .f32) (x3 : Vec Ideal S1x5632x1024 .f32) :
    val_main_v8 (F := Ideal) x0 x2 x3 = grad x2 x0 x3 := by
  funext i
  have h0 : (i 0).val < 1 := (i 0).isLt
  have h1 : (i 1).val < 5632 := (i 1).isLt
  rw [val_main_v8_apply]
  unfold val_main_v7 grad
  by_cases h : (i 1).val < 2816
  · refine Eq.trans ?_ (dif_pos h).symm
    refine (concatenate_pair_apply_left (t := S5632x1024) (s₁ := S2816x1024) (s₂ := S2816x1024) 0 _ _ _ (idx_main_v8 i) rfl (ix2 ⟨(i 1).val, h⟩ (i 2) : S2816x1024.Idx) fun b => match b with | ⟨0, _⟩ => rfl | ⟨1, _⟩ => rfl).trans ?_
    exact reference_grad x0 x2 ⟨(i 1).val, h⟩ (i 2)
  · refine Eq.trans ?_ (dif_neg h).symm
    refine (concatenate_pair_apply_right (t := S5632x1024) (s₁ := S2816x1024) (s₂ := S2816x1024) 0 _ _ _ (idx_main_v8 i) rfl rfl (ix2 ⟨(i 1).val - 2816, by omega⟩ (i 2) : S2816x1024.Idx)
      (fun b hb => match b, hb with | ⟨0, _⟩, hb => absurd rfl hb | ⟨1, _⟩, _ => rfl) (show (i 1).val - 2816 + 2816 = (i 1).val by omega)).trans ?_
    refine (reference_kept x3 ⟨(i 1).val - 2816, by omega⟩ (i 2)).trans (congrArg x3 (funext fun a => Fin.ext ?_))
    match a with
    | ⟨0, _⟩ => show 0 = (i 0).val; omega
    | ⟨1, _⟩ => show 2816 + ((i 1).val - 2816) = (i 1).val; omega
    | ⟨2, _⟩ => rfl

theorem quiescent_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic : Cert.algebraic_Kernel12Ideal_Reference12Ideal := by
  intro m ρ m' ρ' _ hagree
  refine ⟨_, Cert.Kernel12Ideal.Value.run_blocks m ρ, ?_⟩
  refine (θ_run Cert.Reference12Ideal.defs _ _).mono (fun _ h c => ⟨?_, (h c).2⟩) (Cert.Reference12Ideal.Value.run (F := Ideal) m' ρ')
  rw [(h c).1]
  refine (val_main_v8_eq _ _ _).trans ?_
  simp only [hagree c]
  exact (reference_apply _ _ _).trans (final m c).symm

end Cert.FfnUpG0

end
-- ==== Proof.FfnUpG1.lean ====
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel13Ideal.Grad

open Cert.Kernel13Ideal Cert.Kernel13Ideal.Gen
open Idealize.ShloMosaic hiding ix2 ix3
open Idealize.ShloMosaic.TcCoe Idealize.ShloMosaic.ValueIdx Idealize.ShloMosaic.Tactic
open Idealize.SL.Sem
open Cert.GradSum Cert.Product
open scoped BigOperators

/-! # The gradient of the up projection's second half, into the stack -/

/-- The stack of one layer: the gradient in the second half of its rows, the rest as it was. -/
def grad (l : Vec Ideal S2x2048x2816 .f32) (r : Vec Ideal S2x2048x1024 .f32) (g : Vec Ideal S1x5632x1024 .f32) : Vec Ideal S1x5632x1024 .f32 := fun i =>
  if h : (i 1).val < 2816 then g i else gradAt l r ⟨(i 1).val - 2816, by have h1 : (i 1).val < 5632 := (i 1).isLt; omega⟩ (i 2)

variable (m : (ℓ : Loc nD τ sig) → Buf (Elt Ideal) ℓ) (c : Dev nD)

abbrev lArg : Vec Ideal S2x2048x2816 .f32 := m ((c.tc : Thread nD τ).loc main_arg2)
abbrev rArg : Vec Ideal S2x2048x1024 .f32 := m ((c.tc : Thread nD τ).loc main_arg0)
abbrev gArg : Vec Ideal S1x5632x1024 .f32 := m ((c.tc : Thread nD τ).loc main_arg3)

/-- The rows the first window stages. -/
theorem V_left (n : Fin 4096) (k : Fin 2816) : (V m c main_v0 : Vec Ideal S4096x2816 .f32) (ix2 n k)
    = lArg m c (rowIx n k) := by
  have e : (V m c main_v0 : Vec Ideal S4096x2816 .f32) = shapeCast S4096x2816 (lArg m c) shapeCasts_S2x2048x2816_S4096x2816 := by
    entry_read
    rfl
  exact (congrFun e _).trans (rows_cast _ _ _ _)

/-- The rows the second window stages. -/
theorem V_right (n : Fin 4096) (k : Fin 1024) : (V m c main_v2 : Vec Ideal S4096x1024 .bf16) (ix2 n k)
    = rArg m c (rowIx n k) := by
  have e : (V m c main_v2 : Vec Ideal S4096x1024 .bf16) = (shapeCast S4096x1024 (rArg m c) shapeCasts_S2x2048x1024_S4096x1024 : FVec Ideal S4096x1024 .f32) := by
    entry_read
    rfl
  exact (congrFun e _).trans (rows_cast _ _ _ _)

/-- The stack the result's array starts as. -/
theorem V_stack : (V m c main_v3 : Vec Ideal S1x5632x1024 .f32) = gArg m c := by
  entry_read
  rfl

theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![0, 2 + t.val / 4, 0] := by decide +kernel

/-- One step's product, in the arrays: step `b` of column block `j` takes rows `1024 b` to `1024 b + 1023`. -/
theorem block_apply (t : Fin cfg0.N) (j : Fin 2) (b : Fin 4) (h : t.val = 4 * j.val + b.val) (p : Fin 1408) (q : Fin 1024) :
    k0_pay1 (iblk m c 0 t) (iblk m c 1 t) (ix2 p q) = stepAt (lArg m c) (rArg m c) b ⟨1408 * j.val + p.val, by omega⟩ q := by
  unfold k0_pay1
  refine mul_step (lArg m c) (rArg m c) _ _ _ _ _ _ p q (fun k n hn => ?_) fun k n hn => ?_
  · refine (shapeCast_apply (iblk m c 0 t : Vec Ideal S1024x1408 .f32) _ (ix2 k p) (ix2 k p) rfl).trans ?_
    exact (congrArg (V m c main_v0 : Vec Ideal S4096x2816 .f32) (at2 1024 1408 k.val p.val (index0 t) rfl rfl (by omega) (by dsimp; omega))).trans (V_left m c n _)
  · refine (shapeCast_apply (iblk m c 1 t : Vec Ideal S1024x1024 .bf16) _ (ix2 k q) (ix2 k q) rfl).trans ?_
    exact (congrArg (V m c main_v2 : Vec Ideal S4096x1024 .bf16) (at2 1024 1024 k.val q.val (index1 t) rfl rfl (by omega) (by omega))).trans (V_right m c n q)

/-- What the first step of a block of columns leaves in the scratch: its product. -/
theorem scratch_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- What the second and the third step leave in the scratch: the carried sum and their product. -/
theorem scratch_next (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  frame_out
  try simp only [read_unread_whole]

/-- What the last step leaves in the output's staging buffer: the carried sum and its product. -/
theorem output_last (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  frame_out
  try simp only [read_unread_whole]

/-- What the last step writes is the gradient's block. -/
theorem last_apply (j : Fin 2) (h : 4 * j.val + 3 < cfg0.N) (p : Fin 1408) (q : Fin 1024) :
    (outsAt0 m c (4 * j.val + 3) h).1 (ix3 0 p q) = gradAt (lArg m c) (rArg m c) ⟨1408 * j.val + p.val, by omega⟩ q := by
  have hb : ∀ b : Fin 4, 4 * j.val + b.val < cfg0.N := fun b => by omega
  have hm : ∀ b : Fin 4, (4 * j.val + b.val) % 4 = b.val := fun b => by omega
  exact of_steps _ _ _ _ (fun b => k0_pay1 (iblk m c 0 ⟨_, hb b⟩) (iblk m c 1 ⟨_, hb b⟩)) shapeCasts_S1408x1024_S1408x1024 shapeCasts_S1408x1024_S1x1408x1024
    (scratch_first m c ⟨_, hb 0⟩ (hm 0)) (scratch_next m c ⟨_, hb 1⟩ (by rw [hm]; decide)) (scratch_next m c ⟨_, hb 2⟩ (by rw [hm]; decide))
    (output_last m c ⟨_, hb 3⟩ (hm 3)) p q fun b => block_apply m c ⟨_, hb b⟩ j b rfl p q

/-- What the run writes is the stack's at the rows it writes. -/
theorem written (t : Fin cfg0.N) (hf : (cfg0.win 2).flush t = true) (y : ((cfg0.win 2).xblock (cfg0.grid.coords t)).Idx) :
    _root_.cast (congrArg (Elt Ideal) ((cfg0.win 2).blk t).view.elt_eq.symm) ((dats m 0 c).after 2 t ((cfg0.win 2).xinj (cfg0.grid.coords t) y))
      = (grad (lArg m c) (rArg m c) (gArg m c) : Buf (Elt Ideal) ((cfg0.win 2).arr.view.loc (c.tc : Thread nD τ))) (((cfg0.win 2).blk t).view.emb y) := by
  blk_simp
  rw [after0_2]
  have h2 : t.val % 4 = 3 := (flush0_2 t).mp hf
  have ht : t.val < 8 := lt_of_lt_of_eq t.isLt N_0
  obtain ⟨p, q, rfl⟩ := exists_ix3 y
  obtain ⟨j, hj⟩ : ∃ j : Fin 2, t.val = 4 * j.val + 3 := ⟨⟨t.val / 4, by omega⟩, by show t.val = 4 * (t.val / 4) + 3; omega⟩
  rw [show ((View.whole main_v3).slice (win0_2.rect t)).emb (ix3 0 p q : S1x1408x1024.Idx)
      = (ix3 0 ⟨2816 + (1408 * j.val + p.val), by omega⟩ q : S1x5632x1024.Idx) from at3 1408 1024 p.val q.val (index2 t) rfl rfl (by dsimp; omega) (by omega)]
  obtain ⟨n, hn⟩ := t
  obtain rfl : n = 4 * j.val + 3 := hj
  refine (last_apply m c j hn p q).trans (Eq.symm ?_)
  refine (dif_neg (show ¬2816 + (1408 * j.val + p.val) < 2816 by omega)).trans ?_
  exact congrArg (gradAt (lArg m c) (rArg m c) · q) (Fin.ext (show 2816 + (1408 * j.val + p.val) - 2816 = 1408 * j.val + p.val by omega))

theorem final : (dats m 0 c).arrAt 2 cfg0.N = grad (lArg m c) (rArg m c) (gArg m c) := by
  refine ((dats m 0 c).arrAt_eq_of_coversWhere 2 _ (fun β => 2 ≤ β (1 : Fin _)) (by decide +kernel)
    (P := fun i : S1x5632x1024.Idx => 2 ≤ (i 1).val / 1408) (written m c) (fun j => Iff.rfl)).trans ?_
  funext i
  have h1 : (i 1).val < 5632 := (i 1).isLt
  by_cases hi : 2 ≤ (i 1).val / 1408
  · exact if_pos hi
  · refine (if_neg hi).trans ?_
    refine (congrFun (V_stack m c) i).trans (Eq.symm ?_)
    exact dif_pos (show (i 1).val < 2816 by omega)

end Cert.Kernel13Ideal.Grad

namespace Cert.FfnUpG1

open Cert.Kernel13Ideal.Grad
open Cert.Reference13Ideal Cert.Reference13Ideal.Read
open Idealize.ShloMosaic hiding ix2 ix3
open Idealize.ShloMosaic.TcCoe Idealize.ShloMosaic.ValueIdx
open Idealize.SL.Sem
open Cert.GradSum Cert.Product
open scoped BigOperators

/-! # The reference is the same, and the claims -/

/-- The reference's product over the batch and the positions. -/
theorem reference_dot (x0 : Vec Ideal S2x2048x1024 .f32) (x2 : Vec Ideal S2x2048x2816 .f32) (p : Fin 2816) (q : Fin 1024) :
    val_main_v2 (F := Ideal) x0 x2 (ix2 p q) = gradAt x2 x0 p q := by
  exact dot_rows_grad (M := 2816) (N := 1024) none _ _ x2 x0 p q

/-- The gradient, transposed back. -/
theorem reference_grad (x0 : Vec Ideal S2x2048x1024 .f32) (x2 : Vec Ideal S2x2048x2816 .f32) (p : Fin 2816) (q : Fin 1024) :
    val_main_v6 (F := Ideal) x0 x2 (ix2 p q) = gradAt x2 x0 p q := by
  rw [val_main_v6_apply, val_main_v3_apply]
  refine Eq.trans ?_ (reference_dot x0 x2 p q)
  refine congrArg (val_main_v2 (F := Ideal) x0 x2) (funext fun a => ?_)
  match a with
  | ⟨0, _⟩ => rfl
  | ⟨1, _⟩ => rfl

/-- The half of the stack's rows that stays. -/
theorem reference_kept (x3 : Vec Ideal S1x5632x1024 .f32) (p : Fin 2816) (q : Fin 1024) :
    val_main_v5 (F := Ideal) x3 (ix2 p q) = x3 (ix3 0 ⟨0 + p.val, by omega⟩ q) := by
  rw [val_main_v5_apply, val_main_v4_apply]
  refine congrArg x3 (funext fun a => Fin.ext ?_)
  match a with
  | ⟨0, _⟩ => rfl
  | ⟨1, _⟩ => show (p.val * 1024 + q.val) / 1024 % 2816 = 0 + p.val; omega
  | ⟨2, _⟩ => show (p.val * 1024 + q.val) % 1024 = q.val; omega

theorem reference_apply (x0 : Vec Ideal S2x2048x1024 .f32) (x2 : Vec Ideal S2x2048x2816 .f32) (x3 : Vec Ideal S1x5632x1024 .f32) :
    val_main_v8 (F := Ideal) x0 x2 x3 = grad x2 x0 x3 := by
  funext i
  have h0 : (i 0).val < 1 := (i 0).isLt
  have h1 : (i 1).val < 5632 := (i 1).isLt
  rw [val_main_v8_apply]
  unfold val_main_v7 grad
  by_cases h : (i 1).val < 2816
  · refine Eq.trans ?_ (dif_pos h).symm
    refine (concatenate_pair_apply_left (t := S5632x1024) (s₁ := S2816x1024) (s₂ := S2816x1024) 0 _ _ _ (idx_main_v8 i) rfl (ix2 ⟨(i 1).val, h⟩ (i 2) : S2816x1024.Idx) fun b => match b with | ⟨0, _⟩ => rfl | ⟨1, _⟩ => rfl).trans ?_
    refine (reference_kept x3 ⟨(i 1).val, h⟩ (i 2)).trans (congrArg x3 (funext fun a => Fin.ext ?_))
    match a with
    | ⟨0, _⟩ => show 0 = (i 0).val; omega
    | ⟨1, _⟩ => show 0 + (i 1).val = (i 1).val; omega
    | ⟨2, _⟩ => rfl
  · refine Eq.trans ?_ (dif_neg h).symm
    refine (concatenate_pair_apply_right (t := S5632x1024) (s₁ := S2816x1024) (s₂ := S2816x1024) 0 _ _ _ (idx_main_v8 i) rfl rfl (ix2 ⟨(i 1).val - 2816, by omega⟩ (i 2) : S2816x1024.Idx)
      (fun b hb => match b, hb with | ⟨0, _⟩, hb => absurd rfl hb | ⟨1, _⟩, _ => rfl) (show (i 1).val - 2816 + 2816 = (i 1).val by omega)).trans ?_
    exact reference_grad x0 x2 ⟨(i 1).val - 2816, by omega⟩ (i 2)

theorem quiescent_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic : Cert.algebraic_Kernel13Ideal_Reference13Ideal := by
  intro m ρ m' ρ' _ hagree
  refine ⟨_, Cert.Kernel13Ideal.Value.run_blocks m ρ, ?_⟩
  refine (θ_run Cert.Reference13Ideal.defs _ _).mono (fun _ h c => ⟨?_, (h c).2⟩) (Cert.Reference13Ideal.Value.run (F := Ideal) m' ρ')
  rw [(h c).1]
  refine (val_main_v8_eq _ _ _).trans ?_
  simp only [hagree c]
  exact (reference_apply _ _ _).trans (final m c).symm

end Cert.FfnUpG1

end
-- ==== Proof.AbInG.lean ====
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel14Ideal.Grad

open Cert.Kernel14Ideal Cert.Kernel14Ideal.Gen
open Idealize.ShloMosaic hiding ix2 ix3
open Idealize.ShloMosaic.TcCoe Idealize.ShloMosaic.ValueIdx Idealize.ShloMosaic.Tactic
open Idealize.SL.Sem
open Cert.GradSum Cert.Product
open scoped BigOperators

/-! # The gradient of the mixer's input projection -/

/-- The whole gradient, a stack of one layer. -/
def grad (l : Vec Ideal S2x2048x3584 .f32) (r : Vec Ideal S2x2048x1024 .f32) : Vec Ideal S1x3584x1024 .f32 := fun i => gradAt l r (i 1) (i 2)

variable (m : (ℓ : Loc nD τ sig) → Buf (Elt Ideal) ℓ) (c : Dev nD)

abbrev lArg : Vec Ideal S2x2048x3584 .f32 := m ((c.tc : Thread nD τ).loc main_arg2)
abbrev rArg : Vec Ideal S2x2048x1024 .f32 := m ((c.tc : Thread nD τ).loc main_arg0)

/-- The rows the first window stages. -/
theorem V_left (n : Fin 4096) (k : Fin 3584) : (V m c main_v0 : Vec Ideal S4096x3584 .f32) (ix2 n k)
    = lArg m c (rowIx n k) := by
  have e : (V m c main_v0 : Vec Ideal S4096x3584 .f32) = shapeCast S4096x3584 (lArg m c) shapeCasts_S2x2048x3584_S4096x3584 := by
    entry_read
    rfl
  exact (congrFun e _).trans (rows_cast _ _ _ _)

/-- The rows the second window stages. -/
theorem V_right (n : Fin 4096) (k : Fin 1024) : (V m c main_v2 : Vec Ideal S4096x1024 .bf16) (ix2 n k)
    = rArg m c (rowIx n k) := by
  have e : (V m c main_v2 : Vec Ideal S4096x1024 .bf16) = (shapeCast S4096x1024 (rArg m c) shapeCasts_S2x2048x1024_S4096x1024 : FVec Ideal S4096x1024 .f32) := by
    entry_read
    rfl
  exact (congrFun e _).trans (rows_cast _ _ _ _)

theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![0, t.val / 4, 0] := by decide +kernel

/-- One step's product, in the arrays: step `b` of column block `j` takes rows `1024 b` to `1024 b + 1023`. -/
theorem block_apply (t : Fin cfg0.N) (j : Fin 4) (b : Fin 4) (h : t.val = 4 * j.val + b.val) (p : Fin 896) (q : Fin 1024) :
    k0_pay1 (iblk m c 0 t) (iblk m c 1 t) (ix2 p q) = stepAt (lArg m c) (rArg m c) b ⟨896 * j.val + p.val, by omega⟩ q := by
  unfold k0_pay1
  refine mul_step (lArg m c) (rArg m c) _ _ _ _ _ _ p q (fun k n hn => ?_) fun k n hn => ?_
  · refine (shapeCast_apply (iblk m c 0 t : Vec Ideal S1024x896 .f32) _ (ix2 k p) (ix2 k p) rfl).trans ?_
    exact (congrArg (V m c main_v0 : Vec Ideal S4096x3584 .f32) (at2 1024 896 k.val p.val (index0 t) rfl rfl (by omega) (by dsimp; omega))).trans (V_left m c n _)
  · refine (shapeCast_apply (iblk m c 1 t : Vec Ideal S1024x1024 .bf16) _ (ix2 k q) (ix2 k q) rfl).trans ?_
    exact (congrArg (V m c main_v2 : Vec Ideal S4096x1024 .bf16) (at2 1024 1024 k.val q.val (index1 t) rfl rfl (by omega) (by omega))).trans (V_right m c n q)

/-- What the first step of a block of columns leaves in the scratch: its product. -/
theorem scratch_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- What the second and the third step leave in the scratch: the carried sum and their product. -/
theorem scratch_next (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  frame_out
  try simp only [read_unread_whole]

/-- What the last step leaves in the output's staging buffer: the carried sum and its product. -/
theorem output_last (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  frame_out
  try simp only [read_unread_whole]

/-- What the last step writes is the gradient's block. -/
theorem last_apply (j : Fin 4) (h : 4 * j.val + 3 < cfg0.N) (p : Fin 896) (q : Fin 1024) :
    (outsAt0 m c (4 * j.val + 3) h).1 (ix3 0 p q) = gradAt (lArg m c) (rArg m c) ⟨896 * j.val + p.val, by omega⟩ q := by
  have hb : ∀ b : Fin 4, 4 * j.val + b.val < cfg0.N := fun b => by omega
  have hm : ∀ b : Fin 4, (4 * j.val + b.val) % 4 = b.val := fun b => by omega
  exact of_steps _ _ _ _ (fun b => k0_pay1 (iblk m c 0 ⟨_, hb b⟩) (iblk m c 1 ⟨_, hb b⟩)) shapeCasts_S896x1024_S896x1024 shapeCasts_S896x1024_S1x896x1024
    (scratch_first m c ⟨_, hb 0⟩ (hm 0)) (scratch_next m c ⟨_, hb 1⟩ (by rw [hm]; decide)) (scratch_next m c ⟨_, hb 2⟩ (by rw [hm]; decide))
    (output_last m c ⟨_, hb 3⟩ (hm 3)) p q fun b => block_apply m c ⟨_, hb b⟩ j b rfl p q

theorem final : (dats m 0 c).arrAt 2 cfg0.N = grad (lArg m c) (rArg m c) := by
  refine (dats m 0 c).arrAt_eq_of_covers 2 _ (by decide +kernel) fun t hf y => ?_
  blk_simp
  rw [after0_2]
  have h2 : t.val % 4 = 3 := (flush0_2 t).mp hf
  have ht : t.val < 16 := lt_of_lt_of_eq t.isLt N_0
  obtain ⟨p, q, rfl⟩ := exists_ix3 y
  obtain ⟨j, hj⟩ : ∃ j : Fin 4, t.val = 4 * j.val + 3 := ⟨⟨t.val / 4, by omega⟩, by show t.val = 4 * (t.val / 4) + 3; omega⟩
  rw [show ((View.whole main_v3).slice (win0_2.rect t)).emb (ix3 0 p q : S1x896x1024.Idx)
      = (ix3 0 ⟨896 * j.val + p.val, by omega⟩ q : S1x3584x1024.Idx) from at3 896 1024 p.val q.val (index2 t) rfl rfl (by dsimp; omega) (by omega)]
  obtain ⟨n, hn⟩ := t
  obtain rfl : n = 4 * j.val + 3 := hj
  exact last_apply m c j hn p q

end Cert.Kernel14Ideal.Grad

namespace Cert.AbInG

open Cert.Kernel14Ideal.Grad
open Cert.Reference14Ideal Cert.Reference14Ideal.Read
open Idealize.ShloMosaic hiding ix2 ix3
open Idealize.ShloMosaic.TcCoe Idealize.ShloMosaic.ValueIdx
open Idealize.SL.Sem
open Cert.GradSum Cert.Product
open scoped BigOperators

/-! # The reference is the same, and the claims -/

/-- The reference's product over the batch and the positions. -/
theorem reference_dot (x0 : Vec Ideal S2x2048x1024 .f32) (x2 : Vec Ideal S2x2048x3584 .f32) (p : Fin 3584) (q : Fin 1024) :
    val_main_v1 (F := Ideal) x0 x2 (ix2 p q) = gradAt x2 x0 p q := by
  exact dot_rows_grad (M := 3584) (N := 1024) none _ _ x2 x0 p q

theorem reference_apply (x0 : Vec Ideal S2x2048x1024 .f32) (x2 : Vec Ideal S2x2048x3584 .f32) :
    val_main_v4 (F := Ideal) x0 x2 = grad x2 x0 := by
  funext i
  rw [val_main_v4_apply, val_main_v3_apply, val_main_v2_apply]
  refine Eq.trans ?_ (reference_dot x0 x2 (i 1) (i 2))
  refine congrArg (val_main_v1 (F := Ideal) x0 x2) (funext fun a => ?_)
  match a with
  | ⟨0, _⟩ => rfl
  | ⟨1, _⟩ => rfl

theorem quiescent_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic : Cert.algebraic_Kernel14Ideal_Reference14Ideal := by
  intro m ρ m' ρ' _ hagree
  refine ⟨_, Cert.Kernel14Ideal.Value.run_blocks m ρ, ?_⟩
  refine (θ_run Cert.Reference14Ideal.defs _ _).mono (fun _ h c => ⟨?_, (h c).2⟩) (Cert.Reference14Ideal.Value.run (F := Ideal) m' ρ')
  rw [(h c).1]
  simp only [hagree c]
  exact ((val_main_v4_eq _ _).trans (reference_apply _ _)).trans (final m c).symm

end Cert.AbInG

end
-- ==== Proof.OutG.lean ====
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel15Ideal.Grad

open Cert.Kernel15Ideal Cert.Kernel15Ideal.Gen
open Idealize.ShloMosaic hiding ix2 ix3
open Idealize.ShloMosaic.TcCoe Idealize.ShloMosaic.ValueIdx Idealize.ShloMosaic.Tactic
open Idealize.SL.Sem
open Cert.GradSum Cert.Product
open scoped BigOperators

/-! # The gradient of the output projection: the heads' outputs' transpose times `dy` -/

/-- The whole gradient, a stack of one layer. -/
def grad (l : Vec Ideal S2x2048x1024 .f32) (r : Vec Ideal S2x2048x1024 .f32) : Vec Ideal S1x1024x1024 .f32 := fun i => gradAt l r (i 1) (i 2)

variable (m : (ℓ : Loc nD τ sig) → Buf (Elt Ideal) ℓ) (c : Dev nD)

abbrev lArg : Vec Ideal S2x2048x1024 .f32 := m ((c.tc : Thread nD τ).loc main_arg0)
abbrev rArg : Vec Ideal S2x2048x1024 .f32 := m ((c.tc : Thread nD τ).loc main_arg2)

/-- The rows the first window stages. -/
theorem V_left (n : Fin 4096) (k : Fin 1024) : (V m c main_v1 : Vec Ideal S4096x1024 .bf16) (ix2 n k)
    = lArg m c (rowIx n k) := by
  have e : (V m c main_v1 : Vec Ideal S4096x1024 .bf16) = (shapeCast S4096x1024 (lArg m c) shapeCasts_S2x2048x1024_S4096x1024 : FVec Ideal S4096x1024 .f32) := by
    entry_read
    rfl
  exact (congrFun e _).trans (rows_cast _ _ _ _)

/-- The rows the second window stages. -/
theorem V_right (n : Fin 4096) (k : Fin 1024) : (V m c main_v2 : Vec Ideal S4096x1024 .f32) (ix2 n k)
    = rArg m c (rowIx n k) := by
  have e : (V m c main_v2 : Vec Ideal S4096x1024 .f32) = shapeCast S4096x1024 (rArg m c) shapeCasts_S2x2048x1024_S4096x1024 := by
    entry_read
    rfl
  exact (congrFun e _).trans (rows_cast _ _ _ _)

theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![0, t.val / 4, 0] := by decide +kernel

/-- One step's product, in the arrays: step `b` of column block `j` takes rows `1024 b` to `1024 b + 1023`. -/
theorem block_apply (t : Fin cfg0.N) (j : Fin 1) (b : Fin 4) (h : t.val = 4 * j.val + b.val) (p : Fin 1024) (q : Fin 1024) :
    k0_pay1 (iblk m c 0 t) (iblk m c 1 t) (ix2 p q) = stepAt (lArg m c) (rArg m c) b ⟨1024 * j.val + p.val, by omega⟩ q := by
  unfold k0_pay1
  refine mul_step (lArg m c) (rArg m c) _ _ _ _ _ _ p q (fun k n hn => ?_) fun k n hn => ?_
  · refine (shapeCast_apply (iblk m c 0 t : Vec Ideal S1024x1024 .bf16) _ (ix2 k p) (ix2 k p) rfl).trans ?_
    exact (congrArg (V m c main_v1 : Vec Ideal S4096x1024 .bf16) (at2 1024 1024 k.val p.val (index0 t) rfl rfl (by omega) (by dsimp; omega))).trans (V_left m c n _)
  · refine (shapeCast_apply (iblk m c 1 t : Vec Ideal S1024x1024 .f32) _ (ix2 k q) (ix2 k q) rfl).trans ?_
    exact (congrArg (V m c main_v2 : Vec Ideal S4096x1024 .f32) (at2 1024 1024 k.val q.val (index1 t) rfl rfl (by omega) (by omega))).trans (V_right m c n q)

/-- What the first step of a block of columns leaves in the scratch: its product. -/
theorem scratch_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- What the second and the third step leave in the scratch: the carried sum and their product. -/
theorem scratch_next (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  frame_out
  try simp only [read_unread_whole]

/-- What the last step leaves in the output's staging buffer: the carried sum and its product. -/
theorem output_last (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  frame_out
  try simp only [read_unread_whole]

/-- What the last step writes is the gradient's block. -/
theorem last_apply (j : Fin 1) (h : 4 * j.val + 3 < cfg0.N) (p : Fin 1024) (q : Fin 1024) :
    (outsAt0 m c (4 * j.val + 3) h).1 (ix3 0 p q) = gradAt (lArg m c) (rArg m c) ⟨1024 * j.val + p.val, by omega⟩ q := by
  have hb : ∀ b : Fin 4, 4 * j.val + b.val < cfg0.N := fun b => by omega
  have hm : ∀ b : Fin 4, (4 * j.val + b.val) % 4 = b.val := fun b => by omega
  exact of_steps _ _ _ _ (fun b => k0_pay1 (iblk m c 0 ⟨_, hb b⟩) (iblk m c 1 ⟨_, hb b⟩)) shapeCasts_S1024x1024_S1024x1024 shapeCasts_S1024x1024_S1x1024x1024
    (scratch_first m c ⟨_, hb 0⟩ (hm 0)) (scratch_next m c ⟨_, hb 1⟩ (by rw [hm]; decide)) (scratch_next m c ⟨_, hb 2⟩ (by rw [hm]; decide))
    (output_last m c ⟨_, hb 3⟩ (hm 3)) p q fun b => block_apply m c ⟨_, hb b⟩ j b rfl p q

theorem final : (dats m 0 c).arrAt 2 cfg0.N = grad (lArg m c) (rArg m c) := by
  refine (dats m 0 c).arrAt_eq_of_covers 2 _ (by decide +kernel) fun t hf y => ?_
  blk_simp
  rw [after0_2]
  have h2 : t.val % 4 = 3 := (flush0_2 t).mp hf
  have ht : t.val < 4 := lt_of_lt_of_eq t.isLt N_0
  obtain ⟨p, q, rfl⟩ := exists_ix3 y
  obtain ⟨j, hj⟩ : ∃ j : Fin 1, t.val = 4 * j.val + 3 := ⟨⟨t.val / 4, by omega⟩, by show t.val = 4 * (t.val / 4) + 3; omega⟩
  rw [show ((View.whole main_v3).slice (win0_2.rect t)).emb (ix3 0 p q : S1x1024x1024.Idx)
      = (ix3 0 ⟨1024 * j.val + p.val, by omega⟩ q : S1x1024x1024.Idx) from at3 1024 1024 p.val q.val (index2 t) rfl rfl (by dsimp; omega) (by omega)]
  obtain ⟨n, hn⟩ := t
  obtain rfl : n = 4 * j.val + 3 := hj
  exact last_apply m c j hn p q

end Cert.Kernel15Ideal.Grad

namespace Cert.OutG

open Cert.Kernel15Ideal.Grad
open Cert.Reference15Ideal Cert.Reference15Ideal.Read
open Idealize.ShloMosaic hiding ix2 ix3
open Idealize.ShloMosaic.TcCoe Idealize.ShloMosaic.ValueIdx
open Idealize.SL.Sem
open Cert.GradSum Cert.Product
open scoped BigOperators

/-! # The reference is the same, and the claims -/

/-- The reference's product over the batch and the positions. -/
theorem reference_dot (x0 : Vec Ideal S2x2048x1024 .f32) (x2 : Vec Ideal S2x2048x1024 .f32) (p : Fin 1024) (q : Fin 1024) :
    val_main_v1 (F := Ideal) x0 x2 (ix2 q p) = gradAt x0 x2 p q := by
  refine (dot_rows_apply (M := 1024) (N := 1024) none _ _ x2 x0 q p).trans ?_
  unfold gradAt termAt
  refine Eq.trans ?_ (sum_rows fun b s => (x0 (ix3 b s p) * x2 (ix3 b s q) : EReal)).symm
  refine Finset.sum_congr rfl fun b _ => Finset.sum_congr rfl fun s _ => mul_comm _ _

theorem reference_apply (x0 : Vec Ideal S2x2048x1024 .f32) (x2 : Vec Ideal S2x2048x1024 .f32) :
    val_main_v3 (F := Ideal) x0 x2 = grad x0 x2 := by
  funext i
  rw [val_main_v3_apply, val_main_v2_apply]
  refine Eq.trans ?_ (reference_dot x0 x2 (i 1) (i 2))
  refine congrArg (val_main_v1 (F := Ideal) x0 x2) (funext fun a => ?_)
  match a with
  | ⟨0, _⟩ => rfl
  | ⟨1, _⟩ => rfl

theorem quiescent_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨_, Cert.Kernel15Ideal.Value.run_blocks m ρ, ?_⟩
  refine (θ_run Cert.Reference15Ideal.defs _ _).mono (fun _ h c => ⟨?_, (h c).2⟩) (Cert.Reference15Ideal.Value.run (F := Ideal) m' ρ')
  rw [(h c).1]
  simp only [hagree c]
  exact ((val_main_v3_eq _ _).trans (reference_apply _ _)).trans (final m c).symm

end Cert.OutG

end
-- ==== Proof.CIn.lean ====
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Product
public import Idealize.ShloMosaic.Lib.Quiescent
public import Idealize.ShloMosaic.Lib.Pipeline.ValueKit

@[expose] public section

set_option maxRecDepth 16384

noncomputable section

namespace Cert.Kernel16Ideal.Proj

open Cert.Kernel16Ideal Cert.Kernel16Ideal.Gen
open Idealize.ShloMosaic hiding ix2 ix3
open Idealize.ShloMosaic.TcCoe Idealize.ShloMosaic.ValueIdx Idealize.ShloMosaic.Tactic
open Idealize.SL.Sem
open Cert.GradSum Cert.Product

/-! # The convolution mixer's input projection -/

/-- The whole result: row `r = 2048 b + s` of the two sequences times each column of the weight. -/
def proj (x : Vec Ideal S2x2048x1024 .f32) (w : Vec Ideal S1024x1536 .f32) : Vec Ideal S4096x1536 .f32 := fun i =>
  prodAt x (fun k => w (ix2 k (i 1))) (i 0)

variable (m : (ℓ : Loc nD τ sig) → Buf (Elt Ideal) ℓ) (c : Dev nD)

abbrev xArg : Vec Ideal S2x2048x1024 .f32 := m ((c.tc : Thread nD τ).loc main_arg0)
abbrev wArg : Vec Ideal S1024x1536 .f32 := m ((c.tc : Thread nD τ).loc main_arg1)

/-- The rows the first window stages. -/
theorem V_rows (r : Fin 4096) (k : Fin 1024) : (V m c main_v4 : Vec Ideal S4096x1024 .bf16) (ix2 r k)
    = xArg m c (rowIx r k) := by
  have e : (V m c main_v4 : Vec Ideal S4096x1024 .bf16) = (shapeCast S4096x1024 (xArg m c) shapeCasts_S2x2048x1024_S4096x1024 : FVec Ideal S4096x1024 .f32) := by
    entry_read
    rfl
  exact (congrFun e _).trans (rows_cast _ _ _ _)

/-- The weight the second window stages, at its one layer. -/
theorem V_weight (p : Fin 1536) (q : Fin 1024) : (V m c main_v2 : Vec Ideal S1x1536x1024 .bf16) (ix3 0 p q) = wArg m c (ix2 q p) := by
  have e : (V m c main_v2 : Vec Ideal S1x1536x1024 .bf16)
      = (transpose S1x1536x1024 [0, 2, 1] (broadcastInDim S1x1024x1536 ![1, 2] bcast_S1024x1536_S1x1024x1536_1_2 (wArg m c) : FVec Ideal S1x1024x1536 .f32) transposes_S1x1024x1536_S1x1536x1024_0_2_1 : FVec Ideal S1x1536x1024 .f32) := by
    entry_read
    rfl
  exact (congrFun e _).trans (layer_transposed_apply _ _ _ _ _)

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![t.val, 0] := by decide +kernel

theorem final : (dats m 0 c).arrAt 2 cfg0.N = proj (xArg m c) (wArg m c) := by
  refine (dats m 0 c).arrAt_eq_of_covers 2 _ (by decide +kernel) fun t hf y => ?_
  blk_simp
  rw [after0_2]
  frame_out
  have ht : t.val < 4 := lt_of_lt_of_eq t.isLt N_0
  obtain ⟨r, j, rfl⟩ := exists_ix2 y
  rw [show ((View.whole main_v5).slice (win0_2.rect t)).emb (ix2 r j : S1024x1536.Idx)
      = (ix2 ⟨t.val * 1024 + r.val, by omega⟩ j : S4096x1536.Idx) from at2 1024 1536 r.val j.val (index2 t) rfl rfl rfl (by omega)]
  unfold k0_pay1
  refine mulT_rows (xArg m c) _ _ _ _ _ _ r j (fun k => ?_) fun k => ?_
  · refine (shapeCast_apply (iblk m c 0 t : Vec Ideal S1024x1024 .bf16) _ (ix2 r k) (ix2 r k) rfl).trans ?_
    exact (congrArg (V m c main_v4 : Vec Ideal S4096x1024 .bf16) (at2 1024 1024 r.val k.val (index0 t) rfl rfl rfl (by omega))).trans (V_rows m c _ k)
  · exact (congrArg (V m c main_v2 : Vec Ideal S1x1536x1024 .bf16) (at3 1536 1024 j.val k.val (index1 t) rfl rfl (by omega) (by omega))).trans (V_weight m c j k)

end Cert.Kernel16Ideal.Proj

namespace Cert.CIn

open Cert.Kernel16Ideal.Proj
open Cert.Reference16Ideal Cert.Reference16Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (x : Vec Ideal S2x2048x1024 .f32) (w : Vec Ideal S1024x1536 .f32) :
    val_main_v1 (F := Ideal) x w = proj x w := by
  funext i
  obtain ⟨r, j, rfl⟩ := exists_ix2 i
  exact host_apply none _ _ x w _ r j

theorem quiescent_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic : Cert.algebraic_Kernel16Ideal_Reference16Ideal := by
  intro m ρ m' ρ' _ hagree
  refine ⟨_, Cert.Kernel16Ideal.Value.run_blocks m ρ, ?_⟩
  refine (θ_run Cert.Reference16Ideal.defs _ _).mono (fun _ h c => ⟨?_, (h c).2⟩) (Cert.Reference16Ideal.Value.run (F := Ideal) m' ρ')
  rw [(h c).1]
  simp only [hagree c]
  exact ((val_main_v1_eq _ _).trans (reference_apply _ _)).trans (final m c).symm

end Cert.CIn

end
-- ==== Proof.CInB.lean ====
module

public import proofs.«01_k».proof.Defs
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Product
public import Idealize.ShloMosaic.Lib.Quiescent
public import Idealize.ShloMosaic.Lib.Pipeline.ValueKit

@[expose] public section

set_option maxRecDepth 16384

noncomputable section

namespace Cert.Kernel17Ideal.Proj

open Cert.Kernel17Ideal Cert.Kernel17Ideal.Gen
open Idealize.ShloMosaic hiding ix2 ix3
open Idealize.ShloMosaic.TcCoe Idealize.ShloMosaic.ValueIdx Idealize.ShloMosaic.Tactic
open Idealize.SL.Sem
open Cert.GradSum Cert.Product

/-! # The gradient of the convolution mixer's input: `dproj` times the transposed input projection -/

/-- The whole result: row `r = 2048 b + s` of the two sequences times each row of the weight. -/
def dh (x : Vec Ideal S2x2048x1536 .f32) (w : Vec Ideal S1024x1536 .f32) : Vec Ideal S4096x1024 .f32 := fun i =>
  prodAt x (fun k => w (ix2 (i 1) k)) (i 0)

variable (m : (ℓ : Loc nD τ sig) → Buf (Elt Ideal) ℓ) (c : Dev nD)

abbrev xArg : Vec Ideal S2x2048x1536 .f32 := m ((c.tc : Thread nD τ).loc main_arg1)
abbrev wArg : Vec Ideal S1024x1536 .f32 := m ((c.tc : Thread nD τ).loc main_arg2)

/-- The rows the first window stages. -/
theorem V_rows (r : Fin 4096) (k : Fin 1536) : (V m c main_v3 : Vec Ideal S4096x1536 .f32) (ix2 r k)
    = xArg m c (rowIx r k) := by
  have e : (V m c main_v3 : Vec Ideal S4096x1536 .f32) = shapeCast S4096x1536 (xArg m c) shapeCasts_S2x2048x1536_S4096x1536 := by
    entry_read
    rfl
  exact (congrFun e _).trans (rows_cast _ _ _ _)

/-- The weight the second window stages, at its one layer. -/
theorem V_weight (p : Fin 1536) (q : Fin 1024) : (V m c main_v2 : Vec Ideal S1x1536x1024 .bf16) (ix3 0 p q) = wArg m c (ix2 q p) := by
  have e : (V m c main_v2 : Vec Ideal S1x1536x1024 .bf16)
      = (transpose S1x1536x1024 [0, 2, 1] (broadcastInDim S1x1024x1536 ![1, 2] bcast_S1024x1536_S1x1024x1536_1_2 (wArg m c) : FVec Ideal S1x1024x1536 .f32) transposes_S1x1024x1536_S1x1536x1024_0_2_1 : FVec Ideal S1x1536x1024 .f32) := by
    entry_read
    rfl
  exact (congrFun e _).trans (layer_transposed_apply _ _ _ _ _)

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![t.val, 0] := by decide +kernel

theorem final : (dats m 0 c).arrAt 2 cfg0.N = dh (xArg m c) (wArg m c) := by
  refine (dats m 0 c).arrAt_eq_of_covers 2 _ (by decide +kernel) fun t hf y => ?_
  blk_simp
  rw [after0_2]
  frame_out
  have ht : t.val < 4 := lt_of_lt_of_eq t.isLt N_0
  obtain ⟨r, j, rfl⟩ := exists_ix2 y
  rw [show ((View.whole main_v4).slice (win0_2.rect t)).emb (ix2 r j : S1024x1024.Idx)
      = (ix2 ⟨t.val * 1024 + r.val, by omega⟩ j : S4096x1024.Idx) from at2 1024 1024 r.val j.val (index2 t) rfl rfl rfl (by omega)]
  unfold k0_pay1
  refine mul_rows (xArg m c) _ _ _ _ _ _ r j (fun k => ?_) fun k => ?_
  · refine (shapeCast_apply (iblk m c 0 t : Vec Ideal S1024x1536 .f32) _ (ix2 r k) (ix2 r k) rfl).trans ?_
    exact (congrArg (V m c main_v3 : Vec Ideal S4096x1536 .f32) (at2 1024 1536 r.val k.val (index0 t) rfl rfl rfl (by omega))).trans (V_rows m c _ k)
  · exact (congrArg (V m c main_v2 : Vec Ideal S1x1536x1024 .bf16) (at3 1536 1024 k.val j.val (index1 t) rfl rfl (by omega) (by omega))).trans (V_weight m c k j)

end Cert.Kernel17Ideal.Proj

namespace Cert.CInB

open Cert.Kernel17Ideal.Proj
open Cert.Reference17Ideal Cert.Reference17Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (x : Vec Ideal S2x2048x1536 .f32) (w : Vec Ideal S1024x1536 .f32) :
    val_main_v2 (F := Ideal) x w = dh x w := by
  funext i
  obtain ⟨r, j, rfl⟩ := exists_ix2 i
  exact hostT_apply none _ _ x w _ r j

theorem quiescent_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic : Cert.algebraic_Kernel17Ideal_Reference17Ideal := by
  intro m ρ m' ρ' _ hagree
  refine ⟨_, Cert.Kernel17Ideal.Value.run_blocks m ρ, ?_⟩
  refine (θ_run Cert.Reference17Ideal.defs _ _).mono (fun _ h c => ⟨?_, (h c).2⟩) (Cert.Reference17Ideal.Value.run (F := Ideal) m' ρ')
  rw [(h c).1]
  simp only [hagree c]
  exact ((val_main_v2_eq _ _).trans (reference_apply _ _)).trans (final m c).symm

end Cert.CInB

end
-- ==== Proof.CInG.lean ====
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel18Ideal.Grad

open Cert.Kernel18Ideal Cert.Kernel18Ideal.Gen
open Idealize.ShloMosaic hiding ix2 ix3
open Idealize.ShloMosaic.TcCoe Idealize.ShloMosaic.ValueIdx Idealize.ShloMosaic.Tactic
open Idealize.SL.Sem
open Cert.GradSum Cert.Product
open scoped BigOperators

/-! # The gradient of the convolution mixer's input projection -/

/-- The whole gradient, a stack of one layer. -/
def grad (l : Vec Ideal S2x2048x1536 .f32) (r : Vec Ideal S2x2048x1024 .f32) : Vec Ideal S1x1536x1024 .f32 := fun i => gradAt l r (i 1) (i 2)

variable (m : (ℓ : Loc nD τ sig) → Buf (Elt Ideal) ℓ) (c : Dev nD)

abbrev lArg : Vec Ideal S2x2048x1536 .f32 := m ((c.tc : Thread nD τ).loc main_arg2)
abbrev rArg : Vec Ideal S2x2048x1024 .f32 := m ((c.tc : Thread nD τ).loc main_arg0)

/-- The rows the first window stages. -/
theorem V_left (n : Fin 4096) (k : Fin 1536) : (V m c main_v0 : Vec Ideal S4096x1536 .f32) (ix2 n k)
    = lArg m c (rowIx n k) := by
  have e : (V m c main_v0 : Vec Ideal S4096x1536 .f32) = shapeCast S4096x1536 (lArg m c) shapeCasts_S2x2048x1536_S4096x1536 := by
    entry_read
    rfl
  exact (congrFun e _).trans (rows_cast _ _ _ _)

/-- The rows the second window stages. -/
theorem V_right (n : Fin 4096) (k : Fin 1024) : (V m c main_v2 : Vec Ideal S4096x1024 .bf16) (ix2 n k)
    = rArg m c (rowIx n k) := by
  have e : (V m c main_v2 : Vec Ideal S4096x1024 .bf16) = (shapeCast S4096x1024 (rArg m c) shapeCasts_S2x2048x1024_S4096x1024 : FVec Ideal S4096x1024 .f32) := by
    entry_read
    rfl
  exact (congrFun e _).trans (rows_cast _ _ _ _)

theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![0, t.val / 4, 0] := by decide +kernel

/-- One step's product, in the arrays: step `b` of column block `j` takes rows `1024 b` to `1024 b + 1023`. -/
theorem block_apply (t : Fin cfg0.N) (j : Fin 2) (b : Fin 4) (h : t.val = 4 * j.val + b.val) (p : Fin 768) (q : Fin 1024) :
    k0_pay1 (iblk m c 0 t) (iblk m c 1 t) (ix2 p q) = stepAt (lArg m c) (rArg m c) b ⟨768 * j.val + p.val, by omega⟩ q := by
  unfold k0_pay1
  refine mul_step (lArg m c) (rArg m c) _ _ _ _ _ _ p q (fun k n hn => ?_) fun k n hn => ?_
  · refine (shapeCast_apply (iblk m c 0 t : Vec Ideal S1024x768 .f32) _ (ix2 k p) (ix2 k p) rfl).trans ?_
    exact (congrArg (V m c main_v0 : Vec Ideal S4096x1536 .f32) (at2 1024 768 k.val p.val (index0 t) rfl rfl (by omega) (by dsimp; omega))).trans (V_left m c n _)
  · refine (shapeCast_apply (iblk m c 1 t : Vec Ideal S1024x1024 .bf16) _ (ix2 k q) (ix2 k q) rfl).trans ?_
    exact (congrArg (V m c main_v2 : Vec Ideal S4096x1024 .bf16) (at2 1024 1024 k.val q.val (index1 t) rfl rfl (by omega) (by omega))).trans (V_right m c n q)

/-- What the first step of a block of columns leaves in the scratch: its product. -/
theorem scratch_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- What the second and the third step leave in the scratch: the carried sum and their product. -/
theorem scratch_next (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  frame_out
  try simp only [read_unread_whole]

/-- What the last step leaves in the output's staging buffer: the carried sum and its product. -/
theorem output_last (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  frame_out
  try simp only [read_unread_whole]

/-- What the last step writes is the gradient's block. -/
theorem last_apply (j : Fin 2) (h : 4 * j.val + 3 < cfg0.N) (p : Fin 768) (q : Fin 1024) :
    (outsAt0 m c (4 * j.val + 3) h).1 (ix3 0 p q) = gradAt (lArg m c) (rArg m c) ⟨768 * j.val + p.val, by omega⟩ q := by
  have hb : ∀ b : Fin 4, 4 * j.val + b.val < cfg0.N := fun b => by omega
  have hm : ∀ b : Fin 4, (4 * j.val + b.val) % 4 = b.val := fun b => by omega
  exact of_steps _ _ _ _ (fun b => k0_pay1 (iblk m c 0 ⟨_, hb b⟩) (iblk m c 1 ⟨_, hb b⟩)) shapeCasts_S768x1024_S768x1024 shapeCasts_S768x1024_S1x768x1024
    (scratch_first m c ⟨_, hb 0⟩ (hm 0)) (scratch_next m c ⟨_, hb 1⟩ (by rw [hm]; decide)) (scratch_next m c ⟨_, hb 2⟩ (by rw [hm]; decide))
    (output_last m c ⟨_, hb 3⟩ (hm 3)) p q fun b => block_apply m c ⟨_, hb b⟩ j b rfl p q

theorem final : (dats m 0 c).arrAt 2 cfg0.N = grad (lArg m c) (rArg m c) := by
  refine (dats m 0 c).arrAt_eq_of_covers 2 _ (by decide +kernel) fun t hf y => ?_
  blk_simp
  rw [after0_2]
  have h2 : t.val % 4 = 3 := (flush0_2 t).mp hf
  have ht : t.val < 8 := lt_of_lt_of_eq t.isLt N_0
  obtain ⟨p, q, rfl⟩ := exists_ix3 y
  obtain ⟨j, hj⟩ : ∃ j : Fin 2, t.val = 4 * j.val + 3 := ⟨⟨t.val / 4, by omega⟩, by show t.val = 4 * (t.val / 4) + 3; omega⟩
  rw [show ((View.whole main_v3).slice (win0_2.rect t)).emb (ix3 0 p q : S1x768x1024.Idx)
      = (ix3 0 ⟨768 * j.val + p.val, by omega⟩ q : S1x1536x1024.Idx) from at3 768 1024 p.val q.val (index2 t) rfl rfl (by dsimp; omega) (by omega)]
  obtain ⟨n, hn⟩ := t
  obtain rfl : n = 4 * j.val + 3 := hj
  exact last_apply m c j hn p q

end Cert.Kernel18Ideal.Grad

namespace Cert.CInG

open Cert.Kernel18Ideal.Grad
open Cert.Reference18Ideal Cert.Reference18Ideal.Read
open Idealize.ShloMosaic hiding ix2 ix3
open Idealize.ShloMosaic.TcCoe Idealize.ShloMosaic.ValueIdx
open Idealize.SL.Sem
open Cert.GradSum Cert.Product
open scoped BigOperators

/-! # The reference is the same, and the claims -/

/-- The reference's product over the batch and the positions. -/
theorem reference_dot (x0 : Vec Ideal S2x2048x1024 .f32) (x2 : Vec Ideal S2x2048x1536 .f32) (p : Fin 1536) (q : Fin 1024) :
    val_main_v1 (F := Ideal) x0 x2 (ix2 p q) = gradAt x2 x0 p q := by
  exact dot_rows_grad (M := 1536) (N := 1024) none _ _ x2 x0 p q

theorem reference_apply (x0 : Vec Ideal S2x2048x1024 .f32) (x2 : Vec Ideal S2x2048x1536 .f32) :
    val_main_v4 (F := Ideal) x0 x2 = grad x2 x0 := by
  funext i
  rw [val_main_v4_apply, val_main_v3_apply, val_main_v2_apply]
  refine Eq.trans ?_ (reference_dot x0 x2 (i 1) (i 2))
  refine congrArg (val_main_v1 (F := Ideal) x0 x2) (funext fun a => ?_)
  match a with
  | ⟨0, _⟩ => rfl
  | ⟨1, _⟩ => rfl

theorem quiescent_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic : Cert.algebraic_Kernel18Ideal_Reference18Ideal := by
  intro m ρ m' ρ' _ hagree
  refine ⟨_, Cert.Kernel18Ideal.Value.run_blocks m ρ, ?_⟩
  refine (θ_run Cert.Reference18Ideal.defs _ _).mono (fun _ h c => ⟨?_, (h c).2⟩) (Cert.Reference18Ideal.Value.run (F := Ideal) m' ρ')
  rw [(h c).1]
  simp only [hagree c]
  exact ((val_main_v4_eq _ _).trans (reference_apply _ _)).trans (final m c).symm

end Cert.CInG

end
-- ==== Proof.Gate.lean ====
module

public import proofs.«01_k».proof.Defs
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Product
public import Idealize.ShloMosaic.Lib.Quiescent
public import Idealize.ShloMosaic.Lib.Pipeline.ValueKit

@[expose] public section

set_option maxRecDepth 16384

noncomputable section

namespace Cert.Kernel19Ideal.Proj

open Cert.Kernel19Ideal Cert.Kernel19Ideal.Gen
open Idealize.ShloMosaic hiding ix2 ix3
open Idealize.ShloMosaic.TcCoe Idealize.ShloMosaic.ValueIdx Idealize.ShloMosaic.Tactic
open Idealize.SL.Sem
open Cert.GradSum Cert.Product

/-! # The per-layer embedding's gate: the rows times the gate's weight -/

/-- The whole result: row `r = 2048 b + s` of the two sequences times each column of the weight. -/
def gate (x : Vec Ideal S2x2048x1024 .f32) (w : Vec Ideal S1024x1024 .f32) : Vec Ideal S4096x1024 .f32 := fun i =>
  prodAt x (fun k => w (ix2 k (i 1))) (i 0)

variable (m : (ℓ : Loc nD τ sig) → Buf (Elt Ideal) ℓ) (c : Dev nD)

abbrev xArg : Vec Ideal S2x2048x1024 .f32 := m ((c.tc : Thread nD τ).loc main_arg0)
abbrev wArg : Vec Ideal S1024x1024 .f32 := m ((c.tc : Thread nD τ).loc main_arg1)

/-- The rows the first window stages. -/
theorem V_rows (r : Fin 4096) (k : Fin 1024) : (V m c main_v3 : Vec Ideal S4096x1024 .bf16) (ix2 r k)
    = xArg m c (rowIx r k) := by
  have e : (V m c main_v3 : Vec Ideal S4096x1024 .bf16) = (shapeCast S4096x1024 (xArg m c) shapeCasts_S2x2048x1024_S4096x1024 : FVec Ideal S4096x1024 .f32) := by
    entry_read
    rfl
  exact (congrFun e _).trans (rows_cast _ _ _ _)

/-- The weight the second window stages, at its one layer. -/
theorem V_weight (p : Fin 1024) (q : Fin 1024) : (V m c main_v1 : Vec Ideal S1x1024x1024 .bf16) (ix3 0 p q) = wArg m c (ix2 p q) := by
  have e : (V m c main_v1 : Vec Ideal S1x1024x1024 .bf16)
      = (broadcastInDim S1x1024x1024 ![1, 2] bcast_S1024x1024_S1x1024x1024_1_2 (wArg m c) : FVec Ideal S1x1024x1024 .f32) := by
    entry_read
    rfl
  exact (congrFun e _).trans (layer_apply _ _ _ _)

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![t.val, 0] := by decide +kernel

theorem final : (dats m 0 c).arrAt 2 cfg0.N = gate (xArg m c) (wArg m c) := by
  refine (dats m 0 c).arrAt_eq_of_covers 2 _ (by decide +kernel) fun t hf y => ?_
  blk_simp
  rw [after0_2]
  frame_out
  have ht : t.val < 4 := lt_of_lt_of_eq t.isLt N_0
  obtain ⟨r, j, rfl⟩ := exists_ix2 y
  rw [show ((View.whole main_v4).slice (win0_2.rect t)).emb (ix2 r j : S1024x1024.Idx)
      = (ix2 ⟨t.val * 1024 + r.val, by omega⟩ j : S4096x1024.Idx) from at2 1024 1024 r.val j.val (index2 t) rfl rfl rfl (by omega)]
  unfold k0_pay1
  refine mul_rows (xArg m c) _ _ _ _ _ _ r j (fun k => ?_) fun k => ?_
  · refine (shapeCast_apply (iblk m c 0 t : Vec Ideal S1024x1024 .bf16) _ (ix2 r k) (ix2 r k) rfl).trans ?_
    exact (congrArg (V m c main_v3 : Vec Ideal S4096x1024 .bf16) (at2 1024 1024 r.val k.val (index0 t) rfl rfl rfl (by omega))).trans (V_rows m c _ k)
  · exact (congrArg (V m c main_v1 : Vec Ideal S1x1024x1024 .bf16) (at3 1024 1024 k.val j.val (index1 t) rfl rfl (by omega) (by omega))).trans (V_weight m c k j)

end Cert.Kernel19Ideal.Proj

namespace Cert.Gate

open Cert.Kernel19Ideal.Proj
open Cert.Reference19Ideal Cert.Reference19Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (x : Vec Ideal S2x2048x1024 .f32) (w : Vec Ideal S1024x1024 .f32) :
    val_main_v1 (F := Ideal) x w = gate x w := by
  funext i
  obtain ⟨r, j, rfl⟩ := exists_ix2 i
  exact host_apply none _ _ x w _ r j

theorem quiescent_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem algebraic : Cert.algebraic_Kernel19Ideal_Reference19Ideal := by
  intro m ρ m' ρ' _ hagree
  refine ⟨_, Cert.Kernel19Ideal.Value.run_blocks m ρ, ?_⟩
  refine (θ_run Cert.Reference19Ideal.defs _ _).mono (fun _ h c => ⟨?_, (h c).2⟩) (Cert.Reference19Ideal.Value.run (F := Ideal) m' ρ')
  rw [(h c).1]
  simp only [hagree c]
  exact ((val_main_v1_eq _ _).trans (reference_apply _ _)).trans (final m c).symm

end Cert.Gate

end
-- ==== Proof.Ple.lean ====
module

public import proofs.«01_k».proof.Defs
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Product
public import Idealize.ShloMosaic.Lib.Quiescent
public import Idealize.ShloMosaic.Lib.Pipeline.ValueKit

@[expose] public section

set_option maxRecDepth 16384

noncomputable section

namespace Cert.Kernel20Ideal.Proj

open Cert.Kernel20Ideal Cert.Kernel20Ideal.Gen
open Idealize.ShloMosaic hiding ix2 ix3
open Idealize.ShloMosaic.TcCoe Idealize.ShloMosaic.ValueIdx Idealize.ShloMosaic.Tactic
open Idealize.SL.Sem
open Cert.GradSum Cert.Product

/-! # The per-layer embedding's projection: the embeddings times the projection's weight -/

/-- The whole result: row `r = 2048 b + s` of the two sequences times each column of the weight. -/
def embed (x : Vec Ideal S2x2048x256 .f32) (w : Vec Ideal S256x1024 .f32) : Vec Ideal S4096x1024 .f32 := fun i =>
  prodAt x (fun k => w (ix2 k (i 1))) (i 0)

variable (m : (ℓ : Loc nD τ sig) → Buf (Elt Ideal) ℓ) (c : Dev nD)

abbrev xArg : Vec Ideal S2x2048x256 .f32 := m ((c.tc : Thread nD τ).loc main_arg0)
abbrev wArg : Vec Ideal S256x1024 .f32 := m ((c.tc : Thread nD τ).loc main_arg1)

/-- The rows the first window stages. -/
theorem V_rows (r : Fin 4096) (k : Fin 256) : (V m c main_v3 : Vec Ideal S4096x256 .f32) (ix2 r k)
    = xArg m c (rowIx r k) := by
  have e : (V m c main_v3 : Vec Ideal S4096x256 .f32) = shapeCast S4096x256 (xArg m c) shapeCasts_S2x2048x256_S4096x256 := by
    entry_read
    rfl
  exact (congrFun e _).trans (rows_cast _ _ _ _)

/-- The weight the second window stages, at its one layer. -/
theorem V_weight (p : Fin 1024) (q : Fin 256) : (V m c main_v2 : Vec Ideal S1x1024x256 .bf16) (ix3 0 p q) = wArg m c (ix2 q p) := by
  have e : (V m c main_v2 : Vec Ideal S1x1024x256 .bf16)
      = (transpose S1x1024x256 [0, 2, 1] (broadcastInDim S1x256x1024 ![1, 2] bcast_S256x1024_S1x256x1024_1_2 (wArg m c) : FVec Ideal S1x256x1024 .f32) transposes_S1x256x1024_S1x1024x256_0_2_1 : FVec Ideal S1x1024x256 .f32) := by
    entry_read
    rfl
  exact (congrFun e _).trans (layer_transposed_apply _ _ _ _ _)

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![t.val, 0] := by decide +kernel

theorem final : (dats m 0 c).arrAt 2 cfg0.N = embed (xArg m c) (wArg m c) := by
  refine (dats m 0 c).arrAt_eq_of_covers 2 _ (by decide +kernel) fun t hf y => ?_
  blk_simp
  rw [after0_2]
  frame_out
  have ht : t.val < 4 := lt_of_lt_of_eq t.isLt N_0
  obtain ⟨r, j, rfl⟩ := exists_ix2 y
  rw [show ((View.whole main_v4).slice (win0_2.rect t)).emb (ix2 r j : S1024x1024.Idx)
      = (ix2 ⟨t.val * 1024 + r.val, by omega⟩ j : S4096x1024.Idx) from at2 1024 1024 r.val j.val (index2 t) rfl rfl rfl (by omega)]
  unfold k0_pay1
  refine mulT_rows (xArg m c) _ _ _ _ _ _ r j (fun k => ?_) fun k => ?_
  · refine (shapeCast_apply (iblk m c 0 t : Vec Ideal S1024x256 .f32) _ (ix2 r k) (ix2 r k) rfl).trans ?_
    exact (congrArg (V m c main_v3 : Vec Ideal S4096x256 .f32) (at2 1024 256 r.val k.val (index0 t) rfl rfl rfl (by omega))).trans (V_rows m c _ k)
  · exact (congrArg (V m c main_v2 : Vec Ideal S1x1024x256 .bf16) (at3 1024 256 j.val k.val (index1 t) rfl rfl (by omega) (by omega))).trans (V_weight m c j k)

end Cert.Kernel20Ideal.Proj

namespace Cert.Ple

open Cert.Kernel20Ideal.Proj
open Cert.Reference20Ideal Cert.Reference20Ideal.Read
open Idealize.ShloMosaic hiding ix2 ix3
open Idealize.ShloMosaic.TcCoe Idealize.ShloMosaic.ValueIdx
open Idealize.SL.Sem
open Cert.GradSum Cert.Product

/-! # The reference is the same, and the claims -/

theorem reference_apply (x : Vec Ideal S2x2048x256 .f32) (w : Vec Ideal S256x1024 .f32) :
    val_main_v1 (F := Ideal) x w = embed x w := by
  funext i
  obtain ⟨r, j, rfl⟩ := exists_ix2 i
  exact host_apply none _ _ x w _ r j

theorem quiescent_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic : Cert.algebraic_Kernel20Ideal_Reference20Ideal := by
  intro m ρ m' ρ' _ hagree
  refine ⟨_, Cert.Kernel20Ideal.Value.run_blocks m ρ, ?_⟩
  refine (θ_run Cert.Reference20Ideal.defs _ _).mono (fun _ h c => ⟨?_, (h c).2⟩) (Cert.Reference20Ideal.Value.run (F := Ideal) m' ρ')
  rw [(h c).1]
  simp only [hagree c]
  exact ((val_main_v1_eq _ _).trans (reference_apply _ _)).trans (final m c).symm

end Cert.Ple

end
-- ==== Proof.PleG.lean ====
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Product
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel21Ideal.Grad

open Cert.Kernel21Ideal Cert.Kernel21Ideal.Gen
open Idealize.ShloMosaic hiding ix2 ix3
open Idealize.ShloMosaic.TcCoe Idealize.ShloMosaic.ValueIdx Idealize.ShloMosaic.Tactic
open Idealize.SL.Sem
open Cert.GradSum Cert.Product
open scoped BigOperators

/-! # The gradient of the per-layer embedding's projection -/

/-- The whole gradient, a stack of one layer. -/
def grad (l : Vec Ideal S2x2048x1024 .f32) (r : Vec Ideal S2x2048x256 .f32) : Vec Ideal S1x1024x256 .f32 := fun i => gradAt l r (i 1) (i 2)

variable (m : (ℓ : Loc nD τ sig) → Buf (Elt Ideal) ℓ) (c : Dev nD)

abbrev lArg : Vec Ideal S2x2048x1024 .f32 := m ((c.tc : Thread nD τ).loc main_arg2)
abbrev rArg : Vec Ideal S2x2048x256 .f32 := m ((c.tc : Thread nD τ).loc main_arg0)

/-- The rows the first window stages. -/
theorem V_left (n : Fin 4096) (k : Fin 1024) : (V m c main_v0 : Vec Ideal S4096x1024 .f32) (ix2 n k)
    = lArg m c (rowIx n k) := by
  have e : (V m c main_v0 : Vec Ideal S4096x1024 .f32) = shapeCast S4096x1024 (lArg m c) shapeCasts_S2x2048x1024_S4096x1024 := by
    entry_read
    rfl
  exact (congrFun e _).trans (rows_cast _ _ _ _)

/-- The rows the second window stages. -/
theorem V_right (n : Fin 4096) (k : Fin 256) : (V m c main_v1 : Vec Ideal S4096x256 .f32) (ix2 n k)
    = rArg m c (rowIx n k) := by
  have e : (V m c main_v1 : Vec Ideal S4096x256 .f32) = shapeCast S4096x256 (rArg m c) shapeCasts_S2x2048x256_S4096x256 := by
    entry_read
    rfl
  exact (congrFun e _).trans (rows_cast _ _ _ _)

theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![0, t.val / 4, 0] := by decide +kernel

/-- One step's product, in the arrays: step `b` of column block `j` takes rows `1024 b` to `1024 b + 1023`. -/
theorem block_apply (t : Fin cfg0.N) (j : Fin 1) (b : Fin 4) (h : t.val = 4 * j.val + b.val) (p : Fin 1024) (q : Fin 256) :
    k0_pay1 (iblk m c 0 t) (iblk m c 1 t) (ix2 p q) = stepAt (lArg m c) (rArg m c) b ⟨1024 * j.val + p.val, by omega⟩ q := by
  unfold k0_pay1
  refine mul_step (lArg m c) (rArg m c) _ _ _ _ _ _ p q (fun k n hn => ?_) fun k n hn => ?_
  · refine (shapeCast_apply (iblk m c 0 t : Vec Ideal S1024x1024 .f32) _ (ix2 k p) (ix2 k p) rfl).trans ?_
    exact (congrArg (V m c main_v0 : Vec Ideal S4096x1024 .f32) (at2 1024 1024 k.val p.val (index0 t) rfl rfl (by omega) (by dsimp; omega))).trans (V_left m c n _)
  · refine (shapeCast_apply (iblk m c 1 t : Vec Ideal S1024x256 .f32) _ (ix2 k q) (ix2 k q) rfl).trans ?_
    exact (congrArg (V m c main_v1 : Vec Ideal S4096x256 .f32) (at2 1024 256 k.val q.val (index1 t) rfl rfl (by omega) (by omega))).trans (V_right m c n q)

/-- What the first step of a block of columns leaves in the scratch: its product. -/
theorem scratch_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- What the second and the third step leave in the scratch: the carried sum and their product. -/
theorem scratch_next (t : Fin cfg0.N) (h1 : 1 ≤ t.val % 4 ∧ t.val % 4 ≤ 2) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t (by omega) h1 (by omega)]
  frame_out
  try simp only [read_unread_whole]

/-- What the last step leaves in the output's staging buffer: the carried sum and its product. -/
theorem output_last (t : Fin cfg0.N) (h2 : t.val % 4 = 3) :
    (outsAt0 m c t.val t.isLt).1 = k0_pay4 (iblk m c 0 t) (iblk m c 1 t) (outsAt0 m c (t.val - 1) (Nat.lt_of_le_of_lt (Nat.sub_le _ _) t.isLt)).2 := by
  rw [outsAt0_C m c t (by omega) (by omega) h2]
  frame_out
  try simp only [read_unread_whole]

/-- What the last step writes is the gradient's block. -/
theorem last_apply (j : Fin 1) (h : 4 * j.val + 3 < cfg0.N) (p : Fin 1024) (q : Fin 256) :
    (outsAt0 m c (4 * j.val + 3) h).1 (ix3 0 p q) = gradAt (lArg m c) (rArg m c) ⟨1024 * j.val + p.val, by omega⟩ q := by
  have hb : ∀ b : Fin 4, 4 * j.val + b.val < cfg0.N := fun b => by omega
  have hm : ∀ b : Fin 4, (4 * j.val + b.val) % 4 = b.val := fun b => by omega
  exact of_steps _ _ _ _ (fun b => k0_pay1 (iblk m c 0 ⟨_, hb b⟩) (iblk m c 1 ⟨_, hb b⟩)) shapeCasts_S1024x256_S1024x256 shapeCasts_S1024x256_S1x1024x256
    (scratch_first m c ⟨_, hb 0⟩ (hm 0)) (scratch_next m c ⟨_, hb 1⟩ (by rw [hm]; decide)) (scratch_next m c ⟨_, hb 2⟩ (by rw [hm]; decide))
    (output_last m c ⟨_, hb 3⟩ (hm 3)) p q fun b => block_apply m c ⟨_, hb b⟩ j b rfl p q

theorem final : (dats m 0 c).arrAt 2 cfg0.N = grad (lArg m c) (rArg m c) := by
  refine (dats m 0 c).arrAt_eq_of_covers 2 _ (by decide +kernel) fun t hf y => ?_
  blk_simp
  rw [after0_2]
  have h2 : t.val % 4 = 3 := (flush0_2 t).mp hf
  have ht : t.val < 4 := lt_of_lt_of_eq t.isLt N_0
  obtain ⟨p, q, rfl⟩ := exists_ix3 y
  obtain ⟨j, hj⟩ : ∃ j : Fin 1, t.val = 4 * j.val + 3 := ⟨⟨t.val / 4, by omega⟩, by show t.val = 4 * (t.val / 4) + 3; omega⟩
  rw [show ((View.whole main_v2).slice (win0_2.rect t)).emb (ix3 0 p q : S1x1024x256.Idx)
      = (ix3 0 ⟨1024 * j.val + p.val, by omega⟩ q : S1x1024x256.Idx) from at3 1024 256 p.val q.val (index2 t) rfl rfl (by dsimp; omega) (by omega)]
  obtain ⟨n, hn⟩ := t
  obtain rfl : n = 4 * j.val + 3 := hj
  exact last_apply m c j hn p q

end Cert.Kernel21Ideal.Grad

namespace Cert.PleG

open Cert.Kernel21Ideal.Grad
open Cert.Reference21Ideal Cert.Reference21Ideal.Read
open Idealize.ShloMosaic hiding ix2 ix3
open Idealize.ShloMosaic.TcCoe Idealize.ShloMosaic.ValueIdx
open Idealize.SL.Sem
open Cert.GradSum Cert.Product
open scoped BigOperators

/-! # The reference is the same, and the claims -/

/-- The reference's product over the batch and the positions. -/
theorem reference_dot (x0 : Vec Ideal S2x2048x256 .f32) (x2 : Vec Ideal S2x2048x1024 .f32) (p : Fin 1024) (q : Fin 256) :
    val_main_v1 (F := Ideal) x0 x2 (ix2 p q) = gradAt x2 x0 p q := by
  exact dot_rows_grad (M := 1024) (N := 256) none _ _ x2 x0 p q

theorem reference_apply (x0 : Vec Ideal S2x2048x256 .f32) (x2 : Vec Ideal S2x2048x1024 .f32) :
    val_main_v4 (F := Ideal) x0 x2 = grad x2 x0 := by
  funext i
  rw [val_main_v4_apply, val_main_v3_apply, val_main_v2_apply]
  refine Eq.trans ?_ (reference_dot x0 x2 (i 1) (i 2))
  refine congrArg (val_main_v1 (F := Ideal) x0 x2) (funext fun a => ?_)
  match a with
  | ⟨0, _⟩ => rfl
  | ⟨1, _⟩ => rfl

theorem quiescent_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem algebraic : Cert.algebraic_Kernel21Ideal_Reference21Ideal := by
  intro m ρ m' ρ' _ hagree
  refine ⟨_, Cert.Kernel21Ideal.Value.run_blocks m ρ, ?_⟩
  refine (θ_run Cert.Reference21Ideal.defs _ _).mono (fun _ h c => ⟨?_, (h c).2⟩) (Cert.Reference21Ideal.Value.run (F := Ideal) m' ρ')
  rw [(h c).1]
  simp only [hagree c]
  exact ((val_main_v4_eq _ _).trans (reference_apply _ _)).trans (final m c).symm

end Cert.PleG

end
-- ==== Proof.PleB.lean ====
module

public import proofs.«01_k».proof.Defs
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.GradSum
public import Idealize.ShloMosaic.Lib.Quiescent
public import Idealize.ShloMosaic.Lib.Pointwise.Tactic
public import Idealize.ShloMosaic.Lib.Pipeline.ValueKit

@[expose] public section

set_option maxRecDepth 16384

noncomputable section

namespace Cert.Kernel22Ideal.Gate

open Cert.Kernel22Ideal Cert.Kernel22Ideal.Gen
open Idealize.ShloMosaic hiding ix2 ix3
open Idealize.ShloMosaic.TcCoe Idealize.ShloMosaic.ValueIdx Idealize.ShloMosaic.Tactic
open Idealize.SL.Sem
open scoped BigOperators

/-! # The gradients of the per-layer embeddings' gate

The gate is `sigmoid z * e`. On an incoming gradient `g` its gradient in `z` is `g e s (1 - s)` with `s` the sigmoid of `z`,
and its gradient in `e` is `g s`. -/

/-- One element of the gradient in `z`. -/
def zGrad (z e g : EReal) : EReal := g * e * Ideal.logistic z * (1 - Ideal.logistic z)

/-- One element of the gradient in `e`. -/
def eGrad (z g : EReal) : EReal := g * Ideal.logistic z

variable (m : (ℓ : Loc nD τ sig) → Buf (Elt Ideal) ℓ) (c : Dev nD)

abbrev zArg : Vec Ideal S2x2048x1024 .f32 := m ((c.tc : Thread nD τ).loc main_arg0)
abbrev eArg : Vec Ideal S2x2048x1024 .f32 := m ((c.tc : Thread nD τ).loc main_arg1)
abbrev gArg : Vec Ideal S2x2048x1024 .f32 := m ((c.tc : Thread nD τ).loc main_arg2)

/-- The arrays that the windows stage. -/
abbrev Z : Vec Ideal S4096x1024 .f32 := V m c main_v0
abbrev E : Vec Ideal S4096x1024 .f32 := V m c main_v1
abbrev G : Vec Ideal S4096x1024 .f32 := V m c main_v2

theorem Z_eq : Z m c = shapeCast _ (zArg m c) shapeCasts_S2x2048x1024_S4096x1024 := by unfold Z; entry_read; rfl
theorem E_eq : E m c = shapeCast _ (eArg m c) shapeCasts_S2x2048x1024_S4096x1024 := by unfold E; entry_read; rfl
theorem G_eq : G m c = shapeCast _ (gArg m c) shapeCasts_S2x2048x1024_S4096x1024 := by unfold G; entry_read; rfl

theorem pay3_apply (z g e : Vec Ideal S512x1024 .f32) (i : S512x1024.Idx) : k0_pay3 z g e i = zGrad (z i) (e i) (g i) := by
  have h : ∀ x : Vec Ideal S512x1024 .f32, shapeCast S512x1024 x shapeCasts_S512x1024_S512x1024 i = x i := fun x => shapeCast_apply x _ i i rfl
  unfold k0_pay3 k0_pay2 k0_pay1
  show (shapeCast S512x1024 g shapeCasts_S512x1024_S512x1024 i : EReal) * shapeCast S512x1024 e shapeCasts_S512x1024_S512x1024 i
    * Ideal.logistic (shapeCast S512x1024 z shapeCasts_S512x1024_S512x1024 i)
    * (Scalar.ofBits (F := Ideal) .f32 0x3F800000#32 - Ideal.logistic (shapeCast S512x1024 z shapeCasts_S512x1024_S512x1024 i)) = _
  rw [h, h, h, show (Scalar.ofBits (F := Ideal) .f32 0x3F800000#32 : EReal) = 1 from Ideal.ofBits_one_f32]
  rfl

theorem pay4_apply (z g : Vec Ideal S512x1024 .f32) (i : S512x1024.Idx) : k0_pay4 z g i = eGrad (z i) (g i) := by
  have h : ∀ x : Vec Ideal S512x1024 .f32, shapeCast S512x1024 x shapeCasts_S512x1024_S512x1024 i = x i := fun x => shapeCast_apply x _ i i rfl
  unfold k0_pay4 k0_pay2 k0_pay1
  show (shapeCast S512x1024 g shapeCasts_S512x1024_S512x1024 i : EReal) * Ideal.logistic (shapeCast S512x1024 z shapeCasts_S512x1024_S512x1024 i) = _
  rw [h, h]
  rfl

theorem final3 : (dats m 0 c).arrAt 3 cfg0.N = fun i => zGrad (Z m c i) (E m c i) (G m c i) := by
  refine (dats m 0 c).arrAt_eq_of_covers 3 _ (by decide +kernel) fun t hf y => ?_
  blk_simp
  rw [after0_3]
  frame_out
  exact pay3_apply _ _ _ _

theorem final4 : (dats m 0 c).arrAt 4 cfg0.N = fun i => eGrad (Z m c i) (G m c i) := by
  refine (dats m 0 c).arrAt_eq_of_covers 4 _ (by decide +kernel) fun t hf y => ?_
  blk_simp
  rw [after0_4]
  frame_out
  exact pay4_apply _ _ _

end Cert.Kernel22Ideal.Gate

namespace Cert.PleB

open Cert.Kernel22Ideal.Gate
open Cert.Reference22Ideal Cert.Reference22Ideal.Read
open Idealize.ShloMosaic hiding ix2 ix3
open Idealize.ShloMosaic.TcCoe Idealize.ShloMosaic.ValueIdx
open Idealize.SL.Sem
open scoped BigOperators

/-! # The reference is the same, and the claims -/

abbrev RArr := Vec Ideal S2x2048x1024 .f32

/-- The reference's sigmoid is written out as `1 / (1 + exp (-z))`. -/
theorem reference_sigmoid (z : RArr) (i : S2x2048x1024.Idx) :
    val_main_v5 (F := Ideal) z i = Ideal.logistic (z i) := by
  rw [val_main_v5_apply, val_main_v4_apply, val_main_v3_apply,
    val_main_v2_apply]
  show Ideal.div (Scalar.ofBits (F := Ideal) .f32 0x3F800000#32) (Scalar.ofBits (F := Ideal) .f32 0x3F800000#32 + Ideal.exp (-(z i))) = _
  rw [show (Scalar.ofBits (F := Ideal) .f32 0x3F800000#32 : EReal) = 1 from Ideal.ofBits_one_f32]
  rfl

/-- The reference's gradient in `z`, before its rows are laid out. -/
theorem reference_z (z e g : RArr) : val_main_v12 (F := Ideal) z e g = fun i => zGrad (z i) (e i) (g i) := by
  funext i
  rw [val_main_v12_apply, val_main_v11_apply, val_main_v8_apply, val_main_v7_apply,
    val_main_v6_apply, reference_sigmoid]
  show (_ * _ : EReal) * (_ * (Scalar.ofBits (F := Ideal) .f32 0x3F800000#32 - _)) = _
  rw [show (Scalar.ofBits (F := Ideal) .f32 0x3F800000#32 : EReal) = 1 from Ideal.ofBits_one_f32, ← mul_assoc]
  rfl

theorem reference_e (z g : RArr) : val_main_v10 (F := Ideal) z g = fun i => eGrad (z i) (g i) := by
  funext i
  rw [val_main_v10_apply, reference_sigmoid]
  exact mul_comm (G := EReal) _ _

theorem quiescent_reference : Cert.quiescent_Reference22Ideal := fun m ρ _ =>
  (θ_run Cert.Reference22Ideal.defs _ _).mono (fun r h => ⟨fun c => (h c).2.2, sem_eq_zero_of_no_sems (by decide) r.2⟩)
    (Cert.Reference22Ideal.Value.run (F := Ideal) m ρ)

theorem algebraic : Cert.algebraic_Kernel22Ideal_Reference22Ideal := by
  intro m ρ m' ρ' _ hagree
  refine ⟨_, _, Cert.Kernel22Ideal.Value.run_blocks m ρ, ?_⟩
  refine (θ_run Cert.Reference22Ideal.defs _ _).mono (fun _ h c => ⟨?_, ?_, (h c).2.2⟩) (Cert.Reference22Ideal.Value.run (F := Ideal) m' ρ')
  · rw [(h c).1]
    simp only [hagree c]
    rw [val_main_v13_eq, final3, Z_eq, E_eq, G_eq, val_main_v13, reference_z]
    rfl
  · rw [(h c).2.1]
    simp only [hagree c]
    rw [val_main_v14_eq, final4, Z_eq, G_eq, val_main_v14, reference_e]
    rfl

end Cert.PleB

end
-- ==== Proof.ConvCol.lean ====
module

public import Idealize.ShloMosaic.PureOps.Ideal
public import Idealize.ShloMosaic.Lib.IdealHost

@[expose] public section

noncomputable section

namespace Cert.Conv

open Idealize.ShloMosaic
open scoped BigOperators

/-! # The convolution and gate along one sequence, for one channel

A column is the values of one channel at the 2048 positions of a sequence. -/

abbrev Col := Fin 2048 → EReal

/-- The column moved `k` positions later, with zeros in front. -/
def down (k : ℕ) (f : Col) : Col := fun s => if k ≤ s.val then f ⟨s.val - k, by omega⟩ else 0

/-- The column moved `k` positions earlier, with zeros behind. -/
def up (k : ℕ) (f : Col) : Col := fun s => if h : s.val + k < 2048 then f ⟨s.val + k, h⟩ else 0

/-- The causal convolution with three taps, and the bias. -/
def conv (f : Col) (w : Fin 3 → EReal) (b : EReal) : Col := fun s => w 0 * down 2 f s + w 1 * down 1 f s + w 2 * f s + b

/-- The convolution's gradient in its input. -/
def back (f : Col) (w : Fin 3 → EReal) : Col := fun s => w 2 * f s + w 1 * up 1 f s + w 0 * up 2 f s

/-- The gradient of `silu c * d` in `c`, on the incoming gradient `a`. -/
def gateGrad (c d a : EReal) : EReal := a * d * (Ideal.logistic c * (1 + c * (1 - Ideal.logistic c)))

/-- The gradient of `silu c * d` in `d`. -/
def linGrad (c a : EReal) : EReal := a * (c * Ideal.logistic c)

/-- What the gradient at one position is multiplied with in row `r` of the gradients of taps and bias: the three taps' inputs,
    one for the bias, and zero in the four rows that fill up the block. -/
def tap (r : ℕ) (f : Col) : Col := fun s =>
  if r = 0 then down 2 f s else if r = 1 then down 1 f s else if r = 2 then f s else if r = 3 then 1 else 0

/-- Row `r` of the gradients of taps and bias, from one sequence. -/
def tapSum (r : ℕ) (f g : Col) : EReal := ∑ s, g s * tap r f s

/-- The gradient in the gate as the chain rule through `c * (1 / (1 + exp (-c)))` gives it: the two agree on finite values. -/
theorem gateGrad_chain (c g : ℝ) : (g : EReal) * Ideal.logistic c + (c : EReal) * g * (Ideal.logistic c * (1 - Ideal.logistic c))
    = g * (Ideal.logistic c * (1 + c * (1 - Ideal.logistic c))) := by
  rw [Ideal.logistic_coe, ← EReal.coe_one]
  norm_cast
  ring

end Cert.Conv

end
-- ==== Proof.ConvBlock.lean ====
module

public import proofs.«01_k».proof.Proof.ConvCol
public import Idealize.ShloMosaic.Lib.KernelVsHost
public import Idealize.ShloMosaic.Lib.Pipeline.ValueKit

@[expose] public section

noncomputable section

namespace Cert.Conv

open Idealize.ShloMosaic hiding ix2 ix3
open Idealize.ShloMosaic.TcCoe Idealize.ShloMosaic.ValueIdx

/-! # The convolution on a block of `L` channels, read at an element -/

variable {L : ℕ}

/-- Channel `l` of a block of `L` channels. -/
def chan (x : FVec Ideal ⟨2, ![2048, L]⟩ .f32) (l : Fin L) : Col := fun s => x (ix2 s l)
def chan3 (x : Vec Ideal ⟨3, ![1, 2048, L]⟩ .f32) (l : Fin L) : Col := fun s => x (ix3 0 s l)
def taps3 (w : Vec Ideal ⟨2, ![3, L]⟩ .f32) (l : Fin L) : Fin 3 → EReal := fun k => w (ix2 k l)

theorem iota_apply (hi : (⟨2, ![2048, L]⟩ : Shape).Iotas .tc 32 [0]) (s : Fin 2048) (l : Fin L) : iota .tc ⟨2, ![2048, L]⟩ 32 [0] hi (ix2 s l) = BitVec.ofNat 32 s.val := by
  show BitVec.ofNat 32 (0 * 2048 + s.val) = _
  rw [Nat.zero_mul, Nat.zero_add]

theorem zero_word : (Scalar.ofBits (F := Ideal) .f32 0x00000000#32 : EReal) = 0 := Ideal.ofBits_zero_f32
theorem one_word : (Scalar.ofBits (F := Ideal) .f32 0x3F800000#32 : EReal) = 1 := Ideal.ofBits_one_f32

/-- A rotation by `k` masked to the rows from `k` on is the column moved later. -/
theorem shift_down (k : ℕ) (kb : BitVec 32) (hk : kb.toNat = k) (hk2 : k < 2048)
    (hc : ∀ s : Fin 2048, (IntOp.cmpi .sge (BitVec.ofNat 32 s.val) kb : BitVec 1) = if k ≤ s.val then 1#1 else 0#1)
    {hi : (⟨2, ![2048, L]⟩ : Shape).Iotas .tc 32 [0]} {hr : (⟨2, ![2048, L]⟩ : Shape).Rotates 0 none}
    (x : FVec Ideal ⟨2, ![2048, L]⟩ .f32) (s : Fin 2048) (l : Fin L) :
    (select (cmpi .sge (iota .tc ⟨2, ![2048, L]⟩ 32 [0] hi) (broadcast ⟨2, ![2048, L]⟩ kb)) (dynamicRotate 0 kb none x hr)
      (broadcast ⟨2, ![2048, L]⟩ (Scalar.ofBits (F := Ideal) .f32 0x00000000#32)) : FVec Ideal ⟨2, ![2048, L]⟩ .f32) (ix2 s l) = down k (chan x l) s := by
  show Scalar.select (IntOp.cmpi .sge (iota .tc ⟨2, ![2048, L]⟩ 32 [0] hi (ix2 s l)) kb) (dynamicRotate 0 kb none x hr (ix2 s l))
    (Scalar.ofBits (F := Ideal) .f32 0x00000000#32) = _
  rw [iota_apply, hc, zero_word]
  unfold down chan
  by_cases h : k ≤ s.val
  · rw [if_pos h, if_pos h]
    show dynamicRotate 0 kb none x hr (ix2 s l) = _
    refine dynamicRotate_apply (0 : Fin 2) kb x hr (ix2 s l) (ix2 ⟨s.val - k, by omega⟩ l) fun b => ?_
    match b with
    | ⟨0, _⟩ => show s.val - k = (s.val + 2048 - kb.toNat % 2048) % 2048; rw [hk]; have := s.isLt; omega
    | ⟨1, _⟩ => rfl
  · rw [if_neg h, if_neg h]
    rfl

/-- A rotation by `2048 - k` masked to the rows before `2048 - k` is the column moved earlier. -/
theorem shift_up (k : ℕ) (kb : BitVec 32) (hk : kb.toNat = 2048 - k) (hk1 : 0 < k) (hk2 : k < 2048)
    (hc : ∀ s : Fin 2048, (IntOp.cmpi .slt (BitVec.ofNat 32 s.val) kb : BitVec 1) = if s.val + k < 2048 then 1#1 else 0#1)
    {hi : (⟨2, ![2048, L]⟩ : Shape).Iotas .tc 32 [0]} {hr : (⟨2, ![2048, L]⟩ : Shape).Rotates 0 none}
    (x : FVec Ideal ⟨2, ![2048, L]⟩ .f32) (s : Fin 2048) (l : Fin L) :
    (select (cmpi .slt (iota .tc ⟨2, ![2048, L]⟩ 32 [0] hi) (broadcast ⟨2, ![2048, L]⟩ kb)) (dynamicRotate 0 kb none x hr)
      (broadcast ⟨2, ![2048, L]⟩ (Scalar.ofBits (F := Ideal) .f32 0x00000000#32)) : FVec Ideal ⟨2, ![2048, L]⟩ .f32) (ix2 s l) = up k (chan x l) s := by
  show Scalar.select (IntOp.cmpi .slt (iota .tc ⟨2, ![2048, L]⟩ 32 [0] hi (ix2 s l)) kb) (dynamicRotate 0 kb none x hr (ix2 s l))
    (Scalar.ofBits (F := Ideal) .f32 0x00000000#32) = _
  rw [iota_apply, hc, zero_word]
  unfold up chan
  by_cases h : s.val + k < 2048
  · rw [if_pos h, dif_pos h]
    show dynamicRotate 0 kb none x hr (ix2 s l) = _
    refine dynamicRotate_apply (0 : Fin 2) kb x hr (ix2 s l) (ix2 ⟨s.val + k, h⟩ l) fun b => ?_
    match b with
    | ⟨0, _⟩ => show s.val + k = (s.val + 2048 - kb.toNat % 2048) % 2048; rw [hk]; omega
    | ⟨1, _⟩ => rfl
  · rw [if_neg h, dif_neg h]
    rfl

theorem ge_two : ∀ s : Fin 2048, (IntOp.cmpi .sge (BitVec.ofNat 32 s.val) 2#32 : BitVec 1) = if 2 ≤ s.val then 1#1 else 0#1 := by decide +kernel
theorem ge_one : ∀ s : Fin 2048, (IntOp.cmpi .sge (BitVec.ofNat 32 s.val) 1#32 : BitVec 1) = if 1 ≤ s.val then 1#1 else 0#1 := by decide +kernel
theorem lt_two : ∀ s : Fin 2048, (IntOp.cmpi .slt (BitVec.ofNat 32 s.val) 2046#32 : BitVec 1) = if s.val + 2 < 2048 then 1#1 else 0#1 := by decide +kernel
theorem lt_one : ∀ s : Fin 2048, (IntOp.cmpi .slt (BitVec.ofNat 32 s.val) 2047#32 : BitVec 1) = if s.val + 1 < 2048 then 1#1 else 0#1 := by decide +kernel

/-- A row of a block spread over the positions. -/
theorem over_rows {hb : (⟨2, ![1, L]⟩ : Shape).Broadcasts ⟨2, ![2048, L]⟩} (x : FVec Ideal ⟨2, ![1, L]⟩ .f32) (s : Fin 2048) (l : Fin L) :
    (broadcastTo ⟨2, ![2048, L]⟩ x hb : FVec Ideal ⟨2, ![2048, L]⟩ .f32) (ix2 s l) = x (ix2 0 l) :=
  broadcastTo_apply _ _ _ _ fun a => match a with
    | ⟨0, _⟩ => by show 0 = if (1 : ℕ) = 1 then 0 else s.val; rw [if_pos rfl]
    | ⟨1, _⟩ => by show l.val = if L = 1 then 0 else l.val; split_ifs <;> omega

theorem tap_zero {h0 : (⟨2, ![3, L]⟩ : Shape).Slices ![0, 0] ⟨2, ![1, L]⟩} (w : Vec Ideal ⟨2, ![3, L]⟩ .f32) (l : Fin L) :
    (extractStridedSlice ⟨2, ![1, L]⟩ ![0, 0] w h0 : FVec Ideal ⟨2, ![1, L]⟩ .f32) (ix2 0 l) = w (ix2 0 l) :=
  extractStridedSlice_apply _ _ _ _ _ fun a => match a with | ⟨0, _⟩ => rfl | ⟨1, _⟩ => (Nat.zero_add _).symm
theorem tap_one {h1 : (⟨2, ![3, L]⟩ : Shape).Slices ![1, 0] ⟨2, ![1, L]⟩} (w : Vec Ideal ⟨2, ![3, L]⟩ .f32) (l : Fin L) :
    (extractStridedSlice ⟨2, ![1, L]⟩ ![1, 0] w h1 : FVec Ideal ⟨2, ![1, L]⟩ .f32) (ix2 0 l) = w (ix2 1 l) :=
  extractStridedSlice_apply _ _ _ _ _ fun a => match a with | ⟨0, _⟩ => rfl | ⟨1, _⟩ => (Nat.zero_add _).symm
theorem tap_two {h2 : (⟨2, ![3, L]⟩ : Shape).Slices ![2, 0] ⟨2, ![1, L]⟩} (w : Vec Ideal ⟨2, ![3, L]⟩ .f32) (l : Fin L) :
    (extractStridedSlice ⟨2, ![1, L]⟩ ![2, 0] w h2 : FVec Ideal ⟨2, ![1, L]⟩ .f32) (ix2 0 l) = w (ix2 2 l) :=
  extractStridedSlice_apply _ _ _ _ _ fun a => match a with | ⟨0, _⟩ => rfl | ⟨1, _⟩ => (Nat.zero_add _).symm

theorem cast_block (hc : (⟨3, ![1, 2048, L]⟩ : Shape).ShapeCasts ⟨2, ![2048, L]⟩) (x : Vec Ideal ⟨3, ![1, 2048, L]⟩ .f32) (s : Fin 2048) (l : Fin L) :
    (shapeCast ⟨2, ![2048, L]⟩ x hc : FVec Ideal ⟨2, ![2048, L]⟩ .f32) (ix2 s l) = x (ix3 0 s l) := by
  refine shapeCast_apply _ _ _ _ ?_
  rw [Shape.rowMajor_val_three, Shape.rowMajor_val_two]
  show (0 * 2048 + s.val) * L + l.val = s.val * L + l.val
  rw [Nat.zero_mul, Nat.zero_add]
theorem cast_to_block {φ : FTy} (hc : (⟨2, ![2048, L]⟩ : Shape).ShapeCasts ⟨3, ![1, 2048, L]⟩) (x : FVec Ideal ⟨2, ![2048, L]⟩ φ) (s : Fin 2048) (l : Fin L) :
    (shapeCast ⟨3, ![1, 2048, L]⟩ x hc : FVec Ideal ⟨3, ![1, 2048, L]⟩ φ) (ix3 0 s l) = x (ix2 s l) := by
  refine shapeCast_apply _ _ _ _ ?_
  rw [Shape.rowMajor_val_three, Shape.rowMajor_val_two]
  show s.val * L + l.val = (0 * 2048 + s.val) * L + l.val
  rw [Nat.zero_mul, Nat.zero_add]
theorem cast_row {hw : (⟨2, ![1, L]⟩ : Shape).ShapeCasts ⟨2, ![1, L]⟩} (x : Vec Ideal ⟨2, ![1, L]⟩ .f32) (l : Fin L) :
    (shapeCast ⟨2, ![1, L]⟩ x hw : FVec Ideal ⟨2, ![1, L]⟩ .f32) (ix2 0 l) = x (ix2 0 l) := shapeCast_apply _ _ _ _ rfl

/-- The convolution of the block `x` with the taps `w` and the bias `b`, as the body computes it. -/
def convBlock (hi : (⟨2, ![2048, L]⟩ : Shape).Iotas .tc 32 [0]) (hr : (⟨2, ![2048, L]⟩ : Shape).Rotates 0 none)
    (hb : (⟨2, ![1, L]⟩ : Shape).Broadcasts ⟨2, ![2048, L]⟩) (h0 : (⟨2, ![3, L]⟩ : Shape).Slices ![0, 0] ⟨2, ![1, L]⟩)
    (h1 : (⟨2, ![3, L]⟩ : Shape).Slices ![1, 0] ⟨2, ![1, L]⟩) (h2 : (⟨2, ![3, L]⟩ : Shape).Slices ![2, 0] ⟨2, ![1, L]⟩)
    (hw : (⟨2, ![1, L]⟩ : Shape).ShapeCasts ⟨2, ![1, L]⟩) (x : FVec Ideal ⟨2, ![2048, L]⟩ .f32) (w : Vec Ideal ⟨2, ![3, L]⟩ .f32) (b : Vec Ideal ⟨2, ![1, L]⟩ .f32) : FVec Ideal ⟨2, ![2048, L]⟩ .f32 :=
  addf (addf (addf
      (mulf (broadcastTo ⟨2, ![2048, L]⟩ (extractStridedSlice ⟨2, ![1, L]⟩ ![0, 0] w h0) hb)
        (select (cmpi .sge (iota .tc ⟨2, ![2048, L]⟩ 32 [0] hi) (broadcast ⟨2, ![2048, L]⟩ 2#32)) (dynamicRotate 0 2#32 none x hr)
          (broadcast ⟨2, ![2048, L]⟩ (Scalar.ofBits (F := Ideal) .f32 0x00000000#32))))
      (mulf (broadcastTo ⟨2, ![2048, L]⟩ (extractStridedSlice ⟨2, ![1, L]⟩ ![1, 0] w h1) hb)
        (select (cmpi .sge (iota .tc ⟨2, ![2048, L]⟩ 32 [0] hi) (broadcast ⟨2, ![2048, L]⟩ 1#32)) (dynamicRotate 0 1#32 none x hr)
          (broadcast ⟨2, ![2048, L]⟩ (Scalar.ofBits (F := Ideal) .f32 0x00000000#32)))))
      (mulf (broadcastTo ⟨2, ![2048, L]⟩ (extractStridedSlice ⟨2, ![1, L]⟩ ![2, 0] w h2) hb) x))
      (broadcastTo ⟨2, ![2048, L]⟩ (shapeCast ⟨2, ![1, L]⟩ b hw : FVec Ideal ⟨2, ![1, L]⟩ .f32) hb)

theorem convBlock_apply (hi : (⟨2, ![2048, L]⟩ : Shape).Iotas .tc 32 [0]) (hr : (⟨2, ![2048, L]⟩ : Shape).Rotates 0 none)
    (hb : (⟨2, ![1, L]⟩ : Shape).Broadcasts ⟨2, ![2048, L]⟩) (h0 : (⟨2, ![3, L]⟩ : Shape).Slices ![0, 0] ⟨2, ![1, L]⟩)
    (h1 : (⟨2, ![3, L]⟩ : Shape).Slices ![1, 0] ⟨2, ![1, L]⟩) (h2 : (⟨2, ![3, L]⟩ : Shape).Slices ![2, 0] ⟨2, ![1, L]⟩)
    (hw : (⟨2, ![1, L]⟩ : Shape).ShapeCasts ⟨2, ![1, L]⟩) (x : FVec Ideal ⟨2, ![2048, L]⟩ .f32) (w : Vec Ideal ⟨2, ![3, L]⟩ .f32) (b : Vec Ideal ⟨2, ![1, L]⟩ .f32)
    (s : Fin 2048) (l : Fin L) : convBlock hi hr hb h0 h1 h2 hw x w b (ix2 s l) = conv (chan x l) (taps3 w l) (b (ix2 0 l)) s := by
  unfold convBlock
  simp only [addf_apply, mulf_apply]
  rw [over_rows, over_rows, over_rows, over_rows, tap_zero, tap_one, tap_two, cast_row, shift_down 2 2#32 rfl (by decide) ge_two, shift_down 1 1#32 rfl (by decide) ge_one]
  rfl

theorem chan_cast (hc : (⟨3, ![1, 2048, L]⟩ : Shape).ShapeCasts ⟨2, ![2048, L]⟩) (x : Vec Ideal ⟨3, ![1, 2048, L]⟩ .f32) (l : Fin L) : chan (shapeCast ⟨2, ![2048, L]⟩ x hc) l = chan3 x l :=
  funext fun s => cast_block hc x s l

end Cert.Conv

end
-- ==== Proof.ConvPay.lean ====
module

public import proofs.«01_k».proof.Defs
public import proofs.«01_k».proof.Proof.ConvBlock
public import proofs.«01_k».proof.Proof.Gen.Kernel23Ideal.Value

@[expose] public section

set_option maxRecDepth 16384

noncomputable section

namespace Cert.Kernel23Ideal.Conv

open Cert.Kernel23Ideal Cert.Kernel23Ideal.Gen Cert.Conv
open Idealize.ShloMosaic hiding ix2 ix3
open Idealize.ShloMosaic.TcCoe Idealize.ShloMosaic.ValueIdx Idealize.ShloMosaic.Tactic
open Idealize.SL.Sem
open scoped BigOperators

/-! # What the body computes at a grid point, read at an element -/

/-- The gate's convolution. -/
theorem pay5_apply (x : Vec Ideal S1x2048x128 .f32) (w : Vec Ideal S3x128 .f32) (b : Vec Ideal S1x128 .f32) (s : Fin 2048) (l : Fin 128) :
    k0_pay5 x w b (ix2 s l) = conv (chan3 x l) (taps3 w l) (b (ix2 0 l)) s := by
  rw [← chan_cast shapeCasts_S1x2048x128_S2048x128]
  exact convBlock_apply iota_S2048x128_d0_w32 rotates_S2048x128_d0 broadcasts_S1x128_S2048x128 slices_S3x128_o0_0_S1x128 slices_S3x128_o1_0_S1x128
    slices_S3x128_o2_0_S1x128 shapeCasts_S1x128_S1x128 _ w b s l

theorem pay7_apply (da : Vec Ideal S1x2048x128 .f32) (cg : FVec Ideal S2048x128 .f32) (s : Fin 2048) (l : Fin 128) :
    k0_pay7 (k0_pay4 da) cg (ix2 s l) = linGrad (cg (ix2 s l)) (da (ix3 0 s l)) := by
  show (shapeCast S2048x128 da shapeCasts_S1x2048x128_S2048x128 : FVec Ideal S2048x128 .f32) (ix2 s l) * _ = _
  rw [cast_block]
  rfl

theorem pay8_apply (x : Vec Ideal S1x2048x128 .f32) (da : Vec Ideal S1x2048x128 .f32) (cg : FVec Ideal S2048x128 .f32) (w : Vec Ideal S3x128 .f32)
    (b : Vec Ideal S1x128 .f32) (s : Fin 2048) (l : Fin 128) :
    k0_pay8 (k0_pay3 x) (k0_pay4 da) cg w b (ix2 s l)
      = gateGrad (cg (ix2 s l)) (conv (chan3 x l) (taps3 w l) (b (ix2 0 l)) s) (da (ix3 0 s l)) := by
  rw [← chan_cast shapeCasts_S1x2048x128_S2048x128 x l, ← convBlock_apply iota_S2048x128_d0_w32 rotates_S2048x128_d0 broadcasts_S1x128_S2048x128
    slices_S3x128_o0_0_S1x128 slices_S3x128_o1_0_S1x128 slices_S3x128_o2_0_S1x128 shapeCasts_S1x128_S1x128, ← cast_block shapeCasts_S1x2048x128_S2048x128 da s l]
  unfold gateGrad
  rw [← one_word]
  rfl

/-- The convolution's gradient in the block's input. -/
theorem back_apply (x : FVec Ideal S2048x128 .f32) (w : Vec Ideal S3x128 .f32) (s : Fin 2048) (l : Fin 128) :
    k0_pay14 x w (ix2 s l) = back (chan x l) (taps3 w l) s := by
  unfold k0_pay14
  simp only [addf_apply, mulf_apply]
  rw [over_rows, over_rows, over_rows, tap_zero, tap_one, tap_two, shift_up 2 2046#32 rfl (by decide) (by decide) lt_two, shift_up 1 2047#32 rfl (by decide) (by decide) lt_one]
  rfl

theorem pay15_apply (x : FVec Ideal S2048x128 .f32) (w : Vec Ideal S3x128 .f32) (s : Fin 2048) (l : Fin 128) :
    k0_pay15 (k0_pay14 x w) (ix3 0 s l) = back (chan x l) (taps3 w l) s :=
  (cast_to_block _ _ s l).trans (back_apply x w s l)

theorem pay13_eq (v3 v5 v33 : FVec Ideal S2048x128 .f32) (v34 : Vec Ideal S3x128 .f32) (v35 : Vec Ideal S1x128 .f32) (w : Vec Ideal S3x128 .f32) :
    k0_pay13 (k0_pay8 v3 v5 v33 v34 v35) w (k0_pay9 v3 v5 v33 v34 v35 w) (k0_pay10 w) k0_pay11 (k0_pay12 v3 v5 v33 v34 v35)
      (Scalar.ofBits (F := Ideal) .f32 0x00000000#32) = k0_pay15 (k0_pay14 (k0_pay8 v3 v5 v33 v34 v35) w) := rfl

/-- The sum over the positions, as a row. -/
theorem sum_apply (x : FVec Ideal S2048x128 .f32) (l : Fin 128) (hφ hacc) :
    (shapeCast S1x128 (multiReduction .add [0] S128 x 0x00000000#32 reduces_S2048x128_S128 hφ hacc : FVec Ideal S128 .f32) shapeCasts_S128_S1x128 : FVec Ideal S1x128 .f32) (ix2 0 l)
      = ∑ s, chan x l s := by
  refine (shapeCast_apply _ _ (ix2 0 l) (ValueIdx.ix1 l) ?_).trans ?_
  · rw [Shape.rowMajor_val_two, Shape.rowMajor_val_one]
    show l.val = 0 * 128 + l.val
    omega
  rw [Ideal.multiReduction_add_single]
  refine Finset.sum_congr rfl fun j _ => congrArg x ?_
  funext a; apply Fin.ext
  match a with
  | ⟨0, _⟩ => rfl
  | ⟨1, _⟩ => rfl

/-- Four rows and a block of four rows, one above the other. -/
theorem stack_apply (x0 x1 x2 x3 : FVec Ideal S1x128 .f32) (x4 : FVec Ideal S4x128 .f32) (r : Fin 8) (l : Fin 128) :
    (concatenate S8x128 0 [⟨S1x128, x0⟩, ⟨S1x128, x1⟩, ⟨S1x128, x2⟩, ⟨S1x128, x3⟩, ⟨S4x128, x4⟩] concatenates_S1x128_S1x128_S1x128_S1x128_S4x128_S8x128_d0 : FVec Ideal S8x128 .f32) (ix2 r l)
      = if r.val = 0 then x0 (ix2 0 l) else if r.val = 1 then x1 (ix2 0 l) else if r.val = 2 then x2 (ix2 0 l) else if r.val = 3 then x3 (ix2 0 l)
        else x4 (ix2 ⟨(r.val - 4) % 4, Nat.mod_lt _ (by decide)⟩ l) := by
  have hr := r.isLt
  have side : ∀ b : Fin 2, b ≠ 0 → b = 1 := by decide
  split_ifs with h0 h1 h2 h3
  · exact concatenate_apply_piece (t := S8x128) (0 : Fin 2) _ _ (ix2 r l) 0 (by simp) S1x128 x0 rfl rfl 0 rfl (ix2 0 l)
      (fun b hb => match b with | ⟨0, _⟩ => absurd rfl hb | ⟨1, _⟩ => rfl) (by show 0 + 0 = r.val; omega)
  · exact concatenate_apply_piece (t := S8x128) (0 : Fin 2) _ _ (ix2 r l) 1 (by simp) S1x128 x1 rfl rfl 1 rfl (ix2 0 l)
      (fun b hb => match b with | ⟨0, _⟩ => absurd rfl hb | ⟨1, _⟩ => rfl) (by show 1 + 0 = r.val; omega)
  · exact concatenate_apply_piece (t := S8x128) (0 : Fin 2) _ _ (ix2 r l) 2 (by simp) S1x128 x2 rfl rfl 2 rfl (ix2 0 l)
      (fun b hb => match b with | ⟨0, _⟩ => absurd rfl hb | ⟨1, _⟩ => rfl) (by show 2 + 0 = r.val; omega)
  · exact concatenate_apply_piece (t := S8x128) (0 : Fin 2) _ _ (ix2 r l) 3 (by simp) S1x128 x3 rfl rfl 3 rfl (ix2 0 l)
      (fun b hb => match b with | ⟨0, _⟩ => absurd rfl hb | ⟨1, _⟩ => rfl) (by show 3 + 0 = r.val; omega)
  · exact concatenate_apply_piece (t := S8x128) (0 : Fin 2) _ _ (ix2 r l) 4 (by simp) S4x128 x4 rfl rfl 4 rfl (ix2 ⟨(r.val - 4) % 4, Nat.mod_lt _ (by decide)⟩ l)
      (fun b hb => match b with | ⟨0, _⟩ => absurd rfl hb | ⟨1, _⟩ => rfl) (by show 4 + (r.val - 4) % 4 = r.val; omega)

/-- What a grid point adds to the gradients of taps and bias. -/
theorem pay1_apply (v3 dc : FVec Ideal S2048x128 .f32) (a : FVec Ideal S8x128 .f32) (r : Fin 8) (l : Fin 128) :
    k0_pay1 v3 dc a (iota .tc S2048x128 32 [0] iota_S2048x128_d0_w32) (ix2 r l) = a (ix2 r l) + tapSum r.val (chan v3 l) (chan dc l) := by
  unfold k0_pay1
  refine congrArg (fun z : EReal => a (ix2 r l) + z) ?_
  refine (stack_apply _ _ _ _ _ r l).trans ?_
  unfold tapSum tap
  split_ifs
  · exact (sum_apply _ l _ _).trans <| Finset.sum_congr rfl fun s _ => congrArg (fun z : EReal => dc (ix2 s l) * z) (shift_down 2 2#32 rfl (by decide) ge_two v3 s l)
  · exact (sum_apply _ l _ _).trans <| Finset.sum_congr rfl fun s _ => congrArg (fun z : EReal => dc (ix2 s l) * z) (shift_down 1 1#32 rfl (by decide) ge_one v3 s l)
  · exact sum_apply _ l _ _
  · exact (sum_apply _ l _ _).trans <| Finset.sum_congr rfl fun s _ => (mul_one _).symm
  · refine zero_word.trans ?_
    simp

theorem pay18_eq (v1 v72 : FVec Ideal S2048x128 .f32) (a : Vec Ideal S8x128 .f32) :
    k0_pay18 v1 v72 a = k0_pay1 v1 v72 (k0_pay19 a) (iota .tc S2048x128 32 [0] iota_S2048x128_d0_w32) := rfl

theorem pay19_eq (a : Vec Ideal S8x128 .f32) : k0_pay19 a = a := funext fun i => shapeCast_apply a _ i i rfl

end Cert.Kernel23Ideal.Conv

end
-- ==== Proof.ConvKernel.lean ====
module

public import proofs.«01_k».proof.Defs
public import proofs.«01_k».proof.Proof.ConvPay
public import Idealize.ShloMosaic.Lib.Pipeline.ReadBack

@[expose] public section

set_option maxRecDepth 16384

noncomputable section

namespace Cert.Kernel23Ideal.Conv

open Cert.Kernel23Ideal Cert.Kernel23Ideal.Gen Cert.Conv
open Idealize.ShloMosaic hiding ix2 ix3
open Idealize.ShloMosaic.TcCoe Idealize.ShloMosaic.ValueIdx Idealize.ShloMosaic.Tactic
open Idealize.SL.Sem
open scoped BigOperators

/-! # The four gradients, and that the kernel's run leaves them -/

abbrev UArr := Vec Ideal S2x2048x5632 .f32
abbrev WArr := Vec Ideal S3x5632 .f32
abbrev BArr := Vec Ideal S5632 .f32
abbrev AArr := Vec Ideal S2x2048x2816 .f32

/-- Channel `q` of the first half, of the gate. -/
def gch (q : Fin 2816) : Fin 5632 := ⟨q.val, by omega⟩
/-- Channel `q` of the second half. -/
def lch (q : Fin 2816) : Fin 5632 := ⟨q.val + 2816, by omega⟩

def uCol (u : UArr) (n : Fin 2) (ch : Fin 5632) : Col := fun s => u (ix3 n s ch)
def wCol (w : WArr) (ch : Fin 5632) : Fin 3 → EReal := fun k => w (ix2 k ch)

/-- The convolved channel `ch` of sequence `n`. -/
def convCol (u : UArr) (w : WArr) (b : BArr) (n : Fin 2) (ch : Fin 5632) : Col := conv (uCol u n ch) (wCol w ch) (b (ValueIdx.ix1 ch))

/-- The gradient in the gate's convolved channel. -/
def gCol (u : UArr) (w : WArr) (b : BArr) (a : AArr) (n : Fin 2) (q : Fin 2816) : Col :=
  fun s => gateGrad (convCol u w b n (gch q) s) (convCol u w b n (lch q) s) (a (ix3 n s q))

/-- The gradient in the other half's convolved channel. -/
def lCol (u : UArr) (w : WArr) (b : BArr) (a : AArr) (n : Fin 2) (q : Fin 2816) : Col :=
  fun s => linGrad (convCol u w b n (gch q) s) (a (ix3 n s q))

/-- The gradient in the first half of the input. -/
def duG (u : UArr) (w : WArr) (b : BArr) (a : AArr) : Vec Ideal S2x2048x2816 .f32 := fun i => back (gCol u w b a (i 0) (i 2)) (wCol w (gch (i 2))) (i 1)
/-- The gradient in the second half of the input. -/
def duL (u : UArr) (w : WArr) (b : BArr) (a : AArr) : Vec Ideal S2x2048x2816 .f32 := fun i => back (lCol u w b a (i 0) (i 2)) (wCol w (lch (i 2))) (i 1)
/-- The gradients of the first half's taps and bias. -/
def dwG (u : UArr) (w : WArr) (b : BArr) (a : AArr) : Vec Ideal S8x2816 .f32 := fun i =>
  tapSum (i 0).val (uCol u 0 (gch (i 1))) (gCol u w b a 0 (i 1)) + tapSum (i 0).val (uCol u 1 (gch (i 1))) (gCol u w b a 1 (i 1))
/-- The gradients of the second half's taps and bias. -/
def dwL (u : UArr) (w : WArr) (b : BArr) (a : AArr) : Vec Ideal S8x2816 .f32 := fun i =>
  tapSum (i 0).val (uCol u 0 (lch (i 1))) (lCol u w b a 0 (i 1)) + tapSum (i 0).val (uCol u 1 (lch (i 1))) (lCol u w b a 1 (i 1))

variable (m : (ℓ : Loc nD τ sig) → Buf (Elt Ideal) ℓ) (c : Dev nD)

abbrev uArg : UArr := m ((c.tc : Thread nD τ).loc main_arg0)
abbrev wArg : WArr := m ((c.tc : Thread nD τ).loc main_arg1)
abbrev bArg : BArr := m ((c.tc : Thread nD τ).loc main_arg2)
abbrev aArg : AArr := m ((c.tc : Thread nD τ).loc main_arg3)

theorem V_b (ch : Fin 5632) : (V m c main_v0 : Vec Ideal S1x5632 .f32) (ix2 0 ch) = bArg m c (ValueIdx.ix1 ch) := by
  have e : (V m c main_v0 : Vec Ideal S1x5632 .f32) = shapeCast S1x5632 (bArg m c) shapeCasts_S5632_S1x5632 := by
    entry_read
    rfl
  rw [e]
  refine shapeCast_apply _ _ _ _ ?_
  rw [Shape.rowMajor_val_one, Shape.rowMajor_val_two]
  show ch.val = 0 * 5632 + ch.val
  omega

theorem index0 : ∀ t : Fin cfg0.N, win0_0.index t = ![t.val % 2, 0, t.val / 2] := by decide +kernel
theorem index1 : ∀ t : Fin cfg0.N, win0_1.index t = ![t.val % 2, 0, t.val / 2 + 22] := by decide +kernel
theorem index2 : ∀ t : Fin cfg0.N, win0_2.index t = ![0, t.val / 2] := by decide +kernel
theorem index3 : ∀ t : Fin cfg0.N, win0_3.index t = ![0, t.val / 2 + 22] := by decide +kernel
theorem index4 : ∀ t : Fin cfg0.N, win0_4.index t = ![0, t.val / 2] := by decide +kernel
theorem index5 : ∀ t : Fin cfg0.N, win0_5.index t = ![0, t.val / 2 + 22] := by decide +kernel
theorem index6 : ∀ t : Fin cfg0.N, win0_6.index t = ![t.val % 2, 0, t.val / 2] := by decide +kernel
theorem index7 : ∀ t : Fin cfg0.N, win0_7.index t = ![t.val % 2, 0, t.val / 2] := by decide +kernel
theorem index8 : ∀ t : Fin cfg0.N, win0_8.index t = ![t.val % 2, 0, t.val / 2] := by decide +kernel
theorem index9 : ∀ t : Fin cfg0.N, win0_9.index t = ![0, t.val / 2] := by decide +kernel
theorem index10 : ∀ t : Fin cfg0.N, win0_10.index t = ![0, t.val / 2] := by decide +kernel

/-- Point `t` works on sequence `n` and, at lane `l`, on channel `q`. -/
def At (t : Fin cfg0.N) (n : Fin 2) (q : Fin 2816) (l : Fin 128) : Prop := t.val % 2 = n.val ∧ 128 * (t.val / 2) + l.val = q.val

variable {t : Fin cfg0.N} {n : Fin 2} {q : Fin 2816} {l : Fin 128}

theorem blk_u (h : At t n q l) : chan3 (iblk m c 0 t) l = uCol (uArg m c) n (gch q) := by
  obtain ⟨h1, h2⟩ := h
  funext s
  refine congrArg (uArg m c) ?_
  funext a; apply Fin.ext
  match a with
  | ⟨0, _⟩ => show win0_0.index t 0 * 1 + 1 * 0 = n.val; rw [index0]; show t.val % 2 * 1 + 1 * 0 = n.val; omega
  | ⟨1, _⟩ => show win0_0.index t 1 * 2048 + 1 * s.val = s.val; rw [index0]; show 0 * 2048 + 1 * s.val = s.val; omega
  | ⟨2, _⟩ => show win0_0.index t 2 * 128 + 1 * l.val = q.val; rw [index0]; show t.val / 2 * 128 + 1 * l.val = q.val; omega

theorem blk_u' (h : At t n q l) : chan3 (iblk m c 1 t) l = uCol (uArg m c) n (lch q) := by
  obtain ⟨h1, h2⟩ := h
  funext s
  refine congrArg (uArg m c) ?_
  funext a; apply Fin.ext
  match a with
  | ⟨0, _⟩ => show win0_1.index t 0 * 1 + 1 * 0 = n.val; rw [index1]; show t.val % 2 * 1 + 1 * 0 = n.val; omega
  | ⟨1, _⟩ => show win0_1.index t 1 * 2048 + 1 * s.val = s.val; rw [index1]; show 0 * 2048 + 1 * s.val = s.val; omega
  | ⟨2, _⟩ => show win0_1.index t 2 * 128 + 1 * l.val = q.val + 2816; rw [index1]; show (t.val / 2 + 22) * 128 + 1 * l.val = q.val + 2816; omega

theorem blk_w (h : At t n q l) : taps3 (iblk m c 2 t) l = wCol (wArg m c) (gch q) := by
  obtain ⟨h1, h2⟩ := h
  funext s
  refine congrArg (wArg m c) ?_
  funext a; apply Fin.ext
  match a with
  | ⟨0, _⟩ => show win0_2.index t 0 * 3 + 1 * s.val = s.val; rw [index2]; show 0 * 3 + 1 * s.val = s.val; omega
  | ⟨1, _⟩ => show win0_2.index t 1 * 128 + 1 * l.val = q.val; rw [index2]; show t.val / 2 * 128 + 1 * l.val = q.val; omega

theorem blk_w' (h : At t n q l) : taps3 (iblk m c 3 t) l = wCol (wArg m c) (lch q) := by
  obtain ⟨h1, h2⟩ := h
  funext s
  refine congrArg (wArg m c) ?_
  funext a; apply Fin.ext
  match a with
  | ⟨0, _⟩ => show win0_3.index t 0 * 3 + 1 * s.val = s.val; rw [index3]; show 0 * 3 + 1 * s.val = s.val; omega
  | ⟨1, _⟩ => show win0_3.index t 1 * 128 + 1 * l.val = q.val + 2816; rw [index3]; show (t.val / 2 + 22) * 128 + 1 * l.val = q.val + 2816; omega

theorem blk_b (h : At t n q l) : (iblk m c 4 t : Vec Ideal S1x128 .f32) (ix2 0 l) = bArg m c (ValueIdx.ix1 (gch q)) := by
  obtain ⟨h1, h2⟩ := h
  refine Eq.trans ?_ (V_b m c (gch q))
  refine congrArg (V m c main_v0 : Vec Ideal S1x5632 .f32) ?_
  funext a; apply Fin.ext
  match a with
  | ⟨0, _⟩ => show win0_4.index t 0 * 1 + 1 * 0 = 0; rw [index4]; rfl
  | ⟨1, _⟩ => show win0_4.index t 1 * 128 + 1 * l.val = q.val; rw [index4]; show t.val / 2 * 128 + 1 * l.val = q.val; omega

theorem blk_b' (h : At t n q l) : (iblk m c 5 t : Vec Ideal S1x128 .f32) (ix2 0 l) = bArg m c (ValueIdx.ix1 (lch q)) := by
  obtain ⟨h1, h2⟩ := h
  refine Eq.trans ?_ (V_b m c (lch q))
  refine congrArg (V m c main_v0 : Vec Ideal S1x5632 .f32) ?_
  funext a; apply Fin.ext
  match a with
  | ⟨0, _⟩ => show win0_5.index t 0 * 1 + 1 * 0 = 0; rw [index5]; rfl
  | ⟨1, _⟩ => show win0_5.index t 1 * 128 + 1 * l.val = q.val + 2816; rw [index5]; show (t.val / 2 + 22) * 128 + 1 * l.val = q.val + 2816; omega

theorem blk_a (h : At t n q l) (s : Fin 2048) : (iblk m c 6 t : Vec Ideal S1x2048x128 .f32) (ix3 0 s l) = aArg m c (ix3 n s q) := by
  obtain ⟨h1, h2⟩ := h
  refine congrArg (aArg m c) ?_
  funext a; apply Fin.ext
  match a with
  | ⟨0, _⟩ => show win0_6.index t 0 * 1 + 1 * 0 = n.val; rw [index6]; show t.val % 2 * 1 + 1 * 0 = n.val; omega
  | ⟨1, _⟩ => show win0_6.index t 1 * 2048 + 1 * s.val = s.val; rw [index6]; show 0 * 2048 + 1 * s.val = s.val; omega
  | ⟨2, _⟩ => show win0_6.index t 2 * 128 + 1 * l.val = q.val; rw [index6]; show t.val / 2 * 128 + 1 * l.val = q.val; omega

/-- The gate's convolution at point `t`. -/
abbrev cgAt (t : Fin cfg0.N) : FVec Ideal S2048x128 .f32 := k0_pay5 (iblk m c 0 t) (iblk m c 2 t) (iblk m c 4 t)
/-- The gradient in the gate's convolution at point `t`. -/
abbrev dcgAt (t : Fin cfg0.N) : FVec Ideal S2048x128 .f32 := k0_pay8 (k0_pay3 (iblk m c 1 t)) (k0_pay4 (iblk m c 6 t)) (cgAt m c t) (iblk m c 3 t) (iblk m c 5 t)
/-- The gradient in the other half's convolution at point `t`. -/
abbrev dclAt (t : Fin cfg0.N) : FVec Ideal S2048x128 .f32 := k0_pay7 (k0_pay4 (iblk m c 6 t)) (cgAt m c t)

theorem cgAt_apply (h : At t n q l) (s : Fin 2048) : cgAt m c t (ix2 s l) = convCol (uArg m c) (wArg m c) (bArg m c) n (gch q) s := by
  refine (pay5_apply _ _ _ s l).trans ?_
  rw [blk_u m c h, blk_w m c h, blk_b m c h]
  rfl

theorem dcg_chan (h : At t n q l) : chan (dcgAt m c t) l = gCol (uArg m c) (wArg m c) (bArg m c) (aArg m c) n q := by
  funext s
  refine (pay8_apply _ _ _ _ _ s l).trans ?_
  rw [cgAt_apply m c h, blk_u' m c h, blk_w' m c h, blk_b' m c h, blk_a m c h]
  rfl

theorem dcl_chan (h : At t n q l) : chan (dclAt m c t) l = lCol (uArg m c) (wArg m c) (bArg m c) (aArg m c) n q := by
  funext s
  refine (pay7_apply _ _ s l).trans ?_
  rw [cgAt_apply m c h, blk_a m c h]
  rfl

theorem out_u (t : Fin cfg0.N) : (outsAt0 m c t.val t.isLt).1 = k0_pay15 (k0_pay14 (dcgAt m c t) (iblk m c 2 t)) := by
  by_cases h : t.val % 2 = 0
  · rw [outsAt0_A m c t h]
    frame_out
    exact pay13_eq _ _ _ _ _ _
  · rw [outsAt0_B m c t h]
    frame_out
    exact pay13_eq _ _ _ _ _ _

theorem out_u' (t : Fin cfg0.N) : (outsAt0 m c t.val t.isLt).2.1 = k0_pay15 (k0_pay14 (dclAt m c t) (iblk m c 3 t)) := by
  by_cases h : t.val % 2 = 0
  · rw [outsAt0_A m c t h]
    frame_out
  · rw [outsAt0_B m c t h]
    frame_out

theorem out_w_A (t : Fin cfg0.N) (h : t.val % 2 = 0) : (outsAt0 m c t.val t.isLt).2.2.1 = k0_pay18 (k0_pay2 (iblk m c 0 t)) (dcgAt m c t) (k0_pay16 (F := Ideal)) := by
  rw [outsAt0_A m c t h]
  frame_out

theorem out_w_B (t : Fin cfg0.N) (h : ¬t.val % 2 = 0) : (outsAt0 m c t.val t.isLt).2.2.1
    = k0_pay18 (k0_pay2 (iblk m c 0 t)) (dcgAt m c t) (outsAt0 m c (t.val - 1) (Nat.lt_of_le_of_lt (Nat.sub_le _ _) t.isLt)).2.2.1 := by
  rw [outsAt0_B m c t h]
  frame_out

theorem out_w'_A (t : Fin cfg0.N) (h : t.val % 2 = 0) : (outsAt0 m c t.val t.isLt).2.2.2 = k0_pay18 (k0_pay3 (iblk m c 1 t)) (dclAt m c t) (k0_pay17 (F := Ideal)) := by
  rw [outsAt0_A m c t h]
  frame_out
  rfl

theorem out_w'_B (t : Fin cfg0.N) (h : ¬t.val % 2 = 0) : (outsAt0 m c t.val t.isLt).2.2.2
    = k0_pay18 (k0_pay3 (iblk m c 1 t)) (dclAt m c t) (outsAt0 m c (t.val - 1) (Nat.lt_of_le_of_lt (Nat.sub_le _ _) t.isLt)).2.2.2 := by
  rw [outsAt0_B m c t h]
  frame_out
  rfl

/-- A second point's predecessor works on sequence 0 of the same channels. -/
theorem At.pred (h : At t 1 q l) : At (⟨t.val - 1, Nat.lt_of_le_of_lt (Nat.sub_le _ _) t.isLt⟩ : Fin cfg0.N) 0 q l := by
  obtain ⟨h1, h2⟩ := h
  have h1' : t.val % 2 = 1 := h1
  refine ⟨?_, ?_⟩
  · show (t.val - 1) % 2 = 0; omega
  · show 128 * ((t.val - 1) / 2) + l.val = q.val; omega

/-- One point's addition, over what was there. -/
theorem add_apply (h : At t n q l) (a : Vec Ideal S8x128 .f32) (r : Fin 8) :
    k0_pay18 (k0_pay2 (iblk m c 0 t)) (dcgAt m c t) a (ix2 r l)
      = a (ix2 r l) + tapSum r.val (uCol (uArg m c) n (gch q)) (gCol (uArg m c) (wArg m c) (bArg m c) (aArg m c) n q) := by
  rw [pay18_eq, pay19_eq, pay1_apply, dcg_chan m c h, ← blk_u m c h, ← chan_cast shapeCasts_S1x2048x128_S2048x128]
  rfl

theorem add_apply' (h : At t n q l) (a : Vec Ideal S8x128 .f32) (r : Fin 8) :
    k0_pay18 (k0_pay3 (iblk m c 1 t)) (dclAt m c t) a (ix2 r l)
      = a (ix2 r l) + tapSum r.val (uCol (uArg m c) n (lch q)) (lCol (uArg m c) (wArg m c) (bArg m c) (aArg m c) n q) := by
  rw [pay18_eq, pay19_eq, pay1_apply, dcl_chan m c h, ← blk_u' m c h, ← chan_cast shapeCasts_S1x2048x128_S2048x128]
  rfl

theorem zeros_apply (i : S8x128.Idx) : (k0_pay16 (F := Ideal)) i = (0 : EReal) := zero_word
theorem zeros_apply' (i : S8x128.Idx) : (k0_pay17 (F := Ideal)) i = (0 : EReal) := zero_word

theorem sum_w (h : At t 1 q l) (r : Fin 8) : (outsAt0 m c t.val t.isLt).2.2.1 (ix2 r l) = dwG (uArg m c) (wArg m c) (bArg m c) (aArg m c) (ix2 r q) := by
  have h1 : t.val % 2 = 1 := h.1
  have e := out_w_A m c ⟨t.val - 1, Nat.lt_of_le_of_lt (Nat.sub_le _ _) t.isLt⟩ h.pred.1
  rw [out_w_B m c t (by omega), add_apply m c h]
  refine congrArg₂ (· + · : EReal → EReal → EReal) ?_ rfl
  refine (congrFun e (ix2 r l)).trans ((add_apply m c h.pred _ r).trans ?_)
  rw [zeros_apply, zero_add]

theorem sum_w' (h : At t 1 q l) (r : Fin 8) : (outsAt0 m c t.val t.isLt).2.2.2 (ix2 r l) = dwL (uArg m c) (wArg m c) (bArg m c) (aArg m c) (ix2 r q) := by
  have h1 : t.val % 2 = 1 := h.1
  have e := out_w'_A m c ⟨t.val - 1, Nat.lt_of_le_of_lt (Nat.sub_le _ _) t.isLt⟩ h.pred.1
  rw [out_w'_B m c t (by omega), add_apply' m c h]
  refine congrArg₂ (· + · : EReal → EReal → EReal) ?_ rfl
  refine (congrFun e (ix2 r l)).trans ((add_apply' m c h.pred _ r).trans ?_)
  rw [zeros_apply', zero_add]

theorem final7 : (dats m 0 c).arrAt 7 cfg0.N = duG (uArg m c) (wArg m c) (bArg m c) (aArg m c) := by
  refine (dats m 0 c).arrAt_eq_of_covers 7 _ (by decide +kernel) fun t hf y => ?_
  blk_simp
  rw [after0_7, out_u]
  have ht : t.val < 44 := lt_of_lt_of_eq t.isLt N_0
  obtain ⟨s, l, rfl⟩ : ∃ (s : Fin 2048) (l : Fin 128), y = (ix3 0 s l : S1x2048x128.Idx) :=
    ⟨y 1, y 2, funext fun a => match a with | ⟨0, _⟩ => Subsingleton.elim (α := Fin 1) _ _ | ⟨1, _⟩ => rfl | ⟨2, _⟩ => rfl⟩
  have h : At t ⟨t.val % 2, Nat.mod_lt _ (by decide)⟩ ⟨128 * (t.val / 2) + l.val, by omega⟩ l := ⟨rfl, rfl⟩
  have e : ((View.whole main_v1_0).slice (win0_7.rect t)).emb (ix3 0 s l : S1x2048x128.Idx)
      = (ix3 ⟨t.val % 2, Nat.mod_lt _ (by decide)⟩ s ⟨128 * (t.val / 2) + l.val, by omega⟩ : S2x2048x2816.Idx) := by
    funext a; apply Fin.ext
    match a with
    | ⟨0, _⟩ => show win0_7.index t 0 * 1 + 1 * 0 = _; rw [index7]; show t.val % 2 * 1 + 1 * 0 = t.val % 2; omega
    | ⟨1, _⟩ => show win0_7.index t 1 * 2048 + 1 * s.val = _; rw [index7]; show 0 * 2048 + 1 * s.val = s.val; omega
    | ⟨2, _⟩ => show win0_7.index t 2 * 128 + 1 * l.val = _; rw [index7]; show t.val / 2 * 128 + 1 * l.val = 128 * (t.val / 2) + l.val; omega
  rw [e]
  refine (pay15_apply _ _ s l).trans ?_
  rw [dcg_chan m c h, blk_w m c h]
  rfl

theorem final8 : (dats m 0 c).arrAt 8 cfg0.N = duL (uArg m c) (wArg m c) (bArg m c) (aArg m c) := by
  refine (dats m 0 c).arrAt_eq_of_covers 8 _ (by decide +kernel) fun t hf y => ?_
  blk_simp
  rw [after0_8, out_u']
  have ht : t.val < 44 := lt_of_lt_of_eq t.isLt N_0
  obtain ⟨s, l, rfl⟩ : ∃ (s : Fin 2048) (l : Fin 128), y = (ix3 0 s l : S1x2048x128.Idx) :=
    ⟨y 1, y 2, funext fun a => match a with | ⟨0, _⟩ => Subsingleton.elim (α := Fin 1) _ _ | ⟨1, _⟩ => rfl | ⟨2, _⟩ => rfl⟩
  have h : At t ⟨t.val % 2, Nat.mod_lt _ (by decide)⟩ ⟨128 * (t.val / 2) + l.val, by omega⟩ l := ⟨rfl, rfl⟩
  have e : ((View.whole main_v1_1).slice (win0_8.rect t)).emb (ix3 0 s l : S1x2048x128.Idx)
      = (ix3 ⟨t.val % 2, Nat.mod_lt _ (by decide)⟩ s ⟨128 * (t.val / 2) + l.val, by omega⟩ : S2x2048x2816.Idx) := by
    funext a; apply Fin.ext
    match a with
    | ⟨0, _⟩ => show win0_8.index t 0 * 1 + 1 * 0 = _; rw [index8]; show t.val % 2 * 1 + 1 * 0 = t.val % 2; omega
    | ⟨1, _⟩ => show win0_8.index t 1 * 2048 + 1 * s.val = _; rw [index8]; show 0 * 2048 + 1 * s.val = s.val; omega
    | ⟨2, _⟩ => show win0_8.index t 2 * 128 + 1 * l.val = _; rw [index8]; show t.val / 2 * 128 + 1 * l.val = 128 * (t.val / 2) + l.val; omega
  rw [e]
  refine (pay15_apply _ _ s l).trans ?_
  rw [dcl_chan m c h, blk_w' m c h]
  rfl

theorem final9 : (dats m 0 c).arrAt 9 cfg0.N = dwG (uArg m c) (wArg m c) (bArg m c) (aArg m c) := by
  refine (dats m 0 c).arrAt_eq_of_covers 9 _ (by decide +kernel) fun t hf y => ?_
  blk_simp
  rw [after0_9]
  have h1 : t.val % 2 = 1 := (flush0_9 t).mp hf
  have ht : t.val < 44 := lt_of_lt_of_eq t.isLt N_0
  obtain ⟨r, l, rfl⟩ : ∃ (r : Fin 8) (l : Fin 128), y = (ix2 r l : S8x128.Idx) :=
    ⟨y 0, y 1, funext fun a => match a with | ⟨0, _⟩ => rfl | ⟨1, _⟩ => rfl⟩
  have h : At t 1 ⟨128 * (t.val / 2) + l.val, by omega⟩ l := ⟨h1, rfl⟩
  have e : ((View.whole main_v1_2).slice (win0_9.rect t)).emb (ix2 r l : S8x128.Idx) = (ix2 r ⟨128 * (t.val / 2) + l.val, by omega⟩ : S8x2816.Idx) := by
    funext a; apply Fin.ext
    match a with
    | ⟨0, _⟩ => show win0_9.index t 0 * 8 + 1 * r.val = _; rw [index9]; show 0 * 8 + 1 * r.val = r.val; omega
    | ⟨1, _⟩ => show win0_9.index t 1 * 128 + 1 * l.val = _; rw [index9]; show t.val / 2 * 128 + 1 * l.val = 128 * (t.val / 2) + l.val; omega
  rw [e]
  exact sum_w m c h r

theorem final10 : (dats m 0 c).arrAt 10 cfg0.N = dwL (uArg m c) (wArg m c) (bArg m c) (aArg m c) := by
  refine (dats m 0 c).arrAt_eq_of_covers 10 _ (by decide +kernel) fun t hf y => ?_
  blk_simp
  rw [after0_10]
  have h1 : t.val % 2 = 1 := (flush0_10 t).mp hf
  have ht : t.val < 44 := lt_of_lt_of_eq t.isLt N_0
  obtain ⟨r, l, rfl⟩ : ∃ (r : Fin 8) (l : Fin 128), y = (ix2 r l : S8x128.Idx) :=
    ⟨y 0, y 1, funext fun a => match a with | ⟨0, _⟩ => rfl | ⟨1, _⟩ => rfl⟩
  have h : At t 1 ⟨128 * (t.val / 2) + l.val, by omega⟩ l := ⟨h1, rfl⟩
  have e : ((View.whole main_v1_3).slice (win0_10.rect t)).emb (ix2 r l : S8x128.Idx) = (ix2 r ⟨128 * (t.val / 2) + l.val, by omega⟩ : S8x2816.Idx) := by
    funext a; apply Fin.ext
    match a with
    | ⟨0, _⟩ => show win0_10.index t 0 * 8 + 1 * r.val = _; rw [index10]; show 0 * 8 + 1 * r.val = r.val; omega
    | ⟨1, _⟩ => show win0_10.index t 1 * 128 + 1 * l.val = _; rw [index10]; show t.val / 2 * 128 + 1 * l.val = 128 * (t.val / 2) + l.val; omega
  rw [e]
  exact sum_w' m c h r

end Cert.Kernel23Ideal.Conv

end
-- ==== Proof.TwoAxes.lean ====
module

public import Idealize.ShloMosaic.PureOps.Ideal.Laws
public import Idealize.ShloMosaic.Lib.ValueIdxCore

@[expose] public section

namespace Cert.TwoAxes

open Idealize.ShloMosaic
open Idealize.ShloMosaic.ValueIdx
open scoped BigOperators

/-! # The host's sum over the first two of three axes -/

theorem sum_two {A B C : ℕ} {u : Shape} (hr : Shape.ReducesTo ⟨3, ![A, B, C]⟩ [0, 1] ⟨1, ![C]⟩) (hu : 0 < u.numel)
    (x : Vec Ideal ⟨3, ![A, B, C]⟩ .f32) (z : Vec Ideal u .f32) (hz : z (Shape.Idx.first hu) = (0 : EReal)) (ch : Fin C) :
    Host.reduceAdd (F := Ideal) (φ := .f32) x z hr hu (ix1 ch) = ∑ n : Fin A, ∑ s : Fin B, (x (ix3 n s ch) : EReal) := by
  have hd : ∀ i : Shape.Idx ⟨3, ![A, B, C]⟩, Shape.ReducesTo.drop hr i = ix1 ch ↔ i 2 = ch := fun i => by
    have e0 := Shape.ReducesTo.drop_apply_val_of_eq hr i 0 2 Nat.one_pos rfl
    constructor
    · intro e
      rw [e] at e0
      exact Fin.ext e0.symm
    · rintro rfl
      funext k
      match k with
      | ⟨0, _⟩ => exact Fin.ext e0
  show Ideal.hostReduceAdd hr x (z (Shape.Idx.first hu)) (ix1 ch) = _
  unfold Ideal.hostReduceAdd
  rw [hz, zero_add, ← Fintype.sum_prod_type' (f := fun (n : Fin A) (s : Fin B) => (x (ix3 n s ch) : EReal))]
  have he : ∀ i : Shape.Idx ⟨3, ![A, B, C]⟩, i 2 = ch → ix3 (i 0) (i 1) ch = i := fun i h => by
    subst h
    exact funext fun k => match k with | ⟨0, _⟩ => rfl | ⟨1, _⟩ => rfl | ⟨2, _⟩ => rfl
  refine Finset.sum_bij' (fun i _ => ((i 0, i 1) : Fin A × Fin B)) (fun p _ => ix3 p.1 p.2 ch) (fun _ _ => Finset.mem_univ _)
    (fun p _ => Finset.mem_filter.mpr ⟨Finset.mem_univ _, (hd _).mpr rfl⟩) ?_ (fun _ _ => rfl) ?_
  · intro i hi
    exact he i ((hd i).mp (Finset.mem_filter.mp hi).2)
  · intro i hi
    exact congrArg x (he i ((hd i).mp (Finset.mem_filter.mp hi).2)).symm

/-- Over two axes of length 1 there is one value. -/
theorem sum_units {C : ℕ} {u : Shape} (hr : Shape.ReducesTo ⟨3, ![1, 1, C]⟩ [0, 1] ⟨1, ![C]⟩) (hu : 0 < u.numel)
    (x : Vec Ideal ⟨3, ![1, 1, C]⟩ .f32) (z : Vec Ideal u .f32) (hz : z (Shape.Idx.first hu) = (0 : EReal)) (ch : Fin C) :
    Host.reduceAdd (F := Ideal) (φ := .f32) x z hr hu (ix1 ch) = x (ix3 0 0 ch) := by
  rw [sum_two hr hu x z hz, Fin.sum_univ_one, Fin.sum_univ_one]

end Cert.TwoAxes
-- ==== Proof.ConvRef.lean ====
module

public import proofs.«01_k».proof.Defs
public import proofs.«01_k».proof.Proof.ConvKernel
public import proofs.«01_k».proof.Proof.Gen.Reference23Ideal.Run
public import proofs.«01_k».proof.Proof.Gen.Reference23Ideal.Read
public import proofs.«01_k».proof.Proof.TwoAxes
public import Idealize.ShloMosaic.Lib.KernelVsHost

@[expose] public section

set_option maxRecDepth 16384

noncomputable section

namespace Cert.ConvRef

open Cert.Reference23Ideal Cert.Reference23Ideal.Gen Cert.Reference23Ideal.Read Cert.Conv
open Cert.Kernel23Ideal.Conv (UArr WArr BArr AArr gch lch uCol wCol convCol gCol lCol duG duL dwG dwL)
open Idealize.ShloMosaic hiding ix1 ix2 ix3
open Idealize.ShloMosaic.TcCoe Idealize.ShloMosaic.ValueIdx
open Idealize.SL.Sem
open Cert.TwoAxes
open scoped BigOperators

/-! # What the reference computes, read at an element -/

variable (u : UArr) (w : WArr) (b : BArr) (a : AArr)

/-- The input with two rows of zeros in front. -/
theorem padded_apply (n : Fin 2) (r : Fin 2050) (ch : Fin 5632) :
    val_main_v1 (F := Ideal) u (ix3 n r ch) = if h : 2 ≤ r.val then u (ix3 n ⟨r.val - 2, by omega⟩ ch) else (0 : EReal) := by
  unfold val_main_v1
  by_cases h : 2 ≤ r.val
  · rw [dif_pos h]
    exact concatenate_apply_piece (t := S2x2050x5632) (1 : Fin 3) _ _ (ix3 n r ch) 1 (by simp) S2x2048x5632 u rfl rfl 2 rfl (ix3 n ⟨r.val - 2, by omega⟩ ch)
      (fun k hk => match k with | ⟨0, _⟩ => rfl | ⟨1, _⟩ => absurd rfl hk | ⟨2, _⟩ => rfl) (by show 2 + (r.val - 2) = r.val; omega)
  · rw [dif_neg h]
    refine (concatenate_apply_piece (t := S2x2050x5632) (1 : Fin 3) _ _ (ix3 n r ch) 0 (by simp) S2x2x5632 (val_main_v0 (F := Ideal)) rfl rfl 0 rfl (ix3 n ⟨r.val, by omega⟩ ch)
      (fun k hk => match k with | ⟨0, _⟩ => rfl | ⟨1, _⟩ => absurd rfl hk | ⟨2, _⟩ => rfl) (by show 0 + r.val = r.val; omega)).trans ?_
    rw [val_main_v0_apply, val_main_cst_apply]
    exact zero_word

theorem tap0_apply (n : Fin 2) (s : Fin 2048) (ch : Fin 5632) : val_main_v5 (F := Ideal) u (ix3 n s ch) = down 2 (uCol u n ch) s := by
  rw [val_main_v5_apply, show idx_main_v5 (ix3 n s ch) = (ix3 n ⟨s.val, by omega⟩ ch : S2x2050x5632.Idx) from
    funext fun k => match k with | ⟨0, _⟩ => rfl | ⟨1, _⟩ => rfl | ⟨2, _⟩ => rfl, padded_apply]
  unfold down
  by_cases h : 2 ≤ s.val
  · rw [dif_pos h, if_pos h]; rfl
  · rw [dif_neg h, if_neg h]

theorem tap1_apply (n : Fin 2) (s : Fin 2048) (ch : Fin 5632) : val_main_v13 (F := Ideal) u (ix3 n s ch) = down 1 (uCol u n ch) s := by
  rw [val_main_v13_apply, show idx_main_v13 (ix3 n s ch) = (ix3 n ⟨1 + s.val, by omega⟩ ch : S2x2050x5632.Idx) from
    funext fun k => match k with | ⟨0, _⟩ => rfl | ⟨1, _⟩ => rfl | ⟨2, _⟩ => rfl, padded_apply]
  unfold down
  by_cases h : 1 ≤ s.val
  · rw [dif_pos (show 2 ≤ 1 + s.val by omega), if_pos h]
    exact congrArg (fun z => u (ix3 n z ch)) (Fin.ext (by show 1 + s.val - 2 = s.val - 1; omega))
  · rw [dif_neg (show ¬2 ≤ 1 + s.val by omega), if_neg h]

theorem tap2_apply (n : Fin 2) (s : Fin 2048) (ch : Fin 5632) : val_main_v20 (F := Ideal) u (ix3 n s ch) = uCol u n ch s := by
  rw [val_main_v20_apply, show idx_main_v20 (ix3 n s ch) = (ix3 n ⟨2 + s.val, by omega⟩ ch : S2x2050x5632.Idx) from
    funext fun k => match k with | ⟨0, _⟩ => rfl | ⟨1, _⟩ => rfl | ⟨2, _⟩ => rfl, padded_apply, dif_pos (show 2 ≤ 2 + s.val by omega)]
  exact congrArg (fun z => u (ix3 n z ch)) (Fin.ext (by show 2 + s.val - 2 = s.val; omega))

theorem w0_apply (ch : Fin 5632) : val_main_v6 (F := Ideal) w (ix3 0 0 ch) = wCol w ch 0 := by
  rw [val_main_v6_apply, val_main_v4_apply, val_main_v3_apply]
  refine congrArg w (funext fun k => Fin.ext ?_)
  match k with
  | ⟨0, _⟩ => rfl
  | ⟨1, _⟩ => show ch.val % 5632 = ch.val; omega
theorem w1_apply (ch : Fin 5632) : val_main_v14 (F := Ideal) w (ix3 0 0 ch) = wCol w ch 1 := by
  rw [val_main_v14_apply, val_main_v12_apply, val_main_v11_apply]
  refine congrArg w (funext fun k => Fin.ext ?_)
  match k with
  | ⟨0, _⟩ => rfl
  | ⟨1, _⟩ => show ch.val % 5632 = ch.val; omega
theorem w2_apply (ch : Fin 5632) : val_main_v21 (F := Ideal) w (ix3 0 0 ch) = wCol w ch 2 := by
  rw [val_main_v21_apply, val_main_v19_apply, val_main_v18_apply]
  refine congrArg w (funext fun k => Fin.ext ?_)
  match k with
  | ⟨0, _⟩ => rfl
  | ⟨1, _⟩ => show ch.val % 5632 = ch.val; omega

/-- A row of channels spread over the sequences and positions is read at position 0. -/
theorem spread (i : S2x2048x5632.Idx) (n : Fin 2) (s : Fin 2048) (ch : Fin 5632) (h : i = ix3 n s ch) : idx_main_v7 i = (ix3 0 0 ch : S1x1x5632.Idx) := by
  subst h
  exact funext fun k => match k with | ⟨0, _⟩ => rfl | ⟨1, _⟩ => rfl | ⟨2, _⟩ => rfl

theorem conv_apply (n : Fin 2) (s : Fin 2048) (ch : Fin 5632) : val_main_v27 (F := Ideal) u w b (ix3 n s ch) = convCol u w b n ch s := by
  rw [val_main_v27_apply, val_main_v24_apply, val_main_v17_apply, val_main_v10_apply, val_main_v8_apply, val_main_v16_apply, val_main_v23_apply,
    val_main_v7_apply, val_main_v15_apply, val_main_v22_apply, tap0_apply, tap1_apply, tap2_apply, val_main_v26_apply, val_main_v25_apply,
    spread _ n s ch rfl, show idx_main_v15 (ix3 n s ch) = _ from spread _ n s ch rfl, show idx_main_v22 (ix3 n s ch) = _ from spread _ n s ch rfl,
    w0_apply, w1_apply, w2_apply, val_main_v9_apply, val_main_cst_1_apply]
  show ((Scalar.ofBits (F := Ideal) .f32 0x00000000#32 : EReal) + _ + _ + _ + _ : EReal) = _
  rw [zero_word, zero_add]
  unfold convCol conv
  refine congrArg₂ (· + · : EReal → EReal → EReal) rfl (congrArg b (funext fun k => match k with | ⟨0, _⟩ => rfl))

theorem gate_apply (n : Fin 2) (s : Fin 2048) (q : Fin 2816) : val_main_v28 (F := Ideal) u w b (ix3 n s q) = convCol u w b n (gch q) s := by
  rw [val_main_v28_apply, ← conv_apply]
  exact congrArg _ (funext fun k => match k with | ⟨0, _⟩ => rfl | ⟨1, _⟩ => rfl | ⟨2, _⟩ => rfl)

theorem lin_apply (n : Fin 2) (s : Fin 2048) (q : Fin 2816) : val_main_v29 (F := Ideal) u w b (ix3 n s q) = convCol u w b n (lch q) s := by
  rw [val_main_v29_apply, ← conv_apply]
  refine congrArg _ (funext fun k => Fin.ext ?_)
  match k with
  | ⟨0, _⟩ => rfl
  | ⟨1, _⟩ => rfl
  | ⟨2, _⟩ => show 2816 + q.val = q.val + 2816; omega

/-- The sigmoid is written out as `1 / (1 + exp (-x))`. -/
theorem sigmoid_apply (i : S2x2048x2816.Idx) : val_main_v30_2 (F := Ideal) u w b i = Ideal.logistic (val_main_v28 (F := Ideal) u w b i) := by
  rw [val_main_v30_2_apply, val_main_call0_v4_apply, val_main_call0_v3_apply, val_main_call0_v2_apply, val_main_call0_v1_apply, val_main_call0_v0_apply]
  show Ideal.div (Scalar.ofBits (F := Ideal) .f32 0x3F800000#32) (Scalar.ofBits (F := Ideal) .f32 0x3F800000#32 + Ideal.exp (-(val_main_v28 (F := Ideal) u w b i))) = _
  rw [one_word]
  rfl

/-- A value that is a real number. -/
def Real' (x : EReal) : Prop := ∃ r : ℝ, x = r
theorem Real'.add {x y : EReal} : Real' x → Real' y → Real' (x + y) := fun ⟨r, hr⟩ ⟨s, hs⟩ => ⟨r + s, by rw [hr, hs, EReal.coe_add]⟩
theorem Real'.mul {x y : EReal} : Real' x → Real' y → Real' (x * y) := fun ⟨r, hr⟩ ⟨s, hs⟩ => ⟨r * s, by rw [hr, hs, EReal.coe_mul]⟩
theorem real_zero : Real' 0 := ⟨0, EReal.coe_zero.symm⟩

theorem real_down (k : ℕ) (f : Col) (hf : ∀ s, Real' (f s)) (s : Fin 2048) : Real' (down k f s) := by
  unfold down
  split_ifs
  · exact hf _
  · exact real_zero

theorem real_conv (hu : ∀ i, Real' (u i)) (hw : ∀ i, Real' (w i)) (hb : ∀ i, Real' (b i)) (n : Fin 2) (ch : Fin 5632) (s : Fin 2048) : Real' (convCol u w b n ch s) :=
  (((((hw _).mul (real_down 2 _ (fun _ => hu _) s)).add ((hw _).mul (real_down 1 _ (fun _ => hu _) s))).add ((hw _).mul (hu _))).add (hb _))

theorem dGate_apply (hu : ∀ i, Real' (u i)) (hw : ∀ i, Real' (w i)) (hb : ∀ i, Real' (b i)) (ha : ∀ i, Real' (a i)) (n : Fin 2) (s : Fin 2048) (q : Fin 2816) :
    val_main_v34 (F := Ideal) u w b a (ix3 n s q) = gCol u w b a n q s := by
  rw [val_main_v34_apply, val_main_call1_v1_apply, val_main_call1_v2_apply, val_main_call1_v0_apply, val_main_v33_apply, val_main_v30_1_apply, val_main_call0_v7_apply,
    val_main_call0_v6_apply, val_main_call0_cst_1_apply, sigmoid_apply, gate_apply, lin_apply]
  obtain ⟨x, hx⟩ := real_conv u w b hu hw hb n (gch q) s
  obtain ⟨g, hg⟩ := (ha (ix3 n s q)).mul (real_conv u w b hu hw hb n (lch q) s)
  show ((_ * _ : EReal) * _ + _ * (_ * _ : EReal) * (_ * ((Scalar.ofBits (F := Ideal) .f32 0x3F800000#32 : EReal) - _))) = _
  unfold gCol gateGrad
  rw [one_word, hg, hx]
  exact gateGrad_chain x g

theorem dLin_apply (n : Fin 2) (s : Fin 2048) (q : Fin 2816) : val_main_v32 (F := Ideal) u w b a (ix3 n s q) = lCol u w b a n q s := by
  rw [val_main_v32_apply, val_main_v30_0_apply, sigmoid_apply, gate_apply]
  exact mul_comm (G := EReal) _ _

/-- The gradient in the convolution: its halves side by side. -/
def dcCol (n : Fin 2) (ch : Fin 5632) : Col := fun s => val_main_v35 (F := Ideal) u w b a (ix3 n s ch)

theorem dc_gate (hu : ∀ i, Real' (u i)) (hw : ∀ i, Real' (w i)) (hb : ∀ i, Real' (b i)) (ha : ∀ i, Real' (a i)) (n : Fin 2) (q : Fin 2816) :
    dcCol u w b a n (gch q) = gCol u w b a n q := by
  funext s
  rw [← dGate_apply u w b a hu hw hb ha]
  unfold dcCol val_main_v35
  exact concatenate_apply_piece (t := S2x2048x5632) (2 : Fin 3) _ _ (ix3 n s (gch q)) 0 (by simp) S2x2048x2816 (val_main_v34 (F := Ideal) u w b a) rfl rfl 0 rfl (ix3 n s q)
    (fun k hk => match k with | ⟨0, _⟩ => rfl | ⟨1, _⟩ => rfl | ⟨2, _⟩ => absurd rfl hk) (by show 0 + q.val = q.val; omega)

theorem dc_lin (n : Fin 2) (q : Fin 2816) : dcCol u w b a n (lch q) = lCol u w b a n q := by
  funext s
  rw [← dLin_apply u w b a]
  unfold dcCol val_main_v35
  exact concatenate_apply_piece (t := S2x2048x5632) (2 : Fin 3) _ _ (ix3 n s (lch q)) 1 (by simp) S2x2048x2816 (val_main_v32 (F := Ideal) u w b a) rfl rfl 2816 rfl (ix3 n s q)
    (fun k hk => match k with | ⟨0, _⟩ => rfl | ⟨1, _⟩ => rfl | ⟨2, _⟩ => absurd rfl hk) (by show 2816 + q.val = q.val + 2816; omega)

/-! ## The gradient in the input -/

theorem prod2_apply (n : Fin 2) (s : Fin 2048) (ch : Fin 5632) : val_main_v40 (F := Ideal) u w b a (ix3 n s ch) = wCol w ch 2 * dcCol u w b a n ch s := by
  rw [val_main_v40_apply, val_main_v39_apply, show idx_main_v39 (ix3 n s ch) = _ from spread _ n s ch rfl, w2_apply]
  rfl
theorem prod1_apply (n : Fin 2) (s : Fin 2048) (ch : Fin 5632) : val_main_v49 (F := Ideal) u w b a (ix3 n s ch) = wCol w ch 1 * dcCol u w b a n ch s := by
  rw [val_main_v49_apply, val_main_v48_apply, show idx_main_v48 (ix3 n s ch) = _ from spread _ n s ch rfl, w1_apply]
  rfl
theorem prod0_apply (n : Fin 2) (s : Fin 2048) (ch : Fin 5632) : val_main_v60 (F := Ideal) u w b a (ix3 n s ch) = wCol w ch 0 * dcCol u w b a n ch s := by
  rw [val_main_v60_apply, val_main_v59_apply, show idx_main_v59 (ix3 n s ch) = _ from spread _ n s ch rfl, w0_apply]
  rfl

theorem pad2_apply (n : Fin 2) (s : Fin 2048) (ch : Fin 5632) : val_main_v45 (F := Ideal) u w b a (ix3 n ⟨2 + s.val, by omega⟩ ch) = wCol w ch 2 * dcCol u w b a n ch s := by
  rw [← prod2_apply]
  unfold val_main_v45
  refine pad_apply_of_inside _ _ _ _ _ _ h_S_ _ (ix3 n s ch) fun k => ?_
  match k with
  | ⟨0, _⟩ => show n.val = 0 + n.val * 1; omega
  | ⟨1, _⟩ => show 2 + s.val = 2 + s.val * 1; omega
  | ⟨2, _⟩ => show ch.val = 0 + ch.val * 1; omega

theorem pad1_apply (n : Fin 2) (s : Fin 2048) (ch : Fin 5632) : val_main_v54 (F := Ideal) u w b a (ix3 n ⟨2 + s.val, by omega⟩ ch) = wCol w ch 1 * up 1 (dcCol u w b a n ch) s := by
  unfold val_main_v54 up
  by_cases h : s.val + 1 < 2048
  · rw [dif_pos h, ← prod1_apply]
    refine pad_apply_of_inside _ _ _ _ _ _ h_S_ _ (ix3 n ⟨s.val + 1, h⟩ ch) fun k => ?_
    match k with
    | ⟨0, _⟩ => show n.val = 0 + n.val * 1; omega
    | ⟨1, _⟩ => show 2 + s.val = 1 + (s.val + 1) * 1; omega
    | ⟨2, _⟩ => show ch.val = 0 + ch.val * 1; omega
  · rw [dif_neg h, mul_zero]
    refine (pad_apply_of_not_inside _ _ _ _ _ _ h_S_ _ (1 : Fin 3) ?_).trans ?_
    · show ¬(1 ≤ 2 + s.val ∧ (2 + s.val - 1) % 1 = 0 ∧ (2 + s.val - 1) / 1 < 2048)
      omega
    · rw [val_main_cst_10_apply]
      exact zero_word

theorem pad0_apply (n : Fin 2) (s : Fin 2048) (ch : Fin 5632) : val_main_v65 (F := Ideal) u w b a (ix3 n ⟨2 + s.val, by omega⟩ ch) = wCol w ch 0 * up 2 (dcCol u w b a n ch) s := by
  unfold val_main_v65 up
  by_cases h : s.val + 2 < 2048
  · rw [dif_pos h, ← prod0_apply]
    refine pad_apply_of_inside _ _ _ _ _ _ h_S_ _ (ix3 n ⟨s.val + 2, h⟩ ch) fun k => ?_
    match k with
    | ⟨0, _⟩ => show n.val = 0 + n.val * 1; omega
    | ⟨1, _⟩ => show 2 + s.val = 0 + (s.val + 2) * 1; omega
    | ⟨2, _⟩ => show ch.val = 0 + ch.val * 1; omega
  · rw [dif_neg h, mul_zero]
    refine (pad_apply_of_not_inside _ _ _ _ _ _ h_S_ _ (1 : Fin 3) ?_).trans ?_
    · show ¬(0 ≤ 2 + s.val ∧ (2 + s.val - 0) % 1 = 0 ∧ (2 + s.val - 0) / 1 < 2048)
      omega
    · rw [val_main_cst_14_apply]
      exact zero_word

theorem du_apply (n : Fin 2) (s : Fin 2048) (ch : Fin 5632) : val_main_v71 (F := Ideal) u w b a (ix3 n s ch) = back (dcCol u w b a n ch) (wCol w ch) s := by
  rw [val_main_v71_apply, show idx_main_v71 (ix3 n s ch) = (ix3 n ⟨2 + s.val, by omega⟩ ch : S2x2050x5632.Idx) from
    funext fun k => match k with | ⟨0, _⟩ => rfl | ⟨1, _⟩ => rfl | ⟨2, _⟩ => rfl, val_main_v66_apply, val_main_v55_apply, pad2_apply, pad1_apply, pad0_apply]
  rfl

/-! ## The gradients of taps and bias -/

/-- Row `r` of the gradients of taps and bias, over both sequences. -/
def rowSum (r : ℕ) (ch : Fin 5632) : EReal := tapSum r (uCol u 0 ch) (dcCol u w b a 0 ch) + tapSum r (uCol u 1 ch) (dcCol u w b a 1 ch)

theorem unit_idx (i : S1x1x5632.Idx) (ch : Fin 5632) (h : i = ix3 0 0 ch) : idx_main_v37 i = (ix1 ch : S5632.Idx) := by
  subst h
  exact funext fun k => match k with | ⟨0, _⟩ => Fin.ext (by show (0 * 1 + 0) * 5632 + ch.val = ch.val; omega)

theorem row0_apply (ch : Fin 5632) : val_main_v64 (F := Ideal) u w b a (ix1 ch) = rowSum u w b a 0 ch := by
  unfold val_main_v64
  refine (sum_units _ _ _ _ zero_word ch).trans ?_
  rw [val_main_v63_apply, show idx_main_v63 (ix3 0 0 ch) = _ from unit_idx _ ch rfl]
  unfold val_main_v62
  refine (sum_two _ _ _ _ zero_word ch).trans ?_
  rw [Fin.sum_univ_two]
  simp only [val_main_v61_apply, tap0_apply]
  rfl

theorem row1_apply (ch : Fin 5632) : val_main_v53 (F := Ideal) u w b a (ix1 ch) = rowSum u w b a 1 ch := by
  unfold val_main_v53
  refine (sum_units _ _ _ _ zero_word ch).trans ?_
  rw [val_main_v52_apply, show idx_main_v52 (ix3 0 0 ch) = _ from unit_idx _ ch rfl]
  unfold val_main_v51
  refine (sum_two _ _ _ _ zero_word ch).trans ?_
  rw [Fin.sum_univ_two]
  simp only [val_main_v50_apply, tap1_apply]
  rfl

theorem row2_apply (ch : Fin 5632) : val_main_v44 (F := Ideal) u w b a (ix1 ch) = rowSum u w b a 2 ch := by
  unfold val_main_v44
  refine (sum_units _ _ _ _ zero_word ch).trans ?_
  rw [val_main_v43_apply, show idx_main_v43 (ix3 0 0 ch) = _ from unit_idx _ ch rfl]
  unfold val_main_v42
  refine (sum_two _ _ _ _ zero_word ch).trans ?_
  rw [Fin.sum_univ_two]
  simp only [val_main_v41_apply, tap2_apply]
  rfl

theorem row3_apply (ch : Fin 5632) : val_main_v38 (F := Ideal) u w b a (ix1 ch) = rowSum u w b a 3 ch := by
  unfold val_main_v38
  refine (sum_units _ _ _ _ zero_word ch).trans ?_
  rw [val_main_v37_apply, unit_idx _ ch rfl]
  unfold val_main_v36
  refine (sum_two _ _ _ _ zero_word ch).trans ?_
  rw [Fin.sum_univ_two]
  unfold rowSum tapSum tap
  exact congrArg₂ (· + · : EReal → EReal → EReal) (Finset.sum_congr rfl fun s _ => (mul_one _).symm) (Finset.sum_congr rfl fun s _ => (mul_one _).symm)

theorem row_rest (r : ℕ) (hr : 4 ≤ r) (ch : Fin 5632) : rowSum u w b a r ch = 0 := by
  unfold rowSum tapSum tap
  simp only [if_neg (show ¬r = 0 by omega), if_neg (show ¬r = 1 by omega), if_neg (show ¬r = 2 by omega), if_neg (show ¬r = 3 by omega), mul_zero, Finset.sum_const_zero,
    add_zero]

theorem line_idx (i : S1x5632.Idx) (ch : Fin 5632) (h : i = ix2 0 ch) : idx_main_v46 i = (ix1 ch : S5632.Idx) := by
  subst h
  exact funext fun k => match k with | ⟨0, _⟩ => rfl

theorem third_apply (r : Fin 3) (ch : Fin 5632) : val_main_v47 (F := Ideal) u w b a (ix2 r ch) = if r.val = 2 then rowSum u w b a 2 ch else 0 := by
  unfold val_main_v47
  split_ifs with h
  · refine (pad_apply_of_inside _ _ _ _ _ _ h_S_ _ (ix2 0 ch) fun k => ?_).trans ?_
    · match k with
      | ⟨0, _⟩ => show r.val = 2 + 0 * 1; omega
      | ⟨1, _⟩ => show ch.val = 0 + ch.val * 1; omega
    · rw [val_main_v46_apply, line_idx _ ch rfl, row2_apply]
  · refine (pad_apply_of_not_inside _ _ _ _ _ _ h_S_ _ (0 : Fin 2) ?_).trans zero_word
    show ¬(2 ≤ r.val ∧ (r.val - 2) % 1 = 0 ∧ (r.val - 2) / 1 < 1)
    omega

theorem second_apply (r : Fin 3) (ch : Fin 5632) : val_main_v57 (F := Ideal) u w b a (ix2 r ch) = if r.val = 1 then rowSum u w b a 1 ch else 0 := by
  unfold val_main_v57
  split_ifs with h
  · refine (pad_apply_of_inside _ _ _ _ _ _ h_S_ _ (ix2 0 ch) fun k => ?_).trans ?_
    · match k with
      | ⟨0, _⟩ => show r.val = 1 + 0 * 1; omega
      | ⟨1, _⟩ => show ch.val = 0 + ch.val * 1; omega
    · rw [val_main_v56_apply, show idx_main_v56 (ix2 0 ch) = _ from line_idx _ ch rfl, row1_apply]
  · refine (pad_apply_of_not_inside _ _ _ _ _ _ h_S_ _ (0 : Fin 2) ?_).trans zero_word
    show ¬(1 ≤ r.val ∧ (r.val - 1) % 1 = 0 ∧ (r.val - 1) / 1 < 1)
    omega

theorem first_apply (r : Fin 3) (ch : Fin 5632) : val_main_v68 (F := Ideal) u w b a (ix2 r ch) = if r.val = 0 then rowSum u w b a 0 ch else 0 := by
  unfold val_main_v68
  split_ifs with h
  · refine (pad_apply_of_inside _ _ _ _ _ _ h_S_ _ (ix2 0 ch) fun k => ?_).trans ?_
    · match k with
      | ⟨0, _⟩ => show r.val = 0 + 0 * 1; omega
      | ⟨1, _⟩ => show ch.val = 0 + ch.val * 1; omega
    · rw [val_main_v67_apply, show idx_main_v67 (ix2 0 ch) = _ from line_idx _ ch rfl, row0_apply]
  · refine (pad_apply_of_not_inside _ _ _ _ _ _ h_S_ _ (0 : Fin 2) ?_).trans zero_word
    show ¬(0 ≤ r.val ∧ (r.val - 0) % 1 = 0 ∧ (r.val - 0) / 1 < 1)
    omega

theorem dw_apply (r : Fin 3) (ch : Fin 5632) : val_main_v69 (F := Ideal) u w b a (ix2 r ch) = rowSum u w b a r.val ch := by
  rw [val_main_v69_apply, val_main_v58_apply, third_apply, second_apply, first_apply]
  show ((_ + _ : EReal) + _ : EReal) = _
  match r with
  | ⟨0, _⟩ => exact (congrArg₂ (· + · : EReal → EReal → EReal) (add_zero (0 : EReal)) rfl).trans (zero_add _)
  | ⟨1, _⟩ => exact (add_zero _).trans (zero_add _)
  | ⟨2, _⟩ => exact (add_zero _).trans (add_zero _)

theorem rows_apply (r : Fin 8) (ch : Fin 5632) : val_main_v74 (F := Ideal) u w b a (ix2 r ch) = rowSum u w b a r.val ch := by
  have hr := r.isLt
  unfold val_main_v74
  by_cases h3 : r.val < 3
  · rw [← dw_apply u w b a ⟨r.val, h3⟩ ch]
    exact concatenate_apply_piece (t := S8x5632) (0 : Fin 2) _ _ (ix2 r ch) 0 (by simp) S3x5632 (val_main_v69 (F := Ideal) u w b a) rfl rfl 0 rfl (ix2 ⟨r.val, h3⟩ ch)
      (fun k hk => match k with | ⟨0, _⟩ => absurd rfl hk | ⟨1, _⟩ => rfl) (by show 0 + r.val = r.val; omega)
  by_cases h4 : r.val = 3
  · rw [h4, ← row3_apply]
    refine (concatenate_apply_piece (t := S8x5632) (0 : Fin 2) _ _ (ix2 r ch) 1 (by simp) S1x5632 (val_main_v72 (F := Ideal) u w b a) rfl rfl 3 rfl (ix2 0 ch)
      (fun k hk => match k with | ⟨0, _⟩ => absurd rfl hk | ⟨1, _⟩ => rfl) (by show 3 + 0 = r.val; omega)).trans ?_
    rw [val_main_v72_apply, show idx_main_v72 (ix2 0 ch) = _ from line_idx _ ch rfl]
  · rw [row_rest u w b a r.val (by omega)]
    refine (concatenate_apply_piece (t := S8x5632) (0 : Fin 2) _ _ (ix2 r ch) 2 (by simp) S4x5632 (val_main_v73 (F := Ideal)) rfl rfl 4 rfl (ix2 ⟨r.val - 4, by omega⟩ ch)
      (fun k hk => match k with | ⟨0, _⟩ => absurd rfl hk | ⟨1, _⟩ => rfl) (by show 4 + (r.val - 4) = r.val; omega)).trans ?_
    rw [val_main_v73_apply, val_main_cst_16_apply]
    exact zero_word

/-! ## The four results -/

variable (hu : ∀ i, Real' (u i)) (hw : ∀ i, Real' (w i)) (hb : ∀ i, Real' (b i)) (ha : ∀ i, Real' (a i))

theorem half_idx (n : Fin 2) (s : Fin 2048) (q : Fin 2816) : idx_main_v76 (ix3 n s q) = (ix3 n s (lch q) : S2x2048x5632.Idx) := by
  funext k; apply Fin.ext
  match k with
  | ⟨0, _⟩ => rfl
  | ⟨1, _⟩ => rfl
  | ⟨2, _⟩ => show 2816 + q.val = q.val + 2816; omega

include hu hw hb ha in
theorem reference_duG : val_main_v75 (F := Ideal) u w b a = duG u w b a := by
  funext i
  obtain ⟨n, s, q, rfl⟩ : ∃ (n : Fin 2) (s : Fin 2048) (q : Fin 2816), i = (ix3 n s q : S2x2048x2816.Idx) :=
    ⟨i 0, i 1, i 2, funext fun k => match k with | ⟨0, _⟩ => rfl | ⟨1, _⟩ => rfl | ⟨2, _⟩ => rfl⟩
  rw [val_main_v75_apply, show idx_main_v75 (ix3 n s q) = (ix3 n s (gch q) : S2x2048x5632.Idx) from
    funext fun k => match k with | ⟨0, _⟩ => rfl | ⟨1, _⟩ => rfl | ⟨2, _⟩ => rfl, du_apply, dc_gate u w b a hu hw hb ha]
  rfl

theorem reference_duL : val_main_v76 (F := Ideal) u w b a = duL u w b a := by
  funext i
  obtain ⟨n, s, q, rfl⟩ : ∃ (n : Fin 2) (s : Fin 2048) (q : Fin 2816), i = (ix3 n s q : S2x2048x2816.Idx) :=
    ⟨i 0, i 1, i 2, funext fun k => match k with | ⟨0, _⟩ => rfl | ⟨1, _⟩ => rfl | ⟨2, _⟩ => rfl⟩
  rw [val_main_v76_apply, half_idx, du_apply, dc_lin]
  rfl

include hu hw hb ha in
theorem reference_dwG : val_main_v77 (F := Ideal) u w b a = dwG u w b a := by
  funext i
  obtain ⟨r, q, rfl⟩ : ∃ (r : Fin 8) (q : Fin 2816), i = (ix2 r q : S8x2816.Idx) :=
    ⟨i 0, i 1, funext fun k => match k with | ⟨0, _⟩ => rfl | ⟨1, _⟩ => rfl⟩
  rw [val_main_v77_apply, show idx_main_v77 (ix2 r q) = (ix2 r (gch q) : S8x5632.Idx) from
    funext fun k => match k with | ⟨0, _⟩ => rfl | ⟨1, _⟩ => rfl, rows_apply]
  unfold rowSum
  rw [dc_gate u w b a hu hw hb ha, dc_gate u w b a hu hw hb ha]
  rfl

theorem reference_dwL : val_main_v78 (F := Ideal) u w b a = dwL u w b a := by
  funext i
  obtain ⟨r, q, rfl⟩ : ∃ (r : Fin 8) (q : Fin 2816), i = (ix2 r q : S8x2816.Idx) :=
    ⟨i 0, i 1, funext fun k => match k with | ⟨0, _⟩ => rfl | ⟨1, _⟩ => rfl⟩
  rw [val_main_v78_apply, show idx_main_v78 (ix2 r q) = (ix2 r (lch q) : S8x5632.Idx) from
    funext fun k => Fin.ext (match k with | ⟨0, _⟩ => rfl | ⟨1, _⟩ => by show 2816 + q.val = q.val + 2816; omega), rows_apply]
  unfold rowSum
  rw [dc_lin, dc_lin]
  rfl

end Cert.ConvRef

end
-- ==== Proof.ConvB.lean ====
module

public import proofs.«01_k».proof.Defs
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Pre_finite_gate
public import proofs.«01_k».proof.Proof.ConvRef
public import proofs.«01_k».proof.Proof.SwaData
public import Idealize.ShloMosaic.Lib.Quiescent

@[expose] public section

set_option maxRecDepth 16384

noncomputable section

namespace Cert.ConvB

open Cert.Kernel23Ideal.Conv Cert.ConvRef
open Idealize.ShloMosaic hiding ix1 ix2 ix3
open Idealize.ShloMosaic.TcCoe Idealize.ShloMosaic.ValueIdx
open Idealize.SL.Sem

/-! # The claims on the gradient of the convolution and gate -/

theorem real_of_finite {s : Shape} {x : s.Idx → EReal} (h : Cert.Swa.Finite x) (i : s.Idx) : Real' (x i) :=
  ⟨(x i).toReal, (EReal.coe_toReal (h i).1 (h i).2).symm⟩

section
open Cert.Kernel23Ideal

/-- The precondition says that every entry of the four arguments is a real number. -/
theorem real_of_pre [Cert.Pre_finite_gate.Facts] (m : (ℓ : Loc nD τ sig) → Buf (Elt Ideal) ℓ)
    (h : Cert.Pre_Kernel23Ideal_finite_gate m) (c : Dev nD) :
    (∀ i, Real' (uArg m c i)) ∧ (∀ i, Real' (wArg m c i)) ∧ (∀ i, Real' (bArg m c i)) ∧ (∀ i, Real' (aArg m c i)) := by
  obtain ⟨h0, h1, h2, h3⟩ := h c
  exact ⟨real_of_finite (Cert.Swa.finite_of_olt _ _ (fun _ => rfl) h0), real_of_finite (Cert.Swa.finite_of_olt _ _ (fun _ => rfl) h1),
    real_of_finite (Cert.Swa.finite_of_olt _ _ (fun _ => rfl) h2), real_of_finite (Cert.Swa.finite_of_olt _ _ (fun _ => rfl) h3)⟩

theorem run_product (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = duG (uArg m c) (wArg m c) (bArg m c) (aArg m c)
      ∧ r.2.mem ((c.tc : Thread nD τ).loc main_v1_1) = duL (uArg m c) (wArg m c) (bArg m c) (aArg m c)
      ∧ r.2.mem ((c.tc : Thread nD τ).loc main_v1_2) = dwG (uArg m c) (wArg m c) (bArg m c) (aArg m c)
      ∧ r.2.mem ((c.tc : Thread nD τ).loc main_v1_3) = dwL (uArg m c) (wArg m c) (bArg m c) (aArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨((h c).1).trans (final7 m c), ((h c).2.1).trans (final8 m c), ((h c).2.2.1).trans (final9 m c), ((h c).2.2.2.1).trans (final10 m c),
    (h c).2.2.2.2⟩) (Cert.Kernel23Ideal.Value.run_blocks m ρ)

end

theorem quiescent_reference : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

theorem algebraic : Cert.algebraic_Kernel23Ideal_Reference23Ideal_pre_finite_gate := by
  intro m ρ m' ρ' hpre hagree
  refine ⟨_, _, _, _, run_product m ρ, ?_⟩
  refine (θ_run Cert.Reference23Ideal.defs _ _).mono (fun _ h c => ?_) (Cert.Reference23Ideal.Value.run (F := Ideal) m' ρ')
  obtain ⟨hu, hw, hb, ha⟩ := real_of_pre m hpre c
  obtain ⟨e0, e1, e2, e3⟩ := hagree c
  refine ⟨?_, ?_, ?_, ?_, (h c).2.2.2.2⟩
  · rw [(h c).1, Cert.Reference23Ideal.Read.val_main_v75_eq m' c, e0, e1, e2, e3]
    exact reference_duG _ _ _ _ hu hw hb ha
  · rw [(h c).2.1, Cert.Reference23Ideal.Read.val_main_v76_eq m' c, e0, e1, e2, e3]
    exact reference_duL _ _ _ _
  · rw [(h c).2.2.1, Cert.Reference23Ideal.Read.val_main_v77_eq m' c, e0, e1, e2, e3]
    exact reference_dwG _ _ _ _ hu hw hb ha
  · rw [(h c).2.2.2.1, Cert.Reference23Ideal.Read.val_main_v78_eq m' c, e0, e1, e2, e3]
    exact reference_dwL _ _ _ _

end Cert.ConvB

end
-- ==== Proof.ConvF.lean ====
module

public import proofs.«01_k».proof.Defs
public import proofs.«01_k».proof.Proof.ConvRef
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import Idealize.ShloMosaic.Lib.Quiescent

@[expose] public section

set_option maxRecDepth 16384

noncomputable section

namespace Cert.Kernel24Ideal.Conv

open Cert.Kernel24Ideal Cert.Kernel24Ideal.Gen Cert.Conv
open Cert.Kernel23Ideal.Conv (UArr WArr BArr gch lch uCol wCol convCol)
open Idealize.ShloMosaic hiding ix2 ix3
open Idealize.ShloMosaic.TcCoe Idealize.ShloMosaic.ValueIdx Idealize.ShloMosaic.Tactic
open Idealize.SL.Sem

/-! # The feed-forward's convolution and gate, forward -/

/-- The gate's half through `x * sigmoid x`, times the other half. -/
def glu (u : UArr) (w : WArr) (b : BArr) : Vec Ideal S2x2048x2816 .bf16 := fun i =>
  (convCol u w b (i 0) (gch (i 2)) (i 1) * Ideal.logistic (convCol u w b (i 0) (gch (i 2)) (i 1)) * convCol u w b (i 0) (lch (i 2)) (i 1) : EReal)

variable (m : (ℓ : Loc nD τ sig) → Buf (Elt Ideal) ℓ) (c : Dev nD)

abbrev uArg : UArr := m ((c.tc : Thread nD τ).loc main_arg0)
abbrev wArg : WArr := m ((c.tc : Thread nD τ).loc main_arg1)
abbrev bArg : BArr := m ((c.tc : Thread nD τ).loc main_arg2)

theorem V_b (ch : Fin 5632) : (V m c main_v0 : Vec Ideal S1x5632 .f32) (ix2 0 ch) = bArg m c (ValueIdx.ix1 ch) := by
  have e : (V m c main_v0 : Vec Ideal S1x5632 .f32) = shapeCast S1x5632 (bArg m c) shapeCasts_S5632_S1x5632 := by
    entry_read
    rfl
  rw [e]
  refine shapeCast_apply _ _ _ _ ?_
  rw [Shape.rowMajor_val_one, Shape.rowMajor_val_two]
  show ch.val = 0 * 5632 + ch.val
  omega

theorem index0 : ∀ t : Fin cfg0.N, win0_0.index t = ![t.val % 2, 0, t.val / 2] := by decide +kernel
theorem index1 : ∀ t : Fin cfg0.N, win0_1.index t = ![t.val % 2, 0, t.val / 2 + 11] := by decide +kernel
theorem index2 : ∀ t : Fin cfg0.N, win0_2.index t = ![0, t.val / 2] := by decide +kernel
theorem index3 : ∀ t : Fin cfg0.N, win0_3.index t = ![0, t.val / 2 + 11] := by decide +kernel
theorem index4 : ∀ t : Fin cfg0.N, win0_4.index t = ![0, t.val / 2] := by decide +kernel
theorem index5 : ∀ t : Fin cfg0.N, win0_5.index t = ![0, t.val / 2 + 11] := by decide +kernel
theorem index6 : ∀ t : Fin cfg0.N, win0_6.index t = ![t.val % 2, 0, t.val / 2] := by decide +kernel

/-- Point `t` works on sequence `n` and, at lane `l`, on channel `q`. -/
def At (t : Fin cfg0.N) (n : Fin 2) (q : Fin 2816) (l : Fin 256) : Prop := t.val % 2 = n.val ∧ 256 * (t.val / 2) + l.val = q.val

variable {t : Fin cfg0.N} {n : Fin 2} {q : Fin 2816} {l : Fin 256}

theorem blk_u (h : At t n q l) : chan3 (iblk m c 0 t) l = uCol (uArg m c) n (gch q) := by
  obtain ⟨h1, h2⟩ := h
  funext s
  refine congrArg (uArg m c) (funext fun a => Fin.ext ?_)
  match a with
  | ⟨0, _⟩ => show win0_0.index t 0 * 1 + 1 * 0 = n.val; rw [index0]; show t.val % 2 * 1 + 1 * 0 = n.val; omega
  | ⟨1, _⟩ => show win0_0.index t 1 * 2048 + 1 * s.val = s.val; rw [index0]; show 0 * 2048 + 1 * s.val = s.val; omega
  | ⟨2, _⟩ => show win0_0.index t 2 * 256 + 1 * l.val = q.val; rw [index0]; show t.val / 2 * 256 + 1 * l.val = q.val; omega

theorem blk_u' (h : At t n q l) : chan3 (iblk m c 1 t) l = uCol (uArg m c) n (lch q) := by
  obtain ⟨h1, h2⟩ := h
  funext s
  refine congrArg (uArg m c) (funext fun a => Fin.ext ?_)
  match a with
  | ⟨0, _⟩ => show win0_1.index t 0 * 1 + 1 * 0 = n.val; rw [index1]; show t.val % 2 * 1 + 1 * 0 = n.val; omega
  | ⟨1, _⟩ => show win0_1.index t 1 * 2048 + 1 * s.val = s.val; rw [index1]; show 0 * 2048 + 1 * s.val = s.val; omega
  | ⟨2, _⟩ => show win0_1.index t 2 * 256 + 1 * l.val = q.val + 2816; rw [index1]; show (t.val / 2 + 11) * 256 + 1 * l.val = q.val + 2816; omega

theorem blk_w (h : At t n q l) : taps3 (iblk m c 2 t) l = wCol (wArg m c) (gch q) := by
  obtain ⟨h1, h2⟩ := h
  funext s
  refine congrArg (wArg m c) (funext fun a => Fin.ext ?_)
  match a with
  | ⟨0, _⟩ => show win0_2.index t 0 * 3 + 1 * s.val = s.val; rw [index2]; show 0 * 3 + 1 * s.val = s.val; omega
  | ⟨1, _⟩ => show win0_2.index t 1 * 256 + 1 * l.val = q.val; rw [index2]; show t.val / 2 * 256 + 1 * l.val = q.val; omega

theorem blk_w' (h : At t n q l) : taps3 (iblk m c 3 t) l = wCol (wArg m c) (lch q) := by
  obtain ⟨h1, h2⟩ := h
  funext s
  refine congrArg (wArg m c) (funext fun a => Fin.ext ?_)
  match a with
  | ⟨0, _⟩ => show win0_3.index t 0 * 3 + 1 * s.val = s.val; rw [index3]; show 0 * 3 + 1 * s.val = s.val; omega
  | ⟨1, _⟩ => show win0_3.index t 1 * 256 + 1 * l.val = q.val + 2816; rw [index3]; show (t.val / 2 + 11) * 256 + 1 * l.val = q.val + 2816; omega

theorem blk_b (h : At t n q l) : (iblk m c 4 t : Vec Ideal S1x256 .f32) (ix2 0 l) = bArg m c (ValueIdx.ix1 (gch q)) := by
  obtain ⟨h1, h2⟩ := h
  refine Eq.trans (congrArg (V m c main_v0 : Vec Ideal S1x5632 .f32) (funext fun a => Fin.ext ?_)) (V_b m c (gch q))
  match a with
  | ⟨0, _⟩ => show win0_4.index t 0 * 1 + 1 * 0 = 0; rw [index4]; rfl
  | ⟨1, _⟩ => show win0_4.index t 1 * 256 + 1 * l.val = q.val; rw [index4]; show t.val / 2 * 256 + 1 * l.val = q.val; omega

theorem blk_b' (h : At t n q l) : (iblk m c 5 t : Vec Ideal S1x256 .f32) (ix2 0 l) = bArg m c (ValueIdx.ix1 (lch q)) := by
  obtain ⟨h1, h2⟩ := h
  refine Eq.trans (congrArg (V m c main_v0 : Vec Ideal S1x5632 .f32) (funext fun a => Fin.ext ?_)) (V_b m c (lch q))
  match a with
  | ⟨0, _⟩ => show win0_5.index t 0 * 1 + 1 * 0 = 0; rw [index5]; rfl
  | ⟨1, _⟩ => show win0_5.index t 1 * 256 + 1 * l.val = q.val + 2816; rw [index5]; show (t.val / 2 + 11) * 256 + 1 * l.val = q.val + 2816; omega

/-- The convolution of a block, as this body computes it. -/
abbrev half (x : Vec Ideal S1x2048x256 .f32) (w : Vec Ideal S3x256 .f32) (b : Vec Ideal S1x256 .f32) : FVec Ideal S2048x256 .f32 :=
  convBlock iota_S2048x256_d0_w32 rotates_S2048x256_d0 broadcasts_S1x256_S2048x256 slices_S3x256_o0_0_S1x256 slices_S3x256_o1_0_S1x256
    slices_S3x256_o2_0_S1x256 shapeCasts_S1x256_S1x256 (shapeCast S2048x256 x shapeCasts_S1x2048x256_S2048x256) w b

theorem half_apply (x : Vec Ideal S1x2048x256 .f32) (w : Vec Ideal S3x256 .f32) (b : Vec Ideal S1x256 .f32) (s : Fin 2048) (l : Fin 256) :
    half x w b (ix2 s l) = conv (chan3 x l) (taps3 w l) (b (ix2 0 l)) s := by
  rw [← chan_cast shapeCasts_S1x2048x256_S2048x256]
  exact convBlock_apply _ _ _ _ _ _ _ _ w b s l

/-- What the body stores. -/
theorem pay_eq (x0 x1 : Vec Ideal S1x2048x256 .f32) (w0 w1 : Vec Ideal S3x256 .f32) (b0 b1 : Vec Ideal S1x256 .f32) :
    k0_pay1 (k0_pay2 x0 w0 b0) (k0_pay3 x1) w1 (k0_pay4 b1) (k0_pay5 w1) (iota .tc S2048x256 32 [0] iota_S2048x256_d0_w32) 2#32
      = shapeCast S1x2048x256 (truncf .bf16 (mulf (mulf (half x0 w0 b0) (logistic (half x0 w0 b0))) (half x1 w1 b1)) bitsLt_bf16_f32) shapeCasts_S2048x256_S1x2048x256 := rfl

theorem pay_apply (x0 x1 : Vec Ideal S1x2048x256 .f32) (w0 w1 : Vec Ideal S3x256 .f32) (b0 b1 : Vec Ideal S1x256 .f32) (s : Fin 2048) (l : Fin 256) :
    k0_pay1 (k0_pay2 x0 w0 b0) (k0_pay3 x1) w1 (k0_pay4 b1) (k0_pay5 w1) (iota .tc S2048x256 32 [0] iota_S2048x256_d0_w32) 2#32 (ix3 0 s l)
      = (conv (chan3 x0 l) (taps3 w0 l) (b0 (ix2 0 l)) s * Ideal.logistic (conv (chan3 x0 l) (taps3 w0 l) (b0 (ix2 0 l)) s)
        * conv (chan3 x1 l) (taps3 w1 l) (b1 (ix2 0 l)) s : EReal) := by
  rw [pay_eq]
  refine (cast_to_block _ _ s l).trans ?_
  rw [← half_apply x0, ← half_apply x1]
  rfl

theorem final : (dats m 0 c).arrAt 6 cfg0.N = glu (uArg m c) (wArg m c) (bArg m c) := by
  refine (dats m 0 c).arrAt_eq_of_covers 6 _ (by decide +kernel) fun t hf y => ?_
  blk_simp
  rw [after0_6]
  frame_out
  have ht : t.val < 22 := lt_of_lt_of_eq t.isLt N_0
  obtain ⟨s, l, rfl⟩ : ∃ (s : Fin 2048) (l : Fin 256), y = (ix3 0 s l : S1x2048x256.Idx) :=
    ⟨y 1, y 2, funext fun a => match a with | ⟨0, _⟩ => Subsingleton.elim (α := Fin 1) _ _ | ⟨1, _⟩ => rfl | ⟨2, _⟩ => rfl⟩
  have h : At t ⟨t.val % 2, Nat.mod_lt _ (by decide)⟩ ⟨256 * (t.val / 2) + l.val, by omega⟩ l := ⟨rfl, rfl⟩
  have e : ((View.whole main_v1).slice (win0_6.rect t)).emb (ix3 0 s l : S1x2048x256.Idx)
      = (ix3 ⟨t.val % 2, Nat.mod_lt _ (by decide)⟩ s ⟨256 * (t.val / 2) + l.val, by omega⟩ : S2x2048x2816.Idx) := by
    funext a; apply Fin.ext
    match a with
    | ⟨0, _⟩ => show win0_6.index t 0 * 1 + 1 * 0 = _; rw [index6]; show t.val % 2 * 1 + 1 * 0 = t.val % 2; omega
    | ⟨1, _⟩ => show win0_6.index t 1 * 2048 + 1 * s.val = _; rw [index6]; show 0 * 2048 + 1 * s.val = s.val; omega
    | ⟨2, _⟩ => show win0_6.index t 2 * 256 + 1 * l.val = _; rw [index6]; show t.val / 2 * 256 + 1 * l.val = 256 * (t.val / 2) + l.val; omega
  rw [e]
  refine (pay_apply _ _ _ _ _ _ s l).trans ?_
  rw [blk_u m c h, blk_u' m c h, blk_w m c h, blk_w' m c h, blk_b m c h, blk_b' m c h]
  rfl

end Cert.Kernel24Ideal.Conv

namespace Cert.ConvF

open Cert.Kernel24Ideal.Conv Cert.Conv
open Cert.Kernel23Ideal.Conv (UArr WArr BArr gch lch convCol)
open Cert.Reference24Ideal Cert.Reference24Ideal.Read
open Idealize.ShloMosaic hiding ix2 ix3
open Idealize.ShloMosaic.TcCoe Idealize.ShloMosaic.ValueIdx
open Idealize.SL.Sem

/-! # The reference is the same, and the claims -/

variable (u : UArr) (w : WArr) (b : BArr)

/-- Both references write the convolution the same way. -/
theorem conv_eq : val_main_v26 (F := Ideal) u w b = Cert.Reference23Ideal.Read.val_main_v27 (F := Ideal) u w b := rfl
theorem gate_eq : val_main_v27 (F := Ideal) u w b = Cert.Reference23Ideal.Read.val_main_v28 (F := Ideal) u w b := rfl
theorem lin_eq : val_main_v28 (F := Ideal) u w b = Cert.Reference23Ideal.Read.val_main_v29 (F := Ideal) u w b := rfl

theorem sigmoid_apply (i : S2x2048x2816.Idx) : val_main_call0_v5 (F := Ideal) u w b i = Ideal.logistic (val_main_v27 (F := Ideal) u w b i) := by
  rw [val_main_call0_v5_apply, val_main_call0_v4_apply, val_main_call0_v3_apply, val_main_call0_v2_apply, val_main_call0_v1_apply, val_main_call0_v0_apply]
  show Ideal.div (Scalar.ofBits (F := Ideal) .f32 0x3F800000#32) (Scalar.ofBits (F := Ideal) .f32 0x3F800000#32 + Ideal.exp (-(val_main_v27 (F := Ideal) u w b i))) = _
  rw [one_word]
  rfl

theorem reference_apply : val_main_v31 (F := Ideal) u w b = glu u w b := by
  funext i
  obtain ⟨n, s, q, rfl⟩ : ∃ (n : Fin 2) (s : Fin 2048) (q : Fin 2816), i = (ix3 n s q : S2x2048x2816.Idx) :=
    ⟨i 0, i 1, i 2, funext fun k => match k with | ⟨0, _⟩ => rfl | ⟨1, _⟩ => rfl | ⟨2, _⟩ => rfl⟩
  rw [val_main_v31_apply, val_main_v30_apply, val_main_v29_apply, sigmoid_apply, gate_eq, lin_eq, Cert.ConvRef.gate_apply, Cert.ConvRef.lin_apply]
  rfl

theorem quiescent_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem algebraic : Cert.algebraic_Kernel24Ideal_Reference24Ideal := by
  intro m ρ m' ρ' _ hagree
  refine ⟨_, Cert.Kernel24Ideal.Value.run_blocks m ρ, ?_⟩
  refine (θ_run Cert.Reference24Ideal.defs _ _).mono (fun _ h c => ⟨?_, (h c).2⟩) (Cert.Reference24Ideal.Value.run (F := Ideal) m' ρ')
  obtain ⟨e0, e1, e2⟩ := hagree c
  rw [(h c).1, val_main_v31_eq m' c, e0, e1, e2]
  exact (reference_apply _ _ _).trans (final m c).symm

end Cert.ConvF

end
-- ==== Proof.Adam.lean ====
module

public import Idealize.ShloMosaic.PureOps.Ideal
public import Idealize.ShloMosaic.Lib.Pipeline.ValueKit

@[expose] public section

noncomputable section

namespace Cert.Adam

open Idealize.ShloMosaic

/-! # One element of the optimiser's step -/

/-- A constant, by its word. -/
abbrev word (b : BitVec 32) : EReal := Scalar.ofBits (F := Ideal) .f32 b

/-- The new first moment. -/
def moment1 (g a : EReal) : EReal := word 0x3F666666#32 * a + word 0x3DCCCCCD#32 * g

/-- The new second moment. -/
def moment2 (g b : EReal) : EReal := word 0x3F7FBE77#32 * b + word 0x3A83126F#32 * (g * g)

/-- The change of the weight. -/
def change (w g a b : EReal) : EReal :=
  word 0xBA83126F#32 * (Ideal.div (Ideal.div (moment1 g a) (word 0x3F26BD02#32))
    (Ideal.sqrt (Ideal.div (moment2 g b) (word 0x3C231ACC#32)) + word 0x322BCC77#32) + word 0x3C23D70A#32 * w)

variable {s : Shape} (h : s.ShapeCasts s) (w g a b : Vec Ideal s .f32) (i : s.Idx)

theorem cast_self (x : Vec Ideal s .f32) : shapeCast s x h i = x i := shapeCast_apply x _ i i rfl

/-- What a body writes for the first moment, which reads its arguments through a cast to their own shape. -/
theorem moment1_cast : moment1 (shapeCast s g h i) (shapeCast s a h i) = moment1 (g i) (a i) := by rw [cast_self, cast_self]

theorem moment2_cast : moment2 (shapeCast s g h i) (shapeCast s b h i) = moment2 (g i) (b i) := by rw [cast_self, cast_self]

theorem change_cast : change (shapeCast s w h i) (shapeCast s g h i) (shapeCast s a h i) (shapeCast s b h i)
    = change (w i) (g i) (a i) (b i) := by rw [cast_self, cast_self, cast_self, cast_self]

/-! # The arrays of the step -/

/-- The changes of an array of weights, entry by entry. -/
def changes (w g a b : Vec Ideal s .f32) : Vec Ideal s .f32 := fun i => change (w i) (g i) (a i) (b i)

/-- The new first moments. -/
def firsts (g a : Vec Ideal s .f32) : Vec Ideal s .f32 := fun i => moment1 (g i) (a i)

/-- The new second moments. -/
def seconds (g b : Vec Ideal s .f32) : Vec Ideal s .f32 := fun i => moment2 (g i) (b i)

end Cert.Adam

end
-- ==== Proof.AdamGain.lean ====
module

public import proofs.«01_k».proof.Defs
public import proofs.«01_k».proof.Proof.Adam
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import Idealize.ShloMosaic.Lib.Quiescent

@[expose] public section

set_option maxRecDepth 16384

noncomputable section

namespace Cert.AdamGain

open Cert.Kernel25Ideal Cert.Kernel25Ideal.Gen Cert.Adam Cert.Reference25Ideal.Read
open Idealize.ShloMosaic Idealize.ShloMosaic.TcCoe Idealize.ShloMosaic.Tactic Idealize.SL.Sem

/-! # The optimiser's step of a gain of the layers' norms

The grid has one step, and its blocks are the whole arrays. -/

abbrev T := Vec Ideal S4x1024 .f32

variable (m : (ℓ : Loc nD τ sig) → Buf (Elt Ideal) ℓ) (c : Dev nD)

abbrev W : T := V m c main_arg0
abbrev G : T := V m c main_arg1
abbrev A : T := V m c main_arg2
abbrev B : T := V m c main_arg3

/-- The array of changes after the run. -/
theorem change_eq : (dats m 0 c).arrAt 4 cfg0.N = fun i => change (W m c i) (G m c i) (A m c i) (B m c i) := by
  refine (dats m 0 c).arrAt_eq_of_covers 4 _ (by decide +kernel) fun t hf y => ?_
  blk_simp
  rw [after0_4]
  frame_out
  rfl

/-- The array of first moments after the run. -/
theorem first_eq : (dats m 0 c).arrAt 5 cfg0.N = fun i => moment1 (G m c i) (A m c i) := by
  refine (dats m 0 c).arrAt_eq_of_covers 5 _ (by decide +kernel) fun t hf y => ?_
  blk_simp
  rw [after0_5]
  frame_out
  rfl

/-- The array of second moments after the run. -/
theorem second_eq : (dats m 0 c).arrAt 6 cfg0.N = fun i => moment2 (G m c i) (B m c i) := by
  refine (dats m 0 c).arrAt_eq_of_covers 6 _ (by decide +kernel) fun t hf y => ?_
  blk_simp
  rw [after0_6]
  frame_out
  rfl

theorem quiescent_reference : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

theorem algebraic : Cert.algebraic_Kernel25Ideal_Reference25Ideal := by
  intro m ρ m' ρ' _ hagree
  refine ⟨_, _, _, Value.run_blocks m ρ, ?_⟩
  refine (θ_run Cert.Reference25Ideal.defs _ _).mono (fun _ h c => ?_) (Cert.Reference25Ideal.Value.run (F := Ideal) m' ρ')
  obtain ⟨h0, h1, h2, kept⟩ := h c
  obtain ⟨e0, e1, e2, e3⟩ := hagree c
  refine ⟨?_, ?_, ?_, kept⟩
  · rw [h0, val_main_v23_eq, e0, e1, e2, e3, change_eq]; rfl
  · rw [h1, val_main_v4_eq, e1, e2, first_eq]; rfl
  · rw [h2, val_main_v10_eq, e1, e3, second_eq]; rfl

end Cert.AdamGain

end
-- ==== Proof.AdamDown.lean ====
module

public import proofs.«01_k».proof.Defs
public import proofs.«01_k».proof.Proof.Adam
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import Idealize.ShloMosaic.Lib.Quiescent

@[expose] public section

set_option maxRecDepth 16384

noncomputable section

namespace Cert.AdamDown

open Cert.Kernel26Ideal Cert.Kernel26Ideal.Gen Cert.Adam Cert.Reference26Ideal.Read
open Idealize.ShloMosaic Idealize.ShloMosaic.TcCoe Idealize.ShloMosaic.Tactic Idealize.SL.Sem

/-! # The optimiser's step of the feed-forward's down product, at one device's rows

The layers' rows are laid one below the other and taken in eleven blocks of 128. -/

variable (m : (ℓ : Loc nD τ sig) → Buf (Elt Ideal) ℓ) (c : Dev nD)

variable (w g a b : Vec Ideal S128x1024 .f32) (i : S128x1024.Idx)

theorem pay4 : k0_pay4 g a b w i = change (w i) (g i) (a i) (b i) := change_cast _ _ _ _ _ _
theorem pay2 : k0_pay2 g a i = moment1 (g i) (a i) := moment1_cast _ _ _ _
theorem pay3 : k0_pay3 g b i = moment2 (g i) (b i) := moment2_cast _ _ _ _

/-- The three arrays after the run, from the arguments' rows. -/
theorem results :
    (dats m 0 c).arrAt 4 cfg0.N = changes (V m c main_v0 : Vec Ideal S1408x1024 .f32) (V m c main_v1) (V m c main_v2) (V m c main_v3)
      ∧ (dats m 0 c).arrAt 5 cfg0.N = firsts (V m c main_v1 : Vec Ideal S1408x1024 .f32) (V m c main_v2)
      ∧ (dats m 0 c).arrAt 6 cfg0.N = seconds (V m c main_v1 : Vec Ideal S1408x1024 .f32) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; exact pay4 _ _ _ _ _
  · blk_simp; rw [after0_5]; frame_out; exact pay2 _ _ _
  · blk_simp; rw [after0_6]; frame_out; exact pay3 _ _ _

theorem quiescent_reference : Cert.quiescent_Reference26Ideal := fun m ρ _ =>
  (θ_run Cert.Reference26Ideal.defs _ _).mono (fun r h => ⟨fun c => (h c).2.2.2, sem_eq_zero_of_no_sems (by decide) r.2⟩)
    (Cert.Reference26Ideal.Value.run (F := Ideal) m ρ)

theorem algebraic : Cert.algebraic_Kernel26Ideal_Reference26Ideal := by
  intro m ρ m' ρ' _ hagree
  refine ⟨_, _, _, Value.run_blocks m ρ, ?_⟩
  refine (θ_run Cert.Reference26Ideal.defs _ _).mono (fun _ h c => ?_) (Cert.Reference26Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v24_eq, e0, e1, e2, e3, r0]; entry_read; rfl
  · rw [h1, val_main_v25_eq, e1, e2, r1]; entry_read; rfl
  · rw [h2, val_main_v26_eq, e1, e3, r2]; entry_read; rfl

end Cert.AdamDown

end
-- ==== Proof.AdamLower.lean ====
module

public import proofs.«01_k».proof.Defs
public import proofs.«01_k».proof.Proof.Adam
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import Idealize.ShloMosaic.Lib.Quiescent

@[expose] public section

set_option maxRecDepth 16384

noncomputable section

namespace Cert.AdamLower

open Cert.Kernel27Ideal Cert.Kernel27Ideal.Gen Cert.Adam Cert.Reference27Ideal.Read
open Idealize.ShloMosaic Idealize.ShloMosaic.TcCoe Idealize.ShloMosaic.Tactic Idealize.SL.Sem

/-! # The optimiser's step of the recurrence's lower-bound logits

The grid has one step, and its blocks are the whole arrays. -/

variable (m : (ℓ : Loc nD τ sig) → Buf (Elt Ideal) ℓ) (c : Dev nD)

/-- The three arrays after the run. -/
theorem results :
    (dats m 0 c).arrAt 4 cfg0.N = changes (V m c main_arg0 : Vec Ideal S2x512 .f32) (V m c main_arg1) (V m c main_arg2) (V m c main_arg3)
      ∧ (dats m 0 c).arrAt 5 cfg0.N = firsts (V m c main_arg1 : Vec Ideal S2x512 .f32) (V m c main_arg2)
      ∧ (dats m 0 c).arrAt 6 cfg0.N = seconds (V m c main_arg1 : Vec Ideal S2x512 .f32) (V m c main_arg3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; rfl
  · blk_simp; rw [after0_5]; frame_out; rfl
  · blk_simp; rw [after0_6]; frame_out; rfl

theorem quiescent_reference : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

theorem algebraic : Cert.algebraic_Kernel27Ideal_Reference27Ideal := by
  intro m ρ m' ρ' _ hagree
  refine ⟨_, _, _, Value.run_blocks m ρ, ?_⟩
  refine (θ_run Cert.Reference27Ideal.defs _ _).mono (fun _ h c => ?_) (Cert.Reference27Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v23_eq, e0, e1, e2, e3, r0]; rfl
  · rw [h1, val_main_v4_eq, e1, e2, r1]; rfl
  · rw [h2, val_main_v10_eq, e1, e3, r2]; rfl

end Cert.AdamLower

end
-- ==== Proof.AdamHgNorm.lean ====
module

public import proofs.«01_k».proof.Defs
public import proofs.«01_k».proof.Proof.Adam
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import Idealize.ShloMosaic.Lib.Quiescent

@[expose] public section

set_option maxRecDepth 16384

noncomputable section

namespace Cert.AdamHgNorm

open Cert.Kernel28Ideal Cert.Kernel28Ideal.Gen Cert.Adam Cert.Reference28Ideal.Read
open Idealize.ShloMosaic Idealize.ShloMosaic.TcCoe Idealize.ShloMosaic.Tactic Idealize.SL.Sem

/-! # The optimiser's step of the gain of the recurrence's output norm

The grid has one step, and its blocks are the whole arrays. -/

variable (m : (ℓ : Loc nD τ sig) → Buf (Elt Ideal) ℓ) (c : Dev nD)

/-- The three arrays after the run. -/
theorem results :
    (dats m 0 c).arrAt 4 cfg0.N = changes (V m c main_arg0 : Vec Ideal S2x128 .f32) (V m c main_arg1) (V m c main_arg2) (V m c main_arg3)
      ∧ (dats m 0 c).arrAt 5 cfg0.N = firsts (V m c main_arg1 : Vec Ideal S2x128 .f32) (V m c main_arg2)
      ∧ (dats m 0 c).arrAt 6 cfg0.N = seconds (V m c main_arg1 : Vec Ideal S2x128 .f32) (V m c main_arg3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; rfl
  · blk_simp; rw [after0_5]; frame_out; rfl
  · blk_simp; rw [after0_6]; frame_out; rfl

theorem quiescent_reference : Cert.quiescent_Reference28Ideal := fun m ρ _ =>
  (θ_run Cert.Reference28Ideal.defs _ _).mono (fun r h => ⟨fun c => (h c).2.2.2, sem_eq_zero_of_no_sems (by decide) r.2⟩)
    (Cert.Reference28Ideal.Value.run (F := Ideal) m ρ)

theorem algebraic : Cert.algebraic_Kernel28Ideal_Reference28Ideal := by
  intro m ρ m' ρ' _ hagree
  refine ⟨_, _, _, Value.run_blocks m ρ, ?_⟩
  refine (θ_run Cert.Reference28Ideal.defs _ _).mono (fun _ h c => ?_) (Cert.Reference28Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v23_eq, e0, e1, e2, e3, r0]; rfl
  · rw [h1, val_main_v4_eq, e1, e2, r1]; rfl
  · rw [h2, val_main_v10_eq, e1, e3, r2]; rfl

end Cert.AdamHgNorm

end
-- ==== Proof.AdamQkNorm.lean ====
module

public import proofs.«01_k».proof.Defs
public import proofs.«01_k».proof.Proof.Adam
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import Idealize.ShloMosaic.Lib.Quiescent

@[expose] public section

set_option maxRecDepth 16384

noncomputable section

namespace Cert.AdamQkNorm

open Cert.Kernel29Ideal Cert.Kernel29Ideal.Gen Cert.Adam Cert.Reference29Ideal.Read
open Idealize.ShloMosaic Idealize.ShloMosaic.TcCoe Idealize.ShloMosaic.Tactic Idealize.SL.Sem

/-! # The optimiser's step of the gain of the windowed attention's query norm

The grid has one step, and its blocks are the whole arrays. -/

variable (m : (ℓ : Loc nD τ sig) → Buf (Elt Ideal) ℓ) (c : Dev nD)

/-- The three arrays after the run. -/
theorem results :
    (dats m 0 c).arrAt 4 cfg0.N = changes (V m c main_arg0 : Vec Ideal S2x64 .f32) (V m c main_arg1) (V m c main_arg2) (V m c main_arg3)
      ∧ (dats m 0 c).arrAt 5 cfg0.N = firsts (V m c main_arg1 : Vec Ideal S2x64 .f32) (V m c main_arg2)
      ∧ (dats m 0 c).arrAt 6 cfg0.N = seconds (V m c main_arg1 : Vec Ideal S2x64 .f32) (V m c main_arg3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; rfl
  · blk_simp; rw [after0_5]; frame_out; rfl
  · blk_simp; rw [after0_6]; frame_out; rfl

theorem quiescent_reference : Cert.quiescent_Reference29Ideal := fun m ρ _ =>
  (θ_run Cert.Reference29Ideal.defs _ _).mono (fun r h => ⟨fun c => (h c).2.2.2, sem_eq_zero_of_no_sems (by decide) r.2⟩)
    (Cert.Reference29Ideal.Value.run (F := Ideal) m ρ)

theorem algebraic : Cert.algebraic_Kernel29Ideal_Reference29Ideal := by
  intro m ρ m' ρ' _ hagree
  refine ⟨_, _, _, Value.run_blocks m ρ, ?_⟩
  refine (θ_run Cert.Reference29Ideal.defs _ _).mono (fun _ h c => ?_) (Cert.Reference29Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v23_eq, e0, e1, e2, e3, r0]; rfl
  · rw [h1, val_main_v4_eq, e1, e2, r1]; rfl
  · rw [h2, val_main_v10_eq, e1, e3, r2]; rfl

end Cert.AdamQkNorm

end
-- ==== Proof.AdamSinks.lean ====
module

public import proofs.«01_k».proof.Defs
public import proofs.«01_k».proof.Proof.Adam
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import Idealize.ShloMosaic.Lib.Quiescent

@[expose] public section

set_option maxRecDepth 16384

noncomputable section

namespace Cert.AdamSinks

open Cert.Kernel30Ideal Cert.Kernel30Ideal.Gen Cert.Adam Cert.Reference30Ideal.Read
open Idealize.ShloMosaic Idealize.ShloMosaic.TcCoe Idealize.ShloMosaic.Tactic Idealize.SL.Sem

/-! # The optimiser's step of the windowed attention's sinks

The grid has one step, and its blocks are the whole arrays. -/

variable (m : (ℓ : Loc nD τ sig) → Buf (Elt Ideal) ℓ) (c : Dev nD)

/-- The three arrays after the run. -/
theorem results :
    (dats m 0 c).arrAt 4 cfg0.N = changes (V m c main_arg0 : Vec Ideal S2x16 .f32) (V m c main_arg1) (V m c main_arg2) (V m c main_arg3)
      ∧ (dats m 0 c).arrAt 5 cfg0.N = firsts (V m c main_arg1 : Vec Ideal S2x16 .f32) (V m c main_arg2)
      ∧ (dats m 0 c).arrAt 6 cfg0.N = seconds (V m c main_arg1 : Vec Ideal S2x16 .f32) (V m c main_arg3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; rfl
  · blk_simp; rw [after0_5]; frame_out; rfl
  · blk_simp; rw [after0_6]; frame_out; rfl

theorem quiescent_reference : Cert.quiescent_Reference30Ideal := fun m ρ _ =>
  (θ_run Cert.Reference30Ideal.defs _ _).mono (fun r h => ⟨fun c => (h c).2.2.2, sem_eq_zero_of_no_sems (by decide) r.2⟩)
    (Cert.Reference30Ideal.Value.run (F := Ideal) m ρ)

theorem algebraic : Cert.algebraic_Kernel30Ideal_Reference30Ideal := by
  intro m ρ m' ρ' _ hagree
  refine ⟨_, _, _, Value.run_blocks m ρ, ?_⟩
  refine (θ_run Cert.Reference30Ideal.defs _ _).mono (fun _ h c => ?_) (Cert.Reference30Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v23_eq, e0, e1, e2, e3, r0]; rfl
  · rw [h1, val_main_v4_eq, e1, e2, r1]; rfl
  · rw [h2, val_main_v10_eq, e1, e3, r2]; rfl

end Cert.AdamSinks

end
-- ==== Proof.AdamRel.lean ====
module

public import proofs.«01_k».proof.Defs
public import proofs.«01_k».proof.Proof.Adam
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import Idealize.ShloMosaic.Lib.Quiescent

@[expose] public section

set_option maxRecDepth 16384

noncomputable section

namespace Cert.AdamRel

open Cert.Kernel31Ideal Cert.Kernel31Ideal.Gen Cert.Adam Cert.Reference31Ideal.Read
open Idealize.ShloMosaic Idealize.ShloMosaic.TcCoe Idealize.ShloMosaic.Tactic Idealize.SL.Sem

/-! # The optimiser's step of the windowed attention's bias table

The grid has one step, and its blocks are the whole arrays. -/

variable (m : (ℓ : Loc nD τ sig) → Buf (Elt Ideal) ℓ) (c : Dev nD)

/-- The three arrays after the run. -/
theorem results :
    (dats m 0 c).arrAt 4 cfg0.N = changes (V m c main_arg0 : Vec Ideal S32x16 .f32) (V m c main_arg1) (V m c main_arg2) (V m c main_arg3)
      ∧ (dats m 0 c).arrAt 5 cfg0.N = firsts (V m c main_arg1 : Vec Ideal S32x16 .f32) (V m c main_arg2)
      ∧ (dats m 0 c).arrAt 6 cfg0.N = seconds (V m c main_arg1 : Vec Ideal S32x16 .f32) (V m c main_arg3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; rfl
  · blk_simp; rw [after0_5]; frame_out; rfl
  · blk_simp; rw [after0_6]; frame_out; rfl

theorem quiescent_reference : Cert.quiescent_Reference31Ideal := fun m ρ _ =>
  (θ_run Cert.Reference31Ideal.defs _ _).mono (fun r h => ⟨fun c => (h c).2.2.2, sem_eq_zero_of_no_sems (by decide) r.2⟩)
    (Cert.Reference31Ideal.Value.run (F := Ideal) m ρ)

theorem algebraic : Cert.algebraic_Kernel31Ideal_Reference31Ideal := by
  intro m ρ m' ρ' _ hagree
  refine ⟨_, _, _, Value.run_blocks m ρ, ?_⟩
  refine (θ_run Cert.Reference31Ideal.defs _ _).mono (fun _ h c => ?_) (Cert.Reference31Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v23_eq, e0, e1, e2, e3, r0]; rfl
  · rw [h1, val_main_v4_eq, e1, e2, r1]; rfl
  · rw [h2, val_main_v10_eq, e1, e3, r2]; rfl

end Cert.AdamRel

end
-- ==== Proof.AdamConvBias.lean ====
module

public import proofs.«01_k».proof.Defs
public import proofs.«01_k».proof.Proof.Adam
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Reference32Ideal.Read
public import Idealize.ShloMosaic.Lib.Quiescent

@[expose] public section

set_option maxRecDepth 16384

noncomputable section

namespace Cert.AdamConvBias

open Cert.Kernel32Ideal Cert.Kernel32Ideal.Gen Cert.Adam Cert.Reference32Ideal.Read
open Idealize.ShloMosaic Idealize.ShloMosaic.TcCoe Idealize.ShloMosaic.Tactic Idealize.SL.Sem

/-! # The optimiser's step of the convolution's bias

The grid has one step, and its blocks are the whole arrays. -/

variable (m : (ℓ : Loc nD τ sig) → Buf (Elt Ideal) ℓ) (c : Dev nD)

/-- The three arrays after the run. -/
theorem results :
    (dats m 0 c).arrAt 4 cfg0.N = changes (V m c main_arg0 : Vec Ideal S4x5632 .f32) (V m c main_arg1) (V m c main_arg2) (V m c main_arg3)
      ∧ (dats m 0 c).arrAt 5 cfg0.N = firsts (V m c main_arg1 : Vec Ideal S4x5632 .f32) (V m c main_arg2)
      ∧ (dats m 0 c).arrAt 6 cfg0.N = seconds (V m c main_arg1 : Vec Ideal S4x5632 .f32) (V m c main_arg3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; rfl
  · blk_simp; rw [after0_5]; frame_out; rfl
  · blk_simp; rw [after0_6]; frame_out; rfl

theorem quiescent_reference : Cert.quiescent_Reference32Ideal := fun m ρ _ =>
  (θ_run Cert.Reference32Ideal.defs _ _).mono (fun r h => ⟨fun c => (h c).2.2.2, sem_eq_zero_of_no_sems (by decide) r.2⟩)
    (Cert.Reference32Ideal.Value.run (F := Ideal) m ρ)

theorem algebraic : Cert.algebraic_Kernel32Ideal_Reference32Ideal := by
  intro m ρ m' ρ' _ hagree
  refine ⟨_, _, _, Value.run_blocks m ρ, ?_⟩
  refine (θ_run Cert.Reference32Ideal.defs _ _).mono (fun _ h c => ?_) (Cert.Reference32Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v23_eq, e0, e1, e2, e3, r0]; rfl
  · rw [h1, val_main_v4_eq, e1, e2, r1]; rfl
  · rw [h2, val_main_v10_eq, e1, e3, r2]; rfl

end Cert.AdamConvBias

end
-- ==== Proof.AdamAbIn.lean ====
module

public import proofs.«01_k».proof.Defs
public import proofs.«01_k».proof.Proof.Adam
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Reference33Ideal.Read
public import Idealize.ShloMosaic.Lib.Quiescent

@[expose] public section

set_option maxRecDepth 16384

noncomputable section

namespace Cert.AdamAbIn

open Cert.Kernel33Ideal Cert.Kernel33Ideal.Gen Cert.Adam Cert.Reference33Ideal.Read
open Idealize.ShloMosaic Idealize.ShloMosaic.TcCoe Idealize.ShloMosaic.Tactic Idealize.SL.Sem

/-! # The optimiser's step of the even layers' in-projection, at one device's columns

The layers' rows are laid one below the other and taken block by block. -/

variable (m : (ℓ : Loc nD τ sig) → Buf (Elt Ideal) ℓ) (c : Dev nD)

variable (w g a b : Vec Ideal S1024x448 .f32) (i : S1024x448.Idx)

theorem pay4 : k0_pay4 g a b w i = change (w i) (g i) (a i) (b i) := change_cast _ _ _ _ _ _
theorem pay2 : k0_pay2 g a i = moment1 (g i) (a i) := moment1_cast _ _ _ _
theorem pay3 : k0_pay3 g b i = moment2 (g i) (b i) := moment2_cast _ _ _ _

/-- The three arrays after the run, from the arguments' rows. -/
theorem results :
    (dats m 0 c).arrAt 4 cfg0.N = changes (V m c main_v0 : Vec Ideal S2048x448 .f32) (V m c main_v1) (V m c main_v2) (V m c main_v3)
      ∧ (dats m 0 c).arrAt 5 cfg0.N = firsts (V m c main_v1 : Vec Ideal S2048x448 .f32) (V m c main_v2)
      ∧ (dats m 0 c).arrAt 6 cfg0.N = seconds (V m c main_v1 : Vec Ideal S2048x448 .f32) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; exact pay4 _ _ _ _ _
  · blk_simp; rw [after0_5]; frame_out; exact pay2 _ _ _
  · blk_simp; rw [after0_6]; frame_out; exact pay3 _ _ _

theorem quiescent_reference : Cert.quiescent_Reference33Ideal := fun m ρ _ =>
  (θ_run Cert.Reference33Ideal.defs _ _).mono (fun r h => ⟨fun c => (h c).2.2.2, sem_eq_zero_of_no_sems (by decide) r.2⟩)
    (Cert.Reference33Ideal.Value.run (F := Ideal) m ρ)

theorem algebraic : Cert.algebraic_Kernel33Ideal_Reference33Ideal := by
  intro m ρ m' ρ' _ hagree
  refine ⟨_, _, _, Value.run_blocks m ρ, ?_⟩
  refine (θ_run Cert.Reference33Ideal.defs _ _).mono (fun _ h c => ?_) (Cert.Reference33Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v24_eq, e0, e1, e2, e3, r0]; entry_read; rfl
  · rw [h1, val_main_v25_eq, e1, e2, r1]; entry_read; rfl
  · rw [h2, val_main_v26_eq, e1, e3, r2]; entry_read; rfl

end Cert.AdamAbIn

end
-- ==== Proof.AdamAbOut.lean ====
module

public import proofs.«01_k».proof.Defs
public import proofs.«01_k».proof.Proof.Adam
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Reference34Ideal.Read
public import Idealize.ShloMosaic.Lib.Quiescent

@[expose] public section

set_option maxRecDepth 16384

noncomputable section

namespace Cert.AdamAbOut

open Cert.Kernel34Ideal Cert.Kernel34Ideal.Gen Cert.Adam Cert.Reference34Ideal.Read
open Idealize.ShloMosaic Idealize.ShloMosaic.TcCoe Idealize.ShloMosaic.Tactic Idealize.SL.Sem

/-! # The optimiser's step of an out-projection, at one device's rows

The layers' rows are laid one below the other. The grid has one step, and its blocks are all of them. -/

variable (m : (ℓ : Loc nD τ sig) → Buf (Elt Ideal) ℓ) (c : Dev nD)

variable (w g a b : Vec Ideal S256x1024 .f32) (i : S256x1024.Idx)

theorem pay4 : k0_pay4 g a b w i = change (w i) (g i) (a i) (b i) := change_cast _ _ _ _ _ _
theorem pay2 : k0_pay2 g a i = moment1 (g i) (a i) := moment1_cast _ _ _ _
theorem pay3 : k0_pay3 g b i = moment2 (g i) (b i) := moment2_cast _ _ _ _

/-- The three arrays after the run, from the arguments' rows. -/
theorem results :
    (dats m 0 c).arrAt 4 cfg0.N = changes (V m c main_v0 : Vec Ideal S256x1024 .f32) (V m c main_v1) (V m c main_v2) (V m c main_v3)
      ∧ (dats m 0 c).arrAt 5 cfg0.N = firsts (V m c main_v1 : Vec Ideal S256x1024 .f32) (V m c main_v2)
      ∧ (dats m 0 c).arrAt 6 cfg0.N = seconds (V m c main_v1 : Vec Ideal S256x1024 .f32) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; exact pay4 _ _ _ _ _
  · blk_simp; rw [after0_5]; frame_out; exact pay2 _ _ _
  · blk_simp; rw [after0_6]; frame_out; exact pay3 _ _ _

theorem quiescent_reference : Cert.quiescent_Reference34Ideal := fun m ρ _ =>
  (θ_run Cert.Reference34Ideal.defs _ _).mono (fun r h => ⟨fun c => (h c).2.2.2, sem_eq_zero_of_no_sems (by decide) r.2⟩)
    (Cert.Reference34Ideal.Value.run (F := Ideal) m ρ)

theorem algebraic : Cert.algebraic_Kernel34Ideal_Reference34Ideal := by
  intro m ρ m' ρ' _ hagree
  refine ⟨_, _, _, Value.run_blocks m ρ, ?_⟩
  refine (θ_run Cert.Reference34Ideal.defs _ _).mono (fun _ h c => ?_) (Cert.Reference34Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v24_eq, e0, e1, e2, e3, r0]; entry_read; rfl
  · rw [h1, val_main_v25_eq, e1, e2, r1]; entry_read; rfl
  · rw [h2, val_main_v26_eq, e1, e3, r2]; entry_read; rfl

end Cert.AdamAbOut

end
-- ==== Proof.AdamCIn.lean ====
module

public import proofs.«01_k».proof.Defs
public import proofs.«01_k».proof.Proof.Adam
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Reference35Ideal.Read
public import Idealize.ShloMosaic.Lib.Quiescent

@[expose] public section

set_option maxRecDepth 16384

noncomputable section

namespace Cert.AdamCIn

open Cert.Kernel35Ideal Cert.Kernel35Ideal.Gen Cert.Adam Cert.Reference35Ideal.Read
open Idealize.ShloMosaic Idealize.ShloMosaic.TcCoe Idealize.ShloMosaic.Tactic Idealize.SL.Sem

/-! # The optimiser's step of the odd layers' in-projection, at one device's columns

The layers' rows are laid one below the other. The grid has one step, and its blocks are all of them. -/

variable (m : (ℓ : Loc nD τ sig) → Buf (Elt Ideal) ℓ) (c : Dev nD)

variable (w g a b : Vec Ideal S2048x192 .f32) (i : S2048x192.Idx)

theorem pay4 : k0_pay4 g a b w i = change (w i) (g i) (a i) (b i) := change_cast _ _ _ _ _ _
theorem pay2 : k0_pay2 g a i = moment1 (g i) (a i) := moment1_cast _ _ _ _
theorem pay3 : k0_pay3 g b i = moment2 (g i) (b i) := moment2_cast _ _ _ _

/-- The three arrays after the run, from the arguments' rows. -/
theorem results :
    (dats m 0 c).arrAt 4 cfg0.N = changes (V m c main_v0 : Vec Ideal S2048x192 .f32) (V m c main_v1) (V m c main_v2) (V m c main_v3)
      ∧ (dats m 0 c).arrAt 5 cfg0.N = firsts (V m c main_v1 : Vec Ideal S2048x192 .f32) (V m c main_v2)
      ∧ (dats m 0 c).arrAt 6 cfg0.N = seconds (V m c main_v1 : Vec Ideal S2048x192 .f32) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; exact pay4 _ _ _ _ _
  · blk_simp; rw [after0_5]; frame_out; exact pay2 _ _ _
  · blk_simp; rw [after0_6]; frame_out; exact pay3 _ _ _

theorem quiescent_reference : Cert.quiescent_Reference35Ideal := fun m ρ _ =>
  (θ_run Cert.Reference35Ideal.defs _ _).mono (fun r h => ⟨fun c => (h c).2.2.2, sem_eq_zero_of_no_sems (by decide) r.2⟩)
    (Cert.Reference35Ideal.Value.run (F := Ideal) m ρ)

theorem algebraic : Cert.algebraic_Kernel35Ideal_Reference35Ideal := by
  intro m ρ m' ρ' _ hagree
  refine ⟨_, _, _, Value.run_blocks m ρ, ?_⟩
  refine (θ_run Cert.Reference35Ideal.defs _ _).mono (fun _ h c => ?_) (Cert.Reference35Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v24_eq, e0, e1, e2, e3, r0]; entry_read; rfl
  · rw [h1, val_main_v25_eq, e1, e2, r1]; entry_read; rfl
  · rw [h2, val_main_v26_eq, e1, e3, r2]; entry_read; rfl

end Cert.AdamCIn

end
-- ==== Proof.AdamUp.lean ====
module

public import proofs.«01_k».proof.Defs
public import proofs.«01_k».proof.Proof.Adam
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Reference36Ideal.Read
public import Idealize.ShloMosaic.Lib.Quiescent

@[expose] public section

set_option maxRecDepth 16384

noncomputable section

namespace Cert.AdamUp

open Cert.Kernel36Ideal Cert.Kernel36Ideal.Gen Cert.Adam Cert.Reference36Ideal.Read
open Idealize.ShloMosaic Idealize.ShloMosaic.TcCoe Idealize.ShloMosaic.Tactic Idealize.SL.Sem

/-! # The optimiser's step of the feed-forward's up product, at one device's columns

The layers' rows are laid one below the other and taken block by block. -/

variable (m : (ℓ : Loc nD τ sig) → Buf (Elt Ideal) ℓ) (c : Dev nD)

variable (w g a b : Vec Ideal S512x704 .f32) (i : S512x704.Idx)

theorem pay4 : k0_pay4 g a b w i = change (w i) (g i) (a i) (b i) := change_cast _ _ _ _ _ _
theorem pay2 : k0_pay2 g a i = moment1 (g i) (a i) := moment1_cast _ _ _ _
theorem pay3 : k0_pay3 g b i = moment2 (g i) (b i) := moment2_cast _ _ _ _

/-- The three arrays after the run, from the arguments' rows. -/
theorem results :
    (dats m 0 c).arrAt 4 cfg0.N = changes (V m c main_v0 : Vec Ideal S4096x704 .f32) (V m c main_v1) (V m c main_v2) (V m c main_v3)
      ∧ (dats m 0 c).arrAt 5 cfg0.N = firsts (V m c main_v1 : Vec Ideal S4096x704 .f32) (V m c main_v2)
      ∧ (dats m 0 c).arrAt 6 cfg0.N = seconds (V m c main_v1 : Vec Ideal S4096x704 .f32) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; exact pay4 _ _ _ _ _
  · blk_simp; rw [after0_5]; frame_out; exact pay2 _ _ _
  · blk_simp; rw [after0_6]; frame_out; exact pay3 _ _ _

theorem quiescent_reference : Cert.quiescent_Reference36Ideal := fun m ρ _ =>
  (θ_run Cert.Reference36Ideal.defs _ _).mono (fun r h => ⟨fun c => (h c).2.2.2, sem_eq_zero_of_no_sems (by decide) r.2⟩)
    (Cert.Reference36Ideal.Value.run (F := Ideal) m ρ)

theorem algebraic : Cert.algebraic_Kernel36Ideal_Reference36Ideal := by
  intro m ρ m' ρ' _ hagree
  refine ⟨_, _, _, Value.run_blocks m ρ, ?_⟩
  refine (θ_run Cert.Reference36Ideal.defs _ _).mono (fun _ h c => ?_) (Cert.Reference36Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v24_eq, e0, e1, e2, e3, r0]; entry_read; rfl
  · rw [h1, val_main_v25_eq, e1, e2, r1]; entry_read; rfl
  · rw [h2, val_main_v26_eq, e1, e3, r2]; entry_read; rfl

end Cert.AdamUp

end
-- ==== Proof.AdamConv.lean ====
module

public import proofs.«01_k».proof.Defs
public import proofs.«01_k».proof.Proof.Adam
public import proofs.«01_k».proof.Proof.Gen.Kernel37.Frame
public import proofs.«01_k».proof.Proof.Gen.Kernel37Ideal.Value
public import proofs.«01_k».proof.Proof.Gen.Reference37Ideal.Run
public import proofs.«01_k».proof.Proof.Gen.Reference37Ideal.Read
public import Idealize.ShloMosaic.Lib.Quiescent

@[expose] public section

set_option maxRecDepth 16384

noncomputable section

namespace Cert.AdamConv

open Cert.Kernel37Ideal Cert.Kernel37Ideal.Gen Cert.Adam Cert.Reference37Ideal.Read
open Idealize.ShloMosaic Idealize.ShloMosaic.TcCoe Idealize.ShloMosaic.Tactic Idealize.SL.Sem

/-! # The optimiser's step of the convolution's taps, at one device's columns

The layers' rows are laid one below the other. The grid has one step, and its blocks are all of them. -/

variable (m : (ℓ : Loc nD τ sig) → Buf (Elt Ideal) ℓ) (c : Dev nD)

variable (w g a b : Vec Ideal S12x704 .f32) (i : S12x704.Idx)

theorem pay4 : k0_pay4 g a b w i = change (w i) (g i) (a i) (b i) := change_cast _ _ _ _ _ _
theorem pay2 : k0_pay2 g a i = moment1 (g i) (a i) := moment1_cast _ _ _ _
theorem pay3 : k0_pay3 g b i = moment2 (g i) (b i) := moment2_cast _ _ _ _

/-- The three arrays after the run, from the arguments' rows. -/
theorem results :
    (dats m 0 c).arrAt 4 cfg0.N = changes (V m c main_v0 : Vec Ideal S12x704 .f32) (V m c main_v1) (V m c main_v2) (V m c main_v3)
      ∧ (dats m 0 c).arrAt 5 cfg0.N = firsts (V m c main_v1 : Vec Ideal S12x704 .f32) (V m c main_v2)
      ∧ (dats m 0 c).arrAt 6 cfg0.N = seconds (V m c main_v1 : Vec Ideal S12x704 .f32) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; exact pay4 _ _ _ _ _
  · blk_simp; rw [after0_5]; frame_out; exact pay2 _ _ _
  · blk_simp; rw [after0_6]; frame_out; exact pay3 _ _ _

theorem quiescent_reference : Cert.quiescent_Reference37Ideal := fun m ρ _ =>
  (θ_run Cert.Reference37Ideal.defs _ _).mono (fun r h => ⟨fun c => (h c).2.2.2, sem_eq_zero_of_no_sems (by decide) r.2⟩)
    (Cert.Reference37Ideal.Value.run (F := Ideal) m ρ)

theorem algebraic : Cert.algebraic_Kernel37Ideal_Reference37Ideal := by
  intro m ρ m' ρ' _ hagree
  refine ⟨_, _, _, Value.run_blocks m ρ, ?_⟩
  refine (θ_run Cert.Reference37Ideal.defs _ _).mono (fun _ h c => ?_) (Cert.Reference37Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v24_eq, e0, e1, e2, e3, r0]; entry_read; rfl
  · rw [h1, val_main_v25_eq, e1, e2, r1]; entry_read; rfl
  · rw [h2, val_main_v26_eq, e1, e3, r2]; entry_read; rfl

end Cert.AdamConv

end
-- ==== Proof.AdamGate.lean ====
module

public import proofs.«01_k».proof.Defs
public import proofs.«01_k».proof.Proof.Adam
public import proofs.«01_k».proof.Proof.Gen.Kernel38.Frame
public import proofs.«01_k».proof.Proof.Gen.Kernel38Ideal.Value
public import proofs.«01_k».proof.Proof.Gen.Reference38Ideal.Run
public import proofs.«01_k».proof.Proof.Gen.Reference38Ideal.Read
public import Idealize.ShloMosaic.Lib.Quiescent

@[expose] public section

set_option maxRecDepth 16384

noncomputable section

namespace Cert.AdamGate

open Cert.Kernel38Ideal Cert.Kernel38Ideal.Gen Cert.Adam Cert.Reference38Ideal.Read
open Idealize.ShloMosaic Idealize.ShloMosaic.TcCoe Idealize.ShloMosaic.Tactic Idealize.SL.Sem

/-! # The optimiser's step of the per-layer embeddings' gate, at one device's rows

The layers' rows are laid one below the other. The grid has one step, and its blocks are all of them. -/

variable (m : (ℓ : Loc nD τ sig) → Buf (Elt Ideal) ℓ) (c : Dev nD)

variable (w g a b : Vec Ideal S512x1024 .f32) (i : S512x1024.Idx)

theorem pay4 : k0_pay4 g a b w i = change (w i) (g i) (a i) (b i) := change_cast _ _ _ _ _ _
theorem pay2 : k0_pay2 g a i = moment1 (g i) (a i) := moment1_cast _ _ _ _
theorem pay3 : k0_pay3 g b i = moment2 (g i) (b i) := moment2_cast _ _ _ _

/-- The three arrays after the run, from the arguments' rows. -/
theorem results :
    (dats m 0 c).arrAt 4 cfg0.N = changes (V m c main_v0 : Vec Ideal S512x1024 .f32) (V m c main_v1) (V m c main_v2) (V m c main_v3)
      ∧ (dats m 0 c).arrAt 5 cfg0.N = firsts (V m c main_v1 : Vec Ideal S512x1024 .f32) (V m c main_v2)
      ∧ (dats m 0 c).arrAt 6 cfg0.N = seconds (V m c main_v1 : Vec Ideal S512x1024 .f32) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; exact pay4 _ _ _ _ _
  · blk_simp; rw [after0_5]; frame_out; exact pay2 _ _ _
  · blk_simp; rw [after0_6]; frame_out; exact pay3 _ _ _

theorem quiescent_reference : Cert.quiescent_Reference38Ideal := fun m ρ _ =>
  (θ_run Cert.Reference38Ideal.defs _ _).mono (fun r h => ⟨fun c => (h c).2.2.2, sem_eq_zero_of_no_sems (by decide) r.2⟩)
    (Cert.Reference38Ideal.Value.run (F := Ideal) m ρ)

theorem algebraic : Cert.algebraic_Kernel38Ideal_Reference38Ideal := by
  intro m ρ m' ρ' _ hagree
  refine ⟨_, _, _, Value.run_blocks m ρ, ?_⟩
  refine (θ_run Cert.Reference38Ideal.defs _ _).mono (fun _ h c => ?_) (Cert.Reference38Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v24_eq, e0, e1, e2, e3, r0]; entry_read; rfl
  · rw [h1, val_main_v25_eq, e1, e2, r1]; entry_read; rfl
  · rw [h2, val_main_v26_eq, e1, e3, r2]; entry_read; rfl

end Cert.AdamGate

end
-- ==== Proof.AdamProj.lean ====
module

public import proofs.«01_k».proof.Defs
public import proofs.«01_k».proof.Proof.Adam
public import proofs.«01_k».proof.Proof.Gen.Kernel39.Frame
public import proofs.«01_k».proof.Proof.Gen.Kernel39Ideal.Value
public import proofs.«01_k».proof.Proof.Gen.Reference39Ideal.Run
public import proofs.«01_k».proof.Proof.Gen.Reference39Ideal.Read
public import Idealize.ShloMosaic.Lib.Quiescent

@[expose] public section

set_option maxRecDepth 16384

noncomputable section

namespace Cert.AdamProj

open Cert.Kernel39Ideal Cert.Kernel39Ideal.Gen Cert.Adam Cert.Reference39Ideal.Read
open Idealize.ShloMosaic Idealize.ShloMosaic.TcCoe Idealize.ShloMosaic.Tactic Idealize.SL.Sem

/-! # The optimiser's step of the per-layer embeddings' projection, at one device's columns

The layers' rows are laid one below the other. The grid has one step, and its blocks are all of them. -/

variable (m : (ℓ : Loc nD τ sig) → Buf (Elt Ideal) ℓ) (c : Dev nD)

variable (w g a b : Vec Ideal S1024x128 .f32) (i : S1024x128.Idx)

theorem pay4 : k0_pay4 g a b w i = change (w i) (g i) (a i) (b i) := change_cast _ _ _ _ _ _
theorem pay2 : k0_pay2 g a i = moment1 (g i) (a i) := moment1_cast _ _ _ _
theorem pay3 : k0_pay3 g b i = moment2 (g i) (b i) := moment2_cast _ _ _ _

/-- The three arrays after the run, from the arguments' rows. -/
theorem results :
    (dats m 0 c).arrAt 4 cfg0.N = changes (V m c main_v0 : Vec Ideal S1024x128 .f32) (V m c main_v1) (V m c main_v2) (V m c main_v3)
      ∧ (dats m 0 c).arrAt 5 cfg0.N = firsts (V m c main_v1 : Vec Ideal S1024x128 .f32) (V m c main_v2)
      ∧ (dats m 0 c).arrAt 6 cfg0.N = seconds (V m c main_v1 : Vec Ideal S1024x128 .f32) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  · blk_simp; rw [after0_4]; frame_out; exact pay4 _ _ _ _ _
  · blk_simp; rw [after0_5]; frame_out; exact pay2 _ _ _
  · blk_simp; rw [after0_6]; frame_out; exact pay3 _ _ _

theorem quiescent_reference : Cert.quiescent_Reference39Ideal := fun m ρ _ =>
  (θ_run Cert.Reference39Ideal.defs _ _).mono (fun r h => ⟨fun c => (h c).2.2.2, sem_eq_zero_of_no_sems (by decide) r.2⟩)
    (Cert.Reference39Ideal.Value.run (F := Ideal) m ρ)

theorem algebraic : Cert.algebraic_Kernel39Ideal_Reference39Ideal := by
  intro m ρ m' ρ' _ hagree
  refine ⟨_, _, _, Value.run_blocks m ρ, ?_⟩
  refine (θ_run Cert.Reference39Ideal.defs _ _).mono (fun _ h c => ?_) (Cert.Reference39Ideal.Value.run (F := Ideal) m' ρ')
  obtain ⟨h0, h1, h2, kept⟩ := h c
  obtain ⟨e0, e1, e2, e3⟩ := hagree c
  obtain ⟨r0, r1, r2⟩ := results m c
  refine ⟨?_, ?_, ?_, kept⟩
  · rw [h0, val_main_v24_eq, e0, e1, e2, e3, r0]; entry_read; rfl
  · rw [h1, val_main_v25_eq, e1, e2, r1]; entry_read; rfl
  · rw [h2, val_main_v26_eq, e1, e3, r2]; entry_read; rfl

end Cert.AdamProj

end
-- ==== Proof.RmsRow.lean ====
module

public import proofs.«01_k».proof.Proof.SwaReal

@[expose] public section

noncomputable section

namespace Cert.Rms

open Idealize.ShloMosaic
open scoped BigOperators

/-! # The gradient of a norm, along one row

A row has 1024 values `x`, the gain `g` and the incoming gradient `y`. -/

abbrev Row := Fin 1024 → EReal

/-- A constant, by its word. -/
abbrev word (b : BitVec 32) : EReal := Scalar.ofBits (F := Ideal) .f32 b

/-- The mean of the squares, and the small constant. -/
def meanSq (x : Row) : EReal := Ideal.div (∑ k, x k * x k) (word 0x44800000#32) + word 0x358637BD#32

/-- The factor by which the norm scales the row. -/
def scale (x : Row) : EReal := Ideal.rsqrt (meanSq x)

/-- The gradient in the row at place `q`, as the kernel computes it, added to the stream's gradient `h`. -/
def inGrad (x g y : Row) (h : EReal) (q : Fin 1024) : EReal :=
  scale x * (y q * g q - x q * scale x * Ideal.div (∑ k, y k * g k * (x k * scale x)) (word 0x44800000#32)) + h

/-- The gradient in the mean of the squares over the row's length, as the chain rule gives it. -/
def meanGrad (x g y : Row) : EReal :=
  Ideal.div ((∑ k, x k * (y k * g k)) * (word 0xBF000000#32 * Ideal.div (scale x) (meanSq x))) (word 0x44800000#32)

/-- The gradient in the row at place `q`, as the chain rule gives it. -/
def chainGrad (x g y : Row) (h : EReal) (q : Fin 1024) : EReal :=
  h + y q * g q * scale x + x q * meanGrad x g y + meanGrad x g y * x q

theorem word_width : word 0x44800000#32 = ((1024 : ℝ) : EReal) := by
  simp [Scalar.ofBits, Ideal.ofBits, Ideal.ieee]; rw [← EReal.coe_mul]; norm_num
theorem word_zero : word 0x00000000#32 = 0 := by simp [Scalar.ofBits, Ideal.ofBits, Ideal.ieee]
theorem word_half : word 0xBF000000#32 = ((-(1 / 2) : ℝ) : EReal) := by
  simp [Scalar.ofBits, Ideal.ofBits, Ideal.ieee]; rw [← EReal.coe_mul]; norm_num
theorem word_small : ∃ e : ℝ, 0 < e ∧ word 0x358637BD#32 = (e : EReal) := by
  refine ⟨8796093 / 2 ^ 43, by norm_num, ?_⟩
  simp [Scalar.ofBits, Ideal.ofBits, Ideal.ieee]; rw [← EReal.coe_mul]; norm_num

/-- The two gradients agree on a row of real numbers. -/
theorem chainGrad_eq (x g y : Fin 1024 → ℝ) (h : ℝ) (q : Fin 1024) :
    chainGrad (fun k => (x k : EReal)) (fun k => (g k : EReal)) (fun k => (y k : EReal)) h q
      = inGrad (fun k => (x k : EReal)) (fun k => (g k : EReal)) (fun k => (y k : EReal)) h q := by
  obtain ⟨e, he, hw⟩ := word_small
  have h1024 : (1024 : ℝ) ≠ 0 := by norm_num
  have hv : 0 < (∑ k, x k * x k) / 1024 + e := add_pos_of_nonneg_of_pos (div_nonneg (Finset.sum_nonneg fun k _ => mul_self_nonneg _) (by norm_num)) he
  have em : meanSq (fun k => (x k : EReal)) = (((∑ k, x k * x k) / 1024 + e : ℝ) : EReal) := by
    unfold meanSq
    rw [word_width, hw, Cert.Swa.sum_eq_coe (f := fun k => x k * x k) fun k => (EReal.coe_mul _ _).symm, Cert.Swa.div_real h1024, ← EReal.coe_add]
  generalize (∑ k, x k * x k) / 1024 + e = v at hv em
  have es : scale (fun k => (x k : EReal)) = (((Real.sqrt v)⁻¹ : ℝ) : EReal) := by
    unfold scale
    rw [em, Ideal.rsqrt_coe, if_neg hv.le.not_gt, if_neg hv.ne']
  have hr : (Real.sqrt v)⁻¹ * (Real.sqrt v)⁻¹ = v⁻¹ := by rw [← mul_inv, Real.mul_self_sqrt hv.le]
  generalize (Real.sqrt v)⁻¹ = r at es hr
  unfold chainGrad inGrad meanGrad
  rw [em, es, word_width, word_half, Cert.Swa.div_real hv.ne', ← EReal.coe_mul (-(1 / 2)) _,
    Cert.Swa.sum_eq_coe (f := fun k => x k * (y k * g k)) fun k => by push_cast; rfl,
    Cert.Swa.sum_eq_coe (f := fun k => y k * g k * (x k * r)) fun k => by push_cast; rfl,
    ← EReal.coe_mul (∑ i, x i * (y i * g i)) _, Cert.Swa.div_real h1024, Cert.Swa.div_real h1024]
  have hs : ∑ k, y k * g k * (x k * r) = r * ∑ k, x k * (y k * g k) := by
    rw [Finset.mul_sum]; exact Finset.sum_congr rfl fun k _ => by ring
  rw [hs]
  beta_reduce
  norm_cast
  rw [div_eq_mul_inv r v, ← hr]
  ring

end Cert.Rms

end
-- ==== Proof.RmsPay.lean ====
module

public import proofs.«01_k».proof.Proof.Gen.Kernel40Ideal.Value
public import proofs.«01_k».proof.Proof.RmsRow
public import proofs.«01_k».proof.Proof.Product
public import proofs.«01_k».proof.Proof.GradSum

@[expose] public section

set_option maxRecDepth 16384

noncomputable section

namespace Cert.Kernel40Ideal.Rms

open Cert.Kernel40Ideal Cert.Kernel40Ideal.Gen Cert.Rms
open Idealize.ShloMosaic hiding ix1 ix2 ix3
open Idealize.ShloMosaic.TcCoe Idealize.ShloMosaic.ValueIdx Idealize.ShloMosaic.Tactic
open Idealize.SL.Sem
open Cert.GradSum Cert.Product
open scoped BigOperators

/-! # The body of the norm's gradient: a block of 512 rows -/

/-- Row `r` of a block. -/
abbrev rowOf {R : ℕ} (x : Vec Ideal ⟨2, ![R, 1024]⟩ .f32) (r : Fin R) : Row := fun k => x (ix2 r k)

theorem over_col (x : FVec Ideal S512x1 .f32) (r : Fin 512) (q : Fin 1024) :
    broadcastTo S512x1024 x broadcasts_S512x1_S512x1024 (ix2 r q) = x (ix2 r 0) :=
  broadcastTo_apply _ _ _ _ fun a => match a with
    | ⟨0, _⟩ => by show r.val = if (512 : ℕ) = 1 then 0 else r.val; rw [if_neg (by decide)]
    | ⟨1, _⟩ => by show 0 = if (1 : ℕ) = 1 then 0 else q.val; rw [if_pos rfl]
theorem over_row (x : FVec Ideal S1x1024 .f32) (r : Fin 512) (q : Fin 1024) :
    broadcastTo S512x1024 x broadcasts_S1x1024_S512x1024 (ix2 r q) = x (ix2 0 q) :=
  broadcastTo_apply _ _ _ _ fun a => match a with
    | ⟨0, _⟩ => by show 0 = if (1 : ℕ) = 1 then 0 else r.val; rw [if_pos rfl]
    | ⟨1, _⟩ => by show q.val = if (1024 : ℕ) = 1 then 0 else q.val; rw [if_neg (by decide)]

/-- The sum along a row, as a column. -/
theorem row_sum (x : FVec Ideal S512x1024 .f32) (r : Fin 512) (hφ hacc) :
    (shapeCast S512x1 (multiReduction .add [1] S512 x 0x00000000#32 reduces_S512x1024_S512 hφ hacc : FVec Ideal S512 .f32) shapeCasts_S512_S512x1 : FVec Ideal S512x1 .f32) (ix2 r 0)
      = ∑ k, rowOf x r k := by
  refine (shapeCast_apply _ _ (ix2 r 0) (ValueIdx.ix1 r) ?_).trans ?_
  · rw [Shape.rowMajor_val_two, Shape.rowMajor_val_one]
    show r.val = r.val * 1 + 0
    omega
  rw [Ideal.multiReduction_add_single]
  refine Finset.sum_congr rfl fun j _ => congrArg x ?_
  funext a; apply Fin.ext
  match a with
  | ⟨0, _⟩ => rfl
  | ⟨1, _⟩ => rfl

variable (x y h : Vec Ideal S512x1024 .f32) (g : Vec Ideal S1x1024 .f32) (r : Fin 512) (q : Fin 1024)

theorem pay2_eq : k0_pay2 x = x := funext fun i => shapeCast_apply x _ i i rfl
theorem pay5_eq : k0_pay5 y = y := funext fun i => shapeCast_apply y _ i i rfl
theorem pay8_eq : k0_pay8 g = g := funext fun i => shapeCast_apply g _ i i rfl

theorem pay3_apply : k0_pay3 x (ix2 r 0) = scale (rowOf x r) := by
  unfold k0_pay3
  rw [pay2_eq]
  exact congrArg (fun s : EReal => Ideal.rsqrt (Ideal.div s (word 0x44800000#32) + word 0x358637BD#32)) (row_sum _ r _ _)

theorem pay4_apply : k0_pay4 x (ix2 r q) = x (ix2 r q) * scale (rowOf x r) := by
  unfold k0_pay4
  rw [pay2_eq]
  exact congrArg (fun s : EReal => x (ix2 r q) * s) ((over_col _ r q).trans (pay3_apply x r))

theorem pay9_apply : k0_pay9 x y (ix2 r q) = y (ix2 r q) * (x (ix2 r q) * scale (rowOf x r)) := by
  unfold k0_pay9
  rw [pay5_eq]
  exact congrArg (fun s : EReal => y (ix2 r q) * s) (pay4_apply x r q)

/-- The gradient in the block's rows. -/
theorem pay6_apply : k0_pay6 x y g h (ix2 r q) = inGrad (rowOf x r) (rowOf g 0) (rowOf y r) (h (ix2 r q)) q := by
  have eg : ∀ k, broadcastTo S512x1024 (shapeCast S1x1024 g shapeCasts_S1x1024_S1x1024) broadcasts_S1x1024_S512x1024 (ix2 r k) = g (ix2 0 k) :=
    fun k => (over_row _ r k).trans (shapeCast_apply g _ _ _ rfl)
  unfold k0_pay6
  rw [pay5_eq]
  simp only [addf_apply, mulf_apply, subf_apply]
  rw [eg, over_col, over_col, pay3_apply, pay4_apply, shapeCast_apply h _ _ _ rfl]
  unfold inGrad
  refine congrArg (fun s : EReal => scale (rowOf x r) * (y (ix2 r q) * g (ix2 0 q) - x (ix2 r q) * scale (rowOf x r) * Ideal.div s (word 0x44800000#32)) + h (ix2 r q)) ?_
  refine (row_sum _ r _ _).trans (Finset.sum_congr rfl fun k _ => ?_)
  exact congrArg₂ (fun s t : EReal => y (ix2 r k) * s * t) (eg k) (pay4_apply x r k)

/-- The sum over a block's rows, as a row. -/
theorem col_sum (v : FVec Ideal S512x1024 .f32) (q : Fin 1024) (hφ hacc) :
    (shapeCast S1x1024 (multiReduction .add [0] S1024 v 0x00000000#32 reduces_S512x1024_S1024 hφ hacc : FVec Ideal S1024 .f32) shapeCasts_S1024_S1x1024 : FVec Ideal S1x1024 .f32) (ix2 0 q)
      = ∑ r, v (ix2 r q) := by
  refine (shapeCast_apply _ _ (ix2 0 q) (ValueIdx.ix1 q) ?_).trans ?_
  · rw [Shape.rowMajor_val_two, Shape.rowMajor_val_one]
    show q.val = 0 * 1024 + q.val
    omega
  rw [Ideal.multiReduction_add_single]
  refine Finset.sum_congr rfl fun j _ => congrArg v ?_
  funext a; apply Fin.ext
  match a with
  | ⟨0, _⟩ => rfl
  | ⟨1, _⟩ => rfl

/-- A block's rows added to the gain's gradient. -/
theorem pay1_apply (a : FVec Ideal S1x1024 .f32) (v : FVec Ideal S512x1024 .f32) : k0_pay1 a v (ix2 0 q) = a (ix2 0 q) + ∑ r, v (ix2 r q) :=
  congrArg (fun s : EReal => a (ix2 0 q) + s) (col_sum v q _ _)

variable (m : (ℓ : Loc nD τ sig) → Buf (Elt Ideal) ℓ) (c : Dev nD)

theorem dx_after (t : Fin cfg0.N) : (outsAt0 m c t.val t.isLt).1 = k0_pay6 (iblk m c 0 t) (iblk m c 2 t) (iblk m c 1 t) (iblk m c 3 t) := by
  by_cases h0 : t.val % 8 = 0
  · rw [outsAt0_A m c t h0]; frame_out
  · rw [outsAt0_B m c t h0]; frame_out
theorem dg_first (t : Fin cfg0.N) (h0 : t.val % 8 = 0) : (outsAt0 m c t.val t.isLt).2 = k0_pay1 (k0_pay8 k0_pay7) (k0_pay9 (iblk m c 0 t) (iblk m c 2 t)) := by
  rw [outsAt0_A m c t h0]; frame_out
  try simp only [read_unread_whole]
theorem dg_next (t : Fin cfg0.N) (h0 : ¬ t.val % 8 = 0) : (outsAt0 m c t.val t.isLt).2
    = k0_pay1 (k0_pay8 (outsAt0 m c (t.val - 1) (Nat.lt_of_le_of_lt (Nat.sub_le _ _) t.isLt)).2) (k0_pay9 (iblk m c 0 t) (iblk m c 2 t)) := by
  rw [outsAt0_B m c t h0]; frame_out
  try simp only [read_unread_whole]

/-! ## From the arguments -/

abbrev xArg : Vec Ideal S2x2048x1024 .f32 := m ((c.tc : Thread nD τ).loc main_arg0)
abbrev gArg : Vec Ideal S1024 .f32 := m ((c.tc : Thread nD τ).loc main_arg1)
abbrev yArg : Vec Ideal S2x2048x1024 .f32 := m ((c.tc : Thread nD τ).loc main_arg2)
abbrev hArg : Vec Ideal S2x2048x1024 .f32 := m ((c.tc : Thread nD τ).loc main_arg3)

/-- Row `n = 2048 b + s` of an array. -/
abbrev rowAt (x : Vec Ideal S2x2048x1024 .f32) (n : Fin 4096) : Row := fun k => x (rowIx n k)
abbrev gain (g : Vec Ideal S1024 .f32) : Row := fun k => g (ValueIdx.ix1 k)

/-- The gradient in the rows. -/
def inGrads (x : Vec Ideal S2x2048x1024 .f32) (g : Vec Ideal S1024 .f32) (y h : Vec Ideal S2x2048x1024 .f32) : Vec Ideal S4096x1024 .f32 :=
  fun i => inGrad (rowAt x (i 0)) (gain g) (rowAt y (i 0)) (h (rowIx (i 0) (i 1))) (i 1)
/-- What row `n` adds to the gain's gradient at place `q`. -/
def gainTerm (x y : Vec Ideal S2x2048x1024 .f32) (q : Fin 1024) (n : Fin 4096) : EReal := rowAt y n q * (rowAt x n q * scale (rowAt x n))
/-- The gain's gradient: the sum over the rows. -/
def gainGrads (x y : Vec Ideal S2x2048x1024 .f32) : Vec Ideal S1x1024 .f32 := fun i => ∑ n, gainTerm x y (i 1) n

theorem V_x (n : Fin 4096) (k : Fin 1024) : (V m c main_v0 : Vec Ideal S4096x1024 .f32) (ix2 n k) = xArg m c (rowIx n k) := by
  have e : (V m c main_v0 : Vec Ideal S4096x1024 .f32) = shapeCast S4096x1024 (xArg m c) shapeCasts_S2x2048x1024_S4096x1024 := by entry_read; rfl
  exact (congrFun e _).trans (rows_cast _ _ _ _)
theorem V_y (n : Fin 4096) (k : Fin 1024) : (V m c main_v1 : Vec Ideal S4096x1024 .f32) (ix2 n k) = yArg m c (rowIx n k) := by
  have e : (V m c main_v1 : Vec Ideal S4096x1024 .f32) = shapeCast S4096x1024 (yArg m c) shapeCasts_S2x2048x1024_S4096x1024 := by entry_read; rfl
  exact (congrFun e _).trans (rows_cast _ _ _ _)
theorem V_h (n : Fin 4096) (k : Fin 1024) : (V m c main_v2 : Vec Ideal S4096x1024 .f32) (ix2 n k) = hArg m c (rowIx n k) := by
  have e : (V m c main_v2 : Vec Ideal S4096x1024 .f32) = shapeCast S4096x1024 (hArg m c) shapeCasts_S2x2048x1024_S4096x1024 := by entry_read; rfl
  exact (congrFun e _).trans (rows_cast _ _ _ _)
theorem V_g (k : Fin 1024) : (V m c main_v3 : Vec Ideal S1x1024 .f32) (ix2 0 k) = gArg m c (ValueIdx.ix1 k) := by
  have e : (V m c main_v3 : Vec Ideal S1x1024 .f32) = shapeCast S1x1024 (gArg m c) shapeCasts_S1024_S1x1024 := by entry_read; rfl
  refine (congrFun e _).trans (shapeCast_apply _ _ _ _ ?_)
  rw [Shape.rowMajor_val_two, Shape.rowMajor_val_one]
  show k.val = 0 * 1024 + k.val
  omega

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![0, 0] := by decide +kernel

variable (t : Fin cfg0.N) (n : Fin 4096) (hn : 512 * t.val + r.val = n.val)

include hn
theorem blk_x : (iblk m c 0 t : Vec Ideal S512x1024 .f32) (ix2 r q) = xArg m c (rowIx n q) :=
  (congrArg (V m c main_v0 : Vec Ideal S4096x1024 .f32) (at2 512 1024 r.val q.val (index0 t) rfl rfl (by omega) (by omega))).trans (V_x m c n q)
theorem blk_y : (iblk m c 2 t : Vec Ideal S512x1024 .f32) (ix2 r q) = yArg m c (rowIx n q) :=
  (congrArg (V m c main_v1 : Vec Ideal S4096x1024 .f32) (at2 512 1024 r.val q.val (index2 t) rfl rfl (by omega) (by omega))).trans (V_y m c n q)
theorem blk_h : (iblk m c 3 t : Vec Ideal S512x1024 .f32) (ix2 r q) = hArg m c (rowIx n q) :=
  (congrArg (V m c main_v2 : Vec Ideal S4096x1024 .f32) (at2 512 1024 r.val q.val (index3 t) rfl rfl (by omega) (by omega))).trans (V_h m c n q)
omit hn
theorem blk_g : (iblk m c 1 t : Vec Ideal S1x1024 .f32) (ix2 0 q) = gArg m c (ValueIdx.ix1 q) :=
  (congrArg (V m c main_v3 : Vec Ideal S1x1024 .f32) (at2 1 1024 0 q.val (index1 t) rfl rfl rfl (by omega))).trans (V_g m c q)
include hn

/-- What a step writes of the gradient in its rows. -/
theorem dx_apply : (outsAt0 m c t.val t.isLt).1 (ix2 r q) = inGrads (xArg m c) (gArg m c) (yArg m c) (hArg m c) (ix2 n q) := by
  rw [dx_after]
  refine (pay6_apply _ _ _ _ r q).trans ?_
  rw [show rowOf (iblk m c 0 t : Vec Ideal S512x1024 .f32) r = rowAt (xArg m c) n from funext fun k => blk_x r k m c t n hn,
    show rowOf (iblk m c 2 t : Vec Ideal S512x1024 .f32) r = rowAt (yArg m c) n from funext fun k => blk_y r k m c t n hn,
    show rowOf (iblk m c 1 t : Vec Ideal S1x1024 .f32) 0 = gain (gArg m c) from funext fun k => blk_g k m c t, blk_h r q m c t n hn]
  rfl

/-- What one row of a step's block adds to the gain's gradient. -/
theorem term_apply : k0_pay9 (iblk m c 0 t) (iblk m c 2 t) (ix2 r q) = gainTerm (xArg m c) (yArg m c) q n := by
  refine (pay9_apply _ _ r q).trans ?_
  rw [show rowOf (iblk m c 0 t : Vec Ideal S512x1024 .f32) r = rowAt (xArg m c) n from funext fun k => blk_x r k m c t n hn,
    blk_x r q m c t n hn, blk_y r q m c t n hn]
  rfl
omit hn

/-- The same by the row's number. -/
def termNat (x y : Vec Ideal S2x2048x1024 .f32) (q : Fin 1024) (n : ℕ) : EReal := if h : n < 4096 then gainTerm x y q ⟨n, h⟩ else 0

theorem block_sum (t : Fin cfg0.N) (q : Fin 1024) : ∑ r, k0_pay9 (iblk m c 0 t) (iblk m c 2 t) (ix2 r q)
    = ∑ k ∈ Finset.range 512, termNat (xArg m c) (yArg m c) q (512 * t.val + k) := by
  have ht : t.val < 8 := lt_of_lt_of_eq t.isLt N_0
  rw [Finset.sum_range]
  refine Finset.sum_congr rfl fun r _ => ?_
  unfold termNat
  rw [dif_pos (show 512 * t.val + r.val < 4096 by omega)]
  exact term_apply r q m c t ⟨_, by omega⟩ rfl

/-- After step `t` the gain's gradient holds the sum over the rows of the steps so far. -/
theorem dg_apply (q : Fin 1024) : ∀ (t : ℕ) (ht : t < cfg0.N),
    (outsAt0 m c t ht).2 (ix2 0 q) = ∑ k ∈ Finset.range (512 * t + 512), termNat (xArg m c) (yArg m c) q k := by
  intro t
  induction t with
  | zero =>
    intro ht
    rw [dg_first m c ⟨0, ht⟩ rfl, pay8_eq, pay1_apply, block_sum m c ⟨0, ht⟩ q]
    rw [show k0_pay7 (F := Ideal) (ix2 0 q) = (0 : EReal) from Cert.Rms.word_zero, zero_add]
    simp only [Nat.mul_zero, Nat.zero_add]
  | succ t ih =>
    intro ht
    have h8 : t + 1 < 8 := lt_of_lt_of_eq ht N_0
    rw [dg_next m c ⟨t + 1, ht⟩ (by dsimp only; omega), pay8_eq, pay1_apply, block_sum m c ⟨t + 1, ht⟩ q, Finset.sum_range_add _ (512 * (t + 1)) 512]
    exact congrArg (fun s : EReal => s + _) (ih _)

/-- The two arrays after the run. -/
theorem final4 : (dats m 0 c).arrAt 4 cfg0.N = inGrads (xArg m c) (gArg m c) (yArg m c) (hArg m c) := by
  refine (dats m 0 c).arrAt_eq_of_covers 4 _ (by decide +kernel) fun t _ y => ?_
  blk_simp
  rw [after0_4]
  have ht : t.val < 8 := lt_of_lt_of_eq t.isLt N_0
  obtain ⟨r, q, rfl⟩ := exists_ix2 y
  rw [show ((View.whole main_v4_0).slice (win0_4.rect t)).emb (ix2 r q : S512x1024.Idx) = (ix2 ⟨512 * t.val + r.val, by omega⟩ q : S4096x1024.Idx) from
    at2 512 1024 r.val q.val (index4 t) rfl rfl (by dsimp; omega) (by omega)]
  exact dx_apply r q m c t _ rfl

theorem final5 : (dats m 0 c).arrAt 5 cfg0.N = gainGrads (xArg m c) (yArg m c) := by
  refine (dats m 0 c).arrAt_eq_of_covers 5 _ (by decide +kernel) fun t hf y => ?_
  blk_simp
  rw [after0_5]
  have h7 : t.val % 8 = 7 := (flush0_5 t).mp hf
  have ht : t.val < 8 := lt_of_lt_of_eq t.isLt N_0
  obtain ⟨r, q, rfl⟩ := exists_ix2 y
  obtain rfl : r = 0 := Subsingleton.elim _ _
  rw [show ((View.whole main_v4_1).slice (win0_5.rect t)).emb (ix2 0 q : S1x1024.Idx) = (ix2 0 q : S1x1024.Idx) from
    at2 1 1024 0 q.val (index5 t) rfl rfl rfl (by omega)]
  refine (dg_apply m c q t.val t.isLt).trans ?_
  rw [show 512 * t.val + 512 = 4096 by omega, Finset.sum_range]
  refine Finset.sum_congr rfl fun n _ => ?_
  unfold termNat
  rw [dif_pos n.isLt]

end Cert.Kernel40Ideal.Rms

end
-- ==== Proof.RmsB.lean ====
module

public import proofs.«01_k».proof.Defs
public import proofs.«01_k».proof.Proof.Gen.Kernel40.Frame
public import proofs.«01_k».proof.Proof.Gen.Reference40Ideal.Run
public import proofs.«01_k».proof.Proof.Gen.Reference40Ideal.Read
public import proofs.«01_k».proof.Proof.Gen.Pre_finite_norm
public import proofs.«01_k».proof.Proof.RmsPay
public import proofs.«01_k».proof.Proof.TwoAxes
public import proofs.«01_k».proof.Proof.SwaData
public import Idealize.ShloMosaic.Lib.Quiescent

@[expose] public section

set_option maxRecDepth 16384

noncomputable section

namespace Cert.RmsB

open Cert.Rms Cert.Kernel40Ideal.Rms Cert.Reference40Ideal Cert.Reference40Ideal.Read
open Idealize.ShloMosaic hiding ix1 ix2 ix3
open Idealize.ShloMosaic.TcCoe Idealize.ShloMosaic.ValueIdx
open Idealize.SL.Sem
open Cert.GradSum Cert.TwoAxes
open scoped BigOperators

/-! # The reference is the same, and the claims -/

variable (x y h : Vec Ideal S2x2048x1024 .f32) (g : Vec Ideal S1024 .f32) (n : Fin 4096) (q : Fin 1024)

/-- The place of row `n` where a row has one value. -/
abbrev unitIx : S2x2048x1.Idx := rowIx n 0

theorem v6_apply : val_main_v6 (F := Ideal) x (unitIx n) = meanSq (rowAt x n) := by
  rw [val_main_v6_apply, val_main_v4_apply, val_main_v2_apply, val_main_v1_apply, val_main_v3_apply, val_main_v5_apply]
  rw [show (val_main_cst (F := Ideal)) (Shape.Idx.first Gen.h_S_) = (0 : EReal) from word_zero, zero_add]
  refine congrArg (fun s : EReal => Ideal.div s (word 0x44800000#32) + word 0x358637BD#32) (Finset.sum_congr rfl fun k _ => ?_)
  rw [val_main_v0_apply, show idx_main_v1 (idx_main_v2 (unitIx n)) k = rowIx n k from
    funext fun a => match a with | ⟨0, _⟩ => rfl | ⟨1, _⟩ => rfl | ⟨2, _⟩ => rfl]
  rfl

theorem v7_apply : val_main_v7 (F := Ideal) x (unitIx n) = scale (rowAt x n) := by
  rw [val_main_v7_apply, v6_apply]; rfl

/-- The reference's gradient in the rows. -/
theorem v36_apply : val_main_v36 (F := Ideal) x g y h (rowIx n q) = chainGrad (rowAt x n) (gain g) (rowAt y n) (h (rowIx n q)) q := by
  have eu : ∀ k : Fin 1024, idx_main_v25 (rowIx n k) = unitIx n := fun k => funext fun a => match a with | ⟨0, _⟩ => rfl | ⟨1, _⟩ => rfl | ⟨2, _⟩ => rfl
  have e20 : ∀ k, val_main_v20 (F := Ideal) g y (rowIx n k) = y (rowIx n k) * gain g k := fun k => by
    rw [val_main_v20_apply, val_main_v19_apply, val_main_v13_apply]
    exact congrArg (fun i => (y (rowIx n k) * g i : EReal)) (funext fun a => match a with | ⟨0, _⟩ => rfl)
  have e30 : val_main_v30 (F := Ideal) x g y (unitIx n) = meanGrad (rowAt x n) (gain g) (rowAt y n) := by
    rw [val_main_v30_apply, val_main_v28_apply, val_main_v24_apply, val_main_v23_apply, val_main_v10_apply, val_main_v8_apply, v6_apply, v7_apply,
      val_main_v9_apply, val_main_v29_apply]
    rw [show (val_main_cst_5 (F := Ideal)) (Shape.Idx.first Gen.h_S_) = (0 : EReal) from word_zero, zero_add]
    refine congrArg (fun s : EReal => Ideal.div (s * (word 0xBF000000#32 * Ideal.div (scale (rowAt x n)) (meanSq (rowAt x n)))) (word 0x44800000#32)) ?_
    refine Finset.sum_congr rfl fun k _ => ?_
    rw [val_main_v22_apply, show idx_main_v23 (idx_main_v24 (unitIx n)) k = rowIx n k from
      funext fun a => match a with | ⟨0, _⟩ => Fin.ext (by dsimp; omega) | ⟨1, _⟩ => Fin.ext (by dsimp; omega) | ⟨2, _⟩ => rfl, e20]
    rfl
  have e32 : val_main_v32 (F := Ideal) x g y (rowIx n q) = meanGrad (rowAt x n) (gain g) (rowAt y n) := by
    rw [val_main_v32_apply, val_main_v31_apply, Fin.sum_univ_one]
    rw [show (val_main_cst_7 (F := Ideal)) (Shape.Idx.first Gen.h_S_) = (0 : EReal) from word_zero, zero_add, ← e30]
    exact congrArg (val_main_v30 (F := Ideal) x g y) (funext fun a => match a with | ⟨0, _⟩ => rfl | ⟨1, _⟩ => rfl | ⟨2, _⟩ => rfl)
  rw [val_main_v36_apply, val_main_v34_apply, val_main_v35_apply, val_main_v33_apply, val_main_v27_apply, val_main_v26_apply, val_main_v25_apply, eu, v7_apply, e20, e32]
  rfl

theorem reference_dx (hx : Cert.Swa.Finite x) (hg : Cert.Swa.Finite g) (hy : Cert.Swa.Finite y) (hh : Cert.Swa.Finite h) :
    val_main_v37 (F := Ideal) x g y h = inGrads x g y h := by
  funext i
  obtain ⟨n, q, rfl⟩ := Cert.Product.exists_ix2 i
  refine (rows_cast _ _ n q).trans ((v36_apply x y h g n q).trans ?_)
  have real : ∀ {s : Shape} {z : Vec Ideal s .f32}, Cert.Swa.Finite z → ∀ i, (z i : EReal) = ((z i : EReal).toReal : EReal) :=
    fun hz i => (EReal.coe_toReal (hz i).1 (hz i).2).symm
  have e := chainGrad_eq (fun k => (x (rowIx n k) : EReal).toReal) (fun k => (g (ix1 k) : EReal).toReal) (fun k => (y (rowIx n k) : EReal).toReal) (h (rowIx n q) : EReal).toReal q
  simp only [← real hx, ← real hg, ← real hy, ← real hh] at e
  exact e

theorem reference_dg : val_main_v38 (F := Ideal) x y = gainGrads x y := by
  funext i
  obtain ⟨z, q, rfl⟩ := Cert.Product.exists_ix2 i
  obtain rfl : z = 0 := Subsingleton.elim _ _
  rw [val_main_v38_apply, show idx_main_v38 (ix2 0 q) = ix1 q from funext fun a => match a with | ⟨0, _⟩ => Fin.ext (by show 0 * 1024 + q.val = q.val; omega)]
  unfold val_main_v21
  refine (sum_units _ _ _ _ word_zero q).trans ?_
  rw [val_main_v18_apply, show idx_main_v18 (ix3 0 0 q) = ix1 q from funext fun a => match a with | ⟨0, _⟩ => Fin.ext (by show (0 * 1 + 0) * 1024 + q.val = q.val; omega)]
  unfold val_main_v17
  refine (sum_two _ _ _ _ word_zero q).trans ((Cert.GradSum.sum_rows _).symm.trans (Finset.sum_congr rfl fun n _ => ?_))
  show val_main_v16 (F := Ideal) x y (rowIx n q) = gainTerm x y q n
  rw [val_main_v16_apply, val_main_v12_apply, val_main_v11_apply, show idx_main_v11 (rowIx n q) = unitIx n from
    funext fun a => match a with | ⟨0, _⟩ => rfl | ⟨1, _⟩ => rfl | ⟨2, _⟩ => rfl, v7_apply]
  exact mul_comm (_ : EReal) _

theorem quiescent_reference : Cert.quiescent_Reference40Ideal := fun m ρ _ =>
  (θ_run Cert.Reference40Ideal.defs _ _).mono (fun r h => ⟨fun c => (h c).2.2, sem_eq_zero_of_no_sems (by decide) r.2⟩)
    (Cert.Reference40Ideal.Value.run (F := Ideal) m ρ)

theorem algebraic : Cert.algebraic_Kernel40Ideal_Reference40Ideal_pre_finite_norm := by
  intro m ρ m' ρ' hpre hagree
  refine ⟨_, _, Cert.Kernel40Ideal.Value.run_blocks m ρ, ?_⟩
  refine (θ_run Cert.Reference40Ideal.defs _ _).mono (fun _ h c => ?_) (Cert.Reference40Ideal.Value.run (F := Ideal) m' ρ')
  obtain ⟨f0, f1, f2, f3⟩ := hpre c
  obtain ⟨e0, e1, e2, e3⟩ := hagree c
  refine ⟨?_, ?_, (h c).2.2⟩
  · rw [(h c).1, val_main_v37_eq m' c, e0, e1, e2, e3, final4 m c]
    exact reference_dx _ _ _ _ (Cert.Swa.finite_of_olt _ _ (fun _ => rfl) f0) (Cert.Swa.finite_of_olt _ _ (fun _ => rfl) f1)
      (Cert.Swa.finite_of_olt _ _ (fun _ => rfl) f2) (Cert.Swa.finite_of_olt _ _ (fun _ => rfl) f3)
  · rw [(h c).2.1, val_main_v38_eq, e0, e2, final5 m c]
    exact reference_dg _ _

end Cert.RmsB

end
-- ==== Proof.lean ====
/- The proof of the certificate's claims. The attention's gradient: the two frames of the kernel come from one run, stated
   over any floating-point values (Proof/SwaFrame.lean), the reference's from its generated run, and their results' equality
   from Proof/SwaClaim.lean. The products: one module of Proof/ for each call, its frames generated. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_arguments
public import proofs.«01_k».proof.Proof.SwaFrame
public import proofs.«01_k».proof.Proof.SwaSame
public import proofs.«01_k».proof.Proof.SwaClaim
public import proofs.«01_k».proof.Proof.FfnDownB
public import proofs.«01_k».proof.Proof.FfnUpB0
public import proofs.«01_k».proof.Proof.FfnUpB1
public import proofs.«01_k».proof.Proof.FfnUp
public import proofs.«01_k».proof.Proof.FfnDown
public import proofs.«01_k».proof.Proof.AbInB
public import proofs.«01_k».proof.Proof.AbIn
public import proofs.«01_k».proof.Proof.OutB
public import proofs.«01_k».proof.Proof.Out
public import proofs.«01_k».proof.Proof.FfnDownG
public import proofs.«01_k».proof.Proof.FfnUpG0
public import proofs.«01_k».proof.Proof.FfnUpG1
public import proofs.«01_k».proof.Proof.AbInG
public import proofs.«01_k».proof.Proof.OutG
public import proofs.«01_k».proof.Proof.CIn
public import proofs.«01_k».proof.Proof.CInB
public import proofs.«01_k».proof.Proof.CInG
public import proofs.«01_k».proof.Proof.Gate
public import proofs.«01_k».proof.Proof.Ple
public import proofs.«01_k».proof.Proof.PleG
public import proofs.«01_k».proof.Proof.PleB
public import proofs.«01_k».proof.Proof.Gen.Pre_finite_gate
public import proofs.«01_k».proof.Proof.ConvB
public import proofs.«01_k».proof.Proof.ConvF
public import proofs.«01_k».proof.Proof.AdamGain
public import proofs.«01_k».proof.Proof.AdamDown
public import proofs.«01_k».proof.Proof.AdamLower
public import proofs.«01_k».proof.Proof.AdamHgNorm
public import proofs.«01_k».proof.Proof.AdamQkNorm
public import proofs.«01_k».proof.Proof.AdamSinks
public import proofs.«01_k».proof.Proof.AdamRel
public import proofs.«01_k».proof.Proof.AdamConvBias
public import proofs.«01_k».proof.Proof.AdamAbIn
public import proofs.«01_k».proof.Proof.AdamAbOut
public import proofs.«01_k».proof.Proof.AdamCIn
public import proofs.«01_k».proof.Proof.AdamUp
public import proofs.«01_k».proof.Proof.AdamConv
public import proofs.«01_k».proof.Proof.AdamGate
public import proofs.«01_k».proof.Proof.AdamProj
public import proofs.«01_k».proof.Proof.RmsB
public import Idealize.ShloMosaic.Adequacy
public import Idealize.ShloMosaic.Init

@[expose] public section

noncomputable section

namespace Cert.Proof

open Idealize.ShloMosaic Idealize.SL.Sem Cert.Kernel

set_option maxHeartbeats 8000000 in
theorem frame_kernel : Cert.quiescent_Kernel := fun m ρ _ => Cert.Swa.run_same (F := Bits) m ρ _ (Cert.KernelIdeal.Swa.frame (F := Bits) m ρ)

theorem frame_ideal : Cert.quiescent_KernelIdeal := fun m ρ _ => Cert.KernelIdeal.Swa.frame (F := Ideal) m ρ

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The kernel and the reference leave the same five gradients. -/
theorem algebraic : Cert.algebraic_KernelIdeal_ReferenceIdeal_pre_finite_arguments := fun m g m' g' hp hm => by
  let D : Dev Cert.KernelIdeal.nD → Cert.Swa.Data := fun c => Cert.Swa.dataOf (Cert.KernelIdeal.Swa.arg0 m c) (Cert.KernelIdeal.Swa.arg5 m c)
    (Cert.KernelIdeal.Swa.arg1 m c) (Cert.KernelIdeal.Swa.arg2 m c) (Cert.KernelIdeal.Swa.arg3 m c) (Cert.KernelIdeal.Swa.arg4 m c)
  have A : ∀ c, Cert.Swa.Args (Cert.KernelIdeal.Swa.arg0 m c) (Cert.KernelIdeal.Swa.arg5 m c) (Cert.KernelIdeal.Swa.arg1 m c)
      (Cert.KernelIdeal.Swa.arg2 m c) (Cert.KernelIdeal.Swa.arg3 m c) (Cert.KernelIdeal.Swa.arg4 m c) (D c) := fun c => by
    obtain ⟨h0, h1, h2, h3, h4, h5⟩ := Cert.Swa.finite_of_pre m hp c
    exact Cert.Swa.args_dataOf h0 h5 h1 h2 h3 h4
  refine ⟨fun c => Cert.KernelIdeal.Swa.arrDq (D c), fun c => Cert.KernelIdeal.Swa.arrDk (D c), fun c => Cert.KernelIdeal.Swa.arrDv (D c),
    fun c => Cert.KernelIdeal.Swa.arrDbias (D c), fun c => Cert.KernelIdeal.Swa.arrDsink (D c), ?_, ?_⟩
  · refine (θ_run Cert.KernelIdeal.defs _ _).mono (fun r h c => ?_)
      (θ_run_and (Cert.Swa.kernel_values m g D A) (Cert.KernelIdeal.Swa.frame (F := Ideal) m g))
    obtain ⟨h0, h1, h2, h3, h4⟩ := h.1 c
    exact ⟨h0, h1, h2, h3, h4, h.2.1 c⟩
  · refine Cert.Swa.reference_values m' g' D fun c => ?_
    obtain ⟨e0, e1, e2, e3, e4, e5⟩ := hm c
    rw [e0, e1, e2, e3, e4, e5]
    exact A c

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Pre_finite_arguments.Gen.facts, Cert.Pre_finite_gate.Gen.facts, Cert.Pre_finite_norm.Gen.facts,
    frame_kernel, frame_ideal, fun m ρ _ => frame_ideal m ρ trivial, frame_reference, fun m ρ _ => frame_reference m ρ trivial,
    fun m ρ _ => Cert.Kernel2.Gen.frame m ρ, fun m ρ _ => Cert.Kernel2Ideal.Gen.frame m ρ, Cert.FfnDownB.quiescent_reference,
    fun m ρ _ => Cert.Kernel3.Gen.frame m ρ, fun m ρ _ => Cert.Kernel3Ideal.Gen.frame m ρ, Cert.FfnUpB0.quiescent_reference,
    fun m ρ _ => Cert.Kernel4.Gen.frame m ρ, fun m ρ _ => Cert.Kernel4Ideal.Gen.frame m ρ, Cert.FfnUpB1.quiescent_reference,
    fun m ρ _ => Cert.Kernel5.Gen.frame m ρ, fun m ρ _ => Cert.Kernel5Ideal.Gen.frame m ρ, Cert.FfnUp.quiescent_reference,
    fun m ρ _ => Cert.Kernel6.Gen.frame m ρ, fun m ρ _ => Cert.Kernel6Ideal.Gen.frame m ρ, Cert.FfnDown.quiescent_reference,
    fun m ρ _ => Cert.Kernel7.Gen.frame m ρ, fun m ρ _ => Cert.Kernel7Ideal.Gen.frame m ρ, Cert.AbInB.quiescent_reference,
    fun m ρ _ => Cert.Kernel8.Gen.frame m ρ, fun m ρ _ => Cert.Kernel8Ideal.Gen.frame m ρ, Cert.AbIn.quiescent_reference,
    fun m ρ _ => Cert.Kernel9.Gen.frame m ρ, fun m ρ _ => Cert.Kernel9Ideal.Gen.frame m ρ, Cert.OutB.quiescent_reference,
    fun m ρ _ => Cert.Kernel10.Gen.frame m ρ, fun m ρ _ => Cert.Kernel10Ideal.Gen.frame m ρ, Cert.Out.quiescent_reference,
    fun m ρ _ => Cert.Kernel11.Gen.frame m ρ, fun m ρ _ => Cert.Kernel11Ideal.Gen.frame m ρ, Cert.FfnDownG.quiescent_reference,
    fun m ρ _ => Cert.Kernel12.Gen.frame m ρ, fun m ρ _ => Cert.Kernel12Ideal.Gen.frame m ρ, Cert.FfnUpG0.quiescent_reference,
    fun m ρ _ => Cert.Kernel13.Gen.frame m ρ, fun m ρ _ => Cert.Kernel13Ideal.Gen.frame m ρ, Cert.FfnUpG1.quiescent_reference,
    fun m ρ _ => Cert.Kernel14.Gen.frame m ρ, fun m ρ _ => Cert.Kernel14Ideal.Gen.frame m ρ, Cert.AbInG.quiescent_reference,
    fun m ρ _ => Cert.Kernel15.Gen.frame m ρ, fun m ρ _ => Cert.Kernel15Ideal.Gen.frame m ρ, Cert.OutG.quiescent_reference,
    fun m ρ _ => Cert.Kernel16.Gen.frame m ρ, fun m ρ _ => Cert.Kernel16Ideal.Gen.frame m ρ, Cert.CIn.quiescent_reference,
    fun m ρ _ => Cert.Kernel17.Gen.frame m ρ, fun m ρ _ => Cert.Kernel17Ideal.Gen.frame m ρ, Cert.CInB.quiescent_reference,
    fun m ρ _ => Cert.Kernel18.Gen.frame m ρ, fun m ρ _ => Cert.Kernel18Ideal.Gen.frame m ρ, Cert.CInG.quiescent_reference,
    fun m ρ _ => Cert.Kernel19.Gen.frame m ρ, fun m ρ _ => Cert.Kernel19Ideal.Gen.frame m ρ, Cert.Gate.quiescent_reference,
    fun m ρ _ => Cert.Kernel20.Gen.frame m ρ, fun m ρ _ => Cert.Kernel20Ideal.Gen.frame m ρ, Cert.Ple.quiescent_reference,
    fun m ρ _ => Cert.Kernel21.Gen.frame m ρ, fun m ρ _ => Cert.Kernel21Ideal.Gen.frame m ρ, Cert.PleG.quiescent_reference,
    fun m ρ _ => Cert.Kernel22.Gen.frame m ρ, fun m ρ _ => Cert.Kernel22Ideal.Gen.frame m ρ, Cert.PleB.quiescent_reference,
    fun m ρ _ => Cert.Kernel23.Gen.frame m ρ, fun m ρ _ => Cert.Kernel23Ideal.Gen.frame m ρ, fun m ρ _ => Cert.Kernel23Ideal.Gen.frame m ρ, Cert.ConvB.quiescent_reference, fun m ρ _ => Cert.ConvB.quiescent_reference m ρ trivial,
    fun m ρ _ => Cert.Kernel24.Gen.frame m ρ, fun m ρ _ => Cert.Kernel24Ideal.Gen.frame m ρ, Cert.ConvF.quiescent_reference,
    fun m ρ _ => Cert.Kernel25.Gen.frame m ρ, fun m ρ _ => Cert.Kernel25Ideal.Gen.frame m ρ, Cert.AdamGain.quiescent_reference,
    fun m ρ _ => Cert.Kernel26.Gen.frame m ρ, fun m ρ _ => Cert.Kernel26Ideal.Gen.frame m ρ, Cert.AdamDown.quiescent_reference,
    fun m ρ _ => Cert.Kernel27.Gen.frame m ρ, fun m ρ _ => Cert.Kernel27Ideal.Gen.frame m ρ, Cert.AdamLower.quiescent_reference,
    fun m ρ _ => Cert.Kernel28.Gen.frame m ρ, fun m ρ _ => Cert.Kernel28Ideal.Gen.frame m ρ, Cert.AdamHgNorm.quiescent_reference,
    fun m ρ _ => Cert.Kernel29.Gen.frame m ρ, fun m ρ _ => Cert.Kernel29Ideal.Gen.frame m ρ, Cert.AdamQkNorm.quiescent_reference,
    fun m ρ _ => Cert.Kernel30.Gen.frame m ρ, fun m ρ _ => Cert.Kernel30Ideal.Gen.frame m ρ, Cert.AdamSinks.quiescent_reference,
    fun m ρ _ => Cert.Kernel31.Gen.frame m ρ, fun m ρ _ => Cert.Kernel31Ideal.Gen.frame m ρ, Cert.AdamRel.quiescent_reference,
    fun m ρ _ => Cert.Kernel32.Gen.frame m ρ, fun m ρ _ => Cert.Kernel32Ideal.Gen.frame m ρ, Cert.AdamConvBias.quiescent_reference,
    fun m ρ _ => Cert.Kernel33.Gen.frame m ρ, fun m ρ _ => Cert.Kernel33Ideal.Gen.frame m ρ, Cert.AdamAbIn.quiescent_reference,
    fun m ρ _ => Cert.Kernel34.Gen.frame m ρ, fun m ρ _ => Cert.Kernel34Ideal.Gen.frame m ρ, Cert.AdamAbOut.quiescent_reference,
    fun m ρ _ => Cert.Kernel35.Gen.frame m ρ, fun m ρ _ => Cert.Kernel35Ideal.Gen.frame m ρ, Cert.AdamCIn.quiescent_reference,
    fun m ρ _ => Cert.Kernel36.Gen.frame m ρ, fun m ρ _ => Cert.Kernel36Ideal.Gen.frame m ρ, Cert.AdamUp.quiescent_reference,
    fun m ρ _ => Cert.Kernel37.Gen.frame m ρ, fun m ρ _ => Cert.Kernel37Ideal.Gen.frame m ρ, Cert.AdamConv.quiescent_reference,
    fun m ρ _ => Cert.Kernel38.Gen.frame m ρ, fun m ρ _ => Cert.Kernel38Ideal.Gen.frame m ρ, Cert.AdamGate.quiescent_reference,
    fun m ρ _ => Cert.Kernel39.Gen.frame m ρ, fun m ρ _ => Cert.Kernel39Ideal.Gen.frame m ρ, Cert.AdamProj.quiescent_reference,
    fun m ρ _ => Cert.Kernel40.Gen.frame m ρ, fun m ρ _ => Cert.Kernel40Ideal.Gen.frame m ρ, fun m ρ _ => Cert.Kernel40Ideal.Gen.frame m ρ, Cert.RmsB.quiescent_reference, fun m ρ _ => Cert.RmsB.quiescent_reference m ρ trivial,
    trivial, algebraic,
    trivial, Cert.FfnDownB.algebraic,
    trivial, Cert.FfnUpB0.algebraic,
    trivial, Cert.FfnUpB1.algebraic,
    trivial, Cert.FfnUp.algebraic,
    trivial, Cert.FfnDown.algebraic,
    trivial, Cert.AbInB.algebraic,
    trivial, Cert.AbIn.algebraic,
    trivial, Cert.OutB.algebraic,
    trivial, Cert.Out.algebraic,
    trivial, Cert.FfnDownG.algebraic,
    trivial, Cert.FfnUpG0.algebraic,
    trivial, Cert.FfnUpG1.algebraic,
    trivial, Cert.AbInG.algebraic,
    trivial, Cert.OutG.algebraic,
    trivial, Cert.CIn.algebraic,
    trivial, Cert.CInB.algebraic,
    trivial, Cert.CInG.algebraic,
    trivial, Cert.Gate.algebraic,
    trivial, Cert.Ple.algebraic,
    trivial, Cert.PleG.algebraic,
    trivial, Cert.PleB.algebraic,
    trivial, Cert.ConvB.algebraic,
    trivial, Cert.ConvF.algebraic,
    trivial, Cert.AdamGain.algebraic,
    trivial, Cert.AdamDown.algebraic,
    trivial, Cert.AdamLower.algebraic,
    trivial, Cert.AdamHgNorm.algebraic,
    trivial, Cert.AdamQkNorm.algebraic,
    trivial, Cert.AdamSinks.algebraic,
    trivial, Cert.AdamRel.algebraic,
    trivial, Cert.AdamConvBias.algebraic,
    trivial, Cert.AdamAbIn.algebraic,
    trivial, Cert.AdamAbOut.algebraic,
    trivial, Cert.AdamCIn.algebraic,
    trivial, Cert.AdamUp.algebraic,
    trivial, Cert.AdamConv.algebraic,
    trivial, Cert.AdamGate.algebraic,
    trivial, Cert.AdamProj.algebraic,
    trivial, Cert.RmsB.algebraic⟩

end Cert.Proof

end
